-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6)) (m ((c.tc : Thread Cert.KernelMixIdeal.nD Cert.KernelMixIdeal.τ).loc Cert.KernelMixIdeal.main_arg7)) (m ((c.tc : Thread Cert.KernelMixIdeal.nD Cert.KernelMixIdeal.τ).loc Cert.KernelMixIdeal.main_arg8)) (m ((c.tc : Thread Cert.KernelMixIdeal.nD Cert.KernelMixIdeal.τ).loc Cert.KernelMixIdeal.main_arg9)) (m ((c.tc : Thread Cert.KernelMixIdeal.nD Cert.KernelMixIdeal.τ).loc Cert.KernelMixIdeal.main_arg10)) (m ((c.tc : Thread Cert.KernelMixIdeal.nD Cert.KernelMixIdeal.τ).loc Cert.KernelMixIdeal.main_arg11)) (m ((c.tc : Thread Cert.KernelMixIdeal.nD Cert.KernelMixIdeal.τ).loc Cert.KernelMixIdeal.main_arg12))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6)) (m ((c.tc : Thread Cert.ReferenceMixIdeal.nD Cert.ReferenceMixIdeal.τ).loc Cert.ReferenceMixIdeal.main_arg7)) (m ((c.tc : Thread Cert.ReferenceMixIdeal.nD Cert.ReferenceMixIdeal.τ).loc Cert.ReferenceMixIdeal.main_arg8)) (m ((c.tc : Thread Cert.ReferenceMixIdeal.nD Cert.ReferenceMixIdeal.τ).loc Cert.ReferenceMixIdeal.main_arg9)) (m ((c.tc : Thread Cert.ReferenceMixIdeal.nD Cert.ReferenceMixIdeal.τ).loc Cert.ReferenceMixIdeal.main_arg10)) (m ((c.tc : Thread Cert.ReferenceMixIdeal.nD Cert.ReferenceMixIdeal.τ).loc Cert.ReferenceMixIdeal.main_arg11)) (m ((c.tc : Thread Cert.ReferenceMixIdeal.nD Cert.ReferenceMixIdeal.τ).loc Cert.ReferenceMixIdeal.main_arg12))) = (fun _ => 1#1)

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8)
      ∧ r.2.mem ((c.tc : Thread Cert.KernelMix.nD Cert.KernelMix.τ).loc Cert.KernelMix.main_arg9) = m ((c.tc : Thread Cert.KernelMix.nD Cert.KernelMix.τ).loc Cert.KernelMix.main_arg9)
      ∧ r.2.mem ((c.tc : Thread Cert.KernelMix.nD Cert.KernelMix.τ).loc Cert.KernelMix.main_arg10) = m ((c.tc : Thread Cert.KernelMix.nD Cert.KernelMix.τ).loc Cert.KernelMix.main_arg10)
      ∧ r.2.mem ((c.tc : Thread Cert.KernelMix.nD Cert.KernelMix.τ).loc Cert.KernelMix.main_arg11) = m ((c.tc : Thread Cert.KernelMix.nD Cert.KernelMix.τ).loc Cert.KernelMix.main_arg11)
      ∧ r.2.mem ((c.tc : Thread Cert.KernelMix.nD Cert.KernelMix.τ).loc Cert.KernelMix.main_arg12) = m ((c.tc : Thread Cert.KernelMix.nD Cert.KernelMix.τ).loc Cert.KernelMix.main_arg12))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
      ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
      ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11)
      ∧ r.2.mem ((c.tc : Thread Cert.ReferenceMixIdeal.nD Cert.ReferenceMixIdeal.τ).loc Cert.ReferenceMixIdeal.main_arg12) = m ((c.tc : Thread Cert.ReferenceMixIdeal.nD Cert.ReferenceMixIdeal.τ).loc Cert.ReferenceMixIdeal.main_arg12))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11)
      ∧ r.2.mem ((c.tc : Thread Cert.ReferenceMixIdeal.nD Cert.ReferenceMixIdeal.τ).loc Cert.ReferenceMixIdeal.main_arg12) = m ((c.tc : Thread Cert.ReferenceMixIdeal.nD Cert.ReferenceMixIdeal.τ).loc Cert.ReferenceMixIdeal.main_arg12))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6)
      ∧ r.2.mem ((c.tc : Thread Cert.KernelFwd.nD Cert.KernelFwd.τ).loc Cert.KernelFwd.main_arg7) = m ((c.tc : Thread Cert.KernelFwd.nD Cert.KernelFwd.τ).loc Cert.KernelFwd.main_arg7)
      ∧ r.2.mem ((c.tc : Thread Cert.KernelFwd.nD Cert.KernelFwd.τ).loc Cert.KernelFwd.main_arg8) = m ((c.tc : Thread Cert.KernelFwd.nD Cert.KernelFwd.τ).loc Cert.KernelFwd.main_arg8)
      ∧ r.2.mem ((c.tc : Thread Cert.KernelFwd.nD Cert.KernelFwd.τ).loc Cert.KernelFwd.main_arg9) = m ((c.tc : Thread Cert.KernelFwd.nD Cert.KernelFwd.τ).loc Cert.KernelFwd.main_arg9)
      ∧ r.2.mem ((c.tc : Thread Cert.KernelFwd.nD Cert.KernelFwd.τ).loc Cert.KernelFwd.main_arg10) = m ((c.tc : Thread Cert.KernelFwd.nD Cert.KernelFwd.τ).loc Cert.KernelFwd.main_arg10)
      ∧ r.2.mem ((c.tc : Thread Cert.KernelFwd.nD Cert.KernelFwd.τ).loc Cert.KernelFwd.main_arg11) = m ((c.tc : Thread Cert.KernelFwd.nD Cert.KernelFwd.τ).loc Cert.KernelFwd.main_arg11))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
      ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8)
      ∧ r.2.mem ((c.tc : Thread Cert.KernelFwdIdeal.nD Cert.KernelFwdIdeal.τ).loc Cert.KernelFwdIdeal.main_arg9) = m ((c.tc : Thread Cert.KernelFwdIdeal.nD Cert.KernelFwdIdeal.τ).loc Cert.KernelFwdIdeal.main_arg9)
      ∧ r.2.mem ((c.tc : Thread Cert.KernelFwdIdeal.nD Cert.KernelFwdIdeal.τ).loc Cert.KernelFwdIdeal.main_arg10) = m ((c.tc : Thread Cert.KernelFwdIdeal.nD Cert.KernelFwdIdeal.τ).loc Cert.KernelFwdIdeal.main_arg10)
      ∧ r.2.mem ((c.tc : Thread Cert.KernelFwdIdeal.nD Cert.KernelFwdIdeal.τ).loc Cert.KernelFwdIdeal.main_arg11) = m ((c.tc : Thread Cert.KernelFwdIdeal.nD Cert.KernelFwdIdeal.τ).loc Cert.KernelFwdIdeal.main_arg11))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7)
      ∧ r.2.mem ((c.tc : Thread Cert.ReferenceFwdIdeal.nD Cert.ReferenceFwdIdeal.τ).loc Cert.ReferenceFwdIdeal.main_arg8) = m ((c.tc : Thread Cert.ReferenceFwdIdeal.nD Cert.ReferenceFwdIdeal.τ).loc Cert.ReferenceFwdIdeal.main_arg8)
      ∧ r.2.mem ((c.tc : Thread Cert.ReferenceFwdIdeal.nD Cert.ReferenceFwdIdeal.τ).loc Cert.ReferenceFwdIdeal.main_arg9) = m ((c.tc : Thread Cert.ReferenceFwdIdeal.nD Cert.ReferenceFwdIdeal.τ).loc Cert.ReferenceFwdIdeal.main_arg9)
      ∧ r.2.mem ((c.tc : Thread Cert.ReferenceFwdIdeal.nD Cert.ReferenceFwdIdeal.τ).loc Cert.ReferenceFwdIdeal.main_arg10) = m ((c.tc : Thread Cert.ReferenceFwdIdeal.nD Cert.ReferenceFwdIdeal.τ).loc Cert.ReferenceFwdIdeal.main_arg10)
      ∧ r.2.mem ((c.tc : Thread Cert.ReferenceFwdIdeal.nD Cert.ReferenceFwdIdeal.τ).loc Cert.ReferenceFwdIdeal.main_arg11) = m ((c.tc : Thread Cert.ReferenceFwdIdeal.nD Cert.ReferenceFwdIdeal.τ).loc Cert.ReferenceFwdIdeal.main_arg11))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3)
      ∧ r.2.mem ((c.tc : Thread Cert.KernelAda.nD Cert.KernelAda.τ).loc Cert.KernelAda.main_arg4) = m ((c.tc : Thread Cert.KernelAda.nD Cert.KernelAda.τ).loc Cert.KernelAda.main_arg4)
      ∧ r.2.mem ((c.tc : Thread Cert.KernelAda.nD Cert.KernelAda.τ).loc Cert.KernelAda.main_arg5) = m ((c.tc : Thread Cert.KernelAda.nD Cert.KernelAda.τ).loc Cert.KernelAda.main_arg5))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
      ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4)
      ∧ r.2.mem ((c.tc : Thread Cert.KernelAdaIdeal.nD Cert.KernelAdaIdeal.τ).loc Cert.KernelAdaIdeal.main_arg5) = m ((c.tc : Thread Cert.KernelAdaIdeal.nD Cert.KernelAdaIdeal.τ).loc Cert.KernelAdaIdeal.main_arg5))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3)
      ∧ r.2.mem ((c.tc : Thread Cert.ReferenceAdaIdeal.nD Cert.ReferenceAdaIdeal.τ).loc Cert.ReferenceAdaIdeal.main_arg4) = m ((c.tc : Thread Cert.ReferenceAdaIdeal.nD Cert.ReferenceAdaIdeal.τ).loc Cert.ReferenceAdaIdeal.main_arg4)
      ∧ r.2.mem ((c.tc : Thread Cert.ReferenceAdaIdeal.nD Cert.ReferenceAdaIdeal.τ).loc Cert.ReferenceAdaIdeal.main_arg5) = m ((c.tc : Thread Cert.ReferenceAdaIdeal.nD Cert.ReferenceAdaIdeal.τ).loc Cert.ReferenceAdaIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_v141) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v144) = v3 c
          ∧ r.2.mem ((c.tc : Thread Cert.ReferenceIdeal.nD Cert.ReferenceIdeal.τ).loc Cert.ReferenceIdeal.main_v147) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_v136) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)
      ∧ m' ((c.tc : Thread Cert.ReferenceMixIdeal.nD Cert.ReferenceMixIdeal.τ).loc Cert.ReferenceMixIdeal.main_arg9) = m ((c.tc : Thread Cert.KernelMixIdeal.nD Cert.KernelMixIdeal.τ).loc Cert.KernelMixIdeal.main_arg9)
      ∧ m' ((c.tc : Thread Cert.ReferenceMixIdeal.nD Cert.ReferenceMixIdeal.τ).loc Cert.ReferenceMixIdeal.main_arg10) = m ((c.tc : Thread Cert.KernelMixIdeal.nD Cert.KernelMixIdeal.τ).loc Cert.KernelMixIdeal.main_arg10)
      ∧ m' ((c.tc : Thread Cert.ReferenceMixIdeal.nD Cert.ReferenceMixIdeal.τ).loc Cert.ReferenceMixIdeal.main_arg11) = m ((c.tc : Thread Cert.KernelMixIdeal.nD Cert.KernelMixIdeal.τ).loc Cert.KernelMixIdeal.main_arg11)
      ∧ m' ((c.tc : Thread Cert.ReferenceMixIdeal.nD Cert.ReferenceMixIdeal.τ).loc Cert.ReferenceMixIdeal.main_arg12) = m ((c.tc : Thread Cert.KernelMixIdeal.nD Cert.KernelMixIdeal.τ).loc Cert.KernelMixIdeal.main_arg12)) →
    ∃ (v0 : (c : Dev Cert.KernelMixIdeal.nD) → Buf (Elt Ideal) ((c.tc : Thread Cert.KernelMixIdeal.nD Cert.KernelMixIdeal.τ).loc Cert.KernelMixIdeal.main_v187_0)) (v1 : (c : Dev Cert.KernelMixIdeal.nD) → Buf (Elt Ideal) ((c.tc : Thread Cert.KernelMixIdeal.nD Cert.KernelMixIdeal.τ).loc Cert.KernelMixIdeal.main_v187_1)) (v2 : (c : Dev Cert.KernelMixIdeal.nD) → Buf (Elt Ideal) ((c.tc : Thread Cert.KernelMixIdeal.nD Cert.KernelMixIdeal.τ).loc Cert.KernelMixIdeal.main_v187_2)) (v3 : (c : Dev Cert.KernelMixIdeal.nD) → Buf (Elt Ideal) ((c.tc : Thread Cert.KernelMixIdeal.nD Cert.KernelMixIdeal.τ).loc Cert.KernelMixIdeal.main_v187_3)) (v4 : (c : Dev Cert.KernelMixIdeal.nD) → Buf (Elt Ideal) ((c.tc : Thread Cert.KernelMixIdeal.nD Cert.KernelMixIdeal.τ).loc Cert.KernelMixIdeal.main_v187_4)) (v5 : (c : Dev Cert.KernelMixIdeal.nD) → Buf (Elt Ideal) ((c.tc : Thread Cert.KernelMixIdeal.nD Cert.KernelMixIdeal.τ).loc Cert.KernelMixIdeal.main_v187_5)) (v6 : (c : Dev Cert.KernelMixIdeal.nD) → Buf (Elt Ideal) ((c.tc : Thread Cert.KernelMixIdeal.nD Cert.KernelMixIdeal.τ).loc Cert.KernelMixIdeal.main_v187_6)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v187_0) = v0 c
          ∧ r.2.mem ((c.tc : Thread Cert.KernelMixIdeal.nD Cert.KernelMixIdeal.τ).loc Cert.KernelMixIdeal.main_v187_1) = v1 c
          ∧ r.2.mem ((c.tc : Thread Cert.KernelMixIdeal.nD Cert.KernelMixIdeal.τ).loc Cert.KernelMixIdeal.main_v187_2) = v2 c
          ∧ r.2.mem ((c.tc : Thread Cert.KernelMixIdeal.nD Cert.KernelMixIdeal.τ).loc Cert.KernelMixIdeal.main_v187_3) = v3 c
          ∧ r.2.mem ((c.tc : Thread Cert.KernelMixIdeal.nD Cert.KernelMixIdeal.τ).loc Cert.KernelMixIdeal.main_v187_4) = v4 c
          ∧ r.2.mem ((c.tc : Thread Cert.KernelMixIdeal.nD Cert.KernelMixIdeal.τ).loc Cert.KernelMixIdeal.main_v187_5) = v5 c
          ∧ r.2.mem ((c.tc : Thread Cert.KernelMixIdeal.nD Cert.KernelMixIdeal.τ).loc Cert.KernelMixIdeal.main_v187_6) = v6 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
          ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
          ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
          ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
          ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v335) = v0 c
          ∧ r.2.mem ((c.tc : Thread Cert.ReferenceMixIdeal.nD Cert.ReferenceMixIdeal.τ).loc Cert.ReferenceMixIdeal.main_v344) = v1 c
          ∧ r.2.mem ((c.tc : Thread Cert.ReferenceMixIdeal.nD Cert.ReferenceMixIdeal.τ).loc Cert.ReferenceMixIdeal.main_v339) = v2 c
          ∧ r.2.mem ((c.tc : Thread Cert.ReferenceMixIdeal.nD Cert.ReferenceMixIdeal.τ).loc Cert.ReferenceMixIdeal.main_v341) = v3 c
          ∧ r.2.mem ((c.tc : Thread Cert.ReferenceMixIdeal.nD Cert.ReferenceMixIdeal.τ).loc Cert.ReferenceMixIdeal.main_v345) = v4 c
          ∧ r.2.mem ((c.tc : Thread Cert.ReferenceMixIdeal.nD Cert.ReferenceMixIdeal.τ).loc Cert.ReferenceMixIdeal.main_v346) = v5 c
          ∧ r.2.mem ((c.tc : Thread Cert.ReferenceMixIdeal.nD Cert.ReferenceMixIdeal.τ).loc Cert.ReferenceMixIdeal.main_v347) = v6 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8)
          ∧ r.2.mem ((c.tc : Thread Cert.ReferenceMixIdeal.nD Cert.ReferenceMixIdeal.τ).loc Cert.ReferenceMixIdeal.main_arg9) = m' ((c.tc : Thread Cert.ReferenceMixIdeal.nD Cert.ReferenceMixIdeal.τ).loc Cert.ReferenceMixIdeal.main_arg9)
          ∧ r.2.mem ((c.tc : Thread Cert.ReferenceMixIdeal.nD Cert.ReferenceMixIdeal.τ).loc Cert.ReferenceMixIdeal.main_arg10) = m' ((c.tc : Thread Cert.ReferenceMixIdeal.nD Cert.ReferenceMixIdeal.τ).loc Cert.ReferenceMixIdeal.main_arg10)
          ∧ r.2.mem ((c.tc : Thread Cert.ReferenceMixIdeal.nD Cert.ReferenceMixIdeal.τ).loc Cert.ReferenceMixIdeal.main_arg11) = m' ((c.tc : Thread Cert.ReferenceMixIdeal.nD Cert.ReferenceMixIdeal.τ).loc Cert.ReferenceMixIdeal.main_arg11)
          ∧ r.2.mem ((c.tc : Thread Cert.ReferenceMixIdeal.nD Cert.ReferenceMixIdeal.τ).loc Cert.ReferenceMixIdeal.main_arg12) = m' ((c.tc : Thread Cert.ReferenceMixIdeal.nD Cert.ReferenceMixIdeal.τ).loc Cert.ReferenceMixIdeal.main_arg12))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)
      ∧ m' ((c.tc : Thread Cert.ReferenceFwdIdeal.nD Cert.ReferenceFwdIdeal.τ).loc Cert.ReferenceFwdIdeal.main_arg7) = m ((c.tc : Thread Cert.KernelFwdIdeal.nD Cert.KernelFwdIdeal.τ).loc Cert.KernelFwdIdeal.main_arg7)
      ∧ m' ((c.tc : Thread Cert.ReferenceFwdIdeal.nD Cert.ReferenceFwdIdeal.τ).loc Cert.ReferenceFwdIdeal.main_arg8) = m ((c.tc : Thread Cert.KernelFwdIdeal.nD Cert.KernelFwdIdeal.τ).loc Cert.KernelFwdIdeal.main_arg8)
      ∧ m' ((c.tc : Thread Cert.ReferenceFwdIdeal.nD Cert.ReferenceFwdIdeal.τ).loc Cert.ReferenceFwdIdeal.main_arg9) = m ((c.tc : Thread Cert.KernelFwdIdeal.nD Cert.KernelFwdIdeal.τ).loc Cert.KernelFwdIdeal.main_arg9)
      ∧ m' ((c.tc : Thread Cert.ReferenceFwdIdeal.nD Cert.ReferenceFwdIdeal.τ).loc Cert.ReferenceFwdIdeal.main_arg10) = m ((c.tc : Thread Cert.KernelFwdIdeal.nD Cert.KernelFwdIdeal.τ).loc Cert.KernelFwdIdeal.main_arg10)
      ∧ m' ((c.tc : Thread Cert.ReferenceFwdIdeal.nD Cert.ReferenceFwdIdeal.τ).loc Cert.ReferenceFwdIdeal.main_arg11) = m ((c.tc : Thread Cert.KernelFwdIdeal.nD Cert.KernelFwdIdeal.τ).loc Cert.KernelFwdIdeal.main_arg11)) →
    ∃ (v0 : (c : Dev Cert.KernelFwdIdeal.nD) → Buf (Elt Ideal) ((c.tc : Thread Cert.KernelFwdIdeal.nD Cert.KernelFwdIdeal.τ).loc Cert.KernelFwdIdeal.main_v0_0)) (v1 : (c : Dev Cert.KernelFwdIdeal.nD) → Buf (Elt Ideal) ((c.tc : Thread Cert.KernelFwdIdeal.nD Cert.KernelFwdIdeal.τ).loc Cert.KernelFwdIdeal.main_v0_1)) (v2 : (c : Dev Cert.KernelFwdIdeal.nD) → Buf (Elt Ideal) ((c.tc : Thread Cert.KernelFwdIdeal.nD Cert.KernelFwdIdeal.τ).loc Cert.KernelFwdIdeal.main_v0_2)) (v3 : (c : Dev Cert.KernelFwdIdeal.nD) → Buf (Elt Ideal) ((c.tc : Thread Cert.KernelFwdIdeal.nD Cert.KernelFwdIdeal.τ).loc Cert.KernelFwdIdeal.main_v0_3)) (v4 : (c : Dev Cert.KernelFwdIdeal.nD) → Buf (Elt Ideal) ((c.tc : Thread Cert.KernelFwdIdeal.nD Cert.KernelFwdIdeal.τ).loc Cert.KernelFwdIdeal.main_v0_4)) (v5 : (c : Dev Cert.KernelFwdIdeal.nD) → Buf (Elt Ideal) ((c.tc : Thread Cert.KernelFwdIdeal.nD Cert.KernelFwdIdeal.τ).loc Cert.KernelFwdIdeal.main_v0_5)) (v6 : (c : Dev Cert.KernelFwdIdeal.nD) → Buf (Elt Ideal) ((c.tc : Thread Cert.KernelFwdIdeal.nD Cert.KernelFwdIdeal.τ).loc Cert.KernelFwdIdeal.main_v0_6)) (v7 : (c : Dev Cert.KernelFwdIdeal.nD) → Buf (Elt Ideal) ((c.tc : Thread Cert.KernelFwdIdeal.nD Cert.KernelFwdIdeal.τ).loc Cert.KernelFwdIdeal.main_v0_7)) (v8 : (c : Dev Cert.KernelFwdIdeal.nD) → Buf (Elt Ideal) ((c.tc : Thread Cert.KernelFwdIdeal.nD Cert.KernelFwdIdeal.τ).loc Cert.KernelFwdIdeal.main_v0_8)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v0_0) = v0 c
          ∧ r.2.mem ((c.tc : Thread Cert.KernelFwdIdeal.nD Cert.KernelFwdIdeal.τ).loc Cert.KernelFwdIdeal.main_v0_1) = v1 c
          ∧ r.2.mem ((c.tc : Thread Cert.KernelFwdIdeal.nD Cert.KernelFwdIdeal.τ).loc Cert.KernelFwdIdeal.main_v0_2) = v2 c
          ∧ r.2.mem ((c.tc : Thread Cert.KernelFwdIdeal.nD Cert.KernelFwdIdeal.τ).loc Cert.KernelFwdIdeal.main_v0_3) = v3 c
          ∧ r.2.mem ((c.tc : Thread Cert.KernelFwdIdeal.nD Cert.KernelFwdIdeal.τ).loc Cert.KernelFwdIdeal.main_v0_4) = v4 c
          ∧ r.2.mem ((c.tc : Thread Cert.KernelFwdIdeal.nD Cert.KernelFwdIdeal.τ).loc Cert.KernelFwdIdeal.main_v0_5) = v5 c
          ∧ r.2.mem ((c.tc : Thread Cert.KernelFwdIdeal.nD Cert.KernelFwdIdeal.τ).loc Cert.KernelFwdIdeal.main_v0_6) = v6 c
          ∧ r.2.mem ((c.tc : Thread Cert.KernelFwdIdeal.nD Cert.KernelFwdIdeal.τ).loc Cert.KernelFwdIdeal.main_v0_7) = v7 c
          ∧ r.2.mem ((c.tc : Thread Cert.KernelFwdIdeal.nD Cert.KernelFwdIdeal.τ).loc Cert.KernelFwdIdeal.main_v0_8) = v8 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
          ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7)
          ∧ r.2.mem ((c.tc : Thread Cert.KernelFwdIdeal.nD Cert.KernelFwdIdeal.τ).loc Cert.KernelFwdIdeal.main_arg8) = m ((c.tc : Thread Cert.KernelFwdIdeal.nD Cert.KernelFwdIdeal.τ).loc Cert.KernelFwdIdeal.main_arg8)
          ∧ r.2.mem ((c.tc : Thread Cert.KernelFwdIdeal.nD Cert.KernelFwdIdeal.τ).loc Cert.KernelFwdIdeal.main_arg9) = m ((c.tc : Thread Cert.KernelFwdIdeal.nD Cert.KernelFwdIdeal.τ).loc Cert.KernelFwdIdeal.main_arg9)
          ∧ r.2.mem ((c.tc : Thread Cert.KernelFwdIdeal.nD Cert.KernelFwdIdeal.τ).loc Cert.KernelFwdIdeal.main_arg10) = m ((c.tc : Thread Cert.KernelFwdIdeal.nD Cert.KernelFwdIdeal.τ).loc Cert.KernelFwdIdeal.main_arg10)
          ∧ r.2.mem ((c.tc : Thread Cert.KernelFwdIdeal.nD Cert.KernelFwdIdeal.τ).loc Cert.KernelFwdIdeal.main_arg11) = m ((c.tc : Thread Cert.KernelFwdIdeal.nD Cert.KernelFwdIdeal.τ).loc Cert.KernelFwdIdeal.main_arg11))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v197) = v0 c
          ∧ r.2.mem ((c.tc : Thread Cert.ReferenceFwdIdeal.nD Cert.ReferenceFwdIdeal.τ).loc Cert.ReferenceFwdIdeal.main_v201) = v1 c
          ∧ r.2.mem ((c.tc : Thread Cert.ReferenceFwdIdeal.nD Cert.ReferenceFwdIdeal.τ).loc Cert.ReferenceFwdIdeal.main_v60) = v2 c
          ∧ r.2.mem ((c.tc : Thread Cert.ReferenceFwdIdeal.nD Cert.ReferenceFwdIdeal.τ).loc Cert.ReferenceFwdIdeal.main_v75) = v3 c
          ∧ r.2.mem ((c.tc : Thread Cert.ReferenceFwdIdeal.nD Cert.ReferenceFwdIdeal.τ).loc Cert.ReferenceFwdIdeal.main_v203) = v4 c
          ∧ r.2.mem ((c.tc : Thread Cert.ReferenceFwdIdeal.nD Cert.ReferenceFwdIdeal.τ).loc Cert.ReferenceFwdIdeal.main_v199) = v5 c
          ∧ r.2.mem ((c.tc : Thread Cert.ReferenceFwdIdeal.nD Cert.ReferenceFwdIdeal.τ).loc Cert.ReferenceFwdIdeal.main_v205) = v6 c
          ∧ r.2.mem ((c.tc : Thread Cert.ReferenceFwdIdeal.nD Cert.ReferenceFwdIdeal.τ).loc Cert.ReferenceFwdIdeal.main_v192) = v7 c
          ∧ r.2.mem ((c.tc : Thread Cert.ReferenceFwdIdeal.nD Cert.ReferenceFwdIdeal.τ).loc Cert.ReferenceFwdIdeal.main_v195) = v8 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6)
          ∧ r.2.mem ((c.tc : Thread Cert.ReferenceFwdIdeal.nD Cert.ReferenceFwdIdeal.τ).loc Cert.ReferenceFwdIdeal.main_arg7) = m' ((c.tc : Thread Cert.ReferenceFwdIdeal.nD Cert.ReferenceFwdIdeal.τ).loc Cert.ReferenceFwdIdeal.main_arg7)
          ∧ r.2.mem ((c.tc : Thread Cert.ReferenceFwdIdeal.nD Cert.ReferenceFwdIdeal.τ).loc Cert.ReferenceFwdIdeal.main_arg8) = m' ((c.tc : Thread Cert.ReferenceFwdIdeal.nD Cert.ReferenceFwdIdeal.τ).loc Cert.ReferenceFwdIdeal.main_arg8)
          ∧ r.2.mem ((c.tc : Thread Cert.ReferenceFwdIdeal.nD Cert.ReferenceFwdIdeal.τ).loc Cert.ReferenceFwdIdeal.main_arg9) = m' ((c.tc : Thread Cert.ReferenceFwdIdeal.nD Cert.ReferenceFwdIdeal.τ).loc Cert.ReferenceFwdIdeal.main_arg9)
          ∧ r.2.mem ((c.tc : Thread Cert.ReferenceFwdIdeal.nD Cert.ReferenceFwdIdeal.τ).loc Cert.ReferenceFwdIdeal.main_arg10) = m' ((c.tc : Thread Cert.ReferenceFwdIdeal.nD Cert.ReferenceFwdIdeal.τ).loc Cert.ReferenceFwdIdeal.main_arg10)
          ∧ r.2.mem ((c.tc : Thread Cert.ReferenceFwdIdeal.nD Cert.ReferenceFwdIdeal.τ).loc Cert.ReferenceFwdIdeal.main_arg11) = m' ((c.tc : Thread Cert.ReferenceFwdIdeal.nD Cert.ReferenceFwdIdeal.τ).loc Cert.ReferenceFwdIdeal.main_arg11))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)
      ∧ m' ((c.tc : Thread Cert.ReferenceAdaIdeal.nD Cert.ReferenceAdaIdeal.τ).loc Cert.ReferenceAdaIdeal.main_arg4) = m ((c.tc : Thread Cert.KernelAdaIdeal.nD Cert.KernelAdaIdeal.τ).loc Cert.KernelAdaIdeal.main_arg4)
      ∧ m' ((c.tc : Thread Cert.ReferenceAdaIdeal.nD Cert.ReferenceAdaIdeal.τ).loc Cert.ReferenceAdaIdeal.main_arg5) = m ((c.tc : Thread Cert.KernelAdaIdeal.nD Cert.KernelAdaIdeal.τ).loc Cert.KernelAdaIdeal.main_arg5)) →
    ∃ (v0 : (c : Dev Cert.KernelAdaIdeal.nD) → Buf (Elt Ideal) ((c.tc : Thread Cert.KernelAdaIdeal.nD Cert.KernelAdaIdeal.τ).loc Cert.KernelAdaIdeal.main_v0_0)) (v1 : (c : Dev Cert.KernelAdaIdeal.nD) → Buf (Elt Ideal) ((c.tc : Thread Cert.KernelAdaIdeal.nD Cert.KernelAdaIdeal.τ).loc Cert.KernelAdaIdeal.main_v0_1)) (v2 : (c : Dev Cert.KernelAdaIdeal.nD) → Buf (Elt Ideal) ((c.tc : Thread Cert.KernelAdaIdeal.nD Cert.KernelAdaIdeal.τ).loc Cert.KernelAdaIdeal.main_v0_2)) (v3 : (c : Dev Cert.KernelAdaIdeal.nD) → Buf (Elt Ideal) ((c.tc : Thread Cert.KernelAdaIdeal.nD Cert.KernelAdaIdeal.τ).loc Cert.KernelAdaIdeal.main_v0_3)) (v4 : (c : Dev Cert.KernelAdaIdeal.nD) → Buf (Elt Ideal) ((c.tc : Thread Cert.KernelAdaIdeal.nD Cert.KernelAdaIdeal.τ).loc Cert.KernelAdaIdeal.main_v0_4)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0_0) = v0 c
          ∧ r.2.mem ((c.tc : Thread Cert.KernelAdaIdeal.nD Cert.KernelAdaIdeal.τ).loc Cert.KernelAdaIdeal.main_v0_1) = v1 c
          ∧ r.2.mem ((c.tc : Thread Cert.KernelAdaIdeal.nD Cert.KernelAdaIdeal.τ).loc Cert.KernelAdaIdeal.main_v0_2) = v2 c
          ∧ r.2.mem ((c.tc : Thread Cert.KernelAdaIdeal.nD Cert.KernelAdaIdeal.τ).loc Cert.KernelAdaIdeal.main_v0_3) = v3 c
          ∧ r.2.mem ((c.tc : Thread Cert.KernelAdaIdeal.nD Cert.KernelAdaIdeal.τ).loc Cert.KernelAdaIdeal.main_v0_4) = v4 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
          ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4)
          ∧ r.2.mem ((c.tc : Thread Cert.KernelAdaIdeal.nD Cert.KernelAdaIdeal.τ).loc Cert.KernelAdaIdeal.main_arg5) = m ((c.tc : Thread Cert.KernelAdaIdeal.nD Cert.KernelAdaIdeal.τ).loc Cert.KernelAdaIdeal.main_arg5))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v3) = v0 c
          ∧ r.2.mem ((c.tc : Thread Cert.ReferenceAdaIdeal.nD Cert.ReferenceAdaIdeal.τ).loc Cert.ReferenceAdaIdeal.main_v27) = v1 c
          ∧ r.2.mem ((c.tc : Thread Cert.ReferenceAdaIdeal.nD Cert.ReferenceAdaIdeal.τ).loc Cert.ReferenceAdaIdeal.main_v8) = v2 c
          ∧ r.2.mem ((c.tc : Thread Cert.ReferenceAdaIdeal.nD Cert.ReferenceAdaIdeal.τ).loc Cert.ReferenceAdaIdeal.main_v14) = v3 c
          ∧ r.2.mem ((c.tc : Thread Cert.ReferenceAdaIdeal.nD Cert.ReferenceAdaIdeal.τ).loc Cert.ReferenceAdaIdeal.main_arg5) = v4 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3)
          ∧ r.2.mem ((c.tc : Thread Cert.ReferenceAdaIdeal.nD Cert.ReferenceAdaIdeal.τ).loc Cert.ReferenceAdaIdeal.main_arg4) = m' ((c.tc : Thread Cert.ReferenceAdaIdeal.nD Cert.ReferenceAdaIdeal.τ).loc Cert.ReferenceAdaIdeal.main_arg4)
          ∧ r.2.mem ((c.tc : Thread Cert.ReferenceAdaIdeal.nD Cert.ReferenceAdaIdeal.τ).loc Cert.ReferenceAdaIdeal.main_arg5) = m' ((c.tc : Thread Cert.ReferenceAdaIdeal.nD Cert.ReferenceAdaIdeal.τ).loc Cert.ReferenceAdaIdeal.main_arg5))

def Claim : Prop :=
  ∃ (hKernel : Cert.Kernel.Facts) (hKernelIdeal : Cert.KernelIdeal.Facts) (hReferenceIdeal : Cert.ReferenceIdeal.Facts) (hKernelMix : Cert.KernelMix.Facts) (hKernelMixIdeal : Cert.KernelMixIdeal.Facts) (hReferenceMixIdeal : Cert.ReferenceMixIdeal.Facts) (hKernelFwd : Cert.KernelFwd.Facts) (hKernelFwdIdeal : Cert.KernelFwdIdeal.Facts) (hReferenceFwdIdeal : Cert.ReferenceFwdIdeal.Facts) (hKernelAda : Cert.KernelAda.Facts) (hKernelAdaIdeal : Cert.KernelAdaIdeal.Facts) (hReferenceAdaIdeal : Cert.ReferenceAdaIdeal.Facts) (hPre_finite : Cert.Pre_finite.Facts) (hPre_finite_mix : Cert.Pre_finite_mix.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelAda_KernelAdaIdeal
    ∧ algebraic_KernelAdaIdeal_ReferenceAdaIdeal (hKernelAdaIdeal := hKernelAdaIdeal) (hReferenceAdaIdeal := hReferenceAdaIdeal)
-- ==== Pre_finite.lean ====
abbrev S2048x1024 : Shape := ⟨2, ![2048, 1024]⟩
abbrev S8x6144 : Shape := ⟨2, ![8, 6144]⟩
abbrev S1x1024 : Shape := ⟨2, ![1, 1024]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x6144 : S_.BroadcastsInDim S8x6144 (![] : Fin 0 → Fin S8x6144.rank)
  reducesTo_S8x6144_S_d0_1 : S8x6144.ReducesTo [0, 1] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_arg7 : FVec F S2816x1024 .bf16) (main_v30 : IVec S_ 1) (main_v32 : FVec F S2816x1024 .f32) (main_v33 : FVec F S2816x1024 .f32) : IVec S_ 1 :=
  let main_v34 : IVec S2816x1024 1 := cmpf .olt main_v32 main_v33
  let main_c_12 : IVec S_ 1 := constantI S_ 1 1#1
  let main_v35 : IVec S_ 1 := (fun x v => Host.reduce IntOp.andi x v reducesTo_S2816x1024_S_d0_1 h_S_) main_v34 main_c_12
  let main_v36 : IVec S_ 1 := andi main_v30 main_v35
  let main_v37 : FVec F S2816x1024 .f32 := (extf .f32 · bitsLt_bf16_f32) main_arg7
  let main_v38 : FVec F S2816x1024 .f32 := Host.absf main_v37
  let main_cst_13 : FVec F S_ .f32 := constant S_ .f32 0x7F800000#32
  let main_v39 : FVec F S2816x1024 .f32 := broadcastInDim S2816x1024 ![] bcast_S_S2816x1024 main_cst_13
  let main_v40 : IVec S2816x1024 1 := cmpf .olt main_v38 main_v39
  let main_c_14 : IVec S_ 1 := constantI S_ 1 1#1
  let main_v41 : IVec S_ 1 := (fun x v => Host.reduce IntOp.andi x v reducesTo_S2816x1024_S_d0_1 h_S_) main_v40 main_c_14
  let main_v42 : IVec S_ 1 := andi main_v36 main_v41
  main_v42

def fn_part1 {F : FTy → Type} [FloatOps F] (main_arg4 : FVec F S1x1024 .f32) (main_arg5 : FVec F S2816x1024 .bf16) (main_arg6 : FVec F S2816x1024 .bf16) (main_arg7 : FVec F S2816x1024 .bf16) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1x1024 .f32 := Host.absf main_arg4
  let main_cst_7 : FVec F S_ .f32 := constant S_ .f32 0x7F800000#32
  let main_v21 : FVec F S1x1024 .f32 := broadcastInDim S1x1024 ![] bcast_S_S1x1024 main_cst_7
  let main_v22 : IVec S1x1024 1 := cmpf .olt main_v20 main_v21
  let main_c_8 : IVec S_ 1 := constantI S_ 1 1#1
  let main_v23 : IVec S_ 1 := (fun x v => Host.reduce IntOp.andi x v reducesTo_S1x1024_S_d0_1 h_S_) main_v22 main_c_8
  let main_v24 : IVec S_ 1 := andi main_v19 main_v23
  let main_v25 : FVec F S2816x1024 .f32 := (extf .f32 · bitsLt_bf16_f32) main_arg5
  let main_v26 : FVec F S2816x1024 .f32 := Host.absf main_v25
  let main_cst_9 : FVec F S_ .f32 := constant S_ .f32 0x7F800000#32
  let main_v27 : FVec F S2816x1024 .f32 := broadcastInDim S2816x1024 ![] bcast_S_S2816x1024 main_cst_9
  let main_v28 : IVec S2816x1024 1 := cmpf .olt main_v26 main_v27
  let main_c_10 : IVec S_ 1 := constantI S_ 1 1#1
  let main_v29 : IVec S_ 1 := (fun x v => Host.reduce IntOp.andi x v reducesTo_S2816x1024_S_d0_1 h_S_) main_v28 main_c_10
  let main_v30 : IVec S_ 1 := andi main_v24 main_v29
  let main_v31 : FVec F S2816x1024 .f32 := (extf .f32 · bitsLt_bf16_f32) main_arg6
  let main_v32 : FVec F S2816x1024 .f32 := Host.absf main_v31
  let main_cst_11 : FVec F S_ .f32 := constant S_ .f32 0x7F800000#32
  let main_v33 : FVec F S2816x1024 .f32 := broadcastInDim S2816x1024 ![] bcast_S_S2816x1024 main_cst_11
  fn_part2 (F := F) main_arg7 main_v30 main_v32 main_v33

def fn {F : FTy → Type} [FloatOps F] (main_arg0 : FVec F S2048x1024 .f32) (main_arg1 : FVec F S2048x1024 .f32) (main_arg2 : FVec F S8x6144 .f32) (main_arg3 : FVec F S1x1024 .f32) (main_arg4 : FVec F S1x1024 .f32) (main_arg5 : FVec F S2816x1024 .bf16) (main_arg6 : FVec F S2816x1024 .bf16) (main_arg7 : FVec F S2816x1024 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2048x1024 .f32 := Host.absf main_arg1
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_v5 main_v6
  let main_c_2 : IVec S_ 1 := constantI S_ 1 1#1
  let main_v8 : IVec S_ 1 := (fun x v => Host.reduce IntOp.andi x v reducesTo_S2048x1024_S_d0_1 h_S_) main_v7 main_c_2
  let main_v9 : IVec S_ 1 := andi main_v4 main_v8
  let main_v10 : FVec F S8x6144 .f32 := Host.absf main_arg2
  let main_cst_3 : FVec F S_ .f32 := constant S_ .f32 0x7F800000#32
  let main_v11 : FVec F S8x6144 .f32 := broadcastInDim S8x6144 ![] bcast_S_S8x6144 main_cst_3
  let main_v12 : IVec S8x6144 1 := cmpf .olt main_v10 main_v11
  let main_c_4 : IVec S_ 1 := constantI S_ 1 1#1
  let main_v13 : IVec S_ 1 := (fun x v => Host.reduce IntOp.andi x v reducesTo_S8x6144_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_v14 main_v15 main_cst_5
-- ==== Pre_finite_mix.lean ====
abbrev S2048x1024 : Shape := ⟨2, ![2048, 1024]⟩
abbrev S8x6144 : Shape := ⟨2, ![8, 6144]⟩
abbrev S1x1024 : Shape := ⟨2, ![1, 1024]⟩
abbrev S1536x1024 : Shape := ⟨2, ![1536, 1024]⟩
abbrev S32x512 : Shape := ⟨2, ![32, 512]⟩
abbrev S1x512 : Shape := ⟨2, ![1, 512]⟩
abbrev S512x512 : Shape := ⟨2, ![512, 512]⟩
abbrev S4x128x128 : Shape := ⟨3, ![4, 128, 128]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S8x6144 : S_.BroadcastsInDim S8x6144 (![] : Fin 0 → Fin S8x6144.rank)
  reducesTo_S8x6144_S_d0_1 : S8x6144.ReducesTo [0, 1] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S1536x1024 : S_.BroadcastsInDim S1536x1024 (![] : Fin 0 → Fin S1536x1024.rank)
  reducesTo_S1536x1024_S_d0_1 : S1536x1024.ReducesTo [0, 1] S_
  bcast_S_S32x512 : S_.BroadcastsInDim S32x512 (![] : Fin 0 → Fin S32x512.rank)
  reducesTo_S32x512_S_d0_1 : S32x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_arg10 : FVec F S4x128x128 .f32) (main_arg11 : FVec F S1x512 .f32) (main_arg12 : FVec F S1024x1024 .bf16) (main_v45 : IVec S_ 1) (main_v50 : IVec S_ 1) : IVec S_ 1 :=
  let main_v51 : IVec S_ 1 := andi main_v45 main_v50
  let main_v52 : FVec F S4x128x128 .f32 := Host.absf main_arg10
  let main_cst_19 : FVec F S_ .f32 := constant S_ .f32 0x7F800000#32
  let main_v53 : FVec F S4x128x128 .f32 := broadcastInDim S4x128x128 ![] bcast_S_S4x128x128 main_cst_19
  let main_v54 : IVec S4x128x128 1 := cmpf .olt main_v52 main_v53
  let main_c_20 : IVec S_ 1 := constantI S_ 1 1#1
  let main_v55 : IVec S_ 1 := (fun x v => Host.reduce IntOp.andi x v reducesTo_S4x128x128_S_d0_1_2 h_S_) main_v54 main_c_20
  let main_v56 : IVec S_ 1 := andi main_v51 main_v55
  let main_v57 : FVec F S1x512 .f32 := Host.absf main_arg11
  let main_cst_21 : FVec F S_ .f32 := constant S_ .f32 0x7F800000#32
  let main_v58 : FVec F S1x512 .f32 := broadcastInDim S1x512 ![] bcast_S_S1x512 main_cst_21
  let main_v59 : IVec S1x512 1 := cmpf .olt main_v57 main_v58
  let main_c_22 : IVec S_ 1 := constantI S_ 1 1#1
  let main_v60 : IVec S_ 1 := (fun x v => Host.reduce IntOp.andi x v reducesTo_S1x512_S_d0_1 h_S_) main_v59 main_c_22
  let main_v61 : IVec S_ 1 := andi main_v56 main_v60
  let main_v62 : FVec F S1024x1024 .f32 := (extf .f32 · bitsLt_bf16_f32) main_arg12
  let main_v63 : FVec F S1024x1024 .f32 := Host.absf main_v62
  let main_cst_23 : FVec F S_ .f32 := constant S_ .f32 0x7F800000#32
  let main_v64 : FVec F S1024x1024 .f32 := broadcastInDim S1024x1024 ![] bcast_S_S1024x1024 main_cst_23
  let main_v65 : IVec S1024x1024 1 := cmpf .olt main_v63 main_v64
  let main_c_24 : IVec S_ 1 := constantI S_ 1 1#1
  let main_v66 : IVec S_ 1 := (fun x v => Host.reduce IntOp.andi x v reducesTo_S1024x1024_S_d0_1 h_S_) main_v65 main_c_24
  let main_v67 : IVec S_ 1 := andi main_v61 main_v66
  main_v67

def fn_part2 {F : FTy → Type} [FloatOps F] (main_arg7 : FVec F S1x512 .f32) (main_arg8 : FVec F S1x512 .f32) (main_arg9 : FVec F S512x512 .bf16) (main_arg10 : FVec F S4x128x128 .f32) (main_arg11 : FVec F S1x512 .f32) (main_arg12 : FVec F S1024x1024 .bf16) (main_v30 : IVec S_ 1) (main_v33 : IVec S1x512 1) : IVec S_ 1 :=
  let main_c_12 : IVec S_ 1 := constantI S_ 1 1#1
  let main_v34 : IVec S_ 1 := (fun x v => Host.reduce IntOp.andi x v reducesTo_S1x512_S_d0_1 h_S_) main_v33 main_c_12
  let main_v35 : IVec S_ 1 := andi main_v30 main_v34
  let main_v36 : FVec F S1x512 .f32 := Host.absf main_arg7
  let main_cst_13 : FVec F S_ .f32 := constant S_ .f32 0x7F800000#32
  let main_v37 : FVec F S1x512 .f32 := broadcastInDim S1x512 ![] bcast_S_S1x512 main_cst_13
  let main_v38 : IVec S1x512 1 := cmpf .olt main_v36 main_v37
  let main_c_14 : IVec S_ 1 := constantI S_ 1 1#1
  let main_v39 : IVec S_ 1 := (fun x v => Host.reduce IntOp.andi x v reducesTo_S1x512_S_d0_1 h_S_) main_v38 main_c_14
  let main_v40 : IVec S_ 1 := andi main_v35 main_v39
  let main_v41 : FVec F S1x512 .f32 := Host.absf main_arg8
  let main_cst_15 : FVec F S_ .f32 := constant S_ .f32 0x7F800000#32
  let main_v42 : FVec F S1x512 .f32 := broadcastInDim S1x512 ![] bcast_S_S1x512 main_cst_15
  let main_v43 : IVec S1x512 1 := cmpf .olt main_v41 main_v42
  let main_c_16 : IVec S_ 1 := constantI S_ 1 1#1
  let main_v44 : IVec S_ 1 := (fun x v => Host.reduce IntOp.andi x v reducesTo_S1x512_S_d0_1 h_S_) main_v43 main_c_16
  let main_v45 : IVec S_ 1 := andi main_v40 main_v44
  let main_v46 : FVec F S512x512 .f32 := (extf .f32 · bitsLt_bf16_f32) main_arg9
  let main_v47 : FVec F S512x512 .f32 := Host.absf main_v46
  let main_cst_17 : FVec F S_ .f32 := constant S_ .f32 0x7F800000#32
  let main_v48 : FVec F S512x512 .f32 := broadcastInDim S512x512 ![] bcast_S_S512x512 main_cst_17
  let main_v49 : IVec S512x512 1 := cmpf .olt main_v47 main_v48
  let main_c_18 : IVec S_ 1 := constantI S_ 1 1#1
  let main_v50 : IVec S_ 1 := (fun x v => Host.reduce IntOp.andi x v reducesTo_S512x512_S_d0_1 h_S_) main_v49 main_c_18
  fn_part3 (F := F) main_arg10 main_arg11 main_arg12 main_v45 main_v50

def fn_part1 {F : FTy → Type} [FloatOps F] (main_arg4 : FVec F S1536x1024 .bf16) (main_arg5 : FVec F S32x512 .f32) (main_arg6 : FVec F S1x512 .f32) (main_arg7 : FVec F S1x512 .f32) (main_arg8 : FVec F S1x512 .f32) (main_arg9 : FVec F S512x512 .bf16) (main_arg10 : FVec F S4x128x128 .f32) (main_arg11 : FVec F S1x512 .f32) (main_arg12 : FVec F S1024x1024 .bf16) (main_v14 : IVec S_ 1) (main_v15 : FVec F S1x1024 .f32) (main_cst_5 : FVec F S_ .f32) : IVec S_ 1 :=
  let main_v16 : FVec F S1x1024 .f32 := broadcastInDim S1x1024 ![] bcast_S_S1x1024 main_cst_5
  let main_v17 : IVec S1x1024 1 := cmpf .olt main_v15 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v14 main_v18
  let main_v20 : FVec F S1536x1024 .f32 := (extf .f32 · bitsLt_bf16_f32) main_arg4
  let main_v21 : FVec F S1536x1024 .f32 := Host.absf main_v20
  let main_cst_7 : FVec F S_ .f32 := constant S_ .f32 0x7F800000#32
  let main_v22 : FVec F S1536x1024 .f32 := broadcastInDim S1536x1024 ![] bcast_S_S1536x1024 main_cst_7
  let main_v23 : IVec S1536x1024 1 := cmpf .olt main_v21 main_v22
  let main_c_8 : IVec S_ 1 := constantI S_ 1 1#1
  let main_v24 : IVec S_ 1 := (fun x v => Host.reduce IntOp.andi x v reducesTo_S1536x1024_S_d0_1 h_S_) main_v23 main_c_8
  let main_v25 : IVec S_ 1 := andi main_v19 main_v24
  let main_v26 : FVec F S32x512 .f32 := Host.absf main_arg5
  let main_cst_9 : FVec F S_ .f32 := constant S_ .f32 0x7F800000#32
  let main_v27 : FVec F S32x512 .f32 := broadcastInDim S32x512 ![] bcast_S_S32x512 main_cst_9
  let main_v28 : IVec S32x512 1 := cmpf .olt main_v26 main_v27
  let main_c_10 : IVec S_ 1 := constantI S_ 1 1#1
  let main_v29 : IVec S_ 1 := (fun x v => Host.reduce IntOp.andi x v reducesTo_S32x512_S_d0_1 h_S_) main_v28 main_c_10
  let main_v30 : IVec S_ 1 := andi main_v25 main_v29
  let main_v31 : FVec F S1x512 .f32 := Host.absf main_arg6
  let main_cst_11 : FVec F S_ .f32 := constant S_ .f32 0x7F800000#32
  let main_v32 : FVec F S1x512 .f32 := broadcastInDim S1x512 ![] bcast_S_S1x512 main_cst_11
  let main_v33 : IVec S1x512 1 := cmpf .olt main_v31 main_v32
  fn_part2 (F := F) main_arg7 main_arg8 main_arg9 main_arg10 main_arg11 main_arg12 main_v30 main_v33

def fn {F : FTy → Type} [FloatOps F] (main_arg0 : FVec F S2048x1024 .f32) (main_arg1 : FVec F S2048x1024 .f32) (main_arg2 : FVec F S8x6144 .f32) (main_arg3 : FVec F S1x1024 .f32) (main_arg4 : FVec F S1536x1024 .bf16) (main_arg5 : FVec F S32x512 .f32) (main_arg6 : FVec F S1x512 .f32) (main_arg7 : FVec F S1x512 .f32) (main_arg8 : FVec F S1x512 .f32) (main_arg9 : FVec F S512x512 .bf16) (main_arg10 : FVec F S4x128x128 .f32) (main_arg11 : FVec F S1x512 .f32) (main_arg12 : FVec F S1024x1024 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_c_0 : IVec S_ 1 := constantI S_ 1 1#1
  let main_v4 : IVec S_ 1 := andi main_c_0 main_v3
  let main_v5 : FVec F S2048x1024 .f32 := Host.absf main_arg1
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_v5 main_v6
  let main_c_2 : IVec S_ 1 := constantI S_ 1 1#1
  let main_v8 : IVec S_ 1 := (fun x v => Host.reduce IntOp.andi x v reducesTo_S2048x1024_S_d0_1 h_S_) main_v7 main_c_2
  let main_v9 : IVec S_ 1 := andi main_v4 main_v8
  let main_v10 : FVec F S8x6144 .f32 := Host.absf main_arg2
  let main_cst_3 : FVec F S_ .f32 := constant S_ .f32 0x7F800000#32
  let main_v11 : FVec F S8x6144 .f32 := broadcastInDim S8x6144 ![] bcast_S_S8x6144 main_cst_3
  let main_v12 : IVec S8x6144 1 := cmpf .olt main_v10 main_v11
  let main_c_4 : IVec S_ 1 := constantI S_ 1 1#1
  let main_v13 : IVec S_ 1 := (fun x v => Host.reduce IntOp.andi x v reducesTo_S8x6144_S_d0_1 h_S_) main_v12 main_c_4
  let main_v14 : IVec S_ 1 := andi main_v9 main_v13
  let main_v15 : FVec F S1x1024 .f32 := Host.absf main_arg3
  let main_cst_5 : FVec F S_ .f32 := constant S_ .f32 0x7F800000#32
  fn_part1 (F := F) main_arg4 main_arg5 main_arg6 main_arg7 main_arg8 main_arg9 main_arg10 main_arg11 main_arg12 main_v14 main_v15 main_cst_5
-- ==== Kernel.lean ====
abbrev S2048x1024 : Shape := ⟨2, ![2048, 1024]⟩
abbrev S8x6144 : Shape := ⟨2, ![8, 6144]⟩
abbrev S1x1024 : Shape := ⟨2, ![1, 1024]⟩
abbrev S2816x1024 : Shape := ⟨2, ![2816, 1024]⟩
abbrev S11x256x2048 : Shape := ⟨3, ![11, 256, 2048]⟩
abbrev S8x1024 : Shape := ⟨2, ![8, 1024]⟩
abbrev S256x1024 : Shape := ⟨2, ![256, 1024]⟩
abbrev S11x256x256 : Shape := ⟨3, ![11, 256, 256]⟩
abbrev S3 : Shape := ⟨1, ![3]⟩
abbrev S1 : Shape := ⟨1, ![1]⟩
abbrev S_ : Shape := ⟨0, ![]⟩
abbrev S256 : Shape := ⟨1, ![256]⟩
abbrev S256x1 : Shape := ⟨2, ![256, 1]⟩
abbrev S256x2816 : Shape := ⟨2, ![256, 2816]⟩
abbrev S256x256 : Shape := ⟨2, ![256, 256]⟩
abbrev S1x256x256 : Shape := ⟨3, ![1, 256, 256]⟩
abbrev S1x1 : Shape := ⟨2, ![1, 1]⟩
abbrev S1024 : Shape := ⟨1, ![1024]⟩

abbrev nBuf : Space → Nat
  | .hbm => 15
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S8x6144, .f32⟩
  | .hbm, ⟨3, _⟩ => ⟨S1x1024, .f32⟩
  | .hbm, ⟨4, _⟩ => ⟨S1x1024, .f32⟩
  | .hbm, ⟨5, _⟩ => ⟨S2816x1024, .bf16⟩
  | .hbm, ⟨6, _⟩ => ⟨S2816x1024, .bf16⟩
  | .hbm, ⟨7, _⟩ => ⟨S2816x1024, .bf16⟩
  | .hbm, ⟨8, _⟩ => ⟨S2048x1024, .bf16⟩
  | .hbm, ⟨9, _⟩ => ⟨S11x256x2048, .bf16⟩
  | .hbm, ⟨10, _⟩ => ⟨S2048x1024, .bf16⟩
  | .hbm, ⟨11, _⟩ => ⟨S11x256x2048, .bf16⟩
  | .hbm, ⟨12, _⟩ => ⟨S11x256x2048, .bf16⟩
  | .hbm, ⟨13, _⟩ => ⟨S2048x1024, .f32⟩
  | .hbm, ⟨14, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x6144, .f32⟩
  | .local _ .vmem, ⟨5, _⟩ => ⟨S1x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S11x256x256, .bf16⟩
  | .local _ .vmem, ⟨10, _⟩ => ⟨S11x256x256, .bf16⟩
  | .local _ .vmem, ⟨11, _⟩ => ⟨S256x1024, .bf16⟩
  | .local _ .vmem, ⟨12, _⟩ => ⟨S256x1024, .bf16⟩
  | .local _ .vmem, ⟨13, _⟩ => ⟨S11x256x256, .bf16⟩
  | .local _ .vmem, ⟨14, _⟩ => ⟨S11x256x256, .bf16⟩
  | .local _ .vmem, ⟨15, _⟩ => ⟨S11x256x256, .bf16⟩
  | .local _ .vmem, ⟨16, _⟩ => ⟨S11x256x256, .bf16⟩
  | .local _ .vmem, ⟨17, _⟩ => ⟨S256x1024, .f32⟩
  | .local _ .vmem, ⟨18, _⟩ => ⟨S256x1024, .f32⟩
  | .local _ .vmem, ⟨19, _⟩ => ⟨S8x1024, .f32⟩
  | .local _ .vmem, ⟨20, _⟩ => ⟨S2816x1024, .bf16⟩
  | .local _ .vmem, ⟨21, _⟩ => ⟨S2816x1024, .bf16⟩
  | .local _ .vmem, ⟨22, _⟩ => ⟨S2816x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S11x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S11x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S2048x1024 : Shape := ⟨2, ![2048, 1024]⟩
abbrev S8x6144 : Shape := ⟨2, ![8, 6144]⟩
abbrev S1x1024 : Shape := ⟨2, ![1, 1024]⟩
abbrev S2816x1024 : Shape := ⟨2, ![2816, 1024]⟩
abbrev S1024x2816 : Shape := ⟨2, ![1024, 2816]⟩
abbrev S1x6144 : Shape := ⟨2, ![1, 6144]⟩
abbrev S_ : Shape := ⟨0, ![]⟩
abbrev S2048x2816 : Shape := ⟨2, ![2048, 2816]⟩
abbrev S2048 : Shape := ⟨1, ![2048]⟩
abbrev S2048x1 : Shape := ⟨2, ![2048, 1]⟩
abbrev S1024 : Shape := ⟨1, ![1024]⟩
abbrev S2x1024 : Shape := ⟨2, ![2, 1024]⟩
abbrev S8x1024 : Shape := ⟨2, ![8, 1024]⟩
abbrev S2816x2048 : Shape := ⟨2, ![2816, 2048]⟩
abbrev S11x256x2048 : Shape := ⟨3, ![11, 256, 2048]⟩

abbrev nBuf : Space → Nat
  | .hbm => 202
  | .vmem => 0
  | .smem => 0
  | _ => 0

abbrev hbmTy0_0 (i : Nat) : BufTy := match i % 128 with
  | 0 => ⟨S2048x1024, .f32⟩
  | 1 => ⟨S2048x1024, .f32⟩
  | 2 => ⟨S8x6144, .f32⟩
  | 3 => ⟨S1x1024, .f32⟩
  | 4 => ⟨S1x1024, .f32⟩
  | 5 => ⟨S2816x1024, .bf16⟩
  | 6 => ⟨S2816x1024, .bf16⟩
  | 7 => ⟨S2816x1024, .bf16⟩
  | 8 => ⟨S2816x1024, .f32⟩
  | 9 => ⟨S1024x2816, .f32⟩
  | 10 => ⟨S2816x1024, .f32⟩
  | 11 => ⟨S1024x2816, .f32⟩
  | 12 => ⟨S2816x1024, .f32⟩
  | 13 => ⟨S1x6144, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S_, .f32⟩
  | 21 => ⟨S2048x2816, .f32⟩
  | 22 => ⟨S_, .f32⟩
  | 23 => ⟨S2048x1024, .f32⟩
  | 24 => ⟨S2048x1024, .f32⟩
  | 25 => ⟨S_, .f32⟩
  | 26 => ⟨S2048, .f32⟩
  | 27 => ⟨S2048x1, .f32⟩
  | 28 => ⟨S_, .f32⟩
  | 29 => ⟨S2048x1, .f32⟩
  | 30 => ⟨S2048x1, .f32⟩
  | 31 => ⟨S_, .f32⟩
  | 32 => ⟨S2048x1, .f32⟩
  | 33 => ⟨S2048x1, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1024, .f32⟩
  | 40 => ⟨S2048x1024, .f32⟩
  | 41 => ⟨S2048x1024, .f32⟩
  | 42 => ⟨S2048x1024, .f32⟩
  | 43 => ⟨S_, .f32⟩
  | 44 => ⟨S1x1024, .f32⟩
  | 45 => ⟨S1x1024, .f32⟩
  | 46 => ⟨S2048x1024, .f32⟩
  | 47 => ⟨S2048x1024, .f32⟩
  | 48 => ⟨S2048x1024, .f32⟩
  | 49 => ⟨S2048x1024, .f32⟩
  | 50 => ⟨S2048x2816, .f32⟩
  | 51 => ⟨S2048x2816, .f32⟩
  | 52 => ⟨S2048x2816, .f32⟩
  | 53 => ⟨S2048x2816, .f32⟩
  | 54 => ⟨S_, .f32⟩
  | 55 => ⟨S2048x2816, .f32⟩
  | 56 => ⟨S2048x2816, .f32⟩
  | 57 => ⟨S_, .f32⟩
  | 58 => ⟨S2048x2816, .f32⟩
  | 59 => ⟨S2048x2816, .f32⟩
  | 60 => ⟨S_, .f32⟩
  | 61 => ⟨S2048x2816, .f32⟩
  | 62 => ⟨S2048x2816, .f32⟩
  | 63 => ⟨S2048x2816, .f32⟩
  | 64 => ⟨S2048x2816, .f32⟩
  | 65 => ⟨S2048x2816, .f32⟩
  | 66 => ⟨S2048x2816, .f32⟩
  | 67 => ⟨S2048x2816, .f32⟩
  | 68 => ⟨S2048x1024, .f32⟩
  | 69 => ⟨S2048x1024, .f32⟩
  | 70 => ⟨S2048x1024, .f32⟩
  | 71 => ⟨S2048x1024, .f32⟩
  | 72 => ⟨S2048x1024, .f32⟩
  | 73 => ⟨S2048x1024, .f32⟩
  | 74 => ⟨S_, .f32⟩
  | 75 => ⟨S2048, .f32⟩
  | 76 => ⟨S2048x1, .f32⟩
  | 77 => ⟨S_, .f32⟩
  | 78 => ⟨S2048x1, .f32⟩
  | 79 => ⟨S2048x1, .f32⟩
  | 80 => ⟨S_, .f32⟩
  | 81 => ⟨S2048x1, .f32⟩
  | 82 => ⟨S2048x1, .f32⟩
  | 83 => ⟨S2048x1, .f32⟩
  | 84 => ⟨S2048x1, .f32⟩
  | 85 => ⟨S_, .f32⟩
  | 86 => ⟨S2048x1, .f32⟩
  | 87 => ⟨S2048x1, .f32⟩
  | 88 => ⟨S2048x1024, .f32⟩
  | 89 => ⟨S2048x1024, .f32⟩
  | 90 => ⟨S2048x1024, .f32⟩
  | 91 => ⟨S2048x1024, .f32⟩
  | 92 => ⟨S2048x1024, .f32⟩
  | 93 => ⟨S2048x1024, .f32⟩
  | 94 => ⟨S_, .f32⟩
  | 95 => ⟨S2048x1024, .f32⟩
  | 96 => ⟨S2048x1024, .f32⟩
  | 97 => ⟨S_, .f32⟩
  | 98 => ⟨S2048, .f32⟩
  | 99 => ⟨S_, .f32⟩
  | 100 => ⟨S2048, .f32⟩
  | 101 => ⟨S2048, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S2048, .f32⟩
  | 110 => ⟨S_, .f32⟩
  | 111 => ⟨S2048, .f32⟩
  | 112 => ⟨S2048, .f32⟩
  | 113 => ⟨S2048x1024, .f32⟩
  | 114 => ⟨S2048x1024, .f32⟩
  | 115 => ⟨S2048x1024, .f32⟩
  | 116 => ⟨S_, .f32⟩
  | 117 => ⟨S1024, .f32⟩
  | 118 => ⟨S1x1024, .f32⟩
  | 119 => ⟨S2048x1024, .f32⟩
  | 120 => ⟨S2048x1024, .f32⟩
  | 121 => ⟨S2048x1024, .f32⟩
  | 122 => ⟨S_, .f32⟩
  | 123 => ⟨S2048, .f32⟩
  | 124 => ⟨S2048x1, .f32⟩
  | 125 => ⟨S2048x1024, .f32⟩
  | 126 => ⟨S2048x1024, .f32⟩
  | 127 => ⟨S2048x1, .f32⟩
  | _ => ⟨S2048x1024, .f32⟩

abbrev hbmTy0_1 (i : Nat) : BufTy := match i % 128 with
  | 0 => ⟨S_, .f32⟩
  | 1 => ⟨S2048x1, .f32⟩
  | 2 => ⟨S2048x1, .f32⟩
  | 3 => ⟨S_, .f32⟩
  | 4 => ⟨S2048, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S_, .f32⟩
  | 14 => ⟨S1024, .f32⟩
  | 15 => ⟨S1x1024, .f32⟩
  | 16 => ⟨S2048x2816, .f32⟩
  | 17 => ⟨S2048x2816, .f32⟩
  | 18 => ⟨S2048x2816, .f32⟩
  | 19 => ⟨S2048x1024, .f32⟩
  | 20 => ⟨S2048x2816, .f32⟩
  | 21 => ⟨S2048x2816, .f32⟩
  | 22 => ⟨S2048x2816, .f32⟩
  | 23 => ⟨S2048x2816, .f32⟩
  | 24 => ⟨S2048x1024, .f32⟩
  | 25 => ⟨S2048x1024, .f32⟩
  | 26 => ⟨S_, .f32⟩
  | 27 => ⟨S1024, .f32⟩
  | 28 => ⟨S1x1024, .f32⟩
  | 29 => ⟨S2048x1024, .f32⟩
  | 30 => ⟨S_, .f32⟩
  | 31 => ⟨S1024, .f32⟩
  | 32 => ⟨S1x1024, .f32⟩
  | 33 => ⟨S2048x1024, .f32⟩
  | 34 => ⟨S2048x1024, .f32⟩
  | 35 => ⟨S2048x1024, .f32⟩
  | 36 => ⟨S_, .f32⟩
  | 37 => ⟨S1024, .f32⟩
  | 38 => ⟨S1x1024, .f32⟩
  | 39 => ⟨S2048x1024, .f32⟩
  | 40 => ⟨S2048x1024, .f32⟩
  | 41 => ⟨S2048x1024, .f32⟩
  | 42 => ⟨S_, .f32⟩
  | 43 => ⟨S2048, .f32⟩
  | 44 => ⟨S2048x1, .f32⟩
  | 45 => ⟨S2048x1024, .f32⟩
  | 46 => ⟨S2048x1024, .f32⟩
  | 47 => ⟨S2048x1024, .f32⟩
  | 48 => ⟨S2048x1, .f32⟩
  | 49 => ⟨S_, .f32⟩
  | 50 => ⟨S2048x1, .f32⟩
  | 51 => ⟨S2048x1, .f32⟩
  | 52 => ⟨S_, .f32⟩
  | 53 => ⟨S2048, .f32⟩
  | 54 => ⟨S2048x1024, .f32⟩
  | 55 => ⟨S2048x1024, .f32⟩
  | 56 => ⟨S2048x1024, .f32⟩
  | 57 => ⟨S2048x1024, .f32⟩
  | 58 => ⟨S2048x1024, .f32⟩
  | 59 => ⟨S1x1024, .f32⟩
  | 60 => ⟨S_, .f32⟩
  | 61 => ⟨S2x1024, .f32⟩
  | 62 => ⟨S8x1024, .f32⟩
  | 63 => ⟨S2048x1024, .bf16⟩
  | 64 => ⟨S2048x1024, .bf16⟩
  | 65 => ⟨S2816x2048, .f32⟩
  | 66 => ⟨S11x256x2048, .f32⟩
  | 67 => ⟨S11x256x2048, .bf16⟩
  | 68 => ⟨S2816x2048, .f32⟩
  | 69 => ⟨S11x256x2048, .f32⟩
  | 70 => ⟨S11x256x2048, .bf16⟩
  | 71 => ⟨S2816x2048, .f32⟩
  | 72 => ⟨S11x256x2048, .f32⟩
  | 73 => ⟨S11x256x2048, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_v37_2 : Ref sig .tc := ⟨.hbm, 59, rfl⟩
abbrev main_call0_cst_1 : Ref sig .tc := ⟨.hbm, 60, rfl⟩
abbrev main_call0_v6 : Ref sig .tc := ⟨.hbm, 61, rfl⟩
abbrev main_call0_v7 : Ref sig .tc := ⟨.hbm, 62, rfl⟩
abbrev main_v37_1 : Ref sig .tc := ⟨.hbm, 63, rfl⟩
abbrev main_v37_0 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_9 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_10 : Ref sig .tc := ⟨.hbm, 94, rfl⟩
abbrev main_v63 : Ref sig .tc := ⟨.hbm, 95, rfl⟩
abbrev main_v64 : Ref sig .tc := ⟨.hbm, 96, rfl⟩
abbrev main_cst_11 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_cst_13 : Ref sig .tc := ⟨.hbm, 102, rfl⟩
abbrev main_v68 : Ref sig .tc := ⟨.hbm, 103, rfl⟩
abbrev main_cst_14 : Ref sig .tc := ⟨.hbm, 104, rfl⟩
abbrev main_v69 : Ref sig .tc := ⟨.hbm, 105, rfl⟩
abbrev main_cst_15 : Ref sig .tc := ⟨.hbm, 106, rfl⟩
abbrev main_cst_16 : Ref sig .tc := ⟨.hbm, 107, rfl⟩
abbrev main_v70 : Ref sig .tc := ⟨.hbm, 108, rfl⟩
abbrev main_v71 : Ref sig .tc := ⟨.hbm, 109, rfl⟩
abbrev main_cst_17 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_18 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_19 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_20 : Ref sig .tc := ⟨.hbm, 128, rfl⟩
abbrev main_v87 : Ref sig .tc := ⟨.hbm, 129, rfl⟩
abbrev main_v88 : Ref sig .tc := ⟨.hbm, 130, rfl⟩
abbrev main_cst_21 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_22 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_cst_23 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_24 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_cst_25 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_26 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_27 : Ref sig .tc := ⟨.hbm, 177, rfl⟩
abbrev main_v126 : Ref sig .tc := ⟨.hbm, 178, rfl⟩
abbrev main_v127 : Ref sig .tc := ⟨.hbm, 179, rfl⟩
abbrev main_cst_28 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_cst_29 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩

abbrev nD : Nat := 1
abbrev τ : Topo := Topo.v7x

variable {F : FTy → Type} [FloatOps F]
-- ==== KernelMix.lean ====
abbrev S2048x1024 : Shape := ⟨2, ![2048, 1024]⟩
abbrev S8x6144 : Shape := ⟨2, ![8, 6144]⟩
abbrev S1x1024 : Shape := ⟨2, ![1, 1024]⟩
abbrev S1536x1024 : Shape := ⟨2, ![1536, 1024]⟩
abbrev S32x512 : Shape := ⟨2, ![32, 512]⟩
abbrev S1x512 : Shape := ⟨2, ![1, 512]⟩
abbrev S512x512 : Shape := ⟨2, ![512, 512]⟩
abbrev S4x128x128 : Shape := ⟨3, ![4, 128, 128]⟩
abbrev S1024x1024 : Shape := ⟨2, ![1024, 1024]⟩
abbrev S1x6144 : Shape := ⟨2, ![1, 6144]⟩
abbrev S1024x1536 : Shape := ⟨2, ![1024, 1536]⟩
abbrev S_ : Shape := ⟨0, ![]⟩
abbrev S2048x1536 : Shape := ⟨2, ![2048, 1536]⟩
abbrev S31x512 : Shape := ⟨2, ![31, 512]⟩
abbrev S2048 : Shape := ⟨1, ![2048]⟩
abbrev S2048x1 : Shape := ⟨2, ![2048, 1]⟩
abbrev S2048x512 : Shape := ⟨2, ![2048, 512]⟩
abbrev S31x2048x2048x1 : Shape := ⟨4, ![31, 2048, 2048, 1]⟩
abbrev S31x2048x2048x512 : Shape := ⟨4, ![31, 2048, 2048, 512]⟩
abbrev S31x2048x512 : Shape := ⟨3, ![31, 2048, 512]⟩
abbrev S31x1x512 : Shape := ⟨3, ![31, 1, 512]⟩
abbrev S2048x128 : Shape := ⟨2, ![2048, 128]⟩
abbrev S2048x2048x1 : Shape := ⟨3, ![2048, 2048, 1]⟩
abbrev S2048x2048x128 : Shape := ⟨3, ![2048, 2048, 128]⟩
abbrev S1x128x128 : Shape := ⟨3, ![1, 128, 128]⟩
abbrev S128x128 : Shape := ⟨2, ![128, 128]⟩
abbrev S1024x2048 : Shape := ⟨2, ![1024, 2048]⟩
abbrev S4x256x2048 : Shape := ⟨3, ![4, 256, 2048]⟩
abbrev S512x2048 : Shape := ⟨2, ![512, 2048]⟩
abbrev S2x256x2048 : Shape := ⟨3, ![2, 256, 2048]⟩
abbrev S6x256x2048 : Shape := ⟨3, ![6, 256, 2048]⟩
abbrev S8x1024 : Shape := ⟨2, ![8, 1024]⟩
abbrev S512x128 : Shape := ⟨2, ![512, 128]⟩
abbrev S256x1024 : Shape := ⟨2, ![256, 1024]⟩
abbrev S256x512 : Shape := ⟨2, ![256, 512]⟩
abbrev S4x256x256 : Shape := ⟨3, ![4, 256, 256]⟩
abbrev S2x256x256 : Shape := ⟨3, ![2, 256, 256]⟩
abbrev S6x256x256 : Shape := ⟨3, ![6, 256, 256]⟩
abbrev S288x512 : Shape := ⟨2, ![288, 512]⟩
abbrev S272x512 : Shape := ⟨2, ![272, 512]⟩
abbrev S256x1536 : Shape := ⟨2, ![256, 1536]⟩
abbrev S7x280x512 : Shape := ⟨3, ![7, 280, 512]⟩
abbrev S16x512 : Shape := ⟨2, ![16, 512]⟩
abbrev S1024 : Shape := ⟨1, ![1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S512 : Shape := ⟨1, ![512]⟩
abbrev S280x512 : Shape := ⟨2, ![280, 512]⟩
abbrev S1x280x512 : Shape := ⟨3, ![1, 280, 512]⟩
abbrev S1x256x512 : Shape := ⟨3, ![1, 256, 512]⟩
abbrev S256x128 : Shape := ⟨2, ![256, 128]⟩
abbrev S1x128 : Shape := ⟨2, ![1, 128]⟩
abbrev S128 : Shape := ⟨1, ![128]⟩

abbrev nBuf : Space → Nat
  | .hbm => 271
  | .vmem => 47
  | .smem => 0
  | _ => 0

abbrev hbmTy0_0 (i : Nat) : BufTy := match i % 128 with
  | 0 => ⟨S2048x1024, .f32⟩
  | 1 => ⟨S2048x1024, .f32⟩
  | 2 => ⟨S8x6144, .f32⟩
  | 3 => ⟨S1x1024, .f32⟩
  | 4 => ⟨S1536x1024, .bf16⟩
  | 5 => ⟨S32x512, .f32⟩
  | 6 => ⟨S1x512, .f32⟩
  | 7 => ⟨S1x512, .f32⟩
  | 8 => ⟨S1x512, .f32⟩
  | 9 => ⟨S512x512, .bf16⟩
  | 10 => ⟨S4x128x128, .f32⟩
  | 11 => ⟨S1x512, .f32⟩
  | 12 => ⟨S1024x1024, .bf16⟩
  | 13 => ⟨S1x6144, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1536x1024, .f32⟩
  | 21 => ⟨S1024x1536, .f32⟩
  | 22 => ⟨S512x512, .f32⟩
  | 23 => ⟨S1024x1024, .f32⟩
  | 24 => ⟨S_, .f32⟩
  | 25 => ⟨S2048x1536, .f32⟩
  | 26 => ⟨S31x512, .f32⟩
  | 27 => ⟨S2048x1024, .f32⟩
  | 28 => ⟨S_, .f32⟩
  | 29 => ⟨S2048, .f32⟩
  | 30 => ⟨S2048x1, .f32⟩
  | 31 => ⟨S_, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x1, .f32⟩
  | 38 => ⟨S2048x1024, .f32⟩
  | 39 => ⟨S2048x1024, .f32⟩
  | 40 => ⟨S2048x1024, .f32⟩
  | 41 => ⟨S2048x1024, .f32⟩
  | 42 => ⟨S_, .f32⟩
  | 43 => ⟨S1x1024, .f32⟩
  | 44 => ⟨S1x1024, .f32⟩
  | 45 => ⟨S2048x1024, .f32⟩
  | 46 => ⟨S2048x1024, .f32⟩
  | 47 => ⟨S2048x1024, .f32⟩
  | 48 => ⟨S2048x1024, .f32⟩
  | 49 => ⟨S2048x1536, .f32⟩
  | 50 => ⟨S2048x1536, .f32⟩
  | 51 => ⟨S2048x512, .f32⟩
  | 52 => ⟨S2048x512, .f32⟩
  | 53 => ⟨S2048x512, .f32⟩
  | 54 => ⟨S2048x512, .f32⟩
  | 55 => ⟨S2048x512, .f32⟩
  | 56 => ⟨S_, .f32⟩
  | 57 => ⟨S2048x512, .f32⟩
  | 58 => ⟨S2048x512, .f32⟩
  | 59 => ⟨S_, .f32⟩
  | 60 => ⟨S2048x512, .f32⟩
  | 61 => ⟨S2048x512, .f32⟩
  | 62 => ⟨S2048x512, .f32⟩
  | 63 => ⟨S31x2048x2048x1, .i32⟩
  | 64 => ⟨S31x2048x2048x1, .i32⟩
  | 65 => ⟨S31x2048x2048x1, .i32⟩
  | 66 => ⟨S_, .i32⟩
  | 67 => ⟨S31x2048x2048x1, .i32⟩
  | 68 => ⟨S31x2048x2048x1, .i32⟩
  | 69 => ⟨S31x2048x2048x1, .i32⟩
  | 70 => ⟨S31x2048x2048x1, .i1⟩
  | 71 => ⟨S_, .f32⟩
  | 72 => ⟨S_, .f32⟩
  | 73 => ⟨S31x2048x2048x512, .i1⟩
  | 74 => ⟨S31x2048x2048x512, .f32⟩
  | 75 => ⟨S31x2048x2048x512, .f32⟩
  | 76 => ⟨S31x2048x2048x512, .f32⟩
  | 77 => ⟨S_, .f32⟩
  | 78 => ⟨S31x2048x512, .f32⟩
  | 79 => ⟨S31x1x512, .f32⟩
  | 80 => ⟨S31x2048x512, .f32⟩
  | 81 => ⟨S31x2048x512, .f32⟩
  | 82 => ⟨S_, .f32⟩
  | 83 => ⟨S2048x512, .f32⟩
  | 84 => ⟨S2048x512, .f32⟩
  | 85 => ⟨S2048x512, .f32⟩
  | 86 => ⟨S_, .f32⟩
  | 87 => ⟨S2048, .f32⟩
  | 88 => ⟨S2048x1, .f32⟩
  | 89 => ⟨S_, .f32⟩
  | 90 => ⟨S2048x1, .f32⟩
  | 91 => ⟨S2048x1, .f32⟩
  | 92 => ⟨S2048x512, .f32⟩
  | 93 => ⟨S2048x512, .f32⟩
  | 94 => ⟨S2048x512, .f32⟩
  | 95 => ⟨S_, .f32⟩
  | 96 => ⟨S2048, .f32⟩
  | 97 => ⟨S2048x1, .f32⟩
  | 98 => ⟨S_, .f32⟩
  | 99 => ⟨S2048x1, .f32⟩
  | 100 => ⟨S2048x1, .f32⟩
  | 101 => ⟨S2048x512, .f32⟩
  | 102 => ⟨S2048x512, .f32⟩
  | 103 => ⟨S_, .f32⟩
  | 104 => ⟨S2048x1, .f32⟩
  | 105 => ⟨S2048x1, .f32⟩
  | 106 => ⟨S2048x1, .f32⟩
  | 107 => ⟨S2048x512, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S2048x512, .f32⟩
  | 115 => ⟨S_, .f32⟩
  | 116 => ⟨S2048x512, .f32⟩
  | 117 => ⟨S2048x512, .f32⟩
  | 118 => ⟨S_, .f32⟩
  | 119 => ⟨S2048x512, .f32⟩
  | 120 => ⟨S2048x512, .f32⟩
  | 121 => ⟨S2048x512, .f32⟩
  | 122 => ⟨S2048x128, .f32⟩
  | 123 => ⟨S2048x128, .f32⟩
  | 124 => ⟨S2048x128, .f32⟩
  | 125 => ⟨S2048x128, .f32⟩
  | 126 => ⟨S2048x2048x1, .i32⟩
  | 127 => ⟨S2048x2048x1, .i32⟩
  | _ => ⟨S2048x1024, .f32⟩

abbrev hbmTy0_1 (i : Nat) : BufTy := match i % 128 with
  | 0 => ⟨S2048x1, .i32⟩
  | 1 => ⟨S_, .i32⟩
  | 2 => ⟨S2048x1, .i32⟩
  | 3 => ⟨S2048x1, .i32⟩
  | 4 => ⟨S_, .i32⟩
  | 5 => ⟨S2048x1, .i32⟩
  | 6 => ⟨S2048x1, .i32⟩
  | 7 => ⟨S2048x1, .f32⟩
  | 8 => ⟨S2048x2048x1, .i1⟩
  | 9 => ⟨S_, .i32⟩
  | 10 => ⟨S2048x2048x1, .i32⟩
  | 11 => ⟨S2048x2048x1, .i32⟩
  | 12 => ⟨S2048x2048x1, .i1⟩
  | 13 => ⟨S2048x2048x1, .i1⟩
  | 14 => ⟨S_, .f32⟩
  | 15 => ⟨S_, .f32⟩
  | 16 => ⟨S2048x2048x128, .i1⟩
  | 17 => ⟨S2048x2048x128, .f32⟩
  | 18 => ⟨S2048x2048x128, .f32⟩
  | 19 => ⟨S2048x2048x128, .f32⟩
  | 20 => ⟨S_, .f32⟩
  | 21 => ⟨S2048x128, .f32⟩
  | 22 => ⟨S2048x128, .f32⟩
  | 23 => ⟨S2048x128, .f32⟩
  | 24 => ⟨S2048x128, .f32⟩
  | 25 => ⟨S2048x2048x1, .i32⟩
  | 26 => ⟨S2048x2048x1, .i32⟩
  | 27 => ⟨S2048x1, .i32⟩
  | 28 => ⟨S_, .i32⟩
  | 29 => ⟨S2048x1, .i32⟩
  | 30 => ⟨S2048x1, .i32⟩
  | 31 => ⟨S_, .i32⟩
  | 32 => ⟨S2048x1, .i32⟩
  | 33 => ⟨S2048x1, .i32⟩
  | 34 => ⟨S2048x1, .f32⟩
  | 35 => ⟨S2048x2048x1, .i1⟩
  | 36 => ⟨S_, .i32⟩
  | 37 => ⟨S2048x2048x1, .i32⟩
  | 38 => ⟨S2048x2048x1, .i32⟩
  | 39 => ⟨S2048x2048x1, .i1⟩
  | 40 => ⟨S2048x2048x1, .i1⟩
  | 41 => ⟨S_, .f32⟩
  | 42 => ⟨S_, .f32⟩
  | 43 => ⟨S2048x2048x128, .i1⟩
  | 44 => ⟨S2048x2048x128, .f32⟩
  | 45 => ⟨S2048x2048x128, .f32⟩
  | 46 => ⟨S2048x2048x128, .f32⟩
  | 47 => ⟨S_, .f32⟩
  | 48 => ⟨S2048x128, .f32⟩
  | 49 => ⟨S2048x128, .f32⟩
  | 50 => ⟨S2048x128, .f32⟩
  | 51 => ⟨S2048x128, .f32⟩
  | 52 => ⟨S2048x2048x1, .i32⟩
  | 53 => ⟨S2048x2048x1, .i32⟩
  | 54 => ⟨S2048x1, .i32⟩
  | 55 => ⟨S_, .i32⟩
  | 56 => ⟨S2048x1, .i32⟩
  | 57 => ⟨S2048x1, .i32⟩
  | 58 => ⟨S_, .i32⟩
  | 59 => ⟨S2048x1, .i32⟩
  | 60 => ⟨S2048x1, .i32⟩
  | 61 => ⟨S2048x1, .f32⟩
  | 62 => ⟨S2048x2048x1, .i1⟩
  | 63 => ⟨S_, .i32⟩
  | 64 => ⟨S2048x2048x1, .i32⟩
  | 65 => ⟨S2048x2048x1, .i32⟩
  | 66 => ⟨S2048x2048x1, .i1⟩
  | 67 => ⟨S2048x2048x1, .i1⟩
  | 68 => ⟨S_, .f32⟩
  | 69 => ⟨S_, .f32⟩
  | 70 => ⟨S2048x2048x128, .i1⟩
  | 71 => ⟨S2048x2048x128, .f32⟩
  | 72 => ⟨S2048x2048x128, .f32⟩
  | 73 => ⟨S2048x2048x128, .f32⟩
  | 74 => ⟨S_, .f32⟩
  | 75 => ⟨S2048x128, .f32⟩
  | 76 => ⟨S2048x128, .f32⟩
  | 77 => ⟨S2048x128, .f32⟩
  | 78 => ⟨S2048x128, .f32⟩
  | 79 => ⟨S2048x2048x1, .i32⟩
  | 80 => ⟨S2048x2048x1, .i32⟩
  | 81 => ⟨S2048x1, .i32⟩
  | 82 => ⟨S_, .i32⟩
  | 83 => ⟨S2048x1, .i32⟩
  | 84 => ⟨S2048x1, .i32⟩
  | 85 => ⟨S_, .i32⟩
  | 86 => ⟨S2048x1, .i32⟩
  | 87 => ⟨S2048x1, .i32⟩
  | 88 => ⟨S2048x1, .f32⟩
  | 89 => ⟨S2048x2048x1, .i1⟩
  | 90 => ⟨S_, .i32⟩
  | 91 => ⟨S2048x2048x1, .i32⟩
  | 92 => ⟨S2048x2048x1, .i32⟩
  | 93 => ⟨S2048x2048x1, .i1⟩
  | 94 => ⟨S2048x2048x1, .i1⟩
  | 95 => ⟨S_, .f32⟩
  | 96 => ⟨S_, .f32⟩
  | 97 => ⟨S2048x2048x128, .i1⟩
  | 98 => ⟨S2048x2048x128, .f32⟩
  | 99 => ⟨S2048x2048x128, .f32⟩
  | 100 => ⟨S2048x2048x128, .f32⟩
  | 101 => ⟨S_, .f32⟩
  | 102 => ⟨S2048x128, .f32⟩
  | 103 => ⟨S2048x128, .f32⟩
  | 104 => ⟨S2048x128, .f32⟩
  | 105 => ⟨S2048x128, .f32⟩
  | 106 => ⟨S1x128x128, .f32⟩
  | 107 => ⟨S128x128, .f32⟩
  | 108 => ⟨S2048x128, .f32⟩
  | 109 => ⟨S1x128x128, .f32⟩
  | 110 => ⟨S128x128, .f32⟩
  | 111 => ⟨S2048x128, .f32⟩
  | 112 => ⟨S1x128x128, .f32⟩
  | 113 => ⟨S128x128, .f32⟩
  | 114 => ⟨S2048x128, .f32⟩
  | 115 => ⟨S1x128x128, .f32⟩
  | 116 => ⟨S128x128, .f32⟩
  | 117 => ⟨S2048x128, .f32⟩
  | 118 => ⟨S2048x512, .f32⟩
  | 119 => ⟨S2048x512, .f32⟩
  | 120 => ⟨S2048x512, .f32⟩
  | 121 => ⟨S2048x512, .f32⟩
  | 122 => ⟨S2048x1024, .f32⟩
  | 123 => ⟨S2048x1024, .f32⟩
  | 124 => ⟨S2048x1024, .f32⟩
  | 125 => ⟨S2048x1024, .f32⟩
  | 126 => ⟨S2048x1024, .f32⟩
  | 127 => ⟨S2048x512, .f32⟩
  | _ => ⟨S2048x1024, .f32⟩

abbrev hbmTy0_2 (i : Nat) : BufTy := match i % 128 with
  | 0 => ⟨S2048x512, .bf16⟩
  | 1 => ⟨S2048x512, .bf16⟩
  | 2 => ⟨S2048x1024, .bf16⟩
  | 3 => ⟨S2048x1024, .f32⟩
  | 4 => ⟨S1024x2048, .bf16⟩
  | 5 => ⟨S4x256x2048, .bf16⟩
  | 6 => ⟨S512x2048, .bf16⟩
  | 7 => ⟨S2x256x2048, .bf16⟩
  | 8 => ⟨S2048x1024, .f32⟩
  | 9 => ⟨S6x256x2048, .bf16⟩
  | 10 => ⟨S8x1024, .f32⟩
  | 11 => ⟨S32x512, .f32⟩
  | 12 => ⟨S512x128, .f32⟩
  | 13 => ⟨S1024x1024, .bf16⟩
  | 14 => ⟨S512x512, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x512, .f32⟩
  | .local _ .vmem, ⟨9, _⟩ => ⟨S256x512, .f32⟩
  | .local _ .vmem, ⟨10, _⟩ => ⟨S32x512, .f32⟩
  | .local _ .vmem, ⟨11, _⟩ => ⟨S32x512, .f32⟩
  | .local _ .vmem, ⟨12, _⟩ => ⟨S256x512, .f32⟩
  | .local _ .vmem, ⟨13, _⟩ => ⟨S256x512, .f32⟩
  | .local _ .vmem, ⟨14, _⟩ => ⟨S256x512, .bf16⟩
  | .local _ .vmem, ⟨15, _⟩ => ⟨S256x512, .bf16⟩
  | .local _ .vmem, ⟨16, _⟩ => ⟨S8x6144, .f32⟩
  | .local _ .vmem, ⟨17, _⟩ => ⟨S1x1024, .f32⟩
  | .local _ .vmem, ⟨18, _⟩ => ⟨S1536x1024, .bf16⟩
  | .local _ .vmem, ⟨19, _⟩ => ⟨S32x512, .f32⟩
  | .local _ .vmem, ⟨20, _⟩ => ⟨S1x512, .f32⟩
  | .local _ .vmem, ⟨21, _⟩ => ⟨S1x512, .f32⟩
  | .local _ .vmem, ⟨22, _⟩ => ⟨S512x512, .bf16⟩
  | .local _ .vmem, ⟨23, _⟩ => ⟨S4x128x128, .f32⟩
  | .local _ .vmem, ⟨24, _⟩ => ⟨S1x512, .f32⟩
  | .local _ .vmem, ⟨25, _⟩ => ⟨S1024x1024, .bf16⟩
  | .local _ .vmem, ⟨26, _⟩ => ⟨S4x256x256, .bf16⟩
  | .local _ .vmem, ⟨27, _⟩ => ⟨S4x256x256, .bf16⟩
  | .local _ .vmem, ⟨28, _⟩ => ⟨S2x256x256, .bf16⟩
  | .local _ .vmem, ⟨29, _⟩ => ⟨S2x256x256, .bf16⟩
  | .local _ .vmem, ⟨30, _⟩ => ⟨S256x1024, .f32⟩
  | .local _ .vmem, ⟨31, _⟩ => ⟨S256x1024, .f32⟩
  | .local _ .vmem, ⟨32, _⟩ => ⟨S6x256x256, .bf16⟩
  | .local _ .vmem, ⟨33, _⟩ => ⟨S6x256x256, .bf16⟩
  | .local _ .vmem, ⟨34, _⟩ => ⟨S8x1024, .f32⟩
  | .local _ .vmem, ⟨35, _⟩ => ⟨S32x512, .f32⟩
  | .local _ .vmem, ⟨36, _⟩ => ⟨S512x128, .f32⟩
  | .local _ .vmem, ⟨37, _⟩ => ⟨S1024x1024, .bf16⟩
  | .local _ .vmem, ⟨38, _⟩ => ⟨S512x512, .bf16⟩
  | .local _ .vmem, ⟨39, _⟩ => ⟨S288x512, .f32⟩
  | .local _ .vmem, ⟨40, _⟩ => ⟨S272x512, .f32⟩
  | .local _ .vmem, ⟨41, _⟩ => ⟨S288x512, .f32⟩
  | .local _ .vmem, ⟨42, _⟩ => ⟨S256x1536, .bf16⟩
  | .local _ .vmem, ⟨43, _⟩ => ⟨S7x280x512, .f32⟩
  | .local _ .vmem, ⟨44, _⟩ => ⟨S7x280x512, .f32⟩
  | .local _ .vmem, ⟨45, _⟩ => ⟨S1024x1024, .f32⟩
  | .local _ .vmem, ⟨46, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_6 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_v50 : Ref sig .tc := ⟨.hbm, 76, rfl⟩
abbrev main_cst_7 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_8 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_cst_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_11 : Ref sig .tc := ⟨.hbm, 95, rfl⟩
abbrev main_v65 : Ref sig .tc := ⟨.hbm, 96, rfl⟩
abbrev main_v66 : Ref sig .tc := ⟨.hbm, 97, rfl⟩
abbrev main_cst_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_call1_v0 : Ref sig .tc := ⟨.hbm, 113, rfl⟩
abbrev main_call1_v1 : Ref sig .tc := ⟨.hbm, 114, rfl⟩
abbrev main_call1_cst : Ref sig .tc := ⟨.hbm, 115, rfl⟩
abbrev main_call1_v2 : Ref sig .tc := ⟨.hbm, 116, rfl⟩
abbrev main_call1_v3 : Ref sig .tc := ⟨.hbm, 117, rfl⟩
abbrev main_call1_cst_0 : Ref sig .tc := ⟨.hbm, 118, rfl⟩
abbrev main_call1_v4 : Ref sig .tc := ⟨.hbm, 119, rfl⟩
abbrev main_call1_v5 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_c_14 : Ref sig .tc := ⟨.hbm, 129, rfl⟩
abbrev main_v88 : Ref sig .tc := ⟨.hbm, 130, rfl⟩
abbrev main_v89 : Ref sig .tc := ⟨.hbm, 131, rfl⟩
abbrev main_c_15 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_16 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_17 : Ref sig .tc := ⟨.hbm, 142, rfl⟩
abbrev main_call2_v0 : Ref sig .tc := ⟨.hbm, 143, rfl⟩
abbrev main_call2_v1 : Ref sig .tc := ⟨.hbm, 144, rfl⟩
abbrev main_call2_v2 : Ref sig .tc := ⟨.hbm, 145, rfl⟩
abbrev main_call2_v3 : Ref sig .tc := ⟨.hbm, 146, rfl⟩
abbrev main_v98 : Ref sig .tc := ⟨.hbm, 147, rfl⟩
abbrev main_cst_18 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_19 : Ref sig .tc := ⟨.hbm, 156, rfl⟩
abbrev main_v106 : Ref sig .tc := ⟨.hbm, 157, rfl⟩
abbrev main_v107 : Ref sig .tc := ⟨.hbm, 158, rfl⟩
abbrev main_c_20 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_c_21 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_cst_22 : Ref sig .tc := ⟨.hbm, 169, rfl⟩
abbrev main_call3_v0 : Ref sig .tc := ⟨.hbm, 170, rfl⟩
abbrev main_call3_v1 : Ref sig .tc := ⟨.hbm, 171, rfl⟩
abbrev main_call3_v2 : Ref sig .tc := ⟨.hbm, 172, rfl⟩
abbrev main_call3_v3 : Ref sig .tc := ⟨.hbm, 173, rfl⟩
abbrev main_v116 : Ref sig .tc := ⟨.hbm, 174, rfl⟩
abbrev main_cst_23 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_c_24 : Ref sig .tc := ⟨.hbm, 183, rfl⟩
abbrev main_v124 : Ref sig .tc := ⟨.hbm, 184, rfl⟩
abbrev main_v125 : Ref sig .tc := ⟨.hbm, 185, rfl⟩
abbrev main_c_25 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_c_26 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_cst_27 : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_v134 : Ref sig .tc := ⟨.hbm, 201, rfl⟩
abbrev main_cst_28 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_c_29 : Ref sig .tc := ⟨.hbm, 210, rfl⟩
abbrev main_v142 : Ref sig .tc := ⟨.hbm, 211, rfl⟩
abbrev main_v143 : Ref sig .tc := ⟨.hbm, 212, rfl⟩
abbrev main_c_30 : Ref sig .tc := ⟨.hbm, 213, rfl⟩
abbrev main_v144 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_c_31 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_cst_32 : Ref sig .tc := ⟨.hbm, 223, rfl⟩
abbrev main_call5_v0 : Ref sig .tc := ⟨.hbm, 224, rfl⟩
abbrev main_call5_v1 : Ref sig .tc := ⟨.hbm, 225, rfl⟩
abbrev main_call5_v2 : Ref sig .tc := ⟨.hbm, 226, rfl⟩
abbrev main_call5_v3 : Ref sig .tc := ⟨.hbm, 227, rfl⟩
abbrev main_v152 : Ref sig .tc := ⟨.hbm, 228, rfl⟩
abbrev main_cst_33 : Ref sig .tc := ⟨.hbm, 229, rfl⟩
abbrev main_v153 : Ref sig .tc := ⟨.hbm, 230, rfl⟩
abbrev main_v154 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187_0 : Ref sig .tc := ⟨.hbm, 264, rfl⟩
abbrev main_v187_1 : Ref sig .tc := ⟨.hbm, 265, rfl⟩
abbrev main_v187_2 : Ref sig .tc := ⟨.hbm, 266, rfl⟩
abbrev main_v187_3 : Ref sig .tc := ⟨.hbm, 267, rfl⟩
abbrev main_v187_4 : Ref sig .tc := ⟨.hbm, 268, rfl⟩
abbrev main_v187_5 : Ref sig .tc := ⟨.hbm, 269, rfl⟩
abbrev main_v187_6 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_scratch5 : Ref sig .tc := ⟨.vmem, 44, rfl⟩
abbrev cc0_scratch6 : Ref sig .tc := ⟨.vmem, 45, rfl⟩
abbrev cc0_scratch7 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_761 : BitVec 32 := 7#32
  let v1009 : BitVec 1 := Scalar.cmpi .eq arg0 c7_i32_761
  let v1010 : BitVec 32 := Scalar.extui v1009
  let c0_i32_762 : BitVec 32 := 0#32
  let v1011 : BitVec 1 := Scalar.cmpi .ne v1010 c0_i32_762
  v1011

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, c0_i32_0.toNat, v0.toNat]

def cc0_transform_19 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, c0_i32_0.toNat, v0.toNat]

def cc0_transform_20 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_21 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, c0_i32_0.toNat, v0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x6144 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S4x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S6x256x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S32x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1024x1024 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S512x512 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== ReferenceMixIdeal.lean ====
abbrev S2048x1024 : Shape := ⟨2, ![2048, 1024]⟩
abbrev S8x6144 : Shape := ⟨2, ![8, 6144]⟩
abbrev S1x1024 : Shape := ⟨2, ![1, 1024]⟩
abbrev S1536x1024 : Shape := ⟨2, ![1536, 1024]⟩
abbrev S32x512 : Shape := ⟨2, ![32, 512]⟩
abbrev S1x512 : Shape := ⟨2, ![1, 512]⟩
abbrev S512x512 : Shape := ⟨2, ![512, 512]⟩
abbrev S4x128x128 : Shape := ⟨3, ![4, 128, 128]⟩
abbrev S1024x1024 : Shape := ⟨2, ![1024, 1024]⟩
abbrev S1x6144 : Shape := ⟨2, ![1, 6144]⟩
abbrev S1024x1536 : Shape := ⟨2, ![1024, 1536]⟩
abbrev S_ : Shape := ⟨0, ![]⟩
abbrev S2048x1536 : Shape := ⟨2, ![2048, 1536]⟩
abbrev S31x512 : Shape := ⟨2, ![31, 512]⟩
abbrev S2048 : Shape := ⟨1, ![2048]⟩
abbrev S2048x1 : Shape := ⟨2, ![2048, 1]⟩
abbrev S2048x512 : Shape := ⟨2, ![2048, 512]⟩
abbrev S31x2048x2048x1 : Shape := ⟨4, ![31, 2048, 2048, 1]⟩
abbrev S31x2048x2048x512 : Shape := ⟨4, ![31, 2048, 2048, 512]⟩
abbrev S31x2048x512 : Shape := ⟨3, ![31, 2048, 512]⟩
abbrev S31x1x512 : Shape := ⟨3, ![31, 1, 512]⟩
abbrev S2048x128 : Shape := ⟨2, ![2048, 128]⟩
abbrev S2048x2048x1 : Shape := ⟨3, ![2048, 2048, 1]⟩
abbrev S2048x2048x128 : Shape := ⟨3, ![2048, 2048, 128]⟩
abbrev S1x128x128 : Shape := ⟨3, ![1, 128, 128]⟩
abbrev S128x128 : Shape := ⟨2, ![128, 128]⟩
abbrev S1024 : Shape := ⟨1, ![1024]⟩
abbrev S512 : Shape := ⟨1, ![512]⟩
abbrev S2x1024 : Shape := ⟨2, ![2, 1024]⟩
abbrev S8x1024 : Shape := ⟨2, ![8, 1024]⟩
abbrev S1536x2048 : Shape := ⟨2, ![1536, 2048]⟩
abbrev S6x256x2048 : Shape := ⟨3, ![6, 256, 2048]⟩
abbrev S512x128 : Shape := ⟨2, ![512, 128]⟩

abbrev nBuf : Space → Nat
  | .hbm => 492
  | .vmem => 0
  | .smem => 0
  | _ => 0

abbrev hbmTy0_0 (i : Nat) : BufTy := match i % 128 with
  | 0 => ⟨S2048x1024, .f32⟩
  | 1 => ⟨S2048x1024, .f32⟩
  | 2 => ⟨S8x6144, .f32⟩
  | 3 => ⟨S1x1024, .f32⟩
  | 4 => ⟨S1536x1024, .bf16⟩
  | 5 => ⟨S32x512, .f32⟩
  | 6 => ⟨S1x512, .f32⟩
  | 7 => ⟨S1x512, .f32⟩
  | 8 => ⟨S1x512, .f32⟩
  | 9 => ⟨S512x512, .bf16⟩
  | 10 => ⟨S4x128x128, .f32⟩
  | 11 => ⟨S1x512, .f32⟩
  | 12 => ⟨S1024x1024, .bf16⟩
  | 13 => ⟨S1x6144, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1x1024, .f32⟩
  | 20 => ⟨S1536x1024, .f32⟩
  | 21 => ⟨S1024x1536, .f32⟩
  | 22 => ⟨S512x512, .f32⟩
  | 23 => ⟨S1024x1024, .f32⟩
  | 24 => ⟨S_, .f32⟩
  | 25 => ⟨S2048x1536, .f32⟩
  | 26 => ⟨S31x512, .f32⟩
  | 27 => ⟨S2048x1024, .f32⟩
  | 28 => ⟨S_, .f32⟩
  | 29 => ⟨S2048, .f32⟩
  | 30 => ⟨S2048x1, .f32⟩
  | 31 => ⟨S_, .f32⟩
  | 32 => ⟨S2048x1, .f32⟩
  | 33 => ⟨S2048x1, .f32⟩
  | 34 => ⟨S_, .f32⟩
  | 35 => ⟨S2048x1, .f32⟩
  | 36 => ⟨S2048x1, .f32⟩
  | 37 => ⟨S2048x1, .f32⟩
  | 38 => ⟨S2048x1, .f32⟩
  | 39 => ⟨S_, .f32⟩
  | 40 => ⟨S2048x1, .f32⟩
  | 41 => ⟨S2048x1, .f32⟩
  | 42 => ⟨S2048x1024, .f32⟩
  | 43 => ⟨S2048x1024, .f32⟩
  | 44 => ⟨S2048x1024, .f32⟩
  | 45 => ⟨S2048x1024, .f32⟩
  | 46 => ⟨S_, .f32⟩
  | 47 => ⟨S1x1024, .f32⟩
  | 48 => ⟨S1x1024, .f32⟩
  | 49 => ⟨S2048x1024, .f32⟩
  | 50 => ⟨S2048x1024, .f32⟩
  | 51 => ⟨S2048x1024, .f32⟩
  | 52 => ⟨S2048x1024, .f32⟩
  | 53 => ⟨S2048x1536, .f32⟩
  | 54 => ⟨S2048x1536, .f32⟩
  | 55 => ⟨S2048x512, .f32⟩
  | 56 => ⟨S2048x512, .f32⟩
  | 57 => ⟨S2048x512, .f32⟩
  | 58 => ⟨S2048x512, .f32⟩
  | 59 => ⟨S2048x512, .f32⟩
  | 60 => ⟨S_, .f32⟩
  | 61 => ⟨S2048x512, .f32⟩
  | 62 => ⟨S2048x512, .f32⟩
  | 63 => ⟨S_, .f32⟩
  | 64 => ⟨S2048x512, .f32⟩
  | 65 => ⟨S2048x512, .f32⟩
  | 66 => ⟨S_, .f32⟩
  | 67 => ⟨S2048x512, .f32⟩
  | 68 => ⟨S2048x512, .f32⟩
  | 69 => ⟨S2048x512, .f32⟩
  | 70 => ⟨S2048x512, .f32⟩
  | 71 => ⟨S31x2048x2048x1, .i32⟩
  | 72 => ⟨S31x2048x2048x1, .i32⟩
  | 73 => ⟨S31x2048x2048x1, .i32⟩
  | 74 => ⟨S_, .i32⟩
  | 75 => ⟨S31x2048x2048x1, .i32⟩
  | 76 => ⟨S31x2048x2048x1, .i32⟩
  | 77 => ⟨S31x2048x2048x1, .i32⟩
  | 78 => ⟨S31x2048x2048x1, .i1⟩
  | 79 => ⟨S_, .f32⟩
  | 80 => ⟨S_, .f32⟩
  | 81 => ⟨S31x2048x2048x512, .i1⟩
  | 82 => ⟨S31x2048x2048x512, .f32⟩
  | 83 => ⟨S31x2048x2048x512, .f32⟩
  | 84 => ⟨S31x2048x2048x512, .f32⟩
  | 85 => ⟨S_, .f32⟩
  | 86 => ⟨S31x2048x2048x512, .f32⟩
  | 87 => ⟨S_, .f32⟩
  | 88 => ⟨S31x2048x512, .f32⟩
  | 89 => ⟨S31x1x512, .f32⟩
  | 90 => ⟨S31x2048x512, .f32⟩
  | 91 => ⟨S31x2048x512, .f32⟩
  | 92 => ⟨S_, .f32⟩
  | 93 => ⟨S2048x512, .f32⟩
  | 94 => ⟨S2048x512, .f32⟩
  | 95 => ⟨S2048x512, .f32⟩
  | 96 => ⟨S_, .f32⟩
  | 97 => ⟨S2048, .f32⟩
  | 98 => ⟨S2048x1, .f32⟩
  | 99 => ⟨S_, .f32⟩
  | 100 => ⟨S2048x1, .f32⟩
  | 101 => ⟨S2048x1, .f32⟩
  | 102 => ⟨S2048x512, .f32⟩
  | 103 => ⟨S2048x512, .f32⟩
  | 104 => ⟨S2048x512, .f32⟩
  | 105 => ⟨S_, .f32⟩
  | 106 => ⟨S2048x512, .f32⟩
  | 107 => ⟨S2048x512, .f32⟩
  | 108 => ⟨S_, .f32⟩
  | 109 => ⟨S2048, .f32⟩
  | 110 => ⟨S2048x1, .f32⟩
  | 111 => ⟨S_, .f32⟩
  | 112 => ⟨S2048x1, .f32⟩
  | 113 => ⟨S2048x1, .f32⟩
  | 114 => ⟨S2048x512, .f32⟩
  | 115 => ⟨S2048x512, .f32⟩
  | 116 => ⟨S_, .f32⟩
  | 117 => ⟨S2048x1, .f32⟩
  | 118 => ⟨S2048x1, .f32⟩
  | 119 => ⟨S2048x1, .f32⟩
  | 120 => ⟨S2048x1, .f32⟩
  | 121 => ⟨S_, .f32⟩
  | 122 => ⟨S2048x1, .f32⟩
  | 123 => ⟨S2048x1, .f32⟩
  | 124 => ⟨S2048x512, .f32⟩
  | 125 => ⟨S2048x512, .f32⟩
  | 126 => ⟨S2048x512, .f32⟩
  | 127 => ⟨S2048x512, .f32⟩
  | _ => ⟨S2048x1024, .f32⟩

abbrev hbmTy0_1 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S_, .f32⟩
  | 5 => ⟨S2048x512, .f32⟩
  | 6 => ⟨S2048x512, .f32⟩
  | 7 => ⟨S_, .f32⟩
  | 8 => ⟨S2048x512, .f32⟩
  | 9 => ⟨S2048x512, .f32⟩
  | 10 => ⟨S_, .f32⟩
  | 11 => ⟨S2048x512, .f32⟩
  | 12 => ⟨S2048x512, .f32⟩
  | 13 => ⟨S2048x512, .f32⟩
  | 14 => ⟨S2048x512, .f32⟩
  | 15 => ⟨S2048x128, .f32⟩
  | 16 => ⟨S2048x128, .f32⟩
  | 17 => ⟨S2048x128, .f32⟩
  | 18 => ⟨S2048x128, .f32⟩
  | 19 => ⟨S2048x2048x1, .i32⟩
  | 20 => ⟨S2048x2048x1, .i32⟩
  | 21 => ⟨S2048x1, .i32⟩
  | 22 => ⟨S_, .i32⟩
  | 23 => ⟨S2048x1, .i32⟩
  | 24 => ⟨S2048x1, .i32⟩
  | 25 => ⟨S_, .i32⟩
  | 26 => ⟨S2048x1, .i32⟩
  | 27 => ⟨S2048x1, .i32⟩
  | 28 => ⟨S2048x1, .f32⟩
  | 29 => ⟨S2048x2048x1, .i1⟩
  | 30 => ⟨S_, .i32⟩
  | 31 => ⟨S2048x2048x1, .i32⟩
  | 32 => ⟨S2048x2048x1, .i32⟩
  | 33 => ⟨S2048x2048x1, .i1⟩
  | 34 => ⟨S2048x2048x1, .i1⟩
  | 35 => ⟨S_, .f32⟩
  | 36 => ⟨S_, .f32⟩
  | 37 => ⟨S2048x2048x128, .i1⟩
  | 38 => ⟨S2048x2048x128, .f32⟩
  | 39 => ⟨S2048x2048x128, .f32⟩
  | 40 => ⟨S2048x2048x128, .f32⟩
  | 41 => ⟨S_, .f32⟩
  | 42 => ⟨S2048x2048x128, .f32⟩
  | 43 => ⟨S_, .f32⟩
  | 44 => ⟨S2048x128, .f32⟩
  | 45 => ⟨S2048x128, .f32⟩
  | 46 => ⟨S2048x128, .f32⟩
  | 47 => ⟨S2048x128, .f32⟩
  | 48 => ⟨S2048x2048x1, .i32⟩
  | 49 => ⟨S2048x2048x1, .i32⟩
  | 50 => ⟨S2048x1, .i32⟩
  | 51 => ⟨S_, .i32⟩
  | 52 => ⟨S2048x1, .i32⟩
  | 53 => ⟨S2048x1, .i32⟩
  | 54 => ⟨S_, .i32⟩
  | 55 => ⟨S2048x1, .i32⟩
  | 56 => ⟨S2048x1, .i32⟩
  | 57 => ⟨S2048x1, .f32⟩
  | 58 => ⟨S2048x2048x1, .i1⟩
  | 59 => ⟨S_, .i32⟩
  | 60 => ⟨S2048x2048x1, .i32⟩
  | 61 => ⟨S2048x2048x1, .i32⟩
  | 62 => ⟨S2048x2048x1, .i1⟩
  | 63 => ⟨S2048x2048x1, .i1⟩
  | 64 => ⟨S_, .f32⟩
  | 65 => ⟨S_, .f32⟩
  | 66 => ⟨S2048x2048x128, .i1⟩
  | 67 => ⟨S2048x2048x128, .f32⟩
  | 68 => ⟨S2048x2048x128, .f32⟩
  | 69 => ⟨S2048x2048x128, .f32⟩
  | 70 => ⟨S_, .f32⟩
  | 71 => ⟨S2048x2048x128, .f32⟩
  | 72 => ⟨S_, .f32⟩
  | 73 => ⟨S2048x128, .f32⟩
  | 74 => ⟨S2048x128, .f32⟩
  | 75 => ⟨S2048x128, .f32⟩
  | 76 => ⟨S2048x128, .f32⟩
  | 77 => ⟨S2048x2048x1, .i32⟩
  | 78 => ⟨S2048x2048x1, .i32⟩
  | 79 => ⟨S2048x1, .i32⟩
  | 80 => ⟨S_, .i32⟩
  | 81 => ⟨S2048x1, .i32⟩
  | 82 => ⟨S2048x1, .i32⟩
  | 83 => ⟨S_, .i32⟩
  | 84 => ⟨S2048x1, .i32⟩
  | 85 => ⟨S2048x1, .i32⟩
  | 86 => ⟨S2048x1, .f32⟩
  | 87 => ⟨S2048x2048x1, .i1⟩
  | 88 => ⟨S_, .i32⟩
  | 89 => ⟨S2048x2048x1, .i32⟩
  | 90 => ⟨S2048x2048x1, .i32⟩
  | 91 => ⟨S2048x2048x1, .i1⟩
  | 92 => ⟨S2048x2048x1, .i1⟩
  | 93 => ⟨S_, .f32⟩
  | 94 => ⟨S_, .f32⟩
  | 95 => ⟨S2048x2048x128, .i1⟩
  | 96 => ⟨S2048x2048x128, .f32⟩
  | 97 => ⟨S2048x2048x128, .f32⟩
  | 98 => ⟨S2048x2048x128, .f32⟩
  | 99 => ⟨S_, .f32⟩
  | 100 => ⟨S2048x2048x128, .f32⟩
  | 101 => ⟨S_, .f32⟩
  | 102 => ⟨S2048x128, .f32⟩
  | 103 => ⟨S2048x128, .f32⟩
  | 104 => ⟨S2048x128, .f32⟩
  | 105 => ⟨S2048x128, .f32⟩
  | 106 => ⟨S2048x2048x1, .i32⟩
  | 107 => ⟨S2048x2048x1, .i32⟩
  | 108 => ⟨S2048x1, .i32⟩
  | 109 => ⟨S_, .i32⟩
  | 110 => ⟨S2048x1, .i32⟩
  | 111 => ⟨S2048x1, .i32⟩
  | 112 => ⟨S_, .i32⟩
  | 113 => ⟨S2048x1, .i32⟩
  | 114 => ⟨S2048x1, .i32⟩
  | 115 => ⟨S2048x1, .f32⟩
  | 116 => ⟨S2048x2048x1, .i1⟩
  | 117 => ⟨S_, .i32⟩
  | 118 => ⟨S2048x2048x1, .i32⟩
  | 119 => ⟨S2048x2048x1, .i32⟩
  | 120 => ⟨S2048x2048x1, .i1⟩
  | 121 => ⟨S2048x2048x1, .i1⟩
  | 122 => ⟨S_, .f32⟩
  | 123 => ⟨S_, .f32⟩
  | 124 => ⟨S2048x2048x128, .i1⟩
  | 125 => ⟨S2048x2048x128, .f32⟩
  | 126 => ⟨S2048x2048x128, .f32⟩
  | 127 => ⟨S2048x2048x128, .f32⟩
  | _ => ⟨S2048x1024, .f32⟩

abbrev hbmTy0_2 (i : Nat) : BufTy := match i % 128 with
  | 0 => ⟨S_, .f32⟩
  | 1 => ⟨S2048x2048x128, .f32⟩
  | 2 => ⟨S_, .f32⟩
  | 3 => ⟨S2048x128, .f32⟩
  | 4 => ⟨S2048x128, .f32⟩
  | 5 => ⟨S2048x128, .f32⟩
  | 6 => ⟨S2048x128, .f32⟩
  | 7 => ⟨S1x128x128, .f32⟩
  | 8 => ⟨S128x128, .f32⟩
  | 9 => ⟨S2048x128, .f32⟩
  | 10 => ⟨S1x128x128, .f32⟩
  | 11 => ⟨S128x128, .f32⟩
  | 12 => ⟨S2048x128, .f32⟩
  | 13 => ⟨S1x128x128, .f32⟩
  | 14 => ⟨S128x128, .f32⟩
  | 15 => ⟨S2048x128, .f32⟩
  | 16 => ⟨S1x128x128, .f32⟩
  | 17 => ⟨S128x128, .f32⟩
  | 18 => ⟨S2048x128, .f32⟩
  | 19 => ⟨S2048x512, .f32⟩
  | 20 => ⟨S2048x512, .f32⟩
  | 21 => ⟨S2048x512, .f32⟩
  | 22 => ⟨S2048x512, .f32⟩
  | 23 => ⟨S2048x1024, .f32⟩
  | 24 => ⟨S2048x1024, .f32⟩
  | 25 => ⟨S2048x1024, .f32⟩
  | 26 => ⟨S2048x1024, .f32⟩
  | 27 => ⟨S2048x1024, .f32⟩
  | 28 => ⟨S2048x512, .f32⟩
  | 29 => ⟨S2048x1024, .f32⟩
  | 30 => ⟨S2048x1024, .f32⟩
  | 31 => ⟨S2048x1024, .f32⟩
  | 32 => ⟨S2048x1024, .f32⟩
  | 33 => ⟨S_, .f32⟩
  | 34 => ⟨S1024, .f32⟩
  | 35 => ⟨S1x1024, .f32⟩
  | 36 => ⟨S1024x1024, .f32⟩
  | 37 => ⟨S1024x1024, .f32⟩
  | 38 => ⟨S2048x1024, .f32⟩
  | 39 => ⟨S2048x512, .f32⟩
  | 40 => ⟨S2048x512, .f32⟩
  | 41 => ⟨S512x512, .f32⟩
  | 42 => ⟨S512x512, .f32⟩
  | 43 => ⟨S2048x512, .f32⟩
  | 44 => ⟨S2048x512, .f32⟩
  | 45 => ⟨S_, .f32⟩
  | 46 => ⟨S512, .f32⟩
  | 47 => ⟨S1x512, .f32⟩
  | 48 => ⟨S2048x512, .f32⟩
  | 49 => ⟨S2048x512, .f32⟩
  | 50 => ⟨S2048x128, .f32⟩
  | 51 => ⟨S2048x128, .f32⟩
  | 52 => ⟨S2048x128, .f32⟩
  | 53 => ⟨S2048x128, .f32⟩
  | 54 => ⟨S128x128, .f32⟩
  | 55 => ⟨S128x128, .f32⟩
  | 56 => ⟨S2048x128, .f32⟩
  | 57 => ⟨S1x128x128, .f32⟩
  | 58 => ⟨S_, .f32⟩
  | 59 => ⟨S4x128x128, .f32⟩
  | 60 => ⟨S128x128, .f32⟩
  | 61 => ⟨S128x128, .f32⟩
  | 62 => ⟨S2048x128, .f32⟩
  | 63 => ⟨S1x128x128, .f32⟩
  | 64 => ⟨S_, .f32⟩
  | 65 => ⟨S4x128x128, .f32⟩
  | 66 => ⟨S4x128x128, .f32⟩
  | 67 => ⟨S128x128, .f32⟩
  | 68 => ⟨S128x128, .f32⟩
  | 69 => ⟨S2048x128, .f32⟩
  | 70 => ⟨S1x128x128, .f32⟩
  | 71 => ⟨S_, .f32⟩
  | 72 => ⟨S4x128x128, .f32⟩
  | 73 => ⟨S4x128x128, .f32⟩
  | 74 => ⟨S128x128, .f32⟩
  | 75 => ⟨S128x128, .f32⟩
  | 76 => ⟨S2048x128, .f32⟩
  | 77 => ⟨S1x128x128, .f32⟩
  | 78 => ⟨S_, .f32⟩
  | 79 => ⟨S4x128x128, .f32⟩
  | 80 => ⟨S4x128x128, .f32⟩
  | 81 => ⟨S2048x128, .f32⟩
  | 82 => ⟨S2048x128, .f32⟩
  | 83 => ⟨S2048x128, .f32⟩
  | 84 => ⟨S2048x2048x128, .f32⟩
  | 85 => ⟨S_, .f32⟩
  | 86 => ⟨S2048x2048x128, .f32⟩
  | 87 => ⟨S2048x2048x128, .f32⟩
  | 88 => ⟨S_, .f32⟩
  | 89 => ⟨S2048x128, .f32⟩
  | 90 => ⟨S2048x128, .f32⟩
  | 91 => ⟨S2048x128, .f32⟩
  | 92 => ⟨S2048x128, .f32⟩
  | 93 => ⟨S2048x128, .f32⟩
  | 94 => ⟨S2048x2048x128, .f32⟩
  | 95 => ⟨S_, .f32⟩
  | 96 => ⟨S2048x2048x128, .f32⟩
  | 97 => ⟨S2048x2048x128, .f32⟩
  | 98 => ⟨S_, .f32⟩
  | 99 => ⟨S2048x128, .f32⟩
  | 100 => ⟨S2048x128, .f32⟩
  | 101 => ⟨S2048x128, .f32⟩
  | 102 => ⟨S2048x128, .f32⟩
  | 103 => ⟨S2048x128, .f32⟩
  | 104 => ⟨S2048x2048x128, .f32⟩
  | 105 => ⟨S_, .f32⟩
  | 106 => ⟨S2048x2048x128, .f32⟩
  | 107 => ⟨S2048x2048x128, .f32⟩
  | 108 => ⟨S_, .f32⟩
  | 109 => ⟨S2048x128, .f32⟩
  | 110 => ⟨S2048x128, .f32⟩
  | 111 => ⟨S2048x128, .f32⟩
  | 112 => ⟨S2048x128, .f32⟩
  | 113 => ⟨S2048x128, .f32⟩
  | 114 => ⟨S2048x2048x128, .f32⟩
  | 115 => ⟨S_, .f32⟩
  | 116 => ⟨S2048x2048x128, .f32⟩
  | 117 => ⟨S2048x2048x128, .f32⟩
  | 118 => ⟨S_, .f32⟩
  | 119 => ⟨S2048x128, .f32⟩
  | 120 => ⟨S2048x128, .f32⟩
  | 121 => ⟨S2048x512, .f32⟩
  | 122 => ⟨S2048x512, .f32⟩
  | 123 => ⟨S2048x512, .f32⟩
  | 124 => ⟨S2048x512, .f32⟩
  | 125 => ⟨S2048x512, .f32⟩
  | 126 => ⟨S_, .f32⟩
  | 127 => ⟨S512, .f32⟩
  | _ => ⟨S2048x1024, .f32⟩

abbrev hbmTy0_3 (i : Nat) : BufTy := match i % 128 with
  | 0 => ⟨S1x512, .f32⟩
  | 1 => ⟨S2048x512, .f32⟩
  | 2 => ⟨S_, .f32⟩
  | 3 => ⟨S512, .f32⟩
  | 4 => ⟨S1x512, .f32⟩
  | 5 => ⟨S2048x512, .f32⟩
  | 6 => ⟨S2048x512, .f32⟩
  | 7 => ⟨S2048x512, .f32⟩
  | 8 => ⟨S_, .f32⟩
  | 9 => ⟨S2048, .f32⟩
  | 10 => ⟨S2048x1, .f32⟩
  | 11 => ⟨S2048x512, .f32⟩
  | 12 => ⟨S2048x512, .f32⟩
  | 13 => ⟨S2048x1, .f32⟩
  | 14 => ⟨S2048x512, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S_, .f32⟩
  | 22 => ⟨S2048, .f32⟩
  | 23 => ⟨S2048x512, .f32⟩
  | 24 => ⟨S2048x512, .f32⟩
  | 25 => ⟨S2048x512, .f32⟩
  | 26 => ⟨S_, .f32⟩
  | 27 => ⟨S2048, .f32⟩
  | 28 => ⟨S2048x1, .f32⟩
  | 29 => ⟨S2048x512, .f32⟩
  | 30 => ⟨S2048x1, .f32⟩
  | 31 => ⟨S_, .f32⟩
  | 32 => ⟨S2048x1, .f32⟩
  | 33 => ⟨S2048x1, .f32⟩
  | 34 => ⟨S_, .f32⟩
  | 35 => ⟨S2048, .f32⟩
  | 36 => ⟨S2048x512, .f32⟩
  | 37 => ⟨S2048x512, .f32⟩
  | 38 => ⟨S_, .f32⟩
  | 39 => ⟨S512, .f32⟩
  | 40 => ⟨S1x512, .f32⟩
  | 41 => ⟨S31x2048x512, .f32⟩
  | 42 => ⟨S31x2048x512, .f32⟩
  | 43 => ⟨S_, .f32⟩
  | 44 => ⟨S31x512, .f32⟩
  | 45 => ⟨S31x1x512, .f32⟩
  | 46 => ⟨S31x2048x512, .f32⟩
  | 47 => ⟨S31x2048x512, .f32⟩
  | 48 => ⟨S_, .f32⟩
  | 49 => ⟨S31x512, .f32⟩
  | 50 => ⟨S31x2048x2048x512, .f32⟩
  | 51 => ⟨S_, .f32⟩
  | 52 => ⟨S31x2048x2048x512, .f32⟩
  | 53 => ⟨S31x2048x2048x512, .f32⟩
  | 54 => ⟨S_, .f32⟩
  | 55 => ⟨S2048x512, .f32⟩
  | 56 => ⟨S2048x512, .f32⟩
  | 57 => ⟨S2048x512, .f32⟩
  | 58 => ⟨S2048x512, .f32⟩
  | 59 => ⟨S2048x1536, .f32⟩
  | 60 => ⟨S2048x1024, .f32⟩
  | 61 => ⟨S_, .f32⟩
  | 62 => ⟨S1024, .f32⟩
  | 63 => ⟨S1x1024, .f32⟩
  | 64 => ⟨S2048x1024, .f32⟩
  | 65 => ⟨S_, .f32⟩
  | 66 => ⟨S1024, .f32⟩
  | 67 => ⟨S1x1024, .f32⟩
  | 68 => ⟨S2048x1024, .f32⟩
  | 69 => ⟨S2048x1024, .f32⟩
  | 70 => ⟨S2048x1024, .f32⟩
  | 71 => ⟨S_, .f32⟩
  | 72 => ⟨S1024, .f32⟩
  | 73 => ⟨S1x1024, .f32⟩
  | 74 => ⟨S2048x1024, .f32⟩
  | 75 => ⟨S2048x1024, .f32⟩
  | 76 => ⟨S2048x1024, .f32⟩
  | 77 => ⟨S_, .f32⟩
  | 78 => ⟨S2048, .f32⟩
  | 79 => ⟨S2048x1, .f32⟩
  | 80 => ⟨S2048x1024, .f32⟩
  | 81 => ⟨S2048x1024, .f32⟩
  | 82 => ⟨S2048x1024, .f32⟩
  | 83 => ⟨S2048x1, .f32⟩
  | 84 => ⟨S_, .f32⟩
  | 85 => ⟨S2048x1, .f32⟩
  | 86 => ⟨S2048x1, .f32⟩
  | 87 => ⟨S_, .f32⟩
  | 88 => ⟨S2048, .f32⟩
  | 89 => ⟨S2048x1024, .f32⟩
  | 90 => ⟨S2048x1024, .f32⟩
  | 91 => ⟨S2048x1024, .f32⟩
  | 92 => ⟨S2048x1024, .f32⟩
  | 93 => ⟨S2048x1024, .f32⟩
  | 94 => ⟨S1x1024, .f32⟩
  | 95 => ⟨S1x1024, .f32⟩
  | 96 => ⟨S_, .f32⟩
  | 97 => ⟨S2x1024, .f32⟩
  | 98 => ⟨S8x1024, .f32⟩
  | 99 => ⟨S_, .f32⟩
  | 100 => ⟨S1x512, .f32⟩
  | 101 => ⟨S32x512, .f32⟩
  | 102 => ⟨S1536x2048, .f32⟩
  | 103 => ⟨S6x256x2048, .f32⟩
  | 104 => ⟨S6x256x2048, .bf16⟩
  | 105 => ⟨S512x128, .f32⟩
  | 106 => ⟨S1024x1024, .bf16⟩
  | 107 => ⟨S512x512, .bf16⟩
  | _ => ⟨S2048x1024, .f32⟩

abbrev hbmTy (i : Nat) : BufTy := match i / 128 with
  | 0 => hbmTy0_0 i
  | 1 => hbmTy0_1 i
  | 2 => hbmTy0_2 i
  | 3 => hbmTy0_3 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_5 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_c : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_call0_v0 : Ref sig .tc := ⟨.hbm, 80, rfl⟩
abbrev main_v56_1 : Ref sig .tc := ⟨.hbm, 81, rfl⟩
abbrev main_call0_v2 : Ref sig .tc := ⟨.hbm, 82, rfl⟩
abbrev main_call0_v3 : Ref sig .tc := ⟨.hbm, 83, rfl⟩
abbrev main_v56_0 : Ref sig .tc := ⟨.hbm, 84, rfl⟩
abbrev main_call0_cst : Ref sig .tc := ⟨.hbm, 85, rfl⟩
abbrev main_v56_2 : Ref sig .tc := ⟨.hbm, 86, rfl⟩
abbrev main_cst_9 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_11 : Ref sig .tc := ⟨.hbm, 96, rfl⟩
abbrev main_v64 : Ref sig .tc := ⟨.hbm, 97, rfl⟩
abbrev main_v65 : Ref sig .tc := ⟨.hbm, 98, rfl⟩
abbrev main_cst_12 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_cst_13 : Ref sig .tc := ⟨.hbm, 105, rfl⟩
abbrev main_v71 : Ref sig .tc := ⟨.hbm, 106, rfl⟩
abbrev main_v72 : Ref sig .tc := ⟨.hbm, 107, rfl⟩
abbrev main_cst_14 : Ref sig .tc := ⟨.hbm, 108, rfl⟩
abbrev main_v73 : Ref sig .tc := ⟨.hbm, 109, rfl⟩
abbrev main_v74 : Ref sig .tc := ⟨.hbm, 110, rfl⟩
abbrev main_cst_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_17 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call1_v0 : Ref sig .tc := ⟨.hbm, 130, rfl⟩
abbrev main_call1_v1 : Ref sig .tc := ⟨.hbm, 131, rfl⟩
abbrev main_call1_cst : Ref sig .tc := ⟨.hbm, 132, rfl⟩
abbrev main_call1_v2 : Ref sig .tc := ⟨.hbm, 133, rfl⟩
abbrev main_call1_v3 : Ref sig .tc := ⟨.hbm, 134, rfl⟩
abbrev main_call1_cst_0 : Ref sig .tc := ⟨.hbm, 135, rfl⟩
abbrev main_call1_v4 : Ref sig .tc := ⟨.hbm, 136, rfl⟩
abbrev main_v91_2 : Ref sig .tc := ⟨.hbm, 137, rfl⟩
abbrev main_call1_cst_1 : Ref sig .tc := ⟨.hbm, 138, rfl⟩
abbrev main_call1_v6 : Ref sig .tc := ⟨.hbm, 139, rfl⟩
abbrev main_call1_v7 : Ref sig .tc := ⟨.hbm, 140, rfl⟩
abbrev main_v91_1 : Ref sig .tc := ⟨.hbm, 141, rfl⟩
abbrev main_v91_0 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_18 : Ref sig .tc := ⟨.hbm, 150, rfl⟩
abbrev main_v99 : Ref sig .tc := ⟨.hbm, 151, rfl⟩
abbrev main_v100 : Ref sig .tc := ⟨.hbm, 152, rfl⟩
abbrev main_c_19 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_c_20 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_cst_21 : Ref sig .tc := ⟨.hbm, 163, rfl⟩
abbrev main_call2_v0 : Ref sig .tc := ⟨.hbm, 164, rfl⟩
abbrev main_v109_1 : Ref sig .tc := ⟨.hbm, 165, rfl⟩
abbrev main_call2_v2 : Ref sig .tc := ⟨.hbm, 166, rfl⟩
abbrev main_call2_v3 : Ref sig .tc := ⟨.hbm, 167, rfl⟩
abbrev main_v109_0 : Ref sig .tc := ⟨.hbm, 168, rfl⟩
abbrev main_call2_cst : Ref sig .tc := ⟨.hbm, 169, rfl⟩
abbrev main_v109_2 : Ref sig .tc := ⟨.hbm, 170, rfl⟩
abbrev main_cst_22 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_c_23 : Ref sig .tc := ⟨.hbm, 179, rfl⟩
abbrev main_v117 : Ref sig .tc := ⟨.hbm, 180, rfl⟩
abbrev main_v118 : Ref sig .tc := ⟨.hbm, 181, rfl⟩
abbrev main_c_24 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_v122 : Ref sig .tc := ⟨.hbm, 186, rfl⟩
abbrev main_c_25 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_cst_26 : Ref sig .tc := ⟨.hbm, 192, rfl⟩
abbrev main_call3_v0 : Ref sig .tc := ⟨.hbm, 193, rfl⟩
abbrev main_v127_1 : Ref sig .tc := ⟨.hbm, 194, rfl⟩
abbrev main_call3_v2 : Ref sig .tc := ⟨.hbm, 195, rfl⟩
abbrev main_call3_v3 : Ref sig .tc := ⟨.hbm, 196, rfl⟩
abbrev main_v127_0 : Ref sig .tc := ⟨.hbm, 197, rfl⟩
abbrev main_call3_cst : Ref sig .tc := ⟨.hbm, 198, rfl⟩
abbrev main_v127_2 : Ref sig .tc := ⟨.hbm, 199, rfl⟩
abbrev main_cst_27 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_c_28 : Ref sig .tc := ⟨.hbm, 208, rfl⟩
abbrev main_v135 : Ref sig .tc := ⟨.hbm, 209, rfl⟩
abbrev main_v136 : Ref sig .tc := ⟨.hbm, 210, rfl⟩
abbrev main_c_29 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_c_30 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_cst_31 : Ref sig .tc := ⟨.hbm, 221, rfl⟩
abbrev main_call4_v0 : Ref sig .tc := ⟨.hbm, 222, rfl⟩
abbrev main_v145_1 : Ref sig .tc := ⟨.hbm, 223, rfl⟩
abbrev main_call4_v2 : Ref sig .tc := ⟨.hbm, 224, rfl⟩
abbrev main_call4_v3 : Ref sig .tc := ⟨.hbm, 225, rfl⟩
abbrev main_v145_0 : Ref sig .tc := ⟨.hbm, 226, rfl⟩
abbrev main_call4_cst : Ref sig .tc := ⟨.hbm, 227, rfl⟩
abbrev main_v145_2 : Ref sig .tc := ⟨.hbm, 228, rfl⟩
abbrev main_cst_32 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_v149 : Ref sig .tc := ⟨.hbm, 233, rfl⟩
abbrev main_v150 : Ref sig .tc := ⟨.hbm, 234, rfl⟩
abbrev main_v151 : Ref sig .tc := ⟨.hbm, 235, rfl⟩
abbrev main_v152 : Ref sig .tc := ⟨.hbm, 236, rfl⟩
abbrev main_c_33 : Ref sig .tc := ⟨.hbm, 237, rfl⟩
abbrev main_v153 : Ref sig .tc := ⟨.hbm, 238, rfl⟩
abbrev main_v154 : Ref sig .tc := ⟨.hbm, 239, rfl⟩
abbrev main_c_34 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_c_35 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_cst_36 : Ref sig .tc := ⟨.hbm, 250, rfl⟩
abbrev main_call5_v0 : Ref sig .tc := ⟨.hbm, 251, rfl⟩
abbrev main_v163_1 : Ref sig .tc := ⟨.hbm, 252, rfl⟩
abbrev main_call5_v2 : Ref sig .tc := ⟨.hbm, 253, rfl⟩
abbrev main_call5_v3 : Ref sig .tc := ⟨.hbm, 254, rfl⟩
abbrev main_v163_0 : Ref sig .tc := ⟨.hbm, 255, rfl⟩
abbrev main_call5_cst : Ref sig .tc := ⟨.hbm, 256, rfl⟩
abbrev main_v163_2 : Ref sig .tc := ⟨.hbm, 257, rfl⟩
abbrev main_cst_37 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_v182 : Ref sig .tc := ⟨.hbm, 277, rfl⟩
abbrev main_v183 : Ref sig .tc := ⟨.hbm, 278, rfl⟩
abbrev main_v184 : Ref sig .tc := ⟨.hbm, 279, rfl⟩
abbrev main_v185 : Ref sig .tc := ⟨.hbm, 280, rfl⟩
abbrev main_v186 : Ref sig .tc := ⟨.hbm, 281, rfl⟩
abbrev main_v187 : Ref sig .tc := ⟨.hbm, 282, rfl⟩
abbrev main_v188 : Ref sig .tc := ⟨.hbm, 283, rfl⟩
abbrev main_v189 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_cst_38 : Ref sig .tc := ⟨.hbm, 289, rfl⟩
abbrev main_v194 : Ref sig .tc := ⟨.hbm, 290, rfl⟩
abbrev main_v195 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_v199 : Ref sig .tc := ⟨.hbm, 295, rfl⟩
abbrev main_v200 : Ref sig .tc := ⟨.hbm, 296, rfl⟩
abbrev main_v201 : Ref sig .tc := ⟨.hbm, 297, rfl⟩
abbrev main_v202 : Ref sig .tc := ⟨.hbm, 298, rfl⟩
abbrev main_v203 : Ref sig .tc := ⟨.hbm, 299, rfl⟩
abbrev main_v204 : Ref sig .tc := ⟨.hbm, 300, rfl⟩
abbrev main_cst_39 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_v212 : Ref sig .tc := ⟨.hbm, 309, rfl⟩
abbrev main_v213 : Ref sig .tc := ⟨.hbm, 310, rfl⟩
abbrev main_v214 : Ref sig .tc := ⟨.hbm, 311, rfl⟩
abbrev main_v215 : Ref sig .tc := ⟨.hbm, 312, rfl⟩
abbrev main_v216 : Ref sig .tc := ⟨.hbm, 313, rfl⟩
abbrev main_cst_40 : Ref sig .tc := ⟨.hbm, 314, rfl⟩
abbrev main_v217 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_v221 : Ref sig .tc := ⟨.hbm, 319, rfl⟩
abbrev main_cst_41 : Ref sig .tc := ⟨.hbm, 320, rfl⟩
abbrev main_v222 : Ref sig .tc := ⟨.hbm, 321, rfl⟩
abbrev main_v223 : Ref sig .tc := ⟨.hbm, 322, rfl⟩
abbrev main_v224 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_cst_42 : Ref sig .tc := ⟨.hbm, 327, rfl⟩
abbrev main_v228 : Ref sig .tc := ⟨.hbm, 328, rfl⟩
abbrev main_v229 : Ref sig .tc := ⟨.hbm, 329, rfl⟩
abbrev main_v230 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_cst_43 : Ref sig .tc := ⟨.hbm, 334, rfl⟩
abbrev main_v234 : Ref sig .tc := ⟨.hbm, 335, rfl⟩
abbrev main_v235 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_v239 : Ref sig .tc := ⟨.hbm, 340, rfl⟩
abbrev main_call6_cst : Ref sig .tc := ⟨.hbm, 341, rfl⟩
abbrev main_call6_v0 : Ref sig .tc := ⟨.hbm, 342, rfl⟩
abbrev main_call6_v1 : Ref sig .tc := ⟨.hbm, 343, rfl⟩
abbrev main_call6_cst_0 : Ref sig .tc := ⟨.hbm, 344, rfl⟩
abbrev main_v240 : Ref sig .tc := ⟨.hbm, 345, rfl⟩
abbrev main_v241 : Ref sig .tc := ⟨.hbm, 346, rfl⟩
abbrev main_v242 : Ref sig .tc := ⟨.hbm, 347, rfl⟩
abbrev main_v243 : Ref sig .tc := ⟨.hbm, 348, rfl⟩
abbrev main_v244 : Ref sig .tc := ⟨.hbm, 349, rfl⟩
abbrev main_v245 : Ref sig .tc := ⟨.hbm, 350, rfl⟩
abbrev main_call7_cst : Ref sig .tc := ⟨.hbm, 351, rfl⟩
abbrev main_call7_v0 : Ref sig .tc := ⟨.hbm, 352, rfl⟩
abbrev main_call7_v1 : Ref sig .tc := ⟨.hbm, 353, rfl⟩
abbrev main_call7_cst_0 : Ref sig .tc := ⟨.hbm, 354, rfl⟩
abbrev main_v246 : Ref sig .tc := ⟨.hbm, 355, rfl⟩
abbrev main_v247 : Ref sig .tc := ⟨.hbm, 356, rfl⟩
abbrev main_v248 : Ref sig .tc := ⟨.hbm, 357, rfl⟩
abbrev main_v249 : Ref sig .tc := ⟨.hbm, 358, rfl⟩
abbrev main_v250 : Ref sig .tc := ⟨.hbm, 359, rfl⟩
abbrev main_v251 : Ref sig .tc := ⟨.hbm, 360, rfl⟩
abbrev main_call8_cst : Ref sig .tc := ⟨.hbm, 361, rfl⟩
abbrev main_call8_v0 : Ref sig .tc := ⟨.hbm, 362, rfl⟩
abbrev main_call8_v1 : Ref sig .tc := ⟨.hbm, 363, rfl⟩
abbrev main_call8_cst_0 : Ref sig .tc := ⟨.hbm, 364, rfl⟩
abbrev main_v252 : Ref sig .tc := ⟨.hbm, 365, rfl⟩
abbrev main_v253 : Ref sig .tc := ⟨.hbm, 366, rfl⟩
abbrev main_v254 : Ref sig .tc := ⟨.hbm, 367, rfl⟩
abbrev main_v255 : Ref sig .tc := ⟨.hbm, 368, rfl⟩
abbrev main_v256 : Ref sig .tc := ⟨.hbm, 369, rfl⟩
abbrev main_v257 : Ref sig .tc := ⟨.hbm, 370, rfl⟩
abbrev main_call9_cst : Ref sig .tc := ⟨.hbm, 371, rfl⟩
abbrev main_call9_v0 : Ref sig .tc := ⟨.hbm, 372, rfl⟩
abbrev main_call9_v1 : Ref sig .tc := ⟨.hbm, 373, rfl⟩
abbrev main_call9_cst_0 : Ref sig .tc := ⟨.hbm, 374, rfl⟩
abbrev main_v258 : Ref sig .tc := ⟨.hbm, 375, rfl⟩
abbrev main_v259 : Ref sig .tc := ⟨.hbm, 376, rfl⟩
abbrev main_v260 : Ref sig .tc := ⟨.hbm, 377, rfl⟩
abbrev main_call10_v0 : Ref sig .tc := ⟨.hbm, 378, rfl⟩
abbrev main_call10_v1 : Ref sig .tc := ⟨.hbm, 379, rfl⟩
abbrev main_call10_v2 : Ref sig .tc := ⟨.hbm, 380, rfl⟩
abbrev main_v261 : Ref sig .tc := ⟨.hbm, 381, rfl⟩
abbrev main_cst_44 : Ref sig .tc := ⟨.hbm, 382, rfl⟩
abbrev main_v262 : Ref sig .tc := ⟨.hbm, 383, rfl⟩
abbrev main_v263 : Ref sig .tc := ⟨.hbm, 384, rfl⟩
abbrev main_v264 : Ref sig .tc := ⟨.hbm, 385, rfl⟩
abbrev main_cst_45 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_v269 : Ref sig .tc := ⟨.hbm, 391, rfl⟩
abbrev main_cst_46 : Ref sig .tc := ⟨.hbm, 392, rfl⟩
abbrev main_v270 : Ref sig .tc := ⟨.hbm, 393, rfl⟩
abbrev main_v271 : Ref sig .tc := ⟨.hbm, 394, rfl⟩
abbrev main_v272 : Ref sig .tc := ⟨.hbm, 395, rfl⟩
abbrev main_v273 : Ref sig .tc := ⟨.hbm, 396, rfl⟩
abbrev main_v274 : Ref sig .tc := ⟨.hbm, 397, rfl⟩
abbrev main_v275 : Ref sig .tc := ⟨.hbm, 398, rfl⟩
abbrev main_cst_47 : Ref sig .tc := ⟨.hbm, 399, rfl⟩
abbrev main_v276 : Ref sig .tc := ⟨.hbm, 400, rfl⟩
abbrev main_v277 : Ref sig .tc := ⟨.hbm, 401, rfl⟩
abbrev main_cst_48 : Ref sig .tc := ⟨.hbm, 402, rfl⟩
abbrev main_v278 : Ref sig .tc := ⟨.hbm, 403, rfl⟩
abbrev main_v279 : Ref sig .tc := ⟨.hbm, 404, rfl⟩
abbrev main_cst_49 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_v283 : Ref sig .tc := ⟨.hbm, 409, rfl⟩
abbrev main_cst_50 : Ref sig .tc := ⟨.hbm, 410, rfl⟩
abbrev main_v284 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_cst_51 : Ref sig .tc := ⟨.hbm, 415, rfl⟩
abbrev main_v288 : Ref sig .tc := ⟨.hbm, 416, rfl⟩
abbrev main_v289 : Ref sig .tc := ⟨.hbm, 417, rfl⟩
abbrev main_cst_52 : Ref sig .tc := ⟨.hbm, 418, rfl⟩
abbrev main_v290 : Ref sig .tc := ⟨.hbm, 419, rfl⟩
abbrev main_v291 : Ref sig .tc := ⟨.hbm, 420, rfl⟩
abbrev main_v292 : Ref sig .tc := ⟨.hbm, 421, rfl⟩
abbrev main_cst_53 : Ref sig .tc := ⟨.hbm, 422, rfl⟩
abbrev main_v293 : Ref sig .tc := ⟨.hbm, 423, rfl⟩
abbrev main_v294 : Ref sig .tc := ⟨.hbm, 424, rfl⟩
abbrev main_v295 : Ref sig .tc := ⟨.hbm, 425, rfl⟩
abbrev main_v296 : Ref sig .tc := ⟨.hbm, 426, rfl⟩
abbrev main_cst_54 : Ref sig .tc := ⟨.hbm, 427, rfl⟩
abbrev main_v297 : Ref sig .tc := ⟨.hbm, 428, rfl⟩
abbrev main_v298 : Ref sig .tc := ⟨.hbm, 429, rfl⟩
abbrev main_v299 : Ref sig .tc := ⟨.hbm, 430, rfl⟩
abbrev main_v300 : Ref sig .tc := ⟨.hbm, 431, rfl⟩
abbrev main_cst_55 : Ref sig .tc := ⟨.hbm, 432, rfl⟩
abbrev main_v301 : Ref sig .tc := ⟨.hbm, 433, rfl⟩
abbrev main_v302 : Ref sig .tc := ⟨.hbm, 434, rfl⟩
abbrev main_call11_cst : Ref sig .tc := ⟨.hbm, 435, rfl⟩
abbrev main_call11_v0 : Ref sig .tc := ⟨.hbm, 436, rfl⟩
abbrev main_call11_v1 : Ref sig .tc := ⟨.hbm, 437, rfl⟩
abbrev main_call11_cst_0 : Ref sig .tc := ⟨.hbm, 438, rfl⟩
abbrev main_v303 : Ref sig .tc := ⟨.hbm, 439, rfl⟩
abbrev main_v304 : Ref sig .tc := ⟨.hbm, 440, rfl⟩
abbrev main_v305 : Ref sig .tc := ⟨.hbm, 441, rfl⟩
abbrev main_v306 : Ref sig .tc := ⟨.hbm, 442, rfl⟩
abbrev main_v307 : Ref sig .tc := ⟨.hbm, 443, rfl⟩
abbrev main_v308 : Ref sig .tc := ⟨.hbm, 444, rfl⟩
abbrev main_cst_56 : Ref sig .tc := ⟨.hbm, 445, rfl⟩
abbrev main_v309 : Ref sig .tc := ⟨.hbm, 446, rfl⟩
abbrev main_v310 : Ref sig .tc := ⟨.hbm, 447, rfl⟩
abbrev main_v311 : Ref sig .tc := ⟨.hbm, 448, rfl⟩
abbrev main_cst_57 : Ref sig .tc := ⟨.hbm, 449, rfl⟩
abbrev main_v312 : Ref sig .tc := ⟨.hbm, 450, rfl⟩
abbrev main_v313 : Ref sig .tc := ⟨.hbm, 451, rfl⟩
abbrev main_v314 : Ref sig .tc := ⟨.hbm, 452, rfl⟩
abbrev main_v315 : Ref sig .tc := ⟨.hbm, 453, rfl⟩
abbrev main_v316 : Ref sig .tc := ⟨.hbm, 454, rfl⟩
abbrev main_cst_58 : Ref sig .tc := ⟨.hbm, 455, rfl⟩
abbrev main_v317 : Ref sig .tc := ⟨.hbm, 456, rfl⟩
abbrev main_v318 : Ref sig .tc := ⟨.hbm, 457, rfl⟩
abbrev main_v319 : Ref sig .tc := ⟨.hbm, 458, rfl⟩
abbrev main_v320 : Ref sig .tc := ⟨.hbm, 459, rfl⟩
abbrev main_v321 : Ref sig .tc := ⟨.hbm, 460, rfl⟩
abbrev main_cst_59 : Ref sig .tc := ⟨.hbm, 461, rfl⟩
abbrev main_v322 : Ref sig .tc := ⟨.hbm, 462, rfl⟩
abbrev main_v323 : Ref sig .tc := ⟨.hbm, 463, rfl⟩
abbrev main_v324 : Ref sig .tc := ⟨.hbm, 464, rfl⟩
abbrev main_v325 : Ref sig .tc := ⟨.hbm, 465, rfl⟩
abbrev main_v326 : Ref sig .tc := ⟨.hbm, 466, rfl⟩
abbrev main_v327 : Ref sig .tc := ⟨.hbm, 467, rfl⟩
abbrev main_cst_60 : Ref sig .tc := ⟨.hbm, 468, rfl⟩
abbrev main_v328 : Ref sig .tc := ⟨.hbm, 469, rfl⟩
abbrev main_v329 : Ref sig .tc := ⟨.hbm, 470, rfl⟩
abbrev main_cst_61 : Ref sig .tc := ⟨.hbm, 471, rfl⟩
abbrev main_v330 : Ref sig .tc := ⟨.hbm, 472, rfl⟩
abbrev main_v331 : Ref sig .tc := ⟨.hbm, 473, rfl⟩
abbrev main_v332 : Ref sig .tc := ⟨.hbm, 474, rfl⟩
abbrev main_v333 : Ref sig .tc := ⟨.hbm, 475, rfl⟩
abbrev main_v334 : Ref sig .tc := ⟨.hbm, 476, rfl⟩
abbrev main_v335 : Ref sig .tc := ⟨.hbm, 477, rfl⟩
abbrev main_v336 : Ref sig .tc := ⟨.hbm, 478, rfl⟩
abbrev main_v337 : Ref sig .tc := ⟨.hbm, 479, rfl⟩
abbrev main_cst_62 : Ref sig .tc := ⟨.hbm, 480, rfl⟩
abbrev main_v338 : Ref sig .tc := ⟨.hbm, 481, rfl⟩
abbrev main_v339 : Ref sig .tc := ⟨.hbm, 482, rfl⟩
abbrev main_cst_63 : Ref sig .tc := ⟨.hbm, 483, rfl⟩
abbrev main_v340 : Ref sig .tc := ⟨.hbm, 484, rfl⟩
abbrev main_v341 : Ref sig .tc := ⟨.hbm, 485, rfl⟩
abbrev main_v342 : Ref sig .tc := ⟨.hbm, 486, rfl⟩
abbrev main_v343 : Ref sig .tc := ⟨.hbm, 487, rfl⟩
abbrev main_v344 : Ref sig .tc := ⟨.hbm, 488, rfl⟩
abbrev main_v345 : Ref sig .tc := ⟨.hbm, 489, rfl⟩
abbrev main_v346 : Ref sig .tc := ⟨.hbm, 490, rfl⟩
abbrev main_v347 : Ref sig .tc := ⟨.hbm, 491, rfl⟩

abbrev nD : Nat := 1
abbrev τ : Topo := Topo.v7x

variable {F : FTy → Type} [FloatOps F]
-- ==== KernelFwd.lean ====
abbrev S2048x1024 : Shape := ⟨2, ![2048, 1024]⟩
abbrev S8x6144 : Shape := ⟨2, ![8, 6144]⟩
abbrev S1x1024 : Shape := ⟨2, ![1, 1024]⟩
abbrev S1536x1024 : Shape := ⟨2, ![1536, 1024]⟩
abbrev S32x512 : Shape := ⟨2, ![32, 512]⟩
abbrev S1x512 : Shape := ⟨2, ![1, 512]⟩
abbrev S512x512 : Shape := ⟨2, ![512, 512]⟩
abbrev S4x128x128 : Shape := ⟨3, ![4, 128, 128]⟩
abbrev S1024x1024 : Shape := ⟨2, ![1024, 1024]⟩
abbrev S2048x512 : Shape := ⟨2, ![2048, 512]⟩
abbrev S2x256x2048 : Shape := ⟨3, ![2, 256, 2048]⟩
abbrev S4x256x2048 : Shape := ⟨3, ![4, 256, 2048]⟩
abbrev S256x1024 : Shape := ⟨2, ![256, 1024]⟩
abbrev S256x512 : Shape := ⟨2, ![256, 512]⟩
abbrev S2x256x256 : Shape := ⟨3, ![2, 256, 256]⟩
abbrev S4x256x256 : Shape := ⟨3, ![4, 256, 256]⟩
abbrev S288x512 : Shape := ⟨2, ![288, 512]⟩
abbrev S272x512 : Shape := ⟨2, ![272, 512]⟩
abbrev S16x512 : Shape := ⟨2, ![16, 512]⟩
abbrev S256 : Shape := ⟨1, ![256]⟩
abbrev S256x1 : Shape := ⟨2, ![256, 1]⟩
abbrev S256x1536 : Shape := ⟨2, ![256, 1536]⟩
abbrev S256x256 : Shape := ⟨2, ![256, 256]⟩
abbrev S1x256x256 : Shape := ⟨3, ![1, 256, 256]⟩
abbrev S256x128 : Shape := ⟨2, ![256, 128]⟩
abbrev S1x128x128 : Shape := ⟨3, ![1, 128, 128]⟩
abbrev S128x128 : Shape := ⟨2, ![128, 128]⟩
abbrev S1x128 : Shape := ⟨2, ![1, 128]⟩

abbrev nBuf : Space → Nat
  | .hbm => 21
  | .vmem => 34
  | .smem => 0
  | _ => 0

abbrev bufTy : (tb : Table) → Fin (tcTables nBuf tb) → BufTy
  | .hbm, ⟨0, _⟩ => ⟨S2048x1024, .f32⟩
  | .hbm, ⟨1, _⟩ => ⟨S8x6144, .f32⟩
  | .hbm, ⟨2, _⟩ => ⟨S1x1024, .f32⟩
  | .hbm, ⟨3, _⟩ => ⟨S1536x1024, .bf16⟩
  | .hbm, ⟨4, _⟩ => ⟨S32x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S512x512, .bf16⟩
  | .hbm, ⟨9, _⟩ => ⟨S4x128x128, .f32⟩
  | .hbm, ⟨10, _⟩ => ⟨S1x512, .f32⟩
  | .hbm, ⟨11, _⟩ => ⟨S1024x1024, .bf16⟩
  | .hbm, ⟨12, _⟩ => ⟨S2048x1024, .bf16⟩
  | .hbm, ⟨13, _⟩ => ⟨S2048x1024, .f32⟩
  | .hbm, ⟨14, _⟩ => ⟨S2048x512, .f32⟩
  | .hbm, ⟨15, _⟩ => ⟨S2048x512, .f32⟩
  | .hbm, ⟨16, _⟩ => ⟨S2x256x2048, .bf16⟩
  | .hbm, ⟨17, _⟩ => ⟨S2048x512, .bf16⟩
  | .hbm, ⟨18, _⟩ => ⟨S4x256x2048, .bf16⟩
  | .hbm, ⟨19, _⟩ => ⟨S2048x1024, .f32⟩
  | .hbm, ⟨20, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S8x6144, .f32⟩
  | .local _ .vmem, ⟨3, _⟩ => ⟨S1x1024, .f32⟩
  | .local _ .vmem, ⟨4, _⟩ => ⟨S1536x1024, .bf16⟩
  | .local _ .vmem, ⟨5, _⟩ => ⟨S32x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S512x512, .bf16⟩
  | .local _ .vmem, ⟨10, _⟩ => ⟨S4x128x128, .f32⟩
  | .local _ .vmem, ⟨11, _⟩ => ⟨S1x512, .f32⟩
  | .local _ .vmem, ⟨12, _⟩ => ⟨S1024x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S2x256x256, .bf16⟩
  | .local _ .vmem, ⟨22, _⟩ => ⟨S2x256x256, .bf16⟩
  | .local _ .vmem, ⟨23, _⟩ => ⟨S256x512, .bf16⟩
  | .local _ .vmem, ⟨24, _⟩ => ⟨S256x512, .bf16⟩
  | .local _ .vmem, ⟨25, _⟩ => ⟨S4x256x256, .bf16⟩
  | .local _ .vmem, ⟨26, _⟩ => ⟨S4x256x256, .bf16⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S288x512, .f32⟩
  | .local _ .vmem, ⟨32, _⟩ => ⟨S272x512, .f32⟩
  | .local _ .vmem, ⟨33, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x256x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceFwdIdeal.lean ====
abbrev S2048x1024 : Shape := ⟨2, ![2048, 1024]⟩
abbrev S8x6144 : Shape := ⟨2, ![8, 6144]⟩
abbrev S1x1024 : Shape := ⟨2, ![1, 1024]⟩
abbrev S1536x1024 : Shape := ⟨2, ![1536, 1024]⟩
abbrev S32x512 : Shape := ⟨2, ![32, 512]⟩
abbrev S1x512 : Shape := ⟨2, ![1, 512]⟩
abbrev S512x512 : Shape := ⟨2, ![512, 512]⟩
abbrev S4x128x128 : Shape := ⟨3, ![4, 128, 128]⟩
abbrev S1024x1024 : Shape := ⟨2, ![1024, 1024]⟩
abbrev S1x6144 : Shape := ⟨2, ![1, 6144]⟩
abbrev S1024x1536 : Shape := ⟨2, ![1024, 1536]⟩
abbrev S_ : Shape := ⟨0, ![]⟩
abbrev S2048 : Shape := ⟨1, ![2048]⟩
abbrev S2048x1 : Shape := ⟨2, ![2048, 1]⟩
abbrev S2048x1536 : Shape := ⟨2, ![2048, 1536]⟩
abbrev S31x512 : Shape := ⟨2, ![31, 512]⟩
abbrev S2048x512 : Shape := ⟨2, ![2048, 512]⟩
abbrev S31x2048x2048x1 : Shape := ⟨4, ![31, 2048, 2048, 1]⟩
abbrev S31x2048x2048x512 : Shape := ⟨4, ![31, 2048, 2048, 512]⟩
abbrev S31x2048x512 : Shape := ⟨3, ![31, 2048, 512]⟩
abbrev S31x1x512 : Shape := ⟨3, ![31, 1, 512]⟩
abbrev S2048x128 : Shape := ⟨2, ![2048, 128]⟩
abbrev S2048x2048x1 : Shape := ⟨3, ![2048, 2048, 1]⟩
abbrev S2048x2048x128 : Shape := ⟨3, ![2048, 2048, 128]⟩
abbrev S1x128x128 : Shape := ⟨3, ![1, 128, 128]⟩
abbrev S128x128 : Shape := ⟨2, ![128, 128]⟩
abbrev S512x2048 : Shape := ⟨2, ![512, 2048]⟩
abbrev S2x256x2048 : Shape := ⟨3, ![2, 256, 2048]⟩
abbrev S1024x2048 : Shape := ⟨2, ![1024, 2048]⟩
abbrev S4x256x2048 : Shape := ⟨3, ![4, 256, 2048]⟩

abbrev nBuf : Space → Nat
  | .hbm => 286
  | .vmem => 0
  | .smem => 0
  | _ => 0

abbrev hbmTy0_0 (i : Nat) : BufTy := match i % 128 with
  | 0 => ⟨S2048x1024, .f32⟩
  | 1 => ⟨S8x6144, .f32⟩
  | 2 => ⟨S1x1024, .f32⟩
  | 3 => ⟨S1536x1024, .bf16⟩
  | 4 => ⟨S32x512, .f32⟩
  | 5 => ⟨S1x512, .f32⟩
  | 6 => ⟨S1x512, .f32⟩
  | 7 => ⟨S1x512, .f32⟩
  | 8 => ⟨S512x512, .bf16⟩
  | 9 => ⟨S4x128x128, .f32⟩
  | 10 => ⟨S1x512, .f32⟩
  | 11 => ⟨S1024x1024, .bf16⟩
  | 12 => ⟨S1x6144, .f32⟩
  | 13 => ⟨S1x1024, .f32⟩
  | 14 => ⟨S1x1024, .f32⟩
  | 15 => ⟨S1x1024, .f32⟩
  | 16 => ⟨S1x1024, .f32⟩
  | 17 => ⟨S1x1024, .f32⟩
  | 18 => ⟨S1x1024, .f32⟩
  | 19 => ⟨S1536x1024, .f32⟩
  | 20 => ⟨S1024x1536, .f32⟩
  | 21 => ⟨S512x512, .f32⟩
  | 22 => ⟨S1024x1024, .f32⟩
  | 23 => ⟨S2048x1024, .f32⟩
  | 24 => ⟨S_, .f32⟩
  | 25 => ⟨S2048, .f32⟩
  | 26 => ⟨S2048x1, .f32⟩
  | 27 => ⟨S_, .f32⟩
  | 28 => ⟨S2048x1, .f32⟩
  | 29 => ⟨S2048x1, .f32⟩
  | 30 => ⟨S_, .f32⟩
  | 31 => ⟨S2048x1, .f32⟩
  | 32 => ⟨S2048x1, .f32⟩
  | 33 => ⟨S2048x1, .f32⟩
  | 34 => ⟨S2048x1024, .f32⟩
  | 35 => ⟨S2048x1024, .f32⟩
  | 36 => ⟨S2048x1024, .f32⟩
  | 37 => ⟨S2048x1024, .f32⟩
  | 38 => ⟨S_, .f32⟩
  | 39 => ⟨S1x1024, .f32⟩
  | 40 => ⟨S1x1024, .f32⟩
  | 41 => ⟨S2048x1024, .f32⟩
  | 42 => ⟨S2048x1024, .f32⟩
  | 43 => ⟨S2048x1024, .f32⟩
  | 44 => ⟨S2048x1024, .f32⟩
  | 45 => ⟨S_, .f32⟩
  | 46 => ⟨S2048x1536, .f32⟩
  | 47 => ⟨S31x512, .f32⟩
  | 48 => ⟨S2048x1024, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S2048x1024, .f32⟩
  | 60 => ⟨S2048x1024, .f32⟩
  | 61 => ⟨S2048x1024, .f32⟩
  | 62 => ⟨S2048x1024, .f32⟩
  | 63 => ⟨S_, .f32⟩
  | 64 => ⟨S1x1024, .f32⟩
  | 65 => ⟨S1x1024, .f32⟩
  | 66 => ⟨S2048x1024, .f32⟩
  | 67 => ⟨S2048x1024, .f32⟩
  | 68 => ⟨S2048x1024, .f32⟩
  | 69 => ⟨S2048x1024, .f32⟩
  | 70 => ⟨S2048x1536, .f32⟩
  | 71 => ⟨S2048x1536, .f32⟩
  | 72 => ⟨S2048x512, .f32⟩
  | 73 => ⟨S2048x512, .f32⟩
  | 74 => ⟨S2048x512, .f32⟩
  | 75 => ⟨S2048x512, .f32⟩
  | 76 => ⟨S2048x512, .f32⟩
  | 77 => ⟨S_, .f32⟩
  | 78 => ⟨S2048x512, .f32⟩
  | 79 => ⟨S2048x512, .f32⟩
  | 80 => ⟨S_, .f32⟩
  | 81 => ⟨S2048x512, .f32⟩
  | 82 => ⟨S2048x512, .f32⟩
  | 83 => ⟨S2048x512, .f32⟩
  | 84 => ⟨S31x2048x2048x1, .i32⟩
  | 85 => ⟨S31x2048x2048x1, .i32⟩
  | 86 => ⟨S31x2048x2048x1, .i32⟩
  | 87 => ⟨S_, .i32⟩
  | 88 => ⟨S31x2048x2048x1, .i32⟩
  | 89 => ⟨S31x2048x2048x1, .i32⟩
  | 90 => ⟨S31x2048x2048x1, .i32⟩
  | 91 => ⟨S31x2048x2048x1, .i1⟩
  | 92 => ⟨S_, .f32⟩
  | 93 => ⟨S_, .f32⟩
  | 94 => ⟨S31x2048x2048x512, .i1⟩
  | 95 => ⟨S31x2048x2048x512, .f32⟩
  | 96 => ⟨S31x2048x2048x512, .f32⟩
  | 97 => ⟨S31x2048x2048x512, .f32⟩
  | 98 => ⟨S_, .f32⟩
  | 99 => ⟨S31x2048x512, .f32⟩
  | 100 => ⟨S31x1x512, .f32⟩
  | 101 => ⟨S31x2048x512, .f32⟩
  | 102 => ⟨S31x2048x512, .f32⟩
  | 103 => ⟨S_, .f32⟩
  | 104 => ⟨S2048x512, .f32⟩
  | 105 => ⟨S2048x512, .f32⟩
  | 106 => ⟨S2048x512, .f32⟩
  | 107 => ⟨S_, .f32⟩
  | 108 => ⟨S2048, .f32⟩
  | 109 => ⟨S2048x1, .f32⟩
  | 110 => ⟨S_, .f32⟩
  | 111 => ⟨S2048x1, .f32⟩
  | 112 => ⟨S2048x1, .f32⟩
  | 113 => ⟨S2048x512, .f32⟩
  | 114 => ⟨S2048x512, .f32⟩
  | 115 => ⟨S2048x512, .f32⟩
  | 116 => ⟨S_, .f32⟩
  | 117 => ⟨S2048, .f32⟩
  | 118 => ⟨S2048x1, .f32⟩
  | 119 => ⟨S_, .f32⟩
  | 120 => ⟨S2048x1, .f32⟩
  | 121 => ⟨S2048x1, .f32⟩
  | 122 => ⟨S2048x512, .f32⟩
  | 123 => ⟨S2048x512, .f32⟩
  | 124 => ⟨S_, .f32⟩
  | 125 => ⟨S2048x1, .f32⟩
  | 126 => ⟨S2048x1, .f32⟩
  | 127 => ⟨S2048x1, .f32⟩
  | _ => ⟨S2048x1024, .f32⟩

abbrev hbmTy0_1 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x512, .f32⟩
  | 5 => ⟨S2048x512, .f32⟩
  | 6 => ⟨S2048x512, .f32⟩
  | 7 => ⟨S2048x512, .f32⟩
  | 8 => ⟨S_, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S2048x512, .f32⟩
  | 15 => ⟨S2048x128, .f32⟩
  | 16 => ⟨S2048x128, .f32⟩
  | 17 => ⟨S2048x128, .f32⟩
  | 18 => ⟨S2048x128, .f32⟩
  | 19 => ⟨S2048x2048x1, .i32⟩
  | 20 => ⟨S2048x2048x1, .i32⟩
  | 21 => ⟨S2048x1, .i32⟩
  | 22 => ⟨S_, .i32⟩
  | 23 => ⟨S2048x1, .i32⟩
  | 24 => ⟨S2048x1, .i32⟩
  | 25 => ⟨S_, .i32⟩
  | 26 => ⟨S2048x1, .i32⟩
  | 27 => ⟨S2048x1, .i32⟩
  | 28 => ⟨S2048x1, .f32⟩
  | 29 => ⟨S2048x2048x1, .i1⟩
  | 30 => ⟨S_, .i32⟩
  | 31 => ⟨S2048x2048x1, .i32⟩
  | 32 => ⟨S2048x2048x1, .i32⟩
  | 33 => ⟨S2048x2048x1, .i1⟩
  | 34 => ⟨S2048x2048x1, .i1⟩
  | 35 => ⟨S_, .f32⟩
  | 36 => ⟨S_, .f32⟩
  | 37 => ⟨S2048x2048x128, .i1⟩
  | 38 => ⟨S2048x2048x128, .f32⟩
  | 39 => ⟨S2048x2048x128, .f32⟩
  | 40 => ⟨S2048x2048x128, .f32⟩
  | 41 => ⟨S_, .f32⟩
  | 42 => ⟨S2048x128, .f32⟩
  | 43 => ⟨S2048x128, .f32⟩
  | 44 => ⟨S2048x128, .f32⟩
  | 45 => ⟨S2048x128, .f32⟩
  | 46 => ⟨S2048x2048x1, .i32⟩
  | 47 => ⟨S2048x2048x1, .i32⟩
  | 48 => ⟨S2048x1, .i32⟩
  | 49 => ⟨S_, .i32⟩
  | 50 => ⟨S2048x1, .i32⟩
  | 51 => ⟨S2048x1, .i32⟩
  | 52 => ⟨S_, .i32⟩
  | 53 => ⟨S2048x1, .i32⟩
  | 54 => ⟨S2048x1, .i32⟩
  | 55 => ⟨S2048x1, .f32⟩
  | 56 => ⟨S2048x2048x1, .i1⟩
  | 57 => ⟨S_, .i32⟩
  | 58 => ⟨S2048x2048x1, .i32⟩
  | 59 => ⟨S2048x2048x1, .i32⟩
  | 60 => ⟨S2048x2048x1, .i1⟩
  | 61 => ⟨S2048x2048x1, .i1⟩
  | 62 => ⟨S_, .f32⟩
  | 63 => ⟨S_, .f32⟩
  | 64 => ⟨S2048x2048x128, .i1⟩
  | 65 => ⟨S2048x2048x128, .f32⟩
  | 66 => ⟨S2048x2048x128, .f32⟩
  | 67 => ⟨S2048x2048x128, .f32⟩
  | 68 => ⟨S_, .f32⟩
  | 69 => ⟨S2048x128, .f32⟩
  | 70 => ⟨S2048x128, .f32⟩
  | 71 => ⟨S2048x128, .f32⟩
  | 72 => ⟨S2048x128, .f32⟩
  | 73 => ⟨S2048x2048x1, .i32⟩
  | 74 => ⟨S2048x2048x1, .i32⟩
  | 75 => ⟨S2048x1, .i32⟩
  | 76 => ⟨S_, .i32⟩
  | 77 => ⟨S2048x1, .i32⟩
  | 78 => ⟨S2048x1, .i32⟩
  | 79 => ⟨S_, .i32⟩
  | 80 => ⟨S2048x1, .i32⟩
  | 81 => ⟨S2048x1, .i32⟩
  | 82 => ⟨S2048x1, .f32⟩
  | 83 => ⟨S2048x2048x1, .i1⟩
  | 84 => ⟨S_, .i32⟩
  | 85 => ⟨S2048x2048x1, .i32⟩
  | 86 => ⟨S2048x2048x1, .i32⟩
  | 87 => ⟨S2048x2048x1, .i1⟩
  | 88 => ⟨S2048x2048x1, .i1⟩
  | 89 => ⟨S_, .f32⟩
  | 90 => ⟨S_, .f32⟩
  | 91 => ⟨S2048x2048x128, .i1⟩
  | 92 => ⟨S2048x2048x128, .f32⟩
  | 93 => ⟨S2048x2048x128, .f32⟩
  | 94 => ⟨S2048x2048x128, .f32⟩
  | 95 => ⟨S_, .f32⟩
  | 96 => ⟨S2048x128, .f32⟩
  | 97 => ⟨S2048x128, .f32⟩
  | 98 => ⟨S2048x128, .f32⟩
  | 99 => ⟨S2048x128, .f32⟩
  | 100 => ⟨S2048x2048x1, .i32⟩
  | 101 => ⟨S2048x2048x1, .i32⟩
  | 102 => ⟨S2048x1, .i32⟩
  | 103 => ⟨S_, .i32⟩
  | 104 => ⟨S2048x1, .i32⟩
  | 105 => ⟨S2048x1, .i32⟩
  | 106 => ⟨S_, .i32⟩
  | 107 => ⟨S2048x1, .i32⟩
  | 108 => ⟨S2048x1, .i32⟩
  | 109 => ⟨S2048x1, .f32⟩
  | 110 => ⟨S2048x2048x1, .i1⟩
  | 111 => ⟨S_, .i32⟩
  | 112 => ⟨S2048x2048x1, .i32⟩
  | 113 => ⟨S2048x2048x1, .i32⟩
  | 114 => ⟨S2048x2048x1, .i1⟩
  | 115 => ⟨S2048x2048x1, .i1⟩
  | 116 => ⟨S_, .f32⟩
  | 117 => ⟨S_, .f32⟩
  | 118 => ⟨S2048x2048x128, .i1⟩
  | 119 => ⟨S2048x2048x128, .f32⟩
  | 120 => ⟨S2048x2048x128, .f32⟩
  | 121 => ⟨S2048x2048x128, .f32⟩
  | 122 => ⟨S_, .f32⟩
  | 123 => ⟨S2048x128, .f32⟩
  | 124 => ⟨S2048x128, .f32⟩
  | 125 => ⟨S2048x128, .f32⟩
  | 126 => ⟨S2048x128, .f32⟩
  | 127 => ⟨S1x128x128, .f32⟩
  | _ => ⟨S2048x1024, .f32⟩

abbrev hbmTy0_2 (i : Nat) : BufTy := match i % 128 with
  | 0 => ⟨S128x128, .f32⟩
  | 1 => ⟨S2048x128, .f32⟩
  | 2 => ⟨S1x128x128, .f32⟩
  | 3 => ⟨S128x128, .f32⟩
  | 4 => ⟨S2048x128, .f32⟩
  | 5 => ⟨S1x128x128, .f32⟩
  | 6 => ⟨S128x128, .f32⟩
  | 7 => ⟨S2048x128, .f32⟩
  | 8 => ⟨S1x128x128, .f32⟩
  | 9 => ⟨S128x128, .f32⟩
  | 10 => ⟨S2048x128, .f32⟩
  | 11 => ⟨S2048x512, .f32⟩
  | 12 => ⟨S2048x512, .f32⟩
  | 13 => ⟨S2048x512, .f32⟩
  | 14 => ⟨S2048x512, .f32⟩
  | 15 => ⟨S2048x1024, .f32⟩
  | 16 => ⟨S2048x1024, .f32⟩
  | 17 => ⟨S2048x1024, .f32⟩
  | 18 => ⟨S2048x1024, .f32⟩
  | 19 => ⟨S2048x1024, .f32⟩
  | 20 => ⟨S2048x512, .f32⟩
  | 21 => ⟨S2048x1024, .bf16⟩
  | 22 => ⟨S2048x512, .bf16⟩
  | 23 => ⟨S2048x512, .bf16⟩
  | 24 => ⟨S2048x1024, .bf16⟩
  | 25 => ⟨S2048x1024, .f32⟩
  | 26 => ⟨S512x2048, .bf16⟩
  | 27 => ⟨S2x256x2048, .bf16⟩
  | 28 => ⟨S1024x2048, .bf16⟩
  | 29 => ⟨S4x256x2048, .bf16⟩
  | _ => ⟨S2048x1024, .f32⟩

abbrev hbmTy (i : Nat) : BufTy := match i / 128 with
  | 0 => hbmTy0_0 i
  | 1 => hbmTy0_1 i
  | 2 => hbmTy0_2 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_4 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_8 : Ref sig .tc := ⟨.hbm, 77, rfl⟩
abbrev main_v56 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_10 : Ref sig .tc := ⟨.hbm, 92, rfl⟩
abbrev main_call0_v0 : Ref sig .tc := ⟨.hbm, 93, rfl⟩
abbrev main_call0_v1 : Ref sig .tc := ⟨.hbm, 94, rfl⟩
abbrev main_call0_v2 : Ref sig .tc := ⟨.hbm, 95, rfl⟩
abbrev main_call0_v3 : Ref sig .tc := ⟨.hbm, 96, rfl⟩
abbrev main_v68 : Ref sig .tc := ⟨.hbm, 97, rfl⟩
abbrev main_cst_11 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_cst_14 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_15 : Ref sig .tc := ⟨.hbm, 116, rfl⟩
abbrev main_v83 : Ref sig .tc := ⟨.hbm, 117, rfl⟩
abbrev main_v84 : Ref sig .tc := ⟨.hbm, 118, rfl⟩
abbrev main_cst_16 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call1_v0 : Ref sig .tc := ⟨.hbm, 134, rfl⟩
abbrev main_call1_v1 : Ref sig .tc := ⟨.hbm, 135, rfl⟩
abbrev main_call1_cst : Ref sig .tc := ⟨.hbm, 136, rfl⟩
abbrev main_call1_v2 : Ref sig .tc := ⟨.hbm, 137, rfl⟩
abbrev main_call1_v3 : Ref sig .tc := ⟨.hbm, 138, rfl⟩
abbrev main_call1_cst_0 : Ref sig .tc := ⟨.hbm, 139, rfl⟩
abbrev main_call1_v4 : Ref sig .tc := ⟨.hbm, 140, rfl⟩
abbrev main_call1_v5 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_c_18 : Ref sig .tc := ⟨.hbm, 150, rfl⟩
abbrev main_v106 : Ref sig .tc := ⟨.hbm, 151, rfl⟩
abbrev main_v107 : Ref sig .tc := ⟨.hbm, 152, rfl⟩
abbrev main_c_19 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_c_20 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_cst_21 : Ref sig .tc := ⟨.hbm, 163, rfl⟩
abbrev main_call2_v0 : Ref sig .tc := ⟨.hbm, 164, rfl⟩
abbrev main_call2_v1 : Ref sig .tc := ⟨.hbm, 165, rfl⟩
abbrev main_call2_v2 : Ref sig .tc := ⟨.hbm, 166, rfl⟩
abbrev main_call2_v3 : Ref sig .tc := ⟨.hbm, 167, rfl⟩
abbrev main_v116 : Ref sig .tc := ⟨.hbm, 168, rfl⟩
abbrev main_cst_22 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_c_23 : Ref sig .tc := ⟨.hbm, 177, rfl⟩
abbrev main_v124 : Ref sig .tc := ⟨.hbm, 178, rfl⟩
abbrev main_v125 : Ref sig .tc := ⟨.hbm, 179, rfl⟩
abbrev main_c_24 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_c_25 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_cst_26 : Ref sig .tc := ⟨.hbm, 190, rfl⟩
abbrev main_call3_v0 : Ref sig .tc := ⟨.hbm, 191, rfl⟩
abbrev main_call3_v1 : Ref sig .tc := ⟨.hbm, 192, rfl⟩
abbrev main_call3_v2 : Ref sig .tc := ⟨.hbm, 193, rfl⟩
abbrev main_call3_v3 : Ref sig .tc := ⟨.hbm, 194, rfl⟩
abbrev main_v134 : Ref sig .tc := ⟨.hbm, 195, rfl⟩
abbrev main_cst_27 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_c_28 : Ref sig .tc := ⟨.hbm, 204, rfl⟩
abbrev main_v142 : Ref sig .tc := ⟨.hbm, 205, rfl⟩
abbrev main_v143 : Ref sig .tc := ⟨.hbm, 206, rfl⟩
abbrev main_c_29 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_c_30 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_cst_31 : Ref sig .tc := ⟨.hbm, 217, rfl⟩
abbrev main_call4_v0 : Ref sig .tc := ⟨.hbm, 218, rfl⟩
abbrev main_call4_v1 : Ref sig .tc := ⟨.hbm, 219, rfl⟩
abbrev main_call4_v2 : Ref sig .tc := ⟨.hbm, 220, rfl⟩
abbrev main_call4_v3 : Ref sig .tc := ⟨.hbm, 221, rfl⟩
abbrev main_v152 : Ref sig .tc := ⟨.hbm, 222, rfl⟩
abbrev main_cst_32 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_c_33 : Ref sig .tc := ⟨.hbm, 231, rfl⟩
abbrev main_v160 : Ref sig .tc := ⟨.hbm, 232, rfl⟩
abbrev main_v161 : Ref sig .tc := ⟨.hbm, 233, rfl⟩
abbrev main_c_34 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_v165 : Ref sig .tc := ⟨.hbm, 238, rfl⟩
abbrev main_c_35 : Ref sig .tc := ⟨.hbm, 239, rfl⟩
abbrev main_v166 : Ref sig .tc := ⟨.hbm, 240, rfl⟩
abbrev main_v167 : Ref sig .tc := ⟨.hbm, 241, rfl⟩
abbrev main_v168 : Ref sig .tc := ⟨.hbm, 242, rfl⟩
abbrev main_v169 : Ref sig .tc := ⟨.hbm, 243, rfl⟩
abbrev main_cst_36 : Ref sig .tc := ⟨.hbm, 244, rfl⟩
abbrev main_call5_v0 : Ref sig .tc := ⟨.hbm, 245, rfl⟩
abbrev main_call5_v1 : Ref sig .tc := ⟨.hbm, 246, rfl⟩
abbrev main_call5_v2 : Ref sig .tc := ⟨.hbm, 247, rfl⟩
abbrev main_call5_v3 : Ref sig .tc := ⟨.hbm, 248, rfl⟩
abbrev main_v170 : Ref sig .tc := ⟨.hbm, 249, rfl⟩
abbrev main_cst_37 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩

abbrev nD : Nat := 1
abbrev τ : Topo := Topo.v7x

variable {F : FTy → Type} [FloatOps F]
-- ==== KernelAda.lean ====
abbrev S1024x768 : Shape := ⟨2, ![1024, 768]⟩
abbrev S8x768 : Shape := ⟨2, ![8, 768]⟩
abbrev S1024x8 : Shape := ⟨2, ![1024, 8]⟩
abbrev S2048x1024 : Shape := ⟨2, ![2048, 1024]⟩
abbrev S256x768 : Shape := ⟨2, ![256, 768]⟩
abbrev S256x8 : Shape := ⟨2, ![256, 8]⟩
abbrev S512x1024 : Shape := ⟨2, ![512, 1024]⟩
abbrev S256x1 : Shape := ⟨2, ![256, 1]⟩
abbrev S1x768 : Shape := ⟨2, ![1, 768]⟩

abbrev nBuf : Space → Nat
  | .hbm => 11
  | .vmem => 21
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S8x768, .f32⟩
  | .hbm, ⟨4, _⟩ => ⟨S1024x8, .f32⟩
  | .hbm, ⟨5, _⟩ => ⟨S2048x1024, .f32⟩
  | .hbm, ⟨6, _⟩ => ⟨S1024x768, .f32⟩
  | .hbm, ⟨7, _⟩ => ⟨S1024x768, .f32⟩
  | .hbm, ⟨8, _⟩ => ⟨S1024x768, .f32⟩
  | .hbm, ⟨9, _⟩ => ⟨S1024x768, .f32⟩
  | .hbm, ⟨10, _⟩ => ⟨S2048x1024, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S8x768, .f32⟩
  | .local _ .vmem, ⟨7, _⟩ => ⟨S256x8, .f32⟩
  | .local _ .vmem, ⟨8, _⟩ => ⟨S256x8, .f32⟩
  | .local _ .vmem, ⟨9, _⟩ => ⟨S512x1024, .f32⟩
  | .local _ .vmem, ⟨10, _⟩ => ⟨S512x1024, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S256x768, .f32⟩
  | .local _ .vmem, ⟨17, _⟩ => ⟨S256x768, .f32⟩
  | .local _ .vmem, ⟨18, _⟩ => ⟨S256x768, .f32⟩
  | .local _ .vmem, ⟨19, _⟩ => ⟨S512x1024, .f32⟩
  | .local _ .vmem, ⟨20, _⟩ => ⟨S512x1024, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceAdaIdeal.lean ====
abbrev S1024x768 : Shape := ⟨2, ![1024, 768]⟩
abbrev S8x768 : Shape := ⟨2, ![8, 768]⟩
abbrev S1024x8 : Shape := ⟨2, ![1024, 8]⟩
abbrev S2048x1024 : Shape := ⟨2, ![2048, 1024]⟩
abbrev S8x1024 : Shape := ⟨2, ![8, 1024]⟩
abbrev S768x1024 : Shape := ⟨2, ![768, 1024]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S8x768, .f32⟩
  | .hbm, ⟨4, _⟩ => ⟨S1024x8, .f32⟩
  | .hbm, ⟨5, _⟩ => ⟨S2048x1024, .f32⟩
  | .hbm, ⟨6, _⟩ => ⟨S8x1024, .f32⟩
  | .hbm, ⟨7, _⟩ => ⟨S8x768, .f32⟩
  | .hbm, ⟨8, _⟩ => ⟨S768x1024, .f32⟩
  | .hbm, ⟨9, _⟩ => ⟨S1024x768, .f32⟩
  | .hbm, ⟨10, _⟩ => ⟨S_, .f32⟩
  | .hbm, ⟨11, _⟩ => ⟨S1024x768, .f32⟩
  | .hbm, ⟨12, _⟩ => ⟨S1024x768, .f32⟩
  | .hbm, ⟨13, _⟩ => ⟨S_, .f32⟩
  | .hbm, ⟨14, _⟩ => ⟨S1024x768, .f32⟩
  | .hbm, ⟨15, _⟩ => ⟨S1024x768, .f32⟩
  | .hbm, ⟨16, _⟩ => ⟨S1024x768, .f32⟩
  | .hbm, ⟨17, _⟩ => ⟨S_, .f32⟩
  | .hbm, ⟨18, _⟩ => ⟨S1024x768, .f32⟩
  | .hbm, ⟨19, _⟩ => ⟨S1024x768, .f32⟩
  | .hbm, ⟨20, _⟩ => ⟨S1024x768, .f32⟩
  | .hbm, ⟨21, _⟩ => ⟨S_, .f32⟩
  | .hbm, ⟨22, _⟩ => ⟨S1024x768, .f32⟩
  | .hbm, ⟨23, _⟩ => ⟨S1024x768, .f32⟩
  | .hbm, ⟨24, _⟩ => ⟨S1024x768, .f32⟩
  | .hbm, ⟨25, _⟩ => ⟨S_, .f32⟩
  | .hbm, ⟨26, _⟩ => ⟨S1024x768, .f32⟩
  | .hbm, ⟨27, _⟩ => ⟨S1024x768, .f32⟩
  | .hbm, ⟨28, _⟩ => ⟨S_, .f32⟩
  | .hbm, ⟨29, _⟩ => ⟨S1024x768, .f32⟩
  | .hbm, ⟨30, _⟩ => ⟨S1024x768, .f32⟩
  | .hbm, ⟨31, _⟩ => ⟨S1024x768, .f32⟩
  | .hbm, ⟨32, _⟩ => ⟨S_, .f32⟩
  | .hbm, ⟨33, _⟩ => ⟨S1024x768, .f32⟩
  | .hbm, ⟨34, _⟩ => ⟨S1024x768, .f32⟩
  | .hbm, ⟨35, _⟩ => ⟨S1024x768, .f32⟩
  | .hbm, ⟨36, _⟩ => ⟨S_, .f32⟩
  | .hbm, ⟨37, _⟩ => ⟨S1024x768, .f32⟩
  | .hbm, ⟨38, _⟩ => ⟨S1024x768, .f32⟩
  | .hbm, ⟨39, _⟩ => ⟨S1024x768, .f32⟩
  | .hbm, ⟨40, _⟩ => ⟨S_, .f32⟩
  | .hbm, ⟨41, _⟩ => ⟨S1024x768, .f32⟩
  | .hbm, ⟨42, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Lift.lean ====
/- Arithmetic of finite values: the operations of the ideal instance on values that are real numbers give the real
   numbers of the real operations. Every lemma turns an operation on coerced reals into one coerced real, so a `simp`
   by `lift` lemmas pushes the coercion to the outside of an expression. -/
module

public import Idealize.ShloMosaic.PureOps.Ideal.Laws
public import Idealize.ShloMosaic.Lib.IdealHost
public import Mathlib.Analysis.Real.Sqrt
public import Mathlib.Tactic.FieldSimp
public import Mathlib.Tactic.Ring
public import Mathlib.Tactic.Linarith
public import Mathlib.Tactic.Positivity

@[expose] public section

noncomputable section

namespace Cert.Ffn

open Idealize.ShloMosaic

/-! ## The constants of the two programs -/

/-- The number that both programs add under the root. -/
def eps : ℝ := 8796093 * (2 : ℝ) ^ (-43 : ℤ)

theorem eps_pos : 0 < eps := by unfold eps; positivity

theorem word_eps : Ideal.ofBits .f32 0x358637BD#32 = ((eps : ℝ) : EReal) := by
  simp [Ideal.ofBits, Ideal.ieee, -EReal.coe_mul, eps]

theorem word_1024 : Ideal.ofBits .f32 0x44800000#32 = ((1024 : ℝ) : EReal) := by
  simp [Ideal.ofBits, Ideal.ieee, -EReal.coe_mul]; norm_num

theorem word_inv1024 : Ideal.ofBits .f32 0x3A800000#32 = ((1 / 1024 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_neghalf : Ideal.ofBits .f32 0xBF000000#32 = ((-(1 / 2) : ℝ) : EReal) := by
  simp [Ideal.ofBits, Ideal.ieee, -EReal.coe_mul, -EReal.coe_neg]; norm_num

theorem word_two : Ideal.ofBits .f32 0x40000000#32 = ((2 : ℝ) : EReal) := by
  simp [Ideal.ofBits, Ideal.ieee, -EReal.coe_mul]; norm_num

theorem word_one : Ideal.ofBits .f32 0x3F800000#32 = ((1 : ℝ) : EReal) := by
  rw [Ideal.ofBits_one_f32, EReal.coe_one]

theorem word_zero : Ideal.ofBits .f32 0x00000000#32 = ((0 : ℝ) : EReal) := by
  rw [EReal.coe_zero]; simp [Ideal.ofBits, Ideal.ieee]

/-! ## The operations -/

theorem up_add (a b : ℝ) : ((a : ℝ) : EReal) + ((b : ℝ) : EReal) = ((a + b : ℝ) : EReal) := (EReal.coe_add a b).symm
theorem up_sub (a b : ℝ) : ((a : ℝ) : EReal) - ((b : ℝ) : EReal) = ((a - b : ℝ) : EReal) := (EReal.coe_sub a b).symm
theorem up_mul (a b : ℝ) : ((a : ℝ) : EReal) * ((b : ℝ) : EReal) = ((a * b : ℝ) : EReal) := (EReal.coe_mul a b).symm
theorem up_neg (a : ℝ) : -((a : ℝ) : EReal) = ((-a : ℝ) : EReal) := (EReal.coe_neg a).symm
theorem up_one : (1 : EReal) = ((1 : ℝ) : EReal) := EReal.coe_one.symm
theorem up_zero : (0 : EReal) = ((0 : ℝ) : EReal) := EReal.coe_zero.symm

theorem up_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, up_add]

theorem up_div (a b : ℝ) (h : b ≠ 0) : Ideal.div ((a : ℝ) : EReal) ((b : ℝ) : EReal) = ((a / b : ℝ) : EReal) := by
  rw [Ideal.div_coe h, up_mul, mul_one_div]

theorem up_div_1024 (a : ℝ) : Ideal.div ((a : ℝ) : EReal) ((1024 : ℝ) : EReal) = ((a / 1024 : ℝ) : EReal) :=
  up_div a 1024 (by norm_num)

theorem up_exp (a : ℝ) : Ideal.exp ((a : ℝ) : EReal) = ((Real.exp a : ℝ) : EReal) := rfl

/-- The gate's squashing function on the reals. -/
def sig (a : ℝ) : ℝ := 1 / (1 + Real.exp (-a))

theorem up_logistic (a : ℝ) : Ideal.logistic ((a : ℝ) : EReal) = ((sig a : ℝ) : EReal) := by
  have h : (1 + Real.exp (-a)) ≠ 0 := by positivity
  show Ideal.div 1 (1 + Ideal.exp (-((a : ℝ) : EReal))) = _
  rw [up_neg, up_exp, up_one, up_add, up_div _ _ h, sig]

theorem up_sig (a : ℝ) : Ideal.div ((1 : ℝ) : EReal) ((1 + Real.exp (-a) : ℝ) : EReal) = ((sig a : ℝ) : EReal) :=
  up_div _ _ (by positivity)

theorem up_one_add (a : ℝ) : (1 : EReal) + ((a : ℝ) : EReal) = ((1 + a : ℝ) : EReal) := by rw [up_one, up_add]

theorem up_sig_one (a : ℝ) : Ideal.div 1 ((1 + Real.exp (-a) : ℝ) : EReal) = ((sig a : ℝ) : EReal) := by rw [up_one, up_sig]

theorem up_rsqrt (a : ℝ) (h : 0 < a) : Ideal.rsqrt ((a : ℝ) : EReal) = (((Real.sqrt a)⁻¹ : ℝ) : EReal) := by
  show (if a < 0 then ⊥ else if a = 0 then ⊤ else (((Real.sqrt a)⁻¹ : ℝ) : EReal)) = _
  rw [if_neg (not_lt.mpr h.le), if_neg h.ne']

/-! ## Root-mean-square normalization -/

section Norm
variable {n : ℕ}

/-- A row's mean square plus `eps`. -/
def ms (x : Fin 1024 → ℝ) : ℝ := (∑ j, x j * x j) / 1024 + eps
/-- One over its root. -/
def rs (x : Fin 1024 → ℝ) : ℝ := (Real.sqrt (ms x))⁻¹

theorem ms_pos (x : Fin 1024 → ℝ) : 0 < ms x := by
  have h : 0 ≤ ∑ j, x j * x j := Finset.sum_nonneg fun j _ => mul_self_nonneg (x j)
  have := eps_pos
  unfold ms; positivity

theorem up_rs (x : Fin 1024 → ℝ) : Ideal.rsqrt (((∑ j, x j * x j) / 1024 + eps : ℝ) : EReal) = ((rs x : ℝ) : EReal) :=
  up_rsqrt _ (ms_pos x)

theorem rs_sq (x : Fin 1024 → ℝ) : rs x * rs x = 1 / ms x := by
  have h := ms_pos x
  unfold rs
  rw [← mul_inv, Real.mul_self_sqrt h.le, one_div]

theorem up_rs_div (x : Fin 1024 → ℝ) :
    Ideal.div ((rs x : ℝ) : EReal) (((∑ j, x j * x j) / 1024 + eps : ℝ) : EReal) = ((rs x * (rs x * rs x) : ℝ) : EReal) := by
  have h := (ms_pos x).ne'
  have e : ((∑ j, x j * x j) / 1024 + eps) = ms x := rfl
  rw [e, up_div _ _ h, rs_sq, mul_one_div]

end Norm

end Cert.Ffn

end
-- ==== Proof.MixSpec.lean ====
/- The token mixer's row-wise formulas over the real numbers, forward and back, and the arithmetic of the windows that
   reach over neighbouring tokens: the convolution's taps and the trailing sums. -/
module

public import proofs.«01_k».proof.Proof.Lift
public import Idealize.ShloMosaic.Lib.WordCmp

@[expose] public section

noncomputable section

namespace Cert.Mix

open Idealize.ShloMosaic Cert.Ffn

/-! ## Words -/

theorem word_512 : Ideal.ofBits .f32 0x44000000#32 = ((512 : ℝ) : EReal) := by
  simp [Ideal.ofBits, Ideal.ieee, -EReal.coe_mul]; norm_num

theorem up_div_512 (a : ℝ) : Ideal.div ((a : ℝ) : EReal) ((512 : ℝ) : EReal) = ((a / 512 : ℝ) : EReal) :=
  up_div a 512 (by norm_num)

theorem up_one_sub (a : ℝ) : (1 : EReal) - ((a : ℝ) : EReal) = ((1 - a : ℝ) : EReal) := by rw [up_one, up_sub]

theorem up_ite (P : Prop) [Decidable P] (a b : ℝ) : (if P then ((a : ℝ) : EReal) else ((b : ℝ) : EReal)) = (((if P then a else b) : ℝ) : EReal) := by
  split <;> rfl

theorem addi_ofNat (a b : ℕ) : IntOp.addi (BitVec.ofNat 32 a) (BitVec.ofNat 32 b) = BitVec.ofNat 32 (a + b) := by
  apply BitVec.eq_of_toNat_eq; simp [IntOp.addi]

theorem sel_iff {α : Type} (c : BitVec 1) (P : Prop) [Decidable P] (e : c = 1 ↔ P) (a b : α) : Scalar.select c a b = if P then a else b := by
  unfold Scalar.select
  by_cases h : P
  · rw [if_pos (e.mpr h), if_pos h]
  · rw [if_neg (fun h' => h (e.mp h')), if_neg h]

/-- The test of a convolution's tap, on words. -/
theorem sel_tap {α : Type} (x t k : ℕ) (hx : x < 2048) (ht : t < 2048) (hk : k < 31) (a b : α) :
    Scalar.select (IntOp.cmpi .eq (IntOp.addi (BitVec.ofNat 32 x) 30#32) (IntOp.addi (BitVec.ofNat 32 t) (BitVec.ofNat 32 k))) a b
      = if x + 30 = t + k then a else b := by
  refine sel_iff _ _ ?_ a b
  rw [addi_ofNat, addi_ofNat]
  show (BitVec.ofBool (BitVec.ofNat 32 (x + 30) == BitVec.ofNat 32 (t + k)) = 1#1) ↔ _
  rw [WordCmp.ofBool_eq_one_iff, beq_iff_eq, WordCmp.ofNat_eq_ofNat_iff (by omega) (by omega)]

/-- The test of a trailing window of `w` tokens, on words. -/
theorem sel_win {α : Type} (s t w : ℕ) (hs : s < 2048) (ht : t < 2048) (hw : w < 2048) (a b : α) :
    Scalar.select (IntOp.andi (IntOp.cmpi .sle (BitVec.ofNat 32 s) (BitVec.ofNat 32 t))
      (IntOp.cmpi .slt (BitVec.ofNat 32 t) (IntOp.addi (BitVec.ofNat 32 s) (BitVec.ofNat 32 w)))) a b
      = if s ≤ t ∧ t < s + w then a else b := by
  refine sel_iff _ _ ?_ a b
  rw [addi_ofNat, WordCmp.cmpi_sle_eq, WordCmp.cmpi_slt_eq, WordCmp.andi_ofBool, WordCmp.ofBool_eq_one_iff', WordCmp.toInt_ofNat_of_lt (by omega),
    WordCmp.toInt_ofNat_of_lt (by omega), WordCmp.toInt_ofNat_of_lt (by omega), Bool.and_eq_true, decide_eq_true_iff, decide_eq_true_iff]
  omega

/-- The number of tokens in a trailing window of `w`. -/
def cnt (w t : ℕ) : ℝ := ((min (t + 1) w : ℕ) : ℝ)

theorem cnt_ne {w : ℕ} (hw : 0 < w) (t : ℕ) : cnt w t ≠ 0 := by
  have : 0 < min (t + 1) w := by omega
  unfold cnt; exact_mod_cast this.ne'

theorem cnt_word (w t : ℕ) (ht : t < 2048) (hw : w < 2048) :
    FloatOps.sitofp (F := Ideal) FTy.f32 (IntOp.minsi (IntOp.addi (BitVec.ofNat 32 t) 1#32) (BitVec.ofNat 32 w)) = ((cnt w t : ℝ) : EReal) := by
  have h : IntOp.addi (BitVec.ofNat 32 t) 1#32 = BitVec.ofNat 32 (t + 1) := addi_ofNat t 1
  have e : IntOp.minsi (BitVec.ofNat 32 (t + 1)) (BitVec.ofNat 32 w) = BitVec.ofNat 32 (min (t + 1) w) := by
    unfold IntOp.minsi
    rw [BitVec.slt, WordCmp.toInt_ofNat_of_lt (by omega), WordCmp.toInt_ofNat_of_lt (by omega)]
    by_cases hh : t + 1 < w
    · rw [if_pos (by simpa using (by omega : (t : ℤ) + 1 < w)), min_eq_left hh.le]
    · rw [if_neg (by simpa using (by omega : (w : ℤ) ≤ (t : ℤ) + 1)), min_eq_right (by omega)]
  rw [h, e]
  show ((((BitVec.ofNat 32 (min (t + 1) w)).toInt : ℝ)) : EReal) = _
  rw [WordCmp.toInt_ofNat_of_lt (by omega)]
  rfl

theorem up_div_cnt (a : ℝ) {w : ℕ} (hw : 0 < w) (t : ℕ) : Ideal.div ((a : ℝ) : EReal) ((cnt w t : ℝ) : EReal) = ((a / cnt w t : ℝ) : EReal) :=
  up_div _ _ (cnt_ne hw t)

/-! ## Layer normalization's statistics -/

/-- A row minus its mean. -/
def dl (v : Fin 512 → ℝ) (j : Fin 512) : ℝ := v j - (∑ l, v l) / 512
/-- The variance plus `eps`. -/
def vr (v : Fin 512 → ℝ) : ℝ := (∑ l, dl v l * dl v l) / 512 + eps
/-- One over its root. -/
def rl (v : Fin 512 → ℝ) : ℝ := (Real.sqrt (vr v))⁻¹

theorem vr_pos (v : Fin 512 → ℝ) : 0 < vr v := by
  have h : 0 ≤ ∑ j, dl v j * dl v j := Finset.sum_nonneg fun j _ => mul_self_nonneg (dl v j)
  have := eps_pos
  unfold vr; positivity

theorem up_rl (v : Fin 512 → ℝ) : Ideal.rsqrt (((∑ l, dl v l * dl v l) / 512 + eps : ℝ) : EReal) = ((rl v : ℝ) : EReal) :=
  up_rsqrt _ (vr_pos v)

theorem rl_sq (v : Fin 512 → ℝ) : rl v * rl v = 1 / vr v := by
  have h := vr_pos v
  unfold rl
  rw [← mul_inv, Real.mul_self_sqrt h.le, one_div]

theorem up_rl_div (v : Fin 512 → ℝ) :
    Ideal.div ((rl v : ℝ) : EReal) (((∑ l, dl v l * dl v l) / 512 + eps : ℝ) : EReal) = ((rl v * (rl v * rl v) : ℝ) : EReal) := by
  have h := (vr_pos v).ne'
  have e : ((∑ l, dl v l * dl v l) / 512 + eps) = vr v := rfl
  rw [e, up_div _ _ h, rl_sq, mul_one_div]

theorem sum_dl (v : Fin 512 → ℝ) : ∑ l, dl v l = 0 := by
  simp only [dl, Finset.sum_sub_distrib, Finset.sum_const, Finset.card_univ, Fintype.card_fin, nsmul_eq_mul]
  push_cast; ring

/-- Going back through the normalization: the derivative through mean and variance, in the two forms. -/
theorem layer_back (v d : Fin 512 → ℝ) (j : Fin 512) :
    d j * rl v + (∑ l, dl v l * d l) * (-(1 / 2) * (rl v * (rl v * rl v))) / 512 * (2 * dl v j)
        + ((∑ l, -(d l * rl v)) + ∑ k, -((∑ l, dl v l * d l) * (-(1 / 2) * (rl v * (rl v * rl v))) / 512 * (2 * dl v k))) / 512
      = rl v * (d j - (∑ l, d l) / 512 - dl v j * rl v * ((∑ l, d l * (dl v l * rl v)) / 512)) := by
  have h1 : ∑ l, d l * (dl v l * rl v) = (∑ l, dl v l * d l) * rl v := by
    rw [Finset.sum_mul]; exact Finset.sum_congr rfl fun l _ => by ring
  have h2 : ∑ l, -(d l * rl v) = -((∑ l, d l) * rl v) := by rw [Finset.sum_neg_distrib, Finset.sum_mul]
  have h3 : ∑ k, -((∑ l, dl v l * d l) * (-(1 / 2) * (rl v * (rl v * rl v))) / 512 * (2 * dl v k)) = 0 := by
    rw [Finset.sum_neg_distrib, ← Finset.mul_sum, ← Finset.mul_sum, sum_dl]; ring
  rw [h1, h2, h3]; ring

/-! ## Rows beyond the sequence -/

/-- A row of a sequence that is zero outside, `a` rows further down. -/
def pad (f : Fin 2048 → ℝ) (a n : ℕ) : ℝ := if h : a ≤ n ∧ n - a < 2048 then f ⟨n - a, h.2⟩ else 0

theorem sum_pick (f : Fin 2048 → ℝ) (a b : ℕ) : ∑ s : Fin 2048, (if s.val + a = b then f s else 0) = pad f a b := by
  unfold pad
  by_cases h : a ≤ b ∧ b - a < 2048
  · rw [dif_pos h, Finset.sum_eq_single (⟨b - a, h.2⟩ : Fin 2048)]
    · rw [if_pos]; show b - a + a = b; omega
    · intro s _ hs
      rw [if_neg]; intro e; exact hs (Fin.ext (by show s.val = b - a; omega))
    · intro h'; exact absurd (Finset.mem_univ _) h'
  · rw [dif_neg h]
    refine Finset.sum_eq_zero fun s _ => if_neg fun e => h ⟨by omega, by have := s.isLt; omega⟩

theorem pad_shift (f : Fin 2048 → ℝ) (a n k : ℕ) : pad f (a + k) (n + k) = pad f a n := by
  unfold pad
  by_cases h : a ≤ n ∧ n - a < 2048
  · rw [dif_pos h, dif_pos ⟨by omega, by omega⟩]; congr 1; exact Fin.ext (by show n + k - (a + k) = n - a; omega)
  · rw [dif_neg h, dif_neg (by omega)]

theorem pad_of_lt (f : Fin 2048 → ℝ) (n : ℕ) (h : n < 2048) : pad f 0 n = f ⟨n, h⟩ := by
  unfold pad; rw [dif_pos ⟨Nat.zero_le _, by omega⟩]; rfl

/-- The trailing window seen from its first token. -/
theorem sum_window (f : Fin 2048 → ℝ) (t w : ℕ) :
    ∑ s : Fin 2048, (if t ≤ s.val ∧ s.val < t + w then f s else 0) = ∑ δ ∈ Finset.range w, pad f 0 (t + δ) := by
  have h : ∀ δ ∈ Finset.range w, pad f 0 (t + δ) = ∑ s : Fin 2048, (if s.val = t + δ then f s else 0) := fun δ _ => by
    rw [← sum_pick]; rfl
  rw [Finset.sum_congr rfl h, Finset.sum_comm]
  refine Finset.sum_congr rfl fun s _ => ?_
  by_cases hs : t ≤ s.val ∧ s.val < t + w
  · rw [if_pos hs, Finset.sum_eq_single (s.val - t)]
    · rw [if_pos (by omega)]
    · intro δ _ hδ; rw [if_neg]; omega
    · intro h'; exact absurd (Finset.mem_range.mpr (by omega)) h'
  · rw [if_neg hs]
    refine (Finset.sum_eq_zero fun δ hδ => if_neg fun e => hs ⟨by omega, ?_⟩).symm
    have := Finset.mem_range.mp hδ; omega

/-! ## The pooled groups' lanes -/

/-- Lane `j` of group `g`. -/
def lane (g : Fin 4) (j : Fin 128) : Fin 512 :=
  match g with
  | 0 => ⟨j.val, by omega⟩
  | 1 => ⟨128 + j.val, by omega⟩
  | 2 => ⟨256 + j.val, by omega⟩
  | 3 => ⟨384 + j.val, by omega⟩

/-- The four groups' lanes one after the other. -/
def cat4 {α : Type} (f : Fin 4 → Fin 128 → α) (j : Fin 512) : α :=
  if h : j.val < 128 then f 0 ⟨j.val, h⟩
  else if h : j.val - 128 < 128 then f 1 ⟨j.val - 128, h⟩
  else if h : j.val - 128 - 128 < 128 then f 2 ⟨j.val - 128 - 128, h⟩
  else f 3 ⟨j.val - 128 - 128 - 128, by omega⟩

theorem cat4_lane {α : Type} (f : Fin 4 → Fin 128 → α) (g : Fin 4) (j : Fin 128) : cat4 f (lane g j) = f g j := by
  have hj := j.isLt
  match g with
  | 0 => exact dif_pos hj
  | 1 =>
    show cat4 f ⟨128 + j.val, _⟩ = _
    unfold cat4
    rw [dif_neg (by show ¬(128 + j.val < 128); omega), dif_pos (by show 128 + j.val - 128 < 128; omega)]
    congr 1; exact Fin.ext (by show 128 + j.val - 128 = j.val; omega)
  | 2 =>
    show cat4 f ⟨256 + j.val, _⟩ = _
    unfold cat4
    rw [dif_neg (by show ¬(256 + j.val < 128); omega), dif_neg (by show ¬(256 + j.val - 128 < 128); omega),
      dif_pos (by show 256 + j.val - 128 - 128 < 128; omega)]
    congr 1; exact Fin.ext (by show 256 + j.val - 128 - 128 = j.val; omega)
  | 3 =>
    show cat4 f ⟨384 + j.val, _⟩ = _
    unfold cat4
    rw [dif_neg (by show ¬(384 + j.val < 128); omega), dif_neg (by show ¬(384 + j.val - 128 < 128); omega),
      dif_neg (by show ¬(384 + j.val - 128 - 128 < 128); omega)]
    congr 1; exact Fin.ext (by show 384 + j.val - 128 - 128 - 128 = j.val; omega)

/-- The window of group `g`. -/
def wd (g : Fin 4) : ℕ :=
  match g with
  | 0 => 2
  | 1 => 4
  | 2 => 8
  | 3 => 16

/-! ## The formulas -/

/-- What the mixer is computed with: the derivative `d` in its output and the input `x`, the modulation, the gains and the
    weights. -/
structure Prm where
  d : Fin 2048 → Fin 1024 → ℝ
  x : Fin 2048 → Fin 1024 → ℝ
  sh : Fin 1024 → ℝ
  sc : Fin 1024 → ℝ
  gt : Fin 1024 → ℝ
  g1 : Fin 1024 → ℝ
  win : Fin 1536 → Fin 1024 → ℝ
  dww : Fin 32 → Fin 512 → ℝ
  dwb : Fin 512 → ℝ
  lng : Fin 512 → ℝ
  lnb : Fin 512 → ℝ
  wpw : Fin 512 → Fin 512 → ℝ
  wg : Fin 4 → Fin 128 → Fin 128 → ℝ
  psc : Fin 512 → ℝ
  wout : Fin 1024 → Fin 1024 → ℝ

namespace Prm

variable (q : Prm) (t : Fin 2048)

/-- The normalized row. -/
def xr (j : Fin 1024) : ℝ := q.x t j * rs (q.x t)
/-- The modulated row. -/
def h (j : Fin 1024) : ℝ := q.xr t j * q.g1 j * (1 + q.sc j) + q.sh j
/-- The first product. -/
def u (k : Fin 1536) : ℝ := ∑ j, q.h t j * q.win k j
def ua (j : Fin 512) : ℝ := q.u t ⟨j.val, by omega⟩
def sg (j : Fin 512) : ℝ := sig (q.u t ⟨512 + j.val, by omega⟩)
/-- The gated lanes that enter the convolution. -/
def hc (j : Fin 512) : ℝ := q.ua t j * q.sg t j
/-- Tap `k` of the convolution at token `t`. -/
def tap (k : Fin 31) (j : Fin 512) : ℝ := pad (fun s => q.hc s j) 30 (t.val + k.val)
def hd (j : Fin 512) : ℝ := (∑ k, q.tap t k j * q.dww ⟨k.val, by omega⟩ j) + q.dwb j
/-- The row normalized. -/
def xh (j : Fin 512) : ℝ := dl (q.hd t) j * rl (q.hd t)
def hl (j : Fin 512) : ℝ := q.xh t j * q.lng j + q.lnb j
def hs (j : Fin 512) : ℝ := q.hl t j * sig (q.hl t j)
/-- The pooled lanes before pooling. -/
def vg (g : Fin 4) (j : Fin 128) : ℝ := q.u t ⟨1024 + (lane g j).val, by omega⟩
/-- Mean over the trailing window minus the token's own. -/
def p (g : Fin 4) (j : Fin 128) : ℝ := (∑ s : Fin 2048, if s.val ≤ t.val ∧ t.val < s.val + wd g then q.vg s g j else 0) / cnt (wd g) t.val - q.vg t g j
def z (g : Fin 4) (j : Fin 128) : ℝ := ∑ l, q.p t g l * q.wg g l j
/-- The two halves of the row that enters the last product. -/
def yc (j : Fin 1024) : ℝ :=
  if h : j.val < 512 then ∑ l, q.hs t l * q.wpw l ⟨j.val, h⟩ else cat4 (q.z t) ⟨j.val - 512, by omega⟩ * q.psc ⟨j.val - 512, by omega⟩
def y (j : Fin 1024) : ℝ := ∑ l, q.yc t l * q.wout l j

/-- The derivative in the mixer's output before the gate. -/
def dy (j : Fin 1024) : ℝ := q.gt j * q.d t j
/-- In the row that enters the last product. -/
def dyc (j : Fin 1024) : ℝ := ∑ l, q.dy t l * q.wout j l
def dhs (j : Fin 512) : ℝ := ∑ l : Fin 512, q.dyc t ⟨l.val, by omega⟩ * q.wpw j l
def dhl (j : Fin 512) : ℝ := q.dhs t j * (sig (q.hl t j) * (1 + q.hl t j * (1 - sig (q.hl t j))))
def dxh (j : Fin 512) : ℝ := q.dhl t j * q.lng j
/-- In the convolution's output. -/
def dhd (j : Fin 512) : ℝ := rl (q.hd t) * (q.dxh t j - (∑ l, q.dxh t l) / 512 - q.xh t j * ((∑ l, q.dxh t l * q.xh t l) / 512))
/-- In the convolution's input: tap `k` of the token `30 - k` further on. -/
def dhc (j : Fin 512) : ℝ := ∑ k : Fin 31, q.dww ⟨k.val, by omega⟩ j * pad (fun s => q.dhd s j) k.val (t.val + 30)
/-- In the pooled products. -/
def dz (g : Fin 4) (j : Fin 128) : ℝ := q.dyc t ⟨512 + (lane g j).val, by omega⟩ * q.psc (lane g j)
def dp (g : Fin 4) (j : Fin 128) : ℝ := ∑ l, q.dz t g l * q.wg g j l
def dv (g : Fin 4) (j : Fin 128) : ℝ := -q.dp t g j + ∑ δ ∈ Finset.range (wd g), pad (fun s => q.dp s g j / cnt (wd g) s.val) 0 (t.val + δ)
/-- In the first product. -/
def du (k : Fin 1536) : ℝ :=
  if h : k.val < 512 then q.dhc t ⟨k.val, h⟩ * q.sg t ⟨k.val, h⟩
  else if h : k.val - 512 < 512 then
    q.ua t ⟨k.val - 512, h⟩ * q.dhc t ⟨k.val - 512, h⟩ * (q.sg t ⟨k.val - 512, h⟩ * (1 - q.sg t ⟨k.val - 512, h⟩))
  else cat4 (q.dv t) ⟨k.val - 512 - 512, by omega⟩
def dh (j : Fin 1024) : ℝ := ∑ k, q.du t k * q.win k j
def dn (j : Fin 1024) : ℝ := q.dh t j * (1 + q.sc j)
/-- In the mixer's input, with the residual. -/
def dx (j : Fin 1024) : ℝ :=
  q.d t j + rs (q.x t) * (q.dn t j * q.g1 j - q.xr t j * ((∑ l, q.dn t l * q.g1 l * q.xr t l) / 1024))

/-- One token's part of the rows of sums. -/
def rows (r : ℕ) (j : Fin 1024) : ℝ :=
  match r with
  | 0 => q.dh t j
  | 1 => q.xr t j * q.g1 j * q.dh t j
  | 2 => q.d t j * q.y t j
  | 3 => q.xr t j * q.dn t j
  | 4 => if h : j.val < 512 then q.dhd t ⟨j.val, h⟩ else q.xh t ⟨j.val - 512, by omega⟩ * q.dhl t ⟨j.val - 512, by omega⟩
  | 5 => if h : j.val < 512 then q.dhl t ⟨j.val, h⟩ else cat4 (q.z t) ⟨j.val - 512, by omega⟩ * q.dyc t ⟨512 + (j.val - 512), by omega⟩
  | _ => 0
/-- One token's part of the convolution's weights. -/
def wconv (k : ℕ) (j : Fin 512) : ℝ := if h : k < 31 then q.tap t ⟨k, h⟩ j * q.dhd t j else 0
/-- Of the pooled products' weights. -/
def wpool (g : Fin 4) (l j : Fin 128) : ℝ := q.dz t g j * q.p t g l
/-- Of the last product's. -/
def wlast (l j : Fin 1024) : ℝ := q.dy t j * q.yc t l
/-- Of the product's after the normalization. -/
def wpoint (l j : Fin 512) : ℝ := q.dyc t ⟨j.val, by omega⟩ * q.hs t l

end Prm

end Cert.Mix

end
-- ==== Proof.FwdSpec.lean ====
/- The mixer forward, token by token, over the extended reals: the formulas that both programs compute, operation for operation,
   and the sums over the neighbouring tokens. -/
module

public import proofs.«01_k».proof.Proof.MixSpec

@[expose] public section

set_option maxRecDepth 16384

noncomputable section

namespace Cert.Fwd

open Idealize.ShloMosaic Cert.Ffn Cert.Mix

/-- What the forward mixer is computed with beside the tokens. -/
structure Prm where
  sh : Fin 1024 → EReal
  sc : Fin 1024 → EReal
  gt : Fin 1024 → EReal
  g1 : Fin 1024 → EReal
  win : Fin 1536 → Fin 1024 → EReal
  dww : Fin 32 → Fin 512 → EReal
  dwb : Fin 512 → EReal
  lng : Fin 512 → EReal
  lnb : Fin 512 → EReal
  wpw : Fin 512 → Fin 512 → EReal
  wg : Fin 4 → Fin 128 → Fin 128 → EReal
  psc : Fin 512 → EReal
  wout : Fin 1024 → Fin 1024 → EReal

/-! ## One token -/

section
variable (q : Prm)

/-- The normed and modulated token, and its product with the input weight. -/
def h (x : Fin 1024 → EReal) (j : Fin 1024) : EReal :=
  x j * Ideal.rsqrt (Ideal.div (∑ l, x l * x l) ((1024 : ℝ) : EReal) + ((eps : ℝ) : EReal)) * q.g1 j * (((1 : ℝ) : EReal) + q.sc j) + q.sh j
def u (x : Fin 1024 → EReal) (k : Fin 1536) : EReal := ∑ l, h q x l * q.win k l

/-- The gated lanes and the pooled lanes. -/
def hc (x : Fin 1024 → EReal) (j : Fin 512) : EReal := u q x ⟨j.val, by omega⟩ * Ideal.logistic (u q x ⟨512 + j.val, by omega⟩)
def uv (x : Fin 1024 → EReal) (j : Fin 512) : EReal := u q x ⟨1024 + j.val, by omega⟩

/-- The convolution of the taps `e`. -/
def hd (e : Fin 31 → EReal) (j : Fin 512) : EReal := (∑ k : Fin 31, q.dww ⟨k.val, by omega⟩ j * e k) + q.dwb j

/-- The layer norm of `r`, with its gain and shift, and the squashed lanes. -/
def dl (r : Fin 512 → EReal) (j : Fin 512) : EReal := r j - Ideal.div (∑ l, r l) ((512 : ℝ) : EReal)
def hl (r : Fin 512 → EReal) (j : Fin 512) : EReal :=
  dl r j * Ideal.rsqrt (Ideal.div (∑ l, dl r l * dl r l) ((512 : ℝ) : EReal) + ((eps : ℝ) : EReal)) * q.lng j + q.lnb j
def hs (r : Fin 512 → EReal) (j : Fin 512) : EReal := hl q r j * Ideal.logistic (hl q r j)

/-- The mean over the last `w` tokens, of which `v δ` is the one `δ` before, without the token's own value. -/
def pool (w t : ℕ) (v : ℕ → EReal) : EReal := Ideal.div (∑ δ ∈ Finset.range w, v δ) ((cnt w t : ℝ) : EReal) - v 0

/-- The pooled lanes' product with their group's weight, scaled. -/
def z (p : Fin 4 → Fin 128 → EReal) (g : Fin 4) (j : Fin 128) : EReal := (∑ l, p g l * q.wg g l j) * q.psc (lane g j)

/-- The two branches side by side. -/
def yc (s : Fin 512 → EReal) (p : Fin 4 → Fin 128 → EReal) (j : Fin 1024) : EReal :=
  if hj : j.val < 512 then ∑ l, s l * q.wpw l ⟨j.val, hj⟩ else cat4 (z q p) ⟨j.val - 512, by omega⟩

def y (c : Fin 1024 → EReal) (j : Fin 1024) : EReal := ∑ l, c l * q.wout l j
def x1 (x c : Fin 1024 → EReal) (j : Fin 1024) : EReal := x j + q.gt j * y q c j

end

/-! ## The tokens before -/

/-- `f` moved up by `a`, with zeros around it. -/
def pad (f : Fin 2048 → EReal) (a n : ℕ) : EReal := if h : a ≤ n ∧ n - a < 2048 then f ⟨n - a, h.2⟩ else 0

theorem pad_shift (f : Fin 2048 → EReal) (a n k : ℕ) : pad f (a + k) (n + k) = pad f a n := by
  unfold pad
  by_cases h : a ≤ n ∧ n - a < 2048
  · rw [dif_pos h, dif_pos (by omega)]; congr 2; omega
  · rw [dif_neg h, dif_neg (by omega)]

theorem pad_of (f : Fin 2048 → EReal) (a n : ℕ) (t : Fin 2048) (h : n = a + t.val) : pad f a n = f t := by
  have := t.isLt
  unfold pad; rw [dif_pos (by omega)]; congr 1; exact Fin.ext (by show n - a = t.val; omega)

theorem pad_zero (f : Fin 2048 → EReal) (a n : ℕ) (h : n < a) : pad f a n = 0 := by
  unfold pad; rw [dif_neg (by omega)]

theorem sum_pick (f : Fin 2048 → EReal) (a b : ℕ) : ∑ s : Fin 2048, (if s.val + a = b then f s else 0) = pad f a b := by
  unfold pad
  by_cases h : a ≤ b ∧ b - a < 2048
  · rw [dif_pos h, Finset.sum_eq_single ⟨b - a, h.2⟩]
    · rw [if_pos (by show b - a + a = b; omega)]
    · intro s _ hs; exact if_neg fun e => hs (Fin.ext (by show s.val = b - a; omega))
    · intro hn; exact absurd (Finset.mem_univ _) hn
  · rw [dif_neg h]
    exact Finset.sum_eq_zero fun s _ => if_neg fun e => h ⟨by omega, by have := s.isLt; omega⟩

/-- The sum over the window that ends with token `t`, from that token back. -/
theorem sum_window (f : Fin 2048 → EReal) (t w : ℕ) (ht : t < 2048) :
    (∑ s : Fin 2048, if s.val ≤ t ∧ t < s.val + w then f s else 0) = ∑ δ ∈ Finset.range w, pad f δ t := by
  simp only [← sum_pick]
  rw [Finset.sum_comm]
  refine Finset.sum_congr rfl fun s _ => ?_
  by_cases hs : s.val ≤ t ∧ t < s.val + w
  · rw [if_pos hs, Finset.sum_eq_single (t - s.val)]
    · rw [if_pos (by omega)]
    · intro δ _ hδ; exact if_neg (by omega)
    · intro hn; exact absurd (Finset.mem_range.mpr (by omega)) hn
  · rw [if_neg hs]
    refine (Finset.sum_eq_zero fun δ hδ => if_neg fun e => hs ⟨by omega, ?_⟩).symm
    have := Finset.mem_range.mp hδ; omega

/-! ## All tokens -/

section
variable (q : Prm) (X : Fin 2048 → Fin 1024 → EReal) (t : Fin 2048)

def Hd (j : Fin 512) : EReal := hd q (fun k => pad (fun s => hc q (X s) j) 30 (t.val + k.val)) j
def P (g : Fin 4) (j : Fin 128) : EReal := pool (wd g) t.val (fun δ => pad (fun s => uv q (X s) (lane g j)) δ t.val)
def Yc (j : Fin 1024) : EReal := yc q (hs q (Hd q X t)) (P q X t) j

end

end Cert.Fwd

end
-- ==== Proof.FwdTile.lean ====
/- The forward mixer's body on one tile: each value that it stores, entry by entry, from what it loads. -/
module

public import proofs.«01_k».proof.Proof.FwdSpec
public import proofs.«01_k».proof.Proof.Gen.KernelFwdIdeal.Skeleton
public import Idealize.ShloMosaic.Lib.Pointwise

@[expose] public section

set_option maxRecDepth 16384

noncomputable section

namespace Cert.Fwd

open Idealize.ShloMosaic Cert.Ffn Cert.Mix Cert.KernelFwdIdeal Cert.KernelFwdIdeal.Gen

section
variable (q : Prm) (v3 : Vec Ideal S256x1024 .f32) (v4 v5 v7 : Vec Ideal S1x1024 .f32) (v28 : Vec Ideal S1536x1024 .bf16)
  (e4 : ∀ j, v4 (ix2 0 j) = q.sh j) (e5 : ∀ j, v5 (ix2 0 j) = q.sc j) (e7 : ∀ j, v7 (ix2 0 j) = q.g1 j) (e28 : ∀ k j, v28 (ix2 k j) = q.win k j)
include e4 e5 e7

theorem pay3_at (r : Fin 256) (j : Fin 1024) : k0_pay3 v3 v4 v5 v7 (ix2 r j) = h q (fun l => v3 (ix2 r l)) j := by
  pointwise [k0_pay3]
  simp only [e4, e5, e7, word_1024, word_eps, word_one, word_zero, EReal.coe_zero, zero_add]
  rfl

include e28

theorem pay4_at (r : Fin 256) (k : Fin 1536) : k0_pay4 v3 v4 v5 v7 v28 (ix2 r k) = u q (fun l => v3 (ix2 r l)) k := by
  pointwise [k0_pay4]
  simp only [pay3_at q v3 v4 v5 v7 e4 e5 e7, e28, word_zero, EReal.coe_zero, zero_add]
  rfl

theorem pay5_at (r : Fin 256) (k : Fin 1024) : k0_pay5 v3 v4 v5 v7 v28 (ix2 r k) = u q (fun l => v3 (ix2 r l)) ⟨k.val, by omega⟩ := by
  pointwise [k0_pay5]
  simp only [pay4_at q v3 v4 v5 v7 v28 e4 e5 e7 e28]

theorem pay7_at (r : Fin 256) (k : Fin 512) : k0_pay7 (k0_pay4 v3 v4 v5 v7 v28) (k0_pay6 v3 v4 v5 v7 v28) (ix2 r k) = hc q (fun l => v3 (ix2 r l)) k := by
  pointwise [k0_pay7, k0_pay6]
  simp only [pay4_at q v3 v4 v5 v7 v28 e4 e5 e7 e28]
  rfl

theorem pay8_at (r : Fin 256) (k : Fin 512) : k0_pay8 (k0_pay4 v3 v4 v5 v7 v28) (k0_pay6 v3 v4 v5 v7 v28) (ix2 r k) = hc q (fun l => v3 (ix2 r l)) k := by
  pointwise [k0_pay8]
  exact pay7_at q v3 v4 v5 v7 v28 e4 e5 e7 e28 r k

theorem pay9_at (r : Fin 256) (k : Fin 512) : k0_pay9 (k0_pay4 v3 v4 v5 v7 v28) (ix2 r k) = uv q (fun l => v3 (ix2 r l)) k := by
  pointwise [k0_pay9]
  exact pay4_at q v3 v4 v5 v7 v28 e4 e5 e7 e28 r _

end

theorem pay1_at (r : Fin 32) (j : Fin 512) : k0_pay1 (F := Ideal) (ix2 r j) = 0 := by
  pointwise [k0_pay1]

theorem pay2_at (r : Fin 16) (j : Fin 512) : k0_pay2 (F := Ideal) (ix2 r j) = 0 := by
  pointwise [k0_pay2]

/-! ## The convolution, a few taps at a time -/

section
variable (a b : FVec Ideal S256x512 .f32) (w0 w1 w2 w3 w4 w5 w6 : Vec Ideal S1x512 .f32) (t0 t1 t2 t3 t4 t5 t6 : Vec Ideal S256x512 .f32) (r : Fin 256) (j : Fin 512)

theorem pay10_at : k0_pay10 w0 t0 w1 t1 w2 t2 w3 t3 (ix2 r j)
    = w0 (ix2 0 j) * t0 (ix2 r j) + w1 (ix2 0 j) * t1 (ix2 r j) + w2 (ix2 0 j) * t2 (ix2 r j) + w3 (ix2 0 j) * t3 (ix2 r j) := by
  pointwise [k0_pay10]

theorem pay11_at : k0_pay11 a w0 t0 w1 t1 w2 t2 w3 t3 w4 t4 w5 t5 (ix2 r j)
    = a (ix2 r j) + w0 (ix2 0 j) * t0 (ix2 r j) + w1 (ix2 0 j) * t1 (ix2 r j) + w2 (ix2 0 j) * t2 (ix2 r j) + w3 (ix2 0 j) * t3 (ix2 r j)
      + w4 (ix2 0 j) * t4 (ix2 r j) + w5 (ix2 0 j) * t5 (ix2 r j) := by
  pointwise [k0_pay11]

theorem pay12_at : k0_pay12 w0 t0 (ix2 r j) = w0 (ix2 0 j) * t0 (ix2 r j) := by pointwise [k0_pay12]

theorem pay13_at : k0_pay13 a b w0 t0 w1 t1 w2 t2 w3 t3 w4 t4 w5 t5 (ix2 r j)
    = a (ix2 r j) + b (ix2 r j) + w0 (ix2 0 j) * t0 (ix2 r j) + w1 (ix2 0 j) * t1 (ix2 r j) + w2 (ix2 0 j) * t2 (ix2 r j) + w3 (ix2 0 j) * t3 (ix2 r j)
      + w4 (ix2 0 j) * t4 (ix2 r j) + w5 (ix2 0 j) * t5 (ix2 r j) := by
  pointwise [k0_pay13]

theorem pay14_at : k0_pay14 a w0 t0 w1 t1 w2 t2 w3 t3 w4 t4 w5 t5 w6 t6 (ix2 r j)
    = a (ix2 r j) + w0 (ix2 0 j) * t0 (ix2 r j) + w1 (ix2 0 j) * t1 (ix2 r j) + w2 (ix2 0 j) * t2 (ix2 r j) + w3 (ix2 0 j) * t3 (ix2 r j)
      + w4 (ix2 0 j) * t4 (ix2 r j) + w5 (ix2 0 j) * t5 (ix2 r j) + w6 (ix2 0 j) * t6 (ix2 r j) := by
  pointwise [k0_pay14]

theorem pay15_at : k0_pay15 a w0 t0 w1 t1 w2 t2 w3 t3 w4 t4 w5 t5 (ix2 r j)
    = a (ix2 r j) + w0 (ix2 0 j) * t0 (ix2 r j) + w1 (ix2 0 j) * t1 (ix2 r j) + w2 (ix2 0 j) * t2 (ix2 r j) + w3 (ix2 0 j) * t3 (ix2 r j)
      + w4 (ix2 0 j) * t4 (ix2 r j) + w5 (ix2 0 j) * t5 (ix2 r j) := by
  pointwise [k0_pay15]

theorem pay16_at : k0_pay16 w0 t0 (ix2 r j) = w0 (ix2 0 j) * t0 (ix2 r j) := by pointwise [k0_pay16]

theorem pay17_at : k0_pay17 a b w0 (ix2 r j) = a (ix2 r j) + b (ix2 r j) + w0 (ix2 0 j) := by pointwise [k0_pay17]

theorem pay18_at (v : Vec Ideal S32x512 .f32) (r : Fin 32) : k0_pay18 v (ix2 r j) = v (ix2 r j) := by pointwise [k0_pay18]

theorem pay36_at (v : Vec Ideal S16x512 .f32) (r : Fin 16) : k0_pay36 v (ix2 r j) = v (ix2 r j) := by pointwise [k0_pay36]

/-- The layer norm and the squashing. -/
theorem pay19_at (q : Prm) (hg : ∀ j, w1 (ix2 0 j) = q.lng j) (hb : ∀ j, w2 (ix2 0 j) = q.lnb j) :
    k0_pay19 a b w0 w1 w2 (ix2 r j) = hs q (fun l => k0_pay17 a b w0 (ix2 r l)) j := by
  pointwise [k0_pay19]
  simp only [hg, hb, word_512, word_eps, word_zero, EReal.coe_zero, zero_add]
  rfl

theorem pay21_at (z : Fin 1) (x : Fin 256) : k0_pay21 (k0_pay20 a b w0 w1 w2) (ix3 z x r) = k0_pay19 a b w0 w1 w2 (ix2 r ⟨x.val, by omega⟩) := by
  pointwise [k0_pay21, k0_pay20]

end

theorem pay22_at (v : FVec Ideal S256x512 .bf16) (z : Fin 1) (x r : Fin 256) : k0_pay22 v (ix3 z x r) = v (ix2 r ⟨256 + x.val, by omega⟩) := by
  pointwise [k0_pay22]

theorem pay23_at (v : FVec Ideal S256x512 .bf16) (w : Vec Ideal S512x512 .bf16) (r : Fin 256) (j : Fin 512) :
    k0_pay23 v w (ix2 r j) = ∑ l : Fin 512, v (ix2 r l) * w (ix2 l j) := by
  pointwise [k0_pay23]

/-! ## The pooled groups -/

section
variable (it : ℕ) (hit : it < 8) (v0 v1 v2 v3 v4 v5 v6 v7 v8 v9 v10 v11 v12 v13 v14 v15 : Vec Ideal S256x128 .f32) (w : Vec Ideal S1x128x128 .f32) (s : Vec Ideal S1x128 .f32)
  (p : Fin 256) (l : Fin 128)

theorem tok_word (n : ℕ) (p : Fin 256) : IntOp.addi (IntOp.muli (BitVec.ofNat 32 n) 256#32) (BitVec.ofNat 32 p.val) = BitVec.ofNat 32 (n * 256 + p.val) := by
  apply BitVec.eq_of_toNat_eq; simp [IntOp.addi, IntOp.muli]

theorem cnt_tile (n w : ℕ) (hn : n < 8) (hw : w < 2048) (p : Fin 256) :
    FloatOps.sitofp (F := Ideal) FTy.f32 (IntOp.minsi (IntOp.addi (IntOp.addi (Scalar.muli (BitVec.ofNat 32 n) 256#32) (BitVec.ofNat 32 p.val)) 1#32) (BitVec.ofNat 32 w))
      = ((cnt w (n * 256 + p.val) : ℝ) : EReal) := by
  have e : IntOp.addi (Scalar.muli (BitVec.ofNat 32 n) 256#32) (BitVec.ofNat 32 p.val) = BitVec.ofNat 32 (n * 256 + p.val) := tok_word n p
  rw [e, cnt_word _ _ (by omega) hw]

include hit in
theorem pay25_at : k0_pay25 (BitVec.ofNat 32 it) v0 v1 (ix2 p l)
    = Ideal.div (v0 (ix2 p l) + v1 (ix2 p l)) ((cnt 2 (it * 256 + p.val) : ℝ) : EReal) - v0 (ix2 p l) := by
  pointwise [k0_pay25, k0_pay24]
  rw [cnt_tile it 2 hit (by decide) p]

include hit in
theorem pay28_at : k0_pay28 (k0_pay24 (BitVec.ofNat 32 it)) v0 v1 v2 v3 (ix2 p l)
    = Ideal.div (v0 (ix2 p l) + v1 (ix2 p l) + v2 (ix2 p l) + v3 (ix2 p l)) ((cnt 4 (it * 256 + p.val) : ℝ) : EReal) - v0 (ix2 p l) := by
  pointwise [k0_pay28, k0_pay24]
  rw [cnt_tile it 4 hit (by decide) p]

include hit in
theorem pay30_at : k0_pay30 (k0_pay24 (BitVec.ofNat 32 it)) v0 v1 v2 v3 v4 v5 v6 v7 (ix2 p l)
    = Ideal.div (v0 (ix2 p l) + v1 (ix2 p l) + v2 (ix2 p l) + v3 (ix2 p l) + v4 (ix2 p l) + v5 (ix2 p l) + v6 (ix2 p l) + v7 (ix2 p l))
      ((cnt 8 (it * 256 + p.val) : ℝ) : EReal) - v0 (ix2 p l) := by
  pointwise [k0_pay30, k0_pay24]
  rw [cnt_tile it 8 hit (by decide) p]

include hit in
theorem pay34_at : k0_pay34 (k0_pay24 (BitVec.ofNat 32 it)) v0 (k0_pay33 v0 v1 v2 v3 v4 v5 v6 v7 v8 v9 v10 v11 v12) v13 v14 v15 (ix2 p l)
    = Ideal.div (v0 (ix2 p l) + v1 (ix2 p l) + v2 (ix2 p l) + v3 (ix2 p l) + v4 (ix2 p l) + v5 (ix2 p l) + v6 (ix2 p l) + v7 (ix2 p l)
        + v8 (ix2 p l) + v9 (ix2 p l) + v10 (ix2 p l) + v11 (ix2 p l) + v12 (ix2 p l) + v13 (ix2 p l) + v14 (ix2 p l) + v15 (ix2 p l))
      ((cnt 16 (it * 256 + p.val) : ℝ) : EReal) - v0 (ix2 p l) := by
  pointwise [k0_pay34, k0_pay33, k0_pay24]
  rw [cnt_tile it 16 hit (by decide) p]

theorem pay27_at (c : BitVec 32) : k0_pay27 (k0_pay26 c v0 v1 w) s (ix2 p l) = (∑ x : Fin 128, k0_pay25 c v0 v1 (ix2 p x) * w (ix3 0 x l)) * s (ix2 0 l) := by
  pointwise [k0_pay27, k0_pay26]

theorem pay29_at (c : IVec S256x1 32) :
    k0_pay29 c v0 v1 v2 v3 w s (ix2 p l) = (∑ x : Fin 128, k0_pay28 c v0 v1 v2 v3 (ix2 p x) * w (ix3 0 x l)) * s (ix2 0 l) := by
  pointwise [k0_pay29]

theorem pay32_at (c : IVec S256x1 32) : k0_pay32 (k0_pay31 c v0 v1 v2 v3 v4 v5 v6 v7 w s) (ix2 p l)
    = (∑ x : Fin 128, k0_pay30 c v0 v1 v2 v3 v4 v5 v6 v7 (ix2 p x) * w (ix3 0 x l)) * s (ix2 0 l) := by
  pointwise [k0_pay32, k0_pay31]

theorem pay35_at (c : IVec S256x1 32) (v : FVec Ideal S256x128 .f32) : k0_pay35 c v0 v v1 v2 v3 w s (ix2 p l)
    = (∑ x : Fin 128, k0_pay34 c v0 v v1 v2 v3 (ix2 p x) * w (ix3 0 x l)) * s (ix2 0 l) := by
  pointwise [k0_pay35]

end

/-! ## The two branches' output -/

section
variable (v : Vec Ideal S256x1024 .bf16) (w : Vec Ideal S1024x1024 .bf16) (x : Vec Ideal S256x1024 .f32) (g : Vec Ideal S1x1024 .f32) (z : Fin 1) (a r : Fin 256) (j : Fin 1024)

theorem pay38_at : k0_pay38 (k0_pay37 v) (ix3 z a r) = v (ix2 r ⟨a.val, by omega⟩) := by pointwise [k0_pay38, k0_pay37]
theorem pay39_at : k0_pay39 v (ix3 z a r) = v (ix2 r ⟨256 + a.val, by omega⟩) := by pointwise [k0_pay39]
theorem pay40_at : k0_pay40 v (ix3 z a r) = v (ix2 r ⟨512 + a.val, by omega⟩) := by pointwise [k0_pay40]
theorem pay41_at : k0_pay41 v (ix3 z a r) = v (ix2 r ⟨768 + a.val, by omega⟩) := by pointwise [k0_pay41]

theorem pay42_at : k0_pay42 v w (ix2 r j) = ∑ l : Fin 1024, v (ix2 r l) * w (ix2 l j) := by
  pointwise [k0_pay42]

theorem pay43_at : k0_pay43 x g v w (ix2 r j) = x (ix2 r j) + g (ix2 0 j) * ∑ l : Fin 1024, v (ix2 r l) * w (ix2 l j) := by
  pointwise [k0_pay43]
  simp only [pay42_at]

end

end Cert.Fwd

end
-- ==== Proof.Spec.lean ====
/- One token's row through the sub-layer, its final norm, the loss and back, over the real numbers. The row of the
   forward values of a token depends on that token alone; the gradients of the parameters are sums over the tokens. -/
module

public import proofs.«01_k».proof.Proof.Lift

@[expose] public section

noncomputable section

namespace Cert.Ffn

/-- What every token's row is computed with: shift, scale and gate of the modulation, the two norms' gains and the
    three weight matrices (hidden unit first). -/
structure Prm where
  sh : Fin 1024 → ℝ
  sc : Fin 1024 → ℝ
  gt : Fin 1024 → ℝ
  g2 : Fin 1024 → ℝ
  gf : Fin 1024 → ℝ
  wg : Fin 2816 → Fin 1024 → ℝ
  wu : Fin 2816 → Fin 1024 → ℝ
  wd : Fin 2816 → Fin 1024 → ℝ

namespace Prm

variable (q : Prm) (x tg : Fin 1024 → ℝ)

/-- The modulated, normalized row that enters the two products. -/
def h (j : Fin 1024) : ℝ := x j * rs x * q.g2 j * (1 + q.sc j) + q.sh j
/-- The gate's pre-activation. -/
def gate (k : Fin 2816) : ℝ := ∑ j, q.h x j * q.wg k j
/-- The product that the gate multiplies. -/
def up (k : Fin 2816) : ℝ := ∑ j, q.h x j * q.wu k j
/-- The hidden row. -/
def a (k : Fin 2816) : ℝ := q.gate x k * sig (q.gate x k) * q.up x k
/-- The sub-layer's output before the residual. -/
def f (j : Fin 1024) : ℝ := ∑ k, q.a x k * q.wd k j
/-- The row with the residual added. -/
def y (j : Fin 1024) : ℝ := x j + q.gt j * q.f x j
/-- The row after the final normalization without its gain. -/
def nf (j : Fin 1024) : ℝ := q.y x j * rs (q.y x)
/-- Output minus target. -/
def err (j : Fin 1024) : ℝ := q.nf x j * q.gf j - tg j
/-- The derivative of the loss in the output. -/
def dout (j : Fin 1024) : ℝ := q.err x tg j * (1 / 1024)
/-- The derivative of the loss in the row with the residual added. -/
def dy (j : Fin 1024) : ℝ :=
  rs (q.y x) * (q.dout x tg j * q.gf j - q.nf x j * ((∑ l, q.dout x tg l * q.gf l * q.nf x l) / 1024))
/-- In the sub-layer's output. -/
def df (j : Fin 1024) : ℝ := q.gt j * q.dy x tg j
/-- In the hidden row. -/
def da (k : Fin 2816) : ℝ := ∑ j, q.df x tg j * q.wd k j
/-- In the gate's pre-activation. -/
def dg (k : Fin 2816) : ℝ :=
  q.da x tg k * q.up x k * (sig (q.gate x k) * (1 + q.gate x k * (1 - sig (q.gate x k))))
/-- In the product that the gate multiplies. -/
def du (k : Fin 2816) : ℝ := q.da x tg k * (q.gate x k * sig (q.gate x k))
/-- In the modulated row. -/
def dh (j : Fin 1024) : ℝ := (∑ k, q.dg x tg k * q.wg k j) + ∑ k, q.du x tg k * q.wu k j
/-- In the normalized row with its gain. -/
def dn (j : Fin 1024) : ℝ := q.dh x tg j * (1 + q.sc j)
/-- In the row that enters the sub-layer. -/
def dx (j : Fin 1024) : ℝ :=
  q.dy x tg j + rs x * (q.dn x tg j * q.g2 j - x j * rs x * ((∑ l, q.dn x tg l * q.g2 l * (x l * rs x)) / 1024))

/-- What the token adds to each row of the returned accumulator: the derivatives in the shift, the scale, the gate, the
    two gains, and the loss; the last two rows stay zero. -/
def term (i : Fin 8) (j : Fin 1024) : ℝ :=
  ![q.dh x tg j, q.dh x tg j * (x j * rs x * q.g2 j), q.dy x tg j * q.f x j, q.dn x tg j * (x j * rs x),
    q.dout x tg j * q.nf x j, 1 / 2 * (∑ l, q.err x tg l * q.err x tg l) * (1 / 1024), 0, 0] i

end Prm

end Cert.Ffn

end
-- ==== Proof.Ref.lean ====
/- The reference's values, one token's row after the other: on finite arguments each stage of the reference is the real
   number of the row-wise formulas, and what it returns of the parameters is a sum over the tokens. -/
module

public import proofs.«01_k».proof.Proof.Spec
public import proofs.«01_k».proof.Proof.Gen.ReferenceIdeal.Read
public import Idealize.ShloMosaic.Lib.Pointwise

@[expose] public section

set_option maxRecDepth 16384

noncomputable section

namespace Cert.Ffn

open Idealize.ShloMosaic Cert.ReferenceIdeal Cert.ReferenceIdeal.Gen Cert.ReferenceIdeal.Read

/-- Going back through a normalization: the derivative through the mean square, in the two forms. -/
theorem norm_back (x d : Fin 1024 → ℝ) (j : Fin 1024) :
    d j * rs x + x j * ((∑ l, x l * d l) * (-(1 / 2) * (rs x * (rs x * rs x))) / 1024)
        + (∑ l, x l * d l) * (-(1 / 2) * (rs x * (rs x * rs x))) / 1024 * x j
      = rs x * (d j - x j * rs x * ((∑ l, d l * (x l * rs x)) / 1024)) := by
  have h : ∑ l, d l * (x l * rs x) = (∑ l, x l * d l) * rs x := by
    rw [Finset.sum_mul]; exact Finset.sum_congr rfl fun l _ => by ring
  rw [h]; ring

theorem up_zero_add (a : ℝ) : (0 : EReal) + ((a : ℝ) : EReal) = ((a : ℝ) : EReal) := zero_add _
theorem up_add_zero (a : ℝ) : ((a : ℝ) : EReal) + (0 : EReal) = ((a : ℝ) : EReal) := add_zero _

section

variable (x0 x1 : (⟨S2048x1024, .f32⟩ : BufTy).Contents (Elt Ideal)) (x2 : (⟨S8x6144, .f32⟩ : BufTy).Contents (Elt Ideal))
  (x3 x4 : (⟨S1x1024, .f32⟩ : BufTy).Contents (Elt Ideal)) (x5 x6 x7 : (⟨S2816x1024, .bf16⟩ : BufTy).Contents (Elt Ideal))

/-- The arguments are the real arrays: the tokens' rows `x` and targets `tg`, and the parameters `q`. -/
structure Args (q : Prm) (x tg : Fin 2048 → Fin 1024 → ℝ) : Prop where
  x0 : ∀ n j, x0 (ix2 n j) = ((x n j : ℝ) : EReal)
  x1 : ∀ n j, x1 (ix2 n j) = ((tg n j : ℝ) : EReal)
  sh : ∀ j : Fin 1024, x2 (ix2 0 ⟨3072 + j.val, by omega⟩) = ((q.sh j : ℝ) : EReal)
  sc : ∀ j : Fin 1024, x2 (ix2 0 ⟨4096 + j.val, by omega⟩) = ((q.sc j : ℝ) : EReal)
  gt : ∀ j : Fin 1024, x2 (ix2 0 ⟨5120 + j.val, by omega⟩) = ((q.gt j : ℝ) : EReal)
  x3 : ∀ z j, x3 (ix2 z j) = ((q.g2 j : ℝ) : EReal)
  x4 : ∀ z j, x4 (ix2 z j) = ((q.gf j : ℝ) : EReal)
  x5 : ∀ k j, x5 (ix2 k j) = ((q.wg k j : ℝ) : EReal)
  x6 : ∀ k j, x6 (ix2 k j) = ((q.wu k j : ℝ) : EReal)
  x7 : ∀ k j, x7 (ix2 k j) = ((q.wd k j : ℝ) : EReal)

variable {x0 x1 x2 x3 x4 x5 x6 x7} {q : Prm} {x tg : Fin 2048 → Fin 1024 → ℝ} (H : Args x0 x1 x2 x3 x4 x5 x6 x7 q x tg)
include H

theorem rv21_at (n : Fin 2048) (z : Fin 1) : val_main_v21 (F := Ideal) x0 (ix2 n z) = ((rs (x n) : ℝ) : EReal) := by
  pointwise [val_main_v21, val_main_v14, val_main_v15, val_main_cst_1, val_main_v16, val_main_v17, val_main_cst_2, val_main_v18, val_main_v19, val_main_cst_3, val_main_v20]
  simp only [H.x0, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv24_at (n : Fin 2048) (z : Fin 1) : val_main_v24 (F := Ideal) x0 (ix2 n z) = ((-(1 / 2) * (rs (x n) * (rs (x n) * rs (x n))) : ℝ) : EReal) := by
  pointwise [val_main_v24, val_main_v14, val_main_v15, val_main_cst_1, val_main_v16, val_main_v17, val_main_cst_2, val_main_v18, val_main_v19, val_main_cst_3, val_main_v20, val_main_v21, val_main_v22, val_main_v23, val_main_cst_4]
  simp only [H.x0, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv26_at (n : Fin 2048) (j : Fin 1024) : val_main_v26 (F := Ideal) x0 (ix2 n j) = ((x n j * rs (x n) : ℝ) : EReal) := by
  pointwise [val_main_v26, val_main_v25]
  simp only [H.x0, rv21_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv28_at (n : Fin 2048) (j : Fin 1024) : val_main_v28 (F := Ideal) x0 x3 (ix2 n j) = ((x n j * rs (x n) * q.g2 j : ℝ) : EReal) := by
  pointwise [val_main_v28, val_main_v27]
  simp only [H.x3, rv26_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv30_at (z : Fin 1) (j : Fin 1024) : val_main_v30 (F := Ideal) x2 (ix2 z j) = ((1 + q.sc j : ℝ) : EReal) := by
  pointwise [val_main_v30, val_main_v29, val_main_cst_5, val_main_v10, val_main_v5]
  simp only [H.sc, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv34_at (n : Fin 2048) (j : Fin 1024) : val_main_v34 (F := Ideal) x0 x2 x3 (ix2 n j) = ((q.h (x n) j : ℝ) : EReal) := by
  pointwise [val_main_v34, val_main_v32, val_main_v31, val_main_v33, val_main_v9, val_main_v5]
  simp only [rv28_at H, rv30_at H, H.sh, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv36_at (n : Fin 2048) (k : Fin 2816) : val_main_v36 (F := Ideal) x0 x2 x3 x5 (ix2 n k) = ((q.gate (x n) k : ℝ) : EReal) := by
  pointwise [val_main_v36, val_main_v35, val_main_v1, val_main_v0, val_main_v12, val_main_cst]
  simp only [rv34_at H, H.x5, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv37_2_at (n : Fin 2048) (k : Fin 2816) : val_main_v37_2 (F := Ideal) x0 x2 x3 x5 (ix2 n k) = ((sig (q.gate (x n) k) : ℝ) : EReal) := by
  pointwise [val_main_v37_2, val_main_call0_v0, val_main_call0_v1, val_main_call0_cst, val_main_call0_v2, val_main_call0_v3, val_main_call0_cst_0, val_main_call0_v4]
  simp only [rv36_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv37_1_at (n : Fin 2048) (k : Fin 2816) : val_main_v37_1 (F := Ideal) x0 x2 x3 x5 (ix2 n k) = ((sig (q.gate (x n) k) * (1 - sig (q.gate (x n) k)) : ℝ) : EReal) := by
  pointwise [val_main_v37_1, val_main_call0_v6, val_main_call0_cst_1, val_main_call0_v7]
  simp only [rv37_2_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv37_0_at (n : Fin 2048) (k : Fin 2816) : val_main_v37_0 (F := Ideal) x0 x2 x3 x5 (ix2 n k) = ((q.gate (x n) k * sig (q.gate (x n) k) : ℝ) : EReal) := by
  pointwise [val_main_v37_0]
  simp only [rv36_at H, rv37_2_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv39_at (n : Fin 2048) (k : Fin 2816) : val_main_v39 (F := Ideal) x0 x2 x3 x6 (ix2 n k) = ((q.up (x n) k : ℝ) : EReal) := by
  pointwise [val_main_v39, val_main_v38, val_main_v3, val_main_v2, val_main_v12, val_main_cst]
  simp only [rv34_at H, H.x6, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv40_at (n : Fin 2048) (k : Fin 2816) : val_main_v40 (F := Ideal) x0 x2 x3 x5 x6 (ix2 n k) = ((q.a (x n) k : ℝ) : EReal) := by
  pointwise [val_main_v40]
  simp only [rv37_0_at H, rv39_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv42_at (n : Fin 2048) (j : Fin 1024) : val_main_v42 (F := Ideal) x0 x2 x3 x5 x6 x7 (ix2 n j) = ((q.f (x n) j : ℝ) : EReal) := by
  pointwise [val_main_v42, val_main_v41, val_main_v4, val_main_v13, val_main_cst_0]
  simp only [rv40_at H, H.x7, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv45_at (n : Fin 2048) (j : Fin 1024) : val_main_v45 (F := Ideal) x0 x2 x3 x5 x6 x7 (ix2 n j) = ((q.y (x n) j : ℝ) : EReal) := by
  pointwise [val_main_v45, val_main_v44, val_main_v43, val_main_v11, val_main_v5]
  simp only [H.x0, H.gt, rv42_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv53_at (n : Fin 2048) (z : Fin 1) : val_main_v53 (F := Ideal) x0 x2 x3 x5 x6 x7 (ix2 n z) = ((rs (q.y (x n)) : ℝ) : EReal) := by
  pointwise [val_main_v53, val_main_v46, val_main_v47, val_main_cst_6, val_main_v48, val_main_v49, val_main_cst_7, val_main_v50, val_main_v51, val_main_cst_8, val_main_v52]
  simp only [rv45_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv56_at (n : Fin 2048) (z : Fin 1) : val_main_v56 (F := Ideal) x0 x2 x3 x5 x6 x7 (ix2 n z) = ((-(1 / 2) * (rs (q.y (x n)) * (rs (q.y (x n)) * rs (q.y (x n)))) : ℝ) : EReal) := by
  pointwise [val_main_v56, val_main_v46, val_main_v47, val_main_cst_6, val_main_v48, val_main_v49, val_main_cst_7, val_main_v50, val_main_v51, val_main_cst_8, val_main_v52, val_main_v53, val_main_v54, val_main_v55, val_main_cst_9]
  simp only [rv45_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv58_at (n : Fin 2048) (j : Fin 1024) : val_main_v58 (F := Ideal) x0 x2 x3 x5 x6 x7 (ix2 n j) = ((q.nf (x n) j : ℝ) : EReal) := by
  pointwise [val_main_v58, val_main_v57]
  simp only [rv45_at H, rv53_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv61_at (n : Fin 2048) (j : Fin 1024) : val_main_v61 (F := Ideal) x0 x1 x2 x3 x4 x5 x6 x7 (ix2 n j) = ((q.err (x n) (tg n) j : ℝ) : EReal) := by
  pointwise [val_main_v61, val_main_v60, val_main_v59]
  simp only [rv58_at H, H.x1, H.x4, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv69_at  : val_main_v69 (F := Ideal) x0 x1 x2 x3 x4 x5 x6 x7 (ix0) = ((1 / 2 * ∑ n, (∑ j, q.err (x n) (tg n) j * q.err (x n) (tg n) j) / 1024 : ℝ) : EReal) := by
  pointwise [val_main_v69, val_main_cst_14, val_main_v68, val_main_cst_13, val_main_v67, val_main_v66, val_main_cst_12, val_main_v65, val_main_cst_11, val_main_v62]
  simp only [rv61_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv75_at (n : Fin 2048) (j : Fin 1024) : val_main_v75 (F := Ideal) x0 x1 x2 x3 x4 x5 x6 x7 (ix2 n j) = ((q.dout (x n) (tg n) j : ℝ) : EReal) := by
  pointwise [val_main_v75, val_main_v74, val_main_v73, val_main_v71, val_main_v72, val_main_cst_17, val_main_v70, val_main_cst_15, val_main_cst_16, val_main_v64, val_main_v63, val_main_cst_10]
  simp only [rv61_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (by unfold Prm.dout; ring)

theorem rv78_at (z : Fin 1) (j : Fin 1024) : val_main_v78 (F := Ideal) x0 x1 x2 x3 x4 x5 x6 x7 (ix2 z j) = ((∑ n, q.nf (x n) j * q.dout (x n) (tg n) j : ℝ) : EReal) := by
  pointwise [val_main_v78, val_main_v77, val_main_cst_18, val_main_v76]
  simp only [rv58_at H, rv75_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv80_at (n : Fin 2048) (j : Fin 1024) : val_main_v80 (F := Ideal) x0 x1 x2 x3 x4 x5 x6 x7 (ix2 n j) = ((q.dout (x n) (tg n) j * q.gf j : ℝ) : EReal) := by
  pointwise [val_main_v80, val_main_v79]
  simp only [rv75_at H, H.x4, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv83_at (n : Fin 2048) (z : Fin 1) : val_main_v83 (F := Ideal) x0 x1 x2 x3 x4 x5 x6 x7 (ix2 n z) = ((∑ l, q.y (x n) l * (q.dout (x n) (tg n) l * q.gf l) : ℝ) : EReal) := by
  pointwise [val_main_v83, val_main_v82, val_main_cst_19, val_main_v81]
  simp only [rv45_at H, rv80_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv89_at (n : Fin 2048) : val_main_v89 (F := Ideal) x0 x1 x2 x3 x4 x5 x6 x7 (ix1 n) = (((∑ l, q.y (x n) l * (q.dout (x n) (tg n) l * q.gf l)) * (-(1 / 2) * (rs (q.y (x n)) * (rs (q.y (x n)) * rs (q.y (x n))))) / 1024 : ℝ) : EReal) := by
  pointwise [val_main_v89, val_main_cst_21, val_main_v88, val_main_v87, val_main_cst_20, val_main_v86]
  simp only [rv83_at H, rv56_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  simp only [Finset.univ_unique, Finset.sum_singleton]

theorem rv94_at (n : Fin 2048) (j : Fin 1024) : val_main_v94 (F := Ideal) x0 x1 x2 x3 x4 x5 x6 x7 (ix2 n j) = ((q.dy (x n) (tg n) j : ℝ) : EReal) := by
  pointwise [val_main_v94, val_main_v93, val_main_v92, val_main_v91, val_main_v90, val_main_v85, val_main_v84]
  simp only [rv45_at H, rv80_at H, rv53_at H, rv89_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (norm_back (q.y (x n)) (fun l => q.dout (x n) (tg n) l * q.gf l) j)

theorem rv96_at (n : Fin 2048) (j : Fin 1024) : val_main_v96 (F := Ideal) x0 x1 x2 x3 x4 x5 x6 x7 (ix2 n j) = ((q.df (x n) (tg n) j : ℝ) : EReal) := by
  pointwise [val_main_v96, val_main_v95, val_main_v11, val_main_v5]
  simp only [H.gt, rv94_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv99_at (z : Fin 1) (j : Fin 1024) : val_main_v99 (F := Ideal) x0 x1 x2 x3 x4 x5 x6 x7 (ix2 z j) = ((∑ n, q.dy (x n) (tg n) j * q.f (x n) j : ℝ) : EReal) := by
  pointwise [val_main_v99, val_main_v98, val_main_cst_22, val_main_v97]
  simp only [rv94_at H, rv42_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv100_at (n : Fin 2048) (k : Fin 2816) : val_main_v100 (F := Ideal) x0 x1 x2 x3 x4 x5 x6 x7 (ix2 n k) = ((q.da (x n) (tg n) k : ℝ) : EReal) := by
  pointwise [val_main_v100, val_main_v4]
  simp only [rv96_at H, H.x7, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv101_at (n : Fin 2048) (k : Fin 2816) : val_main_v101 (F := Ideal) x0 x1 x2 x3 x4 x5 x6 x7 (ix2 n k) = ((q.du (x n) (tg n) k : ℝ) : EReal) := by
  pointwise [val_main_v101]
  simp only [rv37_0_at H, rv100_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (by unfold Prm.du; ring)

theorem rv104_at (n : Fin 2048) (k : Fin 2816) : val_main_v104 (F := Ideal) x0 x1 x2 x3 x4 x5 x6 x7 (ix2 n k) = ((q.dg (x n) (tg n) k : ℝ) : EReal) := by
  pointwise [val_main_v104, val_main_call1_v0, val_main_call1_v1, val_main_call1_v2, val_main_v102]
  simp only [rv36_at H, rv37_1_at H, rv37_2_at H, rv100_at H, rv39_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (by unfold Prm.dg; ring)

theorem rv106_at (n : Fin 2048) (j : Fin 1024) : val_main_v106 (F := Ideal) x0 x1 x2 x3 x4 x5 x6 x7 (ix2 n j) = ((q.dh (x n) (tg n) j : ℝ) : EReal) := by
  pointwise [val_main_v106, val_main_v103, val_main_v105, val_main_v1, val_main_v0, val_main_v3, val_main_v2]
  simp only [rv101_at H, rv104_at H, H.x5, H.x6, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (by unfold Prm.dh; ring)

theorem rv108_at (z : Fin 1) (j : Fin 1024) : val_main_v108 (F := Ideal) x0 x1 x2 x3 x4 x5 x6 x7 (ix2 z j) = ((∑ n, q.dh (x n) (tg n) j : ℝ) : EReal) := by
  pointwise [val_main_v108, val_main_v107, val_main_cst_23]
  simp only [rv106_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv111_at (z : Fin 1) (j : Fin 1024) : val_main_v111 (F := Ideal) x0 x1 x2 x3 x4 x5 x6 x7 (ix2 z j) = ((∑ n, x n j * rs (x n) * q.g2 j * q.dh (x n) (tg n) j : ℝ) : EReal) := by
  pointwise [val_main_v111, val_main_v110, val_main_cst_24, val_main_v109]
  simp only [rv28_at H, rv106_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv113_at (n : Fin 2048) (j : Fin 1024) : val_main_v113 (F := Ideal) x0 x1 x2 x3 x4 x5 x6 x7 (ix2 n j) = ((q.dn (x n) (tg n) j : ℝ) : EReal) := by
  pointwise [val_main_v113, val_main_v112]
  simp only [rv106_at H, rv30_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv116_at (z : Fin 1) (j : Fin 1024) : val_main_v116 (F := Ideal) x0 x1 x2 x3 x4 x5 x6 x7 (ix2 z j) = ((∑ n, x n j * rs (x n) * q.dn (x n) (tg n) j : ℝ) : EReal) := by
  pointwise [val_main_v116, val_main_v115, val_main_cst_25, val_main_v114]
  simp only [rv26_at H, rv113_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv118_at (n : Fin 2048) (j : Fin 1024) : val_main_v118 (F := Ideal) x0 x1 x2 x3 x4 x5 x6 x7 (ix2 n j) = ((q.dn (x n) (tg n) j * q.g2 j : ℝ) : EReal) := by
  pointwise [val_main_v118, val_main_v117]
  simp only [rv113_at H, H.x3, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv121_at (n : Fin 2048) (z : Fin 1) : val_main_v121 (F := Ideal) x0 x1 x2 x3 x4 x5 x6 x7 (ix2 n z) = ((∑ l, x n l * (q.dn (x n) (tg n) l * q.g2 l) : ℝ) : EReal) := by
  pointwise [val_main_v121, val_main_v120, val_main_cst_26, val_main_v119]
  simp only [H.x0, rv118_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv128_at (n : Fin 2048) : val_main_v128 (F := Ideal) x0 x1 x2 x3 x4 x5 x6 x7 (ix1 n) = (((∑ l, x n l * (q.dn (x n) (tg n) l * q.g2 l)) * (-(1 / 2) * (rs (x n) * (rs (x n) * rs (x n)))) / 1024 : ℝ) : EReal) := by
  pointwise [val_main_v128, val_main_cst_28, val_main_v127, val_main_v126, val_main_cst_27, val_main_v125]
  simp only [rv121_at H, rv24_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  simp only [Finset.univ_unique, Finset.sum_singleton]

theorem rv133_at (n : Fin 2048) (j : Fin 1024) : val_main_v133 (F := Ideal) x0 x1 x2 x3 x4 x5 x6 x7 (ix2 n j) = ((q.dx (x n) (tg n) j : ℝ) : EReal) := by
  pointwise [val_main_v133, val_main_v132, val_main_v131, val_main_v130, val_main_v129, val_main_v124, val_main_v123, val_main_v122]
  simp only [rv94_at H, rv118_at H, rv21_at H, H.x0, rv128_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (by rw [Prm.dx, ← norm_back (x n) (fun l => q.dn (x n) (tg n) l * q.g2 l) j]; ring)

theorem rv137_at (n : Fin 2048) (j : Fin 1024) : val_main_v137 (F := Ideal) x0 x2 x3 (ix2 n j) = ((q.h (x n) j : ℝ) : EReal) := by
  pointwise [val_main_v137]
  simp only [rv34_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv138_at (n : Fin 2048) (j : Fin 1024) : val_main_v138 (F := Ideal) x0 x1 x2 x3 x4 x5 x6 x7 (ix2 n j) = ((q.df (x n) (tg n) j : ℝ) : EReal) := by
  pointwise [val_main_v138]
  simp only [rv96_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  try rfl

theorem rv141_at (c : Fin 11) (r : Fin 256) (n : Fin 2048) : val_main_v141 (F := Ideal) x0 x2 x3 x5 x6 (ix3 c r n) = ((q.a (x n) ⟨256 * c.val + r.val, by omega⟩ : ℝ) : EReal) := by
  pointwise [val_main_v141, val_main_v140, val_main_v139]
  simp only [rv40_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (congrArg (q.a (x n)) (Fin.ext (by show c.val * 256 + r.val = 256 * c.val + r.val; omega)))

theorem rv144_at (c : Fin 11) (r : Fin 256) (n : Fin 2048) : val_main_v144 (F := Ideal) x0 x1 x2 x3 x4 x5 x6 x7 (ix3 c r n) = ((q.dg (x n) (tg n) ⟨256 * c.val + r.val, by omega⟩ : ℝ) : EReal) := by
  pointwise [val_main_v144, val_main_v143, val_main_v142]
  simp only [rv104_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (congrArg (q.dg (x n) (tg n)) (Fin.ext (by show c.val * 256 + r.val = 256 * c.val + r.val; omega)))

theorem rv147_at (c : Fin 11) (r : Fin 256) (n : Fin 2048) : val_main_v147 (F := Ideal) x0 x1 x2 x3 x4 x5 x6 x7 (ix3 c r n) = ((q.du (x n) (tg n) ⟨256 * c.val + r.val, by omega⟩ : ℝ) : EReal) := by
  pointwise [val_main_v147, val_main_v146, val_main_v145]
  simp only [rv101_at H, word_1024, word_eps, word_one, word_zero, word_half, word_neghalf, word_two, word_inv1024, up_zero_add, up_add_zero, up_mul, up_neg, up_exp, up_sum, up_div_1024, up_add, up_sub, up_sig, up_one_add, up_sig_one, up_rs, up_rs_div]
  exact congrArg _ (congrArg (q.du (x n) (tg n)) (Fin.ext (by show c.val * 256 + r.val = 256 * c.val + r.val; omega)))

theorem racc0_at (j : Fin 1024) : val_main_v136 (F := Ideal) x0 x1 x2 x3 x4 x5 x6 x7 (ix2 0 j) = ((∑ n, q.term (x n) (tg n) 0 j : ℝ) : EReal) := by
  pointwise [val_main_v136]
  simp only [rv108_at H]
  exact congrArg _ (Finset.sum_congr rfl fun n _ => by simp only [Prm.term]; rfl)

theorem racc1_at (j : Fin 1024) : val_main_v136 (F := Ideal) x0 x1 x2 x3 x4 x5 x6 x7 (ix2 1 j) = ((∑ n, q.term (x n) (tg n) 1 j : ℝ) : EReal) := by
  pointwise [val_main_v136]
  simp only [rv111_at H]
  exact congrArg _ (Finset.sum_congr rfl fun n _ => by simp only [Prm.term]; exact mul_comm _ _)

theorem racc2_at (j : Fin 1024) : val_main_v136 (F := Ideal) x0 x1 x2 x3 x4 x5 x6 x7 (ix2 2 j) = ((∑ n, q.term (x n) (tg n) 2 j : ℝ) : EReal) := by
  pointwise [val_main_v136]
  simp only [rv99_at H]
  exact congrArg _ (Finset.sum_congr rfl fun n _ => by simp only [Prm.term]; rfl)

theorem racc3_at (j : Fin 1024) : val_main_v136 (F := Ideal) x0 x1 x2 x3 x4 x5 x6 x7 (ix2 3 j) = ((∑ n, q.term (x n) (tg n) 3 j : ℝ) : EReal) := by
  pointwise [val_main_v136]
  simp only [rv116_at H]
  exact congrArg _ (Finset.sum_congr rfl fun n _ => by simp only [Prm.term]; exact mul_comm _ _)

theorem racc4_at (j : Fin 1024) : val_main_v136 (F := Ideal) x0 x1 x2 x3 x4 x5 x6 x7 (ix2 4 j) = ((∑ n, q.term (x n) (tg n) 4 j : ℝ) : EReal) := by
  pointwise [val_main_v136]
  simp only [rv78_at H]
  exact congrArg _ (Finset.sum_congr rfl fun n _ => by simp only [Prm.term]; exact mul_comm _ _)

theorem racc5_at (j : Fin 1024) : val_main_v136 (F := Ideal) x0 x1 x2 x3 x4 x5 x6 x7 (ix2 5 j) = ((∑ n, q.term (x n) (tg n) 5 j : ℝ) : EReal) := by
  pointwise [val_main_v136]
  pointwise [val_main_v134]
  rw [rv69_at H]
  refine congrArg _ ?_
  rw [Finset.mul_sum]
  exact Finset.sum_congr rfl fun n _ => by show _ = 1 / 2 * _ * (1 / 1024); ring

theorem racc6_at (j : Fin 1024) : val_main_v136 (F := Ideal) x0 x1 x2 x3 x4 x5 x6 x7 (ix2 6 j) = ((∑ n, q.term (x n) (tg n) 6 j : ℝ) : EReal) := by
  pointwise [val_main_v136]
  pointwise [val_main_v135, val_main_cst_29]
  rw [show (∑ n, q.term (x n) (tg n) 6 j) = 0 from Finset.sum_eq_zero fun n _ => rfl]
  try exact up_zero

theorem racc7_at (j : Fin 1024) : val_main_v136 (F := Ideal) x0 x1 x2 x3 x4 x5 x6 x7 (ix2 7 j) = ((∑ n, q.term (x n) (tg n) 7 j : ℝ) : EReal) := by
  pointwise [val_main_v136]
  pointwise [val_main_v135, val_main_cst_29]
  rw [show (∑ n, q.term (x n) (tg n) 7 j) = 0 from Finset.sum_eq_zero fun n _ => rfl]
  try exact up_zero

theorem rv136_at (i : Fin 8) (j : Fin 1024) :
    val_main_v136 (F := Ideal) x0 x1 x2 x3 x4 x5 x6 x7 (ix2 i j) = ((∑ n, q.term (x n) (tg n) i j : ℝ) : EReal) :=
  match i with
  | 0 => racc0_at H j | 1 => racc1_at H j | 2 => racc2_at H j | 3 => racc3_at H j
  | 4 => racc4_at H j | 5 => racc5_at H j | 6 => racc6_at H j | 7 => racc7_at H j

end

end Cert.Ffn

end
-- ==== Proof.MixRef.lean ====
/- The values of the mixer's reference: on finite arguments each stage is the real number of the row-wise formulas, and
   what it returns of the parameters is a sum over the tokens. -/
module

public import proofs.«01_k».proof.Proof.MixSpec
public import proofs.«01_k».proof.Proof.Ref
public import proofs.«01_k».proof.Proof.Gen.ReferenceMixIdeal.Read
public import Idealize.ShloMosaic.Lib.Pointwise

@[expose] public section

set_option maxRecDepth 16384

noncomputable section

namespace Cert.Mix

open Idealize.ShloMosaic Cert.Ffn Cert.ReferenceMixIdeal Cert.ReferenceMixIdeal.Gen Cert.ReferenceMixIdeal.Read

/-! ## The reference's windows over neighbouring tokens -/

theorem word_zero' : Ideal.ofBits .f32 0x00000000#32 = 0 := by rw [word_zero, EReal.coe_zero]

/-- A tap of the convolution: the one token that the test selects. -/
theorem sum_tap (f : Fin 2048 → ℝ) (v : Fin 2048 → EReal) (o : EReal) (hv : ∀ s, v s = ((f s : ℝ) : EReal)) (ho : o = 0) (t : Fin 2048) (k : Fin 31) :
    ∑ x : Fin 2048, Scalar.select (IntOp.cmpi .eq (IntOp.addi (BitVec.ofNat 32 x.val) 30#32) (IntOp.addi (BitVec.ofNat 32 t.val) (BitVec.ofNat 32 k.val))) (v x) o
      = ((pad f 30 (t.val + k.val) : ℝ) : EReal) := by
  rw [← sum_pick, ← up_sum]
  refine Finset.sum_congr rfl fun x _ => ?_
  rw [sel_tap _ _ _ x.isLt t.isLt k.isLt, hv, ho, ← up_ite, EReal.coe_zero]

theorem sum_tap_back (f : Fin 2048 → ℝ) (v : Fin 2048 → EReal) (o : EReal) (hv : ∀ s, v s = ((f s : ℝ) : EReal)) (ho : o = 0) (t : Fin 2048) (k : Fin 31) :
    ∑ x : Fin 2048, Scalar.select (IntOp.cmpi .eq (IntOp.addi (BitVec.ofNat 32 t.val) 30#32) (IntOp.addi (BitVec.ofNat 32 x.val) (BitVec.ofNat 32 k.val))) (v x) o
      = ((pad f k.val (t.val + 30) : ℝ) : EReal) := by
  rw [← sum_pick, ← up_sum]
  refine Finset.sum_congr rfl fun x _ => ?_
  rw [sel_tap _ _ _ t.isLt x.isLt k.isLt, hv, ho, ← up_ite, EReal.coe_zero]
  simp only [eq_comm]

/-- The mean over the trailing window of `w` tokens minus the token's own value. -/
theorem up_pool (f : Fin 2048 → ℝ) (v : Fin 2048 → EReal) (o : EReal) (hv : ∀ s, v s = ((f s : ℝ) : EReal)) (ho : o = 0) (t : Fin 2048) (w : ℕ) (h0 : 0 < w)
    (hw : w < 2048) :
    Ideal.div (∑ x : Fin 2048, Scalar.select (IntOp.andi (IntOp.cmpi .sle (BitVec.ofNat 32 x.val) (BitVec.ofNat 32 t.val))
        (IntOp.cmpi .slt (BitVec.ofNat 32 t.val) (IntOp.addi (BitVec.ofNat 32 x.val) (BitVec.ofNat 32 w)))) (v x) o)
      (FloatOps.sitofp (F := Ideal) FTy.f32 (IntOp.minsi (IntOp.addi (BitVec.ofNat 32 t.val) 1#32) (BitVec.ofNat 32 w))) - v t
      = (((∑ s : Fin 2048, if s.val ≤ t.val ∧ t.val < s.val + w then f s else 0) / cnt w t.val - f t : ℝ) : EReal) := by
  rw [cnt_word _ _ t.isLt hw, Finset.sum_congr rfl fun x _ => (sel_win x.val t.val w x.isLt t.isLt hw (v x) o).trans
    (by rw [hv, ho, ← EReal.coe_zero, up_ite]), up_sum, up_div_cnt _ h0, hv, up_sub]

/-- Its derivative: the sum over the window that starts with the token. -/
theorem up_unpool (f : Fin 2048 → ℝ) (v : Fin 2048 → EReal) (hv : ∀ s, v s = ((f s : ℝ) : EReal)) (t : Fin 2048) (w : ℕ) (h0 : 0 < w) (hw : w < 2048) :
    (∑ x : Fin 2048, Scalar.select (IntOp.andi (IntOp.cmpi .sle (BitVec.ofNat 32 t.val) (BitVec.ofNat 32 x.val))
        (IntOp.cmpi .slt (BitVec.ofNat 32 x.val) (IntOp.addi (BitVec.ofNat 32 t.val) (BitVec.ofNat 32 w))))
      (Ideal.div (v x) (FloatOps.sitofp (F := Ideal) FTy.f32 (IntOp.minsi (IntOp.addi (BitVec.ofNat 32 x.val) 1#32) (BitVec.ofNat 32 w)))) (0 : EReal))
      = ((∑ δ ∈ Finset.range w, pad (fun s => f s / cnt w s.val) 0 (t.val + δ) : ℝ) : EReal) := by
  rw [← sum_window, ← up_sum]
  refine Finset.sum_congr rfl fun x _ => ?_
  rw [sel_win t.val x.val w t.isLt x.isLt hw, cnt_word _ _ x.isLt hw, hv, up_div_cnt _ h0, ← up_ite, EReal.coe_zero]

/-- Four groups' lanes one after the other. -/
theorem up_cat4 (f : Fin 4 → Fin 128 → ℝ) {v0 v1 v2 v3 : Fin 128 → EReal} (h0 : ∀ i, v0 i = ((f 0 i : ℝ) : EReal)) (h1 : ∀ i, v1 i = ((f 1 i : ℝ) : EReal))
    (h2 : ∀ i, v2 i = ((f 2 i : ℝ) : EReal)) (h3 : ∀ i, v3 i = ((f 3 i : ℝ) : EReal)) (j : Fin 512) :
    (if h : j.val < 128 then v0 ⟨j.val, h⟩ else if h : j.val - 128 < 128 then v1 ⟨j.val - 128, h⟩
      else if h : j.val - 128 - 128 < 128 then v2 ⟨j.val - 128 - 128, h⟩ else v3 ⟨j.val - 128 - 128 - 128, by omega⟩) = ((cat4 f j : ℝ) : EReal) := by
  unfold cat4
  simp only [h0, h1, h2, h3]
  split
  · rfl
  · split
    · rfl
    · split <;> rfl

/-- The sum over taps and tokens. -/
theorem sum_taps (h : S31x2048x2048x512.ReducesTo [0, 1] S2048x512) (v : S31x2048x2048x512.Idx → EReal) (t : Fin 2048) (j : Fin 512) :
    Ideal.hostReduceAdd h v 0 (ix2 t j) = ∑ k : Fin 31, ∑ s : Fin 2048, v (ix4 k s t j) := by
  show (0 : EReal) + ∑ i ∈ Finset.univ.filter (fun i => h.drop i = ix2 t j), v i = _
  rw [zero_add]
  refine (Finset.sum_filter_eq_sum_of_fiber _ (fun k : Fin 31 × Fin 2048 => (ix4 k.1 k.2 t j : S31x2048x2048x512.Idx))
    (fun _ _ e => Prod.ext (congrFun e 0) (congrFun e 1)) (fun i => ?_) v).trans (by simp only [Fintype.sum_prod_type])
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
    | ⟨3, _⟩ => exact (congrArg Fin.val (congrFun e 1)).symm
  · rintro ⟨k, rfl⟩
    funext b
    apply Fin.ext
    match b with
    | ⟨0, _⟩ => rfl
    | ⟨1, _⟩ => rfl

section

variable (x0 x1 : (⟨S2048x1024, .f32⟩ : BufTy).Contents (Elt Ideal)) (x2 : (⟨S8x6144, .f32⟩ : BufTy).Contents (Elt Ideal))
  (x3 : (⟨S1x1024, .f32⟩ : BufTy).Contents (Elt Ideal)) (x4 : (⟨S1536x1024, .bf16⟩ : BufTy).Contents (Elt Ideal))
  (x5 : (⟨S32x512, .f32⟩ : BufTy).Contents (Elt Ideal)) (x6 x7 x8 : (⟨S1x512, .f32⟩ : BufTy).Contents (Elt Ideal))
  (x9 : (⟨S512x512, .bf16⟩ : BufTy).Contents (Elt Ideal)) (x10 : (⟨S4x128x128, .f32⟩ : BufTy).Contents (Elt Ideal))
  (x11 : (⟨S1x512, .f32⟩ : BufTy).Contents (Elt Ideal)) (x12 : (⟨S1024x1024, .bf16⟩ : BufTy).Contents (Elt Ideal))

/-- The arguments are the real arrays of `q`. -/
structure Args (q : Prm) : Prop where
  x0 : ∀ t j, x0 (ix2 t j) = ((q.d t j : ℝ) : EReal)
  x1 : ∀ t j, x1 (ix2 t j) = ((q.x t j : ℝ) : EReal)
  sh : ∀ j : Fin 1024, x2 (ix2 0 ⟨j.val, by omega⟩) = ((q.sh j : ℝ) : EReal)
  sc : ∀ j : Fin 1024, x2 (ix2 0 ⟨1024 + j.val, by omega⟩) = ((q.sc j : ℝ) : EReal)
  gt : ∀ j : Fin 1024, x2 (ix2 0 ⟨2048 + j.val, by omega⟩) = ((q.gt j : ℝ) : EReal)
  x3 : ∀ z j, x3 (ix2 z j) = ((q.g1 j : ℝ) : EReal)
  x4 : ∀ k j, x4 (ix2 k j) = ((q.win k j : ℝ) : EReal)
  x5 : ∀ k j, x5 (ix2 k j) = ((q.dww k j : ℝ) : EReal)
  x6 : ∀ z j, x6 (ix2 z j) = ((q.dwb j : ℝ) : EReal)
  x7 : ∀ z j, x7 (ix2 z j) = ((q.lng j : ℝ) : EReal)
  x8 : ∀ z j, x8 (ix2 z j) = ((q.lnb j : ℝ) : EReal)
  x9 : ∀ l j, x9 (ix2 l j) = ((q.wpw l j : ℝ) : EReal)
  x10 : ∀ g l j, x10 (ix3 g l j) = ((q.wg g l j : ℝ) : EReal)
  x11 : ∀ z j, x11 (ix2 z j) = ((q.psc j : ℝ) : EReal)
  x12 : ∀ l j, x12 (ix2 l j) = ((q.wout l j : ℝ) : EReal)

variable {x0 x1 x2 x3 x4 x5 x6 x7 x8 x9 x10 x11 x12} {q : Prm} (H : Args x0 x1 x2 x3 x4 x5 x6 x7 x8 x9 x10 x11 x12 q)
include H

theorem rv20_at (t : Fin 2048) (z : Fin 1) : val_main_v20 (F := Ideal) x1 (ix2 t z) = ((rs (q.x t) : ℝ) : EReal) := by
  pointwise [val_main_v20, val_main_v19, val_main_v17, val_main_v18, val_main_cst_2, val_main_v15, val_main_v16, val_main_cst_1, val_main_v14, val_main_v13, val_main_cst_0]
  simp only [H.x1, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv23_at (t : Fin 2048) (z : Fin 1) : val_main_v23 (F := Ideal) x1 (ix2 t z) = ((-(1 / 2) * (rs (q.x t) * (rs (q.x t) * rs (q.x t))) : ℝ) : EReal) := by
  pointwise [val_main_v23, val_main_v22, val_main_v21, val_main_v19, val_main_v17, val_main_v18, val_main_cst_2, val_main_v15, val_main_v16, val_main_cst_1, val_main_v14, val_main_v13, val_main_cst_0, val_main_cst_3]
  simp only [H.x1, rv20_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv25_at (t : Fin 2048) (j : Fin 1024) : val_main_v25 (F := Ideal) x1 (ix2 t j) = ((q.xr t j : ℝ) : EReal) := by
  pointwise [val_main_v25, val_main_v24]
  simp only [H.x1, rv20_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv29_at (z : Fin 1) (j : Fin 1024) : val_main_v29 (F := Ideal) x2 (ix2 z j) = ((1 + q.sc j : ℝ) : EReal) := by
  pointwise [val_main_v29, val_main_v28, val_main_v2, val_main_v0, val_main_cst_4]
  simp only [H.sc, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv33_at (t : Fin 2048) (j : Fin 1024) : val_main_v33 (F := Ideal) x1 x2 x3 (ix2 t j) = ((q.h t j : ℝ) : EReal) := by
  pointwise [val_main_v33, val_main_v31, val_main_v32, val_main_v1, val_main_v0, val_main_v27, val_main_v30, val_main_v26]
  simp only [rv25_at H, H.x3, rv29_at H, H.sh, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv35_at (t : Fin 2048) (k : Fin 1536) : val_main_v35 (F := Ideal) x1 x2 x3 x4 (ix2 t k) = ((q.u t k : ℝ) : EReal) := by
  pointwise [val_main_v35, val_main_v34, val_main_v11, val_main_cst, val_main_v8, val_main_v7]
  simp only [rv33_at H, H.x4, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv44_at (t : Fin 2048) (j : Fin 512) : val_main_v44 (F := Ideal) x1 x2 x3 x4 (ix2 t j) = ((q.sg t j : ℝ) : EReal) := by
  pointwise [val_main_v44, val_main_v43, val_main_v42, val_main_v41, val_main_v40, val_main_v39, val_main_v37, val_main_cst_5, val_main_cst_6]
  simp only [rv35_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv47_at (t : Fin 2048) (j : Fin 512) : val_main_v47 (F := Ideal) x1 x2 x3 x4 (ix2 t j) = ((q.sg t j * (1 - q.sg t j) : ℝ) : EReal) := by
  pointwise [val_main_v47, val_main_v46, val_main_v45, val_main_cst_7]
  simp only [rv44_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv48_at (t : Fin 2048) (j : Fin 512) : val_main_v48 (F := Ideal) x1 x2 x3 x4 (ix2 t j) = ((q.hc t j : ℝ) : EReal) := by
  pointwise [val_main_v48, val_main_v36]
  simp only [rv35_at H, rv44_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv57_at (k : Fin 31) (t : Fin 2048) (j : Fin 512) : val_main_v57 (F := Ideal) x1 x2 x3 x4 (ix3 k t j) = ((q.tap t k j : ℝ) : EReal) := by
  pointwise [val_main_v57, val_main_v56_0, val_main_cst_9, val_main_v56_1, val_main_call0_v2, val_main_call0_v3, val_main_call0_v0, val_main_cst_8, val_main_v55, val_main_v53, val_main_v54, val_main_v50, val_main_v49, val_main_v51, val_main_v52, val_main_c]
  exact sum_tap _ _ _ (fun s => rv48_at H s j) word_zero' t k

theorem rv63_at (t : Fin 2048) (j : Fin 512) : val_main_v63 (F := Ideal) x1 x2 x3 x4 x5 x6 (ix2 t j) = ((q.hd t j : ℝ) : EReal) := by
  pointwise [val_main_v63, val_main_v61, val_main_v62, val_main_v60, val_main_cst_10, val_main_v59, val_main_v58, val_main_v12]
  simp only [rv57_at H, H.x5, H.x6, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv69_at (t : Fin 2048) (j : Fin 512) : val_main_v69 (F := Ideal) x1 x2 x3 x4 x5 x6 (ix2 t j) = ((dl (q.hd t) j : ℝ) : EReal) := by
  pointwise [val_main_v69, val_main_v68, val_main_v67, val_main_v65, val_main_v66, val_main_cst_12, val_main_v64, val_main_cst_11]
  simp only [rv63_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv78_at (t : Fin 2048) (j : Fin 512) : val_main_v78 (F := Ideal) x1 x2 x3 x4 x5 x6 (ix2 t j) = ((dl (q.hd t) j : ℝ) : EReal) := by
  pointwise [val_main_v78, val_main_v77, val_main_v67, val_main_v65, val_main_v66, val_main_cst_12, val_main_v64, val_main_cst_11]
  simp only [rv63_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv81_at (t : Fin 2048) (z : Fin 1) : val_main_v81 (F := Ideal) x1 x2 x3 x4 x5 x6 (ix2 t z) = ((rl (q.hd t) : ℝ) : EReal) := by
  pointwise [val_main_v81, val_main_v80, val_main_v76, val_main_v79, val_main_cst_16, val_main_v74, val_main_v75, val_main_cst_15, val_main_v73, val_main_v70, val_main_cst_14]
  simp only [rv69_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv84_at (t : Fin 2048) (z : Fin 1) : val_main_v84 (F := Ideal) x1 x2 x3 x4 x5 x6 (ix2 t z) = ((-(1 / 2) * (rl (q.hd t) * (rl (q.hd t) * rl (q.hd t))) : ℝ) : EReal) := by
  pointwise [val_main_v84, val_main_v83, val_main_v82, val_main_v80, val_main_v76, val_main_v79, val_main_cst_16, val_main_v74, val_main_v75, val_main_cst_15, val_main_v73, val_main_v70, val_main_cst_14, val_main_cst_17]
  simp only [rv69_at H, rv81_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv86_at (t : Fin 2048) (j : Fin 512) : val_main_v86 (F := Ideal) x1 x2 x3 x4 x5 x6 (ix2 t j) = ((q.xh t j : ℝ) : EReal) := by
  pointwise [val_main_v86, val_main_v85]
  simp only [rv78_at H, rv81_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv90_at (t : Fin 2048) (j : Fin 512) : val_main_v90 (F := Ideal) x1 x2 x3 x4 x5 x6 x7 x8 (ix2 t j) = ((q.hl t j : ℝ) : EReal) := by
  pointwise [val_main_v90, val_main_v88, val_main_v89, val_main_v87]
  simp only [rv86_at H, H.x7, H.x8, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv91_2_at (t : Fin 2048) (j : Fin 512) : val_main_v91_2 (F := Ideal) x1 x2 x3 x4 x5 x6 x7 x8 (ix2 t j) = ((sig (q.hl t j) : ℝ) : EReal) := by
  pointwise [val_main_v91_2, val_main_call1_v4, val_main_call1_v3, val_main_call1_v2, val_main_call1_v1, val_main_call1_v0, val_main_call1_cst, val_main_call1_cst_0]
  simp only [rv90_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv91_1_at (t : Fin 2048) (j : Fin 512) : val_main_v91_1 (F := Ideal) x1 x2 x3 x4 x5 x6 x7 x8 (ix2 t j) = ((sig (q.hl t j) * (1 - sig (q.hl t j)) : ℝ) : EReal) := by
  pointwise [val_main_v91_1, val_main_call1_v7, val_main_call1_v6, val_main_call1_cst_1]
  simp only [rv91_2_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv91_0_at (t : Fin 2048) (j : Fin 512) : val_main_v91_0 (F := Ideal) x1 x2 x3 x4 x5 x6 x7 x8 (ix2 t j) = ((q.hs t j : ℝ) : EReal) := by
  pointwise [val_main_v91_0]
  simp only [rv91_2_at H, rv90_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv113_at (t : Fin 2048) (j : Fin 128) : val_main_v113 (F := Ideal) x1 x2 x3 x4 (ix2 t j) = ((q.p t 0 j : ℝ) : EReal) := by
  pointwise [val_main_v113, val_main_v112, val_main_v92, val_main_v38, val_main_v110, val_main_v111, val_main_v103, val_main_v102, val_main_v100, val_main_v101, val_main_c_19, val_main_v98, val_main_v99, val_main_c_18, val_main_v109_0, val_main_cst_22, val_main_v109_1, val_main_call2_v2, val_main_call2_v3, val_main_call2_v0, val_main_cst_21, val_main_v108, val_main_v104, val_main_v107, val_main_v96, val_main_v106, val_main_v97, val_main_v105, val_main_c_20]
  exact up_pool _ _ _ (fun s => rv35_at H s ⟨1024 + (lane 0 j).val, by omega⟩) word_zero' t (wd 0) (by decide) (by decide)

theorem rv170_at (t : Fin 2048) (j : Fin 128) : val_main_v170 (F := Ideal) x1 x2 x3 x4 x10 (ix2 t j) = ((q.z t 0 j : ℝ) : EReal) := by
  pointwise [val_main_v170, val_main_v169, val_main_v168]
  simp only [rv113_at H, H.x10, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv131_at (t : Fin 2048) (j : Fin 128) : val_main_v131 (F := Ideal) x1 x2 x3 x4 (ix2 t j) = ((q.p t 1 j : ℝ) : EReal) := by
  pointwise [val_main_v131, val_main_v130, val_main_v93, val_main_v38, val_main_v128, val_main_v129, val_main_v121, val_main_v120, val_main_v118, val_main_v119, val_main_c_24, val_main_v116, val_main_v117, val_main_c_23, val_main_v127_0, val_main_cst_27, val_main_v127_1, val_main_call3_v2, val_main_call3_v3, val_main_call3_v0, val_main_cst_26, val_main_v126, val_main_v122, val_main_v125, val_main_v114, val_main_v124, val_main_v115, val_main_v123, val_main_c_25]
  exact up_pool _ _ _ (fun s => rv35_at H s ⟨1024 + (lane 1 j).val, by omega⟩) word_zero' t (wd 1) (by decide) (by decide)

theorem rv173_at (t : Fin 2048) (j : Fin 128) : val_main_v173 (F := Ideal) x1 x2 x3 x4 x10 (ix2 t j) = ((q.z t 1 j : ℝ) : EReal) := by
  pointwise [val_main_v173, val_main_v172, val_main_v171]
  simp only [rv131_at H, H.x10, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv149_at (t : Fin 2048) (j : Fin 128) : val_main_v149 (F := Ideal) x1 x2 x3 x4 (ix2 t j) = ((q.p t 2 j : ℝ) : EReal) := by
  pointwise [val_main_v149, val_main_v148, val_main_v94, val_main_v38, val_main_v146, val_main_v147, val_main_v139, val_main_v138, val_main_v136, val_main_v137, val_main_c_29, val_main_v134, val_main_v135, val_main_c_28, val_main_v145_0, val_main_cst_32, val_main_v145_1, val_main_call4_v2, val_main_call4_v3, val_main_call4_v0, val_main_cst_31, val_main_v144, val_main_v140, val_main_v143, val_main_v132, val_main_v142, val_main_v133, val_main_v141, val_main_c_30]
  exact up_pool _ _ _ (fun s => rv35_at H s ⟨1024 + (lane 2 j).val, by omega⟩) word_zero' t (wd 2) (by decide) (by decide)

theorem rv176_at (t : Fin 2048) (j : Fin 128) : val_main_v176 (F := Ideal) x1 x2 x3 x4 x10 (ix2 t j) = ((q.z t 2 j : ℝ) : EReal) := by
  pointwise [val_main_v176, val_main_v175, val_main_v174]
  simp only [rv149_at H, H.x10, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv167_at (t : Fin 2048) (j : Fin 128) : val_main_v167 (F := Ideal) x1 x2 x3 x4 (ix2 t j) = ((q.p t 3 j : ℝ) : EReal) := by
  pointwise [val_main_v167, val_main_v166, val_main_v95, val_main_v38, val_main_v164, val_main_v165, val_main_v157, val_main_v156, val_main_v154, val_main_v155, val_main_c_34, val_main_v152, val_main_v153, val_main_c_33, val_main_v163_0, val_main_cst_37, val_main_v163_1, val_main_call5_v2, val_main_call5_v3, val_main_call5_v0, val_main_cst_36, val_main_v162, val_main_v158, val_main_v161, val_main_v150, val_main_v160, val_main_v151, val_main_v159, val_main_c_35]
  exact up_pool _ _ _ (fun s => rv35_at H s ⟨1024 + (lane 3 j).val, by omega⟩) word_zero' t (wd 3) (by decide) (by decide)

theorem rv179_at (t : Fin 2048) (j : Fin 128) : val_main_v179 (F := Ideal) x1 x2 x3 x4 x10 (ix2 t j) = ((q.z t 3 j : ℝ) : EReal) := by
  pointwise [val_main_v179, val_main_v178, val_main_v177]
  simp only [rv167_at H, H.x10, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv182_at (t : Fin 2048) (j : Fin 512) : val_main_v182 (F := Ideal) x1 x2 x3 x4 x10 x11 (ix2 t j) = ((cat4 (q.z t) j * q.psc j : ℝ) : EReal) := by
  pointwise [val_main_v182, val_main_v180, val_main_v181]
  rw [up_cat4 (q.z t) (fun i => rv170_at H t i) (fun i => rv173_at H t i) (fun i => rv176_at H t i) (fun i => rv179_at H t i), H.x11, up_mul]

theorem rv183_at (t : Fin 2048) (j : Fin 512) : val_main_v183 (F := Ideal) x1 x2 x3 x4 x5 x6 x7 x8 x9 (ix2 t j) = ((∑ l, q.hs t l * q.wpw l j : ℝ) : EReal) := by
  pointwise [val_main_v183, val_main_v9]
  simp only [rv91_0_at H, H.x9, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv184_at (t : Fin 2048) (j : Fin 1024) : val_main_v184 (F := Ideal) x1 x2 x3 x4 x5 x6 x7 x8 x9 x10 x11 (ix2 t j) = ((q.yc t j : ℝ) : EReal) := by
  pointwise [val_main_v184]
  simp only [rv183_at H, rv182_at H]
  unfold Prm.yc
  split <;> rfl

theorem rv185_at (t : Fin 2048) (j : Fin 1024) : val_main_v185 (F := Ideal) x1 x2 x3 x4 x5 x6 x7 x8 x9 x10 x11 x12 (ix2 t j) = ((q.y t j : ℝ) : EReal) := by
  pointwise [val_main_v185, val_main_v10]
  simp only [rv184_at H, H.x12, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv189_at (t : Fin 2048) (j : Fin 512) : val_main_v189 (F := Ideal) x1 x2 x3 x4 (ix2 t j) = ((cat4 (q.p t) j : ℝ) : EReal) := by
  pointwise [val_main_v189]
  exact up_cat4 (q.p t) (fun i => rv113_at H t i) (fun i => rv131_at H t i) (fun i => rv149_at H t i) (fun i => rv167_at H t i) j

theorem rv192_at (t : Fin 2048) (j : Fin 1024) : val_main_v192 (F := Ideal) x0 x2 (ix2 t j) = ((q.dy t j : ℝ) : EReal) := by
  pointwise [val_main_v192, val_main_v191, val_main_v190, val_main_v3, val_main_v0]
  simp only [H.gt, H.x0, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv195_at (z : Fin 1) (j : Fin 1024) : val_main_v195 (F := Ideal) x0 x1 x2 x3 x4 x5 x6 x7 x8 x9 x10 x11 x12 (ix2 z j) = ((∑ t, q.d t j * q.y t j : ℝ) : EReal) := by
  pointwise [val_main_v195, val_main_v194, val_main_v193, val_main_cst_38, val_main_v190]
  simp only [H.x0, rv185_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv197_at (l j : Fin 1024) : val_main_v197 (F := Ideal) x0 x1 x2 x3 x4 x5 x6 x7 x8 x9 x10 x11 (ix2 l j) = ((∑ t, q.wlast t l j : ℝ) : EReal) := by
  pointwise [val_main_v197, val_main_v196]
  simp only [rv192_at H, rv184_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv198_at (t : Fin 2048) (j : Fin 1024) : val_main_v198 (F := Ideal) x0 x2 x12 (ix2 t j) = ((q.dyc t j : ℝ) : EReal) := by
  pointwise [val_main_v198, val_main_v10]
  simp only [rv192_at H, H.x12, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv202_at (l j : Fin 512) : val_main_v202 (F := Ideal) x0 x1 x2 x3 x4 x5 x6 x7 x8 x12 (ix2 l j) = ((∑ t, q.wpoint t l j : ℝ) : EReal) := by
  pointwise [val_main_v202, val_main_v201, val_main_v199]
  simp only [rv198_at H, rv91_0_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv203_at (t : Fin 2048) (j : Fin 512) : val_main_v203 (F := Ideal) x0 x2 x9 x12 (ix2 t j) = ((q.dhs t j : ℝ) : EReal) := by
  pointwise [val_main_v203, val_main_v199, val_main_v9]
  simp only [rv198_at H, H.x9, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv206_at (z : Fin 1) (j : Fin 512) : val_main_v206 (F := Ideal) x0 x1 x2 x3 x4 x10 x12 (ix2 z j) = ((∑ t : Fin 2048, cat4 (q.z t) j * q.dyc t ⟨512 + j.val, by omega⟩ : ℝ) : EReal) := by
  pointwise [val_main_v206, val_main_v205, val_main_v204, val_main_cst_39, val_main_v180, val_main_v200]
  refine (Finset.sum_congr rfl fun t _ => ?_).trans (up_sum _)
  rw [up_cat4 (q.z t) (fun i => rv170_at H t i) (fun i => rv173_at H t i) (fun i => rv176_at H t i) (fun i => rv179_at H t i), rv198_at H, up_mul]

theorem rv208_at (t : Fin 2048) (j : Fin 512) : val_main_v208 (F := Ideal) x0 x2 x11 x12 (ix2 t j) = ((q.dyc t ⟨512 + j.val, by omega⟩ * q.psc j : ℝ) : EReal) := by
  pointwise [val_main_v208, val_main_v200, val_main_v207]
  simp only [rv198_at H, H.x11, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv230_at (j l : Fin 128) : val_main_v230 (F := Ideal) x0 x1 x2 x3 x4 x11 x12 (ix2 j l) = ((∑ t, q.wpool t 0 l j : ℝ) : EReal) := by
  pointwise [val_main_v230, val_main_v209]
  simp only [rv208_at H, rv113_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv231_at (l j : Fin 128) : val_main_v231 (F := Ideal) x0 x1 x2 x3 x4 x11 x12 (ix2 l j) = ((∑ t, q.wpool t 0 l j : ℝ) : EReal) := by
  pointwise [val_main_v231]
  exact rv230_at H j l

theorem rv232_at (t : Fin 2048) (j : Fin 128) : val_main_v232 (F := Ideal) x0 x2 x10 x11 x12 (ix2 t j) = ((q.dp t 0 j : ℝ) : EReal) := by
  pointwise [val_main_v232, val_main_v209, val_main_v169, val_main_v168]
  simp only [rv208_at H, H.x10, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv259_at (t : Fin 2048) (j : Fin 128) : val_main_v259 (F := Ideal) x0 x2 x10 x11 x12 (ix2 t j) = ((q.dv t 0 j : ℝ) : EReal) := by
  pointwise [val_main_v259, val_main_v254, val_main_v258, val_main_call9_v1, val_main_call9_cst_0, val_main_v109_1, val_main_v257, val_main_call9_v0, val_main_call9_cst, val_main_v256, val_main_v255, val_main_v103, val_main_v102, val_main_v100, val_main_v101, val_main_c_19, val_main_v98, val_main_v99, val_main_c_18, val_main_v108, val_main_v104, val_main_v107, val_main_v96, val_main_v106, val_main_v97, val_main_v105, val_main_c_20]
  exact (congrArg₂ (fun a b : EReal => a + b) ((congrArg (fun a : EReal => -a) (rv232_at H t j)).trans (up_neg _))
    (up_unpool _ _ (fun s => rv232_at H s j) t (wd 0) (by decide) (by decide))).trans (up_add _ _)

theorem rv224_at (j l : Fin 128) : val_main_v224 (F := Ideal) x0 x1 x2 x3 x4 x11 x12 (ix2 j l) = ((∑ t, q.wpool t 1 l j : ℝ) : EReal) := by
  pointwise [val_main_v224, val_main_v210]
  simp only [rv208_at H, rv131_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv225_at (l j : Fin 128) : val_main_v225 (F := Ideal) x0 x1 x2 x3 x4 x11 x12 (ix2 l j) = ((∑ t, q.wpool t 1 l j : ℝ) : EReal) := by
  pointwise [val_main_v225]
  exact rv224_at H j l

theorem rv226_at (t : Fin 2048) (j : Fin 128) : val_main_v226 (F := Ideal) x0 x2 x10 x11 x12 (ix2 t j) = ((q.dp t 1 j : ℝ) : EReal) := by
  pointwise [val_main_v226, val_main_v210, val_main_v172, val_main_v171]
  simp only [rv208_at H, H.x10, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv253_at (t : Fin 2048) (j : Fin 128) : val_main_v253 (F := Ideal) x0 x2 x10 x11 x12 (ix2 t j) = ((q.dv t 1 j : ℝ) : EReal) := by
  pointwise [val_main_v253, val_main_v248, val_main_v252, val_main_call8_v1, val_main_call8_cst_0, val_main_v127_1, val_main_v251, val_main_call8_v0, val_main_call8_cst, val_main_v250, val_main_v249, val_main_v121, val_main_v120, val_main_v118, val_main_v119, val_main_c_24, val_main_v116, val_main_v117, val_main_c_23, val_main_v126, val_main_v122, val_main_v125, val_main_v114, val_main_v124, val_main_v115, val_main_v123, val_main_c_25]
  exact (congrArg₂ (fun a b : EReal => a + b) ((congrArg (fun a : EReal => -a) (rv226_at H t j)).trans (up_neg _))
    (up_unpool _ _ (fun s => rv226_at H s j) t (wd 1) (by decide) (by decide))).trans (up_add _ _)

theorem rv218_at (j l : Fin 128) : val_main_v218 (F := Ideal) x0 x1 x2 x3 x4 x11 x12 (ix2 j l) = ((∑ t, q.wpool t 2 l j : ℝ) : EReal) := by
  pointwise [val_main_v218, val_main_v211]
  simp only [rv208_at H, rv149_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv219_at (l j : Fin 128) : val_main_v219 (F := Ideal) x0 x1 x2 x3 x4 x11 x12 (ix2 l j) = ((∑ t, q.wpool t 2 l j : ℝ) : EReal) := by
  pointwise [val_main_v219]
  exact rv218_at H j l

theorem rv220_at (t : Fin 2048) (j : Fin 128) : val_main_v220 (F := Ideal) x0 x2 x10 x11 x12 (ix2 t j) = ((q.dp t 2 j : ℝ) : EReal) := by
  pointwise [val_main_v220, val_main_v211, val_main_v175, val_main_v174]
  simp only [rv208_at H, H.x10, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv247_at (t : Fin 2048) (j : Fin 128) : val_main_v247 (F := Ideal) x0 x2 x10 x11 x12 (ix2 t j) = ((q.dv t 2 j : ℝ) : EReal) := by
  pointwise [val_main_v247, val_main_v242, val_main_v246, val_main_call7_v1, val_main_call7_cst_0, val_main_v145_1, val_main_v245, val_main_call7_v0, val_main_call7_cst, val_main_v244, val_main_v243, val_main_v139, val_main_v138, val_main_v136, val_main_v137, val_main_c_29, val_main_v134, val_main_v135, val_main_c_28, val_main_v144, val_main_v140, val_main_v143, val_main_v132, val_main_v142, val_main_v133, val_main_v141, val_main_c_30]
  exact (congrArg₂ (fun a b : EReal => a + b) ((congrArg (fun a : EReal => -a) (rv220_at H t j)).trans (up_neg _))
    (up_unpool _ _ (fun s => rv220_at H s j) t (wd 2) (by decide) (by decide))).trans (up_add _ _)

theorem rv213_at (j l : Fin 128) : val_main_v213 (F := Ideal) x0 x1 x2 x3 x4 x11 x12 (ix2 j l) = ((∑ t, q.wpool t 3 l j : ℝ) : EReal) := by
  pointwise [val_main_v213, val_main_v212]
  simp only [rv208_at H, rv167_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv214_at (l j : Fin 128) : val_main_v214 (F := Ideal) x0 x1 x2 x3 x4 x11 x12 (ix2 l j) = ((∑ t, q.wpool t 3 l j : ℝ) : EReal) := by
  pointwise [val_main_v214]
  exact rv213_at H j l

theorem rv215_at (t : Fin 2048) (j : Fin 128) : val_main_v215 (F := Ideal) x0 x2 x10 x11 x12 (ix2 t j) = ((q.dp t 3 j : ℝ) : EReal) := by
  pointwise [val_main_v215, val_main_v212, val_main_v178, val_main_v177]
  simp only [rv208_at H, H.x10, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv241_at (t : Fin 2048) (j : Fin 128) : val_main_v241 (F := Ideal) x0 x2 x10 x11 x12 (ix2 t j) = ((q.dv t 3 j : ℝ) : EReal) := by
  pointwise [val_main_v241, val_main_v236, val_main_v240, val_main_call6_v1, val_main_call6_cst_0, val_main_v163_1, val_main_v239, val_main_call6_v0, val_main_call6_cst, val_main_v238, val_main_v237, val_main_v157, val_main_v156, val_main_v154, val_main_v155, val_main_c_34, val_main_v152, val_main_v153, val_main_c_33, val_main_v162, val_main_v158, val_main_v161, val_main_v150, val_main_v160, val_main_v151, val_main_v159, val_main_c_35]
  exact (congrArg₂ (fun a b : EReal => a + b) ((congrArg (fun a : EReal => -a) (rv215_at H t j)).trans (up_neg _))
    (up_unpool _ _ (fun s => rv215_at H s j) t (wd 3) (by decide) (by decide))).trans (up_add _ _)

theorem rv235_at (g : Fin 4) (l j : Fin 128) : val_main_v235 (F := Ideal) x0 x1 x2 x3 x4 x11 x12 (ix3 g l j) = ((∑ t, q.wpool t g l j : ℝ) : EReal) := by
  pointwise [val_main_v235, val_main_v229, val_main_v234, val_main_v233, val_main_cst_43, val_main_v223, val_main_v228, val_main_v227, val_main_cst_42, val_main_v217, val_main_v222, val_main_v221, val_main_cst_41, val_main_v216, val_main_cst_40]
  simp only [rv214_at H, rv219_at H, rv225_at H, rv231_at H]
  match g with
  | 0 => simp
  | 1 => simp
  | 2 => simp
  | 3 => simp

theorem rv260_at (t : Fin 2048) (j : Fin 512) : val_main_v260 (F := Ideal) x0 x2 x10 x11 x12 (ix2 t j) = ((cat4 (q.dv t) j : ℝ) : EReal) := by
  pointwise [val_main_v260]
  exact up_cat4 (q.dv t) (fun i => rv259_at H t i) (fun i => rv253_at H t i) (fun i => rv247_at H t i) (fun i => rv241_at H t i) j

theorem rv261_at (t : Fin 2048) (j : Fin 512) : val_main_v261 (F := Ideal) x0 x1 x2 x3 x4 x5 x6 x7 x8 x9 x12 (ix2 t j) = ((q.dhl t j : ℝ) : EReal) := by
  pointwise [val_main_v261, val_main_call10_v1, val_main_call10_v2, val_main_call10_v0]
  simp only [rv203_at H, rv91_2_at H, rv90_at H, rv91_1_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  exact congrArg _ (by unfold Prm.dhl; ring)

theorem rv263_at (z : Fin 1) (j : Fin 512) : val_main_v263 (F := Ideal) x0 x1 x2 x3 x4 x5 x6 x7 x8 x9 x12 (ix2 z j) = ((∑ t, q.dhl t j : ℝ) : EReal) := by
  pointwise [val_main_v263, val_main_v262, val_main_cst_44]
  simp only [rv261_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv266_at (z : Fin 1) (j : Fin 512) : val_main_v266 (F := Ideal) x0 x1 x2 x3 x4 x5 x6 x7 x8 x9 x12 (ix2 z j) = ((∑ t, q.xh t j * q.dhl t j : ℝ) : EReal) := by
  pointwise [val_main_v266, val_main_v265, val_main_v264, val_main_cst_45]
  simp only [rv86_at H, rv261_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv268_at (t : Fin 2048) (j : Fin 512) : val_main_v268 (F := Ideal) x0 x1 x2 x3 x4 x5 x6 x7 x8 x9 x12 (ix2 t j) = ((q.dxh t j : ℝ) : EReal) := by
  pointwise [val_main_v268, val_main_v267]
  simp only [rv261_at H, H.x7, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv273_at (t : Fin 2048) (j : Fin 512) : val_main_v273 (F := Ideal) x0 x1 x2 x3 x4 x5 x6 x7 x8 x9 x12 (ix2 t j) = ((q.dxh t j * rl (q.hd t) : ℝ) : EReal) := by
  pointwise [val_main_v273, val_main_v272]
  simp only [rv268_at H, rv81_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv277_at (t : Fin 2048) (z : Fin 1) : val_main_v277 (F := Ideal) x0 x1 x2 x3 x4 x5 x6 x7 x8 x9 x12 (ix2 t z) = ((∑ l, -(q.dxh t l * rl (q.hd t)) : ℝ) : EReal) := by
  pointwise [val_main_v277, val_main_v276, val_main_v275, val_main_cst_47]
  simp only [rv273_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv283_at (t : Fin 2048) (j : Fin 512) : val_main_v283 (F := Ideal) x0 x1 x2 x3 x4 x5 x6 x7 x8 x9 x12 (ix2 t j) = ((-((∑ l, dl (q.hd t) l * q.dxh t l) * (-(1 / 2) * (rl (q.hd t) * (rl (q.hd t) * rl (q.hd t)))) / 512 * (2 * dl (q.hd t) j)) : ℝ) : EReal) := by
  pointwise [val_main_v283, val_main_v282, val_main_v281, val_main_v72, val_main_v71, val_main_cst_13, val_main_v280, val_main_v279, val_main_cst_49, val_main_v274, val_main_v278, val_main_cst_48, val_main_v271, val_main_v270, val_main_v269, val_main_cst_46]
  simp only [rv78_at H, rv268_at H, rv84_at H, rv69_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  simp only [Finset.univ_unique, Finset.sum_singleton]

theorem rv286_at (t : Fin 2048) (j : Fin 512) : val_main_v286 (F := Ideal) x0 x1 x2 x3 x4 x5 x6 x7 x8 x9 x12 (ix2 t j) = ((q.dxh t j * rl (q.hd t) + ((∑ l, dl (q.hd t) l * q.dxh t l) * (-(1 / 2) * (rl (q.hd t) * (rl (q.hd t) * rl (q.hd t)))) / 512 * (2 * dl (q.hd t) j)) : ℝ) : EReal) := by
  pointwise [val_main_v286, val_main_v282, val_main_v281, val_main_v72, val_main_v71, val_main_cst_13, val_main_v280, val_main_v279, val_main_cst_49, val_main_v274, val_main_v278, val_main_cst_48, val_main_v271, val_main_v270, val_main_v269, val_main_cst_46]
  simp only [rv273_at H, rv78_at H, rv268_at H, rv84_at H, rv69_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  simp only [Finset.univ_unique, Finset.sum_singleton]

theorem rv288_at (t : Fin 2048) (z : Fin 1) : val_main_v288 (F := Ideal)  (ix2 t z) = ((512 : ℝ) : EReal) := by
  pointwise [val_main_v288, val_main_cst_51]
  exact word_512

theorem rv290_at (t : Fin 2048) : val_main_v290 (F := Ideal) x0 x1 x2 x3 x4 x5 x6 x7 x8 x9 x12 (ix1 t) = ((((∑ l, -(q.dxh t l * rl (q.hd t))) + ∑ j, -((∑ l, dl (q.hd t) l * q.dxh t l) * (-(1 / 2) * (rl (q.hd t) * (rl (q.hd t) * rl (q.hd t)))) / 512 * (2 * dl (q.hd t) j))) / 512 : ℝ) : EReal) := by
  pointwise [val_main_v290, val_main_v289, val_main_cst_52, val_main_v287, val_main_v285, val_main_v284, val_main_cst_50]
  simp only [rv277_at H, rv283_at H, rv288_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  simp only [Finset.univ_unique, Finset.sum_singleton]

theorem rv292_at (t : Fin 2048) (j : Fin 512) : val_main_v292 (F := Ideal) x0 x1 x2 x3 x4 x5 x6 x7 x8 x9 x12 (ix2 t j) = ((q.dhd t j : ℝ) : EReal) := by
  pointwise [val_main_v292, val_main_v291]
  simp only [rv286_at H, rv290_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  exact congrArg _ (layer_back (q.hd t) (q.dxh t) j)

theorem rv294_at (z : Fin 1) (j : Fin 512) : val_main_v294 (F := Ideal) x0 x1 x2 x3 x4 x5 x6 x7 x8 x9 x12 (ix2 z j) = ((∑ t, q.dhd t j : ℝ) : EReal) := by
  pointwise [val_main_v294, val_main_v293, val_main_cst_53]
  simp only [rv292_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv298_at (k : Fin 31) (z : Fin 1) (j : Fin 512) : val_main_v298 (F := Ideal) x0 x1 x2 x3 x4 x5 x6 x7 x8 x9 x12 (ix3 k z j) = ((∑ t, q.tap t k j * q.dhd t j : ℝ) : EReal) := by
  pointwise [val_main_v298, val_main_v297, val_main_v296, val_main_cst_54, val_main_v295]
  simp only [rv57_at H, rv292_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv301_at (k : Fin 31) (j : Fin 512) : val_main_v301 (F := Ideal) x0 x1 x2 x3 x4 x5 x6 x7 x8 x9 x12 (ix2 k j) = ((∑ t, q.tap t k j * q.dhd t j : ℝ) : EReal) := by
  pointwise [val_main_v301, val_main_cst_55]
  simp only [rv298_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  simp only [Finset.univ_unique, Finset.sum_singleton]

theorem rv300_at (k : Fin 31) (t : Fin 2048) (j : Fin 512) : val_main_v300 (F := Ideal) x0 x1 x2 x3 x4 x5 x6 x7 x8 x9 x12 (ix3 k t j) = ((q.dhd t j * q.dww ⟨k.val, by omega⟩ j : ℝ) : EReal) := by
  pointwise [val_main_v300, val_main_v295, val_main_v299, val_main_v58, val_main_v12]
  simp only [rv292_at H, H.x5, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv303_at (t : Fin 2048) (j : Fin 512) : val_main_v303 (F := Ideal) x0 x1 x2 x3 x4 x5 x6 x7 x8 x9 x12 (ix2 t j) = ((q.dhc t j : ℝ) : EReal) := by
  pointwise [val_main_v303, val_main_call11_v1, val_main_call11_cst_0, val_main_v56_1, val_main_v302, val_main_call11_v0, val_main_call11_cst, val_main_v55, val_main_v53, val_main_v54, val_main_v50, val_main_v49, val_main_v51, val_main_v52, val_main_c]
  rw [sum_taps]
  pointwise
  refine Eq.trans (b := ∑ k : Fin 31, ((q.dww ⟨k.val, by omega⟩ j * pad (fun s => q.dhd s j) k.val (t.val + 30) : ℝ) : EReal)) (Finset.sum_congr rfl fun k _ => ?_) (up_sum _)
  refine (sum_tap_back _ _ _ (fun s => rv300_at H k s j) rfl t k).trans (congrArg _ ?_)
  unfold pad
  split <;> ring

theorem rv305_at (t : Fin 2048) (j : Fin 512) : val_main_v305 (F := Ideal) x0 x1 x2 x3 x4 x5 x6 x7 x8 x9 x12 (ix2 t j) = ((q.dhc t j * q.sg t j : ℝ) : EReal) := by
  pointwise [val_main_v305]
  simp only [rv303_at H, rv44_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv306_at (t : Fin 2048) (j : Fin 512) : val_main_v306 (F := Ideal) x0 x1 x2 x3 x4 x5 x6 x7 x8 x9 x12 (ix2 t j) = ((q.ua t j * q.dhc t j * (q.sg t j * (1 - q.sg t j)) : ℝ) : EReal) := by
  pointwise [val_main_v306, val_main_v304, val_main_v36]
  simp only [rv35_at H, rv303_at H, rv47_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv307_at (t : Fin 2048) (k : Fin 1536) : val_main_v307 (F := Ideal) x0 x1 x2 x3 x4 x5 x6 x7 x8 x9 x10 x11 x12 (ix2 t k) = ((q.du t k : ℝ) : EReal) := by
  pointwise [val_main_v307]
  simp only [rv305_at H, rv306_at H, rv260_at H]
  unfold Prm.du
  split
  · rfl
  · split <;> rfl

theorem rv308_at (t : Fin 2048) (j : Fin 1024) : val_main_v308 (F := Ideal) x0 x1 x2 x3 x4 x5 x6 x7 x8 x9 x10 x11 x12 (ix2 t j) = ((q.dh t j : ℝ) : EReal) := by
  pointwise [val_main_v308, val_main_v8, val_main_v7]
  simp only [rv307_at H, H.x4, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv310_at (z : Fin 1) (j : Fin 1024) : val_main_v310 (F := Ideal) x0 x1 x2 x3 x4 x5 x6 x7 x8 x9 x10 x11 x12 (ix2 z j) = ((∑ t, q.dh t j : ℝ) : EReal) := by
  pointwise [val_main_v310, val_main_v309, val_main_cst_56]
  simp only [rv308_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv313_at (z : Fin 1) (j : Fin 1024) : val_main_v313 (F := Ideal) x0 x1 x2 x3 x4 x5 x6 x7 x8 x9 x10 x11 x12 (ix2 z j) = ((∑ t, q.xr t j * q.g1 j * q.dh t j : ℝ) : EReal) := by
  pointwise [val_main_v313, val_main_v312, val_main_v311, val_main_cst_57, val_main_v27, val_main_v26]
  simp only [rv25_at H, H.x3, rv308_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv315_at (t : Fin 2048) (j : Fin 1024) : val_main_v315 (F := Ideal) x0 x1 x2 x3 x4 x5 x6 x7 x8 x9 x10 x11 x12 (ix2 t j) = ((q.dn t j : ℝ) : EReal) := by
  pointwise [val_main_v315, val_main_v314]
  simp only [rv308_at H, rv29_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv318_at (z : Fin 1) (j : Fin 1024) : val_main_v318 (F := Ideal) x0 x1 x2 x3 x4 x5 x6 x7 x8 x9 x10 x11 x12 (ix2 z j) = ((∑ t, q.xr t j * q.dn t j : ℝ) : EReal) := by
  pointwise [val_main_v318, val_main_v317, val_main_v316, val_main_cst_58]
  simp only [rv25_at H, rv315_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv320_at (t : Fin 2048) (j : Fin 1024) : val_main_v320 (F := Ideal) x0 x1 x2 x3 x4 x5 x6 x7 x8 x9 x10 x11 x12 (ix2 t j) = ((q.dn t j * q.g1 j : ℝ) : EReal) := by
  pointwise [val_main_v320, val_main_v319]
  simp only [rv315_at H, H.x3, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv335_at (t : Fin 2048) (j : Fin 1024) : val_main_v335 (F := Ideal) x0 x1 x2 x3 x4 x5 x6 x7 x8 x9 x10 x11 x12 (ix2 t j) = ((q.dx t j : ℝ) : EReal) := by
  pointwise [val_main_v335, val_main_v333, val_main_v334, val_main_v331, val_main_v330, val_main_v329, val_main_cst_61, val_main_v327, val_main_v328, val_main_cst_60, val_main_v323, val_main_v322, val_main_v321, val_main_cst_59, val_main_v326, val_main_v332, val_main_v325, val_main_v324]
  simp only [H.x0, rv320_at H, rv20_at H, H.x1, rv23_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  simp only [Finset.univ_unique, Finset.sum_singleton]
  exact congrArg _ (by unfold Prm.dx Prm.xr; rw [← norm_back (q.x t) (fun l => q.dn t l * q.g1 l) j]; ring)

theorem rv339_at (r : Fin 8) (j : Fin 1024) : val_main_v339 (F := Ideal) x0 x1 x2 x3 x4 x5 x6 x7 x8 x9 x10 x11 x12 (ix2 r j) = ((∑ t, q.rows t r.val j : ℝ) : EReal) := by
  pointwise [val_main_v339, val_main_v336, val_main_v337, val_main_v338, val_main_cst_62]
  simp only [rv310_at H, rv313_at H, rv195_at H, rv318_at H, rv294_at H, rv266_at H, rv263_at H, rv206_at H]
  have hj := j.isLt
  match r with
  | 0 => rfl
  | 1 => rfl
  | 2 => rfl
  | 3 => rfl
  | 4 =>
    by_cases h : j.val < 512
    · simp [h, Prm.rows]
    · simp [h, Prm.rows]
  | 5 =>
    by_cases h : j.val < 512
    · simp [h, Prm.rows]
    · simp [h, Prm.rows]
  | 6 => simp [Prm.rows]
  | 7 => simp [Prm.rows]

theorem rv341_at (k : Fin 32) (j : Fin 512) : val_main_v341 (F := Ideal) x0 x1 x2 x3 x4 x5 x6 x7 x8 x9 x12 (ix2 k j) = ((∑ t, q.wconv t k.val j : ℝ) : EReal) := by
  pointwise [val_main_v341, val_main_v340, val_main_cst_63]
  simp only [rv301_at H]
  unfold Prm.wconv
  by_cases h : k.val < 31
  · simp only [dif_pos h]
  · simp only [dif_neg h, Finset.sum_const_zero, EReal.coe_zero]

theorem rv344_at (g : Fin 6) (r : Fin 256) (t : Fin 2048) : val_main_v344 (F := Ideal) x0 x1 x2 x3 x4 x5 x6 x7 x8 x9 x10 x11 x12 (ix3 g r t) = ((q.du t ⟨g.val * 256 + r.val, by omega⟩ : ℝ) : EReal) := by
  pointwise [val_main_v344, val_main_v343, val_main_v342]
  simp only [rv307_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv345_at (l : Fin 512) (j : Fin 128) : val_main_v345 (F := Ideal) x0 x1 x2 x3 x4 x11 x12 (ix2 l j) = ((∑ t, q.wpool t ⟨l.val / 128, by omega⟩ ⟨l.val % 128, by omega⟩ j : ℝ) : EReal) := by
  pointwise [val_main_v345]
  exact rv235_at H _ _ j

theorem rv346_at (l j : Fin 1024) : val_main_v346 (F := Ideal) x0 x1 x2 x3 x4 x5 x6 x7 x8 x9 x10 x11 (ix2 l j) = ((∑ t, q.wlast t l j : ℝ) : EReal) := by
  pointwise [val_main_v346]
  simp only [rv197_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

theorem rv347_at (l j : Fin 512) : val_main_v347 (F := Ideal) x0 x1 x2 x3 x4 x5 x6 x7 x8 x12 (ix2 l j) = ((∑ t, q.wpoint t l j : ℝ) : EReal) := by
  pointwise [val_main_v347]
  simp only [rv202_at H, word_1024, word_512, word_eps, word_one, word_zero, word_neghalf, word_two, up_zero_add, up_add_zero, up_mul, up_neg, up_exp, up_sum, up_div_1024, up_div_512, up_add, up_sub, up_one_sub, up_sig, up_one_add, up_sig_one, up_rs, up_rs_div, up_rl, up_rl_div]
  try rfl

end

end Cert.Mix

end
-- ==== Proof.FwdRef.lean ====
/- The values of the forward mixer's reference: each stage is the token-wise formula, on any arguments. -/
module

public import proofs.«01_k».proof.Proof.FwdSpec
public import proofs.«01_k».proof.Proof.Ref
public import proofs.«01_k».proof.Proof.Gen.ReferenceFwdIdeal.Read
public import proofs.«01_k».proof.Proof.MixRef
public import Idealize.ShloMosaic.Lib.Pointwise

@[expose] public section

set_option maxRecDepth 16384

noncomputable section

namespace Cert.Fwd

open Idealize.ShloMosaic Cert.Ffn Cert.Mix Cert.ReferenceFwdIdeal Cert.ReferenceFwdIdeal.Gen Cert.ReferenceFwdIdeal.Read

theorem gate (a : EReal) : Ideal.div ((1 : ℝ) : EReal) (((1 : ℝ) : EReal) + Ideal.exp (-a)) = Ideal.logistic a := by
  rw [EReal.coe_one]; rfl

/-- A tap of the convolution: the one token that the test selects. -/
theorem tap_sum (f : Fin 2048 → EReal) (o : EReal) (ho : o = 0) (t : Fin 2048) (k : Fin 31) :
    ∑ x : Fin 2048, Scalar.select (IntOp.cmpi .eq (IntOp.addi (BitVec.ofNat 32 x.val) 30#32) (IntOp.addi (BitVec.ofNat 32 t.val) (BitVec.ofNat 32 k.val))) (f x) o
      = pad f 30 (t.val + k.val) := by
  rw [← sum_pick, ho]
  exact Finset.sum_congr rfl fun x _ => sel_tap _ _ _ x.isLt t.isLt k.isLt _ _

/-- The mean over the trailing window of `w` tokens minus the token's own value. -/
theorem pool_sum (f : Fin 2048 → EReal) (o : EReal) (ho : o = 0) (t : Fin 2048) (w : ℕ) (h0 : 0 < w) (hw : w < 2048) :
    Ideal.div (∑ x : Fin 2048, Scalar.select (IntOp.andi (IntOp.cmpi .sle (BitVec.ofNat 32 x.val) (BitVec.ofNat 32 t.val))
        (IntOp.cmpi .slt (BitVec.ofNat 32 t.val) (IntOp.addi (BitVec.ofNat 32 x.val) (BitVec.ofNat 32 w)))) (f x) o)
      (FloatOps.sitofp (F := Ideal) FTy.f32 (IntOp.minsi (IntOp.addi (BitVec.ofNat 32 t.val) 1#32) (BitVec.ofNat 32 w))) - f t
      = pool w t.val (fun δ => pad f δ t.val) := by
  rw [ho, cnt_word _ _ t.isLt hw, Finset.sum_congr rfl fun x _ => sel_win x.val t.val w x.isLt t.isLt hw (f x) 0, sum_window _ _ _ t.isLt]
  unfold pool
  dsimp only
  rw [pad_of f 0 t.val t (by omega)]

theorem cat4_congr {α : Type} {f : Fin 4 → Fin 128 → α} {v0 v1 v2 v3 : Fin 128 → α} (h0 : ∀ i, v0 i = f 0 i) (h1 : ∀ i, v1 i = f 1 i)
    (h2 : ∀ i, v2 i = f 2 i) (h3 : ∀ i, v3 i = f 3 i) (j : Fin 512) :
    (if h : j.val < 128 then v0 ⟨j.val, h⟩ else if h : j.val - 128 < 128 then v1 ⟨j.val - 128, h⟩
      else if h : j.val - 128 - 128 < 128 then v2 ⟨j.val - 128 - 128, h⟩ else v3 ⟨j.val - 128 - 128 - 128, by omega⟩) = cat4 f j := by
  unfold cat4
  simp only [h0, h1, h2, h3]

theorem cat4_scale (f : Fin 4 → Fin 128 → EReal) (a : Fin 512 → EReal) (j : Fin 512) : cat4 f j * a j = cat4 (fun g i => f g i * a (lane g i)) j := by
  unfold cat4
  split
  · rfl
  · split
    · exact congrArg (_ * a ·) (Fin.ext (by show j.val = 128 + (j.val - 128); omega))
    · split
      · exact congrArg (_ * a ·) (Fin.ext (by show j.val = 256 + (j.val - 128 - 128); omega))
      · exact congrArg (_ * a ·) (Fin.ext (by show j.val = 384 + (j.val - 128 - 128 - 128); omega))

section

variable (x0 : (⟨S2048x1024, .f32⟩ : BufTy).Contents (Elt Ideal)) (x1 : (⟨S8x6144, .f32⟩ : BufTy).Contents (Elt Ideal))
  (x2 : (⟨S1x1024, .f32⟩ : BufTy).Contents (Elt Ideal)) (x3 : (⟨S1536x1024, .bf16⟩ : BufTy).Contents (Elt Ideal))
  (x4 : (⟨S32x512, .f32⟩ : BufTy).Contents (Elt Ideal)) (x5 x6 x7 : (⟨S1x512, .f32⟩ : BufTy).Contents (Elt Ideal))
  (x8 : (⟨S512x512, .bf16⟩ : BufTy).Contents (Elt Ideal)) (x9 : (⟨S4x128x128, .f32⟩ : BufTy).Contents (Elt Ideal))
  (x10 : (⟨S1x512, .f32⟩ : BufTy).Contents (Elt Ideal)) (x11 : (⟨S1024x1024, .bf16⟩ : BufTy).Contents (Elt Ideal))

/-- The formulas' parameters from the arguments. -/
def prm : Prm where
  sh j := x1 (ix2 0 ⟨j.val, by omega⟩)
  sc j := x1 (ix2 0 ⟨1024 + j.val, by omega⟩)
  gt j := x1 (ix2 0 ⟨2048 + j.val, by omega⟩)
  g1 j := x2 (ix2 0 j)
  win k j := x3 (ix2 k j)
  dww k j := x4 (ix2 k j)
  dwb j := x5 (ix2 0 j)
  lng j := x6 (ix2 0 j)
  lnb j := x7 (ix2 0 j)
  wpw l j := x8 (ix2 l j)
  wg g l j := x9 (ix3 g l j)
  psc j := x10 (ix2 0 j)
  wout l j := x11 (ix2 l j)

/-- The tokens. -/
def toks (t : Fin 2048) (j : Fin 1024) : EReal := x0 (ix2 t j)

theorem z1 {n : ℕ} (a : Fin 1) (f : Fin 1 → Fin n → EReal) (j : Fin n) : f a j = f 0 j := by rw [Subsingleton.elim a 0]

theorem v28_at (t : Fin 2048) (j : Fin 1024) : val_main_v28 (F := Ideal) x0 x1 x2 (ix2 t j) = h (prm x1 x2 x3 x4 x5 x6 x7 x8 x9 x10 x11) ((toks x0) t) j := by
  pointwise [val_main_v28, val_main_v27, val_main_v26, val_main_v25, val_main_v24, val_main_v23, val_main_cst_2, val_main_v22, val_main_v21, val_main_v20, val_main_v19, val_main_v18, val_main_v17, val_main_v16, val_main_cst_1, val_main_v15, val_main_v14, val_main_cst_0, val_main_v13, val_main_v12, val_main_cst, val_main_v11, val_main_v1, val_main_v2, val_main_v0]
  simp only [word_1024, word_eps, word_one, word_zero, EReal.coe_zero, zero_add]
  rfl

theorem v48_at (t : Fin 2048) (j : Fin 1024) : val_main_v48 (F := Ideal) x0 x1 x2 (ix2 t j) = h (prm x1 x2 x3 x4 x5 x6 x7 x8 x9 x10 x11) ((toks x0) t) j := by
  pointwise [val_main_v48, val_main_v47, val_main_v46, val_main_v45, val_main_v44, val_main_v43, val_main_cst_7, val_main_v42, val_main_v41, val_main_v40, val_main_v39, val_main_v38, val_main_v37, val_main_v36, val_main_cst_6, val_main_v35, val_main_v34, val_main_cst_5, val_main_v33, val_main_v32, val_main_cst_4, val_main_v31, val_main_v1, val_main_v2, val_main_v0]
  simp only [word_1024, word_eps, word_one, word_zero, EReal.coe_zero, zero_add]
  rfl

theorem v50_at (t : Fin 2048) (k : Fin 1536) : val_main_v50 (F := Ideal) x0 x1 x2 x3 (ix2 t k) = u (prm x1 x2 x3 x4 x5 x6 x7 x8 x9 x10 x11) ((toks x0) t) k := by
  pointwise [val_main_v50, val_main_v49, val_main_v29, val_main_cst_3, val_main_v8, val_main_v7]
  simp only [v48_at x0 x1 x2 x3 x4 x5 x6 x7 x8 x9 x10 x11, word_zero, EReal.coe_zero, add_zero]
  rfl

theorem v60_at (t : Fin 2048) (j : Fin 512) : val_main_v60 (F := Ideal) x0 x1 x2 x3 (ix2 t j) = hc (prm x1 x2 x3 x4 x5 x6 x7 x8 x9 x10 x11) ((toks x0) t) j := by
  pointwise [val_main_v60, val_main_v59, val_main_v58, val_main_cst_9, val_main_v57, val_main_v56, val_main_cst_8, val_main_v55, val_main_v54, val_main_v52, val_main_v51]
  simp only [v50_at x0 x1 x2 x3 x4 x5 x6 x7 x8 x9 x10 x11, word_one, gate]
  rfl

theorem v53_at (t : Fin 2048) (j : Fin 512) : val_main_v53 (F := Ideal) x0 x1 x2 x3 (ix2 t j) = uv (prm x1 x2 x3 x4 x5 x6 x7 x8 x9 x10 x11) ((toks x0) t) j := by
  pointwise [val_main_v53]
  exact v50_at x0 x1 x2 x3 x4 x5 x6 x7 x8 x9 x10 x11 _ _

theorem v69_at (k : Fin 31) (t : Fin 2048) (j : Fin 512) : val_main_v69 (F := Ideal) x0 x1 x2 x3 (ix3 k t j) = pad (fun s => hc (prm x1 x2 x3 x4 x5 x6 x7 x8 x9 x10 x11) ((toks x0) s) j) 30 (t.val + k.val) := by
  pointwise [val_main_v69, val_main_v68, val_main_cst_11, val_main_call0_v0, val_main_call0_v1, val_main_call0_v2, val_main_call0_v3, val_main_cst_10, val_main_v67, val_main_v66, val_main_v65, val_main_v64, val_main_v63, val_main_v62, val_main_v61, val_main_c]
  simp only [v60_at x0 x1 x2 x3 x4 x5 x6 x7 x8 x9 x10 x11, word_zero, EReal.coe_zero, zero_add]
  exact tap_sum (fun s => hc (prm x1 x2 x3 x4 x5 x6 x7 x8 x9 x10 x11) ((toks x0) s) j) _ word_zero' t k

theorem v75_at (t : Fin 2048) (j : Fin 512) : val_main_v75 (F := Ideal) x0 x1 x2 x3 x4 x5 (ix2 t j) = Hd (prm x1 x2 x3 x4 x5 x6 x7 x8 x9 x10 x11) (toks x0) t j := by
  pointwise [val_main_v75, val_main_v74, val_main_v73, val_main_cst_12, val_main_v72, val_main_v71, val_main_v70, val_main_v30]
  simp only [v69_at x0 x1 x2 x3 x4 x5 x6 x7 x8 x9 x10 x11, word_zero, EReal.coe_zero, zero_add]
  unfold Hd hd
  simp only [mul_comm (pad _ _ _)]
  rfl

theorem v81_at (t : Fin 2048) (j : Fin 512) : val_main_v81 (F := Ideal) x0 x1 x2 x3 x4 x5 (ix2 t j) = dl (Hd (prm x1 x2 x3 x4 x5 x6 x7 x8 x9 x10 x11) (toks x0) t) j := by
  pointwise [val_main_v81, val_main_v80, val_main_v79, val_main_v78, val_main_cst_14, val_main_v77, val_main_v76, val_main_cst_13]
  simp only [v75_at x0 x1 x2 x3 x4 x5 x6 x7 x8 x9 x10 x11, word_zero, word_512, EReal.coe_zero, zero_add]
  rfl

theorem v88_at (t : Fin 2048) (j : Fin 512) : val_main_v88 (F := Ideal) x0 x1 x2 x3 x4 x5 (ix2 t j) = dl (Hd (prm x1 x2 x3 x4 x5 x6 x7 x8 x9 x10 x11) (toks x0) t) j := by
  pointwise [val_main_v88, val_main_v87, val_main_v79, val_main_v78, val_main_cst_14, val_main_v77, val_main_v76, val_main_cst_13]
  simp only [v75_at x0 x1 x2 x3 x4 x5 x6 x7 x8 x9 x10 x11, word_zero, word_512, EReal.coe_zero, zero_add]
  rfl

theorem v97_at (t : Fin 2048) (j : Fin 512) : val_main_v97 (F := Ideal) x0 x1 x2 x3 x4 x5 x6 x7 (ix2 t j) = hl (prm x1 x2 x3 x4 x5 x6 x7 x8 x9 x10 x11) (Hd (prm x1 x2 x3 x4 x5 x6 x7 x8 x9 x10 x11) (toks x0) t) j := by
  pointwise [val_main_v97, val_main_v96, val_main_v95, val_main_v94, val_main_v93, val_main_v92, val_main_v91, val_main_v90, val_main_v89, val_main_cst_17, val_main_v86, val_main_v85, val_main_cst_16, val_main_v84, val_main_v83, val_main_cst_15, val_main_v82]
  simp only [v81_at x0 x1 x2 x3 x4 x5 x6 x7 x8 x9 x10 x11, v88_at x0 x1 x2 x3 x4 x5 x6 x7 x8 x9 x10 x11, word_zero, word_eps, word_512, EReal.coe_zero, zero_add]
  rfl

theorem v98_at (t : Fin 2048) (j : Fin 512) : val_main_v98 (F := Ideal) x0 x1 x2 x3 x4 x5 x6 x7 (ix2 t j) = hs (prm x1 x2 x3 x4 x5 x6 x7 x8 x9 x10 x11) (Hd (prm x1 x2 x3 x4 x5 x6 x7 x8 x9 x10 x11) (toks x0) t) j := by
  pointwise [val_main_v98, val_main_call1_v5, val_main_call1_v4, val_main_call1_cst_0, val_main_call1_v3, val_main_call1_v2, val_main_call1_cst, val_main_call1_v1, val_main_call1_v0]
  simp only [v97_at x0 x1 x2 x3 x4 x5 x6 x7 x8 x9 x10 x11, word_one, gate]
  rfl

theorem v120_at (t : Fin 2048) (j : Fin 128) : val_main_v120 (F := Ideal) x0 x1 x2 x3 (ix2 t j) = P (prm x1 x2 x3 x4 x5 x6 x7 x8 x9 x10 x11) (toks x0) t 0 j := by
  pointwise [val_main_v120, val_main_v119, val_main_v118, val_main_v117, val_main_cst_22, val_main_v116, val_main_call2_v0, val_main_call2_v1, val_main_call2_v2, val_main_call2_v3, val_main_cst_21, val_main_v115, val_main_v114, val_main_v113, val_main_v112, val_main_c_20, val_main_v111, val_main_v110, val_main_v109, val_main_v108, val_main_c_19, val_main_v107, val_main_v106, val_main_c_18, val_main_v105, val_main_v104, val_main_v103, val_main_v99]
  simp only [v53_at x0 x1 x2 x3 x4 x5 x6 x7 x8 x9 x10 x11, word_zero, EReal.coe_zero, zero_add]
  exact pool_sum (fun s => uv (prm x1 x2 x3 x4 x5 x6 x7 x8 x9 x10 x11) ((toks x0) s) (lane 0 j)) _ word_zero' t 2 (by decide) (by decide)

theorem v138_at (t : Fin 2048) (j : Fin 128) : val_main_v138 (F := Ideal) x0 x1 x2 x3 (ix2 t j) = P (prm x1 x2 x3 x4 x5 x6 x7 x8 x9 x10 x11) (toks x0) t 1 j := by
  pointwise [val_main_v138, val_main_v137, val_main_v136, val_main_v135, val_main_cst_27, val_main_v134, val_main_call3_v0, val_main_call3_v1, val_main_call3_v2, val_main_call3_v3, val_main_cst_26, val_main_v133, val_main_v132, val_main_v131, val_main_v130, val_main_c_25, val_main_v129, val_main_v128, val_main_v127, val_main_v126, val_main_c_24, val_main_v125, val_main_v124, val_main_c_23, val_main_v123, val_main_v122, val_main_v121, val_main_v100]
  simp only [v53_at x0 x1 x2 x3 x4 x5 x6 x7 x8 x9 x10 x11, word_zero, EReal.coe_zero, zero_add]
  exact pool_sum (fun s => uv (prm x1 x2 x3 x4 x5 x6 x7 x8 x9 x10 x11) ((toks x0) s) (lane 1 j)) _ word_zero' t 4 (by decide) (by decide)

theorem v156_at (t : Fin 2048) (j : Fin 128) : val_main_v156 (F := Ideal) x0 x1 x2 x3 (ix2 t j) = P (prm x1 x2 x3 x4 x5 x6 x7 x8 x9 x10 x11) (toks x0) t 2 j := by
  pointwise [val_main_v156, val_main_v155, val_main_v154, val_main_v153, val_main_cst_32, val_main_v152, val_main_call4_v0, val_main_call4_v1, val_main_call4_v2, val_main_call4_v3, val_main_cst_31, val_main_v151, val_main_v150, val_main_v149, val_main_v148, val_main_c_30, val_main_v147, val_main_v146, val_main_v145, val_main_v144, val_main_c_29, val_main_v143, val_main_v142, val_main_c_28, val_main_v141, val_main_v140, val_main_v139, val_main_v101]
  simp only [v53_at x0 x1 x2 x3 x4 x5 x6 x7 x8 x9 x10 x11, word_zero, EReal.coe_zero, zero_add]
  exact pool_sum (fun s => uv (prm x1 x2 x3 x4 x5 x6 x7 x8 x9 x10 x11) ((toks x0) s) (lane 2 j)) _ word_zero' t 8 (by decide) (by decide)

theorem v174_at (t : Fin 2048) (j : Fin 128) : val_main_v174 (F := Ideal) x0 x1 x2 x3 (ix2 t j) = P (prm x1 x2 x3 x4 x5 x6 x7 x8 x9 x10 x11) (toks x0) t 3 j := by
  pointwise [val_main_v174, val_main_v173, val_main_v172, val_main_v171, val_main_cst_37, val_main_v170, val_main_call5_v0, val_main_call5_v1, val_main_call5_v2, val_main_call5_v3, val_main_cst_36, val_main_v169, val_main_v168, val_main_v167, val_main_v166, val_main_c_35, val_main_v165, val_main_v164, val_main_v163, val_main_v162, val_main_c_34, val_main_v161, val_main_v160, val_main_c_33, val_main_v159, val_main_v158, val_main_v157, val_main_v102]
  simp only [v53_at x0 x1 x2 x3 x4 x5 x6 x7 x8 x9 x10 x11, word_zero, EReal.coe_zero, zero_add]
  exact pool_sum (fun s => uv (prm x1 x2 x3 x4 x5 x6 x7 x8 x9 x10 x11) ((toks x0) s) (lane 3 j)) _ word_zero' t 16 (by decide) (by decide)

theorem v196_at (t : Fin 2048) (j : Fin 512) : val_main_v196 (F := Ideal) x0 x1 x2 x3 (ix2 t j) = cat4 (P (prm x1 x2 x3 x4 x5 x6 x7 x8 x9 x10 x11) (toks x0) t) j := by
  pointwise [val_main_v196]
  exact cat4_congr (fun i => v120_at x0 x1 x2 x3 x4 x5 x6 x7 x8 x9 x10 x11 t i) (fun i => v138_at x0 x1 x2 x3 x4 x5 x6 x7 x8 x9 x10 x11 t i) (fun i => v156_at x0 x1 x2 x3 x4 x5 x6 x7 x8 x9 x10 x11 t i) (fun i => v174_at x0 x1 x2 x3 x4 x5 x6 x7 x8 x9 x10 x11 t i) j

theorem v189_at (t : Fin 2048) (j : Fin 512) : val_main_v189 (F := Ideal) x0 x1 x2 x3 x9 x10 (ix2 t j) = cat4 (z (prm x1 x2 x3 x4 x5 x6 x7 x8 x9 x10 x11) (P (prm x1 x2 x3 x4 x5 x6 x7 x8 x9 x10 x11) (toks x0) t)) j := by
  refine Eq.trans ?_ (cat4_scale _ (Prm.psc (prm x1 x2 x3 x4 x5 x6 x7 x8 x9 x10 x11)) j)
  pointwise [val_main_v189, val_main_v188, val_main_v187, val_main_v186, val_main_v185, val_main_v184, val_main_v183, val_main_v182, val_main_v181, val_main_v180, val_main_v179, val_main_v178, val_main_v177, val_main_v176, val_main_v175]
  simp only [v120_at x0 x1 x2 x3 x4 x5 x6 x7 x8 x9 x10 x11, v138_at x0 x1 x2 x3 x4 x5 x6 x7 x8 x9 x10 x11, v156_at x0 x1 x2 x3 x4 x5 x6 x7 x8 x9 x10 x11, v174_at x0 x1 x2 x3 x4 x5 x6 x7 x8 x9 x10 x11]
  unfold cat4
  rfl

theorem v191_at (t : Fin 2048) (j : Fin 1024) : val_main_v191 (F := Ideal) x0 x1 x2 x3 x4 x5 x6 x7 x8 x9 x10 (ix2 t j) = Yc (prm x1 x2 x3 x4 x5 x6 x7 x8 x9 x10 x11) (toks x0) t j := by
  pointwise [val_main_v191, val_main_v190, val_main_v9]
  simp only [v98_at x0 x1 x2 x3 x4 x5 x6 x7 x8 x9 x10 x11, v189_at x0 x1 x2 x3 x4 x5 x6 x7 x8 x9 x10 x11]
  rfl

theorem v192_at (t : Fin 2048) (j : Fin 1024) : val_main_v192 (F := Ideal) x0 x1 x2 x3 x4 x5 x6 x7 x8 x9 x10 x11 (ix2 t j) = y (prm x1 x2 x3 x4 x5 x6 x7 x8 x9 x10 x11) (Yc (prm x1 x2 x3 x4 x5 x6 x7 x8 x9 x10 x11) (toks x0) t) j := by
  pointwise [val_main_v192, val_main_v10]
  simp only [v191_at x0 x1 x2 x3 x4 x5 x6 x7 x8 x9 x10 x11]
  rfl

theorem v195_at (t : Fin 2048) (j : Fin 1024) : val_main_v195 (F := Ideal) x0 x1 x2 x3 x4 x5 x6 x7 x8 x9 x10 x11 (ix2 t j) = Cert.Fwd.x1 (prm x1 x2 x3 x4 x5 x6 x7 x8 x9 x10 x11) ((toks x0) t) (Yc (prm x1 x2 x3 x4 x5 x6 x7 x8 x9 x10 x11) (toks x0) t) j := by
  pointwise [val_main_v195, val_main_v194, val_main_v193, val_main_v3, val_main_v0]
  simp only [v192_at x0 x1 x2 x3 x4 x5 x6 x7 x8 x9 x10 x11]
  rfl

theorem v197_at (t : Fin 2048) (j : Fin 1024) : val_main_v197 (F := Ideal) x0 x1 x2 (ix2 t j) = h (prm x1 x2 x3 x4 x5 x6 x7 x8 x9 x10 x11) ((toks x0) t) j := by
  pointwise [val_main_v197]
  exact v28_at x0 x1 x2 x3 x4 x5 x6 x7 x8 x9 x10 x11 t j

theorem v201_at (t : Fin 2048) (j : Fin 1024) : val_main_v201 (F := Ideal) x0 x1 x2 x3 (ix2 t j) = u (prm x1 x2 x3 x4 x5 x6 x7 x8 x9 x10 x11) ((toks x0) t) ⟨j.val, by omega⟩ := by
  pointwise [val_main_v201]
  exact v50_at x0 x1 x2 x3 x4 x5 x6 x7 x8 x9 x10 x11 t _

theorem v199_at (t : Fin 2048) (j : Fin 512) : val_main_v199 (F := Ideal) x0 x1 x2 x3 (ix2 t j) = cat4 (P (prm x1 x2 x3 x4 x5 x6 x7 x8 x9 x10 x11) (toks x0) t) j := by
  pointwise [val_main_v199]
  exact v196_at x0 x1 x2 x3 x4 x5 x6 x7 x8 x9 x10 x11 t j

theorem v203_at (s : Fin 2) (a : Fin 256) (t : Fin 2048) :
    val_main_v203 (F := Ideal) x0 x1 x2 x3 x4 x5 x6 x7 (ix3 s a t) = hs (prm x1 x2 x3 x4 x5 x6 x7 x8 x9 x10 x11) (Hd (prm x1 x2 x3 x4 x5 x6 x7 x8 x9 x10 x11) (toks x0) t) ⟨s.val * 256 + a.val, by omega⟩ := by
  pointwise [val_main_v203, val_main_v202, val_main_v198]
  exact v98_at x0 x1 x2 x3 x4 x5 x6 x7 x8 x9 x10 x11 t _

theorem v205_at (s : Fin 4) (a : Fin 256) (t : Fin 2048) :
    val_main_v205 (F := Ideal) x0 x1 x2 x3 x4 x5 x6 x7 x8 x9 x10 (ix3 s a t) = Yc (prm x1 x2 x3 x4 x5 x6 x7 x8 x9 x10 x11) (toks x0) t ⟨s.val * 256 + a.val, by omega⟩ := by
  pointwise [val_main_v205, val_main_v204, val_main_v200]
  exact v191_at x0 x1 x2 x3 x4 x5 x6 x7 x8 x9 x10 x11 t _

end

end Cert.Fwd

end
-- ==== Proof.MixBody.lean ====
/- The body of the mixer's backward call as one triple: the buffers it is handed, what they hold, and what its stores leave. -/
module

public import proofs.«01_k».proof.Proof.Gen.KernelMixIdeal.Launch
public import proofs.«01_k».proof.Proof.Gen.KernelMixIdeal.Skeleton
public import proofs.«01_k».proof.Proof.Gen.KernelMixIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelMixIdeal.Body

open Idealize.ShloMosaic Idealize.ShloMosaic.TcCoe Idealize.ShloMosaic.Tactic Cert.KernelMixIdeal Cert.KernelMixIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers of one call of the body, each a whole buffer: twenty inputs, seven outputs, eight scratch. -/
structure Mems where
  dx1 : Memref sig .tc .vmem S256x1024 .f32
  w_dx1 : dx1.IsWhole
  x : Memref sig .tc .vmem S256x1024 .f32
  w_x : x.IsWhole
  y : Memref sig .tc .vmem S256x1024 .f32
  w_y : y.IsWhole
  uag : Memref sig .tc .vmem S256x1024 .f32
  w_uag : uag.IsWhole
  hc : Memref sig .tc .vmem S256x512 .f32
  w_hc : hc.IsWhole
  halo : Memref sig .tc .vmem S32x512 .f32
  w_halo : halo.IsWhole
  hd : Memref sig .tc .vmem S256x512 .f32
  w_hd : hd.IsWhole
  pb : Memref sig .tc .vmem S256x512 .bf16
  w_pb : pb.IsWhole
  mod : Memref sig .tc .vmem S8x6144 .f32
  w_mod : mod.IsWhole
  g1 : Memref sig .tc .vmem S1x1024 .f32
  w_g1 : g1.IsWhole
  win : Memref sig .tc .vmem S1536x1024 .bf16
  w_win : win.IsWhole
  dww : Memref sig .tc .vmem S32x512 .f32
  w_dww : dww.IsWhole
  lng : Memref sig .tc .vmem S1x512 .f32
  w_lng : lng.IsWhole
  lnb : Memref sig .tc .vmem S1x512 .f32
  w_lnb : lnb.IsWhole
  wpw : Memref sig .tc .vmem S512x512 .bf16
  w_wpw : wpw.IsWhole
  wg : Memref sig .tc .vmem S4x128x128 .f32
  w_wg : wg.IsWhole
  psc : Memref sig .tc .vmem S1x512 .f32
  w_psc : psc.IsWhole
  wout : Memref sig .tc .vmem S1024x1024 .bf16
  w_wout : wout.IsWhole
  ycb : Memref sig .tc .vmem S4x256x256 .bf16
  w_ycb : ycb.IsWhole
  hsb : Memref sig .tc .vmem S2x256x256 .bf16
  w_hsb : hsb.IsWhole
  gx : Memref sig .tc .vmem S256x1024 .f32
  w_gx : gx.IsWhole
  dub : Memref sig .tc .vmem S6x256x256 .bf16
  w_dub : dub.IsWhole
  acc : Memref sig .tc .vmem S8x1024 .f32
  w_acc : acc.IsWhole
  ddw : Memref sig .tc .vmem S32x512 .f32
  w_ddw : ddw.IsWhole
  dwg : Memref sig .tc .vmem S512x128 .f32
  w_dwg : dwg.IsWhole
  po : Memref sig .tc .vmem S1024x1024 .bf16
  w_po : po.IsWhole
  pp : Memref sig .tc .vmem S512x512 .bf16
  w_pp : pp.IsWhole
  dE : Memref sig .tc .vmem S288x512 .f32
  w_dE : dE.IsWhole
  qE : Memref sig .tc .vmem S272x512 .f32
  w_qE : qE.IsWhole
  hx : Memref sig .tc .vmem S288x512 .f32
  w_hx : hx.IsWhole
  ub : Memref sig .tc .vmem S256x1536 .bf16
  w_ub : ub.IsWhole
  hr : Memref sig .tc .vmem S7x280x512 .f32
  w_hr : hr.IsWhole
  dr : Memref sig .tc .vmem S7x280x512 .f32
  w_dr : dr.IsWhole
  ao : Memref sig .tc .vmem S1024x1024 .f32
  w_ao : ao.IsWhole
  ap : Memref sig .tc .vmem S512x512 .f32
  w_ap : ap.IsWhole

/-- The body on these buffers. -/
abbrev Mems.run (M : Mems) (i : grid0.Coords) : Prog (TpuEff nD τ sig (Elt F) Λ₀ .tc) PUnit :=
  cc0_bwd_mix i M.dx1 M.w_dx1 M.x M.w_x M.y M.w_y M.uag M.w_uag M.hc M.w_hc M.halo M.w_halo M.hd M.w_hd M.pb M.w_pb M.mod M.w_mod M.g1 M.w_g1 M.win M.w_win M.dww M.w_dww M.lng M.w_lng M.lnb M.w_lnb M.wpw M.w_wpw M.wg M.w_wg M.psc M.w_psc M.wout M.w_wout M.ycb M.w_ycb M.hsb M.w_hsb M.gx M.w_gx M.dub M.w_dub M.acc M.w_acc M.ddw M.w_ddw M.dwg M.w_dwg M.po M.w_po M.pp M.w_pp M.dE M.w_dE M.qE M.w_qE M.hx M.w_hx M.ub M.w_ub M.hr M.w_hr M.dr M.w_dr M.ao M.w_ao M.ap M.w_ap

/-- What the input buffers hold. -/
structure Ins (F : FTy → Type) where
  dx1 : Vec F S256x1024 .f32
  x : Vec F S256x1024 .f32
  y : Vec F S256x1024 .f32
  uag : Vec F S256x1024 .f32
  hc : Vec F S256x512 .f32
  halo : Vec F S32x512 .f32
  hd : Vec F S256x512 .f32
  pb : Vec F S256x512 .bf16
  mod : Vec F S8x6144 .f32
  g1 : Vec F S1x1024 .f32
  win : Vec F S1536x1024 .bf16
  dww : Vec F S32x512 .f32
  lng : Vec F S1x512 .f32
  lnb : Vec F S1x512 .f32
  wpw : Vec F S512x512 .bf16
  wg : Vec F S4x128x128 .f32
  psc : Vec F S1x512 .f32
  wout : Vec F S1024x1024 .bf16
  ycb : Vec F S4x256x256 .bf16
  hsb : Vec F S2x256x256 .bf16

/-- What the body hands on from one point of the grid to the next: the sums, and the tails of two scratch buffers. -/
structure Carry (F : FTy → Type) where
  acc : Vec F S8x1024 .f32
  ddw : Vec F S32x512 .f32
  dwg : Vec F S512x128 .f32
  dE : Vec F S288x512 .f32
  qE : Vec F S272x512 .f32
  ao : Vec F S1024x1024 .f32
  ap : Vec F S512x512 .f32

/-- What the other buffers hold. -/
structure Rest (F : FTy → Type) where
  gx : Vec F S256x1024 .f32
  dub : Vec F S6x256x256 .bf16
  po : Vec F S1024x1024 .bf16
  pp : Vec F S512x512 .bf16
  hx : Vec F S288x512 .f32
  ub : Vec F S256x1536 .bf16
  hr : Vec F S7x280x512 .f32
  dr : Vec F S7x280x512 .f32

/-- The stores into each buffer, the last first. -/
structure Stores (F : FTy → Type) where
  gx : List (View.Piece (Elt F) S256x1024 .f32)
  dub : List (View.Piece (Elt F) S6x256x256 .bf16)
  acc : List (View.Piece (Elt F) S8x1024 .f32)
  ddw : List (View.Piece (Elt F) S32x512 .f32)
  dwg : List (View.Piece (Elt F) S512x128 .f32)
  po : List (View.Piece (Elt F) S1024x1024 .bf16)
  pp : List (View.Piece (Elt F) S512x512 .bf16)
  dE : List (View.Piece (Elt F) S288x512 .f32)
  qE : List (View.Piece (Elt F) S272x512 .f32)
  hx : List (View.Piece (Elt F) S288x512 .f32)
  ub : List (View.Piece (Elt F) S256x1536 .bf16)
  hr : List (View.Piece (Elt F) S7x280x512 .f32)
  dr : List (View.Piece (Elt F) S7x280x512 .f32)
  ao : List (View.Piece (Elt F) S1024x1024 .f32)
  ap : List (View.Piece (Elt F) S512x512 .f32)

/-- What a whole buffer that held `x` holds after the stores `L`. -/
def left {S : Shape} {e : EltTy} {a : Memref sig .tc .vmem S e} (h : a.IsWhole) (x : Vec F S e) (L : List (View.Piece (Elt F) S e)) : Vec F S e :=
  a.view.read (Elt F) (a.view.writes (Elt F) (h.unread x) L)

/-- Stores that cover the buffer leave the same whatever it held, and in whichever buffer. -/
theorem left_of_cover {S : Shape} {e : EltTy} {a : Memref sig .tc .vmem S e} (h : a.IsWhole) {a' : Memref sig .tc .vmem S e} (h' : a'.IsWhole)
    (x x' : Vec F S e) (L : List (View.Piece (Elt F) S e)) (hc : ∀ y, ∃ p ∈ L, y ∈ p.1.set) : left h x L = left h' x' L :=
  View.read_writes_of_cover _ _ _ _ _ hc

/-- A whole buffer held at the contents `x`. -/
abbrev held (c : Dev nD) {S : Shape} {e : EltTy} {a : Memref sig .tc .vmem S e} (h : a.IsWhole) (x : Vec F S e) : sProp 𝕄 :=
  a.view.loc (c : Thread nD τ) ↦[a.view.set]{fullShare} h.unread x

/-- A whole buffer that held `x`, with the stores `L` made. -/
abbrev stored (c : Dev nD) {S : Shape} {e : EltTy} {a : Memref sig .tc .vmem S e} (h : a.IsWhole) (x : Vec F S e)
    (L : List (View.Piece (Elt F) S e)) : sProp 𝕄 :=
  a.view.loc (c : Thread nD τ) ↦[a.view.set]{fullShare} a.view.writes (Elt F) (h.unread x) L

theorem owns_held (c : Dev nD) {S : Shape} {e : EltTy} {a : Memref sig .tc .vmem S e} (h : a.IsWhole) (x : Vec F S e) :
    owns (c : Thread nD τ) a fullShare x ⊢ held c h x := by
  unfold owns
  iintro ⟨%f, %hf, H⟩
  obtain rfl := h.eq_unread hf
  iexact H

theorem held_owns (c : Dev nD) {S : Shape} {e : EltTy} {a : Memref sig .tc .vmem S e} (h : a.IsWhole) (x : Vec F S e) :
    held c h x ⊢ owns (c : Thread nD τ) a fullShare x := by
  unfold owns
  iintro H
  iexists _
  isplitr
  · ipureintro
    exact h.read_unread _
  iexact H

theorem stored_owns (c : Dev nD) {S : Shape} {e : EltTy} {a : Memref sig .tc .vmem S e} (h : a.IsWhole) (x : Vec F S e)
    (L : List (View.Piece (Elt F) S e)) : stored c h x L ⊢ owns (c : Thread nD τ) a fullShare (left h x L) := by
  unfold owns
  iintro H
  iexists _
  isplitr
  · ipureintro
    rfl
  iexact H

/-- The first point of the grid. -/
abbrev first (i : grid0.Coords) : Prop := (Scalar.cmpi .ne (Scalar.extui (Scalar.cmpi .eq (BitVec.ofNat 32 (i 0).val) 0#32)) 0#32) = 1#1

/-- The last point. -/
abbrev last (i : grid0.Coords) : Prop := k0_cond2 i = 1#1

/-- The inputs owned at `x`. -/
def ownsIn (c : Dev nD) (M : Mems) (x : Ins F) : sProp 𝕄 :=
  iprop(owns (c : Thread nD τ) M.dx1 fullShare x.dx1
    ∗ owns (c : Thread nD τ) M.x fullShare x.x
    ∗ owns (c : Thread nD τ) M.y fullShare x.y
    ∗ owns (c : Thread nD τ) M.uag fullShare x.uag
    ∗ owns (c : Thread nD τ) M.hc fullShare x.hc
    ∗ owns (c : Thread nD τ) M.halo fullShare x.halo
    ∗ owns (c : Thread nD τ) M.hd fullShare x.hd
    ∗ owns (c : Thread nD τ) M.pb fullShare x.pb
    ∗ owns (c : Thread nD τ) M.mod fullShare x.mod
    ∗ owns (c : Thread nD τ) M.g1 fullShare x.g1
    ∗ owns (c : Thread nD τ) M.win fullShare x.win
    ∗ owns (c : Thread nD τ) M.dww fullShare x.dww
    ∗ owns (c : Thread nD τ) M.lng fullShare x.lng
    ∗ owns (c : Thread nD τ) M.lnb fullShare x.lnb
    ∗ owns (c : Thread nD τ) M.wpw fullShare x.wpw
    ∗ owns (c : Thread nD τ) M.wg fullShare x.wg
    ∗ owns (c : Thread nD τ) M.psc fullShare x.psc
    ∗ owns (c : Thread nD τ) M.wout fullShare x.wout
    ∗ owns (c : Thread nD τ) M.ycb fullShare x.ycb
    ∗ owns (c : Thread nD τ) M.hsb fullShare x.hsb)

/-- The other buffers owned at `K` and `R`. -/
def ownsOut (c : Dev nD) (M : Mems) (K : Carry F) (R : Rest F) : sProp 𝕄 :=
  iprop(owns (c : Thread nD τ) M.gx fullShare R.gx
    ∗ owns (c : Thread nD τ) M.dub fullShare R.dub
    ∗ owns (c : Thread nD τ) M.acc fullShare K.acc
    ∗ owns (c : Thread nD τ) M.ddw fullShare K.ddw
    ∗ owns (c : Thread nD τ) M.dwg fullShare K.dwg
    ∗ owns (c : Thread nD τ) M.po fullShare R.po
    ∗ owns (c : Thread nD τ) M.pp fullShare R.pp
    ∗ owns (c : Thread nD τ) M.dE fullShare K.dE
    ∗ owns (c : Thread nD τ) M.qE fullShare K.qE
    ∗ owns (c : Thread nD τ) M.hx fullShare R.hx
    ∗ owns (c : Thread nD τ) M.ub fullShare R.ub
    ∗ owns (c : Thread nD τ) M.hr fullShare R.hr
    ∗ owns (c : Thread nD τ) M.dr fullShare R.dr
    ∗ owns (c : Thread nD τ) M.ao fullShare K.ao
    ∗ owns (c : Thread nD τ) M.ap fullShare K.ap)

/-- What the stores leave of `K`. -/
def Mems.carry (M : Mems) (K : Carry F) (W : Stores F) : Carry F where
  acc := left M.w_acc K.acc W.acc
  ddw := left M.w_ddw K.ddw W.ddw
  dwg := left M.w_dwg K.dwg W.dwg
  dE := left M.w_dE K.dE W.dE
  qE := left M.w_qE K.qE W.qE
  ao := left M.w_ao K.ao W.ao
  ap := left M.w_ap K.ap W.ap

/-- What the stores leave of `R`. -/
def Mems.rest (M : Mems) (R : Rest F) (W : Stores F) : Rest F where
  gx := left M.w_gx R.gx W.gx
  dub := left M.w_dub R.dub W.dub
  po := left M.w_po R.po W.po
  pp := left M.w_pp R.pp W.pp
  hx := left M.w_hx R.hx W.hx
  ub := left M.w_ub R.ub W.ub
  hr := left M.w_hr R.hr W.hr
  dr := left M.w_dr R.dr W.dr

/-- The inputs held at `x`. -/
def heldIn (c : Dev nD) (M : Mems) (x : Ins F) : sProp 𝕄 :=
  iprop(held c M.w_dx1 x.dx1
    ∗ held c M.w_x x.x
    ∗ held c M.w_y x.y
    ∗ held c M.w_uag x.uag
    ∗ held c M.w_hc x.hc
    ∗ held c M.w_halo x.halo
    ∗ held c M.w_hd x.hd
    ∗ held c M.w_pb x.pb
    ∗ held c M.w_mod x.mod
    ∗ held c M.w_g1 x.g1
    ∗ held c M.w_win x.win
    ∗ held c M.w_dww x.dww
    ∗ held c M.w_lng x.lng
    ∗ held c M.w_lnb x.lnb
    ∗ held c M.w_wpw x.wpw
    ∗ held c M.w_wg x.wg
    ∗ held c M.w_psc x.psc
    ∗ held c M.w_wout x.wout
    ∗ held c M.w_ycb x.ycb
    ∗ held c M.w_hsb x.hsb)

/-- The other buffers held at `K` and `R`. -/
def heldOut (c : Dev nD) (M : Mems) (K : Carry F) (R : Rest F) : sProp 𝕄 :=
  iprop(held c M.w_gx R.gx
    ∗ held c M.w_dub R.dub
    ∗ held c M.w_acc K.acc
    ∗ held c M.w_ddw K.ddw
    ∗ held c M.w_dwg K.dwg
    ∗ held c M.w_po R.po
    ∗ held c M.w_pp R.pp
    ∗ held c M.w_dE K.dE
    ∗ held c M.w_qE K.qE
    ∗ held c M.w_hx R.hx
    ∗ held c M.w_ub R.ub
    ∗ held c M.w_hr R.hr
    ∗ held c M.w_dr R.dr
    ∗ held c M.w_ao K.ao
    ∗ held c M.w_ap K.ap)

/-- The other buffers, that held `K` and `R`, with the stores `W` made. -/
def storedOut (c : Dev nD) (M : Mems) (K : Carry F) (R : Rest F) (W : Stores F) : sProp 𝕄 :=
  iprop(stored c M.w_gx R.gx W.gx
    ∗ stored c M.w_dub R.dub W.dub
    ∗ stored c M.w_acc K.acc W.acc
    ∗ stored c M.w_ddw K.ddw W.ddw
    ∗ stored c M.w_dwg K.dwg W.dwg
    ∗ stored c M.w_po R.po W.po
    ∗ stored c M.w_pp R.pp W.pp
    ∗ stored c M.w_dE K.dE W.dE
    ∗ stored c M.w_qE K.qE W.qE
    ∗ stored c M.w_hx R.hx W.hx
    ∗ stored c M.w_ub R.ub W.ub
    ∗ stored c M.w_hr R.hr W.hr
    ∗ stored c M.w_dr R.dr W.dr
    ∗ stored c M.w_ao K.ao W.ao
    ∗ stored c M.w_ap K.ap W.ap)

theorem ownsIn_held (c : Dev nD) (M : Mems) (x : Ins F) : ownsIn c M x ⊢ heldIn c M x := by
  unfold ownsIn heldIn
  repeat' first | exact owns_held c _ _ | refine BIClass.sep_mono ?_ ?_

theorem heldIn_owns (c : Dev nD) (M : Mems) (x : Ins F) : heldIn c M x ⊢ ownsIn c M x := by
  unfold ownsIn heldIn
  repeat' first | exact held_owns c _ _ | refine BIClass.sep_mono ?_ ?_

theorem ownsOut_held (c : Dev nD) (M : Mems) (K : Carry F) (R : Rest F) : ownsOut c M K R ⊢ heldOut c M K R := by
  unfold ownsOut heldOut
  repeat' first | exact owns_held c _ _ | refine BIClass.sep_mono ?_ ?_

theorem storedOut_owns (c : Dev nD) (M : Mems) (K : Carry F) (R : Rest F) (W : Stores F) :
    storedOut c M K R W ⊢ ownsOut c M (M.carry K W) (M.rest R W) := by
  unfold ownsOut storedOut Mems.carry Mems.rest
  dsimp only
  repeat' first | exact stored_owns c _ _ _ | refine BIClass.sep_mono ?_ ?_

/-- The body at `i`, on inputs `x` and other buffers at `K` and `R`, makes the stores `W`. -/
def Runs (c : Dev nD) (i : grid0.Coords) (M : Mems) (x : Ins F) (K : Carry F) (R : Rest F) (W : Stores F) : Prop :=
  ∀ (E : Set ℕ) (Q : PUnit → sProp 𝕄),
    iprop(heldIn c M x ∗ heldOut c M K R ∗ (iprop(heldIn c M x ∗ storedOut c M K R W) -∗ Q ⟨⟩))
      ⊢ wp frame (wpE (defs₀ (F := F)) Variants.none c none) E (M.run i) Q

/-- The same with each buffer owned at what it holds. -/
theorem Runs.owned {c : Dev nD} {i : grid0.Coords} {M : Mems} {x : Ins F} {K : Carry F} {R : Rest F} {W : Stores F}
    (h : Runs c i M x K R W) (E : Set ℕ) (Q : PUnit → sProp 𝕄) :
    iprop(ownsIn c M x ∗ ownsOut c M K R ∗ (iprop(ownsIn c M x ∗ ownsOut c M (M.carry K W) (M.rest R W)) -∗ Q ⟨⟩))
      ⊢ wp frame (wpE (defs₀ (F := F)) Variants.none c none) E (M.run i) Q :=
  (BIClass.sep_mono (ownsIn_held c M x) (BIClass.sep_mono (ownsOut_held c M K R)
    (wand_mono (BIClass.sep_mono (heldIn_owns c M x) (storedOut_owns c M K R W)) (BIBase.Entails.refl)))).trans (h E Q)

end Cert.KernelMixIdeal.Body

end
-- ==== Proof.MixRunFirst.lean ====
/- The mixer's backward body run at the first point: the stores it makes. -/
module

public import proofs.«01_k».proof.Proof.MixBody

@[expose] public section

set_option maxRecDepth 16384

noncomputable section

namespace Cert.KernelMixIdeal.Body

open Idealize.ShloMosaic Idealize.ShloMosaic.TcCoe Idealize.ShloMosaic.Tactic Cert.KernelMixIdeal Cert.KernelMixIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The stores of the body at the first point. -/
noncomputable def runFirst (c : Dev nD) (i : grid0.Coords) (hc0 : first i) (hc1 : ¬ last i) (M : Mems) (x : Ins F) :
    { W : Stores F // ∀ (K : Carry F) (R : Rest F), Runs c i M x K R W } := by
  refine ⟨⟨?_, ?_, ?_, ?_, ?_, [], [], ?_, ?_, ?_, ?_, ?_, ?_, ?_, ?_⟩, fun K R E Q => ?run⟩
  case run =>
    unfold Mems.run
    simp only [cc0_bwd_mix_eq_skeleton]; unfold cc0_bwd_mix_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold heldIn heldOut storedOut
    dsimp only
    iintro ⟨⟨Hdx1, Hx, Hy, Huag, Hhc, Hhalo, Hhd, Hpb, Hmod, Hg1, Hwin, Hdww, Hlng, Hlnb, Hwpw, Hwg, Hpsc, Hwout, Hycb, Hhsb⟩, ⟨Jgx, Jdub, Jacc, Jddw, Jdwg, Jpo, Jpp, JdE, JqE, Jhx, Jub, Jhr, Jdr, Jao, Jap⟩, Hk⟩
    sl_exec (disch := first | sl_exact hc0 | sl_exact hc1)
    sl_step
    iapply Hk
    isplitl [Hdx1 Hx Hy Huag Hhc Hhalo Hhd Hpb Hmod Hg1 Hwin Hdww Hlng Hlnb Hwpw Hwg Hpsc Hwout Hycb Hhsb]
    · iframe
    isplitl [Jgx]
    · iexact Jgx
    isplitl [Jdub]
    · iexact Jdub
    isplitl [Jacc]
    · iexact Jacc
    isplitl [Jddw]
    · iexact Jddw
    isplitl [Jdwg]
    · iexact Jdwg
    isplitl [Jpo]
    · iexact Jpo
    isplitl [Jpp]
    · iexact Jpp
    isplitl [JdE]
    · iexact JdE
    isplitl [JqE]
    · iexact JqE
    isplitl [Jhx]
    · iexact Jhx
    isplitl [Jub]
    · iexact Jub
    isplitl [Jhr]
    · iexact Jhr
    isplitl [Jdr]
    · iexact Jdr
    isplitl [Jao]
    · iexact Jao
    iexact Jap

end Cert.KernelMixIdeal.Body

end
-- ==== Proof.MixRunMid.lean ====
/- The mixer's backward body run at a point between: the stores it makes. -/
module

public import proofs.«01_k».proof.Proof.MixRunFirst

@[expose] public section

set_option maxRecDepth 16384

noncomputable section

namespace Cert.KernelMixIdeal.Body

open Idealize.ShloMosaic Idealize.ShloMosaic.TcCoe Idealize.ShloMosaic.Tactic Cert.KernelMixIdeal Cert.KernelMixIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The stores of the body at a point between. -/
noncomputable def runMid (c : Dev nD) (i : grid0.Coords) (hc0 : ¬ first i) (hc1 : ¬ last i) (M : Mems) (x : Ins F) (K : Carry F) :
    { W : Stores F // ∀ (R : Rest F), Runs c i M x K R W } := by
  refine ⟨⟨?_, ?_, ?_, ?_, ?_, [], [], ?_, ?_, ?_, ?_, ?_, ?_, ?_, ?_⟩, fun R E Q => ?run⟩
  case run =>
    unfold Mems.run
    simp only [cc0_bwd_mix_eq_skeleton]; unfold cc0_bwd_mix_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold heldIn heldOut storedOut
    dsimp only
    iintro ⟨⟨Hdx1, Hx, Hy, Huag, Hhc, Hhalo, Hhd, Hpb, Hmod, Hg1, Hwin, Hdww, Hlng, Hlnb, Hwpw, Hwg, Hpsc, Hwout, Hycb, Hhsb⟩, ⟨Jgx, Jdub, Jacc, Jddw, Jdwg, Jpo, Jpp, JdE, JqE, Jhx, Jub, Jhr, Jdr, Jao, Jap⟩, Hk⟩
    sl_exec (disch := first | sl_exact hc0 | sl_exact hc1)
    sl_step
    iapply Hk
    isplitl [Hdx1 Hx Hy Huag Hhc Hhalo Hhd Hpb Hmod Hg1 Hwin Hdww Hlng Hlnb Hwpw Hwg Hpsc Hwout Hycb Hhsb]
    · iframe
    isplitl [Jgx]
    · iexact Jgx
    isplitl [Jdub]
    · iexact Jdub
    isplitl [Jacc]
    · iexact Jacc
    isplitl [Jddw]
    · iexact Jddw
    isplitl [Jdwg]
    · iexact Jdwg
    isplitl [Jpo]
    · iexact Jpo
    isplitl [Jpp]
    · iexact Jpp
    isplitl [JdE]
    · iexact JdE
    isplitl [JqE]
    · iexact JqE
    isplitl [Jhx]
    · iexact Jhx
    isplitl [Jub]
    · iexact Jub
    isplitl [Jhr]
    · iexact Jhr
    isplitl [Jdr]
    · iexact Jdr
    isplitl [Jao]
    · iexact Jao
    iexact Jap

end Cert.KernelMixIdeal.Body

end
-- ==== Proof.MixRunLast.lean ====
/- The mixer's backward body run at the last point: the stores it makes. -/
module

public import proofs.«01_k».proof.Proof.MixRunMid

@[expose] public section

set_option maxRecDepth 16384

noncomputable section

namespace Cert.KernelMixIdeal.Body

open Idealize.ShloMosaic Idealize.ShloMosaic.TcCoe Idealize.ShloMosaic.Tactic Cert.KernelMixIdeal Cert.KernelMixIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The stores of the body at the last point. -/
noncomputable def runLast (c : Dev nD) (i : grid0.Coords) (hc0 : ¬ first i) (hc1 : last i) (M : Mems) (x : Ins F) (K : Carry F) :
    { W : Stores F // ∀ (R : Rest F), Runs c i M x K R W } := by
  refine ⟨⟨?_, ?_, ?_, ?_, ?_, ?_, ?_, ?_, ?_, ?_, ?_, ?_, ?_, ?_, ?_⟩, fun R E Q => ?run⟩
  case run =>
    unfold Mems.run
    simp only [cc0_bwd_mix_eq_skeleton]; unfold cc0_bwd_mix_skel
    simp only [k0_part32_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
    unfold heldIn heldOut storedOut
    dsimp only
    iintro ⟨⟨Hdx1, Hx, Hy, Huag, Hhc, Hhalo, Hhd, Hpb, Hmod, Hg1, Hwin, Hdww, Hlng, Hlnb, Hwpw, Hwg, Hpsc, Hwout, Hycb, Hhsb⟩, ⟨Jgx, Jdub, Jacc, Jddw, Jdwg, Jpo, Jpp, JdE, JqE, Jhx, Jub, Jhr, Jdr, Jao, Jap⟩, Hk⟩
    sl_exec (disch := first | sl_exact hc0 | sl_exact hc1)
    sl_step
    iapply Hk
    isplitl [Hdx1 Hx Hy Huag Hhc Hhalo Hhd Hpb Hmod Hg1 Hwin Hdww Hlng Hlnb Hwpw Hwg Hpsc Hwout Hycb Hhsb]
    · iframe
    isplitl [Jgx]
    · iexact Jgx
    isplitl [Jdub]
    · iexact Jdub
    isplitl [Jacc]
    · iexact Jacc
    isplitl [Jddw]
    · iexact Jddw
    isplitl [Jdwg]
    · iexact Jdwg
    isplitl [Jpo]
    · iexact Jpo
    isplitl [Jpp]
    · iexact Jpp
    isplitl [JdE]
    · iexact JdE
    isplitl [JqE]
    · iexact JqE
    isplitl [Jhx]
    · iexact Jhx
    isplitl [Jub]
    · iexact Jub
    isplitl [Jhr]
    · iexact Jhr
    isplitl [Jdr]
    · iexact Jdr
    isplitl [Jao]
    · iexact Jao
    iexact Jap

end Cert.KernelMixIdeal.Body

end
-- ==== Proof.MixData.lean ====
/- The frame of the mixer's backward call: what its windows hold from point to point, and what it leaves of its arguments. -/
module

public import proofs.«01_k».proof.Proof.MixRunLast

@[expose] public section

set_option maxRecDepth 16384

noncomputable section

namespace Cert.KernelMixIdeal.Body

open Idealize.ShloMosaic Idealize.ShloMosaic.TcCoe Idealize.ShloMosaic.Tactic Cert.KernelMixIdeal Cert.KernelMixIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of core `c` where the call is reached: after the host operations before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem fresh_all : ([hostOps0, hostOps0_1, hostOps0_2, hostOps0_3, hostOps0_4, hostOps0_5, hostOps0_6, hostOps0_7, hostOps0_8, hostOps0_9, hostOps0_10, hostOps0_11, hostOps0_12] : List (List (HloOp τ sig (Elt F)))).Forall fun l => l.Forall fun op => op.fresh = ∅ := by
  simp only [List.Forall]
  repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by have h := fresh_all (F := F); simp only [List.Forall] at h ⊢; exact h) main_chain

/-- The arguments. -/
abbrev argRefs : List (Ref sig .tc) := [main_arg0, main_arg1, main_arg2, main_arg3, main_arg4, main_arg5, main_arg6, main_arg7, main_arg8, main_arg9, main_arg10, main_arg11, main_arg12]

/-- No host operation writes an argument. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.mem_singleton]
    repeat' apply And.intro
    all_goals exact StableHlo.devRef_ne_of_ne (fun h => absurd (h ▸ hb) (by decide))))

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The buffers of point `t`. -/
abbrev memsAt (t : Fin cfg0.N) : Mems where
  dx1 := win0_0.stage (cfg0.slots t 0)
  w_dx1 := hstage0_0 ((cfg0.slots t 0).cast nbuf0_0)
  x := win0_1.stage (cfg0.slots t 1)
  w_x := hstage0_1 ((cfg0.slots t 1).cast nbuf0_1)
  y := win0_2.stage (cfg0.slots t 2)
  w_y := hstage0_2 ((cfg0.slots t 2).cast nbuf0_2)
  uag := win0_3.stage (cfg0.slots t 3)
  w_uag := hstage0_3 ((cfg0.slots t 3).cast nbuf0_3)
  hc := win0_4.stage (cfg0.slots t 4)
  w_hc := hstage0_4 ((cfg0.slots t 4).cast nbuf0_4)
  halo := win0_5.stage (cfg0.slots t 5)
  w_halo := hstage0_5 ((cfg0.slots t 5).cast nbuf0_5)
  hd := win0_6.stage (cfg0.slots t 6)
  w_hd := hstage0_6 ((cfg0.slots t 6).cast nbuf0_6)
  pb := win0_7.stage (cfg0.slots t 7)
  w_pb := hstage0_7 ((cfg0.slots t 7).cast nbuf0_7)
  mod := win0_8.stage (cfg0.slots t 8)
  w_mod := hstage0_8 ((cfg0.slots t 8).cast nbuf0_8)
  g1 := win0_9.stage (cfg0.slots t 9)
  w_g1 := hstage0_9 ((cfg0.slots t 9).cast nbuf0_9)
  win := win0_10.stage (cfg0.slots t 10)
  w_win := hstage0_10 ((cfg0.slots t 10).cast nbuf0_10)
  dww := win0_11.stage (cfg0.slots t 11)
  w_dww := hstage0_11 ((cfg0.slots t 11).cast nbuf0_11)
  lng := win0_12.stage (cfg0.slots t 12)
  w_lng := hstage0_12 ((cfg0.slots t 12).cast nbuf0_12)
  lnb := win0_13.stage (cfg0.slots t 13)
  w_lnb := hstage0_13 ((cfg0.slots t 13).cast nbuf0_13)
  wpw := win0_14.stage (cfg0.slots t 14)
  w_wpw := hstage0_14 ((cfg0.slots t 14).cast nbuf0_14)
  wg := win0_15.stage (cfg0.slots t 15)
  w_wg := hstage0_15 ((cfg0.slots t 15).cast nbuf0_15)
  psc := win0_16.stage (cfg0.slots t 16)
  w_psc := hstage0_16 ((cfg0.slots t 16).cast nbuf0_16)
  wout := win0_17.stage (cfg0.slots t 17)
  w_wout := hstage0_17 ((cfg0.slots t 17).cast nbuf0_17)
  ycb := win0_18.stage (cfg0.slots t 18)
  w_ycb := hstage0_18 ((cfg0.slots t 18).cast nbuf0_18)
  hsb := win0_19.stage (cfg0.slots t 19)
  w_hsb := hstage0_19 ((cfg0.slots t 19).cast nbuf0_19)
  gx := win0_20.stage (cfg0.slots t 20)
  w_gx := hstage0_20 ((cfg0.slots t 20).cast nbuf0_20)
  dub := win0_21.stage (cfg0.slots t 21)
  w_dub := hstage0_21 ((cfg0.slots t 21).cast nbuf0_21)
  acc := win0_22.stage (cfg0.slots t 22)
  w_acc := hstage0_22 ((cfg0.slots t 22).cast nbuf0_22)
  ddw := win0_23.stage (cfg0.slots t 23)
  w_ddw := hstage0_23 ((cfg0.slots t 23).cast nbuf0_23)
  dwg := win0_24.stage (cfg0.slots t 24)
  w_dwg := hstage0_24 ((cfg0.slots t 24).cast nbuf0_24)
  po := win0_25.stage (cfg0.slots t 25)
  w_po := hstage0_25 ((cfg0.slots t 25).cast nbuf0_25)
  pp := win0_26.stage (cfg0.slots t 26)
  w_pp := hstage0_26 ((cfg0.slots t 26).cast nbuf0_26)
  dE := Memref.whole cc0_scratch0
  w_dE := Memref.isWhole_whole _
  qE := Memref.whole cc0_scratch1
  w_qE := Memref.isWhole_whole _
  hx := Memref.whole cc0_scratch2
  w_hx := Memref.isWhole_whole _
  ub := Memref.whole cc0_scratch3
  w_ub := Memref.isWhole_whole _
  hr := Memref.whole cc0_scratch4
  w_hr := Memref.isWhole_whole _
  dr := Memref.whole cc0_scratch5
  w_dr := Memref.isWhole_whole _
  ao := Memref.whole cc0_scratch6
  w_ao := Memref.isWhole_whole _
  ap := Memref.whole cc0_scratch7
  w_ap := Memref.isWhole_whole _

/-- What the inputs hold at point `t`. -/
def insAt (c : Dev nD) (t : Fin cfg0.N) : Ins F where
  dx1 := iblk m c 0 t
  x := iblk m c 1 t
  y := iblk m c 2 t
  uag := iblk m c 3 t
  hc := iblk m c 4 t
  halo := iblk m c 5 t
  hd := iblk m c 6 t
  pb := iblk m c 7 t
  mod := iblk m c 8 t
  g1 := iblk m c 9 t
  win := iblk m c 10 t
  dww := iblk m c 11 t
  lng := iblk m c 12 t
  lnb := iblk m c 13 t
  wpw := iblk m c 14 t
  wg := iblk m c 15 t
  psc := iblk m c 16 t
  wout := iblk m c 17 t
  ycb := iblk m c 18 t
  hsb := iblk m c 19 t

theorem first_iff : ∀ t : Fin cfg0.N, first (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [first, e0, e1]
    word_cmp
   : ∀ t : Fin grid0.N, first (grid0.coords t) ↔ t.val = 0)

theorem last_iff : ∀ t : Fin cfg0.N, last (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have e1 : t.val / 1 % 8 = t.val := by omega
    simp only [last, k0_cond2, e0, e1]
    word_cmp
   : ∀ t : Fin grid0.N, last (grid0.coords t) ↔ t.val = 7)

/-- Some contents, where nothing is known of them. -/
def anyCarry : Carry F := ⟨fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _)⟩
def anyRest : Rest F := ⟨fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _), fun _ => Classical.choice (Elt.nonempty F _)⟩

/-- The stores at point `t`, over what the point before handed on. -/
def storesAt (c : Dev nD) (t : Fin cfg0.N) (K : Carry F) : Stores F :=
  if h0 : t.val = 0 then
    (runFirst c (grid0.coords t) ((first_iff t).2 h0) (fun h => by have := (last_iff t).1 h; omega) (memsAt t) (insAt m c t)).1
  else if h1 : t.val = 7 then
    (runLast c (grid0.coords t) (fun h => h0 ((first_iff t).1 h)) ((last_iff t).2 h1) (memsAt t) (insAt m c t) K).1
  else
    (runMid c (grid0.coords t) (fun h => h0 ((first_iff t).1 h)) (fun h => h1 ((last_iff t).1 h)) (memsAt t) (insAt m c t) K).1

/-- What point `n` hands on. -/
def carryAt (c : Dev nD) : (n : ℕ) → n < cfg0.N → Carry F
  | 0, hn => (memsAt ⟨0, hn⟩).carry anyCarry (storesAt m c ⟨0, hn⟩ anyCarry)
  | n + 1, hn => (memsAt ⟨n + 1, hn⟩).carry (carryAt c n (by omega)) (storesAt m c ⟨n + 1, hn⟩ (carryAt c n (by omega)))

/-- What point `n` finds handed on. -/
def prevAt (c : Dev nD) : (n : ℕ) → n ≤ cfg0.N → Carry F
  | 0, _ => anyCarry
  | n + 1, hn => carryAt m c n hn

theorem carryAt_eq (c : Dev nD) (t : Fin cfg0.N) : carryAt m c t.val t.isLt
    = (memsAt t).carry (prevAt m c t.val t.isLt.le) (storesAt m c t (prevAt m c t.val t.isLt.le)) := by
  obtain ⟨n, hn⟩ := t
  cases n <;> rfl

/-- What point `t` leaves of the buffers that hand nothing on. -/
def restAt (c : Dev nD) (t : Fin cfg0.N) : Rest F := (memsAt t).rest anyRest (storesAt m c t (prevAt m c t.val t.isLt.le))

/-- `K` may be what point `n` finds. -/
def Found (c : Dev nD) (n : ℕ) (hn : n ≤ cfg0.N) (K : Carry F) : Prop := n ≠ 0 → K = prevAt m c n hn

theorem runs_at (c : Dev nD) (t : Fin cfg0.N) (K : Carry F) (R : Rest F) (hK : Found m c t.val t.isLt.le K) :
    Runs c (grid0.coords t) (memsAt t) (insAt m c t) K R (storesAt m c t (prevAt m c t.val t.isLt.le)) := by
  unfold storesAt
  by_cases h0 : t.val = 0
  · rw [dif_pos h0]
    exact (runFirst c _ _ _ _ _).2 K R
  · rw [dif_neg h0, ← hK h0]
    by_cases h1 : t.val = 7
    · rw [dif_pos h1]
      exact (runLast c _ _ _ _ _ K).2 R
    · rw [dif_neg h1]
      exact (runMid c _ _ _ _ _ K).2 R

/-- The stores cover their buffer. -/
def Covers {S : Shape} {e : EltTy} (L : List (View.Piece (Elt F) S e)) : Prop := ∀ y, ∃ p ∈ L, y ∈ p.1.set

theorem coversFirst (c : Dev nD) (i : grid0.Coords) (h0 : first i) (h1 : ¬ last i) (M : Mems) (x : Ins F) :
    Covers (runFirst c i h0 h1 M x).1.gx ∧ Covers (runFirst c i h0 h1 M x).1.dub ∧ Covers (runFirst c i h0 h1 M x).1.acc ∧ Covers (runFirst c i h0 h1 M x).1.ddw ∧ Covers (runFirst c i h0 h1 M x).1.dwg ∧ Covers (runFirst c i h0 h1 M x).1.dE ∧ Covers (runFirst c i h0 h1 M x).1.qE ∧ Covers (runFirst c i h0 h1 M x).1.ao ∧ Covers (runFirst c i h0 h1 M x).1.ap :=
  ⟨fun y => View.cover_of_tiledL (runFirst c i h0 h1 M x).1.gx S256x1024.size (by sl_kernel_rfl) y,
    fun y => View.cover_of_tiledL (runFirst c i h0 h1 M x).1.dub S1x256x256.size (by sl_kernel_rfl) y,
    fun y => View.cover_of_tiledBy (runFirst c i h0 h1 M x).1.acc ![1, 128] (by sl_kernel_rfl) y,
    fun y => View.cover_of_tiledBy (runFirst c i h0 h1 M x).1.ddw ![1, 512] (by sl_kernel_rfl) y,
    fun y => View.cover_of_tiledBy (runFirst c i h0 h1 M x).1.dwg ![128, 128] (by sl_kernel_rfl) y,
    fun y => View.cover_of_tiledBy (runFirst c i h0 h1 M x).1.dE ![32, 512] (by sl_kernel_rfl) y,
    fun y => View.cover_of_tiledBy (runFirst c i h0 h1 M x).1.qE ![16, 128] (by sl_kernel_rfl) y,
    fun y => View.cover_of_tiledL (runFirst c i h0 h1 M x).1.ao S1024x1024.size (by sl_kernel_rfl) y,
    fun y => View.cover_of_tiledL (runFirst c i h0 h1 M x).1.ap S512x512.size (by sl_kernel_rfl) y⟩

theorem coversMid (c : Dev nD) (i : grid0.Coords) (h0 : ¬ first i) (h1 : ¬ last i) (M : Mems) (x : Ins F) (K : Carry F) :
    Covers (runMid c i h0 h1 M x K).1.gx ∧ Covers (runMid c i h0 h1 M x K).1.dub :=
  ⟨fun y => View.cover_of_tiledL (runMid c i h0 h1 M x K).1.gx S256x1024.size (by sl_kernel_rfl) y,
    fun y => View.cover_of_tiledL (runMid c i h0 h1 M x K).1.dub S1x256x256.size (by sl_kernel_rfl) y⟩

theorem coversLast (c : Dev nD) (i : grid0.Coords) (h0 : ¬ first i) (h1 : last i) (M : Mems) (x : Ins F) (K : Carry F) :
    Covers (runLast c i h0 h1 M x K).1.gx ∧ Covers (runLast c i h0 h1 M x K).1.dub ∧ Covers (runLast c i h0 h1 M x K).1.po ∧ Covers (runLast c i h0 h1 M x K).1.pp :=
  ⟨fun y => View.cover_of_tiledL (runLast c i h0 h1 M x K).1.gx S256x1024.size (by sl_kernel_rfl) y,
    fun y => View.cover_of_tiledL (runLast c i h0 h1 M x K).1.dub S1x256x256.size (by sl_kernel_rfl) y,
    fun y => View.cover_of_tiledL (runLast c i h0 h1 M x K).1.po S1024x1024.size (by sl_kernel_rfl) y,
    fun y => View.cover_of_tiledL (runLast c i h0 h1 M x K).1.pp S512x512.size (by sl_kernel_rfl) y⟩

/-- Stores that cover leave the same whatever was there. -/
theorem carry_of_covers (M : Mems) (K K' : Carry F) (W : Stores F) (h : Covers W.acc ∧ Covers W.ddw ∧ Covers W.dwg ∧ Covers W.dE ∧ Covers W.qE ∧ Covers W.ao ∧ Covers W.ap) :
    M.carry K W = M.carry K' W := by
  obtain ⟨h_acc, h_ddw, h_dwg, h_dE, h_qE, h_ao, h_ap⟩ := h
  unfold Mems.carry
  rw [left_of_cover M.w_acc M.w_acc K.acc K'.acc _ h_acc, left_of_cover M.w_ddw M.w_ddw K.ddw K'.ddw _ h_ddw, left_of_cover M.w_dwg M.w_dwg K.dwg K'.dwg _ h_dwg, left_of_cover M.w_dE M.w_dE K.dE K'.dE _ h_dE, left_of_cover M.w_qE M.w_qE K.qE K'.qE _ h_qE, left_of_cover M.w_ao M.w_ao K.ao K'.ao _ h_ao, left_of_cover M.w_ap M.w_ap K.ap K'.ap _ h_ap]

/-- What point `t` hands on does not depend on what was there before the first. -/
theorem carry_at (c : Dev nD) (t : Fin cfg0.N) (K : Carry F) (hK : Found m c t.val t.isLt.le K) :
    (memsAt t).carry K (storesAt m c t (prevAt m c t.val t.isLt.le)) = carryAt m c t.val t.isLt := by
  rw [carryAt_eq]
  by_cases h0 : t.val = 0
  · unfold storesAt
    rw [dif_pos h0]
    exact carry_of_covers _ _ _ _ (coversFirst c _ ((first_iff t).2 h0) (fun h => by have := (last_iff t).1 h; omega) (memsAt t) (insAt m c t)).2.2
  · rw [hK h0]

theorem stores_cover (c : Dev nD) (t : Fin cfg0.N) (K : Carry F) : Covers (storesAt m c t K).gx ∧ Covers (storesAt m c t K).dub := by
  unfold storesAt
  split
  · exact ⟨(coversFirst ..).1, (coversFirst ..).2.1⟩
  · split
    · exact ⟨(coversLast ..).1, (coversLast ..).2.1⟩
    · exact coversMid ..

theorem stores_last (c : Dev nD) (t : Fin cfg0.N) (h : t.val = 7) (K : Carry F) : Covers (storesAt m c t K).po ∧ Covers (storesAt m c t K).pp := by
  unfold storesAt
  rw [dif_neg (by omega), dif_pos h]
  exact (coversLast ..).2.2

theorem stores_idle (c : Dev nD) (t : Fin cfg0.N) (h : t.val ≠ 7) (K : Carry F) : (storesAt m c t K).po = [] ∧ (storesAt m c t K).pp = [] := by
  unfold storesAt
  split
  · exact ⟨rfl, rfl⟩
  · exact ⟨rfl, rfl⟩

theorem left_nil {S : Shape} {e : EltTy} {a : Memref sig .tc .vmem S e} (h : a.IsWhole) (x : Vec F S e) : left h x [] = x := h.read_unread x

/-- The scratch buffers and the generator's register between points: each at anything, but what is handed on. -/
def Phi (c : Dev nD) (n : ℕ) (hn : n ≤ cfg0.N) : sProp 𝕄 :=
  iprop(∃ (K : Carry F) (R : Rest F), ⌜Found m c n hn K⌝ ∗ (owns (c : Thread nD τ) (Memref.whole cc0_scratch0) fullShare K.dE
      ∗ owns (c : Thread nD τ) (Memref.whole cc0_scratch1) fullShare K.qE
      ∗ owns (c : Thread nD τ) (Memref.whole cc0_scratch2) fullShare R.hx
      ∗ owns (c : Thread nD τ) (Memref.whole cc0_scratch3) fullShare R.ub
      ∗ owns (c : Thread nD τ) (Memref.whole cc0_scratch4) fullShare R.hr
      ∗ owns (c : Thread nD τ) (Memref.whole cc0_scratch5) fullShare R.dr
      ∗ owns (c : Thread nD τ) (Memref.whole cc0_scratch6) fullShare K.ao
      ∗ owns (c : Thread nD τ) (Memref.whole cc0_scratch7) fullShare K.ap) ∗ (∃ r, prngReg c r))

/-- The call's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (restAt m c t).gx
    | ⟨21, _⟩ => (restAt m c t).dub
    | ⟨22, _⟩ => (carryAt m c t.val t.isLt).acc
    | ⟨23, _⟩ => (carryAt m c t.val t.isLt).ddw
    | ⟨24, _⟩ => (carryAt m c t.val t.isLt).dwg
    | ⟨25, _⟩ => (restAt m c t).po
    | ⟨26, _⟩ => (restAt m c t).pp
    | ⟨_ + 27, h⟩ => absurd h (Nat.not_lt.2 (Nat.le_add_left _ _))
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

end Cert.KernelMixIdeal.Body

end
-- ==== Proof.MixGen.lean ====
/- What one call of the mixer's backward body stores, written once for the three kinds of grid point: the vectors it loads are
   named, the thirty-one taps and the four pooled groups are families, and what differs between the kinds (what an accumulator
   or a carried scratch buffer is read over) is a parameter. -/
module

public import proofs.«01_k».proof.Proof.MixData
public import proofs.«01_k».proof.Proof.MixSpec

@[expose] public section

set_option maxRecDepth 16384

noncomputable section

namespace Cert.KernelMixIdeal.Body

open Idealize.ShloMosaic Idealize.ShloMosaic.TcCoe Idealize.ShloMosaic.Tactic Cert.KernelMixIdeal Cert.KernelMixIdeal.Gen
open Cert.Mix (wd)

variable {F : FTy → Type} [FloatOps F]

theorem in2 {a b k l m n : ℕ} (h0 : a + k ≤ m) (h1 : b + l ≤ n) :
    ∀ i, (![a, b] : Fin 2 → ℕ) i + (⟨2, ![k, l]⟩ : Shape).size i ≤ (⟨2, ![m, n]⟩ : Shape).size i := fun i => by
  fin_cases i
  · exact h0
  · exact h1

theorem in3 {a b c k l r m n p : ℕ} (h0 : a + k ≤ m) (h1 : b + l ≤ n) (h2 : c + r ≤ p) :
    ∀ i, (![a, b, c] : Fin 3 → ℕ) i + (⟨3, ![k, l, r]⟩ : Shape).size i ≤ (⟨3, ![m, n, p]⟩ : Shape).size i := fun i => by
  fin_cases i
  · exact h0
  · exact h1
  · exact h2

/-- The block of `k` rows and `l` lanes at `(a, b)`. -/
abbrev box (m n k l a b : ℕ) (h0 : a + k ≤ m := by decide) (h1 : b + l ≤ n := by decide) : Rect (⟨2, ![m, n]⟩ : Shape) :=
  Rect.unit ![a, b] (⟨2, ![k, l]⟩ : Shape).size (in2 h0 h1)

abbrev box3 (m n p k l r a b c : ℕ) (h0 : a + k ≤ m := by decide) (h1 : b + l ≤ n := by decide) (h2 : c + r ≤ p := by decide) :
    Rect (⟨3, ![m, n, p]⟩ : Shape) :=
  Rect.unit ![a, b, c] (⟨3, ![k, l, r]⟩ : Shape).size (in3 h0 h1 h2)

/-- A load of an input buffer that holds `v`. -/
abbrev inp {S : Shape} {e : EltTy} {a : Memref sig .tc .vmem S e} (h : a.IsWhole) (v : Vec F S e) (B : Rect S) : B.toLoadRect.shape.Idx → Elt F e :=
  a.view.readAt (Elt F) B.toLoadRect (h.unread v)

/-- The vectors loaded from the inputs. -/
structure Lds (F : FTy → Type) where
  dx1 : Vec F S256x1024 .f32
  x : Vec F S256x1024 .f32
  y : Vec F S256x1024 .f32
  sc : Vec F S1x1024 .f32
  gate : Vec F S1x1024 .f32
  ua : Vec F S256x512 .f32
  ug : Vec F S256x512 .f32
  hc : Vec F S256x512 .f32
  halo : Vec F S32x512 .f32
  hd : Vec F S256x512 .f32
  pb : Fin 4 → Vec F S256x128 .bf16
  g1 : Vec F S1x1024 .f32
  win : Vec F S1536x1024 .bf16
  dw : Fin 31 → Vec F S1x512 .f32
  lng : Vec F S1x512 .f32
  lnb : Vec F S1x512 .f32
  wpw : Vec F S512x512 .bf16
  wg : Fin 4 → Vec F S1x128x128 .f32
  psc : Fin 4 → Vec F S1x128 .f32
  wout : Vec F S1024x1024 .bf16
  ycb : Fin 4 → Vec F S1x256x256 .bf16
  hsb : Fin 2 → Vec F S1x256x256 .bf16

def lds (M : Mems) (x : Ins F) : Lds F where
  dx1 := inp M.w_dx1 x.dx1 (box 256 1024 256 1024 0 0)
  x := inp M.w_x x.x (box 256 1024 256 1024 0 0)
  y := inp M.w_y x.y (box 256 1024 256 1024 0 0)
  sc := inp M.w_mod x.mod (box 8 6144 1 1024 0 1024)
  gate := inp M.w_mod x.mod (box 8 6144 1 1024 0 2048)
  ua := inp M.w_uag x.uag (box 256 1024 256 512 0 0)
  ug := inp M.w_uag x.uag (box 256 1024 256 512 0 512)
  hc := inp M.w_hc x.hc (box 256 512 256 512 0 0)
  halo := inp M.w_halo x.halo (box 32 512 32 512 0 0)
  hd := inp M.w_hd x.hd (box 256 512 256 512 0 0)
  pb g := inp M.w_pb x.pb (box 256 512 256 128 0 (128 * g.val) (by decide) (by omega))
  g1 := inp M.w_g1 x.g1 (box 1 1024 1 1024 0 0)
  win := inp M.w_win x.win (box 1536 1024 1536 1024 0 0)
  dw k := inp M.w_dww x.dww (box 32 512 1 512 k.val 0 (by omega) (by decide))
  lng := inp M.w_lng x.lng (box 1 512 1 512 0 0)
  lnb := inp M.w_lnb x.lnb (box 1 512 1 512 0 0)
  wpw := inp M.w_wpw x.wpw (box 512 512 512 512 0 0)
  wg g := inp M.w_wg x.wg (box3 4 128 128 1 128 128 g.val 0 0 (by omega) (by decide) (by decide))
  psc g := inp M.w_psc x.psc (box 1 512 1 128 0 (128 * g.val) (by decide) (by omega))
  wout := inp M.w_wout x.wout (box 1024 1024 1024 1024 0 0)
  ycb j := inp M.w_ycb x.ycb (box3 4 256 256 1 256 256 j.val 0 0 (by omega) (by decide) (by decide))
  hsb j := inp M.w_hsb x.hsb (box3 2 256 256 1 256 256 j.val 0 0 (by omega) (by decide) (by decide))

/-- How a buffer with earlier contents is read after the stores `L`: `rd` in general, `rdc` where `L` covers the box; `base` is
    what the body itself stored first. -/
structure Buf (F : FTy → Type) (S : Shape) (e : EltTy) where
  base : List (View.Piece (Elt F) S e)
  rd : List (View.Piece (Elt F) S e) → (B : LoadRect S) → B.shape.Idx → Elt F e
  rdc : List (View.Piece (Elt F) S e) → (B : LoadRect S) → B.shape.Idx → Elt F e

/-- An accumulator that held `x`: read where this call has not stored yet. -/
def Buf.kept {S : Shape} {e : EltTy} {a : Memref sig .tc .vmem S e} (h : a.IsWhole) (x : Vec F S e) : Buf F S e :=
  ⟨[], fun _ B => a.view.readAt (Elt F) B (h.unread x), fun L B => a.view.readCov L B⟩

/-- A scratch buffer that held `x`. -/
def Buf.over {S : Shape} {e : EltTy} {a : Memref sig .tc .vmem S e} (h : a.IsWhole) (x : Vec F S e) : Buf F S e :=
  ⟨[], fun L B => a.view.readAt (Elt F) B (a.view.writes (Elt F) (h.unread x) L), fun L B => a.view.readCov L B⟩

/-- A buffer that the body stored `w` into at `r` first. -/
def Buf.fresh {S : Shape} {e : EltTy} (a : Memref sig .tc .vmem S e) (r : Rect S) (w : r.shape.Idx → Elt F e) : Buf F S e :=
  ⟨[⟨r, w⟩], fun L B => a.view.readCov L B, fun L B => a.view.readCov L B⟩

/-- The buffers that are read over earlier contents. -/
structure Prev (F : FTy → Type) where
  acc : Buf F S8x1024 .f32
  ddw : Buf F S32x512 .f32
  dwg : Buf F S512x128 .f32
  dE : Buf F S288x512 .f32
  qE : Buf F S272x512 .f32
  ao : Buf F S1024x1024 .f32
  ap : Buf F S512x512 .f32

def Mems.prev (M : Mems) (K : Carry F) : Prev F where
  acc := Buf.kept M.w_acc K.acc
  ddw := Buf.kept M.w_ddw K.ddw
  dwg := Buf.kept M.w_dwg K.dwg
  dE := Buf.over M.w_dE K.dE
  qE := Buf.over M.w_qE K.qE
  ao := Buf.kept M.w_ao K.ao
  ap := Buf.kept M.w_ap K.ap

def Mems.start (M : Mems) : Prev F where
  acc := Buf.fresh M.acc (box 8 1024 8 1024 0 0) k0_pay9
  ddw := Buf.fresh M.ddw (box 32 512 32 512 0 0) k0_pay10
  dwg := Buf.fresh M.dwg (box 512 128 512 128 0 0) k0_pay11
  dE := Buf.fresh M.dE (box 288 512 32 512 256 0) k0_pay7
  qE := Buf.fresh M.qE (box 272 512 16 512 256 0) k0_pay8
  ao := Buf.fresh M.ao (box 1024 1024 1024 1024 0 0) k0_pay5
  ap := Buf.fresh M.ap (box 512 512 512 512 0 0) k0_pay6

/-! ### Row by row -/

variable (l : Lds F)

def dyV : FVec F S256x1024 .bf16 := k0_pay13 l.dx1 l.gate
def dcatV : FVec F S256x1024 .f32 := k0_pay18 (dyV l) l.wout
def rstdV : FVec F S256x1 .f32 := k0_pay22 (k0_pay19 l.hd) (k0_pay20 l.hd)
def xhatV : FVec F S256x512 .f32 := k0_pay23 (k0_pay19 l.hd) (k0_pay20 l.hd)
def hlV : FVec F S256x512 .f32 := k0_pay24 (k0_pay19 l.hd) (k0_pay20 l.hd) l.lng l.lnb
def shV : FVec F S256x512 .f32 := k0_pay25 (k0_pay19 l.hd) (k0_pay20 l.hd) l.lng l.lnb
def dycV : FVec F S256x512 .bf16 := k0_pay26 (dcatV l)
def subV : FVec F S256x512 .f32 := k0_pay34 l.lng (hlV l) (shV l) (dycV l) l.wpw
def sumV : FVec F S256x1 .f32 := k0_pay35 (xhatV l) l.lng (hlV l) (shV l) (dycV l) l.wpw
def c512 : F .f32 := FloatOps.ofBits FTy.f32 1140850688#32
def dhdV : FVec F S256x512 .f32 := k0_pay36 (rstdV l) (xhatV l) (subV l) (sumV l) c512

/-! ### The convolution -/

/-- The gated lanes under this tile, thirty-two earlier rows first. -/
def hxL (w : BitVec 32) : List (View.Piece (Elt F) S288x512 .f32) :=
  [⟨box 288 512 256 512 32 0, k0_pay39 l.hc⟩, ⟨box 288 512 32 512 0 0, k0_pay38 w l.halo⟩]

/-- The derivative of the convolution's output in this tile, on the rows carried over. -/
def dEL (P : Prev F) : List (View.Piece (Elt F) S288x512 .f32) :=
  ⟨box 288 512 256 512 0 0, k0_pay40 (rstdV l) (xhatV l) (subV l) (sumV l) c512⟩ :: P.dE.base

/-- A buffer's copies one to seven rows on. -/
def shifts (f : (B : LoadRect S288x512) → B.shape.Idx → Elt F .f32) : (n : ℕ) → n ≤ 7 → List (View.Piece (Elt F) S7x280x512 .f32)
  | 0, _ => []
  | n + 1, hn => ⟨box3 7 280 512 1 280 512 n 0 0 (by omega) (by decide) (by decide),
      shapeCast S1x280x512 (f (box 288 512 280 512 (n + 1) 0 (by omega) (by decide)).toLoadRect : Vec F S280x512 .f32) Gen.shapeCasts_S280x512_S1x280x512⟩ :: shifts f n (by omega)

/-- 256 rows from row `o` of the copies. -/
def shifted (a : Memref sig .tc .vmem S7x280x512 .f32) (L : List (View.Piece (Elt F) S7x280x512 .f32)) (o : ℕ) (ho : o < 32) (h8 : o % 8 ≠ 0) : FVec F S256x512 .f32 :=
  shapeCast S256x512 (a.view.readCov L (box3 7 280 512 1 256 512 (o % 8 - 1) (8 * (o / 8)) 0 (by omega) (by omega) (by decide)).toLoadRect : Vec F S1x256x512 .f32)
    Gen.shapeCasts_S1x256x512_S256x512

/-- Tap `k` of the gated lanes. -/
def hTap (M : Mems) (w : BitVec 32) (k : Fin 31) : FVec F S256x512 .f32 :=
  if h8 : (k.val + 2) % 8 = 0 then M.hx.view.readCov (hxL l w) (box 288 512 256 512 (k.val + 2) 0 (by omega) (by decide)).toLoadRect
  else shifted M.hr (shifts (fun B => M.hx.view.readCov (hxL l w) B) 7 le_rfl) (k.val + 2) (by omega) h8

/-- Tap `k` of the derivative. -/
def dTap (M : Mems) (P : Prev F) (k : Fin 31) : FVec F S256x512 .f32 :=
  if h0 : 30 - k.val = 0 then P.dE.rdc (dEL l P) (box 288 512 256 512 0 0).toLoadRect
  else if h8 : (30 - k.val) % 8 = 0 then P.dE.rd (dEL l P) (box 288 512 256 512 (30 - k.val) 0 (by omega) (by decide)).toLoadRect
  else shifted M.dr (shifts (fun B => P.dE.rd (dEL l P) B) 7 le_rfl) (30 - k.val) (by omega) h8

/-- The sum over the first `n` taps. -/
def convV (dw : Fin 31 → Vec F S1x512 .f32) (D : Fin 31 → FVec F S256x512 .f32) : (n : ℕ) → n ≤ 31 → FVec F S256x512 .f32
  | 0, _ => broadcast S256x512 (Scalar.ofBits .f32 0x00000000#32)
  | n + 1, hn => addf (convV dw D n (by omega)) (mulf (broadcastTo S256x512 (dw ⟨n, hn⟩) Gen.broadcasts_S1x512_S256x512) (D ⟨n, hn⟩))

/-- A row of an accumulator with the columns' sums added. -/
def addCol (old : Vec F S1x512 .f32) (d t : FVec F S256x512 .f32) : FVec F S1x512 .f32 :=
  addf (shapeCast S1x512 old Gen.shapeCasts_S1x512_S1x512)
    (shapeCast S1x512 (multiReduction .add [0] S512 (mulf d t) 0x00000000#32 Gen.reduces_S256x512_S512 (.inl rfl) rfl) Gen.shapeCasts_S512_S1x512)

/-- The stores into the convolution's weights. -/
def ddwL (P : Prev F) (d : FVec F S256x512 .f32) (t : Fin 31 → FVec F S256x512 .f32) : (n : ℕ) → n ≤ 31 → List (View.Piece (Elt F) S32x512 .f32)
  | 0, _ => P.ddw.base
  | n + 1, hn => ⟨box 32 512 1 512 n 0 (by omega) (by decide),
      addCol (P.ddw.rd (ddwL P d t n (by omega)) (box 32 512 1 512 n 0 (by omega) (by decide)).toLoadRect) d (t ⟨n, hn⟩)⟩ :: ddwL P d t n (by omega)

def dhcV (M : Mems) (P : Prev F) : FVec F S256x512 .f32 := convV l.dw (dTap l M P) 31 le_rfl

/-! ### The pooled groups -/

variable (g : Fin 4)

def wgV : FVec F S128x128 .bf16 := truncf .bf16 (shapeCast S128x128 (l.wg g) Gen.shapeCasts_S1x128x128_S128x128) bitsLt_bf16_f32
def pV : FVec F S256x128 .bf16 := shapeCast S256x128 (l.pb g) Gen.shapeCasts_S256x128_S256x128
def dgV : FVec F S256x128 .f32 :=
  extractStridedSlice S256x128 ![0, 512 + 128 * g.val] (dcatV l) ⟨rfl, in2 (by decide) (by omega)⟩
def dzV : FVec F S256x128 .bf16 := truncf .bf16 (mulf (dgV l g) (broadcastTo S256x128 (l.psc g) Gen.broadcasts_S1x128_S256x128)) bitsLt_bf16_f32
/-- The sums for the group's scale. -/
def scaleV (old : Vec F S1x128 .f32) : FVec F S1x128 .f32 :=
  addf (shapeCast S1x128 old Gen.shapeCasts_S1x128_S1x128)
    (shapeCast S1x128 (multiReduction .add [0] S128 (mulf (dgV l g) (matmul dot_S256x128_S128x128_S256x128_1_0_0_1_n_n none (pV l g) (wgV l g) (constant S256x128 .f32 0x00000000#32)))
      0x00000000#32 Gen.reduces_S256x128_S128 (.inl rfl) rfl) Gen.shapeCasts_S128_S1x128)
def wpoolV (old : Vec F S128x128 .f32) : FVec F S128x128 .f32 :=
  addf (shapeCast S128x128 old Gen.shapeCasts_S128x128_S128x128)
    (matmul dot_S256x128_S256x128_S128x128_0_0_1_1_n_n none (pV l g) (dzV l g) (constant S128x128 .f32 0x00000000#32))
def dpV : FVec F S256x128 .f32 :=
  matmul dot_S256x128_S128x128_S256x128_1_1_0_0_n_n none (dzV l g) (wgV l g) (constant S256x128 .f32 0x00000000#32)
/-- The derivative over the token's count. -/
def qV (w : BitVec 32) : FVec F S256x128 .f32 :=
  shapeCast S256x128 (divf (dpV l g) (broadcastTo S256x128 (sitofp .f32 (minsi (addi (k0_pay111 w) (broadcast S256x1 1#32)) (broadcast S256x1 (BitVec.ofNat 32 (wd g))))) Gen.broadcasts_S256x1_S256x128))
    Gen.shapeCasts_S256x128_S256x128

/-- The stores of the first `n` groups. -/
def qEL (P : Prev F) (w : BitVec 32) : (n : ℕ) → n ≤ 4 → List (View.Piece (Elt F) S272x512 .f32)
  | 0, _ => P.qE.base
  | n + 1, hn => ⟨box 272 512 256 128 0 (128 * n) (by decide) (by omega), qV l ⟨n, hn⟩ w⟩ :: qEL P w n (by omega)

/-- The quotient `δ` tokens on. -/
def qTap (P : Prev F) (w : BitVec 32) (δ : ℕ) (hδ : δ < 16) : FVec F S256x128 .f32 :=
  if h : δ = 0 then P.qE.rdc (qEL l P w (g.val + 1) g.isLt) (box 272 512 256 128 0 (128 * g.val) (by decide) (by omega)).toLoadRect
  else P.qE.rd (qEL l P w (g.val + 1) g.isLt) (box 272 512 256 128 δ (128 * g.val) (by omega) (by omega)).toLoadRect

/-- The sum over the first `n` tokens on. -/
def dvSum (P : Prev F) (w : BitVec 32) : (n : ℕ) → n ≤ 16 → FVec F S256x128 .f32
  | 0, _ => subf (broadcast S256x128 (Scalar.ofBits .f32 0x00000000#32)) (dpV l g)
  | n + 1, hn => addf (dvSum P w n (by omega)) (qTap l g P w n hn)

theorem wd_le (g : Fin 4) : wd g ≤ 16 := by fin_cases g <;> decide

def dvV (P : Prev F) (w : BitVec 32) : FVec F S256x128 .bf16 :=
  shapeCast S256x128 (truncf .bf16 (dvSum l g P w (wd g) (wd_le g)) bitsLt_bf16_f32) Gen.shapeCasts_S256x128_S256x128

/-! ### The first product -/

def ubL (M : Mems) (P : Prev F) (w : BitVec 32) : List (View.Piece (Elt F) S256x1536 .bf16) :=
  [⟨box 256 1536 256 128 0 1408, dvV l 3 P w⟩, ⟨box 256 1536 256 128 0 1280, dvV l 2 P w⟩, ⟨box 256 1536 256 128 0 1152, dvV l 1 P w⟩,
   ⟨box 256 1536 256 128 0 1024, dvV l 0 P w⟩, ⟨box 256 1536 256 512 0 512, k0_pay110 (dhcV l M P) l.ua l.ug⟩,
   ⟨box 256 1536 256 512 0 0, k0_pay109 (dhcV l M P) l.ug⟩]
def duV (M : Mems) (P : Prev F) (w : BitVec 32) : Vec F S256x1536 .bf16 := M.ub.view.readCov (ubL l M P w) (box 256 1536 256 1536 0 0).toLoadRect
def dhV (du : Vec F S256x1536 .bf16) : FVec F S256x1024 .f32 := k0_pay163 du l.win
def gxV (du : Vec F S256x1536 .bf16) : FVec F S256x1024 .f32 := k0_pay2 l.dx1 l.g1 (k0_pay164 l.x) (k0_pay165 l.x) (k0_pay168 l.sc (dhV l du))
/-- Slab `s` of the derivative, turned. -/
def slabV (du : Vec F S256x1536 .bf16) (s : Fin 6) : FVec F S1x256x256 .bf16 :=
  shapeCast S1x256x256 (transpose S256x256 [1, 0] (extractStridedSlice S256x256 ![0, 256 * s.val] du ⟨rfl, in2 (by decide) (by omega)⟩) Gen.transposes_S256x256_p1_0_S256x256)
    Gen.shapeCasts_S256x256_S1x256x256
def dubL (du : Vec F S256x1536 .bf16) : List (View.Piece (Elt F) S6x256x256 .bf16) :=
  [⟨box3 6 256 256 1 256 256 5 0 0, slabV du 5⟩, ⟨box3 6 256 256 1 256 256 4 0 0, slabV du 4⟩, ⟨box3 6 256 256 1 256 256 3 0 0, slabV du 3⟩,
   ⟨box3 6 256 256 1 256 256 2 0 0, slabV du 2⟩, ⟨box3 6 256 256 1 256 256 1 0 0, slabV du 1⟩, ⟨box3 6 256 256 1 256 256 0 0 0, slabV du 0⟩]

/-! ### The sums -/

/-- One more store into the rows of sums: of what `f` makes of the row as it was. -/
def addAcc (P : Prev F) (k n b : ℕ) (hk : k + 1 ≤ 8) (hb : b + n ≤ 1024) (f : Vec F (⟨2, ![1, n]⟩ : Shape) .f32 → Vec F (⟨2, ![1, n]⟩ : Shape) .f32)
    (L : List (View.Piece (Elt F) S8x1024 .f32)) : List (View.Piece (Elt F) S8x1024 .f32) :=
  ⟨box 8 1024 1 n k b hk hb, f (P.acc.rd L (box 8 1024 1 n k b hk hb).toLoadRect)⟩ :: L

def accL (P : Prev F) (du : Vec F S256x1536 .bf16) : List (View.Piece (Elt F) S8x1024 .f32) :=
  addAcc P 3 1024 0 (by decide) (by decide) (fun o => k0_pay1 (k0_pay169 o) (k0_pay170 l.sc (dhV l du) (k0_pay165 l.x)))
  <| addAcc P 1 1024 0 (by decide) (by decide) (fun o => k0_pay167 (dhV l du) l.g1 (k0_pay165 l.x) o)
  <| addAcc P 0 1024 0 (by decide) (by decide) (fun o => k0_pay166 du l.win o)
  <| addAcc P 5 128 896 (by decide) (by decide) (fun o => scaleV l 3 o)
  <| addAcc P 5 128 768 (by decide) (by decide) (fun o => scaleV l 2 o)
  <| addAcc P 5 128 640 (by decide) (by decide) (fun o => scaleV l 1 o)
  <| addAcc P 5 128 512 (by decide) (by decide) (fun o => scaleV l 0 o)
  <| addAcc P 4 512 0 (by decide) (by decide) (fun o => k0_pay37 (rstdV l) (xhatV l) (subV l) (sumV l) c512 o)
  <| addAcc P 4 512 512 (by decide) (by decide) (fun o => k0_pay32 (xhatV l) (hlV l) (shV l) (dycV l) l.wpw o)
  <| addAcc P 5 512 0 (by decide) (by decide) (fun o => k0_pay31 (hlV l) (shV l) (dycV l) l.wpw o)
  <| addAcc P 2 1024 0 (by decide) (by decide) (fun o => k0_pay12 l.dx1 o l.y) P.acc.base

def dwgL (P : Prev F) : (n : ℕ) → n ≤ 4 → List (View.Piece (Elt F) S512x128 .f32)
  | 0, _ => P.dwg.base
  | n + 1, hn => ⟨box 512 128 128 128 (128 * n) 0 (by omega) (by decide),
      wpoolV l ⟨n, hn⟩ (P.dwg.rd (dwgL P n (by omega)) (box 512 128 128 128 (128 * n) 0 (by omega) (by decide)).toLoadRect)⟩ :: dwgL P n (by omega)

def wlastV (old : Vec F S256x1024 .f32) (j : Fin 4) : FVec F S256x1024 .f32 :=
  shapeCast S256x1024 (addf old (matmul dot_S256x256_S256x1024_S256x1024_1_0_0_1_n_n none (shapeCast S256x256 (l.ycb j) Gen.shapeCasts_S1x256x256_S256x256) (dyV l) (constant S256x1024 .f32 0x00000000#32)))
    Gen.shapeCasts_S256x1024_S256x1024

def aoL (P : Prev F) : (n : ℕ) → n ≤ 4 → List (View.Piece (Elt F) S1024x1024 .f32)
  | 0, _ => P.ao.base
  | n + 1, hn => ⟨box 1024 1024 256 1024 (256 * n) 0 (by omega) (by decide),
      wlastV l (P.ao.rd (aoL P n (by omega)) (box 1024 1024 256 1024 (256 * n) 0 (by omega) (by decide)).toLoadRect) ⟨n, hn⟩⟩ :: aoL P n (by omega)

def wpointV (old : Vec F S256x512 .f32) (j : Fin 2) : FVec F S256x512 .f32 :=
  shapeCast S256x512 (addf old (matmul dot_S256x256_S256x512_S256x512_1_0_0_1_n_n none (shapeCast S256x256 (l.hsb j) Gen.shapeCasts_S1x256x256_S256x256) (dycV l) (constant S256x512 .f32 0x00000000#32)))
    Gen.shapeCasts_S256x512_S256x512

def apL (P : Prev F) : (n : ℕ) → n ≤ 2 → List (View.Piece (Elt F) S512x512 .f32)
  | 0, _ => P.ap.base
  | n + 1, hn => ⟨box 512 512 256 512 (256 * n) 0 (by omega) (by decide),
      wpointV l (P.ap.rd (apL P n (by omega)) (box 512 512 256 512 (256 * n) 0 (by omega) (by decide)).toLoadRect) ⟨n, hn⟩⟩ :: apL P n (by omega)

/-- The number of the tile that the point works on. -/
def tileW (i : grid0.Coords) : BitVec 32 := Scalar.subi 7#32 (BitVec.ofNat 32 (i 0).val)

/-- The stores of one call, but for the two products written back at the last point. -/
def gen (M : Mems) (P : Prev F) (w : BitVec 32) : Stores F where
  gx := [⟨box 256 1024 256 1024 0 0, gxV l (duV l M P w)⟩]
  dub := dubL (duV l M P w)
  acc := accL l P (duV l M P w)
  ddw := ddwL P (dhdV l) (hTap l M w) 31 le_rfl
  dwg := dwgL l P 4 le_rfl
  po := []
  pp := []
  dE := ⟨box 288 512 32 512 256 0, k0_pay107 (P.dE.rdc (dEL l P) (box 288 512 32 512 0 0).toLoadRect)⟩ :: dEL l P
  qE := ⟨box 272 512 16 512 256 0, k0_pay155 (P.qE.rdc (qEL l P w 4 le_rfl) (box 272 512 16 512 0 0).toLoadRect)⟩ :: qEL l P w 4 le_rfl
  hx := hxL l w
  ub := ubL l M P w
  hr := shifts (fun B => M.hx.view.readCov (hxL l w) B) 7 le_rfl
  dr := shifts (fun B => P.dE.rd (dEL l P) B) 7 le_rfl
  ao := aoL l P 4 le_rfl
  ap := apL l P 2 le_rfl

/-- The body's stores at a point between are the general ones. -/
theorem same_mid (c : Dev nD) (i : grid0.Coords) (h0 : ¬ first i) (h1 : ¬ last i) (M : Mems) (x : Ins F) (K : Carry F) :
    (runMid c i h0 h1 M x K).1 = gen (lds M x) M (M.prev K) (tileW i) := by sl_kernel_rfl

theorem same_first (c : Dev nD) (i : grid0.Coords) (h0 : first i) (h1 : ¬ last i) (M : Mems) (x : Ins F) :
    (runFirst c i h0 h1 M x).1 = gen (lds M x) M M.start (tileW i) := by sl_kernel_rfl

theorem same_last (c : Dev nD) (i : grid0.Coords) (h0 : ¬ first i) (h1 : last i) (M : Mems) (x : Ins F) (K : Carry F) :
    (runLast c i h0 h1 M x K).1 = { gen (lds M x) M (M.prev K) (tileW i) with
      po := [⟨box 1024 1024 1024 1024 0 0, k0_pay3 (M.ao.view.readCov (aoL (lds M x) (M.prev K) 4 le_rfl) (box 1024 1024 1024 1024 0 0).toLoadRect)⟩],
      pp := [⟨box 512 512 512 512 0 0, k0_pay4 (M.ap.view.readCov (apL (lds M x) (M.prev K) 2 le_rfl) (box 512 512 512 512 0 0).toLoadRect)⟩] } := by sl_kernel_rfl

end Cert.KernelMixIdeal.Body

end
-- ==== Proof.MixRead.lean ====
/- Reading a buffer after a list of stores, entry by entry. -/
module

public import proofs.«01_k».proof.Proof.MixGen
public import Idealize.ShloMosaic.Lib.WritesUnit
public import Idealize.ShloMosaic.Lib.Pointwise

@[expose] public section

set_option maxRecDepth 16384

noncomputable section

namespace Cert.KernelMixIdeal.Body

open Idealize.ShloMosaic Idealize.ShloMosaic.TcCoe Cert.KernelMixIdeal Cert.KernelMixIdeal.Gen

section
variable {sg : RefSig} {κ : Kind} {sp : Space} {e : EltTy} {Val : EltTy → Type}

theorem box_idx {m n k l a b : ℕ} (h0 : a + k ≤ m) (h1 : b + l ≤ n) (r : Fin k) (c : Fin l) :
    (box m n k l a b h0 h1).toLoadRect.idx (ix2 r c) = ix2 ⟨a + r.val, by omega⟩ ⟨b + c.val, by omega⟩ := funext fun i => Fin.ext (by
  fin_cases i
  · show a + 1 * r.val = a + r.val; omega
  · show b + 1 * c.val = b + c.val; omega)

theorem box3_idx {m n p k l s a b c : ℕ} (h0 : a + k ≤ m) (h1 : b + l ≤ n) (h2 : c + s ≤ p) (x : Fin k) (y : Fin l) (z : Fin s) :
    (box3 m n p k l s a b c h0 h1 h2).toLoadRect.idx (ix3 x y z) = ix3 ⟨a + x.val, by omega⟩ ⟨b + y.val, by omega⟩ ⟨c + z.val, by omega⟩ :=
  funext fun i => Fin.ext (by
    fin_cases i
    · show a + 1 * x.val = a + x.val; omega
    · show b + 1 * y.val = b + y.val; omega
    · show c + 1 * z.val = c + z.val; omega)

/-- An entry under the newest store. -/
theorem at_hit {m n k l a b : ℕ} (h0 : a + k ≤ m) (h1 : b + l ≤ n) (v : View sg κ sp (⟨2, ![m, n]⟩ : Shape) e) (f : v.ty.Contents Val)
    (w : (box m n k l a b h0 h1).shape.Idx → Val e) (L : List (View.Piece Val (⟨2, ![m, n]⟩ : Shape) e)) (r : Fin m) (c : Fin n) (r' : Fin k) (c' : Fin l)
    (hr : r.val = a + r'.val) (hc : c.val = b + c'.val) :
    v.read Val (v.writes Val f (⟨box m n k l a b h0 h1, w⟩ :: L)) (ix2 r c) = w (ix2 r' c' : (⟨2, ![k, l]⟩ : Shape).Idx) :=
  View.read_writes_cons_unit_of_mem (off := ![a, b]) (off' := ![a, b]) (size := (⟨2, ![k, l]⟩ : Shape).size) v f (in2 h0 h1) w L (ix2 r c) (ix2 r' c' : (⟨2, ![k, l]⟩ : Shape).Idx) rfl fun i => by
    fin_cases i
    · exact hr
    · exact hc

/-- An entry outside of it. -/
theorem at_miss {m n k l a b : ℕ} (h0 : a + k ≤ m) (h1 : b + l ≤ n) (v : View sg κ sp (⟨2, ![m, n]⟩ : Shape) e) (f : v.ty.Contents Val)
    (w : (box m n k l a b h0 h1).shape.Idx → Val e) (L : List (View.Piece Val (⟨2, ![m, n]⟩ : Shape) e)) (r : Fin m) (c : Fin n)
    (h : r.val < a ∨ a + k ≤ r.val ∨ c.val < b ∨ b + l ≤ c.val) :
    v.read Val (v.writes Val f (⟨box m n k l a b h0 h1, w⟩ :: L)) (ix2 r c) = v.read Val (v.writes Val f L) (ix2 r c) := by
  rcases h with h | h | h | h
  · exact View.read_writes_cons_unit_of_not_mem (off := ![a, b]) (off' := ![a, b]) (size := (⟨2, ![k, l]⟩ : Shape).size) v f (in2 h0 h1) w L (ix2 r c) rfl 0 (.inl h)
  · exact View.read_writes_cons_unit_of_not_mem (off := ![a, b]) (off' := ![a, b]) (size := (⟨2, ![k, l]⟩ : Shape).size) v f (in2 h0 h1) w L (ix2 r c) rfl 0 (.inr h)
  · exact View.read_writes_cons_unit_of_not_mem (off := ![a, b]) (off' := ![a, b]) (size := (⟨2, ![k, l]⟩ : Shape).size) v f (in2 h0 h1) w L (ix2 r c) rfl 1 (.inl h)
  · exact View.read_writes_cons_unit_of_not_mem (off := ![a, b]) (off' := ![a, b]) (size := (⟨2, ![k, l]⟩ : Shape).size) v f (in2 h0 h1) w L (ix2 r c) rfl 1 (.inr h)

theorem at_hit3 {m n p k l s a b c : ℕ} (h0 : a + k ≤ m) (h1 : b + l ≤ n) (h2 : c + s ≤ p) (v : View sg κ sp (⟨3, ![m, n, p]⟩ : Shape) e) (f : v.ty.Contents Val)
    (w : (box3 m n p k l s a b c h0 h1 h2).shape.Idx → Val e) (L : List (View.Piece Val (⟨3, ![m, n, p]⟩ : Shape) e)) (x : Fin m) (y : Fin n) (z : Fin p)
    (x' : Fin k) (y' : Fin l) (z' : Fin s) (hx : x.val = a + x'.val) (hy : y.val = b + y'.val) (hz : z.val = c + z'.val) :
    v.read Val (v.writes Val f (⟨box3 m n p k l s a b c h0 h1 h2, w⟩ :: L)) (ix3 x y z) = w (ix3 x' y' z' : (⟨3, ![k, l, s]⟩ : Shape).Idx) :=
  View.read_writes_cons_unit_of_mem (off := ![a, b, c]) (off' := ![a, b, c]) (size := (⟨3, ![k, l, s]⟩ : Shape).size) v f (in3 h0 h1 h2) w L (ix3 x y z) (ix3 x' y' z' : (⟨3, ![k, l, s]⟩ : Shape).Idx) rfl fun i => by
    fin_cases i
    · exact hx
    · exact hy
    · exact hz

theorem at_miss3 {m n p k l s a b c : ℕ} (h0 : a + k ≤ m) (h1 : b + l ≤ n) (h2 : c + s ≤ p) (v : View sg κ sp (⟨3, ![m, n, p]⟩ : Shape) e) (f : v.ty.Contents Val)
    (w : (box3 m n p k l s a b c h0 h1 h2).shape.Idx → Val e) (L : List (View.Piece Val (⟨3, ![m, n, p]⟩ : Shape) e)) (x : Fin m) (y : Fin n) (z : Fin p)
    (h : x.val < a ∨ a + k ≤ x.val) :
    v.read Val (v.writes Val f (⟨box3 m n p k l s a b c h0 h1 h2, w⟩ :: L)) (ix3 x y z) = v.read Val (v.writes Val f L) (ix3 x y z) :=
  View.read_writes_cons_unit_of_not_mem (off := ![a, b, c]) (off' := ![a, b, c]) (size := (⟨3, ![k, l, s]⟩ : Shape).size) v f (in3 h0 h1 h2) w L (ix3 x y z) rfl 0 h

end

variable {F : FTy → Type} [FloatOps F]

/-- A load of an input buffer, entry by entry. -/
theorem inp_at {m n k l b d : ℕ} {e : EltTy} {a : Memref sig .tc .vmem (⟨2, ![m, n]⟩ : Shape) e} (h : a.IsWhole) (v : Vec F (⟨2, ![m, n]⟩ : Shape) e)
    (h0 : b + k ≤ m) (h1 : d + l ≤ n) (r : Fin k) (c : Fin l) :
    inp h v (box m n k l b d h0 h1) (ix2 r c) = v (ix2 ⟨b + r.val, by omega⟩ ⟨d + c.val, by omega⟩) := by
  unfold inp
  rw [View.readAt_apply, box_idx h0 h1]
  exact congrFun (h.read_unread v) _

theorem inp3_at {m n p k l s b c d : ℕ} {e : EltTy} {a : Memref sig .tc .vmem (⟨3, ![m, n, p]⟩ : Shape) e} (h : a.IsWhole) (v : Vec F (⟨3, ![m, n, p]⟩ : Shape) e)
    (h0 : b + k ≤ m) (h1 : c + l ≤ n) (h2 : d + s ≤ p) (x : Fin k) (y : Fin l) (z : Fin s) :
    inp h v (box3 m n p k l s b c d h0 h1 h2) (ix3 x y z) = v (ix3 ⟨b + x.val, by omega⟩ ⟨c + y.val, by omega⟩ ⟨d + z.val, by omega⟩) := by
  unfold inp
  rw [View.readAt_apply, box3_idx h0 h1 h2]
  exact congrFun (h.read_unread v) _

/-- What `b` reads where buffer `a` held `v0`, with `O` its entries after the body's own first stores. -/
structure Sem {S : Shape} {e : EltTy} (a : Memref sig .tc .vmem S e) (v0 : a.view.ty.Contents (Elt F)) (O : S.Idx → Elt F e) (b : Buf F S e) : Prop where
  base : ∀ y, a.view.read (Elt F) (a.view.writes (Elt F) v0 b.base) y = O y
  rd : ∀ L B j, a.view.read (Elt F) (a.view.writes (Elt F) v0 L) (B.idx j) = O (B.idx j) → b.rd L B j = O (B.idx j)

/-- The same for a scratch buffer, read also where the body has stored. -/
structure Sem' {S : Shape} {e : EltTy} (a : Memref sig .tc .vmem S e) (v0 : a.view.ty.Contents (Elt F)) (O : S.Idx → Elt F e) (b : Buf F S e) : Prop where
  base : ∀ y, a.view.read (Elt F) (a.view.writes (Elt F) v0 b.base) y = O y
  rd : ∀ L B j, b.rd L B j = a.view.read (Elt F) (a.view.writes (Elt F) v0 L) (B.idx j)
  rdc : ∀ L B j, (∃ p ∈ L, B.idx j ∈ p.1.set) → b.rdc L B j = a.view.read (Elt F) (a.view.writes (Elt F) v0 L) (B.idx j)

theorem sem_kept {S : Shape} {e : EltTy} {a : Memref sig .tc .vmem S e} (h : a.IsWhole) (x : Vec F S e) : Sem a (h.unread x) x (Buf.kept h x) where
  base y := congrFun (h.read_unread x) y
  rd L B j _ := congrFun (h.read_unread x) _

theorem sem_over {S : Shape} {e : EltTy} {a : Memref sig .tc .vmem S e} (h : a.IsWhole) (x : Vec F S e) : Sem' a (h.unread x) x (Buf.over h x) where
  base y := congrFun (h.read_unread x) y
  rd L B j := rfl
  rdc L B j hc := View.read_writes_apply_eq _ _ _ _ _ L hc

theorem sem_fresh {S : Shape} {e : EltTy} (a : Memref sig .tc .vmem S e) (r : Rect S) (w : r.shape.Idx → Elt F e) :
    Sem a a.view.junk (fun y => a.view.read (Elt F) (a.view.writes (Elt F) a.view.junk [⟨r, w⟩]) y) (Buf.fresh a r w) where
  base y := rfl
  rd L B j hj := hj

theorem sem_fresh' {S : Shape} {e : EltTy} (a : Memref sig .tc .vmem S e) (r : Rect S) (w : r.shape.Idx → Elt F e) :
    Sem' a a.view.junk (fun y => a.view.read (Elt F) (a.view.writes (Elt F) a.view.junk [⟨r, w⟩]) y) (Buf.fresh a r w) where
  base y := rfl
  rd L B j := rfl
  rdc L B j hc := rfl

theorem box_mem {m n k l a b : ℕ} (h0 : a + k ≤ m) (h1 : b + l ≤ n) (r : Fin m) (c : Fin n) (hr : a ≤ r.val ∧ r.val < a + k) (hc : b ≤ c.val ∧ c.val < b + l) :
    (ix2 r c : (⟨2, ![m, n]⟩ : Shape).Idx) ∈ (box m n k l a b h0 h1).set :=
  Rect.mem_set_unit.mpr fun i => by
    fin_cases i
    · exact hr
    · exact hc

end Cert.KernelMixIdeal.Body

end
-- ==== Proof.FwdRead.lean ====
/- The forward mixer's scratch buffers: what a load of them is after the body's stores, and what the body makes of the loads. -/
module

public import proofs.«01_k».proof.Proof.FwdTile
public import proofs.«01_k».proof.Proof.FwdRef
public import proofs.«01_k».proof.Proof.MixRead
public import Idealize.ShloMosaic.Lib.Pipeline.ReadBack
public import Idealize.ShloMosaic.Lib.Pipeline.RowLoads
public import Idealize.ShloMosaic.Lib.WritesUnit
public import Idealize.ShloMosaic.Lib.VecWindow
public import Idealize.ShloMosaic.Lib.Pipeline.ValueKit

@[expose] public section

set_option maxRecDepth 16384

noncomputable section

namespace Cert.Fwd

open Idealize.ShloMosaic Cert.Ffn Cert.Mix Cert.KernelFwdIdeal Cert.KernelFwdIdeal.Gen Cert.KernelMixIdeal.Body

theorem le0 {k l a b m n : ℕ} (p : ∀ i, (![a, b] : Fin 2 → ℕ) i + (![k, l] : Fin 2 → ℕ) i ≤ (⟨2, ![m, n]⟩ : Shape).size i) : a + k ≤ m := p 0
theorem le1 {k l a b m n : ℕ} (p : ∀ i, (![a, b] : Fin 2 → ℕ) i + (![k, l] : Fin 2 → ℕ) i ≤ (⟨2, ![m, n]⟩ : Shape).size i) : b + l ≤ n := p 1

/-- Rows `a` on and lanes `b` on of the rows `E`. -/
def T {n : ℕ} (k l : ℕ) (E : ℕ → Fin n → EReal) (a b : ℕ) (hb : b + l ≤ n) : Vec Ideal (⟨2, ![k, l]⟩ : Shape) .f32 :=
  fun y => E (a + (y 0).val) ⟨b + (y 1).val, lt_of_lt_of_le (Nat.add_lt_add_left (y 1).isLt b) hb⟩

section
variable {sg : RefSig} {κ : Kind} {sp : Space} {m n : ℕ} (v : View sg κ sp (⟨2, ![m, n]⟩ : Shape) .f32) (f : v.ty.Contents (Elt Ideal))
  (L : List (View.Piece (Elt Ideal) (⟨2, ![m, n]⟩ : Shape) .f32)) (E : ℕ → Fin n → EReal)

/-- After the stores `L` the buffer holds the rows `E` from row `lo` on. -/
def Held (lo : ℕ) : Prop := ∀ (r : Fin m) (j : Fin n), lo ≤ r.val → v.read (Elt Ideal) (v.writes (Elt Ideal) f L) (ix2 r j) = E r.val j

variable {v f L E} {lo : ℕ}

theorem ld_held (H : Held v f L E lo) {k l a b : ℕ} (p : ∀ i, (![a, b] : Fin 2 → ℕ) i + (![k, l] : Fin 2 → ℕ) i ≤ (⟨2, ![m, n]⟩ : Shape).size i) (ha : lo ≤ a) :
    View.ld (View.read (Elt Ideal) v (v.writes (Elt Ideal) f L)) (Rect.unit ![a, b] ![k, l] p) = T k l E a b (le1 p) := by
  funext y
  refine (congrArg (View.read (Elt Ideal) v (v.writes (Elt Ideal) f L)) (?_ : _ = ix2 ⟨a + (y 0).val, ?_⟩ ⟨b + (y 1).val, ?_⟩)).trans (H _ _ (by show lo ≤ a + (y 0).val; omega))
  · exact lt_of_lt_of_le (Nat.add_lt_add_left (y 0).isLt a) (le0 p)
  · exact lt_of_lt_of_le (Nat.add_lt_add_left (y 1).isLt b) (le1 p)
  · funext i
    apply Fin.ext
    fin_cases i
    · show a + 1 * (y 0).val = a + (y 0).val; omega
    · show b + 1 * (y 1).val = b + (y 1).val; omega

theorem cov_held (H : Held v v.junk L E lo) {k l a b : ℕ} (p : ∀ i, (![a, b] : Fin 2 → ℕ) i + (![k, l] : Fin 2 → ℕ) i ≤ (⟨2, ![m, n]⟩ : Shape).size i) (ha : lo ≤ a) :
    v.readCov L (Rect.unit ![a, b] ![k, l] p).toLoadRect = T k l E a b (le1 p) :=
  (ld_held H p ha)

/-- A store that covers the rows from `a` on. -/
theorem held_cons {k a : ℕ} (p : ∀ i, (![a, 0] : Fin 2 → ℕ) i + (![k, n] : Fin 2 → ℕ) i ≤ (⟨2, ![m, n]⟩ : Shape).size i) (hm : a + k = m)
    (w : (⟨2, ![k, n]⟩ : Shape).Idx → EReal) (hw : ∀ (r : Fin k) (j : Fin n), w (ix2 r j) = E (a + r.val) j)
    (hL : ∀ (r : Fin m) (j : Fin n), lo ≤ r.val → r.val < a → v.read (Elt Ideal) (v.writes (Elt Ideal) f L) (ix2 r j) = E r.val j) :
    Held v f (⟨Rect.unit ![a, 0] ![k, n] p, w⟩ :: L) E lo := by
  intro r j hr
  by_cases h : r.val < a
  · exact (at_miss (le0 p) (le1 p) v f w L r j (.inl h)).trans (hL r j hr h)
  · refine (at_hit (le0 p) (le1 p) v f w L r j ⟨r.val - a, by have := r.isLt; omega⟩ j (by show r.val = a + (r.val - a); omega) (by omega)).trans ((hw _ _).trans ?_)
    exact congrArg (E · j) (by show a + (r.val - a) = r.val; omega)

end

/-- Four stores side by side, from lane `o` on. -/
theorem cat_read {sg : RefSig} {κ : Kind} {sp : Space} {n o : ℕ} {e : EltTy} (v : View sg κ sp (⟨2, ![256, n]⟩ : Shape) e) (f : v.ty.Contents (Elt Ideal))
    (w : Fin 4 → (⟨2, ![256, 128]⟩ : Shape).Idx → Elt Ideal e) (L : List (View.Piece (Elt Ideal) (⟨2, ![256, n]⟩ : Shape) e))
    (hn : n = o + 512) (p0 p1 p2 p3) (r : Fin 256) (j : Fin 512) :
    v.read (Elt Ideal) (v.writes (Elt Ideal) f (⟨Rect.unit ![0, o + 384] ![256, 128] p3, w 3⟩ :: ⟨Rect.unit ![0, o + 256] ![256, 128] p2, w 2⟩
      :: ⟨Rect.unit ![0, o + 128] ![256, 128] p1, w 1⟩ :: ⟨Rect.unit ![0, o] ![256, 128] p0, w 0⟩ :: L)) (ix2 r ⟨o + j.val, by omega⟩)
      = cat4 (fun g l => w g (ix2 r l)) j := by
  have hj := j.isLt
  unfold cat4
  by_cases h0 : j.val < 128
  · rw [dif_pos h0]
    refine (at_miss (le0 p3) (le1 p3) v f _ _ r _ (.inr (.inr (.inl (by show o + j.val < o + 384; omega))))).trans ?_
    refine (at_miss (le0 p2) (le1 p2) v f _ _ r _ (.inr (.inr (.inl (by show o + j.val < o + 256; omega))))).trans ?_
    refine (at_miss (le0 p1) (le1 p1) v f _ _ r _ (.inr (.inr (.inl (by show o + j.val < o + 128; omega))))).trans ?_
    exact at_hit (le0 p0) (le1 p0) v f _ _ r _ r ⟨j.val, h0⟩ (by omega) rfl
  rw [dif_neg h0]
  by_cases h1 : j.val - 128 < 128
  · rw [dif_pos h1]
    refine (at_miss (le0 p3) (le1 p3) v f _ _ r _ (.inr (.inr (.inl (by show o + j.val < o + 384; omega))))).trans ?_
    refine (at_miss (le0 p2) (le1 p2) v f _ _ r _ (.inr (.inr (.inl (by show o + j.val < o + 256; omega))))).trans ?_
    exact at_hit (le0 p1) (le1 p1) v f _ _ r _ r ⟨j.val - 128, h1⟩ (by omega) (by show o + j.val = o + 128 + (j.val - 128); omega)
  rw [dif_neg h1]
  by_cases h2 : j.val - 128 - 128 < 128
  · rw [dif_pos h2]
    refine (at_miss (le0 p3) (le1 p3) v f _ _ r _ (.inr (.inr (.inl (by show o + j.val < o + 384; omega))))).trans ?_
    exact at_hit (le0 p2) (le1 p2) v f _ _ r _ r ⟨j.val - 128 - 128, h2⟩ (by omega) (by show o + j.val = o + 256 + (j.val - 128 - 128); omega)
  rw [dif_neg h2]
  exact at_hit (le0 p3) (le1 p3) v f _ _ r _ r ⟨j.val - 128 - 128 - 128, by omega⟩ (by omega) (by show o + j.val = o + 384 + (j.val - 128 - 128 - 128); omega)

/-- The two branches' lanes in the buffer of the last product. -/
theorem branches {sg : RefSig} {κ : Kind} {sp : Space} (v : View sg κ sp S256x1024 .bf16) (c : Vec Ideal S256x512 .bf16)
    (w0 w1 w2 w3 : Vec Ideal S256x128 .bf16) (p : ∀ i, (![0, 0] : Fin 2 → ℕ) i + (![256, 1024] : Fin 2 → ℕ) i ≤ S256x1024.size i) (p0 p1 p2 p3 p4) (r : Fin 256) (j : Fin 1024) :
    v.readCov [⟨Rect.unit ![0, 896] ![256, 128] p3, w3⟩, ⟨Rect.unit ![0, 768] ![256, 128] p2, w2⟩, ⟨Rect.unit ![0, 640] ![256, 128] p1, w1⟩,
      ⟨Rect.unit ![0, 512] ![256, 128] p0, w0⟩, ⟨Rect.unit ![0, 0] ![256, 512] p4, c⟩] (Rect.unit (s := S256x1024) ![0, 0] ![256, 1024] p).toLoadRect (ix2 r j)
      = if hj : j.val < 512 then c (ix2 r ⟨j.val, hj⟩) else cat4 (fun g l => (![w0, w1, w2, w3] : Fin 4 → Vec Ideal S256x128 .bf16) g (ix2 r l)) ⟨j.val - 512, by omega⟩ := by
  have hj' := j.isLt
  unfold View.readCov
  rw [View.readAt_apply]
  rw [show (Rect.unit (s := S256x1024) ![0, 0] ![256, 1024] p).toLoadRect.idx (ix2 r j) = (ix2 r j : S256x1024.Idx) from funext fun i => Fin.ext (by
    fin_cases i
    · show 0 + 1 * r.val = r.val; omega
    · show 0 + 1 * j.val = j.val; omega)]
  by_cases hj : j.val < 512
  · rw [dif_pos hj]
    refine (at_miss (le0 p3) (le1 p3) v _ w3 _ r j (.inr (.inr (.inl (by omega))))).trans ?_
    refine (at_miss (le0 p2) (le1 p2) v _ w2 _ r j (.inr (.inr (.inl (by omega))))).trans ?_
    refine (at_miss (le0 p1) (le1 p1) v _ w1 _ r j (.inr (.inr (.inl (by omega))))).trans ?_
    refine (at_miss (le0 p0) (le1 p0) v _ w0 _ r j (.inr (.inr (.inl (by omega))))).trans ?_
    exact at_hit (le0 p4) (le1 p4) v _ c _ r j r ⟨j.val, hj⟩ (by omega) (by show j.val = 0 + j.val; omega)
  · rw [dif_neg hj]
    refine Eq.trans (congrArg (v.read _ _) (?_ : _ = ix2 r ⟨512 + (⟨j.val - 512, by omega⟩ : Fin 512).val, by show 512 + (j.val - 512) < 1024; omega⟩))
      (cat_read (o := 512) v _ ![w0, w1, w2, w3] _ rfl p0 p1 p2 p3 r ⟨j.val - 512, by omega⟩)
    exact congrArg (ix2 r) (Fin.ext (by show j.val = 512 + (j.val - 512); omega))

/-! ## One tile from its rows and the rows before -/

section
variable (q : Prm) (it : ℕ) (E1 E2 : ℕ → Fin 512 → EReal)

def tHd (r : Fin 256) (j : Fin 512) : EReal := hd q (fun k => E1 (2 + k.val + r.val) j) j
def tP (r : Fin 256) (g : Fin 4) (j : Fin 128) : EReal := pool (wd g) (it * 256 + r.val) (fun δ => E2 (16 - δ + r.val) (lane g j))
def tYc (r : Fin 256) (j : Fin 1024) : EReal := yc q (hs q (tHd q E1 r)) (tP it E2 r) j

end

theorem sum31 (f : Fin 31 → EReal) : ∑ k, f k = f 0 + f 1 + f 2 + f 3 + f 4 + f 5 + f 6 + f 7 + f 8 + f 9 + f 10 + f 11 + f 12 + f 13 + f 14 + f 15 + f 16 + f 17
    + f 18 + f 19 + f 20 + f 21 + f 22 + f 23 + f 24 + f 25 + f 26 + f 27 + f 28 + f 29 + f 30 := by
  simp only [Fin.sum_univ_castSucc, Fin.sum_univ_zero, zero_add]
  rfl

/-- The depthwise weight's rows, past its end zero. -/
def dwr (x4 : Vec Ideal S32x512 .f32) (n : ℕ) (j : Fin 512) : EReal := if hn : n < 32 then x4 (ix2 ⟨n, hn⟩ j) else 0

end Cert.Fwd

end
-- ==== Proof.FwdBody.lean ====
/- The forward mixer's body on one tile: each block that it stores is the token-wise formula of the tile's rows and of the rows
   before them. -/
module

public import proofs.«01_k».proof.Proof.FwdRead

@[expose] public section

set_option maxRecDepth 16384

noncomputable section

namespace Cert.Fwd

open Idealize.ShloMosaic Cert.Ffn Cert.Mix Cert.KernelFwdIdeal Cert.KernelFwdIdeal.Gen Cert.KernelMixIdeal.Body

theorem ld_weight (x4 : Vec Ideal S32x512 .f32) {k l a b : ℕ} (p : ∀ i, (![a, b] : Fin 2 → ℕ) i + (![k, l] : Fin 2 → ℕ) i ≤ S32x512.size i) :
    View.ld x4 (Rect.unit (s := S32x512) ![a, b] ![k, l] p) = T k l (dwr x4) a b (le1 p) := by
  funext y
  have h : a + (y 0).val < 32 := lt_of_lt_of_le (Nat.add_lt_add_left (y 0).isLt a) (le0 p)
  show _ = dwr x4 _ _
  unfold dwr
  rw [dif_pos h]
  refine congrArg x4 (funext fun i => Fin.ext ?_)
  fin_cases i
  · show a + 1 * (y 0).val = a + (y 0).val; omega
  · show b + 1 * (y 1).val = b + (y 1).val; omega

theorem ld_lanes {n l b : ℕ} {e : EltTy} (x : Vec Ideal (⟨2, ![8, n]⟩ : Shape) e)
    (p : ∀ i, (![0, b] : Fin 2 → ℕ) i + (![1, l] : Fin 2 → ℕ) i ≤ (⟨2, ![8, n]⟩ : Shape).size i) (z : Fin 1) (j : Fin l) :
    View.ld x (Rect.unit (s := (⟨2, ![8, n]⟩ : Shape)) ![0, b] ![1, l] p) (ix2 z j) = x (ix2 0 ⟨b + j.val, by have := le1 p; omega⟩) :=
  View.ld_unit_apply_of _ _ _ _ _ _ fun i => by
    fin_cases i
    · show 0 = 0 + z.val; omega
    · rfl

theorem ld_scale {l b : ℕ} (x : Vec Ideal S1x512 .f32)
    (p : ∀ i, (![0, b] : Fin 2 → ℕ) i + (![1, l] : Fin 2 → ℕ) i ≤ S1x512.size i) (z : Fin 1) (j : Fin l) :
    View.ld x (Rect.unit (s := S1x512) ![0, b] ![1, l] p) (ix2 z j) = x (ix2 0 ⟨b + j.val, by have : b + l ≤ 512 := p 1; omega⟩) :=
  View.ld_unit_apply_of _ _ _ _ _ _ fun i => by
    fin_cases i
    · show 0 = 0 + z.val; omega
    · rfl

theorem ld_group (x : Vec Ideal S4x128x128 .f32) (g : Fin 4) {o : ℕ} (ho : o = g.val)
    (p : ∀ i, (![o, 0, 0] : Fin 3 → ℕ) i + (![1, 128, 128] : Fin 3 → ℕ) i ≤ S4x128x128.size i) (z : Fin 1) (i j : Fin 128) :
    View.ld x (Rect.unit (s := S4x128x128) ![o, 0, 0] ![1, 128, 128] p) (ix3 z i j) = x (ix3 g i j) :=
  View.ld_unit_apply_of _ _ _ _ _ _ fun a => by
    fin_cases a
    · show g.val = o + z.val; omega
    · show i.val = 0 + i.val; omega
    · show j.val = 0 + j.val; omega

/-- The two branches of the tile. -/
def Y (q : Prm) (it : ℕ) (E1 E2 : ℕ → Fin 512 → EReal) : Vec Ideal S256x1024 .bf16 := fun y => tYc q it E1 E2 (y 0) (y 1)

section
variable (x1 : Vec Ideal S8x6144 .f32) (x2 : Vec Ideal S1x1024 .f32) (x3 : Vec Ideal S1536x1024 .bf16) (x4 : Vec Ideal S32x512 .f32)
  (x5 x6 x7 : Vec Ideal S1x512 .f32) (x8 : Vec Ideal S512x512 .bf16) (x9 : Vec Ideal S4x128x128 .f32) (x10 : Vec Ideal S1x512 .f32)
  (x11 : Vec Ideal S1024x1024 .bf16) (it : ℕ) (hit : it < 8) (E1 E2 : ℕ → Fin 512 → EReal)

/-- The rows of the weight and of the gated lanes. -/
def D (n : ℕ) : Vec Ideal S1x512 .f32 := T 1 512 (dwr x4) n 0 (by decide)
def C (n : ℕ) : Vec Ideal S256x512 .f32 := T 256 512 E1 n 0 (by decide)
/-- The pooled lanes of one group, and their group's weight and scale. -/
def U (n b : ℕ) (hb : b + 128 ≤ 512) : Vec Ideal S256x128 .f32 := T 256 128 E2 n b hb

theorem D_at (n : ℕ) (z : Fin 1) (j : Fin 512) : D x4 n (ix2 z j) = dwr x4 n j := by
  show dwr x4 (n + z.val) ⟨0 + j.val, _⟩ = _
  rw [show n + z.val = n by omega]; exact congrArg _ (Fin.ext (by show 0 + j.val = j.val; omega))

theorem C_at (n : ℕ) (r : Fin 256) (j : Fin 512) : C E1 n (ix2 r j) = E1 (n + r.val) j := congrArg (E1 _) (Fin.ext (by show 0 + j.val = j.val; omega))

theorem U_at (n b : ℕ) (hb) (r : Fin 256) (j : Fin 128) : U E2 n b hb (ix2 r j) = E2 (n + r.val) ⟨b + j.val, by omega⟩ := rfl

theorem U_zero (n : ℕ) (hb) (r : Fin 256) (j : Fin 128) : U E2 n 0 hb (ix2 r j) = E2 (n + r.val) (lane 0 j) :=
  congrArg (E2 _) (Fin.ext (by show 0 + j.val = j.val; omega))

/-- The convolution but for its last tap, and the last tap. -/
def cvL : FVec Ideal S256x512 .f32 :=
  k0_pay15 (k0_pay14 (k0_pay13 (k0_pay11 (k0_pay10 (D x4 0) (C E1 2) (D x4 1) (C E1 3) (D x4 2) (C E1 4) (D x4 3) (C E1 5))
    (D x4 4) (C E1 6) (D x4 5) (C E1 7) (D x4 6) (C E1 8) (D x4 7) (C E1 9) (D x4 8) (C E1 10) (D x4 9) (C E1 11))
    (k0_pay12 (D x4 10) (C E1 12))
    (D x4 11) (C E1 13) (D x4 12) (C E1 14) (D x4 13) (C E1 15) (D x4 14) (C E1 16) (D x4 15) (C E1 17) (D x4 16) (C E1 18))
    (D x4 17) (C E1 19) (D x4 18) (C E1 20) (D x4 19) (C E1 21) (D x4 20) (C E1 22) (D x4 21) (C E1 23) (D x4 22) (C E1 24) (D x4 23) (C E1 25))
    (D x4 24) (C E1 26) (D x4 25) (C E1 27) (D x4 26) (C E1 28) (D x4 27) (C E1 29) (D x4 28) (C E1 30) (D x4 29) (C E1 31)
def cvR : FVec Ideal S256x512 .f32 := k0_pay16 (D x4 30) (C E1 32)

theorem conv_at (r : Fin 256) (j : Fin 512) : k0_pay17 (cvL x4 E1) (cvR x4 E1) x5 (ix2 r j) = tHd (prm x1 x2 x3 x4 x5 x6 x7 x8 x9 x10 x11) E1 r j := by
  unfold cvL cvR tHd hd
  rw [sum31]
  simp only [pay17_at, pay16_at, pay15_at, pay14_at, pay13_at, pay12_at, pay11_at, pay10_at, D_at, C_at]
  rfl

theorem hs_at (r : Fin 256) (j : Fin 512) : k0_pay19 (cvL x4 E1) (cvR x4 E1) x5 x6 x7 (ix2 r j) = hs (prm x1 x2 x3 x4 x5 x6 x7 x8 x9 x10 x11) (tHd (prm x1 x2 x3 x4 x5 x6 x7 x8 x9 x10 x11) E1 r) j := by
  rw [pay19_at _ _ _ _ _ _ _ (prm x1 x2 x3 x4 x5 x6 x7 x8 x9 x10 x11) (fun _ => rfl) (fun _ => rfl)]
  exact congrArg (fun f => hs (prm x1 x2 x3 x4 x5 x6 x7 x8 x9 x10 x11) f j) (funext fun l => conv_at x1 x2 x3 x4 x5 x6 x7 x8 x9 x10 x11 E1 r l)

include hit

theorem p0_at (r : Fin 256) (l : Fin 128) (h) : k0_pay25 (BitVec.ofNat 32 it) (U E2 16 0 h) (U E2 15 0 h) (ix2 r l) = tP it E2 r 0 l := by
  rw [pay25_at it hit, U_zero, U_zero]
  unfold tP pool
  simp only [wd, Finset.sum_range_succ, Finset.sum_range_zero, zero_add]

theorem p1_at (r : Fin 256) (l : Fin 128) (h) : k0_pay28 (k0_pay24 (BitVec.ofNat 32 it)) (U E2 16 128 h) (U E2 15 128 h) (U E2 14 128 h) (U E2 13 128 h) (ix2 r l) = tP it E2 r 1 l := by
  rw [pay28_at it hit]
  unfold tP pool
  simp only [U_at, wd, Finset.sum_range_succ, Finset.sum_range_zero, zero_add]
  rfl

theorem p2_at (r : Fin 256) (l : Fin 128) (h) : k0_pay30 (k0_pay24 (BitVec.ofNat 32 it)) (U E2 16 256 h) (U E2 15 256 h) (U E2 14 256 h) (U E2 13 256 h)
    (U E2 12 256 h) (U E2 11 256 h) (U E2 10 256 h) (U E2 9 256 h) (ix2 r l) = tP it E2 r 2 l := by
  rw [pay30_at it hit]
  unfold tP pool
  simp only [U_at, wd, Finset.sum_range_succ, Finset.sum_range_zero, zero_add]
  rfl

/-- The first thirteen of the widest window. -/
def U13 (h : 384 + 128 ≤ 512) : FVec Ideal S256x128 .f32 := k0_pay33 (U E2 16 384 h) (U E2 15 384 h) (U E2 14 384 h) (U E2 13 384 h) (U E2 12 384 h) (U E2 11 384 h) (U E2 10 384 h) (U E2 9 384 h)
    (U E2 8 384 h) (U E2 7 384 h) (U E2 6 384 h) (U E2 5 384 h) (U E2 4 384 h)

theorem p3_at (r : Fin 256) (l : Fin 128) (h) : k0_pay34 (k0_pay24 (BitVec.ofNat 32 it)) (U E2 16 384 h) (U13 E2 h) (U E2 3 384 h) (U E2 2 384 h) (U E2 1 384 h) (ix2 r l)
    = tP it E2 r 3 l := by
  unfold U13
  rw [pay34_at it hit]
  unfold tP pool
  simp only [U_at, wd, Finset.sum_range_succ, Finset.sum_range_zero, zero_add]
  rfl

/-- The pooled lanes, as the body stores them. -/
theorem pb_at {sg : RefSig} {κ : Kind} {sp : Space} (v : View sg κ sp S256x512 .bf16) (f : v.ty.Contents (Elt Ideal)) (p0 p1 p2 p3) (h0 h1 h2 h3) (r : Fin 256) (j : Fin 512) :
    v.read (Elt Ideal) (v.writes (Elt Ideal) f [
      ⟨Rect.unit ![0, 384] ![256, 128] p3, k0_pay34 (k0_pay24 (BitVec.ofNat 32 it)) (U E2 16 384 h3) (U13 E2 h3) (U E2 3 384 h3) (U E2 2 384 h3) (U E2 1 384 h3)⟩,
      ⟨Rect.unit ![0, 256] ![256, 128] p2, k0_pay30 (k0_pay24 (BitVec.ofNat 32 it)) (U E2 16 256 h2) (U E2 15 256 h2) (U E2 14 256 h2) (U E2 13 256 h2)
        (U E2 12 256 h2) (U E2 11 256 h2) (U E2 10 256 h2) (U E2 9 256 h2)⟩,
      ⟨Rect.unit ![0, 128] ![256, 128] p1, k0_pay28 (k0_pay24 (BitVec.ofNat 32 it)) (U E2 16 128 h1) (U E2 15 128 h1) (U E2 14 128 h1) (U E2 13 128 h1)⟩,
      ⟨Rect.unit ![0, 0] ![256, 128] p0, k0_pay25 (BitVec.ofNat 32 it) (U E2 16 0 h0) (U E2 15 0 h0)⟩]) (ix2 r j) = cat4 (tP it E2 r) j := by
  refine Eq.trans (congrArg (v.read _ _) (?_ : _ = ix2 r ⟨0 + j.val, by omega⟩)) ((cat_read (o := 0) v f
    ![k0_pay25 (BitVec.ofNat 32 it) (U E2 16 0 h0) (U E2 15 0 h0),
      k0_pay28 (k0_pay24 (BitVec.ofNat 32 it)) (U E2 16 128 h1) (U E2 15 128 h1) (U E2 14 128 h1) (U E2 13 128 h1),
      k0_pay30 (k0_pay24 (BitVec.ofNat 32 it)) (U E2 16 256 h2) (U E2 15 256 h2) (U E2 14 256 h2) (U E2 13 256 h2)
        (U E2 12 256 h2) (U E2 11 256 h2) (U E2 10 256 h2) (U E2 9 256 h2),
      k0_pay34 (k0_pay24 (BitVec.ofNat 32 it)) (U E2 16 384 h3) (U13 E2 h3) (U E2 3 384 h3) (U E2 2 384 h3) (U E2 1 384 h3)] [] rfl p0 p1 p2 p3 r j).trans ?_)
  · exact congrArg (ix2 r) (Fin.ext (by show j.val = 0 + j.val; omega))
  · refine congrArg (fun f => cat4 f j) (funext fun g => funext fun l => ?_)
    match g with
    | 0 => exact p0_at it hit E2 r l h0
    | 1 => exact p1_at it hit E2 r l h1
    | 2 => exact p2_at it hit E2 r l h2
    | 3 => exact p3_at it hit E2 r l h3

/-- The two branches, as the body stores and loads them. -/
theorem yc_at {sg : RefSig} {κ : Kind} {sp : Space} (v : View sg κ sp S256x1024 .bf16)
    (p : ∀ i, (![0, 0] : Fin 2 → ℕ) i + (![256, 1024] : Fin 2 → ℕ) i ≤ S256x1024.size i) (p0 p1 p2 p3 p4) (h0 h1 h2 h3) (g0 g1 g2 g3) (s0 s1 s2 s3) :
    v.readCov [
      ⟨Rect.unit ![0, 896] ![256, 128] p3, k0_pay35 (k0_pay24 (BitVec.ofNat 32 it)) (U E2 16 384 h3) (U13 E2 h3) (U E2 3 384 h3) (U E2 2 384 h3) (U E2 1 384 h3)
        (View.ld x9 (Rect.unit (s := S4x128x128) ![3, 0, 0] ![1, 128, 128] g3)) (View.ld x10 (Rect.unit (s := S1x512) ![0, 384] ![1, 128] s3))⟩,
      ⟨Rect.unit ![0, 768] ![256, 128] p2, k0_pay32 (k0_pay31 (k0_pay24 (BitVec.ofNat 32 it)) (U E2 16 256 h2) (U E2 15 256 h2) (U E2 14 256 h2) (U E2 13 256 h2)
        (U E2 12 256 h2) (U E2 11 256 h2) (U E2 10 256 h2) (U E2 9 256 h2)
        (View.ld x9 (Rect.unit (s := S4x128x128) ![2, 0, 0] ![1, 128, 128] g2)) (View.ld x10 (Rect.unit (s := S1x512) ![0, 256] ![1, 128] s2)))⟩,
      ⟨Rect.unit ![0, 640] ![256, 128] p1, k0_pay29 (k0_pay24 (BitVec.ofNat 32 it)) (U E2 16 128 h1) (U E2 15 128 h1) (U E2 14 128 h1) (U E2 13 128 h1)
        (View.ld x9 (Rect.unit (s := S4x128x128) ![1, 0, 0] ![1, 128, 128] g1)) (View.ld x10 (Rect.unit (s := S1x512) ![0, 128] ![1, 128] s1))⟩,
      ⟨Rect.unit ![0, 512] ![256, 128] p0, k0_pay27 (k0_pay26 (BitVec.ofNat 32 it) (U E2 16 0 h0) (U E2 15 0 h0)
        (View.ld x9 (Rect.unit (s := S4x128x128) ![0, 0, 0] ![1, 128, 128] g0))) (View.ld x10 (Rect.unit (s := S1x512) ![0, 0] ![1, 128] s0))⟩,
      ⟨Rect.unit ![0, 0] ![256, 512] p4, k0_pay23 (k0_pay19 (cvL x4 E1) (cvR x4 E1) x5 x6 x7) x8⟩] (Rect.unit (s := S256x1024) ![0, 0] ![256, 1024] p).toLoadRect
      = Y (prm x1 x2 x3 x4 x5 x6 x7 x8 x9 x10 x11) it E1 E2 := by
  funext y
  obtain ⟨r, j, rfl⟩ : ∃ (r : Fin 256) (j : Fin 1024), y = (ix2 r j : S256x1024.Idx) := ⟨y 0, y 1, funext fun i => by fin_cases i <;> rfl⟩
  refine (branches v _ _ _ _ _ p p0 p1 p2 p3 p4 r j).trans ?_
  show _ = tYc (prm x1 x2 x3 x4 x5 x6 x7 x8 x9 x10 x11) it E1 E2 r j
  unfold tYc yc
  split
  · rw [pay23_at]
    exact Finset.sum_congr rfl fun l _ => congrArg (· * _) (hs_at x1 x2 x3 x4 x5 x6 x7 x8 x9 x10 x11 E1 r l)
  · refine congrArg (fun f => cat4 f (⟨j.val - 512, by omega⟩ : Fin 512)) (funext fun g => funext fun l => ?_)
    match g with
    | 0 =>
      exact (pay27_at _ _ _ _ _ _ _).trans (congrArg₂ (· * ·)
        (Finset.sum_congr rfl fun x _ => congrArg₂ (· * ·) (p0_at it hit E2 r x h0) (ld_group x9 0 rfl g0 0 x l)) ((ld_scale x10 s0 0 l).trans (congrArg (fun o => x10 (ix2 0 o)) (Fin.ext (by show 0 + l.val = l.val; omega)))))
    | 1 =>
      exact (pay29_at _ _ _ _ _ _ _ _ _).trans (congrArg₂ (· * ·)
        (Finset.sum_congr rfl fun x _ => congrArg₂ (· * ·) (p1_at it hit E2 r x h1) (ld_group x9 1 rfl g1 0 x l)) (ld_scale x10 s1 0 l))
    | 2 =>
      exact (pay32_at _ _ _ _ _ _ _ _ _ _ _ _ _).trans (congrArg₂ (· * ·)
        (Finset.sum_congr rfl fun x _ => congrArg₂ (· * ·) (p2_at it hit E2 r x h2) (ld_group x9 2 rfl g2 0 x l)) (ld_scale x10 s2 0 l))
    | 3 =>
      exact (pay35_at _ _ _ _ _ _ _ _ _ _).trans (congrArg₂ (· * ·)
        (Finset.sum_congr rfl fun x _ => congrArg₂ (· * ·) (p3_at it hit E2 r x h3) (ld_group x9 3 rfl g3 0 x l)) (ld_scale x10 s3 0 l))

end

end Cert.Fwd

end
-- ==== Proof.AdaArrays.lean ====
/- The update of the modulation's weight: what one block of rows computes, what the reference computes, and the five result arrays
   put together from the four blocks, whatever the arguments hold. -/
module

public import proofs.«01_k».proof.Proof.FwdBody
public import proofs.«01_k».proof.Proof.Gen.KernelAdaIdeal.Value
public import proofs.«01_k».proof.Proof.Gen.ReferenceAdaIdeal.Read

@[expose] public section

set_option maxRecDepth 16384

noncomputable section

namespace Cert.Ada

open Idealize.ShloMosaic Idealize.ShloMosaic.TcCoe Idealize.SL.Sem Cert.Ffn Cert.Mix Cert.KernelAdaIdeal Cert.KernelAdaIdeal.Gen
open Cert.ReferenceAdaIdeal.Read

/-! ## One entry -/

/-- The weight's gradient: over the eight rows of the batch, the input's entry times the output gradient's. -/
def gr {n : ℕ} (a : Vec Ideal (⟨2, ![n, 8]⟩ : Shape) .f32) (d : Vec Ideal S8x768 .f32) (r : Fin n) (j : Fin 768) : EReal :=
  ∑ s : Fin 8, (a (ix2 r s) : EReal) * d (ix2 s j)

/-- The two moments after the step, and the weight's change. -/
def m1 (m g : EReal) : EReal := Ideal.ofBits .f32 0x3F666666#32 * m + Ideal.ofBits .f32 0x3DCCCCCD#32 * g
def v1 (v g : EReal) : EReal := Ideal.ofBits .f32 0x3F7FBE77#32 * v + Ideal.ofBits .f32 0x3A83126F#32 * (g * g)
def dl (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-! ## A block of rows -/

theorem zeros : (![0, 0] : Fin 2 → ℕ) = fun _ => 0 := by funext a; fin_cases a <;> rfl

theorem ld_all {n l : ℕ} (x : Vec Ideal (⟨2, ![n, l]⟩ : Shape) .f32)
    (p : ∀ i, (![0, 0] : Fin 2 → ℕ) i + (![n, l] : Fin 2 → ℕ) i ≤ (⟨2, ![n, l]⟩ : Shape).size i) (r : Fin n) (j : Fin l) :
    View.ld x (Rect.unit (s := (⟨2, ![n, l]⟩ : Shape)) ![0, 0] ![n, l] p) (ix2 r j) = x (ix2 r j) :=
  View.ld_unit_apply_of _ _ _ _ _ _ fun i => by
    fin_cases i
    · show r.val = 0 + r.val; omega
    · show j.val = 0 + j.val; omega

section
variable (x0 x1 x2 : Vec Ideal S256x768 .f32) (x3 : Vec Ideal S8x768 .f32) (x4 : Vec Ideal S256x8 .f32) (x5 : Vec Ideal S512x1024 .f32) (r : Fin 256) (j : Fin 768)

theorem pay_gr : k0_pay4 (k0_pay10 x0 x1 x2 x3 x4 x5) (View.ld x3 r0_11) (k0_pay11 x0 x1 x2 x3 x4 x5) (View.ld x4 r0_12) (View.ld x3 r0_13)
    (View.ld x4 r0_14) (View.ld x3 r0_15) (ix2 r j) = gr x4 x3 r j := by
  pointwise [k0_pay4, k0_pay10, k0_pay11, k0_pay2, k0_pay3]
  rw [gr, Fin.sum_univ_eight]

theorem out_gr : out0_6 x0 x1 x2 x3 x4 x5 (ix2 r j) = gr x4 x3 r j :=
  (congrFun (View.canon_unit_zero zeros _ _) _).trans (pay_gr x0 x1 x2 x3 x4 x5 r j)

theorem out_m : out0_8 x0 x1 x2 x3 x4 x5 (ix2 r j) = m1 (x1 (ix2 r j)) (gr x4 x3 r j) := by
  refine (congrFun (View.canon_unit_zero zeros _ _) _).trans ?_
  rw [← pay_gr x0 x1 x2 x3 x4 x5 r j, ← ld_all x1 inb_S256x768_S256x768_0_0 r j]
  rfl

theorem out_v : out0_9 x0 x1 x2 x3 x4 x5 (ix2 r j) = v1 (x2 (ix2 r j)) (gr x4 x3 r j) := by
  refine (congrFun (View.canon_unit_zero zeros _ _) _).trans ?_
  rw [← pay_gr x0 x1 x2 x3 x4 x5 r j, ← ld_all x2 inb_S256x768_S256x768_0_0 r j]
  rfl

theorem out_dl : out0_7 x0 x1 x2 x3 x4 x5 (ix2 r j) = dl (x0 (ix2 r j)) (m1 (x1 (ix2 r j)) (gr x4 x3 r j)) (v1 (x2 (ix2 r j)) (gr x4 x3 r j)) := by
  refine (congrFun (View.canon_unit_zero zeros _ _) _).trans ?_
  rw [← pay_gr x0 x1 x2 x3 x4 x5 r j, ← ld_all x0 inb_S256x768_S256x768_0_0 r j, ← ld_all x1 inb_S256x768_S256x768_0_0 r j,
    ← ld_all x2 inb_S256x768_S256x768_0_0 r j]
  rfl

theorem out_gx (p : Fin 512) (l : Fin 1024) : out0_10 x0 x1 x2 x3 x4 x5 (ix2 p l) = x5 (ix2 p l) :=
  (congrFun (View.canon_unit_zero zeros _ _) _).trans (ld_all x5 _ p l)

end

/-! ## The reference's entries -/

section
variable (x0 x1 x2 : Vec Ideal S1024x768 .f32) (x3 : Vec Ideal S8x768 .f32) (x4 : Vec Ideal S1024x8 .f32) (i : Fin 1024) (j : Fin 768)

theorem v3_at : val_main_v3 (F := Ideal) x3 x4 (ix2 i j) = gr x4 x3 i j := by
  rw [val_main_v3_apply, val_main_v2_apply]
  refine Finset.sum_congr rfl fun s _ => ?_
  rw [val_main_v0_apply]
  refine (mul_comm _ _).trans (congrArg₂ _ (congrArg x4 ?_) (congrArg x3 ?_)) <;> exact funext fun a => Fin.ext (match a with | ⟨0, _⟩ => rfl | ⟨1, _⟩ => rfl)

theorem v8_at : val_main_v8 (F := Ideal) x1 x3 x4 (ix2 i j) = m1 (x1 (ix2 i j)) (gr x4 x3 i j) := by
  rw [← v3_at x3 x4 i j]
  rfl

theorem v14_at : val_main_v14 (F := Ideal) x2 x3 x4 (ix2 i j) = v1 (x2 (ix2 i j)) (gr x4 x3 i j) := by
  rw [← v3_at x3 x4 i j]
  rfl

theorem v27_at : val_main_v27 (F := Ideal) x0 x1 x2 x3 x4 (ix2 i j)
    = dl (x0 (ix2 i j)) (m1 (x1 (ix2 i j)) (gr x4 x3 i j)) (v1 (x2 (ix2 i j)) (gr x4 x3 i j)) := by
  rw [← v8_at x1 x3 x4 i j, ← v14_at x2 x3 x4 i j]
  rfl

end

/-! ## The blocks -/

section
variable (m : (ℓ : Loc nD τ sig) → Buf (Elt Ideal) ℓ) (c : Dev nD)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx8 : ∀ t : Fin cfg0.N, win0_8.index t (0 : Fin 2) = t.val ∧ win0_8.index t (1 : Fin 2) = 0 := (by decide +kernel : ∀ t : Fin grid0.N, _)
theorem idx9 : ∀ t : Fin cfg0.N, win0_9.index t (0 : Fin 2) = t.val ∧ win0_9.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx3 : ∀ (t : Fin cfg0.N) (a : Fin 2), win0_3.index t a = 0 := (by decide +kernel : ∀ (t : Fin grid0.N) (a : Fin 2), _)

theorem lt4 (t : Fin cfg0.N) : t.val < 4 := lt_of_lt_of_eq t.isLt N_0

/-- The row of the weight, and the row of the tokens' gradient, that row `p` of block `t` is. -/
def row (t : Fin cfg0.N) (p : Fin 256) : Fin 1024 := ⟨256 * t.val + p.val, by have := lt4 t; omega⟩
def tok (t : Fin cfg0.N) (p : Fin 512) : Fin 2048 := ⟨512 * t.val + p.val, by have := lt4 t; omega⟩

theorem moved {n k t y : ℕ} (h : n = t) : n * k + 1 * y = k * t + y := by subst h; rw [Nat.mul_comm, Nat.one_mul]
theorem off0 {n k y : ℕ} (h : n = 0) : n * k + 1 * y = y := by subst h; omega

theorem emb0 (t : Fin cfg0.N) (p : Fin 256) (j : Fin 768) : ((cfg0.win 0).blk t).view.emb (ix2 p j) = (ix2 (row t p) j : S1024x768.Idx) :=
  funext fun a => Fin.ext (match a with | ⟨0, _⟩ => moved (idx0 t).1 | ⟨1, _⟩ => off0 (idx0 t).2)
theorem emb1 (t : Fin cfg0.N) (p : Fin 256) (j : Fin 768) : ((cfg0.win 1).blk t).view.emb (ix2 p j) = (ix2 (row t p) j : S1024x768.Idx) :=
  funext fun a => Fin.ext (match a with | ⟨0, _⟩ => moved (idx1 t).1 | ⟨1, _⟩ => off0 (idx1 t).2)
theorem emb2 (t : Fin cfg0.N) (p : Fin 256) (j : Fin 768) : ((cfg0.win 2).blk t).view.emb (ix2 p j) = (ix2 (row t p) j : S1024x768.Idx) :=
  funext fun a => Fin.ext (match a with | ⟨0, _⟩ => moved (idx2 t).1 | ⟨1, _⟩ => off0 (idx2 t).2)
theorem emb4 (t : Fin cfg0.N) (p : Fin 256) (j : Fin 8) : ((cfg0.win 4).blk t).view.emb (ix2 p j) = (ix2 (row t p) j : S1024x8.Idx) :=
  funext fun a => Fin.ext (match a with | ⟨0, _⟩ => moved (idx4 t).1 | ⟨1, _⟩ => off0 (idx4 t).2)
theorem emb5 (t : Fin cfg0.N) (p : Fin 512) (j : Fin 1024) : ((cfg0.win 5).blk t).view.emb (ix2 p j) = (ix2 (tok t p) j : S2048x1024.Idx) :=
  funext fun a => Fin.ext (match a with | ⟨0, _⟩ => moved (idx5 t).1 | ⟨1, _⟩ => off0 (idx5 t).2)
theorem emb6 (t : Fin cfg0.N) (p : Fin 256) (j : Fin 768) : ((cfg0.win 6).blk t).view.emb (ix2 p j) = (ix2 (row t p) j : S1024x768.Idx) :=
  funext fun a => Fin.ext (match a with | ⟨0, _⟩ => moved (idx6 t).1 | ⟨1, _⟩ => off0 (idx6 t).2)
theorem emb7 (t : Fin cfg0.N) (p : Fin 256) (j : Fin 768) : ((cfg0.win 7).blk t).view.emb (ix2 p j) = (ix2 (row t p) j : S1024x768.Idx) :=
  funext fun a => Fin.ext (match a with | ⟨0, _⟩ => moved (idx7 t).1 | ⟨1, _⟩ => off0 (idx7 t).2)
theorem emb8 (t : Fin cfg0.N) (p : Fin 256) (j : Fin 768) : ((cfg0.win 8).blk t).view.emb (ix2 p j) = (ix2 (row t p) j : S1024x768.Idx) :=
  funext fun a => Fin.ext (match a with | ⟨0, _⟩ => moved (idx8 t).1 | ⟨1, _⟩ => off0 (idx8 t).2)
theorem emb9 (t : Fin cfg0.N) (p : Fin 256) (j : Fin 768) : ((cfg0.win 9).blk t).view.emb (ix2 p j) = (ix2 (row t p) j : S1024x768.Idx) :=
  funext fun a => Fin.ext (match a with | ⟨0, _⟩ => moved (idx9 t).1 | ⟨1, _⟩ => off0 (idx9 t).2)
theorem emb10 (t : Fin cfg0.N) (p : Fin 512) (j : Fin 1024) : ((cfg0.win 10).blk t).view.emb (ix2 p j) = (ix2 (tok t p) j : S2048x1024.Idx) :=
  funext fun a => Fin.ext (match a with | ⟨0, _⟩ => moved (idx10 t).1 | ⟨1, _⟩ => off0 (idx10 t).2)

variable (x0 x1 x2 : (⟨S1024x768, .f32⟩ : BufTy).Contents (Elt Ideal)) (x3 : (⟨S8x768, .f32⟩ : BufTy).Contents (Elt Ideal))
  (x4 : (⟨S1024x8, .f32⟩ : BufTy).Contents (Elt Ideal)) (x5 : (⟨S2048x1024, .f32⟩ : BufTy).Contents (Elt Ideal))

/-- The call's arguments. -/
structure Given : Prop where
  a0 : V m c main_arg0 = x0
  a1 : V m c main_arg1 = x1
  a2 : V m c main_arg2 = x2
  a3 : V m c main_arg3 = x3
  a4 : V m c main_arg4 = x4
  a5 : V m c main_arg5 = x5

variable (H : Given m c x0 x1 x2 x3 x4 x5)
include H

theorem w_row (t : Fin cfg0.N) (p : Fin 256) (j : Fin 768) : iblk m c 0 t (ix2 p j) = x0 (ix2 (row t p) j) :=
  (congrArg (V m c main_arg0) (emb0 t p j)).trans (congrFun H.a0 _)
theorem m_row (t : Fin cfg0.N) (p : Fin 256) (j : Fin 768) : iblk m c 1 t (ix2 p j) = x1 (ix2 (row t p) j) :=
  (congrArg (V m c main_arg1) (emb1 t p j)).trans (congrFun H.a1 _)
theorem v_row (t : Fin cfg0.N) (p : Fin 256) (j : Fin 768) : iblk m c 2 t (ix2 p j) = x2 (ix2 (row t p) j) :=
  (congrArg (V m c main_arg2) (emb2 t p j)).trans (congrFun H.a2 _)

theorem gr_row (t : Fin cfg0.N) (p : Fin 256) (j : Fin 768) : gr (iblk m c 4 t) (iblk m c 3 t) p j = gr x4 x3 (row t p) j := by
  have w3 : iblk m c 3 t = x3 := (funext fun y => congrArg (V m c main_arg3) (funext fun a => Fin.ext (off0 (idx3 t a)))).trans H.a3
  rw [w3]
  exact Finset.sum_congr rfl fun s _ => congrArg (· * _) ((congrArg (V m c main_arg4) (emb4 t p s)).trans (congrFun H.a4 _))

/-! ## The arrays -/

theorem arr6 : (dats m 0 c).arrAt 6 cfg0.N = val_main_v3 (F := Ideal) x3 x4 := by
  refine (dats m 0 c).arrAt_eq_of_covers 6 _ (by decide +kernel) fun t hf y => ?_
  refine Eq.trans (b := (dats m 0 c).after 6 t y) rfl ?_
  rw [after0_6, eq_ix2 (n0 := 256) (n1 := 768) y]
  refine (out_gr ..).trans (Eq.trans ?_ ((congrArg (val_main_v3 (F := Ideal) x3 x4) (emb6 t (y 0) (y 1))).trans (v3_at x3 x4 (row t (y 0)) (y 1))).symm)
  rw [gr_row m c x0 x1 x2 x3 x4 x5 H t (y 0) (y 1)]

theorem arr7 : (dats m 0 c).arrAt 7 cfg0.N = val_main_v27 (F := Ideal) x0 x1 x2 x3 x4 := by
  refine (dats m 0 c).arrAt_eq_of_covers 7 _ (by decide +kernel) fun t hf y => ?_
  refine Eq.trans (b := (dats m 0 c).after 7 t y) rfl ?_
  rw [after0_7, eq_ix2 (n0 := 256) (n1 := 768) y]
  refine (out_dl ..).trans (Eq.trans ?_ ((congrArg (val_main_v27 (F := Ideal) x0 x1 x2 x3 x4) (emb7 t (y 0) (y 1))).trans (v27_at x0 x1 x2 x3 x4 (row t (y 0)) (y 1))).symm)
  rw [w_row m c x0 x1 x2 x3 x4 x5 H t (y 0) (y 1), m_row m c x0 x1 x2 x3 x4 x5 H t (y 0) (y 1), v_row m c x0 x1 x2 x3 x4 x5 H t (y 0) (y 1), gr_row m c x0 x1 x2 x3 x4 x5 H t (y 0) (y 1)]

theorem arr8 : (dats m 0 c).arrAt 8 cfg0.N = val_main_v8 (F := Ideal) x1 x3 x4 := by
  refine (dats m 0 c).arrAt_eq_of_covers 8 _ (by decide +kernel) fun t hf y => ?_
  refine Eq.trans (b := (dats m 0 c).after 8 t y) rfl ?_
  rw [after0_8, eq_ix2 (n0 := 256) (n1 := 768) y]
  refine (out_m ..).trans (Eq.trans ?_ ((congrArg (val_main_v8 (F := Ideal) x1 x3 x4) (emb8 t (y 0) (y 1))).trans (v8_at x1 x3 x4 (row t (y 0)) (y 1))).symm)
  rw [m_row m c x0 x1 x2 x3 x4 x5 H t (y 0) (y 1), gr_row m c x0 x1 x2 x3 x4 x5 H t (y 0) (y 1)]

theorem arr9 : (dats m 0 c).arrAt 9 cfg0.N = val_main_v14 (F := Ideal) x2 x3 x4 := by
  refine (dats m 0 c).arrAt_eq_of_covers 9 _ (by decide +kernel) fun t hf y => ?_
  refine Eq.trans (b := (dats m 0 c).after 9 t y) rfl ?_
  rw [after0_9, eq_ix2 (n0 := 256) (n1 := 768) y]
  refine (out_v ..).trans (Eq.trans ?_ ((congrArg (val_main_v14 (F := Ideal) x2 x3 x4) (emb9 t (y 0) (y 1))).trans (v14_at x2 x3 x4 (row t (y 0)) (y 1))).symm)
  rw [v_row m c x0 x1 x2 x3 x4 x5 H t (y 0) (y 1), gr_row m c x0 x1 x2 x3 x4 x5 H t (y 0) (y 1)]

theorem arr10 : (dats m 0 c).arrAt 10 cfg0.N = x5 := by
  refine (dats m 0 c).arrAt_eq_of_covers 10 _ (by decide +kernel) fun t hf y => ?_
  refine Eq.trans (b := (dats m 0 c).after 10 t y) rfl ?_
  rw [after0_10, eq_ix2 (n0 := 512) (n1 := 1024) y]
  exact (out_gx ..).trans (((congrArg (V m c main_arg5) (emb5 t (y 0) (y 1))).trans (congrFun H.a5 _)).trans (congrArg x5 (emb10 t (y 0) (y 1))).symm)

end

end Cert.Ada

end
-- ==== Proof.AdaClaims.lean ====
/- The claims about the call that updates the modulation's weight: its frames, and that over the extended reals its five results are
   the reference's, whatever the arguments hold. -/
module

public import proofs.«01_k».proof.Defs
public import proofs.«01_k».proof.Proof.AdaArrays
public import proofs.«01_k».proof.Proof.Gen.KernelAda.Frame
public import proofs.«01_k».proof.Proof.Gen.KernelAdaIdeal.Value
public import proofs.«01_k».proof.Proof.Gen.ReferenceAdaIdeal.Run
public import proofs.«01_k».proof.Proof.Gen.ReferenceAdaIdeal.Read
public import Idealize.ShloMosaic.Adequacy
public import Idealize.ShloMosaic.Init
public import Idealize.ShloMosaic.Lib.Quiescent

@[expose] public section

set_option maxRecDepth 16384

noncomputable section

namespace Cert.Ada

open Idealize.ShloMosaic Idealize.SL.Sem Cert.ReferenceAdaIdeal.Read

/-- Over the extended reals the call's five results are the reference's. -/
theorem algebraic : algebraic_KernelAdaIdeal_ReferenceAdaIdeal (hKernelAdaIdeal := Cert.KernelAdaIdeal.Gen.facts)
    (hReferenceAdaIdeal := Cert.ReferenceAdaIdeal.Gen.facts) := by
  letI := Cert.KernelAdaIdeal.Gen.facts
  letI := Cert.ReferenceAdaIdeal.Gen.facts
  intro m g m' g' _ hagree
  refine ⟨_, _, _, _, _, Cert.KernelAdaIdeal.Value.run_blocks m g, ?_⟩
  refine (θ_run Cert.ReferenceAdaIdeal.defs _ _).mono (fun r h c => ?_) (Cert.ReferenceAdaIdeal.Value.run (F := Ideal) m' g')
  obtain ⟨e0, e1, e2, e3, e4, e5⟩ := hagree c
  have H := Given.mk (m := m) (c := c) e0.symm e1.symm e2.symm e3.symm e4.symm e5.symm
  obtain ⟨r0, r1, r2, r3, r4, rest⟩ := h c
  exact ⟨r0.trans ((val_main_v3_eq _ _).trans (arr6 (H := H) ..).symm), r1.trans ((val_main_v27_eq _ _ _ _ _).trans (arr7 (H := H) ..).symm),
    r2.trans ((val_main_v8_eq _ _ _).trans (arr8 (H := H) ..).symm), r3.trans ((val_main_v14_eq _ _ _).trans (arr9 (H := H) ..).symm),
    r4.trans (arr10 (H := H) ..).symm, rest⟩

/-- The reference's frame: its run keeps the arguments, and it declares no semaphore. -/
theorem reference_frame : quiescent_ReferenceAdaIdeal (hReferenceAdaIdeal := Cert.ReferenceAdaIdeal.Gen.facts) := fun m ρ _ =>
  letI := Cert.ReferenceAdaIdeal.Gen.facts
  (θ_run Cert.ReferenceAdaIdeal.defs _ _).mono (fun r h => ⟨fun c => (h c).2.2.2.2.2,
      Idealize.ShloMosaic.sem_eq_zero_of_no_sems (by decide) r.2⟩)
    (Cert.ReferenceAdaIdeal.Value.run (F := Ideal) m ρ)

theorem frame : quiescent_KernelAda (hKernelAda := Cert.KernelAda.Gen.facts) := fun m ρ _ => Cert.KernelAda.Gen.frame m ρ

theorem ideal_frame : quiescent_KernelAdaIdeal (hKernelAdaIdeal := Cert.KernelAdaIdeal.Gen.facts) := fun m ρ _ => Cert.KernelAdaIdeal.Gen.frame m ρ

end Cert.Ada

end
-- ==== Proof.FwdPieces.lean ====
/- The forward mixer's call at one grid point: what it writes back, and the rows it leaves for the next point, from what the scratch
   buffers held before. -/
module

public import proofs.«01_k».proof.Proof.FwdBody
public import proofs.«01_k».proof.Proof.Gen.KernelFwdIdeal.Frame

@[expose] public section

set_option maxRecDepth 16384

noncomputable section

namespace Cert.Fwd

open Idealize.ShloMosaic Idealize.ShloMosaic.TcCoe Idealize.SL.Sem Cert.Ffn Cert.Mix Cert.KernelFwdIdeal Cert.KernelFwdIdeal.Gen Cert.KernelMixIdeal.Body

theorem hz2 : (![0, 0] : Fin 2 → Nat) = fun _ => 0 := funext fun a => by fin_cases a <;> rfl

/-- What a point writes back and leaves in the two carried scratch buffers. -/
structure Outs (q : Prm) (X : Fin 256 → Fin 1024 → EReal) (it : ℕ) (E1 E2 : ℕ → Fin 512 → EReal) (o12 : Vec Ideal S256x1024 .bf16) (o13 : Vec Ideal S256x1024 .f32)
    (o14 o15 : Vec Ideal S256x512 .f32) (o16 : Vec Ideal S2x256x256 .bf16) (o17 : Vec Ideal S256x512 .bf16) (o18 : Vec Ideal S4x256x256 .bf16)
    (o19 o20 : Vec Ideal S256x1024 .f32) (s0 : Vec Ideal S288x512 .f32) (s1 : Vec Ideal S272x512 .f32) : Prop where
  h : ∀ r j, o12 (ix2 r j) = h q (X r) j
  ua : ∀ (r : Fin 256) (j : Fin 1024), o13 (ix2 r j) = u q (X r) ⟨j.val, by omega⟩
  hc : ∀ r j, o14 (ix2 r j) = hc q (X r) j
  hd : ∀ r j, o15 (ix2 r j) = tHd q E1 r j
  hs : ∀ (s : Fin 2) (a r : Fin 256), o16 (ix3 s a r) = hs q (tHd q E1 r) ⟨s.val * 256 + a.val, by omega⟩
  p : ∀ r j, o17 (ix2 r j) = cat4 (tP it E2 r) j
  yc : ∀ (s : Fin 4) (a r : Fin 256), o18 (ix3 s a r) = tYc q it E1 E2 r ⟨s.val * 256 + a.val, by omega⟩
  y : ∀ r j, o19 (ix2 r j) = y q (tYc q it E1 E2 r) j
  x1 : ∀ r j, o20 (ix2 r j) = x1 q (X r) (tYc q it E1 E2 r) j
  t1 : ∀ (n : Fin 32) (j : Fin 512), s0 (ix2 ⟨n.val, by omega⟩ j) = E1 (256 + n.val) j
  t2 : ∀ (n : Fin 16) (j : Fin 512), s1 (ix2 ⟨n.val, by omega⟩ j) = E2 (256 + n.val) j

section
variable {sg : RefSig} {κ : Kind} {sp : Space}

/-- A row that the last store, of the first rows, reaches. -/
theorem top_rows {m n k : ℕ} (v : View sg κ sp (⟨2, ![m, n]⟩ : Shape) .f32) (f : v.ty.Contents (Elt Ideal))
    (p : ∀ i, (![0, 0] : Fin 2 → ℕ) i + (![k, n] : Fin 2 → ℕ) i ≤ (⟨2, ![m, n]⟩ : Shape).size i) (w : (⟨2, ![k, n]⟩ : Shape).Idx → EReal)
    (L : List (View.Piece (Elt Ideal) (⟨2, ![m, n]⟩ : Shape) .f32)) (r : Fin m) (j : Fin n) (hr : r.val < k) :
    v.read (Elt Ideal) (v.writes (Elt Ideal) f (⟨Rect.unit ![0, 0] ![k, n] p, w⟩ :: L)) (ix2 r j) = w (ix2 ⟨r.val, hr⟩ j) :=
  at_hit (le0 p) (le1 p) v f w L r j ⟨r.val, hr⟩ j (by show r.val = 0 + r.val; omega) (by omega)

theorem slabs2 (v : View sg κ sp S2x256x256 .bf16) (f : v.ty.Contents (Elt Ideal)) (w0 w1 : Vec Ideal S1x256x256 .bf16) (p0 p1) (s : Fin 2) (a r : Fin 256) :
    v.read (Elt Ideal) (v.writes (Elt Ideal) f [⟨Rect.unit ![1, 0, 0] ![1, 256, 256] p1, w1⟩, ⟨Rect.unit ![0, 0, 0] ![1, 256, 256] p0, w0⟩]) (ix3 s a r)
      = (![w0, w1] : Fin 2 → Vec Ideal S1x256x256 .bf16) s (ix3 0 a r) := by
  match s with
  | 0 =>
    refine (at_miss3 (a := 1) (k := 1) (b := 0) (l := 256) (c := 0) (s := 256) (by decide) (by decide) (by decide) v _ w1 _ 0 a r (.inl (by decide))).trans ?_
    exact at_hit3 (a := 0) (k := 1) (b := 0) (l := 256) (c := 0) (s := 256) (by decide) (by decide) (by decide) v _ w0 _ 0 a r 0 a r (by decide) (by omega) (by omega)
  | 1 => exact at_hit3 (a := 1) (k := 1) (b := 0) (l := 256) (c := 0) (s := 256) (by decide) (by decide) (by decide) v _ w1 _ 1 a r 0 a r (by decide) (by omega) (by omega)

theorem slabs4 (v : View sg κ sp S4x256x256 .bf16) (f : v.ty.Contents (Elt Ideal)) (w0 w1 w2 w3 : Vec Ideal S1x256x256 .bf16) (p0 p1 p2 p3) (s : Fin 4) (a r : Fin 256) :
    v.read (Elt Ideal) (v.writes (Elt Ideal) f [⟨Rect.unit ![3, 0, 0] ![1, 256, 256] p3, w3⟩, ⟨Rect.unit ![2, 0, 0] ![1, 256, 256] p2, w2⟩,
      ⟨Rect.unit ![1, 0, 0] ![1, 256, 256] p1, w1⟩, ⟨Rect.unit ![0, 0, 0] ![1, 256, 256] p0, w0⟩]) (ix3 s a r)
      = (![w0, w1, w2, w3] : Fin 4 → Vec Ideal S1x256x256 .bf16) s (ix3 0 a r) := by
  have hit : ∀ (g : ℕ) (hg : g + 1 ≤ 4) (L) (w : Vec Ideal S1x256x256 .bf16) (p), s.val = g → v.read (Elt Ideal) (v.writes (Elt Ideal) f (⟨Rect.unit ![g, 0, 0] ![1, 256, 256] p, w⟩ :: L)) (ix3 s a r) = w (ix3 0 a r) :=
    fun g hg L w p h => at_hit3 (a := g) (k := 1) (b := 0) (l := 256) (c := 0) (s := 256) hg (by decide) (by decide) v _ w L s a r 0 a r (by omega) (by omega) (by omega)
  have miss : ∀ (g : ℕ) (hg : g + 1 ≤ 4) (L) (w : Vec Ideal S1x256x256 .bf16) (p), s.val < g → v.read (Elt Ideal) (v.writes (Elt Ideal) f (⟨Rect.unit ![g, 0, 0] ![1, 256, 256] p, w⟩ :: L)) (ix3 s a r)
      = v.read (Elt Ideal) (v.writes (Elt Ideal) f L) (ix3 s a r) :=
    fun g hg L w p h => at_miss3 (a := g) (k := 1) (b := 0) (l := 256) (c := 0) (s := 256) hg (by decide) (by decide) v _ w L s a r (.inl h)
  match s with
  | 0 => exact (miss 3 (by decide) _ _ _ (by decide)).trans ((miss 2 (by decide) _ _ _ (by decide)).trans ((miss 1 (by decide) _ _ _ (by decide)).trans (hit 0 (by decide) _ _ _ rfl)))
  | 1 => exact (miss 3 (by decide) _ _ _ (by decide)).trans ((miss 2 (by decide) _ _ _ (by decide)).trans (hit 1 (by decide) _ _ _ rfl))
  | 2 => exact (miss 3 (by decide) _ _ _ (by decide)).trans (hit 2 (by decide) _ _ _ rfl)
  | 3 => exact hit 3 (by decide) _ _ _ rfl

/-- Only the buffer's first lanes are read of a whole buffer. -/
theorem held_unread {m n : ℕ} {v : View sg κ sp (⟨2, ![m, n]⟩ : Shape) .f32} {f : v.ty.Contents (Elt Ideal)} {x : Vec Ideal (⟨2, ![m, n]⟩ : Shape) .f32}
    (h : v.read (Elt Ideal) f = x) (y : (⟨2, ![m, n]⟩ : Shape).Idx) : v.read (Elt Ideal) (v.writes (Elt Ideal) f []) y = x y := congrFun h y
end

section
variable {x1 : Vec Ideal S8x6144 .f32} {x2 : Vec Ideal S1x1024 .f32} {x3 : Vec Ideal S1536x1024 .bf16} {x4 : Vec Ideal S32x512 .f32}
  {x5 x6 x7 : Vec Ideal S1x512 .f32} {x8 : Vec Ideal S512x512 .bf16} {x9 : Vec Ideal S4x128x128 .f32} {x10 : Vec Ideal S1x512 .f32}
  {x11 : Vec Ideal S1024x1024 .bf16}

theorem sh_at (p : ∀ i, (![0, 0] : Fin 2 → ℕ) i + (![1, 1024] : Fin 2 → ℕ) i ≤ S8x6144.size i) (j : Fin 1024) :
    View.ld x1 (Rect.unit (s := S8x6144) ![0, 0] ![1, 1024] p) (ix2 0 j) = (prm x1 x2 x3 x4 x5 x6 x7 x8 x9 x10 x11).sh j :=
  (ld_lanes x1 p 0 j).trans (congrArg (fun o => x1 (ix2 0 o)) (Fin.ext (by show 0 + j.val = j.val; omega)))
theorem sc_at (p : ∀ i, (![0, 1024] : Fin 2 → ℕ) i + (![1, 1024] : Fin 2 → ℕ) i ≤ S8x6144.size i) (j : Fin 1024) :
    View.ld x1 (Rect.unit (s := S8x6144) ![0, 1024] ![1, 1024] p) (ix2 0 j) = (prm x1 x2 x3 x4 x5 x6 x7 x8 x9 x10 x11).sc j := ld_lanes x1 p 0 j
theorem gt_at (p : ∀ i, (![0, 2048] : Fin 2 → ℕ) i + (![1, 1024] : Fin 2 → ℕ) i ≤ S8x6144.size i) (j : Fin 1024) :
    View.ld x1 (Rect.unit (s := S8x6144) ![0, 2048] ![1, 1024] p) (ix2 0 j) = (prm x1 x2 x3 x4 x5 x6 x7 x8 x9 x10 x11).gt j := ld_lanes x1 p 0 j
end

/-- The body's stores, in the body's own words, are what a point is to leave. -/
theorem outs_of (x0 : Vec Ideal S256x1024 .f32) (x1 : Vec Ideal S8x6144 .f32) (x2 : Vec Ideal S1x1024 .f32) (x3 : Vec Ideal S1536x1024 .bf16) (x4 : Vec Ideal S32x512 .f32) (x5 : Vec Ideal S1x512 .f32) (x6 : Vec Ideal S1x512 .f32) (x7 : Vec Ideal S1x512 .f32) (x8 : Vec Ideal S512x512 .bf16) (x9 : Vec Ideal S4x128x128 .f32) (x10 : Vec Ideal S1x512 .f32) (x11 : Vec Ideal S1024x1024 .bf16) (it : ℕ) (hit : it < 8)
    (E1 E2 : ℕ → Fin 512 → EReal) (w : Vec Ideal S256x1024 .bf16) (hw : w = Y (prm x1 x2 x3 x4 x5 x6 x7 x8 x9 x10 x11) it E1 E2) (L0 : List (View.Piece (Elt Ideal) S288x512 .f32))
    (L1 : List (View.Piece (Elt Ideal) S272x512 .f32)) {psh psc pgt h0 h1 h2 h3}
    {r12 r13 r14 r15 r160 r161 r170 r171 r172 r173 r180 r181 r182 r183 r19 r20 t0 t1 l1 l2} :
    Outs (prm x1 x2 x3 x4 x5 x6 x7 x8 x9 x10 x11) (fun r l => x0 (ix2 r l)) it E1 E2
      (VO0_12.read (Elt Ideal) (VO0_12.writes (Elt Ideal) VO0_12.junk [⟨Rect.unit ![0, 0] ![256, 1024] r12, k0_pay3 x0 (View.ld x1 (Rect.unit (s := S8x6144) ![0, 0] ![1, 1024] psh)) (View.ld x1 (Rect.unit (s := S8x6144) ![0, 1024] ![1, 1024] psc)) x2⟩]))
      (VO0_13.read (Elt Ideal) (VO0_13.writes (Elt Ideal) VO0_13.junk [⟨Rect.unit ![0, 0] ![256, 1024] r13, k0_pay5 x0 (View.ld x1 (Rect.unit (s := S8x6144) ![0, 0] ![1, 1024] psh)) (View.ld x1 (Rect.unit (s := S8x6144) ![0, 1024] ![1, 1024] psc)) x2 x3⟩]))
      (VO0_14.read (Elt Ideal) (VO0_14.writes (Elt Ideal) VO0_14.junk [⟨Rect.unit ![0, 0] ![256, 512] r14, k0_pay7 (k0_pay4 x0 (View.ld x1 (Rect.unit (s := S8x6144) ![0, 0] ![1, 1024] psh)) (View.ld x1 (Rect.unit (s := S8x6144) ![0, 1024] ![1, 1024] psc)) x2 x3) (k0_pay6 x0 (View.ld x1 (Rect.unit (s := S8x6144) ![0, 0] ![1, 1024] psh)) (View.ld x1 (Rect.unit (s := S8x6144) ![0, 1024] ![1, 1024] psc)) x2 x3)⟩]))
      (VO0_15.read (Elt Ideal) (VO0_15.writes (Elt Ideal) VO0_15.junk [⟨Rect.unit ![0, 0] ![256, 512] r15, k0_pay17 (cvL x4 E1) (cvR x4 E1) x5⟩]))
      (VO0_16.read (Elt Ideal) (VO0_16.writes (Elt Ideal) VO0_16.junk [⟨Rect.unit ![1, 0, 0] ![1, 256, 256] r161, k0_pay22 (k0_pay19 (cvL x4 E1) (cvR x4 E1) x5 x6 x7)⟩, ⟨Rect.unit ![0, 0, 0] ![1, 256, 256] r160, k0_pay21 (k0_pay20 (cvL x4 E1) (cvR x4 E1) x5 x6 x7)⟩]))
      (VO0_17.read (Elt Ideal) (VO0_17.writes (Elt Ideal) VO0_17.junk [⟨Rect.unit ![0, 384] ![256, 128] r173, k0_pay34 (k0_pay24 (BitVec.ofNat 32 it)) (U E2 16 384 h3) (U13 E2 h3) (U E2 3 384 h3) (U E2 2 384 h3) (U E2 1 384 h3)⟩, ⟨Rect.unit ![0, 256] ![256, 128] r172, k0_pay30 (k0_pay24 (BitVec.ofNat 32 it)) (U E2 16 256 h2) (U E2 15 256 h2) (U E2 14 256 h2) (U E2 13 256 h2) (U E2 12 256 h2) (U E2 11 256 h2) (U E2 10 256 h2) (U E2 9 256 h2)⟩, ⟨Rect.unit ![0, 128] ![256, 128] r171, k0_pay28 (k0_pay24 (BitVec.ofNat 32 it)) (U E2 16 128 h1) (U E2 15 128 h1) (U E2 14 128 h1) (U E2 13 128 h1)⟩, ⟨Rect.unit ![0, 0] ![256, 128] r170, k0_pay25 (BitVec.ofNat 32 it) (U E2 16 0 h0) (U E2 15 0 h0)⟩]))
      (VO0_18.read (Elt Ideal) (VO0_18.writes (Elt Ideal) VO0_18.junk [⟨Rect.unit ![3, 0, 0] ![1, 256, 256] r183, k0_pay41 w⟩, ⟨Rect.unit ![2, 0, 0] ![1, 256, 256] r182, k0_pay40 w⟩, ⟨Rect.unit ![1, 0, 0] ![1, 256, 256] r181, k0_pay39 w⟩, ⟨Rect.unit ![0, 0, 0] ![1, 256, 256] r180, k0_pay38 (F := Ideal) (k0_pay37 (F := Ideal) w)⟩]))
      (VO0_19.read (Elt Ideal) (VO0_19.writes (Elt Ideal) VO0_19.junk [⟨Rect.unit ![0, 0] ![256, 1024] r19, k0_pay42 w x11⟩]))
      (VO0_20.read (Elt Ideal) (VO0_20.writes (Elt Ideal) VO0_20.junk [⟨Rect.unit ![0, 0] ![256, 1024] r20, k0_pay43 x0 (View.ld x1 (Rect.unit (s := S8x6144) ![0, 2048] ![1, 1024] pgt)) w x11⟩]))
      (VS0_0.read (Elt Ideal) (VS0_0.writes (Elt Ideal) VS0_0.junk (⟨Rect.unit ![0, 0] ![32, 512] t0, k0_pay18 (T 32 512 E1 256 0 l1)⟩ :: L0)))
      (VS0_1.read (Elt Ideal) (VS0_1.writes (Elt Ideal) VS0_1.junk (⟨Rect.unit ![0, 0] ![16, 512] t1, k0_pay36 (T 16 512 E2 256 0 l2)⟩ :: L1))) := by
  subst hw
  constructor
  · intro r j
    refine (at_hit (a := 0) (b := 0) (by decide) (by decide) _ _ _ _ r j r j (by omega) (by omega)).trans ?_
    exact pay3_at _ _ _ _ _ (sh_at _) (sc_at _) (fun _ => rfl) r j
  · intro r j
    refine (at_hit (a := 0) (b := 0) (by decide) (by decide) _ _ _ _ r j r j (by omega) (by omega)).trans ?_
    exact pay5_at _ _ _ _ _ _ (sh_at _) (sc_at _) (fun _ => rfl) (fun _ _ => rfl) r j
  · intro r j
    refine (at_hit (a := 0) (b := 0) (by decide) (by decide) _ _ _ _ r j r j (by omega) (by omega)).trans ?_
    exact pay7_at _ _ _ _ _ _ (sh_at _) (sc_at _) (fun _ => rfl) (fun _ _ => rfl) r j
  · intro r j
    refine (at_hit (a := 0) (b := 0) (by decide) (by decide) _ _ _ _ r j r j (by omega) (by omega)).trans ?_
    exact conv_at x1 x2 x3 x4 x5 x6 x7 x8 x9 x10 x11 E1 r j
  · intro s a r
    refine (slabs2 _ _ _ _ _ _ s a r).trans ?_
    match s with
    | 0 => exact (pay21_at _ _ _ _ _ _ 0 a).trans ((hs_at x1 x2 x3 x4 x5 x6 x7 x8 x9 x10 x11 E1 r _).trans (congrArg _ (Fin.ext (by show a.val = 0 * 256 + a.val; omega))))
    | 1 => exact (pay22_at _ 0 a r).trans ((hs_at x1 x2 x3 x4 x5 x6 x7 x8 x9 x10 x11 E1 r _).trans (congrArg _ (Fin.ext (by show 256 + a.val = 1 * 256 + a.val; omega))))
  · intro r j
    exact pb_at it hit E2 _ _ _ _ _ _ h0 h1 h2 h3 r j
  · intro s a r
    refine (slabs4 _ _ _ _ _ _ _ _ _ _ s a r).trans ?_
    match s with
    | 0 => refine (pay38_at (Y (prm x1 x2 x3 x4 x5 x6 x7 x8 x9 x10 x11) it E1 E2) 0 a r).trans ?_; exact congrArg (tYc _ it E1 E2 r) (Fin.ext (by show a.val = 0 * 256 + a.val; omega))
    | 1 => refine (pay39_at (Y (prm x1 x2 x3 x4 x5 x6 x7 x8 x9 x10 x11) it E1 E2) 0 a r).trans ?_; exact congrArg (tYc _ it E1 E2 r) (Fin.ext (by show 256 + a.val = 1 * 256 + a.val; omega))
    | 2 => refine (pay40_at (Y (prm x1 x2 x3 x4 x5 x6 x7 x8 x9 x10 x11) it E1 E2) 0 a r).trans ?_; exact congrArg (tYc _ it E1 E2 r) (Fin.ext (by show 512 + a.val = 2 * 256 + a.val; omega))
    | 3 => refine (pay41_at (Y (prm x1 x2 x3 x4 x5 x6 x7 x8 x9 x10 x11) it E1 E2) 0 a r).trans ?_; exact congrArg (tYc _ it E1 E2 r) (Fin.ext (by show 768 + a.val = 3 * 256 + a.val; omega))
  · intro r j
    refine (at_hit (a := 0) (b := 0) (by decide) (by decide) _ _ _ _ r j r j (by omega) (by omega)).trans ?_
    exact pay42_at _ _ r j
  · intro r j
    refine (at_hit (a := 0) (b := 0) (by decide) (by decide) _ _ _ _ r j r j (by omega) (by omega)).trans ?_
    exact (pay43_at _ _ _ _ r j).trans (congrArg (fun g => x0 (ix2 r j) + g * _) (gt_at _ j))
  · intro n j
    refine (at_hit (a := 0) (b := 0) (by decide) (by decide) _ _ _ _ _ j n j (by show n.val = 0 + n.val; omega) (by omega)).trans ?_
    exact (pay18_at j _ n).trans (congrArg (E1 _) (Fin.ext (by show 0 + j.val = j.val; omega)))
  · intro n j
    refine (at_hit (a := 0) (b := 0) (by decide) (by decide) _ _ _ _ _ j n j (by show n.val = 0 + n.val; omega) (by omega)).trans ?_
    exact (pay36_at j _ n).trans (congrArg (E2 _) (Fin.ext (by show 0 + j.val = j.val; omega)))

section
variable (c : Dev nD) (i : grid0.Coords) (arg1 : Memref sig .tc .vmem S256x1024 .f32) (harg1 : arg1.IsWhole) (arg2 : Memref sig .tc .vmem S8x6144 .f32) (harg2 : arg2.IsWhole) (arg3 : Memref sig .tc .vmem S1x1024 .f32) (harg3 : arg3.IsWhole) (arg4 : Memref sig .tc .vmem S1536x1024 .bf16) (harg4 : arg4.IsWhole) (arg5 : Memref sig .tc .vmem S32x512 .f32) (harg5 : arg5.IsWhole) (arg6 : Memref sig .tc .vmem S1x512 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S512x512 .bf16) (harg9 : arg9.IsWhole) (arg10 : Memref sig .tc .vmem S4x128x128 .f32) (harg10 : arg10.IsWhole) (arg11 : Memref sig .tc .vmem S1x512 .f32) (harg11 : arg11.IsWhole) (arg12 : Memref sig .tc .vmem S1024x1024 .bf16) (harg12 : arg12.IsWhole) (arg13 : Memref sig .tc .vmem S256x1024 .bf16) (harg13 : arg13.IsWhole) (arg14 : Memref sig .tc .vmem S256x1024 .f32) (harg14 : arg14.IsWhole) (arg15 : Memref sig .tc .vmem S256x512 .f32) (harg15 : arg15.IsWhole) (arg16 : Memref sig .tc .vmem S256x512 .f32) (harg16 : arg16.IsWhole) (arg17 : Memref sig .tc .vmem S2x256x256 .bf16) (harg17 : arg17.IsWhole) (arg18 : Memref sig .tc .vmem S256x512 .bf16) (harg18 : arg18.IsWhole) (arg19 : Memref sig .tc .vmem S4x256x256 .bf16) (harg19 : arg19.IsWhole) (arg20 : Memref sig .tc .vmem S256x1024 .f32) (harg20 : arg20.IsWhole) (arg21 : Memref sig .tc .vmem S256x1024 .f32) (harg21 : arg21.IsWhole) (arg22 : Memref sig .tc .vmem S288x512 .f32) (harg22 : arg22.IsWhole) (arg23 : Memref sig .tc .vmem S272x512 .f32) (harg23 : arg23.IsWhole) (arg24 : Memref sig .tc .vmem S256x1024 .bf16) (harg24 : arg24.IsWhole)
  (x0 : Vec Ideal S256x1024 .f32) (x1 : Vec Ideal S8x6144 .f32) (x2 : Vec Ideal S1x1024 .f32) (x3 : Vec Ideal S1536x1024 .bf16) (x4 : Vec Ideal S32x512 .f32) (x5 : Vec Ideal S1x512 .f32) (x6 : Vec Ideal S1x512 .f32) (x7 : Vec Ideal S1x512 .f32) (x8 : Vec Ideal S512x512 .bf16) (x9 : Vec Ideal S4x128x128 .f32) (x10 : Vec Ideal S1x512 .f32) (x11 : Vec Ideal S1024x1024 .bf16)
  (E1 E2 : ℕ → Fin 512 → EReal)
  (hw1 : ∀ (r : Fin 256) (j : Fin 512), hc (prm x1 x2 x3 x4 x5 x6 x7 x8 x9 x10 x11) (fun l => x0 (ix2 r l)) j = E1 (32 + r.val) j)
  (hw2 : ∀ (r : Fin 256) (j : Fin 512), uv (prm x1 x2 x3 x4 x5 x6 x7 x8 x9 x10 x11) (fun l => x0 (ix2 r l)) j = E2 (16 + r.val) j)

include hw1 hw2 in
theorem outsB (hc0 : ¬cond0_0 i) (xs0 : Vec Ideal S288x512 .f32) (xs1 : Vec Ideal S272x512 .f32) (h1 : ∀ (n : Fin 32) (j : Fin 512), xs0 (ix2 ⟨n.val, by omega⟩ j) = E1 n.val j) (h2 : ∀ (n : Fin 16) (j : Fin 512), xs1 (ix2 ⟨n.val, by omega⟩ j) = E2 n.val j) :
    Outs (prm x1 x2 x3 x4 x5 x6 x7 x8 x9 x10 x11) (fun r l => x0 (ix2 r l)) (i 0).val E1 E2
      (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (out0_B_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (out0_B_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1)
      (sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11 xs0 xs1) := by
  have hB1 : Held (m := 288) arg22.view (harg22.unread xs0) [⟨Rect.unit ![32, 0] ![256, 512] inb_S288x512_S256x512_32_0, k0_pay8 (k0_pay4 x0 (View.ld x1 (Rect.unit ![0, 0] ![1, 1024] inb_S8x6144_S1x1024_0_0)) (View.ld x1 (Rect.unit ![0, 1024] ![1, 1024] inb_S8x6144_S1x1024_0_1024)) x2 x3) (k0_pay6 x0 (View.ld x1 (Rect.unit ![0, 0] ![1, 1024] inb_S8x6144_S1x1024_0_0)) (View.ld x1 (Rect.unit ![0, 1024] ![1, 1024] inb_S8x6144_S1x1024_0_1024)) x2 x3)⟩] E1 0 :=
    held_cons _ rfl _ (fun r j => (pay8_at _ _ _ _ _ _ (sh_at _) (sc_at _) (fun _ => rfl) (fun _ _ => rfl) r j).trans (hw1 r j)) fun r j _ hr => (held_unread (harg22.read_unread xs0) _).trans (h1 ⟨r.val, hr⟩ j)
  have cB1 : Held (m := 288) arg22.view arg22.view.junk [⟨Rect.unit ![32, 0] ![256, 512] inb_S288x512_S256x512_32_0, k0_pay8 (k0_pay4 x0 (View.ld x1 (Rect.unit ![0, 0] ![1, 1024] inb_S8x6144_S1x1024_0_0)) (View.ld x1 (Rect.unit ![0, 1024] ![1, 1024] inb_S8x6144_S1x1024_0_1024)) x2 x3) (k0_pay6 x0 (View.ld x1 (Rect.unit ![0, 0] ![1, 1024] inb_S8x6144_S1x1024_0_0)) (View.ld x1 (Rect.unit ![0, 1024] ![1, 1024] inb_S8x6144_S1x1024_0_1024)) x2 x3)⟩] E1 32 :=
    held_cons _ rfl _ (fun r j => (pay8_at _ _ _ _ _ _ (sh_at _) (sc_at _) (fun _ => rfl) (fun _ _ => rfl) r j).trans (hw1 r j)) fun r j h hr => absurd h (by omega)
  have hB2 : Held (m := 272) arg23.view (harg23.unread xs1) [⟨Rect.unit ![16, 0] ![256, 512] inb_S272x512_S256x512_16_0, k0_pay9 (k0_pay4 x0 (View.ld x1 (Rect.unit ![0, 0] ![1, 1024] inb_S8x6144_S1x1024_0_0)) (View.ld x1 (Rect.unit ![0, 1024] ![1, 1024] inb_S8x6144_S1x1024_0_1024)) x2 x3)⟩] E2 0 :=
    held_cons _ rfl _ (fun r j => (pay9_at _ _ _ _ _ _ (sh_at _) (sc_at _) (fun _ => rfl) (fun _ _ => rfl) r j).trans (hw2 r j)) fun r j _ hr => (held_unread (harg23.read_unread xs1) _).trans (h2 ⟨r.val, hr⟩ j)
  have cB2 : Held (m := 272) arg23.view arg23.view.junk [⟨Rect.unit ![16, 0] ![256, 512] inb_S272x512_S256x512_16_0, k0_pay9 (k0_pay4 x0 (View.ld x1 (Rect.unit ![0, 0] ![1, 1024] inb_S8x6144_S1x1024_0_0)) (View.ld x1 (Rect.unit ![0, 1024] ![1, 1024] inb_S8x6144_S1x1024_0_1024)) x2 x3)⟩] E2 16 :=
    held_cons _ rfl _ (fun r j => (pay9_at _ _ _ _ _ _ (sh_at _) (sc_at _) (fun _ => rfl) (fun _ _ => rfl) r j).trans (hw2 r j)) fun r j h hr => absurd h (by omega)
  unfold out0_B_12 out0_B_13 out0_B_14 out0_B_15 out0_B_16 out0_B_17 out0_B_18 out0_B_19 out0_B_20 sout0_B_0 sout0_B_1
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1536x1024) hz2,
    View.ld_unit_zero (S := S1x512) hz2, View.ld_unit_zero (S := S512x512) hz2, View.ld_unit_zero (S := S1024x1024) hz2]
  simp (disch := decide) only [ld_held hB1, cov_held cB1, ld_held hB2, cov_held cB2, ld_weight]
  refine outs_of x0 x1 x2 x3 x4 x5 x6 x7 x8 x9 x10 x11 (i 0).val (i 0).isLt E1 E2 _ ?_ _ _
  exact (yc_at x1 x2 x3 x4 x5 x6 x7 x8 x9 x10 x11 (i 0).val (i 0).isLt E1 E2 arg24.view _ _ _ _ _ _ _ _ _ _ _ _ _ _ _ _ _ _)

include hw1 hw2 in
theorem outsA (hc0 : cond0_0 i) (h1 : ∀ (n : ℕ) (j : Fin 512), n < 32 → E1 n j = 0) (h2 : ∀ (n : ℕ) (j : Fin 512), n < 16 → E2 n j = 0) :
    Outs (prm x1 x2 x3 x4 x5 x6 x7 x8 x9 x10 x11) (fun r l => x0 (ix2 r l)) (i 0).val E1 E2
      (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (out0_A_20 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11)
      (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 x0 x1 x2 x3 x4 x5 x6 x7 x8 x9 x10 x11) := by
  have hA1 : Held (m := 288) arg22.view arg22.view.junk [⟨Rect.unit ![32, 0] ![256, 512] inb_S288x512_S256x512_32_0, k0_pay8 (k0_pay4 x0 (View.ld x1 (Rect.unit ![0, 0] ![1, 1024] inb_S8x6144_S1x1024_0_0)) (View.ld x1 (Rect.unit ![0, 1024] ![1, 1024] inb_S8x6144_S1x1024_0_1024)) x2 x3) (k0_pay6 x0 (View.ld x1 (Rect.unit ![0, 0] ![1, 1024] inb_S8x6144_S1x1024_0_0)) (View.ld x1 (Rect.unit ![0, 1024] ![1, 1024] inb_S8x6144_S1x1024_0_1024)) x2 x3)⟩, ⟨Rect.unit ![0, 0] ![32, 512] inb_S288x512_S32x512_0_0, k0_pay1 (F := Ideal)⟩] E1 0 :=
    held_cons _ rfl _ (fun r j => (pay8_at _ _ _ _ _ _ (sh_at _) (sc_at _) (fun _ => rfl) (fun _ _ => rfl) r j).trans (hw1 r j)) fun r j _ hr =>
      (top_rows arg22.view _ _ (k0_pay1 (F := Ideal)) _ r j hr).trans ((pay1_at _ _).trans (h1 r.val j hr).symm)
  have hA2 : Held (m := 272) arg23.view arg23.view.junk [⟨Rect.unit ![16, 0] ![256, 512] inb_S272x512_S256x512_16_0, k0_pay9 (k0_pay4 x0 (View.ld x1 (Rect.unit ![0, 0] ![1, 1024] inb_S8x6144_S1x1024_0_0)) (View.ld x1 (Rect.unit ![0, 1024] ![1, 1024] inb_S8x6144_S1x1024_0_1024)) x2 x3)⟩, ⟨Rect.unit ![0, 0] ![16, 512] inb_S272x512_S16x512_0_0, k0_pay2 (F := Ideal)⟩] E2 0 :=
    held_cons _ rfl _ (fun r j => (pay9_at _ _ _ _ _ _ (sh_at _) (sc_at _) (fun _ => rfl) (fun _ _ => rfl) r j).trans (hw2 r j)) fun r j _ hr =>
      (top_rows arg23.view _ _ (k0_pay2 (F := Ideal)) _ r j hr).trans ((pay2_at _ _).trans (h2 r.val j hr).symm)
  unfold out0_A_12 out0_A_13 out0_A_14 out0_A_15 out0_A_16 out0_A_17 out0_A_18 out0_A_19 out0_A_20 sout0_A_0 sout0_A_1
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S256x1024) hz2, View.ld_unit_zero (S := S1x1024) hz2, View.ld_unit_zero (S := S1536x1024) hz2,
    View.ld_unit_zero (S := S1x512) hz2, View.ld_unit_zero (S := S512x512) hz2, View.ld_unit_zero (S := S1024x1024) hz2]
  simp (disch := decide) only [cov_held hA1, cov_held hA2, ld_weight]
  refine outs_of x0 x1 x2 x3 x4 x5 x6 x7 x8 x9 x10 x11 (i 0).val (i 0).isLt E1 E2 _ ?_ _ _
  exact (yc_at x1 x2 x3 x4 x5 x6 x7 x8 x9 x10 x11 (i 0).val (i 0).isLt E1 E2 arg24.view _ _ _ _ _ _ _ _ _ _ _ _ _ _ _ _ _ _)
end

end Cert.Fwd

end
-- ==== Proof.FwdArrays.lean ====
/- The forward mixer's nine result arrays: the blocks of the eight grid points put together, entry by entry, are the reference's
   arrays, whatever the launched arrays hold. -/
module

public import proofs.«01_k».proof.Proof.FwdPieces
public import proofs.«01_k».proof.Proof.FwdRef
public import proofs.«01_k».proof.Proof.Gen.KernelFwdIdeal.Value

@[expose] public section

set_option maxRecDepth 16384

noncomputable section

namespace Cert.Fwd

open Idealize.ShloMosaic Idealize.ShloMosaic.TcCoe Idealize.SL.Sem Cert.Ffn Cert.Mix Cert.KernelFwdIdeal Cert.KernelFwdIdeal.Gen
open Cert.ReferenceFwdIdeal.Read

/-! ## The sums over the tokens before, from a tile's rows -/

section
variable (q : Prm) (X : Fin 2048 → Fin 1024 → EReal) (it : ℕ)

/-- Row `n` of the rows that tile `it` sees: the 32 (16) tokens before the tile, then the tile's own. -/
def E1 (n : ℕ) (j : Fin 512) : EReal := pad (fun s => hc q (X s) j) 32 (256 * it + n)
def E2 (n : ℕ) (j : Fin 512) : EReal := pad (fun s => uv q (X s) j) 16 (256 * it + n)

variable (t : Fin 2048) (r : Fin 256) (ht : t.val = 256 * it + r.val)
include ht

theorem tHd_eq : tHd q (E1 q X it) r = Hd q X t := by
  funext j
  refine congrArg (fun e => hd q e j) (funext fun k => ?_)
  refine Eq.trans (congrArg (pad _ 32) ?_) (pad_shift _ 30 (t.val + k.val) 2)
  omega

theorem tP_eq : tP it (E2 q X it) r = P q X t := by
  funext g j
  have hw : wd g ≤ 16 ∧ 0 < wd g := by fin_cases g <;> decide
  have key : ∀ δ, δ < wd g → E2 q X it (16 - δ + r.val) (lane g j) = pad (fun s => uv q (X s) (lane g j)) δ t.val := fun δ hδ => by
    have e : 16 = δ + (16 - δ) := by omega
    refine Eq.trans ?_ (pad_shift _ δ t.val (16 - δ))
    rw [← e]
    refine congrArg (pad _ 16) ?_
    omega
  have e : it * 256 + r.val = t.val := by omega
  unfold tP P pool
  rw [Finset.sum_congr rfl fun δ hδ => key δ (Finset.mem_range.mp hδ), e]
  exact congrArg (_ - ·) (key 0 hw.2)

theorem tYc_eq : tYc q it (E1 q X it) (E2 q X it) r = Yc q X t := by
  funext j
  unfold tYc Yc
  rw [tHd_eq q X it t r ht, tP_eq q X it t r ht]

end

/-! ## The blocks -/

section
variable (m : (ℓ : Loc nD τ sig) → Buf (Elt Ideal) ℓ) (c : Dev nD)

theorem idx0 : ∀ t : Fin cfg0.N, win0_0.index t (0 : Fin 2) = t.val ∧ win0_0.index t (1 : Fin 2) = 0 := (by decide +kernel : ∀ t : Fin grid0.N, _)
theorem idx1 : ∀ (t : Fin cfg0.N) (a : Fin 2), win0_1.index t a = 0 := (by decide +kernel : ∀ (t : Fin grid0.N) (a : Fin 2), _)
theorem idx2 : ∀ (t : Fin cfg0.N) (a : Fin 2), win0_2.index t a = 0 := (by decide +kernel : ∀ (t : Fin grid0.N) (a : Fin 2), _)
theorem idx3 : ∀ (t : Fin cfg0.N) (a : Fin 2), win0_3.index t a = 0 := (by decide +kernel : ∀ (t : Fin grid0.N) (a : Fin 2), _)
theorem idx4 : ∀ (t : Fin cfg0.N) (a : Fin 2), win0_4.index t a = 0 := (by decide +kernel : ∀ (t : Fin grid0.N) (a : Fin 2), _)
theorem idx5 : ∀ (t : Fin cfg0.N) (a : Fin 2), win0_5.index t a = 0 := (by decide +kernel : ∀ (t : Fin grid0.N) (a : Fin 2), _)
theorem idx6 : ∀ (t : Fin cfg0.N) (a : Fin 2), win0_6.index t a = 0 := (by decide +kernel : ∀ (t : Fin grid0.N) (a : Fin 2), _)
theorem idx7 : ∀ (t : Fin cfg0.N) (a : Fin 2), win0_7.index t a = 0 := (by decide +kernel : ∀ (t : Fin grid0.N) (a : Fin 2), _)
theorem idx8 : ∀ (t : Fin cfg0.N) (a : Fin 2), win0_8.index t a = 0 := (by decide +kernel : ∀ (t : Fin grid0.N) (a : Fin 2), _)
theorem idx9 : ∀ (t : Fin cfg0.N) (a : Fin 3), win0_9.index t a = 0 := (by decide +kernel : ∀ (t : Fin grid0.N) (a : Fin 3), _)
theorem idx10 : ∀ (t : Fin cfg0.N) (a : Fin 2), win0_10.index t a = 0 := (by decide +kernel : ∀ (t : Fin grid0.N) (a : Fin 2), _)
theorem idx11 : ∀ (t : Fin cfg0.N) (a : Fin 2), win0_11.index t a = 0 := (by decide +kernel : ∀ (t : Fin grid0.N) (a : Fin 2), _)
theorem idx12 : ∀ t : Fin cfg0.N, win0_12.index t (0 : Fin 2) = t.val ∧ win0_12.index t (1 : Fin 2) = 0 := (by decide +kernel : ∀ t : Fin grid0.N, _)
theorem idx13 : ∀ t : Fin cfg0.N, win0_13.index t (0 : Fin 2) = t.val ∧ win0_13.index t (1 : Fin 2) = 0 := (by decide +kernel : ∀ t : Fin grid0.N, _)
theorem idx14 : ∀ t : Fin cfg0.N, win0_14.index t (0 : Fin 2) = t.val ∧ win0_14.index t (1 : Fin 2) = 0 := (by decide +kernel : ∀ t : Fin grid0.N, _)
theorem idx15 : ∀ t : Fin cfg0.N, win0_15.index t (0 : Fin 2) = t.val ∧ win0_15.index t (1 : Fin 2) = 0 := (by decide +kernel : ∀ t : Fin grid0.N, _)
theorem idx16 : ∀ t : Fin cfg0.N, win0_16.index t (0 : Fin 3) = 0 ∧ win0_16.index t (1 : Fin 3) = 0 ∧ win0_16.index t (2 : Fin 3) = t.val := (by decide +kernel : ∀ t : Fin grid0.N, _)
theorem idx17 : ∀ t : Fin cfg0.N, win0_17.index t (0 : Fin 2) = t.val ∧ win0_17.index t (1 : Fin 2) = 0 := (by decide +kernel : ∀ t : Fin grid0.N, _)
theorem idx18 : ∀ t : Fin cfg0.N, win0_18.index t (0 : Fin 3) = 0 ∧ win0_18.index t (1 : Fin 3) = 0 ∧ win0_18.index t (2 : Fin 3) = t.val := (by decide +kernel : ∀ t : Fin grid0.N, _)
theorem idx19 : ∀ t : Fin cfg0.N, win0_19.index t (0 : Fin 2) = t.val ∧ win0_19.index t (1 : Fin 2) = 0 := (by decide +kernel : ∀ t : Fin grid0.N, _)
theorem idx20 : ∀ t : Fin cfg0.N, win0_20.index t (0 : Fin 2) = t.val ∧ win0_20.index t (1 : Fin 2) = 0 := (by decide +kernel : ∀ t : Fin grid0.N, _)

theorem coord (t : Fin cfg0.N) : (grid0.coords t 0).val = t.val := (by decide +kernel : ∀ t : Fin grid0.N, (grid0.coords t 0).val = t.val) t

theorem lt8 (t : Fin cfg0.N) : t.val < 8 := lt_of_lt_of_eq t.isLt N_0

/-- The token that row `p` of tile `t` is. -/
def tok (t : Fin cfg0.N) (p : Fin 256) : Fin 2048 := ⟨256 * t.val + p.val, by have := lt8 t; omega⟩

/-- Where a block's coordinate lies in the array: in a window moved along the tokens, and in one that is not moved. -/
theorem moved {n t y : ℕ} (h : n = t) : n * 256 + 1 * y = 256 * t + y := by subst h; omega
theorem off0 {n k y : ℕ} (h : n = 0) : n * k + 1 * y = y := by subst h; omega

theorem emb0 (t : Fin cfg0.N) (p : Fin 256) (j : Fin 1024) : ((cfg0.win 0).blk t).view.emb (ix2 p j) = (ix2 (tok t p) j : S2048x1024.Idx) :=
  funext fun a => Fin.ext (match a with | ⟨0, _⟩ => moved (idx0 t).1 | ⟨1, _⟩ => off0 (idx0 t).2)
theorem emb12 (t : Fin cfg0.N) (p : Fin 256) (j : Fin 1024) : ((cfg0.win 12).blk t).view.emb (ix2 p j) = (ix2 (tok t p) j : S2048x1024.Idx) :=
  funext fun a => Fin.ext (match a with | ⟨0, _⟩ => moved (idx12 t).1 | ⟨1, _⟩ => off0 (idx12 t).2)
theorem emb13 (t : Fin cfg0.N) (p : Fin 256) (j : Fin 1024) : ((cfg0.win 13).blk t).view.emb (ix2 p j) = (ix2 (tok t p) j : S2048x1024.Idx) :=
  funext fun a => Fin.ext (match a with | ⟨0, _⟩ => moved (idx13 t).1 | ⟨1, _⟩ => off0 (idx13 t).2)
theorem emb14 (t : Fin cfg0.N) (p : Fin 256) (j : Fin 512) : ((cfg0.win 14).blk t).view.emb (ix2 p j) = (ix2 (tok t p) j : S2048x512.Idx) :=
  funext fun a => Fin.ext (match a with | ⟨0, _⟩ => moved (idx14 t).1 | ⟨1, _⟩ => off0 (idx14 t).2)
theorem emb15 (t : Fin cfg0.N) (p : Fin 256) (j : Fin 512) : ((cfg0.win 15).blk t).view.emb (ix2 p j) = (ix2 (tok t p) j : S2048x512.Idx) :=
  funext fun a => Fin.ext (match a with | ⟨0, _⟩ => moved (idx15 t).1 | ⟨1, _⟩ => off0 (idx15 t).2)
theorem emb16 (t : Fin cfg0.N) (s : Fin 2) (a p : Fin 256) : ((cfg0.win 16).blk t).view.emb (ix3 s a p) = (ix3 s a (tok t p) : S2x256x2048.Idx) :=
  funext fun b => Fin.ext (match b with | ⟨0, _⟩ => off0 (idx16 t).1 | ⟨1, _⟩ => off0 (idx16 t).2.1 | ⟨2, _⟩ => moved (idx16 t).2.2)
theorem emb17 (t : Fin cfg0.N) (p : Fin 256) (j : Fin 512) : ((cfg0.win 17).blk t).view.emb (ix2 p j) = (ix2 (tok t p) j : S2048x512.Idx) :=
  funext fun a => Fin.ext (match a with | ⟨0, _⟩ => moved (idx17 t).1 | ⟨1, _⟩ => off0 (idx17 t).2)
theorem emb18 (t : Fin cfg0.N) (s : Fin 4) (a p : Fin 256) : ((cfg0.win 18).blk t).view.emb (ix3 s a p) = (ix3 s a (tok t p) : S4x256x2048.Idx) :=
  funext fun b => Fin.ext (match b with | ⟨0, _⟩ => off0 (idx18 t).1 | ⟨1, _⟩ => off0 (idx18 t).2.1 | ⟨2, _⟩ => moved (idx18 t).2.2)
theorem emb19 (t : Fin cfg0.N) (p : Fin 256) (j : Fin 1024) : ((cfg0.win 19).blk t).view.emb (ix2 p j) = (ix2 (tok t p) j : S2048x1024.Idx) :=
  funext fun a => Fin.ext (match a with | ⟨0, _⟩ => moved (idx19 t).1 | ⟨1, _⟩ => off0 (idx19 t).2)
theorem emb20 (t : Fin cfg0.N) (p : Fin 256) (j : Fin 1024) : ((cfg0.win 20).blk t).view.emb (ix2 p j) = (ix2 (tok t p) j : S2048x1024.Idx) :=
  funext fun a => Fin.ext (match a with | ⟨0, _⟩ => moved (idx20 t).1 | ⟨1, _⟩ => off0 (idx20 t).2)

/-! ## What the call's blocks hold of the arguments -/

variable (x0 : (⟨S2048x1024, .f32⟩ : BufTy).Contents (Elt Ideal)) (x1 : (⟨S8x6144, .f32⟩ : BufTy).Contents (Elt Ideal))
  (x2 : (⟨S1x1024, .f32⟩ : BufTy).Contents (Elt Ideal)) (x3 : (⟨S1536x1024, .bf16⟩ : BufTy).Contents (Elt Ideal))
  (x4 : (⟨S32x512, .f32⟩ : BufTy).Contents (Elt Ideal)) (x5 x6 x7 : (⟨S1x512, .f32⟩ : BufTy).Contents (Elt Ideal))
  (x8 : (⟨S512x512, .bf16⟩ : BufTy).Contents (Elt Ideal)) (x9 : (⟨S4x128x128, .f32⟩ : BufTy).Contents (Elt Ideal))
  (x10 : (⟨S1x512, .f32⟩ : BufTy).Contents (Elt Ideal)) (x11 : (⟨S1024x1024, .bf16⟩ : BufTy).Contents (Elt Ideal))

/-- The call's arguments. -/
structure Given : Prop where
  a0 : V m c main_arg0 = x0
  a1 : V m c main_arg1 = x1
  a2 : V m c main_arg2 = x2
  a3 : V m c main_arg3 = x3
  a4 : V m c main_arg4 = x4
  a5 : V m c main_arg5 = x5
  a6 : V m c main_arg6 = x6
  a7 : V m c main_arg7 = x7
  a8 : V m c main_arg8 = x8
  a9 : V m c main_arg9 = x9
  a10 : V m c main_arg10 = x10
  a11 : V m c main_arg11 = x11

variable (H : Given m c x0 x1 x2 x3 x4 x5 x6 x7 x8 x9 x10 x11)
include H

theorem params (t : Fin cfg0.N) : prm (iblk m c 1 t) (iblk m c 2 t) (iblk m c 3 t) (iblk m c 4 t) (iblk m c 5 t) (iblk m c 6 t) (iblk m c 7 t) (iblk m c 8 t)
    (iblk m c 9 t) (iblk m c 10 t) (iblk m c 11 t) = prm x1 x2 x3 x4 x5 x6 x7 x8 x9 x10 x11 := by
  have w1 : iblk m c 1 t = x1 := (funext fun y => congrArg (V m c main_arg1) (funext fun a => Fin.ext (off0 (idx1 t a)))).trans H.a1
  have w2 : iblk m c 2 t = x2 := (funext fun y => congrArg (V m c main_arg2) (funext fun a => Fin.ext (off0 (idx2 t a)))).trans H.a2
  have w3 : iblk m c 3 t = x3 := (funext fun y => congrArg (V m c main_arg3) (funext fun a => Fin.ext (off0 (idx3 t a)))).trans H.a3
  have w4 : iblk m c 4 t = x4 := (funext fun y => congrArg (V m c main_arg4) (funext fun a => Fin.ext (off0 (idx4 t a)))).trans H.a4
  have w5 : iblk m c 5 t = x5 := (funext fun y => congrArg (V m c main_arg5) (funext fun a => Fin.ext (off0 (idx5 t a)))).trans H.a5
  have w6 : iblk m c 6 t = x6 := (funext fun y => congrArg (V m c main_arg6) (funext fun a => Fin.ext (off0 (idx6 t a)))).trans H.a6
  have w7 : iblk m c 7 t = x7 := (funext fun y => congrArg (V m c main_arg7) (funext fun a => Fin.ext (off0 (idx7 t a)))).trans H.a7
  have w8 : iblk m c 8 t = x8 := (funext fun y => congrArg (V m c main_arg8) (funext fun a => Fin.ext (off0 (idx8 t a)))).trans H.a8
  have w9 : iblk m c 9 t = x9 := (funext fun y => congrArg (V m c main_arg9) (funext fun a => Fin.ext (off0 (idx9 t a)))).trans H.a9
  have w10 : iblk m c 10 t = x10 := (funext fun y => congrArg (V m c main_arg10) (funext fun a => Fin.ext (off0 (idx10 t a)))).trans H.a10
  have w11 : iblk m c 11 t = x11 := (funext fun y => congrArg (V m c main_arg11) (funext fun a => Fin.ext (off0 (idx11 t a)))).trans H.a11
  rw [w1, w2, w3, w4, w5, w6, w7, w8, w9, w10, w11]

theorem rows (t : Fin cfg0.N) (r : Fin 256) : (fun l : Fin 1024 => (iblk m c 0 t (ix2 r l) : EReal)) = toks x0 (tok t r) :=
  funext fun l => (congrArg (V m c main_arg0) (emb0 t r l)).trans (congrFun H.a0 _)

theorem new1 (t : Fin cfg0.N) (r : Fin 256) (j : Fin 512) :
    hc (prm (iblk m c 1 t) (iblk m c 2 t) (iblk m c 3 t) (iblk m c 4 t) (iblk m c 5 t) (iblk m c 6 t) (iblk m c 7 t) (iblk m c 8 t)
      (iblk m c 9 t) (iblk m c 10 t) (iblk m c 11 t)) (fun l => iblk m c 0 t (ix2 r l)) j
      = E1 (prm x1 x2 x3 x4 x5 x6 x7 x8 x9 x10 x11) (toks x0) t.val (32 + r.val) j := by
  rw [params m c x0 x1 x2 x3 x4 x5 x6 x7 x8 x9 x10 x11 H t, rows m c x0 x1 x2 x3 x4 x5 x6 x7 x8 x9 x10 x11 H t r]
  exact (pad_of (fun s => hc (prm x1 x2 x3 x4 x5 x6 x7 x8 x9 x10 x11) (toks x0 s) j) 32 _ (tok t r) (by show 256 * t.val + (32 + r.val) = 32 + (256 * t.val + r.val); omega)).symm

theorem new2 (t : Fin cfg0.N) (r : Fin 256) (j : Fin 512) :
    uv (prm (iblk m c 1 t) (iblk m c 2 t) (iblk m c 3 t) (iblk m c 4 t) (iblk m c 5 t) (iblk m c 6 t) (iblk m c 7 t) (iblk m c 8 t)
      (iblk m c 9 t) (iblk m c 10 t) (iblk m c 11 t)) (fun l => iblk m c 0 t (ix2 r l)) j
      = E2 (prm x1 x2 x3 x4 x5 x6 x7 x8 x9 x10 x11) (toks x0) t.val (16 + r.val) j := by
  rw [params m c x0 x1 x2 x3 x4 x5 x6 x7 x8 x9 x10 x11 H t, rows m c x0 x1 x2 x3 x4 x5 x6 x7 x8 x9 x10 x11 H t r]
  exact (pad_of (fun s => uv (prm x1 x2 x3 x4 x5 x6 x7 x8 x9 x10 x11) (toks x0 s) j) 16 _ (tok t r) (by show 256 * t.val + (16 + r.val) = 16 + (256 * t.val + r.val); omega)).symm

omit H in
theorem Outs.conv {q q' : Prm} {Y Y' : Fin 256 → Fin 1024 → EReal} {it it' : ℕ} {e1 e2 : ℕ → Fin 512 → EReal} {o12 : Vec Ideal S256x1024 .bf16} {o13 : Vec Ideal S256x1024 .f32}
    {o14 o15 : Vec Ideal S256x512 .f32} {o16 : Vec Ideal S2x256x256 .bf16} {o17 : Vec Ideal S256x512 .bf16} {o18 : Vec Ideal S4x256x256 .bf16}
    {o19 o20 : Vec Ideal S256x1024 .f32} {s0 : Vec Ideal S288x512 .f32} {s1 : Vec Ideal S272x512 .f32} (hq : q = q') (hY : Y = Y') (hi : it = it')
    (h : Outs q Y it e1 e2 o12 o13 o14 o15 o16 o17 o18 o19 o20 s0 s1) : Outs q' Y' it' e1 e2 o12 o13 o14 o15 o16 o17 o18 o19 o20 s0 s1 := by
  subst hq hY hi; exact h

/-- What every grid point writes back and leaves. -/
theorem held : ∀ (n : ℕ) (hn : n < cfg0.N), Outs (prm x1 x2 x3 x4 x5 x6 x7 x8 x9 x10 x11) (fun r => toks x0 (tok ⟨n, hn⟩ r)) n
    (E1 (prm x1 x2 x3 x4 x5 x6 x7 x8 x9 x10 x11) (toks x0) n) (E2 (prm x1 x2 x3 x4 x5 x6 x7 x8 x9 x10 x11) (toks x0) n)
    (outsAt0 m c n hn).1 (outsAt0 m c n hn).2.1 (outsAt0 m c n hn).2.2.1 (outsAt0 m c n hn).2.2.2.1 (outsAt0 m c n hn).2.2.2.2.1
    (outsAt0 m c n hn).2.2.2.2.2.1 (outsAt0 m c n hn).2.2.2.2.2.2.1 (outsAt0 m c n hn).2.2.2.2.2.2.2.1 (outsAt0 m c n hn).2.2.2.2.2.2.2.2.1
    (outsAt0 m c n hn).2.2.2.2.2.2.2.2.2.1 (outsAt0 m c n hn).2.2.2.2.2.2.2.2.2.2
  | 0, hn => by
    have e := outsAt0_A m c ⟨0, hn⟩ rfl
    dsimp only at e
    rw [e]
    dsimp only
    refine Outs.conv (params m c x0 x1 x2 x3 x4 x5 x6 x7 x8 x9 x10 x11 H ⟨0, hn⟩) (funext (rows m c x0 x1 x2 x3 x4 x5 x6 x7 x8 x9 x10 x11 H ⟨0, hn⟩)) (coord ⟨0, hn⟩)
      (outsA (hw1 := new1 m c x0 x1 x2 x3 x4 x5 x6 x7 x8 x9 x10 x11 H ⟨0, hn⟩) (hw2 := new2 m c x0 x1 x2 x3 x4 x5 x6 x7 x8 x9 x10 x11 H ⟨0, hn⟩) (h1 := ?_) (h2 := ?_) ..)
    · intro k j hk; exact pad_zero _ _ _ (by show 256 * 0 + k < 32; omega)
    · intro k j hk; exact pad_zero _ _ _ (by show 256 * 0 + k < 16; omega)
  | n + 1, hn => by
    have h8 := lt8 ⟨n + 1, hn⟩
    have h0 : ¬ (n + 1) % 8 = 0 := by dsimp only at h8; omega
    have ih := held n (Nat.lt_of_succ_lt hn)
    have e := outsAt0_B m c ⟨n + 1, hn⟩ h0
    dsimp only at e
    rw [e]
    dsimp only
    refine Outs.conv (params m c x0 x1 x2 x3 x4 x5 x6 x7 x8 x9 x10 x11 H ⟨n + 1, hn⟩) (funext (rows m c x0 x1 x2 x3 x4 x5 x6 x7 x8 x9 x10 x11 H ⟨n + 1, hn⟩)) (coord ⟨n + 1, hn⟩)
      (outsB (hw1 := new1 m c x0 x1 x2 x3 x4 x5 x6 x7 x8 x9 x10 x11 H ⟨n + 1, hn⟩) (hw2 := new2 m c x0 x1 x2 x3 x4 x5 x6 x7 x8 x9 x10 x11 H ⟨n + 1, hn⟩) (h1 := ?_) (h2 := ?_) ..)
    · exact fun k j => (ih.t1 k j).trans (congrArg (pad _ 32) (by show 256 * n + (256 + k.val) = 256 * (n + 1) + k.val; omega))
    · exact fun k j => (ih.t2 k j).trans (congrArg (pad _ 16) (by show 256 * n + (256 + k.val) = 256 * (n + 1) + k.val; omega))

/-! ## The nine arrays -/

theorem arr12 : (dats m 0 c).arrAt 12 cfg0.N = val_main_v197 (F := Ideal) x0 x1 x2 := by
  refine (dats m 0 c).arrAt_eq_of_covers 12 _ (by decide +kernel) fun t hf y => ?_
  refine Eq.trans (b := (dats m 0 c).after 12 t y) rfl ?_
  rw [after0_12, eq_ix2 (n0 := 256) (n1 := 1024) y]
  refine ((held m c x0 x1 x2 x3 x4 x5 x6 x7 x8 x9 x10 x11 H t.val t.isLt).h (y 0) (y 1)).trans (Eq.trans ?_
    ((congrArg (val_main_v197 (F := Ideal) x0 x1 x2) (emb12 t (y 0) (y 1))).trans (v197_at x0 x1 x2 x3 x4 x5 x6 x7 x8 x9 x10 x11 (tok t (y 0)) (y 1))).symm)
  rfl

theorem arr13 : (dats m 0 c).arrAt 13 cfg0.N = val_main_v201 (F := Ideal) x0 x1 x2 x3 := by
  refine (dats m 0 c).arrAt_eq_of_covers 13 _ (by decide +kernel) fun t hf y => ?_
  refine Eq.trans (b := (dats m 0 c).after 13 t y) rfl ?_
  rw [after0_13, eq_ix2 (n0 := 256) (n1 := 1024) y]
  refine ((held m c x0 x1 x2 x3 x4 x5 x6 x7 x8 x9 x10 x11 H t.val t.isLt).ua (y 0) (y 1)).trans (Eq.trans ?_
    ((congrArg (val_main_v201 (F := Ideal) x0 x1 x2 x3) (emb13 t (y 0) (y 1))).trans (v201_at x0 x1 x2 x3 x4 x5 x6 x7 x8 x9 x10 x11 (tok t (y 0)) (y 1))).symm)
  rfl

theorem arr14 : (dats m 0 c).arrAt 14 cfg0.N = val_main_v60 (F := Ideal) x0 x1 x2 x3 := by
  refine (dats m 0 c).arrAt_eq_of_covers 14 _ (by decide +kernel) fun t hf y => ?_
  refine Eq.trans (b := (dats m 0 c).after 14 t y) rfl ?_
  rw [after0_14, eq_ix2 (n0 := 256) (n1 := 512) y]
  refine ((held m c x0 x1 x2 x3 x4 x5 x6 x7 x8 x9 x10 x11 H t.val t.isLt).hc (y 0) (y 1)).trans (Eq.trans ?_
    ((congrArg (val_main_v60 (F := Ideal) x0 x1 x2 x3) (emb14 t (y 0) (y 1))).trans (v60_at x0 x1 x2 x3 x4 x5 x6 x7 x8 x9 x10 x11 (tok t (y 0)) (y 1))).symm)
  rfl

theorem arr15 : (dats m 0 c).arrAt 15 cfg0.N = val_main_v75 (F := Ideal) x0 x1 x2 x3 x4 x5 := by
  refine (dats m 0 c).arrAt_eq_of_covers 15 _ (by decide +kernel) fun t hf y => ?_
  refine Eq.trans (b := (dats m 0 c).after 15 t y) rfl ?_
  rw [after0_15, eq_ix2 (n0 := 256) (n1 := 512) y]
  refine ((held m c x0 x1 x2 x3 x4 x5 x6 x7 x8 x9 x10 x11 H t.val t.isLt).hd (y 0) (y 1)).trans (Eq.trans ?_
    ((congrArg (val_main_v75 (F := Ideal) x0 x1 x2 x3 x4 x5) (emb15 t (y 0) (y 1))).trans (v75_at x0 x1 x2 x3 x4 x5 x6 x7 x8 x9 x10 x11 (tok t (y 0)) (y 1))).symm)
  rw [tHd_eq (prm x1 x2 x3 x4 x5 x6 x7 x8 x9 x10 x11) (toks x0) t.val (tok t (y 0)) (y 0) rfl]

theorem arr16 : (dats m 0 c).arrAt 16 cfg0.N = val_main_v203 (F := Ideal) x0 x1 x2 x3 x4 x5 x6 x7 := by
  refine (dats m 0 c).arrAt_eq_of_covers 16 _ (by decide +kernel) fun t hf y => ?_
  refine Eq.trans (b := (dats m 0 c).after 16 t y) rfl ?_
  rw [after0_16, eq_ix3 (n0 := 2) (n1 := 256) (n2 := 256) y]
  refine ((held m c x0 x1 x2 x3 x4 x5 x6 x7 x8 x9 x10 x11 H t.val t.isLt).hs (y 0) (y 1) (y 2)).trans (Eq.trans ?_
    ((congrArg (val_main_v203 (F := Ideal) x0 x1 x2 x3 x4 x5 x6 x7) (emb16 t (y 0) (y 1) (y 2))).trans (v203_at x0 x1 x2 x3 x4 x5 x6 x7 x8 x9 x10 x11 (y 0) (y 1) (tok t (y 2)))).symm)
  rw [tHd_eq (prm x1 x2 x3 x4 x5 x6 x7 x8 x9 x10 x11) (toks x0) t.val (tok t (y 2)) (y 2) rfl]

theorem arr17 : (dats m 0 c).arrAt 17 cfg0.N = val_main_v199 (F := Ideal) x0 x1 x2 x3 := by
  refine (dats m 0 c).arrAt_eq_of_covers 17 _ (by decide +kernel) fun t hf y => ?_
  refine Eq.trans (b := (dats m 0 c).after 17 t y) rfl ?_
  rw [after0_17, eq_ix2 (n0 := 256) (n1 := 512) y]
  refine ((held m c x0 x1 x2 x3 x4 x5 x6 x7 x8 x9 x10 x11 H t.val t.isLt).p (y 0) (y 1)).trans (Eq.trans ?_
    ((congrArg (val_main_v199 (F := Ideal) x0 x1 x2 x3) (emb17 t (y 0) (y 1))).trans (v199_at x0 x1 x2 x3 x4 x5 x6 x7 x8 x9 x10 x11 (tok t (y 0)) (y 1))).symm)
  rw [tP_eq (prm x1 x2 x3 x4 x5 x6 x7 x8 x9 x10 x11) (toks x0) t.val (tok t (y 0)) (y 0) rfl]

theorem arr18 : (dats m 0 c).arrAt 18 cfg0.N = val_main_v205 (F := Ideal) x0 x1 x2 x3 x4 x5 x6 x7 x8 x9 x10 := by
  refine (dats m 0 c).arrAt_eq_of_covers 18 _ (by decide +kernel) fun t hf y => ?_
  refine Eq.trans (b := (dats m 0 c).after 18 t y) rfl ?_
  rw [after0_18, eq_ix3 (n0 := 4) (n1 := 256) (n2 := 256) y]
  refine ((held m c x0 x1 x2 x3 x4 x5 x6 x7 x8 x9 x10 x11 H t.val t.isLt).yc (y 0) (y 1) (y 2)).trans (Eq.trans ?_
    ((congrArg (val_main_v205 (F := Ideal) x0 x1 x2 x3 x4 x5 x6 x7 x8 x9 x10) (emb18 t (y 0) (y 1) (y 2))).trans (v205_at x0 x1 x2 x3 x4 x5 x6 x7 x8 x9 x10 x11 (y 0) (y 1) (tok t (y 2)))).symm)
  rw [tYc_eq (prm x1 x2 x3 x4 x5 x6 x7 x8 x9 x10 x11) (toks x0) t.val (tok t (y 2)) (y 2) rfl]

theorem arr19 : (dats m 0 c).arrAt 19 cfg0.N = val_main_v192 (F := Ideal) x0 x1 x2 x3 x4 x5 x6 x7 x8 x9 x10 x11 := by
  refine (dats m 0 c).arrAt_eq_of_covers 19 _ (by decide +kernel) fun t hf y => ?_
  refine Eq.trans (b := (dats m 0 c).after 19 t y) rfl ?_
  rw [after0_19, eq_ix2 (n0 := 256) (n1 := 1024) y]
  refine ((held m c x0 x1 x2 x3 x4 x5 x6 x7 x8 x9 x10 x11 H t.val t.isLt).y (y 0) (y 1)).trans (Eq.trans ?_
    ((congrArg (val_main_v192 (F := Ideal) x0 x1 x2 x3 x4 x5 x6 x7 x8 x9 x10 x11) (emb19 t (y 0) (y 1))).trans (v192_at x0 x1 x2 x3 x4 x5 x6 x7 x8 x9 x10 x11 (tok t (y 0)) (y 1))).symm)
  rw [tYc_eq (prm x1 x2 x3 x4 x5 x6 x7 x8 x9 x10 x11) (toks x0) t.val (tok t (y 0)) (y 0) rfl]

theorem arr20 : (dats m 0 c).arrAt 20 cfg0.N = val_main_v195 (F := Ideal) x0 x1 x2 x3 x4 x5 x6 x7 x8 x9 x10 x11 := by
  refine (dats m 0 c).arrAt_eq_of_covers 20 _ (by decide +kernel) fun t hf y => ?_
  refine Eq.trans (b := (dats m 0 c).after 20 t y) rfl ?_
  rw [after0_20, eq_ix2 (n0 := 256) (n1 := 1024) y]
  refine ((held m c x0 x1 x2 x3 x4 x5 x6 x7 x8 x9 x10 x11 H t.val t.isLt).x1 (y 0) (y 1)).trans (Eq.trans ?_
    ((congrArg (val_main_v195 (F := Ideal) x0 x1 x2 x3 x4 x5 x6 x7 x8 x9 x10 x11) (emb20 t (y 0) (y 1))).trans (v195_at x0 x1 x2 x3 x4 x5 x6 x7 x8 x9 x10 x11 (tok t (y 0)) (y 1))).symm)
  rw [tYc_eq (prm x1 x2 x3 x4 x5 x6 x7 x8 x9 x10 x11) (toks x0) t.val (tok t (y 0)) (y 0) rfl]

end

end Cert.Fwd

end
-- ==== Proof.FwdClaims.lean ====
/- The claims about the mixer's forward call: its frames, and that over the extended reals its nine results are the reference's,
   whatever the arguments hold. -/
module

public import proofs.«01_k».proof.Defs
public import proofs.«01_k».proof.Proof.FwdArrays
public import proofs.«01_k».proof.Proof.Gen.KernelFwd.Frame
public import proofs.«01_k».proof.Proof.Gen.KernelFwdIdeal.Value
public import proofs.«01_k».proof.Proof.Gen.ReferenceFwdIdeal.Run
public import proofs.«01_k».proof.Proof.Gen.ReferenceFwdIdeal.Read
public import Idealize.ShloMosaic.Adequacy
public import Idealize.ShloMosaic.Init
public import Idealize.ShloMosaic.Lib.Quiescent

@[expose] public section

set_option maxRecDepth 16384

noncomputable section

namespace Cert.Fwd

open Idealize.ShloMosaic Idealize.SL.Sem Cert.ReferenceFwdIdeal.Read

/-- Over the extended reals the forward call's nine results are the reference's. -/
theorem algebraic : algebraic_KernelFwdIdeal_ReferenceFwdIdeal (hKernelFwdIdeal := Cert.KernelFwdIdeal.Gen.facts)
    (hReferenceFwdIdeal := Cert.ReferenceFwdIdeal.Gen.facts) := by
  letI := Cert.KernelFwdIdeal.Gen.facts
  letI := Cert.ReferenceFwdIdeal.Gen.facts
  intro m g m' g' _ hagree
  refine ⟨_, _, _, _, _, _, _, _, _, Cert.KernelFwdIdeal.Value.run_blocks m g, ?_⟩
  refine (θ_run Cert.ReferenceFwdIdeal.defs _ _).mono (fun r h c => ?_) (Cert.ReferenceFwdIdeal.Value.run (F := Ideal) m' g')
  obtain ⟨e0, e1, e2, e3, e4, e5, e6, e7, e8, e9, e10, e11⟩ := hagree c
  have H := Given.mk (m := m) (c := c) e0.symm e1.symm e2.symm e3.symm e4.symm e5.symm e6.symm e7.symm e8.symm e9.symm e10.symm e11.symm
  obtain ⟨r0, r1, r2, r3, r4, r5, r6, r7, r8, rest⟩ := h c
  exact ⟨r0.trans ((val_main_v197_eq _).trans (arr12 (H := H) ..).symm), r1.trans ((val_main_v201_eq _).trans (arr13 (H := H) ..).symm),
    r2.trans ((val_main_v60_eq _).trans (arr14 (H := H) ..).symm), r3.trans ((val_main_v75_eq _).trans (arr15 (H := H) ..).symm),
    r4.trans ((val_main_v203_eq _).trans (arr16 (H := H) ..).symm), r5.trans ((val_main_v199_eq _).trans (arr17 (H := H) ..).symm),
    r6.trans ((val_main_v205_eq _).trans (arr18 (H := H) ..).symm), r7.trans ((val_main_v192_eq _).trans (arr19 (H := H) ..).symm),
    r8.trans ((val_main_v195_eq _).trans (arr20 (H := H) ..).symm), rest⟩

/-- The reference's frame: its run keeps the arguments, and it declares no semaphore. -/
theorem reference_frame : quiescent_ReferenceFwdIdeal (hReferenceFwdIdeal := Cert.ReferenceFwdIdeal.Gen.facts) := fun m ρ _ =>
  letI := Cert.ReferenceFwdIdeal.Gen.facts
  (θ_run Cert.ReferenceFwdIdeal.defs _ _).mono (fun r h => ⟨fun c => (h c).2.2.2.2.2.2.2.2.2,
      Idealize.ShloMosaic.sem_eq_zero_of_no_sems (by decide) r.2⟩)
    (Cert.ReferenceFwdIdeal.Value.run (F := Ideal) m ρ)

theorem frame : quiescent_KernelFwd (hKernelFwd := Cert.KernelFwd.Gen.facts) := fun m ρ _ => Cert.KernelFwd.Gen.frame m ρ

theorem ideal_frame : quiescent_KernelFwdIdeal (hKernelFwdIdeal := Cert.KernelFwdIdeal.Gen.facts) := fun m ρ _ => Cert.KernelFwdIdeal.Gen.frame m ρ

end Cert.Fwd

end
-- ==== Proof.Tile.lean ====
/- The kernel's values on one tile of 256 tokens: on finite arguments, each value it computes is the real number of the
   row-wise formulas at that row. -/
module

public import proofs.«01_k».proof.Proof.Spec
public import proofs.«01_k».proof.Proof.Gen.KernelIdeal.Skeleton
public import Idealize.ShloMosaic.Lib.Pointwise

@[expose] public section

set_option maxRecDepth 16384

noncomputable section

namespace Cert.Ffn

open Idealize.ShloMosaic Cert.KernelIdeal Cert.KernelIdeal.Gen

theorem up_ms (x : Fin 1024 → ℝ) : Ideal.rsqrt ((ms x : ℝ) : EReal) = ((rs x : ℝ) : EReal) := up_rsqrt _ (ms_pos x)

/-- `v` is the real array `X`, entry by entry. -/
abbrev Is (m n : ℕ) (v : (⟨2, ![m, n]⟩ : Shape).Idx → EReal) (X : Fin m → Fin n → ℝ) : Prop :=
  ∀ p j, v (ix2 p j) = ((X p j : ℝ) : EReal)
/-- `v` is the real row `X` at each of its rows. -/
abbrev IsRow (n : ℕ) (v : (⟨2, ![1, n]⟩ : Shape).Idx → EReal) (X : Fin n → ℝ) : Prop :=
  ∀ p j, v (ix2 p j) = ((X j : ℝ) : EReal)

section
variable (q : Prm) (x tg : Fin 256 → Fin 1024 → ℝ)
include q x tg

theorem k4_at (v3 : Vec Ideal S256x1024 .f32) (hv3 : Is 256 1024 v3 x) :
    Is 256 1 (k0_pay4 (F := Ideal) v3) fun p _ => rs (x p) := by
  intro p j
  pointwise [k0_pay4]
  simp only [hv3, word_1024, word_eps, word_one, word_half, word_inv1024, up_mul, up_sum, up_div_1024, up_add, up_sub, up_logistic, up_rs, up_ms]
  try rfl

theorem k5_at (v3 : Vec Ideal S256x1024 .f32) (hv3 : Is 256 1024 v3 x) :
    Is 256 1024 (k0_pay5 (F := Ideal) v3) fun p j => x p j * rs (x p) := by
  intro p j
  pointwise [k0_pay5]
  simp only [hv3, k4_at q x tg v3 hv3, word_1024, word_eps, word_one, word_half, word_inv1024, up_mul, up_sum, up_div_1024, up_add, up_sub, up_logistic, up_rs, up_ms]
  try rfl

theorem k6_at (v3 : Vec Ideal S256x1024 .f32) (hv3 : Is 256 1024 v3 x) (v4 : Vec Ideal S1x1024 .f32) (hv4 : IsRow 1024 v4 q.sh) (v5 : Vec Ideal S1x1024 .f32) (hv5 : IsRow 1024 v5 q.sc) (v7 : Vec Ideal S1x1024 .f32) (hv7 : IsRow 1024 v7 q.g2) :
    Is 256 1024 (k0_pay6 (F := Ideal) v3 v4 v5 v7) fun p => q.h (x p) := by
  intro p j
  pointwise [k0_pay6]
  simp only [hv3, hv4, hv5, hv7, k5_at q x tg v3 hv3, word_1024, word_eps, word_one, word_half, word_inv1024, up_mul, up_sum, up_div_1024, up_add, up_sub, up_logistic, up_rs, up_ms]
  try rfl

theorem k7_at (v3 : Vec Ideal S256x1024 .f32) (hv3 : Is 256 1024 v3 x) (v4 : Vec Ideal S1x1024 .f32) (hv4 : IsRow 1024 v4 q.sh) (v5 : Vec Ideal S1x1024 .f32) (hv5 : IsRow 1024 v5 q.sc) (v7 : Vec Ideal S1x1024 .f32) (hv7 : IsRow 1024 v7 q.g2) (v28 : Vec Ideal S2816x1024 .bf16) (hv28 : Is 2816 1024 v28 q.wg) :
    Is 256 2816 (k0_pay7 (F := Ideal) v3 v4 v5 v7 v28) fun p => q.gate (x p) := by
  intro p j
  pointwise [k0_pay7]
  simp only [hv3, hv4, hv5, hv7, hv28, k6_at q x tg v3 hv3 v4 hv4 v5 hv5 v7 hv7, word_1024, word_eps, word_one, word_half, word_inv1024, up_mul, up_sum, up_div_1024, up_add, up_sub, up_logistic, up_rs, up_ms]
  try rfl

theorem k8_at (v3 : Vec Ideal S256x1024 .f32) (hv3 : Is 256 1024 v3 x) (v4 : Vec Ideal S1x1024 .f32) (hv4 : IsRow 1024 v4 q.sh) (v5 : Vec Ideal S1x1024 .f32) (hv5 : IsRow 1024 v5 q.sc) (v7 : Vec Ideal S1x1024 .f32) (hv7 : IsRow 1024 v7 q.g2) (v30 : Vec Ideal S2816x1024 .bf16) (hv30 : Is 2816 1024 v30 q.wu) :
    Is 256 2816 (k0_pay8 (F := Ideal) v3 v4 v5 v7 v30) fun p => q.up (x p) := by
  intro p j
  pointwise [k0_pay8]
  simp only [hv3, hv4, hv5, hv7, hv30, k6_at q x tg v3 hv3 v4 hv4 v5 hv5 v7 hv7, word_1024, word_eps, word_one, word_half, word_inv1024, up_mul, up_sum, up_div_1024, up_add, up_sub, up_logistic, up_rs, up_ms]
  try rfl

theorem k9_at (v3 : Vec Ideal S256x1024 .f32) (hv3 : Is 256 1024 v3 x) (v4 : Vec Ideal S1x1024 .f32) (hv4 : IsRow 1024 v4 q.sh) (v5 : Vec Ideal S1x1024 .f32) (hv5 : IsRow 1024 v5 q.sc) (v7 : Vec Ideal S1x1024 .f32) (hv7 : IsRow 1024 v7 q.g2) (v28 : Vec Ideal S2816x1024 .bf16) (hv28 : Is 2816 1024 v28 q.wg) :
    Is 256 2816 (k0_pay9 (F := Ideal) v3 v4 v5 v7 v28) fun p k => sig (q.gate (x p) k) := by
  intro p j
  pointwise [k0_pay9]
  simp only [hv3, hv4, hv5, hv7, hv28, k7_at q x tg v3 hv3 v4 hv4 v5 hv5 v7 hv7 v28 hv28, word_1024, word_eps, word_one, word_half, word_inv1024, up_mul, up_sum, up_div_1024, up_add, up_sub, up_logistic, up_rs, up_ms]
  try rfl

theorem k10_at (v29 : FVec Ideal S256x2816 .f32) (hv29 : Is 256 2816 v29 fun p => q.gate (x p)) (v31 : FVec Ideal S256x2816 .f32) (hv31 : Is 256 2816 v31 fun p => q.up (x p)) (v32 : FVec Ideal S256x2816 .f32) (hv32 : Is 256 2816 v32 fun p k => sig (q.gate (x p) k)) :
    Is 256 2816 (k0_pay10 (F := Ideal) v29 v31 v32) fun p => q.a (x p) := by
  intro p j
  pointwise [k0_pay10]
  simp only [hv29, hv31, hv32, word_1024, word_eps, word_one, word_half, word_inv1024, up_mul, up_sum, up_div_1024, up_add, up_sub, up_logistic, up_rs, up_ms]
  try rfl

theorem k23_at (v35 : FVec Ideal S256x2816 .bf16) (hv35 : Is 256 2816 v35 fun p => q.a (x p)) (v91 : Vec Ideal S2816x1024 .bf16) (hv91 : Is 2816 1024 v91 q.wd) :
    Is 256 1024 (k0_pay23 (F := Ideal) v35 v91) fun p => q.f (x p) := by
  intro p j
  pointwise [k0_pay23]
  simp only [hv35, hv91, word_1024, word_eps, word_one, word_half, word_inv1024, up_mul, up_sum, up_div_1024, up_add, up_sub, up_logistic, up_rs, up_ms]
  try rfl

theorem k24_at (v3 : Vec Ideal S256x1024 .f32) (hv3 : Is 256 1024 v3 x) (v6 : Vec Ideal S1x1024 .f32) (hv6 : IsRow 1024 v6 q.gt) (v35 : FVec Ideal S256x2816 .bf16) (hv35 : Is 256 2816 v35 fun p => q.a (x p)) (v91 : Vec Ideal S2816x1024 .bf16) (hv91 : Is 2816 1024 v91 q.wd) :
    Is 256 1024 (k0_pay24 (F := Ideal) v3 v6 v35 v91) fun p => q.y (x p) := by
  intro p j
  pointwise [k0_pay24]
  simp only [hv3, hv6, hv35, hv91, k23_at q x tg v35 hv35 v91 hv91, word_1024, word_eps, word_one, word_half, word_inv1024, up_mul, up_sum, up_div_1024, up_add, up_sub, up_logistic, up_rs, up_ms]
  try rfl

theorem k25_at (v3 : Vec Ideal S256x1024 .f32) (hv3 : Is 256 1024 v3 x) (v6 : Vec Ideal S1x1024 .f32) (hv6 : IsRow 1024 v6 q.gt) (v35 : FVec Ideal S256x2816 .bf16) (hv35 : Is 256 2816 v35 fun p => q.a (x p)) (v91 : Vec Ideal S2816x1024 .bf16) (hv91 : Is 2816 1024 v91 q.wd) :
    Is 256 1 (k0_pay25 (F := Ideal) v3 v6 v35 v91) fun p _ => ms (q.y (x p)) := by
  intro p j
  pointwise [k0_pay25]
  simp only [hv3, hv6, hv35, hv91, k24_at q x tg v3 hv3 v6 hv6 v35 hv35 v91 hv91, word_1024, word_eps, word_one, word_half, word_inv1024, up_mul, up_sum, up_div_1024, up_add, up_sub, up_logistic, up_rs, up_ms]
  try rfl

theorem k26_at (v102 : FVec Ideal S256x1 .f32) (hv102 : Is 256 1 v102 fun p _ => ms (q.y (x p))) :
    Is 256 1 (k0_pay26 (F := Ideal) v102) fun p _ => rs (q.y (x p)) := by
  intro p j
  pointwise [k0_pay26]
  simp only [hv102, word_1024, word_eps, word_one, word_half, word_inv1024, up_mul, up_sum, up_div_1024, up_add, up_sub, up_logistic, up_rs, up_ms]
  try rfl

theorem k27_at (v95 : FVec Ideal S256x1024 .f32) (hv95 : Is 256 1024 v95 fun p => q.y (x p)) (v102 : FVec Ideal S256x1 .f32) (hv102 : Is 256 1 v102 fun p _ => ms (q.y (x p))) :
    Is 256 1024 (k0_pay27 (F := Ideal) v95 v102) fun p => q.nf (x p) := by
  intro p j
  pointwise [k0_pay27]
  simp only [hv95, hv102, k26_at q x tg v102 hv102, word_1024, word_eps, word_one, word_half, word_inv1024, up_mul, up_sum, up_div_1024, up_add, up_sub, up_logistic, up_rs, up_ms]
  try rfl

theorem k28_at (v95 : FVec Ideal S256x1024 .f32) (hv95 : Is 256 1024 v95 fun p => q.y (x p)) (v102 : FVec Ideal S256x1 .f32) (hv102 : Is 256 1 v102 fun p _ => ms (q.y (x p))) (v106 : Vec Ideal S1x1024 .f32) (hv106 : IsRow 1024 v106 q.gf) (v109 : Vec Ideal S256x1024 .f32) (hv109 : Is 256 1024 v109 tg) :
    Is 256 1024 (k0_pay28 (F := Ideal) v95 v102 v106 v109) fun p => q.err (x p) (tg p) := by
  intro p j
  pointwise [k0_pay28]
  simp only [hv95, hv102, hv106, hv109, k27_at q x tg v95 hv95 v102 hv102, word_1024, word_eps, word_one, word_half, word_inv1024, up_mul, up_sum, up_div_1024, up_add, up_sub, up_logistic, up_rs, up_ms]
  try rfl

theorem k29_at (v95 : FVec Ideal S256x1024 .f32) (hv95 : Is 256 1024 v95 fun p => q.y (x p)) (v102 : FVec Ideal S256x1 .f32) (hv102 : Is 256 1 v102 fun p _ => ms (q.y (x p))) (v106 : Vec Ideal S1x1024 .f32) (hv106 : IsRow 1024 v106 q.gf) (v109 : Vec Ideal S256x1024 .f32) (hv109 : Is 256 1024 v109 tg) :
    Is 1 1 (k0_pay29 (F := Ideal) v95 v102 v106 v109) fun _ _ => 1 / 2 * (∑ p, ∑ j, q.err (x p) (tg p) j * q.err (x p) (tg p) j) * (1 / 1024) := by
  intro p j
  pointwise [k0_pay29]
  simp only [hv95, hv102, hv106, hv109, k28_at q x tg v95 hv95 v102 hv102 v106 hv106 v109 hv109, word_1024, word_eps, word_one, word_half, word_inv1024, up_mul, up_sum, up_div_1024, up_add, up_sub, up_logistic, up_rs, up_ms]
  try rfl

theorem k30_at (v95 : FVec Ideal S256x1024 .f32) (hv95 : Is 256 1024 v95 fun p => q.y (x p)) (v102 : FVec Ideal S256x1 .f32) (hv102 : Is 256 1 v102 fun p _ => ms (q.y (x p))) (v106 : Vec Ideal S1x1024 .f32) (hv106 : IsRow 1024 v106 q.gf) (v109 : Vec Ideal S256x1024 .f32) (hv109 : Is 256 1024 v109 tg) :
    Is 256 1024 (k0_pay30 (F := Ideal) v95 v102 v106 v109) fun p => q.dout (x p) (tg p) := by
  intro p j
  pointwise [k0_pay30]
  simp only [hv95, hv102, hv106, hv109, k28_at q x tg v95 hv95 v102 hv102 v106 hv106 v109 hv109, word_1024, word_eps, word_one, word_half, word_inv1024, up_mul, up_sum, up_div_1024, up_add, up_sub, up_logistic, up_rs, up_ms]
  try rfl

theorem k31_at (v95 : FVec Ideal S256x1024 .f32) (hv95 : Is 256 1024 v95 fun p => q.y (x p)) (v102 : FVec Ideal S256x1 .f32) (hv102 : Is 256 1 v102 fun p _ => ms (q.y (x p))) (v106 : Vec Ideal S1x1024 .f32) (hv106 : IsRow 1024 v106 q.gf) (v109 : Vec Ideal S256x1024 .f32) (hv109 : Is 256 1024 v109 tg) :
    Is 256 1024 (k0_pay31 (F := Ideal) v95 v102 v106 v109) fun p => q.dy (x p) (tg p) := by
  intro p j
  pointwise [k0_pay31]
  simp only [hv95, hv102, hv106, hv109, k26_at q x tg v102 hv102, k27_at q x tg v95 hv95 v102 hv102, k30_at q x tg v95 hv95 v102 hv102 v106 hv106 v109 hv109, word_1024, word_eps, word_one, word_half, word_inv1024, up_mul, up_sum, up_div_1024, up_add, up_sub, up_logistic, up_rs, up_ms]
  try rfl

theorem k32_at (v6 : Vec Ideal S1x1024 .f32) (hv6 : IsRow 1024 v6 q.gt) (v95 : FVec Ideal S256x1024 .f32) (hv95 : Is 256 1024 v95 fun p => q.y (x p)) (v102 : FVec Ideal S256x1 .f32) (hv102 : Is 256 1 v102 fun p _ => ms (q.y (x p))) (v106 : Vec Ideal S1x1024 .f32) (hv106 : IsRow 1024 v106 q.gf) (v109 : Vec Ideal S256x1024 .f32) (hv109 : Is 256 1024 v109 tg) :
    Is 256 1024 (k0_pay32 (F := Ideal) v6 v95 v102 v106 v109) fun p => q.df (x p) (tg p) := by
  intro p j
  pointwise [k0_pay32]
  simp only [hv6, hv95, hv102, hv106, hv109, k31_at q x tg v95 hv95 v102 hv102 v106 hv106 v109 hv109, word_1024, word_eps, word_one, word_half, word_inv1024, up_mul, up_sum, up_div_1024, up_add, up_sub, up_logistic, up_rs, up_ms]
  try rfl

theorem k33_at (v6 : Vec Ideal S1x1024 .f32) (hv6 : IsRow 1024 v6 q.gt) (v95 : FVec Ideal S256x1024 .f32) (hv95 : Is 256 1024 v95 fun p => q.y (x p)) (v102 : FVec Ideal S256x1 .f32) (hv102 : Is 256 1 v102 fun p _ => ms (q.y (x p))) (v106 : Vec Ideal S1x1024 .f32) (hv106 : IsRow 1024 v106 q.gf) (v109 : Vec Ideal S256x1024 .f32) (hv109 : Is 256 1024 v109 tg) (v138 : Vec Ideal S2816x1024 .bf16) (hv138 : Is 2816 1024 v138 q.wd) :
    Is 256 2816 (k0_pay33 (F := Ideal) v6 v95 v102 v106 v109 v138) fun p => q.da (x p) (tg p) := by
  intro p j
  pointwise [k0_pay33]
  simp only [hv6, hv95, hv102, hv106, hv109, hv138, k32_at q x tg v6 hv6 v95 hv95 v102 hv102 v106 hv106 v109 hv109, word_1024, word_eps, word_one, word_half, word_inv1024, up_mul, up_sum, up_div_1024, up_add, up_sub, up_logistic, up_rs, up_ms]
  try rfl

theorem k34_at (v29 : FVec Ideal S256x2816 .f32) (hv29 : Is 256 2816 v29 fun p => q.gate (x p)) :
    Is 256 2816 (k0_pay34 (F := Ideal) v29) fun p k => sig (q.gate (x p) k) := by
  intro p j
  pointwise [k0_pay34]
  simp only [hv29, word_1024, word_eps, word_one, word_half, word_inv1024, up_mul, up_sum, up_div_1024, up_add, up_sub, up_logistic, up_rs, up_ms]
  try rfl

theorem k35_at (v6 : Vec Ideal S1x1024 .f32) (hv6 : IsRow 1024 v6 q.gt) (v31 : FVec Ideal S256x2816 .f32) (hv31 : Is 256 2816 v31 fun p => q.up (x p)) (v95 : FVec Ideal S256x1024 .f32) (hv95 : Is 256 1024 v95 fun p => q.y (x p)) (v102 : FVec Ideal S256x1 .f32) (hv102 : Is 256 1 v102 fun p _ => ms (q.y (x p))) (v106 : Vec Ideal S1x1024 .f32) (hv106 : IsRow 1024 v106 q.gf) (v109 : Vec Ideal S256x1024 .f32) (hv109 : Is 256 1024 v109 tg) (v138 : Vec Ideal S2816x1024 .bf16) (hv138 : Is 2816 1024 v138 q.wd) :
    Is 256 2816 (k0_pay35 (F := Ideal) v6 v31 v95 v102 v106 v109 v138) fun p k => q.da (x p) (tg p) k * q.up (x p) k := by
  intro p j
  pointwise [k0_pay35]
  simp only [hv6, hv31, hv95, hv102, hv106, hv109, hv138, k33_at q x tg v6 hv6 v95 hv95 v102 hv102 v106 hv106 v109 hv109 v138 hv138, word_1024, word_eps, word_one, word_half, word_inv1024, up_mul, up_sum, up_div_1024, up_add, up_sub, up_logistic, up_rs, up_ms]
  try rfl

theorem k36_at (v29 : FVec Ideal S256x2816 .f32) (hv29 : Is 256 2816 v29 fun p => q.gate (x p)) :
    Is 256 2816 (k0_pay36 (F := Ideal) v29) fun p k => q.gate (x p) k * (1 - sig (q.gate (x p) k)) := by
  intro p j
  pointwise [k0_pay36]
  simp only [hv29, k34_at q x tg v29 hv29, word_1024, word_eps, word_one, word_half, word_inv1024, up_mul, up_sum, up_div_1024, up_add, up_sub, up_logistic, up_rs, up_ms]
  try rfl

theorem k37_at (v140 : FVec Ideal S256x2816 .f32) (hv140 : Is 256 2816 v140 fun p k => sig (q.gate (x p) k)) (v141 : FVec Ideal S256x2816 .f32) (hv141 : Is 256 2816 v141 fun p k => q.da (x p) (tg p) k * q.up (x p) k) (v144 : FVec Ideal S256x2816 .f32) (hv144 : Is 256 2816 v144 fun p k => q.gate (x p) k * (1 - sig (q.gate (x p) k))) :
    Is 256 2816 (k0_pay37 (F := Ideal) v140 v141 v144) fun p => q.dg (x p) (tg p) := by
  intro p j
  pointwise [k0_pay37]
  simp only [hv140, hv141, hv144, word_1024, word_eps, word_one, word_half, word_inv1024, up_mul, up_sum, up_div_1024, up_add, up_sub, up_logistic, up_rs, up_ms]
  try rfl

theorem k38_at (v29 : FVec Ideal S256x2816 .f32) (hv29 : Is 256 2816 v29 fun p => q.gate (x p)) (v139 : FVec Ideal S256x2816 .f32) (hv139 : Is 256 2816 v139 fun p => q.da (x p) (tg p)) (v140 : FVec Ideal S256x2816 .f32) (hv140 : Is 256 2816 v140 fun p k => sig (q.gate (x p) k)) :
    Is 256 2816 (k0_pay38 (F := Ideal) v29 v139 v140) fun p => q.du (x p) (tg p) := by
  intro p j
  pointwise [k0_pay38]
  simp only [hv29, hv139, hv140, word_1024, word_eps, word_one, word_half, word_inv1024, up_mul, up_sum, up_div_1024, up_add, up_sub, up_logistic, up_rs, up_ms]
  try rfl

theorem k63_at (v149 : FVec Ideal S256x2816 .bf16) (hv149 : Is 256 2816 v149 fun p => q.dg (x p) (tg p)) (v152 : FVec Ideal S256x2816 .bf16) (hv152 : Is 256 2816 v152 fun p => q.du (x p) (tg p)) (v263 : Vec Ideal S2816x1024 .bf16) (hv263 : Is 2816 1024 v263 q.wg) (v265 : Vec Ideal S2816x1024 .bf16) (hv265 : Is 2816 1024 v265 q.wu) :
    Is 256 1024 (k0_pay63 (F := Ideal) v149 v152 v263 v265) fun p => q.dh (x p) (tg p) := by
  intro p j
  pointwise [k0_pay63]
  simp only [hv149, hv152, hv263, hv265, word_1024, word_eps, word_one, word_half, word_inv1024, up_mul, up_sum, up_div_1024, up_add, up_sub, up_logistic, up_rs, up_ms]
  try rfl

theorem k64_at (v5 : Vec Ideal S1x1024 .f32) (hv5 : IsRow 1024 v5 q.sc) (v149 : FVec Ideal S256x2816 .bf16) (hv149 : Is 256 2816 v149 fun p => q.dg (x p) (tg p)) (v152 : FVec Ideal S256x2816 .bf16) (hv152 : Is 256 2816 v152 fun p => q.du (x p) (tg p)) (v263 : Vec Ideal S2816x1024 .bf16) (hv263 : Is 2816 1024 v263 q.wg) (v265 : Vec Ideal S2816x1024 .bf16) (hv265 : Is 2816 1024 v265 q.wu) :
    Is 256 1024 (k0_pay64 (F := Ideal) v5 v149 v152 v263 v265) fun p => q.dn (x p) (tg p) := by
  intro p j
  pointwise [k0_pay64]
  simp only [hv5, hv149, hv152, hv263, hv265, k63_at q x tg v149 hv149 v152 hv152 v263 hv263 v265 hv265, word_1024, word_eps, word_one, word_half, word_inv1024, up_mul, up_sum, up_div_1024, up_add, up_sub, up_logistic, up_rs, up_ms]
  try rfl

theorem k65_at (v5 : Vec Ideal S1x1024 .f32) (hv5 : IsRow 1024 v5 q.sc) (v7 : Vec Ideal S1x1024 .f32) (hv7 : IsRow 1024 v7 q.g2) (v15 : FVec Ideal S256x1 .f32) (hv15 : Is 256 1 v15 fun p _ => rs (x p)) (v17 : FVec Ideal S256x1024 .f32) (hv17 : Is 256 1024 v17 fun p j => x p j * rs (x p)) (v133 : FVec Ideal S256x1024 .f32) (hv133 : Is 256 1024 v133 fun p => q.dy (x p) (tg p)) (v149 : FVec Ideal S256x2816 .bf16) (hv149 : Is 256 2816 v149 fun p => q.dg (x p) (tg p)) (v152 : FVec Ideal S256x2816 .bf16) (hv152 : Is 256 2816 v152 fun p => q.du (x p) (tg p)) (v263 : Vec Ideal S2816x1024 .bf16) (hv263 : Is 2816 1024 v263 q.wg) (v265 : Vec Ideal S2816x1024 .bf16) (hv265 : Is 2816 1024 v265 q.wu) :
    Is 256 1024 (k0_pay65 (F := Ideal) v5 v7 v15 v17 v133 v149 v152 v263 v265) fun p => q.dx (x p) (tg p) := by
  intro p j
  pointwise [k0_pay65]
  simp only [hv5, hv7, hv15, hv17, hv133, hv149, hv152, hv263, hv265, k64_at q x tg v5 hv5 v149 hv149 v152 hv152 v263 hv263 v265 hv265, word_1024, word_eps, word_one, word_half, word_inv1024, up_mul, up_sum, up_div_1024, up_add, up_sub, up_logistic, up_rs, up_ms]
  try rfl
end

/-! ## The column sums -/

section
variable (X : Fin 256 → Fin 1024 → ℝ) (r : Fin 1024 → ℝ)

theorem k66_at (v267 : Vec Ideal S256x1024 .f32) (hv267 : Is 256 1024 v267 X) (v286 : Vec Ideal S1x1024 .f32) (hv286 : IsRow 1024 v286 r) :
    IsRow 1024 (k0_pay66 (F := Ideal) v267 v286) fun j => r j + ∑ p, X p j := by
  intro p j
  pointwise [k0_pay66]
  simp only [hv267, hv286, up_mul, up_sum, up_add]

variable (g : Fin 1024 → ℝ) (Y : Fin 256 → Fin 1024 → ℝ)

theorem k67_at (v7 : Vec Ideal S1x1024 .f32) (hv7 : IsRow 1024 v7 g) (v17 : Vec Ideal S256x1024 .f32) (hv17 : Is 256 1024 v17 Y) (v267 : Vec Ideal S256x1024 .f32) (hv267 : Is 256 1024 v267 X) (v292 : Vec Ideal S1x1024 .f32) (hv292 : IsRow 1024 v292 r) :
    IsRow 1024 (k0_pay67 (F := Ideal) v7 v17 v267 v292) fun j => r j + ∑ p, X p j * (Y p j * g j) := by
  intro p j
  pointwise [k0_pay67]
  simp only [hv7, hv17, hv267, hv292, up_mul, up_sum, up_add]

theorem k68_at (v92 : Vec Ideal S256x1024 .f32) (hv92 : Is 256 1024 v92 Y) (v133 : Vec Ideal S256x1024 .f32) (hv133 : Is 256 1024 v133 X) (v301 : Vec Ideal S1x1024 .f32) (hv301 : IsRow 1024 v301 r) :
    IsRow 1024 (k0_pay68 (F := Ideal) v92 v133 v301) fun j => r j + ∑ p, X p j * Y p j := by
  intro p j
  pointwise [k0_pay68]
  simp only [hv92, hv133, hv301, up_mul, up_sum, up_add]

theorem k69_at (v17 : Vec Ideal S256x1024 .f32) (hv17 : Is 256 1024 v17 Y) (v271 : Vec Ideal S256x1024 .f32) (hv271 : Is 256 1024 v271 X) (v308 : Vec Ideal S1x1024 .f32) (hv308 : IsRow 1024 v308 r) :
    IsRow 1024 (k0_pay69 (F := Ideal) v17 v271 v308) fun j => r j + ∑ p, X p j * Y p j := by
  intro p j
  pointwise [k0_pay69]
  simp only [hv17, hv271, hv308, up_mul, up_sum, up_add]

theorem k1_at (v105 : Vec Ideal S256x1024 .f32) (hv105 : Is 256 1024 v105 Y) (v121 : Vec Ideal S256x1024 .f32) (hv121 : Is 256 1024 v121 X)
    (v315 : Vec Ideal S1x1024 .f32) (hv315 : IsRow 1024 v315 r) :
    IsRow 1024 (k0_pay1 (F := Ideal) (k0_pay70 v315) (k0_pay71 v105 v121)) fun j => r j + ∑ p, X p j * Y p j := by
  intro p j
  pointwise [k0_pay1, k0_pay70, k0_pay71]
  simp only [hv105, hv121, hv315, up_mul, up_sum, up_add]

theorem k2_at (v119 : FVec Ideal S1x1 .f32) (s : ℝ) (hv119 : Is 1 1 v119 fun _ _ => s) (v322 : Vec Ideal S1x1024 .f32) (hv322 : IsRow 1024 v322 r) :
    IsRow 1024 (k0_pay2 (F := Ideal) v119 v322) fun j => r j + s := by
  intro p j
  pointwise [k0_pay2]
  simp only [hv119, hv322, up_add]

end

theorem k3_at (i : Fin 8) (j : Fin 1024) : k0_pay3 (F := Ideal) (ix2 i j) = ((0 : ℝ) : EReal) := by
  pointwise [k0_pay3]
  try exact up_zero

/-! ## The hidden-unit chunks, turned -/

theorem k11_at (v29 : FVec Ideal S256x2816 .f32) (v31 : FVec Ideal S256x2816 .f32) (v32 : FVec Ideal S256x2816 .f32) (z : Fin 1) (r p : Fin 256) :
    k0_pay11 (F := Ideal) v29 v31 v32 (ix3 z r p) = k0_pay10 (F := Ideal) v29 v31 v32 (ix2 p ⟨0 + r.val, by omega⟩) := by
  pointwise [k0_pay11]
  try rfl

theorem k12_at (v29 : FVec Ideal S256x2816 .f32) (v31 : FVec Ideal S256x2816 .f32) (v32 : FVec Ideal S256x2816 .f32) (z : Fin 1) (r p : Fin 256) :
    k0_pay12 (F := Ideal) v29 v31 v32 (ix3 z r p) = k0_pay10 (F := Ideal) v29 v31 v32 (ix2 p ⟨256 + r.val, by omega⟩) := by
  pointwise [k0_pay12]
  try rfl

theorem k13_at (v29 : FVec Ideal S256x2816 .f32) (v31 : FVec Ideal S256x2816 .f32) (v32 : FVec Ideal S256x2816 .f32) (z : Fin 1) (r p : Fin 256) :
    k0_pay13 (F := Ideal) v29 v31 v32 (ix3 z r p) = k0_pay10 (F := Ideal) v29 v31 v32 (ix2 p ⟨512 + r.val, by omega⟩) := by
  pointwise [k0_pay13]
  try rfl

theorem k14_at (v29 : FVec Ideal S256x2816 .f32) (v31 : FVec Ideal S256x2816 .f32) (v32 : FVec Ideal S256x2816 .f32) (z : Fin 1) (r p : Fin 256) :
    k0_pay14 (F := Ideal) v29 v31 v32 (ix3 z r p) = k0_pay10 (F := Ideal) v29 v31 v32 (ix2 p ⟨768 + r.val, by omega⟩) := by
  pointwise [k0_pay14]
  try rfl

theorem k15_at (v29 : FVec Ideal S256x2816 .f32) (v31 : FVec Ideal S256x2816 .f32) (v32 : FVec Ideal S256x2816 .f32) (z : Fin 1) (r p : Fin 256) :
    k0_pay15 (F := Ideal) v29 v31 v32 (ix3 z r p) = k0_pay10 (F := Ideal) v29 v31 v32 (ix2 p ⟨1024 + r.val, by omega⟩) := by
  pointwise [k0_pay15]
  try rfl

theorem k16_at (v29 : FVec Ideal S256x2816 .f32) (v31 : FVec Ideal S256x2816 .f32) (v32 : FVec Ideal S256x2816 .f32) (z : Fin 1) (r p : Fin 256) :
    k0_pay16 (F := Ideal) v29 v31 v32 (ix3 z r p) = k0_pay10 (F := Ideal) v29 v31 v32 (ix2 p ⟨1280 + r.val, by omega⟩) := by
  pointwise [k0_pay16]
  try rfl

theorem k18_at (v29 : FVec Ideal S256x2816 .f32) (v31 : FVec Ideal S256x2816 .f32) (v32 : FVec Ideal S256x2816 .f32) (z : Fin 1) (r p : Fin 256) :
    k0_pay18 (F := Ideal) (k0_pay17 (F := Ideal) v29 v31 v32) (ix3 z r p) = k0_pay10 (F := Ideal) v29 v31 v32 (ix2 p ⟨1536 + r.val, by omega⟩) := by
  pointwise [k0_pay17, k0_pay18]
  try rfl

theorem k19_at (v35 : FVec Ideal S256x2816 .bf16) (z : Fin 1) (r p : Fin 256) :
    k0_pay19 (F := Ideal) v35 (ix3 z r p) = v35 (ix2 p ⟨1792 + r.val, by omega⟩) := by
  pointwise [k0_pay19]
  try rfl

theorem k20_at (v35 : FVec Ideal S256x2816 .bf16) (z : Fin 1) (r p : Fin 256) :
    k0_pay20 (F := Ideal) v35 (ix3 z r p) = v35 (ix2 p ⟨2048 + r.val, by omega⟩) := by
  pointwise [k0_pay20]
  try rfl

theorem k21_at (v35 : FVec Ideal S256x2816 .bf16) (z : Fin 1) (r p : Fin 256) :
    k0_pay21 (F := Ideal) v35 (ix3 z r p) = v35 (ix2 p ⟨2304 + r.val, by omega⟩) := by
  pointwise [k0_pay21]
  try rfl

theorem k22_at (v35 : FVec Ideal S256x2816 .bf16) (z : Fin 1) (r p : Fin 256) :
    k0_pay22 (F := Ideal) v35 (ix3 z r p) = v35 (ix2 p ⟨2560 + r.val, by omega⟩) := by
  pointwise [k0_pay22]
  try rfl

theorem k39_at (v140 : FVec Ideal S256x2816 .f32) (v141 : FVec Ideal S256x2816 .f32) (v144 : FVec Ideal S256x2816 .f32) (z : Fin 1) (r p : Fin 256) :
    k0_pay39 (F := Ideal) v140 v141 v144 (ix3 z r p) = k0_pay37 (F := Ideal) v140 v141 v144 (ix2 p ⟨0 + r.val, by omega⟩) := by
  pointwise [k0_pay39]
  try rfl

theorem k40_at (v140 : FVec Ideal S256x2816 .f32) (v141 : FVec Ideal S256x2816 .f32) (v144 : FVec Ideal S256x2816 .f32) (z : Fin 1) (r p : Fin 256) :
    k0_pay40 (F := Ideal) v140 v141 v144 (ix3 z r p) = k0_pay37 (F := Ideal) v140 v141 v144 (ix2 p ⟨256 + r.val, by omega⟩) := by
  pointwise [k0_pay40]
  try rfl

theorem k41_at (v140 : FVec Ideal S256x2816 .f32) (v141 : FVec Ideal S256x2816 .f32) (v144 : FVec Ideal S256x2816 .f32) (z : Fin 1) (r p : Fin 256) :
    k0_pay41 (F := Ideal) v140 v141 v144 (ix3 z r p) = k0_pay37 (F := Ideal) v140 v141 v144 (ix2 p ⟨512 + r.val, by omega⟩) := by
  pointwise [k0_pay41]
  try rfl

theorem k42_at (v140 : FVec Ideal S256x2816 .f32) (v141 : FVec Ideal S256x2816 .f32) (v144 : FVec Ideal S256x2816 .f32) (z : Fin 1) (r p : Fin 256) :
    k0_pay42 (F := Ideal) v140 v141 v144 (ix3 z r p) = k0_pay37 (F := Ideal) v140 v141 v144 (ix2 p ⟨768 + r.val, by omega⟩) := by
  pointwise [k0_pay42]
  try rfl

theorem k43_at (v140 : FVec Ideal S256x2816 .f32) (v141 : FVec Ideal S256x2816 .f32) (v144 : FVec Ideal S256x2816 .f32) (z : Fin 1) (r p : Fin 256) :
    k0_pay43 (F := Ideal) v140 v141 v144 (ix3 z r p) = k0_pay37 (F := Ideal) v140 v141 v144 (ix2 p ⟨1024 + r.val, by omega⟩) := by
  pointwise [k0_pay43]
  try rfl

theorem k45_at (v140 : FVec Ideal S256x2816 .f32) (v141 : FVec Ideal S256x2816 .f32) (v144 : FVec Ideal S256x2816 .f32) (z : Fin 1) (r p : Fin 256) :
    k0_pay45 (F := Ideal) (k0_pay44 (F := Ideal) v140 v141 v144) (ix3 z r p) = k0_pay37 (F := Ideal) v140 v141 v144 (ix2 p ⟨1280 + r.val, by omega⟩) := by
  pointwise [k0_pay44, k0_pay45]
  try rfl

theorem k46_at (v149 : FVec Ideal S256x2816 .bf16) (z : Fin 1) (r p : Fin 256) :
    k0_pay46 (F := Ideal) v149 (ix3 z r p) = v149 (ix2 p ⟨1536 + r.val, by omega⟩) := by
  pointwise [k0_pay46]
  try rfl

theorem k47_at (v149 : FVec Ideal S256x2816 .bf16) (z : Fin 1) (r p : Fin 256) :
    k0_pay47 (F := Ideal) v149 (ix3 z r p) = v149 (ix2 p ⟨1792 + r.val, by omega⟩) := by
  pointwise [k0_pay47]
  try rfl

theorem k48_at (v149 : FVec Ideal S256x2816 .bf16) (z : Fin 1) (r p : Fin 256) :
    k0_pay48 (F := Ideal) v149 (ix3 z r p) = v149 (ix2 p ⟨2048 + r.val, by omega⟩) := by
  pointwise [k0_pay48]
  try rfl

theorem k49_at (v149 : FVec Ideal S256x2816 .bf16) (z : Fin 1) (r p : Fin 256) :
    k0_pay49 (F := Ideal) v149 (ix3 z r p) = v149 (ix2 p ⟨2304 + r.val, by omega⟩) := by
  pointwise [k0_pay49]
  try rfl

theorem k50_at (v149 : FVec Ideal S256x2816 .bf16) (z : Fin 1) (r p : Fin 256) :
    k0_pay50 (F := Ideal) v149 (ix3 z r p) = v149 (ix2 p ⟨2560 + r.val, by omega⟩) := by
  pointwise [k0_pay50]
  try rfl

theorem k51_at (v152 : FVec Ideal S256x2816 .bf16) (z : Fin 1) (r p : Fin 256) :
    k0_pay51 (F := Ideal) v152 (ix3 z r p) = v152 (ix2 p ⟨0 + r.val, by omega⟩) := by
  pointwise [k0_pay51]
  try rfl

theorem k53_at (v152 : FVec Ideal S256x2816 .bf16) (z : Fin 1) (r p : Fin 256) :
    k0_pay53 (F := Ideal) (k0_pay52 (F := Ideal) v152) (ix3 z r p) = v152 (ix2 p ⟨256 + r.val, by omega⟩) := by
  pointwise [k0_pay52, k0_pay53]
  try rfl

theorem k54_at (v152 : FVec Ideal S256x2816 .bf16) (z : Fin 1) (r p : Fin 256) :
    k0_pay54 (F := Ideal) v152 (ix3 z r p) = v152 (ix2 p ⟨512 + r.val, by omega⟩) := by
  pointwise [k0_pay54]
  try rfl

theorem k55_at (v152 : FVec Ideal S256x2816 .bf16) (z : Fin 1) (r p : Fin 256) :
    k0_pay55 (F := Ideal) v152 (ix3 z r p) = v152 (ix2 p ⟨768 + r.val, by omega⟩) := by
  pointwise [k0_pay55]
  try rfl

theorem k56_at (v152 : FVec Ideal S256x2816 .bf16) (z : Fin 1) (r p : Fin 256) :
    k0_pay56 (F := Ideal) v152 (ix3 z r p) = v152 (ix2 p ⟨1024 + r.val, by omega⟩) := by
  pointwise [k0_pay56]
  try rfl

theorem k57_at (v152 : FVec Ideal S256x2816 .bf16) (z : Fin 1) (r p : Fin 256) :
    k0_pay57 (F := Ideal) v152 (ix3 z r p) = v152 (ix2 p ⟨1280 + r.val, by omega⟩) := by
  pointwise [k0_pay57]
  try rfl

theorem k58_at (v152 : FVec Ideal S256x2816 .bf16) (z : Fin 1) (r p : Fin 256) :
    k0_pay58 (F := Ideal) v152 (ix3 z r p) = v152 (ix2 p ⟨1536 + r.val, by omega⟩) := by
  pointwise [k0_pay58]
  try rfl

theorem k59_at (v152 : FVec Ideal S256x2816 .bf16) (z : Fin 1) (r p : Fin 256) :
    k0_pay59 (F := Ideal) v152 (ix3 z r p) = v152 (ix2 p ⟨1792 + r.val, by omega⟩) := by
  pointwise [k0_pay59]
  try rfl

theorem k60_at (v152 : FVec Ideal S256x2816 .bf16) (z : Fin 1) (r p : Fin 256) :
    k0_pay60 (F := Ideal) v152 (ix3 z r p) = v152 (ix2 p ⟨2048 + r.val, by omega⟩) := by
  pointwise [k0_pay60]
  try rfl

theorem k61_at (v152 : FVec Ideal S256x2816 .bf16) (z : Fin 1) (r p : Fin 256) :
    k0_pay61 (F := Ideal) v152 (ix3 z r p) = v152 (ix2 p ⟨2304 + r.val, by omega⟩) := by
  pointwise [k0_pay61]
  try rfl

theorem k62_at (v152 : FVec Ideal S256x2816 .bf16) (z : Fin 1) (r p : Fin 256) :
    k0_pay62 (F := Ideal) v152 (ix3 z r p) = v152 (ix2 p ⟨2560 + r.val, by omega⟩) := by
  pointwise [k0_pay62]
  try rfl

end Cert.Ffn

end
-- ==== Proof.MixTile.lean ====
/- The values of the mixer's backward body on one tile of 256 tokens: on finite arguments, each vector it computes is the real
   array of the row-wise formulas at those tokens. -/
module

public import proofs.«01_k».proof.Proof.MixRead
public import proofs.«01_k».proof.Proof.MixRef
public import proofs.«01_k».proof.Proof.Tile

@[expose] public section

set_option maxRecDepth 16384

noncomputable section

namespace Cert.Mix

open Idealize.ShloMosaic Cert.Ffn Cert.KernelMixIdeal Cert.KernelMixIdeal.Gen Cert.KernelMixIdeal.Body

/-- Token `p` of tile `it`. -/
def tk (it : Fin 8) (p : Fin 256) : Fin 2048 := ⟨256 * it.val + p.val, by omega⟩

theorem lane_val (g : Fin 4) (j : Fin 128) : (lane g j).val = 128 * g.val + j.val := by
  fin_cases g <;> simp [lane]

theorem c512_eq : (c512 : Ideal .f32) = ((512 : ℝ) : EReal) := word_512

/-- The loaded vectors hold tile `it` of the arrays of `q`. -/
structure Tile (q : Prm) (it : Fin 8) (l : Lds Ideal) : Prop where
  dx1 : Is 256 1024 l.dx1 fun p => q.d (tk it p)
  x : Is 256 1024 l.x fun p => q.x (tk it p)
  y : Is 256 1024 l.y fun p => q.y (tk it p)
  sc : IsRow 1024 l.sc q.sc
  gate : IsRow 1024 l.gate q.gt
  ua : Is 256 512 l.ua fun p => q.ua (tk it p)
  ug : Is 256 512 l.ug fun p j => q.u (tk it p) ⟨512 + j.val, by omega⟩
  hc : Is 256 512 l.hc fun p => q.hc (tk it p)
  halo : it.val ≠ 0 → Is 32 512 l.halo fun r j => pad (fun s => q.hc s j) 32 (256 * it.val + r.val)
  hd : Is 256 512 l.hd fun p => q.hd (tk it p)
  pb : ∀ g, Is 256 128 (l.pb g) fun p => q.p (tk it p) g
  g1 : IsRow 1024 l.g1 q.g1
  win : Is 1536 1024 l.win q.win
  dw : ∀ k, IsRow 512 (l.dw k) (q.dww ⟨k.val, by omega⟩)
  lng : IsRow 512 l.lng q.lng
  lnb : IsRow 512 l.lnb q.lnb
  wpw : Is 512 512 l.wpw q.wpw
  wg : ∀ (g : Fin 4) (z : Fin 1) (a b : Fin 128), l.wg g (ix3 z a b) = ((q.wg g a b : ℝ) : EReal)
  psc : ∀ g, IsRow 128 (l.psc g) fun j => q.psc (lane g j)
  wout : Is 1024 1024 l.wout q.wout
  ycb : ∀ (j : Fin 4) (z : Fin 1) (r p : Fin 256), l.ycb j (ix3 z r p) = ((q.yc (tk it p) ⟨256 * j.val + r.val, by omega⟩ : ℝ) : EReal)
  hsb : ∀ (j : Fin 2) (z : Fin 1) (r p : Fin 256), l.hsb j (ix3 z r p) = ((q.hs (tk it p) ⟨256 * j.val + r.val, by omega⟩ : ℝ) : EReal)

section
variable {q : Prm} {it : Fin 8} {l : Lds Ideal} (H : Tile q it l)
include H

theorem dyV_at  :
    Is 256 1024 (dyV l) fun p => q.dy (tk it p) := by
  intro p j
  pointwise [dyV, k0_pay13]
  simp only [H.dx1, H.gate, word_1024, word_512, word_eps, word_one, word_zero, c512_eq, up_zero_add, up_add_zero, up_mul, up_sum, up_div_1024, up_div_512, up_add, up_sub, up_logistic, up_rs, up_rl]
  try rfl

theorem dcatV_at  :
    Is 256 1024 (dcatV l) fun p => q.dyc (tk it p) := by
  intro p j
  pointwise [dcatV, k0_pay18]
  simp only [dyV_at H, H.wout, word_1024, word_512, word_eps, word_one, word_zero, c512_eq, up_zero_add, up_add_zero, up_mul, up_sum, up_div_1024, up_div_512, up_add, up_sub, up_logistic, up_rs, up_rl]
  try rfl

theorem p21_at  :
    Is 256 512 (k0_pay21 (k0_pay19 l.hd) (k0_pay20 l.hd)) fun p => dl (q.hd (tk it p)) := by
  intro p j
  pointwise [k0_pay21, k0_pay20, k0_pay19]
  simp only [H.hd, word_1024, word_512, word_eps, word_one, word_zero, c512_eq, up_zero_add, up_add_zero, up_mul, up_sum, up_div_1024, up_div_512, up_add, up_sub, up_logistic, up_rs, up_rl]
  try rfl

theorem rstdV_at  :
    Is 256 1 (rstdV l) fun p _ => rl (q.hd (tk it p)) := by
  intro p j
  pointwise [rstdV, k0_pay22]
  simp only [p21_at H, word_1024, word_512, word_eps, word_one, word_zero, c512_eq, up_zero_add, up_add_zero, up_mul, up_sum, up_div_1024, up_div_512, up_add, up_sub, up_logistic, up_rs, up_rl]
  try rfl

theorem p22_at  :
    Is 256 1 (k0_pay22 (k0_pay19 l.hd) (k0_pay20 l.hd)) fun p _ => rl (q.hd (tk it p)) := by
  intro p j
  pointwise [k0_pay22]
  simp only [p21_at H, word_1024, word_512, word_eps, word_one, word_zero, c512_eq, up_zero_add, up_add_zero, up_mul, up_sum, up_div_1024, up_div_512, up_add, up_sub, up_logistic, up_rs, up_rl]
  try rfl

theorem xhatV_at  :
    Is 256 512 (xhatV l) fun p => q.xh (tk it p) := by
  intro p j
  pointwise [xhatV, k0_pay23]
  simp only [p21_at H, p22_at H, word_1024, word_512, word_eps, word_one, word_zero, c512_eq, up_zero_add, up_add_zero, up_mul, up_sum, up_div_1024, up_div_512, up_add, up_sub, up_logistic, up_rs, up_rl]
  try rfl

theorem hlV_at  :
    Is 256 512 (hlV l) fun p => q.hl (tk it p) := by
  intro p j
  pointwise [hlV, k0_pay24, k0_pay23]
  simp only [p21_at H, p22_at H, H.lng, H.lnb, word_1024, word_512, word_eps, word_one, word_zero, c512_eq, up_zero_add, up_add_zero, up_mul, up_sum, up_div_1024, up_div_512, up_add, up_sub, up_logistic, up_rs, up_rl]
  try rfl

theorem p24_at : Is 256 512 (k0_pay24 (k0_pay19 l.hd) (k0_pay20 l.hd) l.lng l.lnb) fun p => q.hl (tk it p) := hlV_at H

theorem shV_at  :
    Is 256 512 (shV l) fun p j => sig (q.hl (tk it p) j) := by
  intro p j
  pointwise [shV, k0_pay25]
  simp only [p24_at H, word_1024, word_512, word_eps, word_one, word_zero, c512_eq, up_zero_add, up_add_zero, up_mul, up_sum, up_div_1024, up_div_512, up_add, up_sub, up_logistic, up_rs, up_rl]
  try rfl

theorem dycV_at  :
    Is 256 512 (dycV l) fun p j => q.dyc (tk it p) ⟨j.val, by omega⟩ := by
  intro p j
  pointwise [dycV, k0_pay26]
  simp only [dcatV_at H, word_1024, word_512, word_eps, word_one, word_zero, c512_eq, up_zero_add, up_add_zero, up_mul, up_sum, up_div_1024, up_div_512, up_add, up_sub, up_logistic, up_rs, up_rl]
  try rfl

theorem dhl_at  :
    Is 256 512 (k0_pay30 (hlV l) (shV l) (dycV l) l.wpw) fun p => q.dhl (tk it p) := by
  intro p j
  pointwise [k0_pay30]
  simp only [hlV_at H, shV_at H, dycV_at H, H.wpw, word_1024, word_512, word_eps, word_one, word_zero, c512_eq, up_zero_add, up_add_zero, up_mul, up_sum, up_div_1024, up_div_512, up_add, up_sub, up_logistic, up_rs, up_rl]
  try rfl

theorem dxh_at  :
    Is 256 512 (k0_pay33 l.lng (hlV l) (shV l) (dycV l) l.wpw) fun p => q.dxh (tk it p) := by
  intro p j
  pointwise [k0_pay33]
  simp only [dhl_at H, H.lng, word_1024, word_512, word_eps, word_one, word_zero, c512_eq, up_zero_add, up_add_zero, up_mul, up_sum, up_div_1024, up_div_512, up_add, up_sub, up_logistic, up_rs, up_rl]
  try rfl

theorem subV_at  :
    Is 256 512 (subV l) fun p j => q.dxh (tk it p) j - (∑ k, q.dxh (tk it p) k) / 512 := by
  intro p j
  pointwise [subV, k0_pay34]
  simp only [dxh_at H, word_1024, word_512, word_eps, word_one, word_zero, c512_eq, up_zero_add, up_add_zero, up_mul, up_sum, up_div_1024, up_div_512, up_add, up_sub, up_logistic, up_rs, up_rl]
  try rfl

theorem sumV_at  :
    Is 256 1 (sumV l) fun p _ => ∑ k, q.dxh (tk it p) k * q.xh (tk it p) k := by
  intro p j
  pointwise [sumV, k0_pay35]
  simp only [dxh_at H, xhatV_at H, word_1024, word_512, word_eps, word_one, word_zero, c512_eq, up_zero_add, up_add_zero, up_mul, up_sum, up_div_1024, up_div_512, up_add, up_sub, up_logistic, up_rs, up_rl]
  try rfl

theorem dhdV_at  :
    Is 256 512 (dhdV l) fun p => q.dhd (tk it p) := by
  intro p j
  pointwise [dhdV, k0_pay36]
  simp only [rstdV_at H, xhatV_at H, subV_at H, sumV_at H, word_1024, word_512, word_eps, word_one, word_zero, c512_eq, up_zero_add, up_add_zero, up_mul, up_sum, up_div_1024, up_div_512, up_add, up_sub, up_logistic, up_rs, up_rl]
  try rfl

theorem p36_at : Is 256 512 (k0_pay36 (rstdV l) (xhatV l) (subV l) (sumV l) c512) fun p => q.dhd (tk it p) := dhdV_at H

theorem dgV_at (g : Fin 4) :
    Is 256 128 (dgV l g) fun p j => q.dyc (tk it p) ⟨512 + (lane g j).val, by omega⟩ := by
  intro p j
  pointwise [dgV]
  simp only [dcatV_at H, word_1024, word_512, word_eps, word_one, word_zero, c512_eq, up_zero_add, up_add_zero, up_mul, up_sum, up_div_1024, up_div_512, up_add, up_sub, up_logistic, up_rs, up_rl]
  exact congrArg (fun i => ((q.dyc (tk it p) i : ℝ) : EReal)) (Fin.ext (by have := lane_val g j; show 512 + 128 * g.val + j.val = 512 + (lane g j).val; omega))

theorem dzV_at (g : Fin 4) :
    Is 256 128 (dzV l g) fun p => q.dz (tk it p) g := by
  intro p j
  pointwise [dzV]
  simp only [dgV_at H, H.psc, word_1024, word_512, word_eps, word_one, word_zero, c512_eq, up_zero_add, up_add_zero, up_mul, up_sum, up_div_1024, up_div_512, up_add, up_sub, up_logistic, up_rs, up_rl]
  try rfl

theorem wgV_at (g : Fin 4) :
    Is 128 128 (wgV l g) (q.wg g) := by
  intro p j
  pointwise [wgV]
  simp only [H.wg, word_1024, word_512, word_eps, word_one, word_zero, c512_eq, up_zero_add, up_add_zero, up_mul, up_sum, up_div_1024, up_div_512, up_add, up_sub, up_logistic, up_rs, up_rl]
  try rfl

theorem pV_at (g : Fin 4) :
    Is 256 128 (pV l g) fun p => q.p (tk it p) g := by
  intro p j
  pointwise [pV]
  simp only [H.pb, word_1024, word_512, word_eps, word_one, word_zero, c512_eq, up_zero_add, up_add_zero, up_mul, up_sum, up_div_1024, up_div_512, up_add, up_sub, up_logistic, up_rs, up_rl]
  try rfl

theorem dpV_at (g : Fin 4) :
    Is 256 128 (dpV l g) fun p => q.dp (tk it p) g := by
  intro p j
  pointwise [dpV]
  simp only [dzV_at H, wgV_at H, word_1024, word_512, word_eps, word_one, word_zero, c512_eq, up_zero_add, up_add_zero, up_mul, up_sum, up_div_1024, up_div_512, up_add, up_sub, up_logistic, up_rs, up_rl]
  try rfl

theorem scaleV_at (g : Fin 4) (old : Vec Ideal S1x128 .f32) (o : Fin 128 → ℝ) (ho : IsRow 128 old o) :
    IsRow 128 (scaleV l g old) fun j => o j + ∑ p, q.dyc (tk it p) ⟨512 + (lane g j).val, by omega⟩ * q.z (tk it p) g j := by
  intro p j
  pointwise [scaleV]
  simp only [dgV_at H, pV_at H, wgV_at H, ho, word_1024, word_512, word_eps, word_one, word_zero, c512_eq, up_zero_add, up_add_zero, up_mul, up_sum, up_div_1024, up_div_512, up_add, up_sub, up_logistic, up_rs, up_rl]
  try rfl

theorem wpoolV_at (g : Fin 4) (old : Vec Ideal S128x128 .f32) (o : Fin 128 → Fin 128 → ℝ) (ho : Is 128 128 old o) :
    Is 128 128 (wpoolV l g old) fun a j => o a j + ∑ p, q.p (tk it p) g a * q.dz (tk it p) g j := by
  intro p j
  pointwise [wpoolV]
  simp only [dzV_at H, pV_at H, ho, word_1024, word_512, word_eps, word_one, word_zero, c512_eq, up_zero_add, up_add_zero, up_mul, up_sum, up_div_1024, up_div_512, up_add, up_sub, up_logistic, up_rs, up_rl]
  try rfl

theorem wlastV_at (j : Fin 4) (old : Vec Ideal S256x1024 .f32) (o : Fin 256 → Fin 1024 → ℝ) (ho : Is 256 1024 old o) :
    Is 256 1024 (wlastV l old j) fun r k => o r k + ∑ p, q.yc (tk it p) ⟨256 * j.val + r.val, by omega⟩ * q.dy (tk it p) k := by
  intro p k
  pointwise [wlastV]
  simp only [H.ycb, dyV_at H, ho, word_1024, word_512, word_eps, word_one, word_zero, c512_eq, up_zero_add, up_add_zero, up_mul, up_sum, up_div_1024, up_div_512, up_add, up_sub, up_logistic, up_rs, up_rl]
  try rfl

theorem wpointV_at (j : Fin 2) (old : Vec Ideal S256x512 .f32) (o : Fin 256 → Fin 512 → ℝ) (ho : Is 256 512 old o) :
    Is 256 512 (wpointV l old j) fun r k => o r k + ∑ p, q.hs (tk it p) ⟨256 * j.val + r.val, by omega⟩ * q.dyc (tk it p) ⟨k.val, by omega⟩ := by
  intro p k
  pointwise [wpointV]
  simp only [H.hsb, dycV_at H, ho, word_1024, word_512, word_eps, word_one, word_zero, c512_eq, up_zero_add, up_add_zero, up_mul, up_sum, up_div_1024, up_div_512, up_add, up_sub, up_logistic, up_rs, up_rl]
  try rfl

theorem row31_at (old : Vec Ideal S1x512 .f32) (o : Fin 512 → ℝ) (ho : IsRow 512 old o) :
    IsRow 512 (k0_pay31 (hlV l) (shV l) (dycV l) l.wpw old) fun j => o j + ∑ p, q.dhl (tk it p) j := by
  intro p j
  pointwise [k0_pay31]
  simp only [dhl_at H, ho, word_1024, word_512, word_eps, word_one, word_zero, c512_eq, up_zero_add, up_add_zero, up_mul, up_sum, up_div_1024, up_div_512, up_add, up_sub, up_logistic, up_rs, up_rl]
  try rfl

theorem row32_at (old : Vec Ideal S1x512 .f32) (o : Fin 512 → ℝ) (ho : IsRow 512 old o) :
    IsRow 512 (k0_pay32 (xhatV l) (hlV l) (shV l) (dycV l) l.wpw old) fun j => o j + ∑ p, q.dhl (tk it p) j * q.xh (tk it p) j := by
  intro p j
  pointwise [k0_pay32]
  simp only [dhl_at H, xhatV_at H, ho, word_1024, word_512, word_eps, word_one, word_zero, c512_eq, up_zero_add, up_add_zero, up_mul, up_sum, up_div_1024, up_div_512, up_add, up_sub, up_logistic, up_rs, up_rl]
  try rfl

theorem row37_at (old : Vec Ideal S1x512 .f32) (o : Fin 512 → ℝ) (ho : IsRow 512 old o) :
    IsRow 512 (k0_pay37 (rstdV l) (xhatV l) (subV l) (sumV l) c512 old) fun j => o j + ∑ p, q.dhd (tk it p) j := by
  intro p j
  pointwise [k0_pay37]
  simp only [p36_at H, ho, word_1024, word_512, word_eps, word_one, word_zero, up_zero_add, up_add_zero, up_mul, up_sum, up_div_1024, up_div_512, up_add, up_sub, up_logistic, up_rs, up_rl]
  try rfl

theorem row12_at (old : Vec Ideal S1x1024 .f32) (o : Fin 1024 → ℝ) (ho : IsRow 1024 old o) :
    IsRow 1024 (k0_pay12 l.dx1 old l.y) fun j => o j + ∑ p, q.d (tk it p) j * q.y (tk it p) j := by
  intro p j
  pointwise [k0_pay12]
  simp only [H.dx1, H.y, ho, word_1024, word_512, word_eps, word_one, word_zero, c512_eq, up_zero_add, up_add_zero, up_mul, up_sum, up_div_1024, up_div_512, up_add, up_sub, up_logistic, up_rs, up_rl]
  try rfl

theorem rs_at  :
    Is 256 1 (k0_pay164 l.x) fun p _ => rs (q.x (tk it p)) := by
  intro p j
  pointwise [k0_pay164]
  simp only [H.x, word_1024, word_512, word_eps, word_one, word_zero, c512_eq, up_zero_add, up_add_zero, up_mul, up_sum, up_div_1024, up_div_512, up_add, up_sub, up_logistic, up_rs, up_rl]
  try rfl

theorem xr_at  :
    Is 256 1024 (k0_pay165 l.x) fun p => q.xr (tk it p) := by
  intro p j
  pointwise [k0_pay165]
  simp only [H.x, rs_at H, word_1024, word_512, word_eps, word_one, word_zero, c512_eq, up_zero_add, up_add_zero, up_mul, up_sum, up_div_1024, up_div_512, up_add, up_sub, up_logistic, up_rs, up_rl]
  try rfl

section
variable {du : Vec Ideal S256x1536 .bf16} (hdu : Is 256 1536 du fun p => q.du (tk it p))
include hdu

theorem dhV_at  :
    Is 256 1024 (dhV l du) fun p => q.dh (tk it p) := by
  intro p j
  pointwise [dhV, k0_pay163]
  simp only [hdu, H.win, word_1024, word_512, word_eps, word_one, word_zero, c512_eq, up_zero_add, up_add_zero, up_mul, up_sum, up_div_1024, up_div_512, up_add, up_sub, up_logistic, up_rs, up_rl]
  try rfl

theorem dn_at  :
    Is 256 1024 (k0_pay168 l.sc (dhV l du)) fun p => q.dn (tk it p) := by
  intro p j
  pointwise [k0_pay168]
  simp only [dhV_at H hdu, H.sc, word_1024, word_512, word_eps, word_one, word_zero, c512_eq, up_zero_add, up_add_zero, up_mul, up_sum, up_div_1024, up_div_512, up_add, up_sub, up_logistic, up_rs, up_rl]
  try rfl

theorem gxV_at  :
    Is 256 1024 (gxV l du) fun p => q.dx (tk it p) := by
  intro p j
  pointwise [gxV, k0_pay2]
  simp only [dn_at H hdu, H.g1, H.dx1, xr_at H, rs_at H, word_1024, word_512, word_eps, word_one, word_zero, c512_eq, up_zero_add, up_add_zero, up_mul, up_sum, up_div_1024, up_div_512, up_add, up_sub, up_logistic, up_rs, up_rl]
  try rfl

theorem p163_at : Is 256 1024 (k0_pay163 du l.win) fun p => q.dh (tk it p) := dhV_at H hdu

theorem row166_at (old : Vec Ideal S1x1024 .f32) (o : Fin 1024 → ℝ) (ho : IsRow 1024 old o) :
    IsRow 1024 (k0_pay166 du l.win old) fun j => o j + ∑ p, q.dh (tk it p) j := by
  intro p j
  pointwise [k0_pay166]
  simp only [p163_at H hdu, ho, word_1024, word_512, word_eps, word_one, word_zero, c512_eq, up_zero_add, up_add_zero, up_mul, up_sum, up_div_1024, up_div_512, up_add, up_sub, up_logistic, up_rs, up_rl]
  try rfl

theorem row167_at (old : Vec Ideal S1x1024 .f32) (o : Fin 1024 → ℝ) (ho : IsRow 1024 old o) :
    IsRow 1024 (k0_pay167 (dhV l du) l.g1 (k0_pay165 l.x) old) fun j => o j + ∑ p, q.dh (tk it p) j * (q.xr (tk it p) j * q.g1 j) := by
  intro p j
  pointwise [k0_pay167]
  simp only [dhV_at H hdu, H.g1, xr_at H, ho, word_1024, word_512, word_eps, word_one, word_zero, c512_eq, up_zero_add, up_add_zero, up_mul, up_sum, up_div_1024, up_div_512, up_add, up_sub, up_logistic, up_rs, up_rl]
  try rfl

theorem row170_at (old : Vec Ideal S1x1024 .f32) (o : Fin 1024 → ℝ) (ho : IsRow 1024 old o) :
    IsRow 1024 (k0_pay1 (k0_pay169 old) (k0_pay170 l.sc (dhV l du) (k0_pay165 l.x))) fun j => o j + ∑ p, q.dn (tk it p) j * q.xr (tk it p) j := by
  intro p j
  pointwise [k0_pay1, k0_pay169, k0_pay170]
  simp only [dn_at H hdu, xr_at H, ho, word_1024, word_512, word_eps, word_one, word_zero, c512_eq, up_zero_add, up_add_zero, up_mul, up_sum, up_div_1024, up_div_512, up_add, up_sub, up_logistic, up_rs, up_rl]
  try rfl

end

/-- Slab `s` of the derivative in the first product, turned. -/
theorem slabV_at {du : Vec Ideal S256x1536 .bf16} (hdu : Is 256 1536 du fun p => q.du (tk it p)) (s : Fin 6) (z : Fin 1) (r p : Fin 256) :
    slabV du s (ix3 z r p) = ((q.du (tk it p) ⟨256 * s.val + r.val, by omega⟩ : ℝ) : EReal) := by
  pointwise [slabV]
  exact hdu _ _

/-- The sum over the first taps. -/
theorem convV_at {D : Fin 31 → FVec Ideal S256x512 .f32} (X : Fin 31 → Fin 256 → Fin 512 → ℝ) (hD : ∀ k, Is 256 512 (D k) (X k)) (n : ℕ) (hn : n ≤ 31) :
    Is 256 512 (convV l.dw D n hn) fun p j => ∑ k : Fin n, q.dww ⟨k.val, by omega⟩ j * X ⟨k.val, by omega⟩ p j := by
  induction n with
  | zero => intro p j; pointwise [convV]; simp [word_zero]
  | succ n ih =>
    intro p j
    pointwise [convV]
    rw [ih (by omega) p j, H.dw, hD, up_mul, up_add, Fin.sum_univ_castSucc]
    rfl

theorem ub0_at {D : FVec Ideal S256x512 .f32} (hD : Is 256 512 D fun p => q.dhc (tk it p)) :
    Is 256 512 (k0_pay109 D l.ug) fun p j => q.dhc (tk it p) j * q.sg (tk it p) j := by
  intro p j
  pointwise [k0_pay109, k0_pay108]
  simp only [hD p j, H.ug p j, up_logistic, up_mul]
  try rfl

theorem ub1_at {D : FVec Ideal S256x512 .f32} (hD : Is 256 512 D fun p => q.dhc (tk it p)) :
    Is 256 512 (k0_pay110 D l.ua l.ug) fun p j => q.ua (tk it p) j * q.dhc (tk it p) j * (q.sg (tk it p) j * (1 - q.sg (tk it p) j)) := by
  intro p j
  pointwise [k0_pay110, k0_pay108]
  simp only [hD p j, H.ug p j, H.ua p j, up_logistic, up_mul, word_one, up_sub]
  exact congrArg Real.toEReal (by unfold Prm.sg; ring)

theorem addCol_at (old : Vec Ideal S1x512 .f32) (o : Fin 512 → ℝ) (ho : IsRow 512 old o) {d t : FVec Ideal S256x512 .f32} {a b : Fin 256 → Fin 512 → ℝ}
    (hd : Is 256 512 d a) (ht : Is 256 512 t b) : IsRow 512 (addCol old d t) fun j => o j + ∑ p, a p j * b p j := by
  intro z j
  pointwise [addCol]
  simp only [ho, hd _ _, ht _ _, up_mul, up_sum, up_zero_add, up_add, word_zero]
  try rfl

/-- The derivative over the token's count. -/
theorem qV_at (g : Fin 4) : Is 256 128 (qV l g (BitVec.ofNat 32 it.val)) fun p j => q.dp (tk it p) g j / cnt (wd g) (tk it p).val := by
  intro p j
  pointwise [qV, k0_pay111]
  rw [dpV_at H g p j]
  have e : IntOp.addi (Scalar.muli (BitVec.ofNat 32 it.val) 256#32) (BitVec.ofNat 32 p.val) = BitVec.ofNat 32 (tk it p).val := by
    have e' : Scalar.muli (BitVec.ofNat 32 it.val) 256#32 = BitVec.ofNat 32 (256 * it.val) := by
      apply BitVec.eq_of_toNat_eq; simp [Scalar.muli, IntOp.muli, Nat.mul_comm]
    rw [e', addi_ofNat]; rfl
  rw [e, cnt_word _ _ (tk it p).isLt (by have := wd_le g; omega)]
  exact up_div_cnt _ (by fin_cases g <;> decide) _

end

end Cert.Mix

end
-- ==== Proof.MixTap.lean ====
/- The mixer's backward body on one tile: what its scratch buffers hold, and the taps and windows read out of them. -/
module

public import proofs.«01_k».proof.Proof.MixTile

@[expose] public section

set_option maxRecDepth 16384

noncomputable section

namespace Cert.Mix

open Idealize.ShloMosaic Cert.Ffn Cert.KernelMixIdeal Cert.KernelMixIdeal.Gen Cert.KernelMixIdeal.Body

theorem pad_tk (f : Fin 2048 → ℝ) (it : Fin 8) (p : Fin 256) : pad f 0 (256 * it.val + p.val) = f (tk it p) :=
  pad_of_lt f _ (tk it p).isLt

theorem cast_up (w : Vec Ideal S280x512 .f32) (z : Fin 1) (r : Fin 280) (j : Fin 512) :
    shapeCast S1x280x512 w Gen.shapeCasts_S280x512_S1x280x512 (ix3 z r j) = w (ix2 r j) := by
  pointwise []

theorem cast_down (w : Vec Ideal S1x256x512 .f32) (p : Fin 256) (j : Fin 512) :
    shapeCast S256x512 w Gen.shapeCasts_S1x256x512_S256x512 (ix2 p j) = w (ix3 0 p j) := by
  pointwise []

/-- Copies of a buffer one to seven rows on, read back. -/
theorem shifts_at {f : (B : LoadRect S288x512) → B.shape.Idx → Elt Ideal .f32} (G : ℕ → Fin 512 → EReal)
    (hf : ∀ (n : ℕ) (hn : n + 280 ≤ 288) (r : Fin 280) (j : Fin 512), f (box 288 512 280 512 n 0 hn (by decide)).toLoadRect (ix2 r j) = G (n + r.val) j)
    {sg : RefSig} {κ : Kind} {sp : Space} (v : View sg κ sp S7x280x512 .f32) (v0 : v.ty.Contents (Elt Ideal)) (n : ℕ) (hn : n ≤ 7) (b : Fin 7) (hb : b.val < n)
    (r : Fin 280) (j : Fin 512) :
    v.read (Elt Ideal) (v.writes (Elt Ideal) v0 (shifts f n hn)) (ix3 b r j) = G (b.val + 1 + r.val) j := by
  induction n with
  | zero => omega
  | succ n ih =>
    unfold shifts
    by_cases h : b.val = n
    · refine (at_hit3 _ _ _ v v0 _ _ b r j (0 : Fin 1) r j (by show b.val = n + 0; omega) (by omega) (by omega)).trans ?_
      rw [h]
      exact (cast_up _ _ _ _).trans (hf (n + 1) (by omega) r j)
    · exact (at_miss3 _ _ _ v v0 _ _ b r j (by omega)).trans (ih (by omega) (by omega))

/-- A tap of them. -/
theorem shifted_at {f : (B : LoadRect S288x512) → B.shape.Idx → Elt Ideal .f32} (G : ℕ → Fin 512 → EReal)
    (hf : ∀ (n : ℕ) (hn : n + 280 ≤ 288) (r : Fin 280) (j : Fin 512), f (box 288 512 280 512 n 0 hn (by decide)).toLoadRect (ix2 r j) = G (n + r.val) j)
    (a : Memref sig .tc .vmem S7x280x512 .f32) (o : ℕ) (ho : o < 32) (h8 : o % 8 ≠ 0) (p : Fin 256) (j : Fin 512) :
    shifted a (shifts f 7 le_rfl) o ho h8 (ix2 p j) = G (o + p.val) j := by
  refine (cast_down _ _ _).trans ?_
  unfold View.readCov
  rw [View.readAt_apply, box3_idx, shifts_at G hf _ _ _ _ _ (by show o % 8 - 1 + 0 < 7; omega)]
  exact congrArg (G · _) (by show o % 8 - 1 + 0 + 1 + (8 * (o / 8) + p.val) = o + p.val; omega) |>.trans (congrArg (G _) (Fin.ext (by show 0 + j.val = j.val; omega)))

/-- The last rows hold the first of the tile after: of the derivative in the convolution's output, and of the derivative over
    the count. -/
def TailE (q : Prm) (it : Fin 8) (O : S288x512.Idx → Elt Ideal .f32) : Prop :=
  ∀ (r : Fin 32) (j : Fin 512), O (ix2 ⟨256 + r.val, by omega⟩ j) = ((pad (fun s => q.dhd s j) 0 (256 * it.val + (256 + r.val)) : ℝ) : EReal)
def TailQ (q : Prm) (it : Fin 8) (O : S272x512.Idx → Elt Ideal .f32) : Prop :=
  ∀ (r : Fin 16) (g : Fin 4) (j : Fin 128), O (ix2 ⟨256 + r.val, by omega⟩ (lane g j))
    = ((pad (fun s => q.dp s g j / cnt (wd g) s.val) 0 (256 * it.val + (256 + r.val)) : ℝ) : EReal)

section
variable {q : Prm} {it : Fin 8} {l : Lds Ideal} (H : Tile q it l)
include H

/-- The gated lanes of this tile and the thirty-two tokens before. -/
theorem hx_at {sg : RefSig} {κ : Kind} {sp : Space} (v : View sg κ sp S288x512 .f32) (v0 : v.ty.Contents (Elt Ideal)) (n : Fin 288) (j : Fin 512) :
    v.read (Elt Ideal) (v.writes (Elt Ideal) v0 (hxL l (BitVec.ofNat 32 it.val))) (ix2 n j)
      = ((pad (fun s => q.hc s j) 32 (256 * it.val + n.val) : ℝ) : EReal) := by
  unfold hxL
  by_cases h : n.val < 32
  · refine (at_miss _ _ v v0 _ _ n j (.inl h)).trans ((at_hit _ _ v v0 _ _ n j (⟨n.val, h⟩ : Fin 32) j (by show n.val = 0 + n.val; omega) (by omega)).trans ?_)
    pointwise [k0_pay38]
    by_cases h0 : it.val = 0
    · rw [h0, show Scalar.cmpi CmpIPredicate.eq (BitVec.ofNat 32 0) 0#32 = 1#1 by decide]
      unfold pad
      rw [dif_neg (by omega)]
      exact EReal.coe_zero.symm
    · have e : Scalar.cmpi CmpIPredicate.eq (BitVec.ofNat 32 it.val) 0#32 = 0#1 := by
        have := it.isLt
        clear H h
        revert h0 this
        generalize it.val = k
        intro h0 hk
        interval_cases k <;> first | exact absurd rfl h0 | decide
      rw [e]
      exact H.halo h0 _ _
  · refine (at_hit _ _ v v0 _ _ n j (⟨n.val - 32, by omega⟩ : Fin 256) j (by show n.val = 32 + (n.val - 32); omega) (by omega)).trans ?_
    pointwise [k0_pay39]
    rw [H.hc]
    have e := pad_shift (fun s => q.hc s j) 0 (256 * it.val + (n.val - 32)) 32
    rw [show 256 * it.val + (n.val - 32) + 32 = 256 * it.val + n.val by omega, Nat.zero_add] at e
    rw [e]
    exact congrArg Real.toEReal (pad_tk (fun s => q.hc s j) it ⟨n.val - 32, by omega⟩).symm

theorem hTap_at (M : Mems) (k : Fin 31) : Is 256 512 (hTap l M (BitVec.ofNat 32 it.val) k) fun p => q.tap (tk it p) k := by
  intro p j
  have hG : ∀ (n m : ℕ) (hn : n + m ≤ 288) (r : Fin m) (j : Fin 512),
      M.hx.view.readCov (Val := Elt Ideal) (hxL l (BitVec.ofNat 32 it.val)) (box 288 512 m 512 n 0 hn (by decide)).toLoadRect (ix2 r j)
        = ((pad (fun s => q.hc s j) 32 (256 * it.val + (n + r.val)) : ℝ) : EReal) := fun n m hn r j => by
    unfold View.readCov
    rw [View.readAt_apply, box_idx, hx_at H]
    simp only [Nat.zero_add]
  have e : pad (fun s => q.hc s j) 32 (256 * it.val + (k.val + 2 + p.val)) = q.tap (tk it p) k j := by
    have e := pad_shift (fun s => q.hc s j) 30 (256 * it.val + p.val + k.val) 2
    rw [show 256 * it.val + p.val + k.val + 2 = 256 * it.val + (k.val + 2 + p.val) by omega] at e
    exact e
  show _ = ((q.tap (tk it p) k j : ℝ) : EReal)
  rw [← e]
  unfold hTap
  split
  · exact hG _ _ _ _ _
  · exact shifted_at (fun n j => ((pad (fun s => q.hc s j) 32 (256 * it.val + n) : ℝ) : EReal)) (fun n hn r j => hG n 280 hn r j) _ _ _ _ _ _

section
variable {M : Mems} {P : Prev Ideal} {v0 : M.dE.view.ty.Contents (Elt Ideal)} {O : S288x512.Idx → Elt Ideal .f32} (hS : Sem' M.dE v0 O P.dE)
  (hO : TailE q it O)
include hS hO

/-- The derivative in the convolution's output, of this tile and the thirty-two tokens after. -/
theorem dE_at (n : Fin 288) (j : Fin 512) :
    M.dE.view.read (Elt Ideal) (M.dE.view.writes (Elt Ideal) v0 (dEL l P)) (ix2 n j) = ((pad (fun s => q.dhd s j) 0 (256 * it.val + n.val) : ℝ) : EReal) := by
  unfold dEL
  by_cases h : n.val < 256
  · refine (at_hit _ _ _ v0 _ _ n j (⟨n.val, h⟩ : Fin 256) j (by show n.val = 0 + n.val; omega) (by omega)).trans ?_
    pointwise [k0_pay40]
    rw [p36_at H]
    exact congrArg Real.toEReal (pad_tk (fun s => q.dhd s j) it ⟨n.val, h⟩).symm
  · refine (at_miss _ _ _ v0 _ _ n j (.inr (.inl (by omega)))).trans ((hS.base _).trans ?_)
    refine Eq.trans ?_ ((hO ⟨n.val - 256, by omega⟩ j).trans ?_)
    · exact congrArg O (congrArg (ix2 · j) (Fin.ext (by show n.val = 256 + (n.val - 256); omega)))
    · rw [show 256 + (n.val - 256) = n.val by omega]

theorem dE_rdc (m : ℕ) (hm : 0 + m ≤ 288) (h : m ≤ 256) (r : Fin m) (j : Fin 512) :
    P.dE.rdc (dEL l P) (box 288 512 m 512 0 0 hm (by decide)).toLoadRect (ix2 r j) = ((pad (fun s => q.dhd s j) 0 (256 * it.val + r.val) : ℝ) : EReal) := by
  rw [hS.rdc _ _ _ ⟨⟨box 288 512 256 512 0 0, k0_pay40 (rstdV l) (xhatV l) (subV l) (sumV l) c512⟩, by unfold dEL; exact List.mem_cons_self, ?_⟩, box_idx, dE_at H hS hO]
  · simp only [Nat.zero_add]
  · rw [box_idx]
    exact box_mem (by decide) (by decide) _ _ ⟨Nat.zero_le _, by show 0 + r.val < 0 + 256; omega⟩ ⟨Nat.zero_le _, by show 0 + j.val < 0 + 512; omega⟩

theorem dTap_at (k : Fin 31) : Is 256 512 (dTap l M P k) fun p j => pad (fun s => q.dhd s j) k.val ((tk it p).val + 30) := by
  intro p j
  have hG : ∀ (n m : ℕ) (hn : n + m ≤ 288) (r : Fin m) (j : Fin 512),
      P.dE.rd (dEL l P) (box 288 512 m 512 n 0 hn (by decide)).toLoadRect (ix2 r j)
        = ((pad (fun s => q.dhd s j) 0 (256 * it.val + (n + r.val)) : ℝ) : EReal) := fun n m hn r j => by
    rw [hS.rd, box_idx, dE_at H hS hO]
    simp only [Nat.zero_add]
  have e : pad (fun s => q.dhd s j) 0 (256 * it.val + (30 - k.val + p.val)) = pad (fun s => q.dhd s j) k.val ((tk it p).val + 30) := by
    have e := pad_shift (fun s => q.dhd s j) 0 (256 * it.val + (30 - k.val + p.val)) k.val
    rw [show 256 * it.val + (30 - k.val + p.val) + k.val = 256 * it.val + p.val + 30 by omega, Nat.zero_add] at e
    exact e.symm
  show _ = ((pad (fun s => q.dhd s j) k.val ((tk it p).val + 30) : ℝ) : EReal)
  rw [← e]
  unfold dTap
  split
  · rename_i h0
    rw [dE_rdc H hS hO 256 _ le_rfl, h0, Nat.zero_add]
  · split
    · exact hG _ _ _ _ _
    · exact shifted_at (fun n j => ((pad (fun s => q.dhd s j) 0 (256 * it.val + n) : ℝ) : EReal)) (fun n hn r j => hG n 280 hn r j) _ _ _ _ _ _

theorem dhcV_at : Is 256 512 (dhcV l M P) fun p => q.dhc (tk it p) := by
  intro p j
  exact convV_at H (fun k p j => pad (fun s => q.dhd s j) k.val ((tk it p).val + 30)) (dTap_at H hS hO) 31 le_rfl p j

end

section
variable {M : Mems} {P : Prev Ideal} {v0 : M.qE.view.ty.Contents (Elt Ideal)} {O : S272x512.Idx → Elt Ideal .f32} (hS : Sem' M.qE v0 O P.qE)
  (hO : TailQ q it O)
include hS hO

theorem qE_tail (n : ℕ) (hn : n ≤ 4) (r : Fin 272) (hr : 256 ≤ r.val) (c : Fin 512) :
    M.qE.view.read (Elt Ideal) (M.qE.view.writes (Elt Ideal) v0 (qEL l P (BitVec.ofNat 32 it.val) n hn)) (ix2 r c) = O (ix2 r c) := by
  induction n with
  | zero => exact hS.base _
  | succ n ih =>
    unfold qEL
    exact (at_miss _ _ _ v0 _ _ r c (.inr (.inl (by omega)))).trans (ih (by omega))

/-- The derivative over the count, of this tile and the sixteen tokens after. -/
theorem qE_at (n : ℕ) (hn : n ≤ 4) (r : Fin 272) (g : Fin 4) (hg : g.val < n) (j : Fin 128) :
    M.qE.view.read (Elt Ideal) (M.qE.view.writes (Elt Ideal) v0 (qEL l P (BitVec.ofNat 32 it.val) n hn)) (ix2 r (lane g j))
      = ((pad (fun s => q.dp s g j / cnt (wd g) s.val) 0 (256 * it.val + r.val) : ℝ) : EReal) := by
  by_cases hr : r.val < 256
  · have hv := lane_val g j
    induction n with
    | zero => omega
    | succ n ih =>
      unfold qEL
      by_cases h : g.val = n
      · subst h
        refine (at_hit _ _ _ v0 _ _ r _ (⟨r.val, hr⟩ : Fin 256) j (by show r.val = 0 + r.val; omega) hv).trans ?_
        exact (qV_at H g _ _).trans (congrArg Real.toEReal (pad_tk (fun s => q.dp s g j / cnt (wd g) s.val) it ⟨r.val, hr⟩).symm)
      · refine (at_miss _ _ _ v0 _ _ r _ (.inr (.inr (.inl (by rw [hv]; omega))))).trans (ih (by omega) (by omega))
  · rw [qE_tail H hS hO n hn r (by omega)]
    refine Eq.trans ?_ ((hO ⟨r.val - 256, by omega⟩ g j).trans ?_)
    · exact congrArg O (congrArg (ix2 · (lane g j)) (Fin.ext (by show r.val = 256 + (r.val - 256); omega)))
    · rw [show 256 + (r.val - 256) = r.val by omega]

theorem qTap_at (g : Fin 4) (δ : ℕ) (hδ : δ < 16) :
    Is 256 128 (qTap l g P (BitVec.ofNat 32 it.val) δ hδ) fun p j => pad (fun s => q.dp s g j / cnt (wd g) s.val) 0 ((tk it p).val + δ) := by
  intro p j
  have hv := lane_val g j
  have el : (⟨128 * g.val + j.val, by omega⟩ : Fin 512) = lane g j := Fin.ext hv.symm
  unfold qTap
  split
  · rename_i h
    subst h
    rw [hS.rdc _ _ _ ⟨⟨box 272 512 256 128 0 (128 * g.val) (by decide) (by omega), qV l g (BitVec.ofNat 32 it.val)⟩, ?_, ?_⟩, box_idx, el, qE_at H hS hO _ _ _ g (by omega)]
    · show ((pad _ 0 (256 * it.val + (0 + p.val)) : ℝ) : EReal) = _
      rw [Nat.zero_add]; rfl
    · unfold qEL; exact List.mem_cons_self
    · rw [box_idx]
      exact box_mem (by decide) (by omega) _ _ ⟨Nat.zero_le _, by show 0 + p.val < 0 + 256; omega⟩ ⟨by show 128 * g.val ≤ 128 * g.val + j.val; omega, by show 128 * g.val + j.val < 128 * g.val + 128; omega⟩
  · rw [hS.rd, box_idx, el, qE_at H hS hO _ _ _ g (by omega)]
    show ((pad _ 0 (256 * it.val + (δ + p.val)) : ℝ) : EReal) = ((pad _ 0 (256 * it.val + p.val + δ) : ℝ) : EReal)
    rw [show 256 * it.val + (δ + p.val) = 256 * it.val + p.val + δ by omega]

theorem dvSum_at (g : Fin 4) (n : ℕ) (hn : n ≤ 16) : Is 256 128 (dvSum l g P (BitVec.ofNat 32 it.val) n hn) fun p j =>
    -q.dp (tk it p) g j + ∑ δ ∈ Finset.range n, pad (fun s => q.dp s g j / cnt (wd g) s.val) 0 ((tk it p).val + δ) := by
  induction n with
  | zero =>
    intro p j
    pointwise [dvSum]
    rw [dpV_at H g p j, up_zero, up_sub]
    simp
  | succ n ih =>
    intro p j
    pointwise [dvSum]
    rw [ih (by omega) p j, qTap_at H hS hO g n hn p j, up_add, Finset.sum_range_succ, add_assoc]

theorem dvV_at (g : Fin 4) : Is 256 128 (dvV l g P (BitVec.ofNat 32 it.val)) fun p => q.dv (tk it p) g := by
  intro p j
  pointwise [dvV]
  exact dvSum_at H hS hO g (wd g) (wd_le g) p j

end

end

end Cert.Mix

end
-- ==== Proof.MixSums.lean ====
/- The mixer's backward body on one tile: what it leaves in the sums and in the outputs. -/
module

public import proofs.«01_k».proof.Proof.MixTap

@[expose] public section

set_option maxRecDepth 16384

noncomputable section

namespace Cert.Mix

open Idealize.ShloMosaic Cert.Ffn Cert.KernelMixIdeal Cert.KernelMixIdeal.Gen Cert.KernelMixIdeal.Body

namespace Prm
variable (q : Prm) (t : Fin 2048)

theorem du_gate (j : Fin 512) : q.du t ⟨j.val, by omega⟩ = q.dhc t j * q.sg t j := dif_pos j.isLt

theorem du_lin (j : Fin 512) : q.du t ⟨512 + j.val, by omega⟩ = q.ua t j * q.dhc t j * (q.sg t j * (1 - q.sg t j)) := by
  have e : ∀ h, (⟨512 + j.val - 512, h⟩ : Fin 512) = j := fun h => Fin.ext (by show 512 + j.val - 512 = j.val; omega)
  unfold du
  rw [dif_neg (by show ¬(512 + j.val < 512); omega), dif_pos (by show 512 + j.val - 512 < 512; omega)]
  simp only [e]

theorem du_pool (g : Fin 4) (j : Fin 128) : q.du t ⟨1024 + (lane g j).val, by omega⟩ = q.dv t g j := by
  have e : ∀ h, (⟨1024 + (lane g j).val - 512 - 512, h⟩ : Fin 512) = lane g j := fun h => Fin.ext (by show 1024 + (lane g j).val - 512 - 512 = (lane g j).val; omega)
  unfold du
  rw [dif_neg (by show ¬(1024 + (lane g j).val < 512); omega), dif_neg (by show ¬(1024 + (lane g j).val - 512 < 512); omega), e, cat4_lane]

theorem rows4_low (j : Fin 512) (h) : q.rows t 4 ⟨0 + j.val, h⟩ = q.dhd t j := by
  refine (dif_pos (by show 0 + j.val < 512; omega)).trans ?_
  exact congrArg (q.dhd t) (Fin.ext (by show 0 + j.val = j.val; omega))

theorem rows4_high (j : Fin 512) (h) : q.rows t 4 ⟨512 + j.val, h⟩ = q.xh t j * q.dhl t j := by
  have e : ∀ h, (⟨512 + j.val - 512, h⟩ : Fin 512) = j := fun h => Fin.ext (by show 512 + j.val - 512 = j.val; omega)
  refine (dif_neg (by show ¬(512 + j.val < 512); omega)).trans ?_
  show q.xh t ⟨512 + j.val - 512, _⟩ * q.dhl t ⟨512 + j.val - 512, _⟩ = _
  rw [e]

theorem rows5_low (j : Fin 512) (h) : q.rows t 5 ⟨0 + j.val, h⟩ = q.dhl t j := by
  refine (dif_pos (by show 0 + j.val < 512; omega)).trans ?_
  exact congrArg (q.dhl t) (Fin.ext (by show 0 + j.val = j.val; omega))

theorem rows5_high (g : Fin 4) (j : Fin 128) (h) : q.rows t 5 ⟨512 + (lane g j).val, h⟩ = q.z t g j * q.dyc t ⟨512 + (lane g j).val, by omega⟩ := by
  have e : ∀ h, (⟨512 + (lane g j).val - 512, h⟩ : Fin 512) = lane g j := fun h => Fin.ext (by show 512 + (lane g j).val - 512 = (lane g j).val; omega)
  have e' : ∀ h, (⟨512 + (512 + (lane g j).val - 512), h⟩ : Fin 1024) = ⟨512 + (lane g j).val, by omega⟩ := fun h => Fin.ext (by show 512 + (512 + (lane g j).val - 512) = 512 + (lane g j).val; omega)
  refine (dif_neg (by show ¬(512 + (lane g j).val < 512); omega)).trans ?_
  show cat4 (q.z t) ⟨512 + (lane g j).val - 512, _⟩ * q.dyc t ⟨512 + (512 + (lane g j).val - 512), _⟩ = _
  rw [e, cat4_lane, e']

end Prm

section Stack

variable {m N k c : ℕ} {a : Memref sig .tc .vmem (⟨2, ![m, N]⟩ : Shape) .f32} {v0 : a.view.ty.Contents (Elt Ideal)} {O : (⟨2, ![m, N]⟩ : Shape).Idx → Elt Ideal .f32}
  {b : Buf Ideal (⟨2, ![m, N]⟩ : Shape) .f32} (hS : Sem a v0 O b) (off : ℕ → ℕ) (hoff : ∀ n, off n = k * n) (hin : ∀ n, n < c → off n + k ≤ m)
  (f : Fin c → ((⟨2, ![k, N]⟩ : Shape).Idx → EReal) → (⟨2, ![k, N]⟩ : Shape).Idx → EReal)
  (L : (n : ℕ) → n ≤ c → List (View.Piece (Elt Ideal) (⟨2, ![m, N]⟩ : Shape) .f32)) (h0 : ∀ h, L 0 h = b.base)
  (hs : ∀ (n : ℕ) (hn : n + 1 ≤ c), L (n + 1) hn = ⟨box m N k N (off n) 0 (hin n hn) (Nat.zero_add N).le,
    f ⟨n, hn⟩ (b.rd (L n (Nat.le_of_succ_le hn)) (box m N k N (off n) 0 (hin n hn) (Nat.zero_add N).le).toLoadRect)⟩ :: L n (Nat.le_of_succ_le hn))
include hS hoff h0 hs

/-- Blocks of rows stored one after the other, each made from what the block held: below the last the rows are as before. -/
theorem stack_todo (n : ℕ) (hn : n ≤ c) (r : Fin m) (hr : k * n ≤ r.val) (j : Fin N) :
    a.view.read (Elt Ideal) (a.view.writes (Elt Ideal) v0 (L n hn)) (ix2 r j) = O (ix2 r j) := by
  induction n with
  | zero => rw [h0]; exact hS.base _
  | succ n ih =>
    rw [Nat.mul_succ] at hr
    rw [hs]
    exact (at_miss _ _ _ v0 _ _ r j (.inr (.inl (by rw [hoff]; omega)))).trans (ih (by omega) (by omega))

theorem stack_done (A G : Fin m → Fin N → EReal) (hO : ∀ r j, O (ix2 r j) = A r j)
    (hf : ∀ (i : Fin c) (old : (⟨2, ![k, N]⟩ : Shape).Idx → EReal), (∀ r j, old (ix2 r j) = A ⟨off i.val + r.val, lt_of_lt_of_le (Nat.add_lt_add_left r.isLt _) (hin i.val i.isLt)⟩ j) →
      ∀ r j, f i old (ix2 r j) = G ⟨off i.val + r.val, lt_of_lt_of_le (Nat.add_lt_add_left r.isLt _) (hin i.val i.isLt)⟩ j)
    (n : ℕ) (hn : n ≤ c) (r : Fin m) (hr : r.val < k * n) (j : Fin N) :
    a.view.read (Elt Ideal) (a.view.writes (Elt Ideal) v0 (L n hn)) (ix2 r j) = G r j := by
  induction n with
  | zero => rw [Nat.mul_zero] at hr; omega
  | succ n ih =>
    rw [Nat.mul_succ] at hr
    rw [hs]
    by_cases h : r.val < k * n
    · exact (at_miss _ _ _ v0 _ _ r j (.inl (by rw [hoff]; exact h))).trans (ih (by omega) h)
    · have hr' : r.val - k * n < k := by omega
      refine (at_hit _ _ _ v0 _ _ r j (⟨r.val - k * n, hr'⟩ : Fin k) j (by show r.val = off n + (r.val - k * n); rw [hoff]; omega) (by omega)).trans ?_
      refine (hf ⟨n, hn⟩ _ (fun r' j' => ?_) _ _).trans ?_
      · have e := hin n hn
        have ej : (⟨0 + j'.val, by omega⟩ : Fin N) = j' := Fin.ext (by show 0 + j'.val = j'.val; omega)
        have hO' : O ((box m N k N (off n) 0 (hin n hn) (by omega)).toLoadRect.idx (ix2 r' j')) = A ⟨off n + r'.val, by omega⟩ j' := by rw [box_idx, ej]; exact hO _ _
        rw [hS.rd, hO']
        rw [box_idx, ej]
        exact stack_todo hS off hoff hin f L h0 hs n (by omega) _ (by show k * n ≤ off n + r'.val; rw [hoff]; omega) _
      · exact congrArg (G · j) (Fin.ext (by show off n + (r.val - k * n) = r.val; rw [hoff]; omega))

omit hS h0 in
theorem stack_cover (n : ℕ) (hn : n ≤ c) (r : Fin m) (hr : r.val < k * n) (j : Fin N) : ∃ p ∈ L n hn, (ix2 r j : (⟨2, ![m, N]⟩ : Shape).Idx) ∈ p.1.set := by
  induction n with
  | zero => rw [Nat.mul_zero] at hr; omega
  | succ n ih =>
    rw [Nat.mul_succ] at hr
    rw [hs]
    by_cases h : r.val < k * n
    · obtain ⟨p, hp, hy⟩ := ih (by omega) h
      exact ⟨p, List.mem_cons_of_mem _ hp, hy⟩
    · exact ⟨_, List.mem_cons_self, box_mem (hin n hn) (by omega) r j ⟨by rw [hoff]; omega, by rw [hoff]; omega⟩ ⟨Nat.zero_le _, by omega⟩⟩

end Stack

section
variable {q : Prm} {it : Fin 8} {l : Lds Ideal} (H : Tile q it l)
include H

section
variable {M : Mems} {P : Prev Ideal} {v0 : M.dE.view.ty.Contents (Elt Ideal)} {O : S288x512.Idx → Elt Ideal .f32} (hS : Sem' M.dE v0 O P.dE)
  (hO : TailE q it O)
  {v1 : M.qE.view.ty.Contents (Elt Ideal)} {O1 : S272x512.Idx → Elt Ideal .f32} (hS1 : Sem' M.qE v1 O1 P.qE)
  (hO1 : TailQ q it O1)
include hS hO

/-- The first rows carried to the tile before. -/
theorem dE_next (x) (r : Fin 32) (j : Fin 512) :
    M.dE.view.read (Elt Ideal) (M.dE.view.writes (Elt Ideal) x (gen l M P (BitVec.ofNat 32 it.val)).dE) (ix2 ⟨256 + r.val, by omega⟩ j)
      = ((pad (fun s => q.dhd s j) 0 (256 * it.val + r.val) : ℝ) : EReal) := by
  unfold gen
  refine (at_hit _ _ _ x _ _ _ j r j rfl (by omega)).trans ?_
  pointwise [k0_pay107]
  exact dE_rdc H hS hO 32 _ (by decide) r j

include hS1 hO1

omit hS hO in
theorem qE_next (x) (r : Fin 16) (g : Fin 4) (j : Fin 128) :
    M.qE.view.read (Elt Ideal) (M.qE.view.writes (Elt Ideal) x (gen l M P (BitVec.ofNat 32 it.val)).qE) (ix2 ⟨256 + r.val, by omega⟩ (lane g j))
      = ((pad (fun s => q.dp s g j / cnt (wd g) s.val) 0 (256 * it.val + r.val) : ℝ) : EReal) := by
  unfold gen
  refine (at_hit _ _ _ x _ _ _ (lane g j) r (lane g j) rfl (by omega)).trans ?_
  pointwise [k0_pay155]
  have hv := lane_val g j
  have hmem : ∀ n (hn : n ≤ 4), g.val < n → ∃ p ∈ qEL l P (BitVec.ofNat 32 it.val) n hn, (ix2 ⟨0 + r.val, by omega⟩ (lane g j) : S272x512.Idx) ∈ p.1.set := by
    intro n hn hg
    induction n with
    | zero => omega
    | succ n ih =>
      unfold qEL
      by_cases h : g.val = n
      · exact ⟨_, List.mem_cons_self, box_mem (by decide) (by omega) _ _ ⟨Nat.zero_le _, by show 0 + r.val < 0 + 256; omega⟩ ⟨by omega, by omega⟩⟩
      · obtain ⟨p, hp, hy⟩ := ih (by omega) (by omega)
        exact ⟨p, List.mem_cons_of_mem _ hp, hy⟩
  have el : (⟨0 + (lane g j).val, by omega⟩ : Fin 512) = lane g j := Fin.ext (by show 0 + (lane g j).val = (lane g j).val; omega)
  rw [hS1.rdc, box_idx, el, qE_at H hS1 hO1 _ _ _ g (by omega)]
  · simp only [Nat.zero_add]
  · rw [box_idx, el]; exact hmem 4 le_rfl g.isLt

/-- The derivative in the first product. -/
theorem duV_at : Is 256 1536 (duV l M P (BitVec.ofNat 32 it.val)) fun p => q.du (tk it p) := by
  intro p k
  unfold duV View.readCov
  have e0 : (⟨0 + p.val, by omega⟩ : Fin 256) = p := Fin.ext (by show 0 + p.val = p.val; omega)
  have e1 : (⟨0 + k.val, by omega⟩ : Fin 1536) = k := Fin.ext (by show 0 + k.val = k.val; omega)
  rw [View.readAt_apply, box_idx, e0, e1]
  clear e0 e1
  unfold ubL
  by_cases h : k.val < 512
  · refine (at_miss _ _ _ _ _ _ p k (.inr (.inr (.inl (by omega))))).trans ?_
    refine (at_miss _ _ _ _ _ _ p k (.inr (.inr (.inl (by omega))))).trans ?_
    refine (at_miss _ _ _ _ _ _ p k (.inr (.inr (.inl (by omega))))).trans ?_
    refine (at_miss _ _ _ _ _ _ p k (.inr (.inr (.inl (by omega))))).trans ?_
    refine (at_miss _ _ _ _ _ _ p k (.inr (.inr (.inl (by omega))))).trans ?_
    refine (at_hit _ _ _ _ _ _ p k p (⟨k.val, h⟩ : Fin 512) (by omega) (by show k.val = 0 + k.val; omega)).trans ?_
    exact (ub0_at H (dhcV_at H hS hO) p ⟨k.val, h⟩).trans (congrArg Real.toEReal (q.du_gate (tk it p) ⟨k.val, h⟩).symm)
  · by_cases h' : k.val < 1024
    · refine (at_miss _ _ _ _ _ _ p k (.inr (.inr (.inl (by omega))))).trans ?_
      refine (at_miss _ _ _ _ _ _ p k (.inr (.inr (.inl (by omega))))).trans ?_
      refine (at_miss _ _ _ _ _ _ p k (.inr (.inr (.inl (by omega))))).trans ?_
      refine (at_miss _ _ _ _ _ _ p k (.inr (.inr (.inl (by omega))))).trans ?_
      have ek : k = ⟨512 + (k.val - 512), by omega⟩ := Fin.ext (by show k.val = 512 + (k.val - 512); omega)
      refine (at_hit _ _ _ _ _ _ p k p (⟨k.val - 512, by omega⟩ : Fin 512) (by omega) (by show k.val = 512 + (k.val - 512); omega)).trans ?_
      refine (ub1_at H (dhcV_at H hS hO) p ⟨k.val - 512, by omega⟩).trans (congrArg Real.toEReal ?_)
      exact (q.du_lin (tk it p) ⟨k.val - 512, by omega⟩).symm.trans (congrArg (q.du (tk it p)) ek.symm)
    · have hg : ∀ (g : Fin 4) (j : Fin 128), k.val = 1024 + (128 * g.val + j.val) →
          dvV l g P (BitVec.ofNat 32 it.val) (ix2 p j) = ((q.du (tk it p) k : ℝ) : EReal) := fun g j e => by
        refine (dvV_at H hS1 hO1 g p j).trans (congrArg Real.toEReal ((q.du_pool (tk it p) g j).symm.trans (congrArg (q.du (tk it p)) (Fin.ext ?_))))
        show 1024 + (lane g j).val = k.val
        rw [lane_val, e]
      by_cases h3 : 1408 ≤ k.val
      · exact (at_hit _ _ _ _ _ _ p k p (⟨k.val - 1408, by omega⟩ : Fin 128) (by omega) (by show k.val = 1408 + (k.val - 1408); omega)).trans
          (hg 3 ⟨k.val - 1408, by omega⟩ (by show k.val = 1024 + (128 * 3 + (k.val - 1408)); omega))
      refine (at_miss _ _ _ _ _ _ p k (.inr (.inr (.inl (by omega))))).trans ?_
      by_cases h2 : 1280 ≤ k.val
      · exact (at_hit _ _ _ _ _ _ p k p (⟨k.val - 1280, by omega⟩ : Fin 128) (by omega) (by show k.val = 1280 + (k.val - 1280); omega)).trans
          (hg 2 ⟨k.val - 1280, by omega⟩ (by show k.val = 1024 + (128 * 2 + (k.val - 1280)); omega))
      refine (at_miss _ _ _ _ _ _ p k (.inr (.inr (.inl (by omega))))).trans ?_
      by_cases h1 : 1152 ≤ k.val
      · exact (at_hit _ _ _ _ _ _ p k p (⟨k.val - 1152, by omega⟩ : Fin 128) (by omega) (by show k.val = 1152 + (k.val - 1152); omega)).trans
          (hg 1 ⟨k.val - 1152, by omega⟩ (by show k.val = 1024 + (128 * 1 + (k.val - 1152)); omega))
      refine (at_miss _ _ _ _ _ _ p k (.inr (.inr (.inl (by omega))))).trans ?_
      exact (at_hit _ _ _ _ _ _ p k p (⟨k.val - 1024, by omega⟩ : Fin 128) (by omega) (by show k.val = 1024 + (k.val - 1024); omega)).trans
        (hg 0 ⟨k.val - 1024, by omega⟩ (by show k.val = 1024 + (128 * 0 + (k.val - 1024)); omega))

end

end

end Cert.Mix

end
-- ==== Proof.MixAcc.lean ====
/- The mixer's backward body on one tile: each sum is what it was plus the tile's part. -/
module

public import proofs.«01_k».proof.Proof.MixSums

@[expose] public section

set_option maxRecDepth 16384

noncomputable section

namespace Cert.Mix

open Idealize.ShloMosaic Cert.Ffn Cert.KernelMixIdeal Cert.KernelMixIdeal.Gen Cert.KernelMixIdeal.Body

/-- A sum over the tokens of a tile. -/
def tsum (f : Fin 2048 → ℝ) (it : Fin 8) : ℝ := ∑ p : Fin 256, f (tk it p)

/-- After the stores `L` the rows of sums hold `A` plus the tile's part where `T`, and `A` elsewhere. -/
def AccIs (M : Mems) (v0 : M.acc.view.ty.Contents (Elt Ideal)) (q : Prm) (it : Fin 8) (A : Fin 8 → Fin 1024 → ℝ)
    (L : List (View.Piece (Elt Ideal) S8x1024 .f32)) (T : ℕ → ℕ → Prop) : Prop :=
  ∀ r c, (T r.val c.val → M.acc.view.read (Elt Ideal) (M.acc.view.writes (Elt Ideal) v0 L) (ix2 r c) = ((A r c + tsum (q.rows · r.val c) it : ℝ) : EReal))
    ∧ (¬ T r.val c.val → M.acc.view.read (Elt Ideal) (M.acc.view.writes (Elt Ideal) v0 L) (ix2 r c) = ((A r c : ℝ) : EReal))

section
variable {M : Mems} {P : Prev Ideal} {v0 : M.acc.view.ty.Contents (Elt Ideal)} {q : Prm} {it : Fin 8} {A : Fin 8 → Fin 1024 → ℝ}
  {O : S8x1024.Idx → Elt Ideal .f32} (hS : Sem M.acc v0 O P.acc) (hO : ∀ r c, O (ix2 r c) = ((A r c : ℝ) : EReal))
include hS hO

theorem acc_base : AccIs M v0 q it A P.acc.base fun _ _ => False := fun r c => ⟨False.elim, fun _ => (hS.base _).trans (hO r c)⟩

theorem acc_step {L : List (View.Piece (Elt Ideal) S8x1024 .f32)} {T : ℕ → ℕ → Prop} (hL : AccIs M v0 q it A L T) (k n b : ℕ) (hk : k + 1 ≤ 8) (hb : b + n ≤ 1024)
    (f : Vec Ideal (⟨2, ![1, n]⟩ : Shape) .f32 → Vec Ideal (⟨2, ![1, n]⟩ : Shape) .f32) (hT : ∀ c, b ≤ c → c < b + n → ¬ T k c)
    (hf : ∀ (old : Vec Ideal (⟨2, ![1, n]⟩ : Shape) .f32) (o : Fin n → ℝ), IsRow n old o →
      IsRow n (f old) fun j => o j + tsum (q.rows · k ⟨b + j.val, by omega⟩) it) :
    AccIs M v0 q it A (addAcc P k n b hk hb f L) fun r c => (r = k ∧ b ≤ c ∧ c < b + n) ∨ T r c := by
  intro r c
  unfold addAcc
  by_cases h : r.val = k ∧ b ≤ c.val ∧ c.val < b + n
  · obtain ⟨h1, h2, h3⟩ := h
    refine ⟨fun _ => ?_, fun h => absurd (.inl ⟨h1, h2, h3⟩) h⟩
    obtain rfl : r = ⟨k, hk⟩ := Fin.ext h1
    have ec : c = ⟨b + (c.val - b), by omega⟩ := Fin.ext (by show c.val = b + (c.val - b); omega)
    refine (at_hit hk hb _ v0 _ _ _ c (0 : Fin 1) (⟨c.val - b, by omega⟩ : Fin n) rfl (by show c.val = b + (c.val - b); omega)).trans ?_
    refine (hf _ (fun j => A ⟨k, hk⟩ ⟨b + j.val, by omega⟩) (fun z j => ?_) 0 ⟨c.val - b, by omega⟩).trans ?_
    · have ez : (⟨k + z.val, by omega⟩ : Fin 8) = ⟨k, hk⟩ := Fin.ext (by show k + z.val = k; omega)
      have hO' : O ((box 8 1024 1 n k b hk hb).toLoadRect.idx (ix2 z j)) = ((A ⟨k, hk⟩ ⟨b + j.val, by omega⟩ : ℝ) : EReal) := by rw [box_idx, ez]; exact hO _ _
      rw [hS.rd, hO']
      rw [hO', box_idx, ez]
      exact (hL _ _).2 (hT _ (Nat.le_add_right _ _) (by show b + j.val < b + n; omega))
    · show ((A _ ⟨b + (c.val - b), _⟩ + tsum (q.rows · k ⟨b + (c.val - b), _⟩) it : ℝ) : EReal) = _
      rw [← ec]
  · have e := at_miss hk hb M.acc.view v0 (f (P.acc.rd L (box 8 1024 1 n k b hk hb).toLoadRect)) L r c (by omega)
    exact ⟨fun hT' => e.trans ((hL r c).1 (hT'.resolve_left h)), fun hT' => e.trans ((hL r c).2 fun t => hT' (.inr t))⟩

end

section
variable {q : Prm} {it : Fin 8} {l : Lds Ideal} (H : Tile q it l)
include H

/-- The rows of sums. -/
theorem acc_at {M : Mems} {P : Prev Ideal} {v0 : M.acc.view.ty.Contents (Elt Ideal)} {A : Fin 8 → Fin 1024 → ℝ} {O : S8x1024.Idx → Elt Ideal .f32}
    (hS : Sem M.acc v0 O P.acc) (hO : ∀ r c, O (ix2 r c) = ((A r c : ℝ) : EReal)) {du : Vec Ideal S256x1536 .bf16} (hdu : Is 256 1536 du fun p => q.du (tk it p))
    (r : Fin 8) (c : Fin 1024) :
    M.acc.view.read (Elt Ideal) (M.acc.view.writes (Elt Ideal) v0 (accL l P du)) (ix2 r c) = ((A r c + tsum (q.rows · r.val c) it : ℝ) : EReal) := by
  have hw : ∀ (o : ℝ) (f g : Fin 2048 → ℝ), (∀ t, f t = g t) → ((o + ∑ p, f (tk it p) : ℝ) : EReal) = ((o + tsum g it : ℝ) : EReal) := fun o f g h => by
    unfold tsum; simp only [h]
  have e0 : ∀ (j : Fin 1024) (h), (⟨0 + j.val, h⟩ : Fin 1024) = j := fun j h => Fin.ext (Nat.zero_add _)
  have s0 := acc_base (q := q) (it := it) hS hO
  have s1 := acc_step hS hO s0 2 1024 0 (by decide) (by decide) (fun o => k0_pay12 l.dx1 o l.y) (fun c h1 h2 h => by first | exact h | (simp only [or_false] at h; omega)) fun old o ho z j =>
    (row12_at H old o ho z j).trans (hw _ (fun t => q.d t j * q.y t j) _ fun t => by rw [e0]; rfl)
  have s2 := acc_step hS hO s1 5 512 0 (by decide) (by decide) (fun o => k0_pay31 (hlV l) (shV l) (dycV l) l.wpw o) (fun c h1 h2 h => by first | exact h | (simp only [or_false] at h; omega)) fun old o ho z j =>
    (row31_at H old o ho z j).trans (hw _ (fun t => q.dhl t j) _ fun t => (q.rows5_low t j _).symm)
  have s3 := acc_step hS hO s2 4 512 512 (by decide) (by decide) (fun o => k0_pay32 (xhatV l) (hlV l) (shV l) (dycV l) l.wpw o) (fun c h1 h2 h => by first | exact h | (simp only [or_false] at h; omega)) fun old o ho z j =>
    (row32_at H old o ho z j).trans (hw _ (fun t => q.dhl t j * q.xh t j) _ fun t => by rw [q.rows4_high t j]; ring)
  have s4 := acc_step hS hO s3 4 512 0 (by decide) (by decide) (fun o => k0_pay37 (rstdV l) (xhatV l) (subV l) (sumV l) c512 o) (fun c h1 h2 h => by first | exact h | (simp only [or_false] at h; omega)) fun old o ho z j =>
    (row37_at H old o ho z j).trans (hw _ (fun t => q.dhd t j) _ fun t => (q.rows4_low t j _).symm)
  have hg : ∀ (g : Fin 4) (b : ℕ) (hb : b = 512 + 128 * g.val) (hb' : b + 128 ≤ 1024) (old : Vec Ideal S1x128 .f32) (o : Fin 128 → ℝ), IsRow 128 old o →
      IsRow 128 (scaleV l g old) fun j => o j + tsum (q.rows · 5 ⟨b + j.val, by omega⟩) it := fun g b hb hb' old o ho z j =>
    (scaleV_at H g old o ho z j).trans (hw _ (fun t => q.dyc t ⟨512 + (lane g j).val, by omega⟩ * q.z t g j) _ fun t => by
      have e : (⟨b + j.val, by omega⟩ : Fin 1024) = ⟨512 + (lane g j).val, by omega⟩ := Fin.ext (by have := lane_val g j; show b + j.val = 512 + (lane g j).val; omega)
      rw [e, q.rows5_high t g j]; ring)
  have s5 := acc_step hS hO s4 5 128 512 (by decide) (by decide) (fun o => scaleV l 0 o) (fun c h1 h2 h => by simp only [or_false] at h; omega) (hg 0 512 rfl (by decide))
  have s6 := acc_step hS hO s5 5 128 640 (by decide) (by decide) (fun o => scaleV l 1 o) (fun c h1 h2 h => by simp only [or_false] at h; omega) (hg 1 640 rfl (by decide))
  have s7 := acc_step hS hO s6 5 128 768 (by decide) (by decide) (fun o => scaleV l 2 o) (fun c h1 h2 h => by simp only [or_false] at h; omega) (hg 2 768 rfl (by decide))
  have s8 := acc_step hS hO s7 5 128 896 (by decide) (by decide) (fun o => scaleV l 3 o) (fun c h1 h2 h => by simp only [or_false] at h; omega) (hg 3 896 rfl (by decide))
  have s9 := acc_step hS hO s8 0 1024 0 (by decide) (by decide) (fun o => k0_pay166 du l.win o) (fun c h1 h2 h => by first | exact h | (simp only [or_false] at h; omega)) fun old o ho z j =>
    (row166_at H hdu old o ho z j).trans (hw _ (fun t => q.dh t j) _ fun t => by rw [e0]; rfl)
  have s10 := acc_step hS hO s9 1 1024 0 (by decide) (by decide) (fun o => k0_pay167 (dhV l du) l.g1 (k0_pay165 l.x) o) (fun c h1 h2 h => by first | exact h | (simp only [or_false] at h; omega)) fun old o ho z j =>
    (row167_at H hdu old o ho z j).trans (hw _ (fun t => q.dh t j * (q.xr t j * q.g1 j)) _ fun t => by
      rw [e0]; show _ = q.xr t j * q.g1 j * q.dh t j; ring)
  have s11 := acc_step hS hO s10 3 1024 0 (by decide) (by decide) (fun o => k0_pay1 (k0_pay169 o) (k0_pay170 l.sc (dhV l du) (k0_pay165 l.x))) (fun c h1 h2 h => by first | exact h | (simp only [or_false] at h; omega)) fun old o ho z j =>
    (row170_at H hdu old o ho z j).trans (hw _ (fun t => q.dn t j * q.xr t j) _ fun t => by
      rw [e0]; show _ = q.xr t j * q.dn t j; ring)
  by_cases hr : r.val < 6
  · exact (s11 r c).1 (by omega)
  · refine ((s11 r c).2 (fun h => by simp only [or_false] at h; omega)).trans ?_
    have e : ∀ t, q.rows t r.val c = 0 := fun t => by
      rcases (by omega : r.val = 6 ∨ r.val = 7) with h | h <;> rw [h] <;> rfl
    simp [tsum, e]

/-- The convolution's weights. -/
theorem ddw_at {M : Mems} {P : Prev Ideal} {v0 : M.ddw.view.ty.Contents (Elt Ideal)} {A : Fin 32 → Fin 512 → ℝ} {O : S32x512.Idx → Elt Ideal .f32}
    (hS : Sem M.ddw v0 O P.ddw) (hO : ∀ r c, O (ix2 r c) = ((A r c : ℝ) : EReal)) (r : Fin 32) (c : Fin 512) :
    M.ddw.view.read (Elt Ideal) (M.ddw.view.writes (Elt Ideal) v0 (ddwL P (dhdV l) (hTap l M (BitVec.ofNat 32 it.val)) 31 le_rfl)) (ix2 r c)
      = ((A r c + tsum (q.wconv · r.val c) it : ℝ) : EReal) := by
  by_cases h : r.val < 31
  · refine stack_done (k := 1) hS (fun n => n) (fun n => (Nat.one_mul n).symm) (fun n hn => by omega)
      (fun i old => addCol old (dhdV l) (hTap l M (BitVec.ofNat 32 it.val) i)) (ddwL P (dhdV l) (hTap l M (BitVec.ofNat 32 it.val))) (fun _ => rfl) (fun _ _ => rfl)
      (fun r c => ((A r c : ℝ) : EReal)) (fun r c => ((A r c + tsum (q.wconv · r.val c) it : ℝ) : EReal)) hO (fun i old hold z j => ?_) 31 le_rfl r (by omega) c
    refine (addCol_at H old (fun j => A ⟨i.val + 0, by omega⟩ j) (fun z j => ?_) (dhdV_at H) (hTap_at H M i) z j).trans ?_
    · exact (hold z j).trans (congrArg (fun r => ((A r j : ℝ) : EReal)) (Fin.ext (by show i.val + z.val = i.val + 0; omega)))
    · have ez : (⟨i.val + z.val, by omega⟩ : Fin 32) = ⟨i.val + 0, by omega⟩ := Fin.ext (by show i.val + z.val = i.val + 0; omega)
      rw [ez]
      refine congrArg Real.toEReal (congrArg _ (Finset.sum_congr rfl fun p _ => ?_))
      show q.dhd (tk it p) j * q.tap (tk it p) i j = q.wconv (tk it p) (i.val + 0) j
      unfold Prm.wconv
      rw [dif_pos (by omega), mul_comm]
      rfl
  · have e : ∀ t, q.wconv t r.val c = 0 := fun t => dif_neg h
    refine (stack_todo (k := 1) hS (fun n => n) (fun n => (Nat.one_mul n).symm) (fun n hn => by omega)
      (fun i old => addCol old (dhdV l) (hTap l M (BitVec.ofNat 32 it.val) i)) (ddwL P (dhdV l) (hTap l M (BitVec.ofNat 32 it.val))) (fun _ => rfl) (fun _ _ => rfl) 31 le_rfl r (by omega) c).trans ?_
    rw [hO]; simp [tsum, e]

/-- The pooled products' weights. -/
theorem dwg_at {M : Mems} {P : Prev Ideal} {v0 : M.dwg.view.ty.Contents (Elt Ideal)} {A : Fin 512 → Fin 128 → ℝ} {O : S512x128.Idx → Elt Ideal .f32}
    (hS : Sem M.dwg v0 O P.dwg) (hO : ∀ r c, O (ix2 r c) = ((A r c : ℝ) : EReal)) (r : Fin 512) (c : Fin 128) :
    M.dwg.view.read (Elt Ideal) (M.dwg.view.writes (Elt Ideal) v0 (dwgL l P 4 le_rfl)) (ix2 r c)
      = ((A r c + tsum (fun t => q.wpool t ⟨r.val / 128, by omega⟩ ⟨r.val % 128, by omega⟩ c) it : ℝ) : EReal) := by
  refine stack_done (k := 128) hS (fun n => 128 * n) (fun n => rfl) (fun n hn => by omega)
    (fun i old => wpoolV l i old) (dwgL l P) (fun _ => rfl) (fun _ _ => rfl)
    (fun r c => ((A r c : ℝ) : EReal)) (fun r c => ((A r c + tsum (fun t => q.wpool t ⟨r.val / 128, by omega⟩ ⟨r.val % 128, by omega⟩ c) it : ℝ) : EReal)) hO
    (fun i old hold a j => ?_) 4 le_rfl r (by omega) c
  refine (wpoolV_at H i old (fun a j => A ⟨128 * i.val + a.val, by omega⟩ j) hold a j).trans ?_
  refine congrArg Real.toEReal (congrArg _ (Finset.sum_congr rfl fun p _ => ?_))
  show q.p (tk it p) i a * q.dz (tk it p) i j = q.wpool (tk it p) ⟨(128 * i.val + a.val) / 128, _⟩ ⟨(128 * i.val + a.val) % 128, _⟩ j
  have e1 : (⟨(128 * i.val + a.val) / 128, by omega⟩ : Fin 4) = i := Fin.ext (by show (128 * i.val + a.val) / 128 = i.val; omega)
  have e2 : (⟨(128 * i.val + a.val) % 128, by omega⟩ : Fin 128) = a := Fin.ext (by show (128 * i.val + a.val) % 128 = a.val; omega)
  rw [e1, e2, Prm.wpool, mul_comm]

/-- The last product's weights. -/
theorem ao_at {M : Mems} {P : Prev Ideal} {v0 : M.ao.view.ty.Contents (Elt Ideal)} {A : Fin 1024 → Fin 1024 → ℝ} {O : S1024x1024.Idx → Elt Ideal .f32}
    (hS : Sem M.ao v0 O P.ao) (hO : ∀ r c, O (ix2 r c) = ((A r c : ℝ) : EReal)) (r : Fin 1024) (c : Fin 1024) :
    M.ao.view.read (Elt Ideal) (M.ao.view.writes (Elt Ideal) v0 (aoL l P 4 le_rfl)) (ix2 r c) = ((A r c + tsum (q.wlast · r c) it : ℝ) : EReal) := by
  refine stack_done (k := 256) hS (fun n => 256 * n) (fun n => rfl) (fun n hn => by omega)
    (fun i old => wlastV l old i) (aoL l P) (fun _ => rfl) (fun _ _ => rfl)
    (fun r c => ((A r c : ℝ) : EReal)) (fun r c => ((A r c + tsum (q.wlast · r c) it : ℝ) : EReal)) hO
    (fun i old hold a j => ?_) 4 le_rfl r (by omega) c
  refine (wlastV_at H i old (fun a j => A ⟨256 * i.val + a.val, by omega⟩ j) hold a j).trans ?_
  refine congrArg Real.toEReal (congrArg _ (Finset.sum_congr rfl fun p _ => ?_))
  exact mul_comm _ _

theorem ap_at {M : Mems} {P : Prev Ideal} {v0 : M.ap.view.ty.Contents (Elt Ideal)} {A : Fin 512 → Fin 512 → ℝ} {O : S512x512.Idx → Elt Ideal .f32}
    (hS : Sem M.ap v0 O P.ap) (hO : ∀ r c, O (ix2 r c) = ((A r c : ℝ) : EReal)) (r : Fin 512) (c : Fin 512) :
    M.ap.view.read (Elt Ideal) (M.ap.view.writes (Elt Ideal) v0 (apL l P 2 le_rfl)) (ix2 r c) = ((A r c + tsum (q.wpoint · r c) it : ℝ) : EReal) := by
  refine stack_done (k := 256) hS (fun n => 256 * n) (fun n => rfl) (fun n hn => by omega)
    (fun i old => wpointV l old i) (apL l P) (fun _ => rfl) (fun _ _ => rfl)
    (fun r c => ((A r c : ℝ) : EReal)) (fun r c => ((A r c + tsum (q.wpoint · r c) it : ℝ) : EReal)) hO
    (fun i old hold a j => ?_) 2 le_rfl r (by omega) c
  refine (wpointV_at H i old (fun a j => A ⟨256 * i.val + a.val, by omega⟩ j) hold a j).trans ?_
  refine congrArg Real.toEReal (congrArg _ (Finset.sum_congr rfl fun p _ => ?_))
  exact mul_comm _ _

omit H in
theorem ao_covers (l : Lds Ideal) (P : Prev Ideal) : Covers (aoL l P 4 le_rfl) := fun y => by
  rw [eq_ix2 (n0 := 1024) (n1 := 1024) y]
  exact stack_cover (k := 256) (fun n => 256 * n) (fun n => rfl) (fun n hn => by omega) (b := P.ao) (fun i old => wlastV l old i) (aoL l P) (fun _ _ => rfl) 4 le_rfl _ (by omega) _

omit H in
theorem ap_covers (l : Lds Ideal) (P : Prev Ideal) : Covers (apL l P 2 le_rfl) := fun y => by
  rw [eq_ix2 (n0 := 512) (n1 := 512) y]
  exact stack_cover (k := 256) (fun n => 256 * n) (fun n => rfl) (fun n hn => by omega) (b := P.ap) (fun i old => wpointV l old i) (apL l P) (fun _ _ => rfl) 2 le_rfl _ (by omega) _

end

end Cert.Mix

end
-- ==== Proof.MixHost.lean ====
/- What the host computes before the mixer's backward call: the forward values of the reference. -/
module

public import proofs.«01_k».proof.Proof.MixData
public import proofs.«01_k».proof.Proof.Gen.ReferenceMixIdeal.Read
public import Idealize.ShloMosaic.Lib.StableHlo.ReadAt
public import Idealize.ShloMosaic.Lib.StableHlo.RunRead
public import Idealize.ShloMosaic.Lib.Pointwise

@[expose] public section

set_option maxRecDepth 16384
noncomputable section

namespace Cert.KernelMixIdeal.Body

open Idealize.ShloMosaic Idealize.ShloMosaic.TcCoe Idealize.ShloMosaic.Tactic Cert.KernelMixIdeal Cert.KernelMixIdeal.Gen
open Cert.ReferenceMixIdeal.Read

variable {F : FTy → Type} [FloatOps F] (m : (ℓ : Loc nD τ sig) → Buf (Elt F) ℓ) (c : Dev nD)

set_option maxHeartbeats 4000000 in
theorem V_v35 : V m c main_v32 = val_main_v35 (F := F) (V m c main_arg1) (V m c main_arg2) (V m c main_arg3) (V m c main_arg4) := by
  unfold V
  after_reads_simp
  rfl

set_option maxHeartbeats 4000000 in
theorem V_v48 : V m c main_v42 = val_main_v48 (F := F) (V m c main_arg1) (V m c main_arg2) (V m c main_arg3) (V m c main_arg4) := by
  unfold V
  after_reads_simp
  rfl

set_option maxHeartbeats 4000000 in
theorem V_v63 : V m c main_v57 = val_main_v63 (F := F) (V m c main_arg1) (V m c main_arg2) (V m c main_arg3) (V m c main_arg4) (V m c main_arg5) (V m c main_arg6) := by
  unfold V
  after_reads_simp
  rfl

set_option maxHeartbeats 4000000 in
theorem V_v91_0 : V m c main_v80 = val_main_v91_0 (F := F) (V m c main_arg1) (V m c main_arg2) (V m c main_arg3) (V m c main_arg4) (V m c main_arg5) (V m c main_arg6) (V m c main_arg7) (V m c main_arg8) := by
  unfold V
  after_reads_simp
  rfl

set_option maxHeartbeats 4000000 in
theorem V_v189 : V m c main_v178 = val_main_v189 (F := F) (V m c main_arg1) (V m c main_arg2) (V m c main_arg3) (V m c main_arg4) := by
  unfold V
  after_reads_simp
  rfl

set_option maxHeartbeats 4000000 in
theorem V_v184 : V m c main_v173 = val_main_v184 (F := F) (V m c main_arg1) (V m c main_arg2) (V m c main_arg3) (V m c main_arg4) (V m c main_arg5) (V m c main_arg6) (V m c main_arg7) (V m c main_arg8) (V m c main_arg9) (V m c main_arg10) (V m c main_arg11) := by
  unfold V
  after_reads_simp
  rfl

set_option maxHeartbeats 4000000 in
theorem V_v185 : V m c main_v174 = val_main_v185 (F := F) (V m c main_arg1) (V m c main_arg2) (V m c main_arg3) (V m c main_arg4) (V m c main_arg5) (V m c main_arg6) (V m c main_arg7) (V m c main_arg8) (V m c main_arg9) (V m c main_arg10) (V m c main_arg11) (V m c main_arg12) := by
  unfold V
  after_reads_simp
  rfl

set_option maxHeartbeats 4000000 in
theorem V_v182 : V m c main_v182 = extractStridedSlice S2048x1024 ![0, 0] (V m c main_v32) slices_S2048x1536_S2048x1024_0_0 := by
  unfold V
  after_reads_simp

set_option maxHeartbeats 4000000 in
theorem V_v180 : V m c main_v180 = truncf .bf16 (V m c main_v178) bitsLt_bf16_f32 := by
  unfold V
  after_reads_simp

set_option maxHeartbeats 4000000 in
theorem V_v184' : V m c main_v184 = shapeCast S4x256x2048 (transpose S1024x2048 [1, 0] (truncf .bf16 (V m c main_v173) bitsLt_bf16_f32 : FVec F S2048x1024 .bf16) transposes_S2048x1024_S1024x2048_1_0) shapeCasts_S1024x2048_S4x256x2048 := by
  unfold V
  after_reads_simp
  rfl

set_option maxHeartbeats 4000000 in
theorem V_v186 : V m c main_v186 = shapeCast S2x256x2048 (transpose S512x2048 [1, 0] (truncf .bf16 (V m c main_v80) bitsLt_bf16_f32 : FVec F S2048x512 .bf16) transposes_S2048x512_S512x2048_1_0) shapeCasts_S512x2048_S2x256x2048 := by
  unfold V
  after_reads_simp
  rfl

end Cert.KernelMixIdeal.Body

end
-- ==== Proof.MixBlocks.lean ====
/- What a point of the mixer's backward call finds in its windows: tile `7 - t` of the arrays. -/
module

public import proofs.«01_k».proof.Proof.MixAcc
public import proofs.«01_k».proof.Proof.MixHost

@[expose] public section

set_option maxRecDepth 16384

noncomputable section

namespace Cert.Mix

open Idealize.ShloMosaic Idealize.ShloMosaic.TcCoe Cert.KernelMixIdeal Cert.KernelMixIdeal.Gen Cert.KernelMixIdeal.Body Cert.Ffn

theorem ext2 {m n : ℕ} (u : (⟨2, ![m, n]⟩ : Shape).Idx) (a : Fin m) (b : Fin n) (h0 : (u 0).val = a.val) (h1 : (u 1).val = b.val) : u = ix2 a b :=
  (eq_ix2 u).trans (congrArg₂ (fun x y => (ix2 x y : (⟨2, ![m, n]⟩ : Shape).Idx)) (Fin.ext h0) (Fin.ext h1))

theorem ext3 {m n s : ℕ} (u : (⟨3, ![m, n, s]⟩ : Shape).Idx) (a : Fin m) (b : Fin n) (d : Fin s) (h0 : (u 0).val = a.val) (h1 : (u 1).val = b.val)
    (h2 : (u 2).val = d.val) : u = ix3 a b d := by
  rw [eq_ix3 u, (Fin.ext h0 : (u 0 : Fin m) = a), (Fin.ext h1 : (u 1 : Fin n) = b), (Fin.ext h2 : (u 2 : Fin s) = d)]

theorem slice_at (w : FVec Ideal S2048x1536 .f32) (t : Fin 2048) (j : Fin 1024) :
    extractStridedSlice S2048x1024 ![0, 0] w slices_S2048x1536_S2048x1024_0_0 (ix2 t j) = w (ix2 t ⟨j.val, by omega⟩) := by
  pointwise []

theorem turn4_at (w : FVec Ideal S2048x1024 .f32) (z : Fin 4) (r : Fin 256) (t : Fin 2048) :
    shapeCast S4x256x2048 (transpose S1024x2048 [1, 0] (truncf .bf16 w bitsLt_bf16_f32 : FVec Ideal S2048x1024 .bf16) transposes_S2048x1024_S1024x2048_1_0)
      shapeCasts_S1024x2048_S4x256x2048 (ix3 z r t) = w (ix2 t ⟨z.val * 256 + r.val, by omega⟩) := by
  pointwise []

theorem turn2_at (w : FVec Ideal S2048x512 .f32) (z : Fin 2) (r : Fin 256) (t : Fin 2048) :
    shapeCast S2x256x2048 (transpose S512x2048 [1, 0] (truncf .bf16 w bitsLt_bf16_f32 : FVec Ideal S2048x512 .bf16) transposes_S2048x512_S512x2048_1_0)
      shapeCasts_S512x2048_S2x256x2048 (ix3 z r t) = w (ix2 t ⟨z.val * 256 + r.val, by omega⟩) := by
  pointwise []

theorem lt8 (t : Fin cfg0.N) : t.val < 8 := lt_of_lt_of_eq t.isLt N_0

/-- The tile of point `t`. -/
def rev (t : Fin cfg0.N) : Fin 8 := ⟨7 - t.val, Nat.lt_of_le_of_lt (Nat.sub_le _ _) (by decide)⟩

theorem word_rev (t : Fin cfg0.N) : tileW (grid0.coords t) = BitVec.ofNat 32 (rev t).val := by
  have ht := lt8 t
  have e0 : (grid0.coords t 0).val = t.val / 1 % 8 := Pipeline.Grid.coords_val t 0 (by decide) rfl
  have e1 : t.val / 1 % 8 = t.val := by omega
  have e : ∀ n : Fin 8, Scalar.subi 7#32 (BitVec.ofNat 32 n.val) = BitVec.ofNat 32 (7 - n.val) := by decide
  unfold tileW
  rw [e0, e1]
  exact e ⟨t.val, ht⟩

/-- The windows that go through the tiles backwards, by rows; the one of the thirty-two rows before; those by columns; and those that stay. -/
theorem idx_rows : ∀ t : Fin cfg0.N, (win0_0.index t (0 : Fin 2) = 7 - t.val ∧ win0_0.index t (1 : Fin 2) = 0) ∧ (win0_1.index t (0 : Fin 2) = 7 - t.val ∧ win0_1.index t (1 : Fin 2) = 0)
    ∧ (win0_2.index t (0 : Fin 2) = 7 - t.val ∧ win0_2.index t (1 : Fin 2) = 0) ∧ (win0_3.index t (0 : Fin 2) = 7 - t.val ∧ win0_3.index t (1 : Fin 2) = 0)
    ∧ (win0_4.index t (0 : Fin 2) = 7 - t.val ∧ win0_4.index t (1 : Fin 2) = 0) ∧ (win0_6.index t (0 : Fin 2) = 7 - t.val ∧ win0_6.index t (1 : Fin 2) = 0)
    ∧ (win0_7.index t (0 : Fin 2) = 7 - t.val ∧ win0_7.index t (1 : Fin 2) = 0) := (by decide +kernel : ∀ t : Fin grid0.N, _)

theorem idx_halo : ∀ t : Fin cfg0.N, win0_5.index t (0 : Fin 2) = 8 * (7 - t.val) - 1 ∧ win0_5.index t (1 : Fin 2) = 0 := (by decide +kernel : ∀ t : Fin grid0.N, _)

theorem idx_cols : ∀ t : Fin cfg0.N, (win0_18.index t (0 : Fin 3) = 0 ∧ win0_18.index t (1 : Fin 3) = 0 ∧ win0_18.index t (2 : Fin 3) = 7 - t.val)
    ∧ (win0_19.index t (0 : Fin 3) = 0 ∧ win0_19.index t (1 : Fin 3) = 0 ∧ win0_19.index t (2 : Fin 3) = 7 - t.val) := (by decide +kernel : ∀ t : Fin grid0.N, _)

theorem idx_stay : ∀ t : Fin cfg0.N, (win0_8.index t (0 : Fin 2) = 0 ∧ win0_8.index t (1 : Fin 2) = 0) ∧ (win0_9.index t (0 : Fin 2) = 0 ∧ win0_9.index t (1 : Fin 2) = 0)
    ∧ (win0_10.index t (0 : Fin 2) = 0 ∧ win0_10.index t (1 : Fin 2) = 0) ∧ (win0_11.index t (0 : Fin 2) = 0 ∧ win0_11.index t (1 : Fin 2) = 0)
    ∧ (win0_12.index t (0 : Fin 2) = 0 ∧ win0_12.index t (1 : Fin 2) = 0) ∧ (win0_13.index t (0 : Fin 2) = 0 ∧ win0_13.index t (1 : Fin 2) = 0)
    ∧ (win0_14.index t (0 : Fin 2) = 0 ∧ win0_14.index t (1 : Fin 2) = 0) ∧ (win0_16.index t (0 : Fin 2) = 0 ∧ win0_16.index t (1 : Fin 2) = 0)
    ∧ (win0_17.index t (0 : Fin 2) = 0 ∧ win0_17.index t (1 : Fin 2) = 0) := (by decide +kernel : ∀ t : Fin grid0.N, _)

theorem idx_stay3 : ∀ t : Fin cfg0.N, win0_15.index t (0 : Fin 3) = 0 ∧ win0_15.index t (1 : Fin 3) = 0 ∧ win0_15.index t (2 : Fin 3) = 0 := (by decide +kernel : ∀ t : Fin grid0.N, _)

theorem zero_fin {n : ℕ} (r : Fin n) (h : 0 + r.val < n) : (⟨0 + r.val, h⟩ : Fin n) = r := Fin.ext (Nat.zero_add _)

theorem inp_all {m n : ℕ} {e : EltTy} {a : Memref sig .tc .vmem (⟨2, ![m, n]⟩ : Shape) e} (h : a.IsWhole) (v : Vec Ideal (⟨2, ![m, n]⟩ : Shape) e)
    (h0 : 0 + m ≤ m) (h1 : 0 + n ≤ n) (r : Fin m) (c : Fin n) : inp h v (box m n m n 0 0 h0 h1) (ix2 r c) = v (ix2 r c) := by
  rw [inp_at, zero_fin, zero_fin]

theorem inp_row {m n l d : ℕ} {e : EltTy} {a : Memref sig .tc .vmem (⟨2, ![m, n]⟩ : Shape) e} (h : a.IsWhole) (v : Vec Ideal (⟨2, ![m, n]⟩ : Shape) e)
    (h0 : 0 + m ≤ m) (h1 : d + l ≤ n) (r : Fin m) (c : Fin l) : inp h v (box m n m l 0 d h0 h1) (ix2 r c) = v (ix2 r ⟨d + c.val, by omega⟩) := by
  rw [inp_at, zero_fin]

theorem inp_slab {m n p b : ℕ} {e : EltTy} {a : Memref sig .tc .vmem (⟨3, ![m, n, p]⟩ : Shape) e} (h : a.IsWhole) (v : Vec Ideal (⟨3, ![m, n, p]⟩ : Shape) e)
    (h0 : b + 1 ≤ m) (h1 : 0 + n ≤ n) (h2 : 0 + p ≤ p) (x : Fin 1) (y : Fin n) (z : Fin p) :
    inp h v (box3 m n p 1 n p b 0 0 h0 h1 h2) (ix3 x y z) = v (ix3 ⟨b, by omega⟩ y z) := by
  rw [inp3_at, zero_fin, zero_fin]
  exact congrArg (fun k => v (ix3 k y z)) (Fin.ext (by show b + x.val = b; omega))

theorem pad_hit (f : Fin 2048 → ℝ) (a n : ℕ) (h : a ≤ n) (h' : n - a < 2048) : pad f a n = f ⟨n - a, h'⟩ := dif_pos ⟨h, h'⟩

/-- What a call finds in its windows is tile `it` of the arrays of `q`. -/
structure Blocks (q : Prm) (it : Fin 8) (X : Ins Ideal) : Prop where
  dx1 : Is 256 1024 X.dx1 fun p => q.d (tk it p)
  x : Is 256 1024 X.x fun p => q.x (tk it p)
  y : Is 256 1024 X.y fun p => q.y (tk it p)
  uag : Is 256 1024 X.uag fun p j => q.u (tk it p) ⟨j.val, by omega⟩
  hc : Is 256 512 X.hc fun p => q.hc (tk it p)
  halo : it.val ≠ 0 → Is 32 512 X.halo fun r j => pad (fun s => q.hc s j) 32 (256 * it.val + r.val)
  hd : Is 256 512 X.hd fun p => q.hd (tk it p)
  pb : Is 256 512 X.pb fun p => cat4 (q.p (tk it p))
  sc : ∀ j : Fin 1024, X.mod (ix2 0 ⟨1024 + j.val, by omega⟩) = ((q.sc j : ℝ) : EReal)
  gt : ∀ j : Fin 1024, X.mod (ix2 0 ⟨2048 + j.val, by omega⟩) = ((q.gt j : ℝ) : EReal)
  g1 : IsRow 1024 X.g1 q.g1
  win : Is 1536 1024 X.win q.win
  dww : Is 32 512 X.dww q.dww
  lng : IsRow 512 X.lng q.lng
  lnb : IsRow 512 X.lnb q.lnb
  wpw : Is 512 512 X.wpw q.wpw
  wg : ∀ (g : Fin 4) (a b : Fin 128), X.wg (ix3 g a b) = ((q.wg g a b : ℝ) : EReal)
  psc : IsRow 512 X.psc q.psc
  wout : Is 1024 1024 X.wout q.wout
  ycb : ∀ (z : Fin 4) (r p : Fin 256), X.ycb (ix3 z r p) = ((q.yc (tk it p) ⟨z.val * 256 + r.val, by omega⟩ : ℝ) : EReal)
  hsb : ∀ (z : Fin 2) (r p : Fin 256), X.hsb (ix3 z r p) = ((q.hs (tk it p) ⟨z.val * 256 + r.val, by omega⟩ : ℝ) : EReal)

theorem top_row (z : Fin 1) (v : Vec Ideal S8x6144 .f32) (h) (k : Fin 6144) : v (ix2 ⟨0 + z.val, h⟩ k) = v (ix2 0 k) :=
  congrArg (fun i => v (ix2 i k)) (Fin.ext (by show 0 + z.val = 0; omega))

/-! So its loads are. -/

section
variable (M : Mems) {q : Prm} {it : Fin 8} {x : Ins Ideal} (H : Blocks q it x)
include H

theorem ld_dx1 : Is 256 1024 (lds M x).dx1 fun p => q.d (tk it p) := fun p j => (inp_all _ _ _ _ p j).trans (H.dx1 p j)

theorem ld_x : Is 256 1024 (lds M x).x fun p => q.x (tk it p) := fun p j => (inp_all _ _ _ _ p j).trans (H.x p j)

theorem ld_y : Is 256 1024 (lds M x).y fun p => q.y (tk it p) := fun p j => (inp_all _ _ _ _ p j).trans (H.y p j)

theorem ld_sc : IsRow 1024 (lds M x).sc q.sc := fun z j => (inp_at _ _ _ _ z j).trans ((top_row z x.mod _ _).trans (H.sc j))

theorem ld_gate : IsRow 1024 (lds M x).gate q.gt := fun z j => (inp_at _ _ _ _ z j).trans ((top_row z x.mod _ _).trans (H.gt j))

theorem ld_ua : Is 256 512 (lds M x).ua fun p => q.ua (tk it p) := fun p j => (inp_row _ _ _ _ p j).trans ((H.uag p _).trans (congrArg (fun k => ((q.u (tk it p) k : ℝ) : EReal)) (Fin.ext (Nat.zero_add _))))

theorem ld_ug : Is 256 512 (lds M x).ug fun p j => q.u (tk it p) ⟨512 + j.val, by omega⟩ := fun p j => (inp_row _ _ _ _ p j).trans (H.uag p _)

theorem ld_hc : Is 256 512 (lds M x).hc fun p => q.hc (tk it p) := fun p j => (inp_all _ _ _ _ p j).trans (H.hc p j)

theorem ld_halo : it.val ≠ 0 → Is 32 512 (lds M x).halo fun r j => pad (fun s => q.hc s j) 32 (256 * it.val + r.val) := fun h r j => (inp_all _ _ _ _ r j).trans (H.halo h r j)

theorem ld_hd : Is 256 512 (lds M x).hd fun p => q.hd (tk it p) := fun p j => (inp_all _ _ _ _ p j).trans (H.hd p j)

theorem ld_pb : ∀ g, Is 256 128 ((lds M x).pb g) fun p => q.p (tk it p) g := fun g p j => (inp_row _ _ _ _ p j).trans ((H.pb p _).trans
    (congrArg Real.toEReal ((congrArg (cat4 (q.p (tk it p))) (Fin.ext (lane_val g j).symm : _ = lane g j)).trans (cat4_lane _ g j))))

theorem ld_g1 : IsRow 1024 (lds M x).g1 q.g1 := fun z j => (inp_all _ _ _ _ z j).trans (H.g1 z j)

theorem ld_win : Is 1536 1024 (lds M x).win q.win := fun k j => (inp_all _ _ _ _ k j).trans (H.win k j)

theorem ld_dw : ∀ k, IsRow 512 ((lds M x).dw k) (q.dww ⟨k.val, by omega⟩) := fun k z j => (inp_at _ _ _ _ z j).trans ((H.dww _ _).trans
    (congrArg₂ (fun a b => ((q.dww a b : ℝ) : EReal)) (Fin.ext (by show k.val + z.val = k.val; omega)) (Fin.ext (Nat.zero_add _))))

theorem ld_lng : IsRow 512 (lds M x).lng q.lng := fun z j => (inp_all _ _ _ _ z j).trans (H.lng z j)

theorem ld_lnb : IsRow 512 (lds M x).lnb q.lnb := fun z j => (inp_all _ _ _ _ z j).trans (H.lnb z j)

theorem ld_wpw : Is 512 512 (lds M x).wpw q.wpw := fun k j => (inp_all _ _ _ _ k j).trans (H.wpw k j)

theorem ld_wg : ∀ (g : Fin 4) (z : Fin 1) (a b : Fin 128), (lds M x).wg g (ix3 z a b) = ((q.wg g a b : ℝ) : EReal) := fun g z a b => (inp_slab _ _ _ _ _ z a b).trans (H.wg g a b)

theorem ld_psc : ∀ g, IsRow 128 ((lds M x).psc g) fun j => q.psc (lane g j) := fun g z j => (inp_row _ _ _ _ z j).trans ((H.psc z _).trans (congrArg (fun k => ((q.psc k : ℝ) : EReal)) (Fin.ext (lane_val g j).symm)))

theorem ld_wout : Is 1024 1024 (lds M x).wout q.wout := fun k j => (inp_all _ _ _ _ k j).trans (H.wout k j)

theorem ld_ycb : ∀ (j : Fin 4) (z : Fin 1) (r p : Fin 256), (lds M x).ycb j (ix3 z r p) = ((q.yc (tk it p) ⟨256 * j.val + r.val, by omega⟩ : ℝ) : EReal) := fun g z r p => (inp_slab _ _ _ _ _ z r p).trans ((H.ycb g r p).trans
    (congrArg (fun x => ((q.yc (tk it p) x : ℝ) : EReal)) (Fin.ext (by show g.val * 256 + r.val = 256 * g.val + r.val; omega))))

theorem ld_hsb : ∀ (j : Fin 2) (z : Fin 1) (r p : Fin 256), (lds M x).hsb j (ix3 z r p) = ((q.hs (tk it p) ⟨256 * j.val + r.val, by omega⟩ : ℝ) : EReal) := fun g z r p => (inp_slab _ _ _ _ _ z r p).trans ((H.hsb g r p).trans
    (congrArg (fun x => ((q.hs (tk it p) x : ℝ) : EReal)) (Fin.ext (by show g.val * 256 + r.val = 256 * g.val + r.val; omega))))

theorem tile_ins : Tile q it (lds M x) :=
  ⟨ld_dx1 M H, ld_x M H, ld_y M H, ld_sc M H, ld_gate M H, ld_ua M H, ld_ug M H, ld_hc M H, ld_halo M H, ld_hd M H, ld_pb M H, ld_g1 M H, ld_win M H, ld_dw M H, ld_lng M H, ld_lnb M H, ld_wpw M H, ld_wg M H, ld_psc M H, ld_wout M H, ld_ycb M H, ld_hsb M H⟩

end

/-! ### The blocks -/

section
variable (c : Dev nD) (W : (b : Ref sig .tc) → Buf (Elt Ideal) ((c : Thread nD τ).loc b))

/-- The block of window `w` at point `t`, of any arrays. -/
def blkOf (w : Fin cfg0.W) (t : Fin cfg0.N) : ((cfg0.win w).xblock (cfg0.grid.coords t)).Idx → Elt Ideal (cfg0.win w).elt :=
  ((cfg0.win w).blk t).view.read (Elt Ideal) (W (Pipeline.arrRef spec0 w))

theorem blk0 (t : Fin cfg0.N) (p : Fin 256) (j : Fin 1024) : blkOf c W 0 t (ix2 p j) = W main_arg0 (ix2 (tk (rev t) p) j) :=
  congrArg (W main_arg0) (ext2 (((cfg0.win 0).blk t).view.emb (ix2 p j)) (tk (rev t) p) j (by have := (idx_rows t).1.1; show win0_0.index t (0 : Fin 2) * 256 + 1 * p.val = 256 * (7 - t.val) + p.val; omega)
    (by have := (idx_rows t).1.2; show win0_0.index t (1 : Fin 2) * 1024 + 1 * j.val = j.val; omega))

theorem blk1 (t : Fin cfg0.N) (p : Fin 256) (j : Fin 1024) : blkOf c W 1 t (ix2 p j) = W main_arg1 (ix2 (tk (rev t) p) j) :=
  congrArg (W main_arg1) (ext2 (((cfg0.win 1).blk t).view.emb (ix2 p j)) (tk (rev t) p) j (by have := (idx_rows t).2.1.1; show win0_1.index t (0 : Fin 2) * 256 + 1 * p.val = 256 * (7 - t.val) + p.val; omega)
    (by have := (idx_rows t).2.1.2; show win0_1.index t (1 : Fin 2) * 1024 + 1 * j.val = j.val; omega))

theorem blk2 (t : Fin cfg0.N) (p : Fin 256) (j : Fin 1024) : blkOf c W 2 t (ix2 p j) = W main_v174 (ix2 (tk (rev t) p) j) :=
  congrArg (W main_v174) (ext2 (((cfg0.win 2).blk t).view.emb (ix2 p j)) (tk (rev t) p) j (by have := (idx_rows t).2.2.1.1; show win0_2.index t (0 : Fin 2) * 256 + 1 * p.val = 256 * (7 - t.val) + p.val; omega)
    (by have := (idx_rows t).2.2.1.2; show win0_2.index t (1 : Fin 2) * 1024 + 1 * j.val = j.val; omega))

theorem blk3 (t : Fin cfg0.N) (p : Fin 256) (j : Fin 1024) : blkOf c W 3 t (ix2 p j) = W main_v182 (ix2 (tk (rev t) p) j) :=
  congrArg (W main_v182) (ext2 (((cfg0.win 3).blk t).view.emb (ix2 p j)) (tk (rev t) p) j (by have := (idx_rows t).2.2.2.1.1; show win0_3.index t (0 : Fin 2) * 256 + 1 * p.val = 256 * (7 - t.val) + p.val; omega)
    (by have := (idx_rows t).2.2.2.1.2; show win0_3.index t (1 : Fin 2) * 1024 + 1 * j.val = j.val; omega))

theorem blk4 (t : Fin cfg0.N) (p : Fin 256) (j : Fin 512) : blkOf c W 4 t (ix2 p j) = W main_v42 (ix2 (tk (rev t) p) j) :=
  congrArg (W main_v42) (ext2 (((cfg0.win 4).blk t).view.emb (ix2 p j)) (tk (rev t) p) j (by have := (idx_rows t).2.2.2.2.1.1; show win0_4.index t (0 : Fin 2) * 256 + 1 * p.val = 256 * (7 - t.val) + p.val; omega)
    (by have := (idx_rows t).2.2.2.2.1.2; show win0_4.index t (1 : Fin 2) * 512 + 1 * j.val = j.val; omega))

theorem blk6 (t : Fin cfg0.N) (p : Fin 256) (j : Fin 512) : blkOf c W 6 t (ix2 p j) = W main_v57 (ix2 (tk (rev t) p) j) :=
  congrArg (W main_v57) (ext2 (((cfg0.win 6).blk t).view.emb (ix2 p j)) (tk (rev t) p) j (by have := (idx_rows t).2.2.2.2.2.1.1; show win0_6.index t (0 : Fin 2) * 256 + 1 * p.val = 256 * (7 - t.val) + p.val; omega)
    (by have := (idx_rows t).2.2.2.2.2.1.2; show win0_6.index t (1 : Fin 2) * 512 + 1 * j.val = j.val; omega))

theorem blk7 (t : Fin cfg0.N) (p : Fin 256) (j : Fin 512) : blkOf c W 7 t (ix2 p j) = W main_v180 (ix2 (tk (rev t) p) j) :=
  congrArg (W main_v180) (ext2 (((cfg0.win 7).blk t).view.emb (ix2 p j)) (tk (rev t) p) j (by have := (idx_rows t).2.2.2.2.2.2.1; show win0_7.index t (0 : Fin 2) * 256 + 1 * p.val = 256 * (7 - t.val) + p.val; omega)
    (by have := (idx_rows t).2.2.2.2.2.2.2; show win0_7.index t (1 : Fin 2) * 512 + 1 * j.val = j.val; omega))

theorem blk8 (t : Fin cfg0.N) (p : Fin 8) (j : Fin 6144) : blkOf c W 8 t (ix2 p j) = W main_arg2 (ix2 p j) :=
  congrArg (W main_arg2) (ext2 (((cfg0.win 8).blk t).view.emb (ix2 p j)) p j (by have := (idx_stay t).1.1; show win0_8.index t (0 : Fin 2) * 8 + 1 * p.val = p.val; omega)
    (by have := (idx_stay t).1.2; show win0_8.index t (1 : Fin 2) * 6144 + 1 * j.val = j.val; omega))

theorem blk9 (t : Fin cfg0.N) (p : Fin 1) (j : Fin 1024) : blkOf c W 9 t (ix2 p j) = W main_arg3 (ix2 p j) :=
  congrArg (W main_arg3) (ext2 (((cfg0.win 9).blk t).view.emb (ix2 p j)) p j (by have := (idx_stay t).2.1.1; show win0_9.index t (0 : Fin 2) * 1 + 1 * p.val = p.val; omega)
    (by have := (idx_stay t).2.1.2; show win0_9.index t (1 : Fin 2) * 1024 + 1 * j.val = j.val; omega))

theorem blk10 (t : Fin cfg0.N) (p : Fin 1536) (j : Fin 1024) : blkOf c W 10 t (ix2 p j) = W main_arg4 (ix2 p j) :=
  congrArg (W main_arg4) (ext2 (((cfg0.win 10).blk t).view.emb (ix2 p j)) p j (by have := (idx_stay t).2.2.1.1; show win0_10.index t (0 : Fin 2) * 1536 + 1 * p.val = p.val; omega)
    (by have := (idx_stay t).2.2.1.2; show win0_10.index t (1 : Fin 2) * 1024 + 1 * j.val = j.val; omega))

theorem blk11 (t : Fin cfg0.N) (p : Fin 32) (j : Fin 512) : blkOf c W 11 t (ix2 p j) = W main_arg5 (ix2 p j) :=
  congrArg (W main_arg5) (ext2 (((cfg0.win 11).blk t).view.emb (ix2 p j)) p j (by have := (idx_stay t).2.2.2.1.1; show win0_11.index t (0 : Fin 2) * 32 + 1 * p.val = p.val; omega)
    (by have := (idx_stay t).2.2.2.1.2; show win0_11.index t (1 : Fin 2) * 512 + 1 * j.val = j.val; omega))

theorem blk12 (t : Fin cfg0.N) (p : Fin 1) (j : Fin 512) : blkOf c W 12 t (ix2 p j) = W main_arg7 (ix2 p j) :=
  congrArg (W main_arg7) (ext2 (((cfg0.win 12).blk t).view.emb (ix2 p j)) p j (by have := (idx_stay t).2.2.2.2.1.1; show win0_12.index t (0 : Fin 2) * 1 + 1 * p.val = p.val; omega)
    (by have := (idx_stay t).2.2.2.2.1.2; show win0_12.index t (1 : Fin 2) * 512 + 1 * j.val = j.val; omega))

theorem blk13 (t : Fin cfg0.N) (p : Fin 1) (j : Fin 512) : blkOf c W 13 t (ix2 p j) = W main_arg8 (ix2 p j) :=
  congrArg (W main_arg8) (ext2 (((cfg0.win 13).blk t).view.emb (ix2 p j)) p j (by have := (idx_stay t).2.2.2.2.2.1.1; show win0_13.index t (0 : Fin 2) * 1 + 1 * p.val = p.val; omega)
    (by have := (idx_stay t).2.2.2.2.2.1.2; show win0_13.index t (1 : Fin 2) * 512 + 1 * j.val = j.val; omega))

theorem blk14 (t : Fin cfg0.N) (p : Fin 512) (j : Fin 512) : blkOf c W 14 t (ix2 p j) = W main_arg9 (ix2 p j) :=
  congrArg (W main_arg9) (ext2 (((cfg0.win 14).blk t).view.emb (ix2 p j)) p j (by have := (idx_stay t).2.2.2.2.2.2.1.1; show win0_14.index t (0 : Fin 2) * 512 + 1 * p.val = p.val; omega)
    (by have := (idx_stay t).2.2.2.2.2.2.1.2; show win0_14.index t (1 : Fin 2) * 512 + 1 * j.val = j.val; omega))

theorem blk16 (t : Fin cfg0.N) (p : Fin 1) (j : Fin 512) : blkOf c W 16 t (ix2 p j) = W main_arg11 (ix2 p j) :=
  congrArg (W main_arg11) (ext2 (((cfg0.win 16).blk t).view.emb (ix2 p j)) p j (by have := (idx_stay t).2.2.2.2.2.2.2.1.1; show win0_16.index t (0 : Fin 2) * 1 + 1 * p.val = p.val; omega)
    (by have := (idx_stay t).2.2.2.2.2.2.2.1.2; show win0_16.index t (1 : Fin 2) * 512 + 1 * j.val = j.val; omega))

theorem blk17 (t : Fin cfg0.N) (p : Fin 1024) (j : Fin 1024) : blkOf c W 17 t (ix2 p j) = W main_arg12 (ix2 p j) :=
  congrArg (W main_arg12) (ext2 (((cfg0.win 17).blk t).view.emb (ix2 p j)) p j (by have := (idx_stay t).2.2.2.2.2.2.2.2.1; show win0_17.index t (0 : Fin 2) * 1024 + 1 * p.val = p.val; omega)
    (by have := (idx_stay t).2.2.2.2.2.2.2.2.2; show win0_17.index t (1 : Fin 2) * 1024 + 1 * j.val = j.val; omega))

theorem blk18 (t : Fin cfg0.N) (z : Fin 4) (r p : Fin 256) : blkOf c W 18 t (ix3 z r p) = W main_v184 (ix3 z r (tk (rev t) p)) :=
  congrArg (W main_v184) (ext3 (((cfg0.win 18).blk t).view.emb (ix3 z r p)) z r (tk (rev t) p) (by have := (idx_cols t).1.1; show win0_18.index t (0 : Fin 3) * 4 + 1 * z.val = z.val; omega)
    (by have := (idx_cols t).1.2.1; show win0_18.index t (1 : Fin 3) * 256 + 1 * r.val = r.val; omega)
    (by have := (idx_cols t).1.2.2; show win0_18.index t (2 : Fin 3) * 256 + 1 * p.val = 256 * (7 - t.val) + p.val; omega))

theorem blk19 (t : Fin cfg0.N) (z : Fin 2) (r p : Fin 256) : blkOf c W 19 t (ix3 z r p) = W main_v186 (ix3 z r (tk (rev t) p)) :=
  congrArg (W main_v186) (ext3 (((cfg0.win 19).blk t).view.emb (ix3 z r p)) z r (tk (rev t) p) (by have := (idx_cols t).2.1; show win0_19.index t (0 : Fin 3) * 2 + 1 * z.val = z.val; omega)
    (by have := (idx_cols t).2.2.1; show win0_19.index t (1 : Fin 3) * 256 + 1 * r.val = r.val; omega)
    (by have := (idx_cols t).2.2.2; show win0_19.index t (2 : Fin 3) * 256 + 1 * p.val = 256 * (7 - t.val) + p.val; omega))

theorem blk15 (t : Fin cfg0.N) (g : Fin 4) (a b : Fin 128) : blkOf c W 15 t (ix3 g a b) = W main_arg10 (ix3 g a b) :=
  congrArg (W main_arg10) (ext3 (((cfg0.win 15).blk t).view.emb (ix3 g a b)) g a b (by have := (idx_stay3 t).1; show win0_15.index t (0 : Fin 3) * 4 + 1 * g.val = g.val; omega)
    (by have := (idx_stay3 t).2.1; show win0_15.index t (1 : Fin 3) * 128 + 1 * a.val = a.val; omega)
    (by have := (idx_stay3 t).2.2; show win0_15.index t (2 : Fin 3) * 128 + 1 * b.val = b.val; omega))

theorem blk5 (t : Fin cfg0.N) (h : (rev t).val ≠ 0) (r : Fin 32) (j : Fin 512) :
    blkOf c W 5 t (ix2 r j) = W main_v42 (ix2 (⟨256 * (rev t).val + r.val - 32, by have := (rev t).isLt; omega⟩ : Fin 2048) j) := by
  have h' : 7 - t.val ≠ 0 := h
  exact congrArg (W main_v42) (ext2 (((cfg0.win 5).blk t).view.emb (ix2 r j)) (⟨256 * (rev t).val + r.val - 32, by have := (rev t).isLt; omega⟩ : Fin 2048) j
    (by have := (idx_halo t).1; show win0_5.index t (0 : Fin 2) * 32 + 1 * r.val = 256 * (7 - t.val) + r.val - 32; omega)
    (by have := (idx_halo t).2; show win0_5.index t (1 : Fin 2) * 512 + 1 * j.val = j.val; omega))

/-- The inputs at point `t`, of any arrays. -/
def insOf (t : Fin cfg0.N) : Ins Ideal where
  dx1 := blkOf c W 0 t
  x := blkOf c W 1 t
  y := blkOf c W 2 t
  uag := blkOf c W 3 t
  hc := blkOf c W 4 t
  halo := blkOf c W 5 t
  hd := blkOf c W 6 t
  pb := blkOf c W 7 t
  mod := blkOf c W 8 t
  g1 := blkOf c W 9 t
  win := blkOf c W 10 t
  dww := blkOf c W 11 t
  lng := blkOf c W 12 t
  lnb := blkOf c W 13 t
  wpw := blkOf c W 14 t
  wg := blkOf c W 15 t
  psc := blkOf c W 16 t
  wout := blkOf c W 17 t
  ycb := blkOf c W 18 t
  hsb := blkOf c W 19 t

/-- The arrays hold what `q` says: the arguments, and the forward values made of them. -/
structure Saved (q : Prm) : Prop where
  args : Args (W main_arg0) (W main_arg1) (W main_arg2) (W main_arg3) (W main_arg4) (W main_arg5) (W main_arg6) (W main_arg7) (W main_arg8) (W main_arg9) (W main_arg10)
    (W main_arg11) (W main_arg12) q
  v182 : ∀ (t : Fin 2048) (j : Fin 1024), W main_v182 (ix2 t j) = ((q.u t ⟨j.val, lt_of_lt_of_le j.isLt (by decide)⟩ : ℝ) : EReal)
  v42 : ∀ (t : Fin 2048) (j : Fin 512), W main_v42 (ix2 t j) = ((q.hc t j : ℝ) : EReal)
  v57 : ∀ (t : Fin 2048) (j : Fin 512), W main_v57 (ix2 t j) = ((q.hd t j : ℝ) : EReal)
  v174 : ∀ (t : Fin 2048) (j : Fin 1024), W main_v174 (ix2 t j) = ((q.y t j : ℝ) : EReal)
  v180 : ∀ (t : Fin 2048) (j : Fin 512), W main_v180 (ix2 t j) = ((cat4 (q.p t) j : ℝ) : EReal)
  v184 : ∀ (z : Fin 4) (r : Fin 256) (t : Fin 2048), W main_v184 (ix3 z r t) = ((q.yc t ⟨z.val * 256 + r.val, by omega⟩ : ℝ) : EReal)
  v186 : ∀ (z : Fin 2) (r : Fin 256) (t : Fin 2048), W main_v186 (ix3 z r t) = ((q.hs t ⟨z.val * 256 + r.val, by omega⟩ : ℝ) : EReal)

variable {q : Prm} (H : Saved c W q)
include H

theorem blocks_of (t : Fin cfg0.N) : Blocks q (rev t) (insOf c W t) where
  dx1 p j := (blk0 c W t p j).trans (H.args.x0 _ _)
  x p j := (blk1 c W t p j).trans (H.args.x1 _ _)
  y p j := (blk2 c W t p j).trans (H.v174 _ _)
  uag p j := (blk3 c W t p j).trans (H.v182 _ _)
  hc p j := (blk4 c W t p j).trans (H.v42 _ _)
  halo h r j := (blk5 c W t h r j).trans ((H.v42 _ _).trans (congrArg Real.toEReal (pad_hit (fun s => q.hc s j) 32 (256 * (rev t).val + r.val) (by omega) _).symm))
  hd p j := (blk6 c W t p j).trans (H.v57 _ _)
  pb p j := (blk7 c W t p j).trans (H.v180 _ _)
  sc j := (blk8 c W t _ _).trans (H.args.sc j)
  gt j := (blk8 c W t _ _).trans (H.args.gt j)
  g1 z j := (blk9 c W t z j).trans (H.args.x3 _ _)
  win k j := (blk10 c W t k j).trans (H.args.x4 _ _)
  dww k j := (blk11 c W t k j).trans (H.args.x5 _ _)
  lng z j := (blk12 c W t z j).trans (H.args.x7 _ _)
  lnb z j := (blk13 c W t z j).trans (H.args.x8 _ _)
  wpw k j := (blk14 c W t k j).trans (H.args.x9 _ _)
  wg g a b := (blk15 c W t g a b).trans (H.args.x10 _ _ _)
  psc z j := (blk16 c W t z j).trans (H.args.x11 _ _)
  wout k j := (blk17 c W t k j).trans (H.args.x12 _ _)
  ycb z r p := (blk18 c W t z r p).trans (H.v184 _ _ _)
  hsb z r p := (blk19 c W t z r p).trans (H.v186 _ _ _)

end

variable (m : (ℓ : Loc nD τ sig) → Buf (Elt Ideal) ℓ) (c : Dev nD) {q : Prm}
variable (H : Args (V m c main_arg0) (V m c main_arg1) (V m c main_arg2) (V m c main_arg3) (V m c main_arg4) (V m c main_arg5) (V m c main_arg6) (V m c main_arg7)
  (V m c main_arg8) (V m c main_arg9) (V m c main_arg10) (V m c main_arg11) (V m c main_arg12) q)
include H

theorem v182_at (t : Fin 2048) (j : Fin 1024) : V m c main_v182 (ix2 t j) = ((q.u t ⟨j.val, by omega⟩ : ℝ) : EReal) := by
  rw [V_v182, V_v35]
  exact (slice_at _ t j).trans (rv35_at H t _)

theorem v42_at (t : Fin 2048) (j : Fin 512) : V m c main_v42 (ix2 t j) = ((q.hc t j : ℝ) : EReal) := by
  rw [V_v48]; exact rv48_at H t j

theorem v57_at (t : Fin 2048) (j : Fin 512) : V m c main_v57 (ix2 t j) = ((q.hd t j : ℝ) : EReal) := by
  rw [V_v63]; exact rv63_at H t j

theorem v174_at (t : Fin 2048) (j : Fin 1024) : V m c main_v174 (ix2 t j) = ((q.y t j : ℝ) : EReal) := by
  rw [V_v185]; exact rv185_at H t j

theorem v180_at (t : Fin 2048) (j : Fin 512) : V m c main_v180 (ix2 t j) = ((cat4 (q.p t) j : ℝ) : EReal) := by
  rw [V_v180, V_v189]
  exact rv189_at H t j

theorem v184_at (z : Fin 4) (r : Fin 256) (t : Fin 2048) : V m c main_v184 (ix3 z r t) = ((q.yc t ⟨z.val * 256 + r.val, by omega⟩ : ℝ) : EReal) := by
  rw [V_v184', V_v184]
  exact (turn4_at _ z r t).trans (rv184_at H t _)

theorem v186_at (z : Fin 2) (r : Fin 256) (t : Fin 2048) : V m c main_v186 (ix3 z r t) = ((q.hs t ⟨z.val * 256 + r.val, by omega⟩ : ℝ) : EReal) := by
  rw [V_v186, V_v91_0]
  exact (turn2_at _ z r t).trans (rv91_0_at H t _)

theorem tile_at (t : Fin cfg0.N) : Tile q (rev t) (lds (memsAt t) (insAt m c t)) :=
  tile_ins _ (blocks_of c (V m c) ⟨H, v182_at m c H, v42_at m c H, v57_at m c H, v174_at m c H, v180_at m c H, v184_at m c H, v186_at m c H⟩ t)

end Cert.Mix

end
-- ==== Proof.MixPoint.lean ====
/- One point of the mixer's backward call: from what it finds handed on to what it hands on, and what it writes back. -/
module

public import proofs.«01_k».proof.Proof.MixBlocks

@[expose] public section

set_option maxRecDepth 16384

noncomputable section

namespace Cert.Mix

open Idealize.ShloMosaic Idealize.ShloMosaic.TcCoe Cert.KernelMixIdeal Cert.KernelMixIdeal.Gen Cert.KernelMixIdeal.Body Cert.Ffn

/-- The sum over the tokens of the tiles of the points before `n`. -/
def done (f : Fin 2048 → ℝ) (n : ℕ) : ℝ := ∑ i ∈ Finset.range n, ∑ p ∈ Finset.range 256, pad f 0 (256 * (7 - i) + p)

theorem done_zero (f : Fin 2048 → ℝ) : done f 0 = 0 := rfl

theorem done_succ (f : Fin 2048 → ℝ) (it : Fin 8) (n : ℕ) (h : it.val + n = 7) : done f n + tsum f it = done f (n + 1) := by
  unfold done tsum
  rw [Finset.sum_range_succ, Finset.sum_range (n := 256) (fun p => pad f 0 (256 * (7 - n) + p)), show 7 - n = it.val by omega]
  exact congrArg _ (Finset.sum_congr rfl fun p _ => (pad_tk f it p).symm)

theorem done_all (f : Fin 2048 → ℝ) : done f 8 = ∑ t, f t := by
  have h : ∀ n, ∑ i ∈ Finset.range n, ∑ p ∈ Finset.range 256, pad f 0 (256 * i + p) = ∑ k ∈ Finset.range (256 * n), pad f 0 k := fun n => by
    induction n with
    | zero => rfl
    | succ n ih => rw [Finset.sum_range_succ, ih, Nat.mul_succ]; exact (Finset.sum_range_add _ _ _).symm
  unfold done
  rw [Finset.sum_range_reflect (fun i => ∑ p ∈ Finset.range 256, pad f 0 (256 * i + p)) 8, h, Finset.sum_range]
  exact Finset.sum_congr rfl fun k _ => pad_of_lt f k.val k.isLt

/-- What is handed on after `n` points. -/
structure Holds (q : Prm) (n : ℕ) (K : Carry Ideal) : Prop where
  acc : ∀ (r : Fin 8) (c : Fin 1024), K.acc (ix2 r c) = ((done (q.rows · r.val c) n : ℝ) : EReal)
  ddw : ∀ (r : Fin 32) (c : Fin 512), K.ddw (ix2 r c) = ((done (q.wconv · r.val c) n : ℝ) : EReal)
  dwg : ∀ (r : Fin 512) (c : Fin 128), K.dwg (ix2 r c) = ((done (fun t => q.wpool t ⟨r.val / 128, by omega⟩ ⟨r.val % 128, by omega⟩ c) n : ℝ) : EReal)
  dE : ∀ (r : Fin 32) (j : Fin 512), K.dE (ix2 ⟨256 + r.val, by omega⟩ j) = ((pad (fun s => q.dhd s j) 0 (256 * (8 - n) + r.val) : ℝ) : EReal)
  qE : ∀ (r : Fin 16) (g : Fin 4) (j : Fin 128), K.qE (ix2 ⟨256 + r.val, by omega⟩ (lane g j))
    = ((pad (fun s => q.dp s g j / cnt (wd g) s.val) 0 (256 * (8 - n) + r.val) : ℝ) : EReal)
  ao : ∀ (r c : Fin 1024), K.ao (ix2 r c) = ((done (q.wlast · r c) n : ℝ) : EReal)
  ap : ∀ (r c : Fin 512), K.ap (ix2 r c) = ((done (q.wpoint · r c) n : ℝ) : EReal)

/-- What the buffers held before the stores. -/
structure Bases (M : Mems) where
  acc : M.acc.view.ty.Contents (Elt Ideal)
  ddw : M.ddw.view.ty.Contents (Elt Ideal)
  dwg : M.dwg.view.ty.Contents (Elt Ideal)
  dE : M.dE.view.ty.Contents (Elt Ideal)
  qE : M.qE.view.ty.Contents (Elt Ideal)
  ao : M.ao.view.ty.Contents (Elt Ideal)
  ap : M.ap.view.ty.Contents (Elt Ideal)

/-- What the stores leave of them. -/
def Bases.after {M : Mems} (B : Bases M) (W : Stores Ideal) : Carry Ideal where
  acc := M.acc.view.read (Elt Ideal) (M.acc.view.writes (Elt Ideal) B.acc W.acc)
  ddw := M.ddw.view.read (Elt Ideal) (M.ddw.view.writes (Elt Ideal) B.ddw W.ddw)
  dwg := M.dwg.view.read (Elt Ideal) (M.dwg.view.writes (Elt Ideal) B.dwg W.dwg)
  dE := M.dE.view.read (Elt Ideal) (M.dE.view.writes (Elt Ideal) B.dE W.dE)
  qE := M.qE.view.read (Elt Ideal) (M.qE.view.writes (Elt Ideal) B.qE W.qE)
  ao := M.ao.view.read (Elt Ideal) (M.ao.view.writes (Elt Ideal) B.ao W.ao)
  ap := M.ap.view.read (Elt Ideal) (M.ap.view.writes (Elt Ideal) B.ap W.ap)

/-- A point's body starts from `O`. -/
structure Start (q : Prm) (n : ℕ) (M : Mems) (P : Prev Ideal) (B : Bases M) (O : Carry Ideal) : Prop where
  acc : Sem M.acc B.acc O.acc P.acc
  ddw : Sem M.ddw B.ddw O.ddw P.ddw
  dwg : Sem M.dwg B.dwg O.dwg P.dwg
  dE : Sem' M.dE B.dE O.dE P.dE
  qE : Sem' M.qE B.qE O.qE P.qE
  ao : Sem M.ao B.ao O.ao P.ao
  ap : Sem M.ap B.ap O.ap P.ap
  holds : Holds q n O

section
variable {q : Prm} {n : ℕ} {M : Mems} {P : Prev Ideal} {B : Bases M} {O : Carry Ideal} (S : Start q n M P B O) {it : Fin 8} {l : Lds Ideal} (H : Tile q it l)
  (h : it.val + n = 7)
include S h

theorem tail_dE : TailE q it O.dE := fun r j => (S.holds.dE r j).trans (by rw [show 256 * (8 - n) + r.val = 256 * it.val + (256 + r.val) by omega])

theorem tail_qE : TailQ q it O.qE := fun r g j => (S.holds.qE r g j).trans (by rw [show 256 * (8 - n) + r.val = 256 * it.val + (256 + r.val) by omega])

include H

theorem du_now : Is 256 1536 (duV l M P (BitVec.ofNat 32 it.val)) fun p => q.du (tk it p) :=
  duV_at H S.dE (tail_dE S h) S.qE (tail_qE S h)

theorem holds_next : Holds q (n + 1) (B.after (gen l M P (BitVec.ofNat 32 it.val))) where
  acc r c := (acc_at H S.acc S.holds.acc (du_now S H h) r c).trans (congrArg Real.toEReal (done_succ _ it n h))
  ddw r c := (ddw_at H S.ddw S.holds.ddw r c).trans (congrArg Real.toEReal (done_succ _ it n h))
  dwg r c := (dwg_at H S.dwg S.holds.dwg r c).trans (congrArg Real.toEReal (done_succ _ it n h))
  dE r j := (dE_next H S.dE (tail_dE S h) B.dE r j).trans (by rw [show 8 - (n + 1) = it.val by omega])
  qE r g j := (qE_next H S.qE (tail_qE S h) B.qE r g j).trans (by rw [show 8 - (n + 1) = it.val by omega])
  ao r c := (ao_at H S.ao S.holds.ao r c).trans (congrArg Real.toEReal (done_succ _ it n h))
  ap r c := (ap_at H S.ap S.holds.ap r c).trans (congrArg Real.toEReal (done_succ _ it n h))

theorem gx_now (x : Vec Ideal S256x1024 .f32) (p : Fin 256) (j : Fin 1024) :
    left M.w_gx x (gen l M P (BitVec.ofNat 32 it.val)).gx (ix2 p j) = ((q.dx (tk it p) j : ℝ) : EReal) :=
  (at_hit _ _ _ _ _ _ p j p j (Nat.zero_add _).symm (Nat.zero_add _).symm).trans (gxV_at H (du_now S H h) p j)

theorem dub_now (x : Vec Ideal S6x256x256 .bf16) (s : Fin 6) (r p : Fin 256) :
    left M.w_dub x (gen l M P (BitVec.ofNat 32 it.val)).dub (ix3 s r p) = ((q.du (tk it p) ⟨256 * s.val + r.val, by omega⟩ : ℝ) : EReal) := by
  have hd := du_now S H h
  have key : ∀ (k : Fin 6) (hk : k.val + 1 ≤ 6) (v : M.dub.view.ty.Contents (Elt Ideal)) (L : List (View.Piece (Elt Ideal) S6x256x256 .bf16)), s.val = k.val →
      M.dub.view.read (Elt Ideal) (M.dub.view.writes (Elt Ideal) v (⟨box3 6 256 256 1 256 256 k.val 0 0 hk (by decide) (by decide), slabV (duV l M P (BitVec.ofNat 32 it.val)) k⟩ :: L)) (ix3 s r p)
        = ((q.du (tk it p) ⟨256 * s.val + r.val, by omega⟩ : ℝ) : EReal) := fun k hk v L e => by
    refine (at_hit3 _ _ _ _ _ _ _ s r p (0 : Fin 1) r p e (Nat.zero_add _).symm (Nat.zero_add _).symm).trans ((slabV_at H hd k 0 r p).trans ?_)
    exact congrArg (fun x => ((q.du (tk it p) x : ℝ) : EReal)) (Fin.ext (by show 256 * k.val + r.val = 256 * s.val + r.val; omega))
  unfold left gen dubL
  dsimp only
  by_cases h5 : s.val = 5
  · exact key 5 (by decide) _ _ h5
  refine (at_miss3 _ _ _ _ _ _ _ s r p (by omega)).trans ?_
  by_cases h4 : s.val = 4
  · exact key 4 (by decide) _ _ h4
  refine (at_miss3 _ _ _ _ _ _ _ s r p (by omega)).trans ?_
  by_cases h3 : s.val = 3
  · exact key 3 (by decide) _ _ h3
  refine (at_miss3 _ _ _ _ _ _ _ s r p (by omega)).trans ?_
  by_cases h2 : s.val = 2
  · exact key 2 (by decide) _ _ h2
  refine (at_miss3 _ _ _ _ _ _ _ s r p (by omega)).trans ?_
  by_cases h1 : s.val = 1
  · exact key 1 (by decide) _ _ h1
  refine (at_miss3 _ _ _ _ _ _ _ s r p (by omega)).trans ?_
  exact key 0 (by decide) _ _ (by show s.val = 0; omega)

theorem po_now (x : Vec Ideal S1024x1024 .bf16) (r c : Fin 1024) :
    left M.w_po x [⟨box 1024 1024 1024 1024 0 0, k0_pay3 (M.ao.view.readCov (aoL l P 4 le_rfl) (box 1024 1024 1024 1024 0 0).toLoadRect)⟩] (ix2 r c)
      = ((done (q.wlast · r c) (n + 1) : ℝ) : EReal) := by
  refine (at_hit _ _ _ _ _ _ r c r c (Nat.zero_add _).symm (Nat.zero_add _).symm).trans (Eq.trans ?_ ((holds_next S H h).ao r c))
  show M.ao.view.readCov (aoL l P 4 le_rfl) (box 1024 1024 1024 1024 0 0).toLoadRect (ix2 r c) = _
  unfold View.readCov
  rw [View.readAt_apply, box_idx, zero_fin, zero_fin]
  exact View.read_writes_apply_eq _ _ _ _ _ _ (ao_covers l P (ix2 r c))

theorem pp_now (x : Vec Ideal S512x512 .bf16) (r c : Fin 512) :
    left M.w_pp x [⟨box 512 512 512 512 0 0, k0_pay4 (M.ap.view.readCov (apL l P 2 le_rfl) (box 512 512 512 512 0 0).toLoadRect)⟩] (ix2 r c)
      = ((done (q.wpoint · r c) (n + 1) : ℝ) : EReal) := by
  refine (at_hit _ _ _ _ _ _ r c r c (Nat.zero_add _).symm (Nat.zero_add _).symm).trans (Eq.trans ?_ ((holds_next S H h).ap r c))
  show M.ap.view.readCov (apL l P 2 le_rfl) (box 512 512 512 512 0 0).toLoadRect (ix2 r c) = _
  unfold View.readCov
  rw [View.readAt_apply, box_idx, zero_fin, zero_fin]
  exact View.read_writes_apply_eq _ _ _ _ _ _ (ap_covers l P (ix2 r c))

end

/-! ### Where a point starts -/

section
variable (q : Prm) (M : Mems)

def heldBases (K : Carry Ideal) : Bases M :=
  ⟨M.w_acc.unread K.acc, M.w_ddw.unread K.ddw, M.w_dwg.unread K.dwg, M.w_dE.unread K.dE, M.w_qE.unread K.qE, M.w_ao.unread K.ao, M.w_ap.unread K.ap⟩

theorem start_held {n : ℕ} {K : Carry Ideal} (h : Holds q n K) : Start q n M (M.prev K) (heldBases M K) K :=
  ⟨sem_kept _ _, sem_kept _ _, sem_kept _ _, sem_over _ _, sem_over _ _, sem_kept _ _, sem_kept _ _, h⟩

def freshBases : Bases M := ⟨M.acc.view.junk, M.ddw.view.junk, M.dwg.view.junk, M.dE.view.junk, M.qE.view.junk, M.ao.view.junk, M.ap.view.junk⟩

/-- The zeros of the first point. -/
def cleared : Carry Ideal := (freshBases M).after
  { gx := [], dub := [], po := [], pp := [], hx := [], ub := [], hr := [], dr := []
    acc := M.start.acc.base, ddw := M.start.ddw.base, dwg := M.start.dwg.base, dE := M.start.dE.base, qE := M.start.qE.base, ao := M.start.ao.base, ap := M.start.ap.base }

theorem pad_past (f : Fin 2048 → ℝ) (k : ℕ) (h : 2048 ≤ k) : pad f 0 k = 0 := dif_neg (by omega)

theorem holds_cleared : Holds q 0 (cleared M) where
  acc r c := (at_hit _ _ _ _ _ _ r c r c (Nat.zero_add _).symm (Nat.zero_add _).symm).trans word_zero
  ddw r c := (at_hit _ _ _ _ _ _ r c r c (Nat.zero_add _).symm (Nat.zero_add _).symm).trans word_zero
  dwg r c := (at_hit _ _ _ _ _ _ r c r c (Nat.zero_add _).symm (Nat.zero_add _).symm).trans word_zero
  dE r j := (at_hit _ _ _ _ _ _ ⟨256 + r.val, by omega⟩ j r j rfl (Nat.zero_add _).symm).trans
    (word_zero.trans (congrArg Real.toEReal (pad_past _ _ (by omega)).symm))
  qE r g j := (at_hit _ _ _ _ _ _ ⟨256 + r.val, by omega⟩ (lane g j) r (lane g j) rfl (Nat.zero_add _).symm).trans
    (word_zero.trans (congrArg Real.toEReal (pad_past _ _ (by omega)).symm))
  ao r c := (at_hit _ _ _ _ _ _ r c r c (Nat.zero_add _).symm (Nat.zero_add _).symm).trans word_zero
  ap r c := (at_hit _ _ _ _ _ _ r c r c (Nat.zero_add _).symm (Nat.zero_add _).symm).trans word_zero

theorem start_fresh : Start q 0 M M.start (freshBases M) (cleared M) :=
  ⟨sem_fresh _ _ _, sem_fresh _ _ _, sem_fresh _ _ _, sem_fresh' _ _ _, sem_fresh' _ _ _, sem_fresh _ _ _, sem_fresh _ _ _, holds_cleared q M⟩

theorem carry_fresh (K : Carry Ideal) (W : Stores Ideal) (h : Covers W.acc ∧ Covers W.ddw ∧ Covers W.dwg ∧ Covers W.dE ∧ Covers W.qE ∧ Covers W.ao ∧ Covers W.ap) :
    M.carry K W = (freshBases M).after W := by
  obtain ⟨h1, h2, h3, h4, h5, h6, h7⟩ := h
  unfold Mems.carry Bases.after
  rw [Carry.mk.injEq]
  exact ⟨View.read_writes_of_cover _ _ _ _ _ h1, View.read_writes_of_cover _ _ _ _ _ h2, View.read_writes_of_cover _ _ _ _ _ h3, View.read_writes_of_cover _ _ _ _ _ h4,
    View.read_writes_of_cover _ _ _ _ _ h5, View.read_writes_of_cover _ _ _ _ _ h6, View.read_writes_of_cover _ _ _ _ _ h7⟩

end

end Cert.Mix

end
-- ==== Proof.MixFrame.lean ====
/- The mixer's backward call from the launch to its end: the point's triple, the run, and the arguments unchanged. -/
module

public import proofs.«01_k».proof.Proof.MixData

@[expose] public section

set_option maxRecDepth 16384

noncomputable section

namespace Cert.KernelMixIdeal.Body

open Idealize.ShloMosaic Idealize.ShloMosaic.TcCoe Idealize.ShloMosaic.Tactic Cert.KernelMixIdeal Cert.KernelMixIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each input's buffer holds its block at every point. -/
theorem before_in (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t)
    ∧ (∀ d, (dats m 0 c).before 8 t d = iblk m c 8 t)
    ∧ (∀ d, (dats m 0 c).before 9 t d = iblk m c 9 t)
    ∧ (∀ d, (dats m 0 c).before 10 t d = iblk m c 10 t)
    ∧ (∀ d, (dats m 0 c).before 11 t d = iblk m c 11 t)
    ∧ (∀ d, (dats m 0 c).before 12 t d = iblk m c 12 t)
    ∧ (∀ d, (dats m 0 c).before 13 t d = iblk m c 13 t)
    ∧ (∀ d, (dats m 0 c).before 14 t d = iblk m c 14 t)
    ∧ (∀ d, (dats m 0 c).before 15 t d = iblk m c 15 t)
    ∧ (∀ d, (dats m 0 c).before 16 t d = iblk m c 16 t)
    ∧ (∀ d, (dats m 0 c).before 17 t d = iblk m c 17 t)
    ∧ (∀ d, (dats m 0 c).before 18 t d = iblk m c 18 t)
    ∧ (∀ d, (dats m 0 c).before 19 t d = iblk m c 19 t) := by
  refine ⟨?_, ?_, ?_, ?_, ?_, ?_, ?_, ?_, ?_, ?_, ?_, ?_, ?_, ?_, ?_, ?_, ?_, ?_, ?_, ?_⟩ <;>
    exact fun d => ((dats m 0 c).before_in_eq_fetched _ rfl (fun _ => rfl) (fun _ _ _ => rfl)
      (fun t => by unfold Dat.blockOf; dsimp only [dats]; rfl) t d).trans (by unfold Dat.fetched Dat.blockOf; dsimp only [dats]; rfl)

theorem before_acc (c : Dev nD) (t : Fin cfg0.N) (h : t.val ≠ 0) (d) : (dats m 0 c).before 22 t d = (prevAt m c t.val t.isLt.le).acc := by
  have hN : t.val < 8 := lt_of_lt_of_eq t.isLt (show cfg0.N = 8 from N_0)
  rw [Dat.before_out_kept _ 22 rfl t h (Bool.eq_false_iff.mpr fun h => by have := (flush0_22 _).mp h; dsimp only at this; omega)
    (fun _ => rfl) (fun _ _ => rfl)]
  obtain ⟨n, hn⟩ := t
  cases n with
  | zero => exact absurd rfl h
  | succ n => dsimp only [dats]; rfl

theorem before_ddw (c : Dev nD) (t : Fin cfg0.N) (h : t.val ≠ 0) (d) : (dats m 0 c).before 23 t d = (prevAt m c t.val t.isLt.le).ddw := by
  have hN : t.val < 8 := lt_of_lt_of_eq t.isLt (show cfg0.N = 8 from N_0)
  rw [Dat.before_out_kept _ 23 rfl t h (Bool.eq_false_iff.mpr fun h => by have := (flush0_23 _).mp h; dsimp only at this; omega)
    (fun _ => rfl) (fun _ _ => rfl)]
  obtain ⟨n, hn⟩ := t
  cases n with
  | zero => exact absurd rfl h
  | succ n => dsimp only [dats]; rfl

theorem before_dwg (c : Dev nD) (t : Fin cfg0.N) (h : t.val ≠ 0) (d) : (dats m 0 c).before 24 t d = (prevAt m c t.val t.isLt.le).dwg := by
  have hN : t.val < 8 := lt_of_lt_of_eq t.isLt (show cfg0.N = 8 from N_0)
  rw [Dat.before_out_kept _ 24 rfl t h (Bool.eq_false_iff.mpr fun h => by have := (flush0_24 _).mp h; dsimp only at this; omega)
    (fun _ => rfl) (fun _ _ => rfl)]
  obtain ⟨n, hn⟩ := t
  cases n with
  | zero => exact absurd rfl h
  | succ n => dsimp only [dats]; rfl

theorem idle_po : ∀ t : Fin cfg0.N, t.val ≠ 7 → (cfg0.idle 25 (grid0.coords t) = true ∧ (cfg0.win 25).flush t = false)
    ∧ cfg0.idle 26 (grid0.coords t) = true ∧ (cfg0.win 26).flush t = false := by decide +kernel

theorem live_po : ∀ t : Fin cfg0.N, t.val = 7 → cfg0.idle 25 (grid0.coords t) = false ∧ cfg0.idle 26 (grid0.coords t) = false := by
  decide +kernel

/-- What the launch hands over is what is known before the first point. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA
  rw [scopedRest0_eq]
  simp only [owns_whole]
  try rfl

theorem Phi_first (c : Dev nD) : Pipeline.ΦA spec0 c ⊢ Phi m c 0 (Nat.zero_le _) := by
  rw [PhiA_eq]
  unfold Phi
  iintro ⟨⟨⟨%d0, H0⟩, ⟨%d1, H1⟩, ⟨%d2, H2⟩, ⟨%d3, H3⟩, ⟨%d4, H4⟩, ⟨%d5, H5⟩, ⟨%d6, H6⟩, ⟨%d7, H7⟩⟩, Hg⟩
  iexists (Carry.mk anyCarry.acc anyCarry.ddw anyCarry.dwg d0 d1 d6 d7)
  iexists (Rest.mk anyRest.gx anyRest.dub anyRest.po anyRest.pp d2 d3 d4 d5)
  isplitr
  · ipureintro
    exact fun h => absurd rfl h
  dsimp only
  iframe

theorem Phi_any (c : Dev nD) (n : ℕ) (hn : n ≤ cfg0.N) : Phi m c n hn ⊢ Pipeline.ΦA spec0 c := by
  rw [PhiA_eq]
  unfold Phi
  iintro ⟨%K, %R, -, ⟨H0, H1, H2, H3, H4, H5, H6, H7⟩, Hg⟩
  isplitr [Hg]
  · isplitl [H0]
    · iexists _; iexact H0
    isplitl [H1]
    · iexists _; iexact H1
    isplitl [H2]
    · iexists _; iexact H2
    isplitl [H3]
    · iexists _; iexact H3
    isplitl [H4]
    · iexists _; iexact H4
    isplitl [H5]
    · iexists _; iexact H5
    isplitl [H6]
    · iexists _; iexact H6
    iexists _; iexact H7
  iexact Hg

set_option maxHeartbeats 4000000 in
/-- A window that no point leaves alone ends a point at what the body leaves. -/
theorem leaves_live (c : Dev nD) (t : Fin cfg0.N) :
    ((dats m 0 c).leavesExact 0 t = owns (c : Thread nD τ) (win0_0.stage (cfg0.slots t 0)) fullShare (iblk m c 0 t))
    ∧ ((dats m 0 c).leavesExact 1 t = owns (c : Thread nD τ) (win0_1.stage (cfg0.slots t 1)) fullShare (iblk m c 1 t))
    ∧ ((dats m 0 c).leavesExact 2 t = owns (c : Thread nD τ) (win0_2.stage (cfg0.slots t 2)) fullShare (iblk m c 2 t))
    ∧ ((dats m 0 c).leavesExact 3 t = owns (c : Thread nD τ) (win0_3.stage (cfg0.slots t 3)) fullShare (iblk m c 3 t))
    ∧ ((dats m 0 c).leavesExact 4 t = owns (c : Thread nD τ) (win0_4.stage (cfg0.slots t 4)) fullShare (iblk m c 4 t))
    ∧ ((dats m 0 c).leavesExact 5 t = owns (c : Thread nD τ) (win0_5.stage (cfg0.slots t 5)) fullShare (iblk m c 5 t))
    ∧ ((dats m 0 c).leavesExact 6 t = owns (c : Thread nD τ) (win0_6.stage (cfg0.slots t 6)) fullShare (iblk m c 6 t))
    ∧ ((dats m 0 c).leavesExact 7 t = owns (c : Thread nD τ) (win0_7.stage (cfg0.slots t 7)) fullShare (iblk m c 7 t))
    ∧ ((dats m 0 c).leavesExact 8 t = owns (c : Thread nD τ) (win0_8.stage (cfg0.slots t 8)) fullShare (iblk m c 8 t))
    ∧ ((dats m 0 c).leavesExact 9 t = owns (c : Thread nD τ) (win0_9.stage (cfg0.slots t 9)) fullShare (iblk m c 9 t))
    ∧ ((dats m 0 c).leavesExact 10 t = owns (c : Thread nD τ) (win0_10.stage (cfg0.slots t 10)) fullShare (iblk m c 10 t))
    ∧ ((dats m 0 c).leavesExact 11 t = owns (c : Thread nD τ) (win0_11.stage (cfg0.slots t 11)) fullShare (iblk m c 11 t))
    ∧ ((dats m 0 c).leavesExact 12 t = owns (c : Thread nD τ) (win0_12.stage (cfg0.slots t 12)) fullShare (iblk m c 12 t))
    ∧ ((dats m 0 c).leavesExact 13 t = owns (c : Thread nD τ) (win0_13.stage (cfg0.slots t 13)) fullShare (iblk m c 13 t))
    ∧ ((dats m 0 c).leavesExact 14 t = owns (c : Thread nD τ) (win0_14.stage (cfg0.slots t 14)) fullShare (iblk m c 14 t))
    ∧ ((dats m 0 c).leavesExact 15 t = owns (c : Thread nD τ) (win0_15.stage (cfg0.slots t 15)) fullShare (iblk m c 15 t))
    ∧ ((dats m 0 c).leavesExact 16 t = owns (c : Thread nD τ) (win0_16.stage (cfg0.slots t 16)) fullShare (iblk m c 16 t))
    ∧ ((dats m 0 c).leavesExact 17 t = owns (c : Thread nD τ) (win0_17.stage (cfg0.slots t 17)) fullShare (iblk m c 17 t))
    ∧ ((dats m 0 c).leavesExact 18 t = owns (c : Thread nD τ) (win0_18.stage (cfg0.slots t 18)) fullShare (iblk m c 18 t))
    ∧ ((dats m 0 c).leavesExact 19 t = owns (c : Thread nD τ) (win0_19.stage (cfg0.slots t 19)) fullShare (iblk m c 19 t))
    ∧ ((dats m 0 c).leavesExact 20 t = owns (c : Thread nD τ) (win0_20.stage (cfg0.slots t 20)) fullShare ((restAt m c t).gx))
    ∧ ((dats m 0 c).leavesExact 21 t = owns (c : Thread nD τ) (win0_21.stage (cfg0.slots t 21)) fullShare ((restAt m c t).dub))
    ∧ ((dats m 0 c).leavesExact 22 t = owns (c : Thread nD τ) (win0_22.stage (cfg0.slots t 22)) fullShare ((carryAt m c t.val t.isLt).acc))
    ∧ ((dats m 0 c).leavesExact 23 t = owns (c : Thread nD τ) (win0_23.stage (cfg0.slots t 23)) fullShare ((carryAt m c t.val t.isLt).ddw))
    ∧ ((dats m 0 c).leavesExact 24 t = owns (c : Thread nD τ) (win0_24.stage (cfg0.slots t 24)) fullShare ((carryAt m c t.val t.isLt).dwg)) :=
  ⟨rfl, rfl, rfl, rfl, rfl, rfl, rfl, rfl, rfl, rfl, rfl, rfl, rfl, rfl, rfl, rfl, rfl, rfl, rfl, rfl, rfl, rfl, rfl, rfl, rfl⟩

set_option maxHeartbeats 8000000 in
/-- A point's triple over all the windows. -/
theorem point (c : Dev nD) (t : Fin cfg0.N) :
    iprop((dats m 0 c).Φ t.castSucc ∗ (dats m 0 c).owesAt () t.castSucc
        ∗ (∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ d, owns (c : Thread nD τ) (win0_6.stage (cfg0.slots t 6)) fullShare ((dats m 0 c).before 6 t d))
        ∗ (∃ d, owns (c : Thread nD τ) (win0_7.stage (cfg0.slots t 7)) fullShare ((dats m 0 c).before 7 t d))
        ∗ (∃ d, owns (c : Thread nD τ) (win0_8.stage (cfg0.slots t 8)) fullShare ((dats m 0 c).before 8 t d))
        ∗ (∃ d, owns (c : Thread nD τ) (win0_9.stage (cfg0.slots t 9)) fullShare ((dats m 0 c).before 9 t d))
        ∗ (∃ d, owns (c : Thread nD τ) (win0_10.stage (cfg0.slots t 10)) fullShare ((dats m 0 c).before 10 t d))
        ∗ (∃ d, owns (c : Thread nD τ) (win0_11.stage (cfg0.slots t 11)) fullShare ((dats m 0 c).before 11 t d))
        ∗ (∃ d, owns (c : Thread nD τ) (win0_12.stage (cfg0.slots t 12)) fullShare ((dats m 0 c).before 12 t d))
        ∗ (∃ d, owns (c : Thread nD τ) (win0_13.stage (cfg0.slots t 13)) fullShare ((dats m 0 c).before 13 t d))
        ∗ (∃ d, owns (c : Thread nD τ) (win0_14.stage (cfg0.slots t 14)) fullShare ((dats m 0 c).before 14 t d))
        ∗ (∃ d, owns (c : Thread nD τ) (win0_15.stage (cfg0.slots t 15)) fullShare ((dats m 0 c).before 15 t d))
        ∗ (∃ d, owns (c : Thread nD τ) (win0_16.stage (cfg0.slots t 16)) fullShare ((dats m 0 c).before 16 t d))
        ∗ (∃ d, owns (c : Thread nD τ) (win0_17.stage (cfg0.slots t 17)) fullShare ((dats m 0 c).before 17 t d))
        ∗ (∃ d, owns (c : Thread nD τ) (win0_18.stage (cfg0.slots t 18)) fullShare ((dats m 0 c).before 18 t d))
        ∗ (∃ d, owns (c : Thread nD τ) (win0_19.stage (cfg0.slots t 19)) fullShare ((dats m 0 c).before 19 t d))
        ∗ (∃ d, owns (c : Thread nD τ) (win0_20.stage (cfg0.slots t 20)) fullShare ((dats m 0 c).before 20 t d))
        ∗ (∃ d, owns (c : Thread nD τ) (win0_21.stage (cfg0.slots t 21)) fullShare ((dats m 0 c).before 21 t d))
        ∗ (∃ d, owns (c : Thread nD τ) (win0_22.stage (cfg0.slots t 22)) fullShare ((dats m 0 c).before 22 t d))
        ∗ (∃ d, owns (c : Thread nD τ) (win0_23.stage (cfg0.slots t 23)) fullShare ((dats m 0 c).before 23 t d))
        ∗ (∃ d, owns (c : Thread nD τ) (win0_24.stage (cfg0.slots t 24)) fullShare ((dats m 0 c).before 24 t d))
        ∗ (∃ d, owns (c : Thread nD τ) (win0_25.stage (cfg0.slots t 25)) fullShare ((dats m 0 c).before 25 t d))
        ∗ (∃ d, owns (c : Thread nD τ) (win0_26.stage (cfg0.slots t 26)) fullShare ((dats m 0 c).before 26 t d)))
      ⊢ wp frame (wpE (defs₀ (F := F)) Variants.none c none) Set.univ (bodyAt0 t) (fun _ =>
        iprop((dats m 0 c).Φ t.succ ∗ (dats m 0 c).owesAt () t.succ
          ∗ (dats m 0 c).leavesExact 0 t
          ∗ (dats m 0 c).leavesExact 1 t
          ∗ (dats m 0 c).leavesExact 2 t
          ∗ (dats m 0 c).leavesExact 3 t
          ∗ (dats m 0 c).leavesExact 4 t
          ∗ (dats m 0 c).leavesExact 5 t
          ∗ (dats m 0 c).leavesExact 6 t
          ∗ (dats m 0 c).leavesExact 7 t
          ∗ (dats m 0 c).leavesExact 8 t
          ∗ (dats m 0 c).leavesExact 9 t
          ∗ (dats m 0 c).leavesExact 10 t
          ∗ (dats m 0 c).leavesExact 11 t
          ∗ (dats m 0 c).leavesExact 12 t
          ∗ (dats m 0 c).leavesExact 13 t
          ∗ (dats m 0 c).leavesExact 14 t
          ∗ (dats m 0 c).leavesExact 15 t
          ∗ (dats m 0 c).leavesExact 16 t
          ∗ (dats m 0 c).leavesExact 17 t
          ∗ (dats m 0 c).leavesExact 18 t
          ∗ (dats m 0 c).leavesExact 19 t
          ∗ (dats m 0 c).leavesExact 20 t
          ∗ (dats m 0 c).leavesExact 21 t
          ∗ (dats m 0 c).leavesExact 22 t
          ∗ (dats m 0 c).leavesExact 23 t
          ∗ (dats m 0 c).leavesExact 24 t
          ∗ (dats m 0 c).leavesExact 25 t
          ∗ (dats m 0 c).leavesExact 26 t)) := by
  obtain ⟨e0, e1, e2, e3, e4, e5, e6, e7, e8, e9, e10, e11, e12, e13, e14, e15, e16, e17, e18, e19⟩ := before_in m c t
  simp only [e0, e1, e2, e3, e4, e5, e6, e7, e8, e9, e10, e11, e12, e13, e14, e15, e16, e17, e18, e19]
  rw [Phi_castSucc, show (dats m 0 c).owesAt () t.succ = (dats m 0 c).owesAt () t.castSucc from rfl,
    show (dats m 0 c).Φ t.succ = Phi m c (t.val + 1) t.isLt from rfl]
  unfold Phi
  iintro ⟨⟨%K, %R, %hK, ⟨S0, S1, S2, S3, S4, S5, S6, S7⟩, Hg⟩, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩, ⟨%_, H16⟩, ⟨%_, H17⟩, ⟨%_, H18⟩, ⟨%_, H19⟩, ⟨%d20, H20⟩, ⟨%d21, H21⟩, ⟨%d22, H22⟩, ⟨%d23, H23⟩, ⟨%d24, H24⟩, ⟨%d25, H25⟩, ⟨%d26, H26⟩⟩
  have hK' : Found m c t.val t.isLt.le (Carry.mk ((dats m 0 c).before 22 t d22) ((dats m 0 c).before 23 t d23) ((dats m 0 c).before 24 t d24) K.dE K.qE K.ao K.ap) := fun h => by
    rw [before_acc m c t h, before_ddw m c t h, before_dwg m c t h, hK h]
  have hrun := (runs_at m c t _ (Rest.mk ((dats m 0 c).before 20 t d20) ((dats m 0 c).before 21 t d21) ((dats m 0 c).before 25 t d25) ((dats m 0 c).before 26 t d26) R.hx R.ub R.hr R.dr) hK').owned Set.univ
  rw [carry_at m c t _ hK'] at hrun
  iapply (hrun _)
  isplitl [H0 H1 H2 H3 H4 H5 H6 H7 H8 H9 H10 H11 H12 H13 H14 H15 H16 H17 H18 H19]
  · unfold ownsIn insAt
    dsimp only
    iframe
  isplitl [H20 H21 H22 H23 H24 H25 H26 S0 S1 S2 S3 S4 S5 S6 S7]
  · unfold ownsOut
    dsimp only
    iframe
  obtain ⟨l0, l1, l2, l3, l4, l5, l6, l7, l8, l9, l10, l11, l12, l13, l14, l15, l16, l17, l18, l19, l20, l21, l22, l23, l24⟩ := leaves_live m c t
  rw [l0, l1, l2, l3, l4, l5, l6, l7, l8, l9, l10, l11, l12, l13, l14, l15, l16, l17, l18, l19, l20, l21, l22, l23, l24]
  have hc := stores_cover m c t (prevAt m c t.val t.isLt.le)
  unfold ownsIn ownsOut insAt Mems.rest
  dsimp only
  rw [left_of_cover _ (memsAt t).w_gx _ anyRest.gx _ hc.1, left_of_cover _ (memsAt t).w_dub _ anyRest.dub _ hc.2]
  iintro ⟨⟨H0, H1, H2, H3, H4, H5, H6, H7, H8, H9, H10, H11, H12, H13, H14, H15, H16, H17, H18, H19⟩, H20, H21, H22, H23, H24, H25, H26, S0, S1, S2, S3, S4, S5, S6, S7⟩
  isplitl [S0 S1 S2 S3 S4 S5 S6 S7 Hg]
  · iexists (carryAt m c t.val t.isLt)
    iexists (Rest.mk anyRest.gx anyRest.dub anyRest.po anyRest.pp _ _ _ _)
    isplitr
    · ipureintro
      exact fun _ => rfl
    isplitr [Hg]
    · isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      iexact S7
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  by_cases h7 : t.val = 7
  · obtain ⟨hl, hl'⟩ := live_po t h7
    have hp := stores_last m c t h7 (prevAt m c t.val t.isLt.le)
    rw [left_of_cover _ (memsAt t).w_po _ anyRest.po _ hp.1, left_of_cover _ (memsAt t).w_pp _ anyRest.pp _ hp.2]
    rw [show (dats m 0 c).leavesExact 25 t = owns (c : Thread nD τ) (win0_25.stage (cfg0.slots t 25)) fullShare (restAt m c t).po from by
        unfold Dat.leavesExact; rw [hl]; rfl,
      show (dats m 0 c).leavesExact 26 t = owns (c : Thread nD τ) (win0_26.stage (cfg0.slots t 26)) fullShare (restAt m c t).pp from by
        unfold Dat.leavesExact; rw [hl']; rfl]
    isplitl [H25]
    · iexact H25
    iexact H26
  · obtain ⟨⟨hi, hf⟩, hi', hf'⟩ := idle_po t h7
    have hp := stores_idle m c t h7 (prevAt m c t.val t.isLt.le)
    rw [(dats m 0 c).leavesExact_idle 25 t hi hf, (dats m 0 c).leavesExact_idle 26 t hi' hf', hp.1, hp.2, left_nil, left_nil]
    isplitl [H25]
    · iexists d25
      iexact H25
    iexists d26
    iexact H26

set_option maxHeartbeats 4000000

theorem defs_row (t : Fin cfg0.N) : defs₀ (F := F) .tc cfg0.body (cfg0.bodyArgs t (cfg0.slots t)) = bodyAt0 t := by
  unfold defs₀
  rw [Defs.onTc_tc]

theorem body_obligation (c : Dev nD) : BodyObligation (dats (F := F) m 0 c) (defs₀ (F := F)) Variants.none () Set.univ := fun t => by
  rw [bigSep_W0, bigSep_W0, defs_row]
  exact triple_restated (point m c t) rfl .rfl fun _ => .rfl

set_option backward.isDefEq.respectTransparency.types false in
/-- The run: every array of the call at what its proof data say, every other buffer as the call found it, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := fun c => Phi_first m c)
    (hout := fun c => Phi_any m c _ _)

/-- The arguments end as they were. -/
theorem kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).1 8).trans (((dats m 0 c).arrAt_in 8 rfl _).trans ((A_eq m c 8).trans (V_arg m c main_arg2 (by decide)))),
      ((h c).1 9).trans (((dats m 0 c).arrAt_in 9 rfl _).trans ((A_eq m c 9).trans (V_arg m c main_arg3 (by decide)))),
      ((h c).1 10).trans (((dats m 0 c).arrAt_in 10 rfl _).trans ((A_eq m c 10).trans (V_arg m c main_arg4 (by decide)))),
      ((h c).1 11).trans (((dats m 0 c).arrAt_in 11 rfl _).trans ((A_eq m c 11).trans (V_arg m c main_arg5 (by decide)))),
      ((h c).2 main_arg6 (Pipeline.mem_restRefs_of main_arg6 (by decide) (by decide))).trans (V_arg m c main_arg6 (by decide)),
      ((h c).1 12).trans (((dats m 0 c).arrAt_in 12 rfl _).trans ((A_eq m c 12).trans (V_arg m c main_arg7 (by decide)))),
      ((h c).1 13).trans (((dats m 0 c).arrAt_in 13 rfl _).trans ((A_eq m c 13).trans (V_arg m c main_arg8 (by decide)))),
      ((h c).1 14).trans (((dats m 0 c).arrAt_in 14 rfl _).trans ((A_eq m c 14).trans (V_arg m c main_arg9 (by decide)))),
      ((h c).1 15).trans (((dats m 0 c).arrAt_in 15 rfl _).trans ((A_eq m c 15).trans (V_arg m c main_arg10 (by decide)))),
      ((h c).1 16).trans (((dats m 0 c).arrAt_in 16 rfl _).trans ((A_eq m c 16).trans (V_arg m c main_arg11 (by decide)))),
      ((h c).1 17).trans (((dats m 0 c).arrAt_in 17 rfl _).trans ((A_eq m c 17).trans (V_arg m c main_arg12 (by decide))))⟩

/-- The frame: the arguments end as they were, and no counter moves. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨kept m r h.1, h.2⟩) (run_main m ρ)

/-- The run with each result's array at what its proof data say, the arguments as they were. -/
theorem run_blocks : θ_run defs (onTc (τ := τ) (main (F := F))) ⟨m, fun _ => 0, ρ⟩ (fun r => ∀ c : Dev nD,
      r.2.mem ((c.tc : Thread nD τ).loc main_v187_0) = (dats m 0 c).arrAt 20 cfg0.N
      ∧ r.2.mem ((c.tc : Thread nD τ).loc main_v187_1) = (dats m 0 c).arrAt 21 cfg0.N
      ∧ r.2.mem ((c.tc : Thread nD τ).loc main_v187_2) = (dats m 0 c).arrAt 22 cfg0.N
      ∧ r.2.mem ((c.tc : Thread nD τ).loc main_v187_3) = (dats m 0 c).arrAt 23 cfg0.N
      ∧ r.2.mem ((c.tc : Thread nD τ).loc main_v187_4) = (dats m 0 c).arrAt 24 cfg0.N
      ∧ r.2.mem ((c.tc : Thread nD τ).loc main_v187_5) = (dats m 0 c).arrAt 25 cfg0.N
      ∧ r.2.mem ((c.tc : Thread nD τ).loc main_v187_6) = (dats m 0 c).arrAt 26 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h.1 c).1 20, (h.1 c).1 21, (h.1 c).1 22, (h.1 c).1 23, (h.1 c).1 24, (h.1 c).1 25, (h.1 c).1 26, kept m r h.1 c⟩) (run_main m ρ)

end Cert.KernelMixIdeal.Body

end
-- ==== Proof.MixArrays.lean ====
/- What the mixer's backward call writes: the reference's arrays. -/
module

public import proofs.«01_k».proof.Proof.MixPoint
public import proofs.«01_k».proof.Proof.MixFrame
public import Idealize.ShloMosaic.Lib.Pipeline.ValueKit

@[expose] public section

set_option maxRecDepth 16384

noncomputable section

namespace Cert.Mix

open Idealize.ShloMosaic Idealize.ShloMosaic.TcCoe Cert.KernelMixIdeal Cert.KernelMixIdeal.Gen Cert.KernelMixIdeal.Body Cert.Ffn
open Cert.ReferenceMixIdeal.Read

variable (m : (ℓ : Loc nD τ sig) → Buf (Elt Ideal) ℓ) (c : Dev nD) {q : Prm}

/-- The stores of point `t`, and where they start. -/
structure Point (t : Fin cfg0.N) (l : Lds Ideal) (M : Mems) (w : BitVec 32) (P : Prev Ideal) (B : Bases M) (W : Stores Ideal) (K : Carry Ideal) : Prop where
  hands : K = B.after (gen l M P w)
  gx : W.gx = (gen l M P w).gx
  dub : W.dub = (gen l M P w).dub
  po : t.val = 7 → W.po = [⟨box 1024 1024 1024 1024 0 0, k0_pay3 (M.ao.view.readCov (aoL l P 4 le_rfl) (box 1024 1024 1024 1024 0 0).toLoadRect)⟩]
  pp : t.val = 7 → W.pp = [⟨box 512 512 512 512 0 0, k0_pay4 (M.ap.view.readCov (apL l P 2 le_rfl) (box 512 512 512 512 0 0).toLoadRect)⟩]

theorem point_first (c : Dev nD) (i : grid0.Coords) (h0 : first i) (h1 : ¬ last i) (t : Fin cfg0.N) (ht : t.val ≠ 7) (M : Mems) (x : Ins Ideal) (K : Carry Ideal) :
    Point t (lds M x) M (tileW i) M.start (freshBases M) (runFirst c i h0 h1 M x).1 (M.carry K (runFirst c i h0 h1 M x).1) := by
  have hc := (coversFirst c i h0 h1 M x).2.2
  rw [carry_fresh M K _ hc, same_first]
  exact ⟨rfl, rfl, rfl, fun h => absurd h ht, fun h => absurd h ht⟩

theorem point_mid (c : Dev nD) (i : grid0.Coords) (h0 : ¬ first i) (h1 : ¬ last i) (t : Fin cfg0.N) (ht : t.val ≠ 7) (M : Mems) (x : Ins Ideal) (K : Carry Ideal) :
    Point t (lds M x) M (tileW i) (M.prev K) (heldBases M K) (runMid c i h0 h1 M x K).1 (M.carry K (runMid c i h0 h1 M x K).1) := by
  rw [same_mid]
  exact ⟨rfl, rfl, rfl, fun h => absurd h ht, fun h => absurd h ht⟩

theorem point_last (c : Dev nD) (i : grid0.Coords) (h0 : ¬ first i) (h1 : last i) (t : Fin cfg0.N) (M : Mems) (x : Ins Ideal) (K : Carry Ideal) :
    Point t (lds M x) M (tileW i) (M.prev K) (heldBases M K) (runLast c i h0 h1 M x K).1 (M.carry K (runLast c i h0 h1 M x K).1) := by
  rw [same_last]
  exact ⟨rfl, rfl, rfl, fun _ => rfl, fun _ => rfl⟩

/-- Every point starts from what the points before it summed. -/
theorem point_at (t : Fin cfg0.N) (hK : t.val ≠ 0 → Holds q t.val (prevAt m c t.val t.isLt.le)) : ∃ (P : Prev Ideal) (B : Bases (memsAt t)) (O : Carry Ideal),
    Start q t.val (memsAt t) P B O ∧ Point t (lds (memsAt t) (insAt m c t)) (memsAt t) (BitVec.ofNat 32 (rev t).val) P B
      (storesAt m c t (prevAt m c t.val t.isLt.le)) (carryAt m c t.val t.isLt) := by
  rw [carryAt_eq, ← word_rev]
  unfold storesAt
  by_cases h0 : t.val = 0
  · rw [dif_pos h0]
    refine ⟨_, freshBases _, cleared (memsAt t), ?_, point_first c (grid0.coords t) _ _ t (by omega) (memsAt t) (insAt m c t) _⟩
    rw [h0]
    exact start_fresh q _
  · rw [dif_neg h0]
    by_cases h1 : t.val = 7
    · rw [dif_pos h1]
      exact ⟨_, heldBases _ _, _, start_held q _ (hK h0), point_last c (grid0.coords t) _ _ t (memsAt t) (insAt m c t) _⟩
    · rw [dif_neg h1]
      exact ⟨_, heldBases _ _, _, start_held q _ (hK h0), point_mid c (grid0.coords t) _ _ t h1 (memsAt t) (insAt m c t) _⟩

variable (H : Args (V m c main_arg0) (V m c main_arg1) (V m c main_arg2) (V m c main_arg3) (V m c main_arg4) (V m c main_arg5) (V m c main_arg6) (V m c main_arg7)
  (V m c main_arg8) (V m c main_arg9) (V m c main_arg10) (V m c main_arg11) (V m c main_arg12) q)
include H

theorem rev_add (t : Fin cfg0.N) : (rev t).val + t.val = 7 := by
  have := lt8 t
  show 7 - t.val + t.val = 7
  omega

theorem holds_at : ∀ (n : ℕ) (hn : n < cfg0.N), Holds q (n + 1) (carryAt m c n hn)
  | 0, hn => by
    obtain ⟨P, B, O, S, E⟩ := point_at m c (q := q) ⟨0, hn⟩ (fun h => absurd rfl h)
    have e := E.hands
    dsimp only at e
    rw [e]
    exact holds_next S (tile_at m c H ⟨0, hn⟩) (rev_add m c H ⟨0, hn⟩)
  | n + 1, hn => by
    obtain ⟨P, B, O, S, E⟩ := point_at m c (q := q) ⟨n + 1, hn⟩ (fun _ => holds_at n (Nat.lt_of_succ_lt hn))
    have e := E.hands
    dsimp only at e
    rw [e]
    exact holds_next S (tile_at m c H ⟨n + 1, hn⟩) (rev_add m c H ⟨n + 1, hn⟩)

theorem found_at (t : Fin cfg0.N) (h : t.val ≠ 0) : Holds q t.val (prevAt m c t.val t.isLt.le) := by
  obtain ⟨n, hn⟩ := t
  cases n with
  | zero => exact absurd rfl h
  | succ n => exact holds_at m c H n _

/-! ### What each point writes back -/

theorem at20 (t : Fin cfg0.N) (p : Fin 256) (j : Fin 1024) : (restAt m c t).gx (ix2 p j) = ((q.dx (tk (rev t) p) j : ℝ) : EReal) := by
  obtain ⟨P, B, O, S, E⟩ := point_at m c (q := q) t (found_at m c H t)
  unfold restAt Mems.rest
  dsimp only
  rw [E.gx]
  exact gx_now S (tile_at m c H t) (rev_add m c H t) _ p j

theorem at21 (t : Fin cfg0.N) (s : Fin 6) (r p : Fin 256) : (restAt m c t).dub (ix3 s r p) = ((q.du (tk (rev t) p) ⟨s.val * 256 + r.val, by omega⟩ : ℝ) : EReal) := by
  obtain ⟨P, B, O, S, E⟩ := point_at m c (q := q) t (found_at m c H t)
  unfold restAt Mems.rest
  dsimp only
  rw [E.dub]
  exact (dub_now S (tile_at m c H t) (rev_add m c H t) _ s r p).trans
    (congrArg (fun x => ((q.du (tk (rev t) p) x : ℝ) : EReal)) (Fin.ext (by show 256 * s.val + r.val = s.val * 256 + r.val; omega)))

theorem at25 (t : Fin cfg0.N) (h7 : t.val = 7) (r j : Fin 1024) : (restAt m c t).po (ix2 r j) = ((∑ s, q.wlast s r j : ℝ) : EReal) := by
  obtain ⟨P, B, O, S, E⟩ := point_at m c (q := q) t (found_at m c H t)
  unfold restAt Mems.rest
  dsimp only
  rw [E.po h7]
  refine (po_now S (tile_at m c H t) (rev_add m c H t) _ r j).trans ?_
  rw [h7, done_all]

theorem at26 (t : Fin cfg0.N) (h7 : t.val = 7) (r j : Fin 512) : (restAt m c t).pp (ix2 r j) = ((∑ s, q.wpoint s r j : ℝ) : EReal) := by
  obtain ⟨P, B, O, S, E⟩ := point_at m c (q := q) t (found_at m c H t)
  unfold restAt Mems.rest
  dsimp only
  rw [E.pp h7]
  refine (pp_now S (tile_at m c H t) (rev_add m c H t) _ r j).trans ?_
  rw [h7, done_all]

theorem held_last (t : Fin cfg0.N) (h7 : t.val = 7) : Holds q 8 (carryAt m c t.val t.isLt) := by
  have h := holds_at m c H t.val t.isLt
  rwa [show t.val + 1 = 8 by omega] at h

omit H in
theorem idx_out : ∀ t : Fin cfg0.N, (win0_20.index t (0 : Fin 2) = 7 - t.val ∧ win0_20.index t (1 : Fin 2) = 0)
    ∧ (win0_21.index t (0 : Fin 3) = 0 ∧ win0_21.index t (1 : Fin 3) = 0 ∧ win0_21.index t (2 : Fin 3) = 7 - t.val)
    ∧ (win0_22.index t (0 : Fin 2) = 0 ∧ win0_22.index t (1 : Fin 2) = 0) ∧ (win0_23.index t (0 : Fin 2) = 0 ∧ win0_23.index t (1 : Fin 2) = 0)
    ∧ (win0_24.index t (0 : Fin 2) = 0 ∧ win0_24.index t (1 : Fin 2) = 0) ∧ (win0_25.index t (0 : Fin 2) = 0 ∧ win0_25.index t (1 : Fin 2) = 0)
    ∧ (win0_26.index t (0 : Fin 2) = 0 ∧ win0_26.index t (1 : Fin 2) = 0) := (by decide +kernel : ∀ t : Fin grid0.N, _)

/-! ### The arrays -/

omit H in
theorem emb20 (t : Fin cfg0.N) (p : Fin 256) (j : Fin 1024) : ((cfg0.win 20).blk t).view.emb (ix2 p j) = (ix2 (tk (rev t) p) j : S2048x1024.Idx) :=
  ext2 _ _ _ (by have := (idx_out t).1.1; show win0_20.index t (0 : Fin 2) * 256 + 1 * p.val = 256 * (7 - t.val) + p.val; omega)
    (by have := (idx_out t).1.2; show win0_20.index t (1 : Fin 2) * 1024 + 1 * j.val = j.val; omega)

/-- Result 0, the token gradient, is the reference's. -/
theorem arr20 : (dats m 0 c).arrAt 20 cfg0.N = val_main_v335 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) := by
  refine (dats m 0 c).arrAt_eq_of_covers 20 _ (by decide +kernel) fun t hf y => ?_
  refine Eq.trans (b := (dats m 0 c).after 20 t y) rfl ?_
  have key : ∀ (p : Fin 256) (j : Fin 1024), (restAt m c t).gx (ix2 p j) = val_main_v335 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (((cfg0.win 20).blk t).view.emb (ix2 p j)) := fun p j =>
    (at20 m c H t p j).trans ((congrArg (val_main_v335 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)) (emb20 t p j)).trans (rv335_at H (tk (rev t) p) j)).symm
  refine Eq.trans (b := (restAt m c t).gx y) (by dsimp only [dats]) ?_
  rw [eq_ix2 (n0 := 256) (n1 := 1024) y]
  exact key (y 0) (y 1)

omit H in
theorem emb22 (t : Fin cfg0.N) (p : Fin 8) (j : Fin 1024) : ((cfg0.win 22).blk t).view.emb (ix2 p j) = (ix2 (p) j : S8x1024.Idx) :=
  ext2 _ _ _ (by have := (idx_out t).2.2.1.1; show win0_22.index t (0 : Fin 2) * 8 + 1 * p.val = p.val; omega)
    (by have := (idx_out t).2.2.1.2; show win0_22.index t (1 : Fin 2) * 1024 + 1 * j.val = j.val; omega)

/-- Result 2, the rows of sums, is the reference's. -/
theorem arr22 : (dats m 0 c).arrAt 22 cfg0.N = val_main_v339 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) := by
  refine (dats m 0 c).arrAt_eq_of_covers 22 _ (by decide +kernel) fun t hf y => ?_
  refine Eq.trans (b := (dats m 0 c).after 22 t y) rfl ?_
  have h7 : t.val = 7 := by
    have ht : t.val % 8 = 7 := (flush0_22 t).mp hf
    have := lt8 t
    omega
  have key : ∀ (p : Fin 8) (j : Fin 1024), (carryAt m c t.val t.isLt).acc (ix2 p j) = val_main_v339 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (((cfg0.win 22).blk t).view.emb (ix2 p j)) := fun p j =>
    (((held_last m c H t h7).acc p j).trans (congrArg Real.toEReal (done_all _))).trans ((congrArg (val_main_v339 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)) (emb22 t p j)).trans (rv339_at H p j)).symm
  refine Eq.trans (b := (carryAt m c t.val t.isLt).acc y) (by dsimp only [dats]) ?_
  rw [eq_ix2 (n0 := 8) (n1 := 1024) y]
  exact key (y 0) (y 1)

omit H in
theorem emb23 (t : Fin cfg0.N) (p : Fin 32) (j : Fin 512) : ((cfg0.win 23).blk t).view.emb (ix2 p j) = (ix2 (p) j : S32x512.Idx) :=
  ext2 _ _ _ (by have := (idx_out t).2.2.2.1.1; show win0_23.index t (0 : Fin 2) * 32 + 1 * p.val = p.val; omega)
    (by have := (idx_out t).2.2.2.1.2; show win0_23.index t (1 : Fin 2) * 512 + 1 * j.val = j.val; omega)

/-- Result 3, the convolution's gradient, is the reference's. -/
theorem arr23 : (dats m 0 c).arrAt 23 cfg0.N = val_main_v341 (F := Ideal) (V m c main_arg0) (V m c main_arg1) (V m c main_arg2) (V m c main_arg3) (V m c main_arg4) (V m c main_arg5) (V m c main_arg6) (V m c main_arg7) (V m c main_arg8) (V m c main_arg9) (V m c main_arg12) := by
  refine (dats m 0 c).arrAt_eq_of_covers 23 _ (by decide +kernel) fun t hf y => ?_
  refine Eq.trans (b := (dats m 0 c).after 23 t y) rfl ?_
  have h7 : t.val = 7 := by
    have ht : t.val % 8 = 7 := (flush0_23 t).mp hf
    have := lt8 t
    omega
  have key : ∀ (p : Fin 32) (j : Fin 512), (carryAt m c t.val t.isLt).ddw (ix2 p j) = val_main_v341 (F := Ideal) (V m c main_arg0) (V m c main_arg1) (V m c main_arg2) (V m c main_arg3) (V m c main_arg4) (V m c main_arg5) (V m c main_arg6) (V m c main_arg7) (V m c main_arg8) (V m c main_arg9) (V m c main_arg12) (((cfg0.win 23).blk t).view.emb (ix2 p j)) := fun p j =>
    (((held_last m c H t h7).ddw p j).trans (congrArg Real.toEReal (done_all _))).trans ((congrArg (val_main_v341 (F := Ideal) (V m c main_arg0) (V m c main_arg1) (V m c main_arg2) (V m c main_arg3) (V m c main_arg4) (V m c main_arg5) (V m c main_arg6) (V m c main_arg7) (V m c main_arg8) (V m c main_arg9) (V m c main_arg12)) (emb23 t p j)).trans (rv341_at H p j)).symm
  refine Eq.trans (b := (carryAt m c t.val t.isLt).ddw y) (by dsimp only [dats]) ?_
  rw [eq_ix2 (n0 := 32) (n1 := 512) y]
  exact key (y 0) (y 1)

omit H in
theorem emb24 (t : Fin cfg0.N) (p : Fin 512) (j : Fin 128) : ((cfg0.win 24).blk t).view.emb (ix2 p j) = (ix2 (p) j : S512x128.Idx) :=
  ext2 _ _ _ (by have := (idx_out t).2.2.2.2.1.1; show win0_24.index t (0 : Fin 2) * 512 + 1 * p.val = p.val; omega)
    (by have := (idx_out t).2.2.2.2.1.2; show win0_24.index t (1 : Fin 2) * 128 + 1 * j.val = j.val; omega)

/-- Result 4, the pooled weights' gradient, is the reference's. -/
theorem arr24 : (dats m 0 c).arrAt 24 cfg0.N = val_main_v345 (F := Ideal) (V m c main_arg0) (V m c main_arg1) (V m c main_arg2) (V m c main_arg3) (V m c main_arg4) (V m c main_arg11) (V m c main_arg12) := by
  refine (dats m 0 c).arrAt_eq_of_covers 24 _ (by decide +kernel) fun t hf y => ?_
  refine Eq.trans (b := (dats m 0 c).after 24 t y) rfl ?_
  have h7 : t.val = 7 := by
    have ht : t.val % 8 = 7 := (flush0_24 t).mp hf
    have := lt8 t
    omega
  have key : ∀ (p : Fin 512) (j : Fin 128), (carryAt m c t.val t.isLt).dwg (ix2 p j) = val_main_v345 (F := Ideal) (V m c main_arg0) (V m c main_arg1) (V m c main_arg2) (V m c main_arg3) (V m c main_arg4) (V m c main_arg11) (V m c main_arg12) (((cfg0.win 24).blk t).view.emb (ix2 p j)) := fun p j =>
    (((held_last m c H t h7).dwg p j).trans (congrArg Real.toEReal (done_all _))).trans ((congrArg (val_main_v345 (F := Ideal) (V m c main_arg0) (V m c main_arg1) (V m c main_arg2) (V m c main_arg3) (V m c main_arg4) (V m c main_arg11) (V m c main_arg12)) (emb24 t p j)).trans (rv345_at H p j)).symm
  refine Eq.trans (b := (carryAt m c t.val t.isLt).dwg y) (by dsimp only [dats]) ?_
  rw [eq_ix2 (n0 := 512) (n1 := 128) y]
  exact key (y 0) (y 1)

omit H in
theorem emb25 (t : Fin cfg0.N) (p : Fin 1024) (j : Fin 1024) : ((cfg0.win 25).blk t).view.emb (ix2 p j) = (ix2 (p) j : S1024x1024.Idx) :=
  ext2 _ _ _ (by have := (idx_out t).2.2.2.2.2.1.1; show win0_25.index t (0 : Fin 2) * 1024 + 1 * p.val = p.val; omega)
    (by have := (idx_out t).2.2.2.2.2.1.2; show win0_25.index t (1 : Fin 2) * 1024 + 1 * j.val = j.val; omega)

/-- Result 5, the output weight's gradient, is the reference's. -/
theorem arr25 : (dats m 0 c).arrAt 25 cfg0.N = val_main_v346 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) := by
  refine (dats m 0 c).arrAt_eq_of_covers 25 _ (by decide +kernel) fun t hf y => ?_
  refine Eq.trans (b := (dats m 0 c).after 25 t y) rfl ?_
  have h7 : t.val = 7 := by
    have ht : t.val % 8 = 7 := (flush0_25 t).mp hf
    have := lt8 t
    omega
  have key : ∀ (p : Fin 1024) (j : Fin 1024), (restAt m c t).po (ix2 p j) = val_main_v346 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (((cfg0.win 25).blk t).view.emb (ix2 p j)) := fun p j =>
    (at25 m c H t h7 p j).trans ((congrArg (val_main_v346 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11)) (emb25 t p j)).trans (rv346_at H p j)).symm
  refine Eq.trans (b := (restAt m c t).po y) (by dsimp only [dats]) ?_
  rw [eq_ix2 (n0 := 1024) (n1 := 1024) y]
  exact key (y 0) (y 1)

omit H in
theorem emb26 (t : Fin cfg0.N) (p : Fin 512) (j : Fin 512) : ((cfg0.win 26).blk t).view.emb (ix2 p j) = (ix2 (p) j : S512x512.Idx) :=
  ext2 _ _ _ (by have := (idx_out t).2.2.2.2.2.2.1; show win0_26.index t (0 : Fin 2) * 512 + 1 * p.val = p.val; omega)
    (by have := (idx_out t).2.2.2.2.2.2.2; show win0_26.index t (1 : Fin 2) * 512 + 1 * j.val = j.val; omega)

/-- Result 6, the pointwise weight's gradient, is the reference's. -/
theorem arr26 : (dats m 0 c).arrAt 26 cfg0.N = val_main_v347 (F := Ideal) (V m c main_arg0) (V m c main_arg1) (V m c main_arg2) (V m c main_arg3) (V m c main_arg4) (V m c main_arg5) (V m c main_arg6) (V m c main_arg7) (V m c main_arg8) (V m c main_arg12) := by
  refine (dats m 0 c).arrAt_eq_of_covers 26 _ (by decide +kernel) fun t hf y => ?_
  refine Eq.trans (b := (dats m 0 c).after 26 t y) rfl ?_
  have h7 : t.val = 7 := by
    have ht : t.val % 8 = 7 := (flush0_26 t).mp hf
    have := lt8 t
    omega
  have key : ∀ (p : Fin 512) (j : Fin 512), (restAt m c t).pp (ix2 p j) = val_main_v347 (F := Ideal) (V m c main_arg0) (V m c main_arg1) (V m c main_arg2) (V m c main_arg3) (V m c main_arg4) (V m c main_arg5) (V m c main_arg6) (V m c main_arg7) (V m c main_arg8) (V m c main_arg12) (((cfg0.win 26).blk t).view.emb (ix2 p j)) := fun p j =>
    (at26 m c H t h7 p j).trans ((congrArg (val_main_v347 (F := Ideal) (V m c main_arg0) (V m c main_arg1) (V m c main_arg2) (V m c main_arg3) (V m c main_arg4) (V m c main_arg5) (V m c main_arg6) (V m c main_arg7) (V m c main_arg8) (V m c main_arg12)) (emb26 t p j)).trans (rv347_at H p j)).symm
  refine Eq.trans (b := (restAt m c t).pp y) (by dsimp only [dats]) ?_
  rw [eq_ix2 (n0 := 512) (n1 := 512) y]
  exact key (y 0) (y 1)

omit H in
theorem emb21 (t : Fin cfg0.N) (s : Fin 6) (r p : Fin 256) : ((cfg0.win 21).blk t).view.emb (ix3 s r p) = (ix3 s r (tk (rev t) p) : S6x256x2048.Idx) :=
  ext3 _ _ _ _ (by have := (idx_out t).2.1.1; show win0_21.index t (0 : Fin 3) * 6 + 1 * s.val = s.val; omega)
    (by have := (idx_out t).2.1.2.1; show win0_21.index t (1 : Fin 3) * 256 + 1 * r.val = r.val; omega)
    (by have := (idx_out t).2.1.2.2; show win0_21.index t (2 : Fin 3) * 256 + 1 * p.val = 256 * (7 - t.val) + p.val; omega)

/-- Result 1, the projection's gradient by columns, is the reference's. -/
theorem arr21 : (dats m 0 c).arrAt 21 cfg0.N = val_main_v344 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) := by
  refine (dats m 0 c).arrAt_eq_of_covers 21 _ (by decide +kernel) fun t hf y => ?_
  refine Eq.trans (b := (dats m 0 c).after 21 t y) rfl ?_
  have key : ∀ (s : Fin 6) (r p : Fin 256), (restAt m c t).dub (ix3 s r p) = val_main_v344 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (((cfg0.win 21).blk t).view.emb (ix3 s r p)) := fun s r p =>
    (at21 m c H t s r p).trans ((congrArg (val_main_v344 (F := Ideal) (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12)) (emb21 t s r p)).trans (rv344_at H s r (tk (rev t) p))).symm
  refine Eq.trans (b := (restAt m c t).dub y) (by dsimp only [dats]) ?_
  rw [eq_ix3 (n0 := 6) (n1 := 256) (n2 := 256) y]
  exact key (y 0) (y 1) (y 2)

omit H in
/-- All seven results, of arguments that the launch's arrays are. -/
theorem arrays {x0 y0 : (⟨S2048x1024, .f32⟩ : BufTy).Contents (Elt Ideal)} {x1 y1 : (⟨S2048x1024, .f32⟩ : BufTy).Contents (Elt Ideal)} {x2 y2 : (⟨S8x6144, .f32⟩ : BufTy).Contents (Elt Ideal)} {x3 y3 : (⟨S1x1024, .f32⟩ : BufTy).Contents (Elt Ideal)} {x4 y4 : (⟨S1536x1024, .bf16⟩ : BufTy).Contents (Elt Ideal)} {x5 y5 : (⟨S32x512, .f32⟩ : BufTy).Contents (Elt Ideal)} {x6 y6 : (⟨S1x512, .f32⟩ : BufTy).Contents (Elt Ideal)} {x7 y7 : (⟨S1x512, .f32⟩ : BufTy).Contents (Elt Ideal)} {x8 y8 : (⟨S1x512, .f32⟩ : BufTy).Contents (Elt Ideal)} {x9 y9 : (⟨S512x512, .bf16⟩ : BufTy).Contents (Elt Ideal)} {x10 y10 : (⟨S4x128x128, .f32⟩ : BufTy).Contents (Elt Ideal)} {x11 y11 : (⟨S1x512, .f32⟩ : BufTy).Contents (Elt Ideal)} {x12 y12 : (⟨S1024x1024, .bf16⟩ : BufTy).Contents (Elt Ideal)}
    (e0 : V m c main_arg0 = y0) (f0 : x0 = y0) (e1 : V m c main_arg1 = y1) (f1 : x1 = y1) (e2 : V m c main_arg2 = y2) (f2 : x2 = y2) (e3 : V m c main_arg3 = y3) (f3 : x3 = y3) (e4 : V m c main_arg4 = y4) (f4 : x4 = y4) (e5 : V m c main_arg5 = y5) (f5 : x5 = y5) (e6 : V m c main_arg6 = y6) (f6 : x6 = y6) (e7 : V m c main_arg7 = y7) (f7 : x7 = y7) (e8 : V m c main_arg8 = y8) (f8 : x8 = y8) (e9 : V m c main_arg9 = y9) (f9 : x9 = y9) (e10 : V m c main_arg10 = y10) (f10 : x10 = y10) (e11 : V m c main_arg11 = y11) (f11 : x11 = y11) (e12 : V m c main_arg12 = y12) (f12 : x12 = y12)
    (H : Args y0 y1 y2 y3 y4 y5 y6 y7 y8 y9 y10 y11 y12 q) :
      (dats m 0 c).arrAt 20 cfg0.N = val_main_v335 (F := Ideal) x0 x1 x2 x3 x4 x5 x6 x7 x8 x9 x10 x11 x12
      ∧ (dats m 0 c).arrAt 21 cfg0.N = val_main_v344 (F := Ideal) x0 x1 x2 x3 x4 x5 x6 x7 x8 x9 x10 x11 x12
      ∧ (dats m 0 c).arrAt 22 cfg0.N = val_main_v339 (F := Ideal) x0 x1 x2 x3 x4 x5 x6 x7 x8 x9 x10 x11 x12
      ∧ (dats m 0 c).arrAt 23 cfg0.N = val_main_v341 (F := Ideal) x0 x1 x2 x3 x4 x5 x6 x7 x8 x9 x12
      ∧ (dats m 0 c).arrAt 24 cfg0.N = val_main_v345 (F := Ideal) x0 x1 x2 x3 x4 x11 x12
      ∧ (dats m 0 c).arrAt 25 cfg0.N = val_main_v346 (F := Ideal) x0 x1 x2 x3 x4 x5 x6 x7 x8 x9 x10 x11
      ∧ (dats m 0 c).arrAt 26 cfg0.N = val_main_v347 (F := Ideal) x0 x1 x2 x3 x4 x5 x6 x7 x8 x12 := by
  subst f0 f1 f2 f3 f4 f5 f6 f7 f8 f9 f10 f11 f12
  subst e0 e1 e2 e3 e4 e5 e6 e7 e8 e9 e10 e11 e12
  exact ⟨arr20 m c H, arr21 m c H, arr22 m c H, arr23 m c H, arr24 m c H, arr25 m c H, arr26 m c H⟩

end Cert.Mix

end
-- ==== Proof.Finite.lean ====
/- The precondition read back: every entry of every argument array is a real number; so the arrays are real arrays. -/
module

public import proofs.«01_k».proof.Pre_finite
public import proofs.«01_k».proof.Proof.Gen.Pre_finite
public import proofs.«01_k».proof.Proof.Ref
public import Idealize.ShloMosaic.Lib.ReduceAll

@[expose] public section

set_option maxRecDepth 16384

noncomputable section

namespace Cert.Finite

open Idealize.ShloMosaic Cert.Pre_finite Cert.Pre_finite.Facts
open Cert.Ffn (Prm Args)

theorem word_inf : Ideal.ofBits .f32 0x7F800000#32 = (⊤ : EReal) := by simp [Ideal.ofBits, Ideal.ieee]

/-- An extended real whose size is below infinity is a real number. -/
theorem real_of_lt (x : EReal) (h : max x (-x) < ⊤) : x = ((x.toReal : ℝ) : EReal) := by
  refine (EReal.coe_toReal ?_ ?_).symm
  · rintro rfl
    simp at h
  · rintro rfl
    simp at h

/-- One conjunct of the precondition: all entries of an array are smaller than infinity in size. -/
theorem all_real {s : Shape} {axes : List (Fin s.rank)} (v : FVec Ideal s .f32) (hb : S_.BroadcastsInDim s (![] : Fin 0 → Fin s.rank))
    (hr : s.ReducesTo axes S_) (hu : 0 < S_.numel) (j : S_.Idx)
    (h : Host.reduce IntOp.andi (cmpf .olt (Host.absf v) (broadcastInDim s ![] hb (constant S_ .f32 0x7F800000#32))) (constantI S_ 1 1#1) hr hu j = 1#1)
    (i : s.Idx) : (v i : EReal) = (((v i : EReal).toReal : ℝ) : EReal) := by
  haveI : Subsingleton S_.Idx := inferInstanceAs (Subsingleton ((a : Fin 0) → _))
  have e := Host.reduce_andi_all _ _ hr hu j h i
  have e' : Ideal.cmp .olt (max (v i : EReal) (-(v i : EReal))) (Ideal.ofBits .f32 0x7F800000#32) = 1#1 := e
  rw [word_inf] at e'
  refine real_of_lt _ ?_
  by_contra hn
  simp [Ideal.cmp, hn] at e'

variable [Facts]

/-- The real arrays that finite arguments are. -/
theorem args (x0 x1 : FVec Ideal S2048x1024 .f32) (x2 : FVec Ideal S8x6144 .f32) (x3 x4 : FVec Ideal S1x1024 .f32)
    (x5 x6 x7 : FVec Ideal S2816x1024 .bf16) (h : fn (F := Ideal) x0 x1 x2 x3 x4 x5 x6 x7 = fun _ => 1#1) :
    ∃ (q : Prm) (X T : Fin 2048 → Fin 1024 → ℝ), Args x0 x1 x2 x3 x4 x5 x6 x7 q X T := by
  have h0 := congrFun h ix0
  unfold fn fn_part1 fn_part2 at h0
  dsimp only at h0
  obtain ⟨h0, a7⟩ := IntOp.andi_eq_one.1 h0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨h0, a1⟩ := IntOp.andi_eq_one.1 h0
  obtain ⟨-, a0⟩ := IntOp.andi_eq_one.1 h0
  refine ⟨⟨fun j => (x2 (ix2 0 ⟨3072 + j.val, by omega⟩) : EReal).toReal, fun j => (x2 (ix2 0 ⟨4096 + j.val, by omega⟩) : EReal).toReal,
    fun j => (x2 (ix2 0 ⟨5120 + j.val, by omega⟩) : EReal).toReal, fun j => (x3 (ix2 0 j) : EReal).toReal, fun j => (x4 (ix2 0 j) : EReal).toReal,
    fun k j => (x5 (ix2 k j) : EReal).toReal, fun k j => (x6 (ix2 k j) : EReal).toReal, fun k j => (x7 (ix2 k j) : EReal).toReal⟩,
    fun n j => (x0 (ix2 n j) : EReal).toReal, fun n j => (x1 (ix2 n j) : EReal).toReal, ?_⟩
  exact {
    x0 := fun n j => all_real x0 _ _ _ _ a0 _
    x1 := fun n j => all_real x1 _ _ _ _ a1 _
    sh := fun j => all_real x2 _ _ _ _ a2 _
    sc := fun j => all_real x2 _ _ _ _ a2 _
    gt := fun j => all_real x2 _ _ _ _ a2 _
    x3 := fun z j => by
      obtain rfl : z = 0 := Subsingleton.elim _ _
      exact all_real x3 _ _ _ _ a3 _
    x4 := fun z j => by
      obtain rfl : z = 0 := Subsingleton.elim _ _
      exact all_real x4 _ _ _ _ a4 _
    x5 := fun k j => all_real (extf .f32 x5 bitsLt_bf16_f32) _ _ _ _ a5 _
    x6 := fun k j => all_real (extf .f32 x6 bitsLt_bf16_f32) _ _ _ _ a6 _
    x7 := fun k j => all_real (extf .f32 x7 bitsLt_bf16_f32) _ _ _ _ a7 _ }

end Cert.Finite

end
-- ==== Proof.MixFinite.lean ====
/- The mixer call's precondition read back: every entry of every argument array is a real number; so the arrays are real arrays. -/
module

public import proofs.«01_k».proof.Pre_finite_mix
public import proofs.«01_k».proof.Proof.Gen.Pre_finite_mix
public import proofs.«01_k».proof.Proof.Finite
public import proofs.«01_k».proof.Proof.MixRef

@[expose] public section

set_option maxRecDepth 16384

noncomputable section

namespace Cert.MixFinite

open Idealize.ShloMosaic Cert.Pre_finite_mix Cert.Pre_finite_mix.Facts
open Cert.Mix (Prm Args)
open Cert.Finite (all_real)

variable [Facts]

/-- The real arrays that finite arguments are. -/
theorem args (x0 x1 : FVec Ideal S2048x1024 .f32) (x2 : FVec Ideal S8x6144 .f32) (x3 : FVec Ideal S1x1024 .f32) (x4 : FVec Ideal S1536x1024 .bf16)
    (x5 : FVec Ideal S32x512 .f32) (x6 x7 x8 : FVec Ideal S1x512 .f32) (x9 : FVec Ideal S512x512 .bf16) (x10 : FVec Ideal S4x128x128 .f32)
    (x11 : FVec Ideal S1x512 .f32) (x12 : FVec Ideal S1024x1024 .bf16)
    (h : fn (F := Ideal) x0 x1 x2 x3 x4 x5 x6 x7 x8 x9 x10 x11 x12 = fun _ => 1#1) :
    ∃ q : Prm, Args x0 x1 x2 x3 x4 x5 x6 x7 x8 x9 x10 x11 x12 q := by
  have h0 := congrFun h ix0
  unfold fn fn_part1 fn_part2 fn_part3 at h0
  dsimp only at h0
  obtain ⟨h0, a12⟩ := IntOp.andi_eq_one.1 h0
  obtain ⟨h0, a11⟩ := IntOp.andi_eq_one.1 h0
  obtain ⟨h0, a10⟩ := IntOp.andi_eq_one.1 h0
  obtain ⟨h0, a9⟩ := IntOp.andi_eq_one.1 h0
  obtain ⟨h0, a8⟩ := IntOp.andi_eq_one.1 h0
  obtain ⟨h0, a7⟩ := IntOp.andi_eq_one.1 h0
  obtain ⟨h0, a6⟩ := IntOp.andi_eq_one.1 h0
  obtain ⟨h0, a5⟩ := IntOp.andi_eq_one.1 h0
  obtain ⟨h0, a4⟩ := IntOp.andi_eq_one.1 h0
  obtain ⟨h0, a3⟩ := IntOp.andi_eq_one.1 h0
  obtain ⟨h0, a2⟩ := IntOp.andi_eq_one.1 h0
  obtain ⟨h0, a1⟩ := IntOp.andi_eq_one.1 h0
  obtain ⟨-, a0⟩ := IntOp.andi_eq_one.1 h0
  refine ⟨{
    d := fun t j => (x0 (ix2 t j) : EReal).toReal
    x := fun t j => (x1 (ix2 t j) : EReal).toReal
    sh := fun j => (x2 (ix2 0 ⟨j.val, by omega⟩) : EReal).toReal
    sc := fun j => (x2 (ix2 0 ⟨1024 + j.val, by omega⟩) : EReal).toReal
    gt := fun j => (x2 (ix2 0 ⟨2048 + j.val, by omega⟩) : EReal).toReal
    g1 := fun j => (x3 (ix2 0 j) : EReal).toReal
    win := fun k j => (x4 (ix2 k j) : EReal).toReal
    dww := fun k j => (x5 (ix2 k j) : EReal).toReal
    dwb := fun j => (x6 (ix2 0 j) : EReal).toReal
    lng := fun j => (x7 (ix2 0 j) : EReal).toReal
    lnb := fun j => (x8 (ix2 0 j) : EReal).toReal
    wpw := fun l j => (x9 (ix2 l j) : EReal).toReal
    wg := fun g l j => (x10 (ix3 g l j) : EReal).toReal
    psc := fun j => (x11 (ix2 0 j) : EReal).toReal
    wout := fun l j => (x12 (ix2 l j) : EReal).toReal }, ?_⟩
  exact {
    x0 := fun t j => all_real x0 _ _ _ _ a0 _
    x1 := fun t j => all_real x1 _ _ _ _ a1 _
    sh := fun j => all_real x2 _ _ _ _ a2 _
    sc := fun j => all_real x2 _ _ _ _ a2 _
    gt := fun j => all_real x2 _ _ _ _ a2 _
    x3 := fun z j => by
      obtain rfl : z = 0 := Subsingleton.elim _ _
      exact all_real x3 _ _ _ _ a3 _
    x4 := fun k j => all_real (extf .f32 x4 bitsLt_bf16_f32) _ _ _ _ a4 _
    x5 := fun k j => all_real x5 _ _ _ _ a5 _
    x6 := fun z j => by
      obtain rfl : z = 0 := Subsingleton.elim _ _
      exact all_real x6 _ _ _ _ a6 _
    x7 := fun z j => by
      obtain rfl : z = 0 := Subsingleton.elim _ _
      exact all_real x7 _ _ _ _ a7 _
    x8 := fun z j => by
      obtain rfl : z = 0 := Subsingleton.elim _ _
      exact all_real x8 _ _ _ _ a8 _
    x9 := fun l j => all_real (extf .f32 x9 bitsLt_bf16_f32) _ _ _ _ a9 _
    x10 := fun g l j => all_real x10 _ _ _ _ a10 _
    x11 := fun z j => by
      obtain rfl : z = 0 := Subsingleton.elim _ _
      exact all_real x11 _ _ _ _ a11 _
    x12 := fun l j => all_real (extf .f32 x12 bitsLt_bf16_f32) _ _ _ _ a12 _ }

end Cert.MixFinite

end
-- ==== Proof.MixClaims.lean ====
/- The claims about the mixer's backward call: its frames, and that over the real numbers its seven results are the reference's on
   finite arguments. -/
module

public import proofs.«01_k».proof.Defs
public import proofs.«01_k».proof.Proof.Gen.KernelMix
public import proofs.«01_k».proof.Proof.MixArrays
public import proofs.«01_k».proof.Proof.MixFinite
public import Idealize.ShloMosaic.Adequacy
public import Idealize.ShloMosaic.Init
public import Idealize.ShloMosaic.Lib.Quiescent

@[expose] public section

set_option maxRecDepth 16384

noncomputable section

namespace Cert.Mix

open Idealize.ShloMosaic Idealize.SL.Sem

/-- Over the real numbers the mixer call's seven results are the reference's, on finite arguments. -/
theorem algebraic : algebraic_KernelMixIdeal_ReferenceMixIdeal_pre_finite_mix (hKernelMixIdeal := Cert.KernelMixIdeal.Gen.facts)
    (hReferenceMixIdeal := Cert.ReferenceMixIdeal.Gen.facts) (hPre_finite_mix := Cert.Pre_finite_mix.Gen.facts) := by
  letI := Cert.KernelMixIdeal.Gen.facts
  letI := Cert.ReferenceMixIdeal.Gen.facts
  letI := Cert.Pre_finite_mix.Gen.facts
  intro m g m' g' hpre hagree
  refine ⟨_, _, _, _, _, _, _, Cert.KernelMixIdeal.Body.run_blocks m g, ?_⟩
  refine (θ_run Cert.ReferenceMixIdeal.defs _ _).mono (fun r h c => ?_) (Cert.ReferenceMixIdeal.Value.run (F := Ideal) m' g')
  obtain ⟨e0, e1, e2, e3, e4, e5, e6, e7, e8, e9, e10, e11, e12⟩ := hagree c
  obtain ⟨q, H⟩ := Cert.MixFinite.args _ _ _ _ _ _ _ _ _ _ _ _ _ (hpre c)
  have A := Cert.Mix.arrays m c (Cert.KernelMixIdeal.Body.V_arg m c Cert.KernelMixIdeal.main_arg0 (by decide)) e0 (Cert.KernelMixIdeal.Body.V_arg m c Cert.KernelMixIdeal.main_arg1 (by decide)) e1 (Cert.KernelMixIdeal.Body.V_arg m c Cert.KernelMixIdeal.main_arg2 (by decide)) e2 (Cert.KernelMixIdeal.Body.V_arg m c Cert.KernelMixIdeal.main_arg3 (by decide)) e3 (Cert.KernelMixIdeal.Body.V_arg m c Cert.KernelMixIdeal.main_arg4 (by decide)) e4 (Cert.KernelMixIdeal.Body.V_arg m c Cert.KernelMixIdeal.main_arg5 (by decide)) e5 (Cert.KernelMixIdeal.Body.V_arg m c Cert.KernelMixIdeal.main_arg6 (by decide)) e6 (Cert.KernelMixIdeal.Body.V_arg m c Cert.KernelMixIdeal.main_arg7 (by decide)) e7 (Cert.KernelMixIdeal.Body.V_arg m c Cert.KernelMixIdeal.main_arg8 (by decide)) e8 (Cert.KernelMixIdeal.Body.V_arg m c Cert.KernelMixIdeal.main_arg9 (by decide)) e9 (Cert.KernelMixIdeal.Body.V_arg m c Cert.KernelMixIdeal.main_arg10 (by decide)) e10 (Cert.KernelMixIdeal.Body.V_arg m c Cert.KernelMixIdeal.main_arg11 (by decide)) e11 (Cert.KernelMixIdeal.Body.V_arg m c Cert.KernelMixIdeal.main_arg12 (by decide)) e12 H
  obtain ⟨r0, r1, r2, r3, r4, r5, r6, rest⟩ := h c
  obtain ⟨a0, a1, a2, a3, a4, a5, a6⟩ := A
  exact ⟨r0.trans ((Cert.ReferenceMixIdeal.Read.val_main_v335_eq _).trans a0.symm), r1.trans ((Cert.ReferenceMixIdeal.Read.val_main_v344_eq _).trans a1.symm), r2.trans ((Cert.ReferenceMixIdeal.Read.val_main_v339_eq _).trans a2.symm), r3.trans ((Cert.ReferenceMixIdeal.Read.val_main_v341_eq _).trans a3.symm), r4.trans ((Cert.ReferenceMixIdeal.Read.val_main_v345_eq _).trans a4.symm), r5.trans ((Cert.ReferenceMixIdeal.Read.val_main_v346_eq _).trans a5.symm), r6.trans ((Cert.ReferenceMixIdeal.Read.val_main_v347_eq _).trans a6.symm), rest⟩

/-- The reference's frame: its run keeps the arguments, and it declares no semaphore. -/
theorem reference_frame : quiescent_ReferenceMixIdeal (hReferenceMixIdeal := Cert.ReferenceMixIdeal.Gen.facts) := fun m ρ _ =>
  letI := Cert.ReferenceMixIdeal.Gen.facts
  (θ_run Cert.ReferenceMixIdeal.defs _ _).mono (fun r h => ⟨fun c => (h c).2.2.2.2.2.2.2,
      Idealize.ShloMosaic.sem_eq_zero_of_no_sems (by decide) r.2⟩)
    (Cert.ReferenceMixIdeal.Value.run (F := Ideal) m ρ)

/-- The call's frame over the words: its text is the text that the run is about. -/
theorem frame : quiescent_KernelMix (hKernelMix := Cert.KernelMix.Gen.facts) := by
  have h := fun m ρ (_ : True) => Cert.KernelMixIdeal.Body.frame_main (F := Bits) m ρ
  refine Eq.mp ?_ h
  sl_kernel_rfl

end Cert.Mix

end
-- ==== Proof.Pieces.lean ====
/- What the kernel body leaves in its output blocks at one grid point, entry by entry: when the blocks it loads are finite,
   each output block holds the row-wise formulas at the tile's 256 rows, the per-channel sums grow by the tile's sums, and the
   resident weights are the arrays they were copied from. -/
module

public import proofs.«01_k».proof.Proof.Tile
public import proofs.«01_k».proof.Proof.Gen.KernelIdeal.Frame
public import Idealize.ShloMosaic.Lib.Pipeline.ReadBack
public import Idealize.ShloMosaic.Lib.Pipeline.RowLoads
public import Idealize.ShloMosaic.Lib.WritesUnit
public import Idealize.ShloMosaic.Lib.VecWindow
public import Idealize.ShloMosaic.Lib.Pipeline.ValueKit

@[expose] public section

set_option maxRecDepth 16384

noncomputable section

namespace Cert.KernelIdeal.Pieces

open Idealize.ShloMosaic Cert.KernelIdeal Cert.KernelIdeal.Gen Idealize.ShloMosaic.TcCoe Idealize.SL.Sem
open Cert.Ffn (Prm Is IsRow rs ms)

theorem hz2 : (![0, 0] : Fin 2 → Nat) = fun _ => 0 := funext fun a => by fin_cases a <;> rfl

/-- A row read out of a larger array. -/
theorem ld_row {m n k : ℕ} {e : EltTy} (v : Vec Ideal (⟨2, ![m, n]⟩ : Shape) e) (a o : ℕ) (inb) (p : Fin 1) (j : Fin k) (ha : a < m) (ho : o + j.val < n) :
    View.ld (Val := Elt Ideal) v (Rect.unit (s := (⟨2, ![m, n]⟩ : Shape)) ![a, o] ![1, k] inb) (ix2 p j) = v (ix2 ⟨a, ha⟩ ⟨o + j.val, ho⟩) := by
  refine View.ld_unit_apply_of v _ _ inb _ _ fun i => ?_
  have hp : p.val = 0 := by omega
  fin_cases i
  · show a = a + p.val
    omega
  · rfl

/-- A row of the sums block. -/
theorem ld_acc (v : Vec Ideal S8x1024 .f32) (r : Fin 8 → Fin 1024 → ℝ) (hr : Is 8 1024 v r) (k : ℕ) (inb) (hk : k < 8) :
    IsRow 1024 (View.ld (Val := Elt Ideal) v (Rect.unit (s := S8x1024) ![k, 0] ![1, 1024] inb)) (r ⟨k, hk⟩) := fun p j =>
  ((ld_row v k 0 inb p j hk (by omega)).trans (hr _ _)).trans (by simp only [Nat.zero_add])

/-- A load of a whole buffer that one whole-buffer copy filled reads what was copied. -/
theorem readCov_copied {sg : RefSig} {κ : Kind} {sp : Space} (v : View sg κ sp S2816x1024 .bf16) (inb) (w : S2816x1024.Idx → Elt Ideal .bf16) :
    v.readCov (Val := Elt Ideal) [⟨Rect.whole S2816x1024, w⟩] (Rect.unit (s := S2816x1024) ![0, 0] (no_index S2816x1024.size) inb).toLoadRect = w :=
  View.readCov_full v inb _ w []

theorem slab_mem (a : ℕ) (inb) (w) (L : List (View.Piece (Elt Ideal) S11x256x256 .bf16)) (z : Fin 11) (r p : Fin 256) (h : z.val = a) :
    View.canon ((⟨Rect.unit (s := S11x256x256) ![a, 0, 0] S1x256x256.size inb, w⟩ : View.Piece (Elt Ideal) S11x256x256 .bf16) :: L) (ix3 z r p)
      = w (ix3 (0 : Fin 1) r p) := by
  rw [← View.read_writes_junk_apply_eq_canon VO0_6]
  refine View.read_writes_cons_unit_of_mem VO0_6 _ inb w L _ (ix3 (0 : Fin 1) r p) rfl fun i => ?_
  fin_cases i
  · exact h
  · exact (Nat.zero_add _).symm
  · exact (Nat.zero_add _).symm

theorem slab_not_mem (a : ℕ) (inb) (w) (L : List (View.Piece (Elt Ideal) S11x256x256 .bf16)) (z : Fin 11) (r p : Fin 256) (h : z.val ≠ a) :
    View.canon ((⟨Rect.unit (s := S11x256x256) ![a, 0, 0] S1x256x256.size inb, w⟩ : View.Piece (Elt Ideal) S11x256x256 .bf16) :: L) (ix3 z r p)
      = View.canon L (ix3 z r p) := by
  rw [← View.read_writes_junk_apply_eq_canon VO0_6, ← View.read_writes_junk_apply_eq_canon VO0_6]
  refine View.read_writes_cons_unit_of_not_mem VO0_6 _ inb w L _ rfl (0 : Fin 3) ?_
  show z.val < a ∨ a + 1 ≤ z.val
  omega

/-- Eleven slabs stored one after another: slab `z` holds the `z`-th. -/
theorem slabs (w : Fin 11 → FVec Ideal S1x256x256 .bf16) (z : Fin 11) (r p : Fin 256) i0 i1 i2 i3 i4 i5 i6 i7 i8 i9 i10 :
    View.canon (Val := Elt Ideal) [(⟨Rect.unit (s := S11x256x256) ![10, 0, 0] S1x256x256.size i10, w 10⟩ : View.Piece (Elt Ideal) S11x256x256 .bf16), (⟨Rect.unit (s := S11x256x256) ![9, 0, 0] S1x256x256.size i9, w 9⟩ : View.Piece (Elt Ideal) S11x256x256 .bf16), (⟨Rect.unit (s := S11x256x256) ![8, 0, 0] S1x256x256.size i8, w 8⟩ : View.Piece (Elt Ideal) S11x256x256 .bf16), (⟨Rect.unit (s := S11x256x256) ![7, 0, 0] S1x256x256.size i7, w 7⟩ : View.Piece (Elt Ideal) S11x256x256 .bf16), (⟨Rect.unit (s := S11x256x256) ![6, 0, 0] S1x256x256.size i6, w 6⟩ : View.Piece (Elt Ideal) S11x256x256 .bf16), (⟨Rect.unit (s := S11x256x256) ![5, 0, 0] S1x256x256.size i5, w 5⟩ : View.Piece (Elt Ideal) S11x256x256 .bf16), (⟨Rect.unit (s := S11x256x256) ![4, 0, 0] S1x256x256.size i4, w 4⟩ : View.Piece (Elt Ideal) S11x256x256 .bf16), (⟨Rect.unit (s := S11x256x256) ![3, 0, 0] S1x256x256.size i3, w 3⟩ : View.Piece (Elt Ideal) S11x256x256 .bf16), (⟨Rect.unit (s := S11x256x256) ![2, 0, 0] S1x256x256.size i2, w 2⟩ : View.Piece (Elt Ideal) S11x256x256 .bf16), (⟨Rect.unit (s := S11x256x256) ![1, 0, 0] S1x256x256.size i1, w 1⟩ : View.Piece (Elt Ideal) S11x256x256 .bf16), (⟨Rect.unit (s := S11x256x256) ![0, 0, 0] S1x256x256.size i0, w 0⟩ : View.Piece (Elt Ideal) S11x256x256 .bf16)] (ix3 z r p) = w z (ix3 (0 : Fin 1) r p) := by
  obtain ⟨z, hz⟩ := z
  interval_cases z
  · refine (slab_not_mem 10 _ _ _ _ r p (show (0 : ℕ) ≠ 10 by decide)).trans ?_
    refine (slab_not_mem 9 _ _ _ _ r p (show (0 : ℕ) ≠ 9 by decide)).trans ?_
    refine (slab_not_mem 8 _ _ _ _ r p (show (0 : ℕ) ≠ 8 by decide)).trans ?_
    refine (slab_not_mem 7 _ _ _ _ r p (show (0 : ℕ) ≠ 7 by decide)).trans ?_
    refine (slab_not_mem 6 _ _ _ _ r p (show (0 : ℕ) ≠ 6 by decide)).trans ?_
    refine (slab_not_mem 5 _ _ _ _ r p (show (0 : ℕ) ≠ 5 by decide)).trans ?_
    refine (slab_not_mem 4 _ _ _ _ r p (show (0 : ℕ) ≠ 4 by decide)).trans ?_
    refine (slab_not_mem 3 _ _ _ _ r p (show (0 : ℕ) ≠ 3 by decide)).trans ?_
    refine (slab_not_mem 2 _ _ _ _ r p (show (0 : ℕ) ≠ 2 by decide)).trans ?_
    refine (slab_not_mem 1 _ _ _ _ r p (show (0 : ℕ) ≠ 1 by decide)).trans ?_
    exact slab_mem 0 _ _ _ _ r p rfl
  · refine (slab_not_mem 10 _ _ _ _ r p (show (1 : ℕ) ≠ 10 by decide)).trans ?_
    refine (slab_not_mem 9 _ _ _ _ r p (show (1 : ℕ) ≠ 9 by decide)).trans ?_
    refine (slab_not_mem 8 _ _ _ _ r p (show (1 : ℕ) ≠ 8 by decide)).trans ?_
    refine (slab_not_mem 7 _ _ _ _ r p (show (1 : ℕ) ≠ 7 by decide)).trans ?_
    refine (slab_not_mem 6 _ _ _ _ r p (show (1 : ℕ) ≠ 6 by decide)).trans ?_
    refine (slab_not_mem 5 _ _ _ _ r p (show (1 : ℕ) ≠ 5 by decide)).trans ?_
    refine (slab_not_mem 4 _ _ _ _ r p (show (1 : ℕ) ≠ 4 by decide)).trans ?_
    refine (slab_not_mem 3 _ _ _ _ r p (show (1 : ℕ) ≠ 3 by decide)).trans ?_
    refine (slab_not_mem 2 _ _ _ _ r p (show (1 : ℕ) ≠ 2 by decide)).trans ?_
    exact slab_mem 1 _ _ _ _ r p rfl
  · refine (slab_not_mem 10 _ _ _ _ r p (show (2 : ℕ) ≠ 10 by decide)).trans ?_
    refine (slab_not_mem 9 _ _ _ _ r p (show (2 : ℕ) ≠ 9 by decide)).trans ?_
    refine (slab_not_mem 8 _ _ _ _ r p (show (2 : ℕ) ≠ 8 by decide)).trans ?_
    refine (slab_not_mem 7 _ _ _ _ r p (show (2 : ℕ) ≠ 7 by decide)).trans ?_
    refine (slab_not_mem 6 _ _ _ _ r p (show (2 : ℕ) ≠ 6 by decide)).trans ?_
    refine (slab_not_mem 5 _ _ _ _ r p (show (2 : ℕ) ≠ 5 by decide)).trans ?_
    refine (slab_not_mem 4 _ _ _ _ r p (show (2 : ℕ) ≠ 4 by decide)).trans ?_
    refine (slab_not_mem 3 _ _ _ _ r p (show (2 : ℕ) ≠ 3 by decide)).trans ?_
    exact slab_mem 2 _ _ _ _ r p rfl
  · refine (slab_not_mem 10 _ _ _ _ r p (show (3 : ℕ) ≠ 10 by decide)).trans ?_
    refine (slab_not_mem 9 _ _ _ _ r p (show (3 : ℕ) ≠ 9 by decide)).trans ?_
    refine (slab_not_mem 8 _ _ _ _ r p (show (3 : ℕ) ≠ 8 by decide)).trans ?_
    refine (slab_not_mem 7 _ _ _ _ r p (show (3 : ℕ) ≠ 7 by decide)).trans ?_
    refine (slab_not_mem 6 _ _ _ _ r p (show (3 : ℕ) ≠ 6 by decide)).trans ?_
    refine (slab_not_mem 5 _ _ _ _ r p (show (3 : ℕ) ≠ 5 by decide)).trans ?_
    refine (slab_not_mem 4 _ _ _ _ r p (show (3 : ℕ) ≠ 4 by decide)).trans ?_
    exact slab_mem 3 _ _ _ _ r p rfl
  · refine (slab_not_mem 10 _ _ _ _ r p (show (4 : ℕ) ≠ 10 by decide)).trans ?_
    refine (slab_not_mem 9 _ _ _ _ r p (show (4 : ℕ) ≠ 9 by decide)).trans ?_
    refine (slab_not_mem 8 _ _ _ _ r p (show (4 : ℕ) ≠ 8 by decide)).trans ?_
    refine (slab_not_mem 7 _ _ _ _ r p (show (4 : ℕ) ≠ 7 by decide)).trans ?_
    refine (slab_not_mem 6 _ _ _ _ r p (show (4 : ℕ) ≠ 6 by decide)).trans ?_
    refine (slab_not_mem 5 _ _ _ _ r p (show (4 : ℕ) ≠ 5 by decide)).trans ?_
    exact slab_mem 4 _ _ _ _ r p rfl
  · refine (slab_not_mem 10 _ _ _ _ r p (show (5 : ℕ) ≠ 10 by decide)).trans ?_
    refine (slab_not_mem 9 _ _ _ _ r p (show (5 : ℕ) ≠ 9 by decide)).trans ?_
    refine (slab_not_mem 8 _ _ _ _ r p (show (5 : ℕ) ≠ 8 by decide)).trans ?_
    refine (slab_not_mem 7 _ _ _ _ r p (show (5 : ℕ) ≠ 7 by decide)).trans ?_
    refine (slab_not_mem 6 _ _ _ _ r p (show (5 : ℕ) ≠ 6 by decide)).trans ?_
    exact slab_mem 5 _ _ _ _ r p rfl
  · refine (slab_not_mem 10 _ _ _ _ r p (show (6 : ℕ) ≠ 10 by decide)).trans ?_
    refine (slab_not_mem 9 _ _ _ _ r p (show (6 : ℕ) ≠ 9 by decide)).trans ?_
    refine (slab_not_mem 8 _ _ _ _ r p (show (6 : ℕ) ≠ 8 by decide)).trans ?_
    refine (slab_not_mem 7 _ _ _ _ r p (show (6 : ℕ) ≠ 7 by decide)).trans ?_
    exact slab_mem 6 _ _ _ _ r p rfl
  · refine (slab_not_mem 10 _ _ _ _ r p (show (7 : ℕ) ≠ 10 by decide)).trans ?_
    refine (slab_not_mem 9 _ _ _ _ r p (show (7 : ℕ) ≠ 9 by decide)).trans ?_
    refine (slab_not_mem 8 _ _ _ _ r p (show (7 : ℕ) ≠ 8 by decide)).trans ?_
    exact slab_mem 7 _ _ _ _ r p rfl
  · refine (slab_not_mem 10 _ _ _ _ r p (show (8 : ℕ) ≠ 10 by decide)).trans ?_
    refine (slab_not_mem 9 _ _ _ _ r p (show (8 : ℕ) ≠ 9 by decide)).trans ?_
    exact slab_mem 8 _ _ _ _ r p rfl
  · refine (slab_not_mem 10 _ _ _ _ r p (show (9 : ℕ) ≠ 10 by decide)).trans ?_
    exact slab_mem 9 _ _ _ _ r p rfl
  · exact slab_mem 10 _ _ _ _ r p rfl

/-- Rows 0 to 5 stored one after another over a filled buffer: row `i` holds its own store, rows 6 and 7 what was there. -/
theorem rows {sg : RefSig} {κ : Kind} {sp : Space} (v : View sg κ sp S8x1024 .f32) (f : v.ty.Contents (Elt Ideal))
    (L : List (View.Piece (Elt Ideal) S8x1024 .f32)) (w0 w1 w2 w3 w4 w5 : FVec Ideal S1x1024 .f32) (i : Fin 8) (j : Fin 1024) i0 i1 i2 i3 i4 i5
    (d : EReal) (h : v.read (Elt Ideal) (v.writes (Elt Ideal) f L) (ix2 i j) = d) :
    v.read (Elt Ideal) (v.writes (Elt Ideal) f ((⟨Rect.unit (s := S8x1024) ![5, 0] S1x1024.size i5, w5⟩ : View.Piece (Elt Ideal) S8x1024 .f32) :: (⟨Rect.unit (s := S8x1024) ![4, 0] S1x1024.size i4, w4⟩ : View.Piece (Elt Ideal) S8x1024 .f32) :: (⟨Rect.unit (s := S8x1024) ![3, 0] S1x1024.size i3, w3⟩ : View.Piece (Elt Ideal) S8x1024 .f32) :: (⟨Rect.unit (s := S8x1024) ![2, 0] S1x1024.size i2, w2⟩ : View.Piece (Elt Ideal) S8x1024 .f32) :: (⟨Rect.unit (s := S8x1024) ![1, 0] S1x1024.size i1, w1⟩ : View.Piece (Elt Ideal) S8x1024 .f32) :: (⟨Rect.unit (s := S8x1024) ![0, 0] S1x1024.size i0, w0⟩ : View.Piece (Elt Ideal) S8x1024 .f32) :: L)) (ix2 i j)
      = ![w0 (ix2 0 j), w1 (ix2 0 j), w2 (ix2 0 j), w3 (ix2 0 j), w4 (ix2 0 j), w5 (ix2 0 j), d, d] i := by
  obtain ⟨i, hi⟩ := i
  interval_cases i
  · refine (View.read_writes_cons_rows_of_not_mem v f i5 w5 _ _ (o := 5) (W := 1) rfl rfl (.inl (show (0 : ℕ) < 5 by decide))).trans ?_
    refine (View.read_writes_cons_rows_of_not_mem v f i4 w4 _ _ (o := 4) (W := 1) rfl rfl (.inl (show (0 : ℕ) < 4 by decide))).trans ?_
    refine (View.read_writes_cons_rows_of_not_mem v f i3 w3 _ _ (o := 3) (W := 1) rfl rfl (.inl (show (0 : ℕ) < 3 by decide))).trans ?_
    refine (View.read_writes_cons_rows_of_not_mem v f i2 w2 _ _ (o := 2) (W := 1) rfl rfl (.inl (show (0 : ℕ) < 2 by decide))).trans ?_
    refine (View.read_writes_cons_rows_of_not_mem v f i1 w1 _ _ (o := 1) (W := 1) rfl rfl (.inl (show (0 : ℕ) < 1 by decide))).trans ?_
    exact View.read_writes_cons_rows_of_mem v f i0 w0 _ _ (ix2 0 j) (o := 0) rfl rfl rfl
  · refine (View.read_writes_cons_rows_of_not_mem v f i5 w5 _ _ (o := 5) (W := 1) rfl rfl (.inl (show (1 : ℕ) < 5 by decide))).trans ?_
    refine (View.read_writes_cons_rows_of_not_mem v f i4 w4 _ _ (o := 4) (W := 1) rfl rfl (.inl (show (1 : ℕ) < 4 by decide))).trans ?_
    refine (View.read_writes_cons_rows_of_not_mem v f i3 w3 _ _ (o := 3) (W := 1) rfl rfl (.inl (show (1 : ℕ) < 3 by decide))).trans ?_
    refine (View.read_writes_cons_rows_of_not_mem v f i2 w2 _ _ (o := 2) (W := 1) rfl rfl (.inl (show (1 : ℕ) < 2 by decide))).trans ?_
    exact View.read_writes_cons_rows_of_mem v f i1 w1 _ _ (ix2 0 j) (o := 1) rfl rfl rfl
  · refine (View.read_writes_cons_rows_of_not_mem v f i5 w5 _ _ (o := 5) (W := 1) rfl rfl (.inl (show (2 : ℕ) < 5 by decide))).trans ?_
    refine (View.read_writes_cons_rows_of_not_mem v f i4 w4 _ _ (o := 4) (W := 1) rfl rfl (.inl (show (2 : ℕ) < 4 by decide))).trans ?_
    refine (View.read_writes_cons_rows_of_not_mem v f i3 w3 _ _ (o := 3) (W := 1) rfl rfl (.inl (show (2 : ℕ) < 3 by decide))).trans ?_
    exact View.read_writes_cons_rows_of_mem v f i2 w2 _ _ (ix2 0 j) (o := 2) rfl rfl rfl
  · refine (View.read_writes_cons_rows_of_not_mem v f i5 w5 _ _ (o := 5) (W := 1) rfl rfl (.inl (show (3 : ℕ) < 5 by decide))).trans ?_
    refine (View.read_writes_cons_rows_of_not_mem v f i4 w4 _ _ (o := 4) (W := 1) rfl rfl (.inl (show (3 : ℕ) < 4 by decide))).trans ?_
    exact View.read_writes_cons_rows_of_mem v f i3 w3 _ _ (ix2 0 j) (o := 3) rfl rfl rfl
  · refine (View.read_writes_cons_rows_of_not_mem v f i5 w5 _ _ (o := 5) (W := 1) rfl rfl (.inl (show (4 : ℕ) < 5 by decide))).trans ?_
    exact View.read_writes_cons_rows_of_mem v f i4 w4 _ _ (ix2 0 j) (o := 4) rfl rfl rfl
  · exact View.read_writes_cons_rows_of_mem v f i5 w5 _ _ (ix2 0 j) (o := 5) rfl rfl rfl
  · refine (View.read_writes_cons_rows_of_not_mem v f i5 w5 _ _ (o := 5) (W := 1) rfl rfl (.inr (show (5 : ℕ) + 1 ≤ 6 by decide))).trans ?_
    refine (View.read_writes_cons_rows_of_not_mem v f i4 w4 _ _ (o := 4) (W := 1) rfl rfl (.inr (show (4 : ℕ) + 1 ≤ 6 by decide))).trans ?_
    refine (View.read_writes_cons_rows_of_not_mem v f i3 w3 _ _ (o := 3) (W := 1) rfl rfl (.inr (show (3 : ℕ) + 1 ≤ 6 by decide))).trans ?_
    refine (View.read_writes_cons_rows_of_not_mem v f i2 w2 _ _ (o := 2) (W := 1) rfl rfl (.inr (show (2 : ℕ) + 1 ≤ 6 by decide))).trans ?_
    refine (View.read_writes_cons_rows_of_not_mem v f i1 w1 _ _ (o := 1) (W := 1) rfl rfl (.inr (show (1 : ℕ) + 1 ≤ 6 by decide))).trans ?_
    refine (View.read_writes_cons_rows_of_not_mem v f i0 w0 _ _ (o := 0) (W := 1) rfl rfl (.inr (show (0 : ℕ) + 1 ≤ 6 by decide))).trans ?_
    exact h
  · refine (View.read_writes_cons_rows_of_not_mem v f i5 w5 _ _ (o := 5) (W := 1) rfl rfl (.inr (show (5 : ℕ) + 1 ≤ 7 by decide))).trans ?_
    refine (View.read_writes_cons_rows_of_not_mem v f i4 w4 _ _ (o := 4) (W := 1) rfl rfl (.inr (show (4 : ℕ) + 1 ≤ 7 by decide))).trans ?_
    refine (View.read_writes_cons_rows_of_not_mem v f i3 w3 _ _ (o := 3) (W := 1) rfl rfl (.inr (show (3 : ℕ) + 1 ≤ 7 by decide))).trans ?_
    refine (View.read_writes_cons_rows_of_not_mem v f i2 w2 _ _ (o := 2) (W := 1) rfl rfl (.inr (show (2 : ℕ) + 1 ≤ 7 by decide))).trans ?_
    refine (View.read_writes_cons_rows_of_not_mem v f i1 w1 _ _ (o := 1) (W := 1) rfl rfl (.inr (show (1 : ℕ) + 1 ≤ 7 by decide))).trans ?_
    refine (View.read_writes_cons_rows_of_not_mem v f i0 w0 _ _ (o := 0) (W := 1) rfl rfl (.inr (show (0 : ℕ) + 1 ≤ 7 by decide))).trans ?_
    exact h

/-- The blocks a grid point loads, as finite arrays: 256 rows of the two token arrays, the modulation rows, the two gains and
    the three weights. -/
structure Loaded (q : Prm) (x tg : Fin 256 → Fin 1024 → ℝ) (x0 x1 : Vec Ideal S256x1024 .f32) (x2 : Vec Ideal S8x6144 .f32)
    (x3 x4 : Vec Ideal S1x1024 .f32) (w0 w1 w2 : Vec Ideal S2816x1024 .bf16) : Prop where
  x0 : Is 256 1024 x0 x
  x1 : Is 256 1024 x1 tg
  sh : ∀ j : Fin 1024, x2 (ix2 (0 : Fin 8) ⟨3072 + j.val, by omega⟩) = ((q.sh j : ℝ) : EReal)
  sc : ∀ j : Fin 1024, x2 (ix2 (0 : Fin 8) ⟨4096 + j.val, by omega⟩) = ((q.sc j : ℝ) : EReal)
  gt : ∀ j : Fin 1024, x2 (ix2 (0 : Fin 8) ⟨5120 + j.val, by omega⟩) = ((q.gt j : ℝ) : EReal)
  x3 : IsRow 1024 x3 q.g2
  x4 : IsRow 1024 x4 q.gf
  w0 : Is 2816 1024 w0 q.wg
  w1 : Is 2816 1024 w1 q.wu
  w2 : Is 2816 1024 w2 q.wd

section
variable (q : Prm) (x tg : Fin 256 → Fin 1024 → ℝ)

theorem sums (r : Fin 8 → Fin 1024 → ℝ) (w0 w1 w2 w3 w4 w5 : FVec Ideal S1x1024 .f32)
    (h0 : IsRow 1024 w0 fun j => r 0 j + ∑ p, q.dh (x p) (tg p) j)
    (h1 : IsRow 1024 w1 fun j => r 1 j + ∑ p, q.dh (x p) (tg p) j * (x p j * rs (x p) * q.g2 j))
    (h2 : IsRow 1024 w2 fun j => r 2 j + ∑ p, q.dy (x p) (tg p) j * q.f (x p) j)
    (h3 : IsRow 1024 w3 fun j => r 3 j + ∑ p, q.dn (x p) (tg p) j * (x p j * rs (x p)))
    (h4 : IsRow 1024 w4 fun j => r 4 j + ∑ p, q.dout (x p) (tg p) j * q.nf (x p) j)
    (h5 : IsRow 1024 w5 fun j => r 5 j + 1 / 2 * (∑ p, ∑ l, q.err (x p) (tg p) l * q.err (x p) (tg p) l) * (1 / 1024))
    (i : Fin 8) (j : Fin 1024) :
    (![w0 (ix2 0 j), w1 (ix2 0 j), w2 (ix2 0 j), w3 (ix2 0 j), w4 (ix2 0 j), w5 (ix2 0 j), ((r i j : ℝ) : EReal), ((r i j : ℝ) : EReal)] i : EReal)
      = ((r i j + ∑ p, q.term (x p) (tg p) i j : ℝ) : EReal) := by
  obtain ⟨i, hi⟩ := i
  interval_cases i
  · exact h0 0 j
  · exact h1 0 j
  · exact h2 0 j
  · exact h3 0 j
  · exact h4 0 j
  · refine (h5 0 j).trans (congrArg _ ?_)
    show _ = r 5 j + ∑ p, 1 / 2 * (∑ l, q.err (x p) (tg p) l * q.err (x p) (tg p) l) * (1 / 1024)
    rw [← Finset.sum_mul, ← Finset.mul_sum]
  · show ((r 6 j : ℝ) : EReal) = ((r 6 j + ∑ p : Fin 256, (0 : ℝ) : ℝ) : EReal)
    simp
  · show ((r 7 j : ℝ) : EReal) = ((r 7 j + ∑ p : Fin 256, (0 : ℝ) : ℝ) : EReal)
    simp

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S11x256x256 .bf16) (harg12 : arg12.IsWhole) (arg13 : Memref sig .tc .vmem S11x256x256 .bf16) (harg13 : arg13.IsWhole) (arg14 : Memref sig .tc .vmem S256x1024 .f32) (harg14 : arg14.IsWhole) (arg15 : Memref sig .tc .vmem S8x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole)
variable (x0 x1 : Vec Ideal S256x1024 .f32) (x2 : Vec Ideal S8x6144 .f32) (x3 x4 : Vec Ideal S1x1024 .f32)
variable (fh0 : HbBuf0 (F := Ideal) c hbM0_0) (fh1 : HbBuf0 (F := Ideal) c hbM0_1) (fh2 : HbBuf0 (F := Ideal) c hbM0_2)
variable (w0 w1 w2 : Vec Ideal S2816x1024 .bf16) (e0 : (Memref.whole main_arg5).view.read (Elt Ideal) fh0 = w0) (e1 : (Memref.whole main_arg6).view.read (Elt Ideal) fh1 = w1) (e2 : (Memref.whole main_arg7).view.read (Elt Ideal) fh2 = w2)
variable (hc0 : cond0_0 i) (H : Loaded q x tg x0 x1 x2 x3 x4 w0 w1 w2)
include H e0 e1 e2

theorem outA5 (p : Fin 256) (j : Fin 1024) : out0_A_5 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 (ix2 p j) = ((q.h (x p) j : ℝ) : EReal) := by
  unfold out0_A_5
  rw [View.read_writes_eq_canon _ _ _ (cover0_A_5 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  rw [View.canon_unit_zero hz2]
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, readCov_copied, ReadAs.apply, e0, e1, e2]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have h6 := Cert.Ffn.k6_at q x tg _ H.x0 _ r4 _ r5 _ H.x3
  exact h6 p j

theorem outA7 (p : Fin 256) (j : Fin 1024) : out0_A_7 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 (ix2 p j) = ((q.df (x p) (tg p) j : ℝ) : EReal) := by
  unfold out0_A_7
  rw [View.read_writes_eq_canon _ _ _ (cover0_A_7 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  rw [View.canon_unit_zero hz2]
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, readCov_copied, ReadAs.apply, e0, e1, e2]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h7 := Cert.Ffn.k7_at q x tg _ H.x0 _ r4 _ r5 _ H.x3 _ H.w0
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h32 := Cert.Ffn.k32_at q x tg _ r6 _ h24 _ h25 _ H.x4 _ H.x1
  exact h32 p j

theorem outA10 (p : Fin 256) (j : Fin 1024) : out0_A_10 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 (ix2 p j) = ((q.dx (x p) (tg p) j : ℝ) : EReal) := by
  unfold out0_A_10
  rw [View.read_writes_eq_canon _ _ _ (cover0_A_10 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  rw [View.canon_unit_zero hz2]
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, readCov_copied, ReadAs.apply, e0, e1, e2]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h4 := Cert.Ffn.k4_at q x tg _ H.x0
  have h5 := Cert.Ffn.k5_at q x tg _ H.x0
  have h7 := Cert.Ffn.k7_at q x tg _ H.x0 _ r4 _ r5 _ H.x3 _ H.w0
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h31 := Cert.Ffn.k31_at q x tg _ h24 _ h25 _ H.x4 _ H.x1
  have h34 := Cert.Ffn.k34_at q x tg _ h7
  have h35 := Cert.Ffn.k35_at q x tg _ r6 _ h8 _ h24 _ h25 _ H.x4 _ H.x1 _ H.w2
  have h36 := Cert.Ffn.k36_at q x tg _ h7
  have h37 := Cert.Ffn.k37_at q x tg _ h34 _ h35 _ h36
  have h33 := Cert.Ffn.k33_at q x tg _ r6 _ h24 _ h25 _ H.x4 _ H.x1 _ H.w2
  have h38 := Cert.Ffn.k38_at q x tg _ h7 _ h33 _ h34
  have h65 := Cert.Ffn.k65_at q x tg _ r5 _ H.x3 _ h4 _ h5 _ h31 _ h37 _ h38 _ H.w0 _ H.w1
  exact h65 p j

theorem outA6 (z : Fin 11) (r p : Fin 256) : out0_A_6 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 (ix3 z r p)
    = ((q.a (x p) ⟨256 * z.val + r.val, by omega⟩ : ℝ) : EReal) := by
  unfold out0_A_6
  rw [View.read_writes_eq_canon _ _ _ (cover0_A_6 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, readCov_copied, ReadAs.apply, e0, e1, e2]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have h7 := Cert.Ffn.k7_at q x tg _ H.x0 _ r4 _ r5 _ H.x3 _ H.w0
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  refine (slabs ![_, _, _, _, _, _, _, _, _, _, _] z r p _ _ _ _ _ _ _ _ _ _ _).trans ?_
  obtain ⟨z, hz⟩ := z
  interval_cases z
  · exact (Cert.Ffn.k11_at _ _ _ 0 r p).trans (h10 p _)
  · exact (Cert.Ffn.k12_at _ _ _ 0 r p).trans (h10 p _)
  · exact (Cert.Ffn.k13_at _ _ _ 0 r p).trans (h10 p _)
  · exact (Cert.Ffn.k14_at _ _ _ 0 r p).trans (h10 p _)
  · exact (Cert.Ffn.k15_at _ _ _ 0 r p).trans (h10 p _)
  · exact (Cert.Ffn.k16_at _ _ _ 0 r p).trans (h10 p _)
  · exact (Cert.Ffn.k18_at _ _ _ 0 r p).trans (h10 p _)
  · exact (Cert.Ffn.k19_at _ 0 r p).trans (h10 p _)
  · exact (Cert.Ffn.k20_at _ 0 r p).trans (h10 p _)
  · exact (Cert.Ffn.k21_at _ 0 r p).trans (h10 p _)
  · exact (Cert.Ffn.k22_at _ 0 r p).trans (h10 p _)

theorem outA8 (z : Fin 11) (r p : Fin 256) : out0_A_8 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 (ix3 z r p)
    = ((q.dg (x p) (tg p) ⟨256 * z.val + r.val, by omega⟩ : ℝ) : EReal) := by
  unfold out0_A_8
  rw [View.read_writes_eq_canon _ _ _ (cover0_A_8 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, readCov_copied, ReadAs.apply, e0, e1, e2]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h7 := Cert.Ffn.k7_at q x tg _ H.x0 _ r4 _ r5 _ H.x3 _ H.w0
  have h34 := Cert.Ffn.k34_at q x tg _ h7
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h35 := Cert.Ffn.k35_at q x tg _ r6 _ h8 _ h24 _ h25 _ H.x4 _ H.x1 _ H.w2
  have h36 := Cert.Ffn.k36_at q x tg _ h7
  have h37 := Cert.Ffn.k37_at q x tg _ h34 _ h35 _ h36
  refine (slabs ![_, _, _, _, _, _, _, _, _, _, _] z r p _ _ _ _ _ _ _ _ _ _ _).trans ?_
  obtain ⟨z, hz⟩ := z
  interval_cases z
  · exact (Cert.Ffn.k39_at _ _ _ 0 r p).trans (h37 p _)
  · exact (Cert.Ffn.k40_at _ _ _ 0 r p).trans (h37 p _)
  · exact (Cert.Ffn.k41_at _ _ _ 0 r p).trans (h37 p _)
  · exact (Cert.Ffn.k42_at _ _ _ 0 r p).trans (h37 p _)
  · exact (Cert.Ffn.k43_at _ _ _ 0 r p).trans (h37 p _)
  · exact (Cert.Ffn.k45_at _ _ _ 0 r p).trans (h37 p _)
  · exact (Cert.Ffn.k46_at _ 0 r p).trans (h37 p _)
  · exact (Cert.Ffn.k47_at _ 0 r p).trans (h37 p _)
  · exact (Cert.Ffn.k48_at _ 0 r p).trans (h37 p _)
  · exact (Cert.Ffn.k49_at _ 0 r p).trans (h37 p _)
  · exact (Cert.Ffn.k50_at _ 0 r p).trans (h37 p _)

theorem outA9 (z : Fin 11) (r p : Fin 256) : out0_A_9 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 (ix3 z r p)
    = ((q.du (x p) (tg p) ⟨256 * z.val + r.val, by omega⟩ : ℝ) : EReal) := by
  unfold out0_A_9
  rw [View.read_writes_eq_canon _ _ _ (cover0_A_9 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, readCov_copied, ReadAs.apply, e0, e1, e2]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h7 := Cert.Ffn.k7_at q x tg _ H.x0 _ r4 _ r5 _ H.x3 _ H.w0
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h33 := Cert.Ffn.k33_at q x tg _ r6 _ h24 _ h25 _ H.x4 _ H.x1 _ H.w2
  have h34 := Cert.Ffn.k34_at q x tg _ h7
  have h38 := Cert.Ffn.k38_at q x tg _ h7 _ h33 _ h34
  refine (slabs ![_, _, _, _, _, _, _, _, _, _, _] z r p _ _ _ _ _ _ _ _ _ _ _).trans ?_
  obtain ⟨z, hz⟩ := z
  interval_cases z
  · exact (Cert.Ffn.k51_at _ 0 r p).trans (h38 p _)
  · exact (Cert.Ffn.k53_at _ 0 r p).trans (h38 p _)
  · exact (Cert.Ffn.k54_at _ 0 r p).trans (h38 p _)
  · exact (Cert.Ffn.k55_at _ 0 r p).trans (h38 p _)
  · exact (Cert.Ffn.k56_at _ 0 r p).trans (h38 p _)
  · exact (Cert.Ffn.k57_at _ 0 r p).trans (h38 p _)
  · exact (Cert.Ffn.k58_at _ 0 r p).trans (h38 p _)
  · exact (Cert.Ffn.k59_at _ 0 r p).trans (h38 p _)
  · exact (Cert.Ffn.k60_at _ 0 r p).trans (h38 p _)
  · exact (Cert.Ffn.k61_at _ 0 r p).trans (h38 p _)
  · exact (Cert.Ffn.k62_at _ 0 r p).trans (h38 p _)

theorem outA11 (i' : Fin 8) (j : Fin 1024) : out0_A_11 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 (ix2 i' j) = ((∑ p, q.term (x p) (tg p) i' j : ℝ) : EReal) := by
  unfold out0_A_11
  unfold kernelRun0_A
  dsimp only
  sl_unfold_words
  simp (disch := decide) only [↓View.readCov_skip, ↓View.readCov_fill, View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, readCov_copied, ReadAs.apply, e0, e1, e2]
  let r : Fin 8 → Fin 1024 → ℝ := fun _ _ => 0
  have l0 := ld_acc (k0_pay3 (F := Ideal)) r Cert.Ffn.k3_at 0 inb_S8x1024_S1x1024_0_0 (by decide)
  have l1 := ld_acc (k0_pay3 (F := Ideal)) r Cert.Ffn.k3_at 1 inb_S8x1024_S1x1024_1_0 (by decide)
  have l2 := ld_acc (k0_pay3 (F := Ideal)) r Cert.Ffn.k3_at 2 inb_S8x1024_S1x1024_2_0 (by decide)
  have l3 := ld_acc (k0_pay3 (F := Ideal)) r Cert.Ffn.k3_at 3 inb_S8x1024_S1x1024_3_0 (by decide)
  have l4 := ld_acc (k0_pay3 (F := Ideal)) r Cert.Ffn.k3_at 4 inb_S8x1024_S1x1024_4_0 (by decide)
  have l5 := ld_acc (k0_pay3 (F := Ideal)) r Cert.Ffn.k3_at 5 inb_S8x1024_S1x1024_5_0 (by decide)
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h7 := Cert.Ffn.k7_at q x tg _ H.x0 _ r4 _ r5 _ H.x3 _ H.w0
  have h34 := Cert.Ffn.k34_at q x tg _ h7
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h35 := Cert.Ffn.k35_at q x tg _ r6 _ h8 _ h24 _ h25 _ H.x4 _ H.x1 _ H.w2
  have h36 := Cert.Ffn.k36_at q x tg _ h7
  have h37 := Cert.Ffn.k37_at q x tg _ h34 _ h35 _ h36
  have h33 := Cert.Ffn.k33_at q x tg _ r6 _ h24 _ h25 _ H.x4 _ H.x1 _ H.w2
  have h38 := Cert.Ffn.k38_at q x tg _ h7 _ h33 _ h34
  have h63 := Cert.Ffn.k63_at q x tg _ h37 _ h38 _ H.w0 _ H.w1
  have h64 := Cert.Ffn.k64_at q x tg _ r5 _ h37 _ h38 _ H.w0 _ H.w1
  have h31 := Cert.Ffn.k31_at q x tg _ h24 _ h25 _ H.x4 _ H.x1
  have h23 := Cert.Ffn.k23_at q x tg _ h10 _ H.w2
  have h27 := Cert.Ffn.k27_at q x tg _ h24 _ h25
  have h30 := Cert.Ffn.k30_at q x tg _ h24 _ h25 _ H.x4 _ H.x1
  have h29 := Cert.Ffn.k29_at q x tg _ h24 _ h25 _ H.x4 _ H.x1
  have h5 := Cert.Ffn.k5_at q x tg _ H.x0
  have c0 := Cert.Ffn.k66_at (fun p => q.dh (x p) (tg p)) (r 0) _ h63 _ l0
  have c1 := Cert.Ffn.k67_at (fun p => q.dh (x p) (tg p)) (r 1) q.g2 (fun p j => x p j * rs (x p)) _ H.x3 _ h5 _ h63 _ l1
  have c2 := Cert.Ffn.k68_at (fun p => q.dy (x p) (tg p)) (r 2) (fun p => q.f (x p)) _ h23 _ h31 _ l2
  have c3 := Cert.Ffn.k69_at (fun p => q.dn (x p) (tg p)) (r 3) (fun p j => x p j * rs (x p)) _ h5 _ h64 _ l3
  have c4 := Cert.Ffn.k1_at (fun p => q.dout (x p) (tg p)) (r 4) (fun p => q.nf (x p)) _ h27 _ h30 _ l4
  have c5 := Cert.Ffn.k2_at (r 5) _ _ h29 _ l5
  refine (rows VO0_11 _ [_] _ _ _ _ _ _ i' j _ _ _ _ _ _ (((r i' j : ℝ)) : EReal) ?_).trans ?_
  · rw [View.read_writes_junk_apply_eq_canon, View.canon_unit_zero hz2]
    exact Cert.Ffn.k3_at i' j
  · refine (sums q x tg r _ _ _ _ _ _ c0 c1 c2 c3 c4 c5 i' j).trans (congrArg _ ?_)
    exact zero_add _

omit H e0 e1 e2 in
theorem soutA_0 : sout0_A_0 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 = (Memref.whole main_arg5).view.read (Elt Ideal) fh0 := by
  unfold sout0_A_0
  rw [View.read_writes_eq_canon _ _ _ (scover0_A_0 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  exact View.canon_unit_zero (S := S2816x1024) rfl _ _

omit H e0 e1 e2 in
theorem soutA_1 : sout0_A_1 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 = (Memref.whole main_arg6).view.read (Elt Ideal) fh1 := by
  unfold sout0_A_1
  rw [View.read_writes_eq_canon _ _ _ (scover0_A_1 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  exact View.canon_unit_zero (S := S2816x1024) rfl _ _

omit H e0 e1 e2 in
theorem soutA_2 : sout0_A_2 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2 = (Memref.whole main_arg7).view.read (Elt Ideal) fh2 := by
  unfold sout0_A_2
  rw [View.read_writes_eq_canon _ _ _ (scover0_A_2 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 fh0 fh1 fh2)]
  unfold kernelRun0_A
  dsimp only
  sl_unfold_words
  exact View.canon_unit_zero (S := S2816x1024) rfl _ _

end

section
variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S8x6144 .f32) (harg3 : arg3.IsWhole) (arg4 : Memref sig .tc .vmem S1x1024 .f32) (harg4 : arg4.IsWhole) (arg5 : Memref sig .tc .vmem S1x1024 .f32) (harg5 : arg5.IsWhole) (arg9 : Memref sig .tc .vmem S256x1024 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S11x256x256 .bf16) (harg12 : arg12.IsWhole) (arg13 : Memref sig .tc .vmem S11x256x256 .bf16) (harg13 : arg13.IsWhole) (arg14 : Memref sig .tc .vmem S256x1024 .f32) (harg14 : arg14.IsWhole) (arg15 : Memref sig .tc .vmem S8x1024 .f32) (harg15 : arg15.IsWhole) (arg16 : Memref sig .tc .vmem S2816x1024 .bf16) (harg16 : arg16.IsWhole) (arg17 : Memref sig .tc .vmem S2816x1024 .bf16) (harg17 : arg17.IsWhole) (arg18 : Memref sig .tc .vmem S2816x1024 .bf16) (harg18 : arg18.IsWhole)
variable (x0 x1 : Vec Ideal S256x1024 .f32) (x2 : Vec Ideal S8x6144 .f32) (x3 x4 : Vec Ideal S1x1024 .f32)
variable (fh0 : HbBuf0 (F := Ideal) c hbM0_0) (fh1 : HbBuf0 (F := Ideal) c hbM0_1) (fh2 : HbBuf0 (F := Ideal) c hbM0_2)
variable (xo11 : Vec Ideal S8x1024 .f32) (xs0 xs1 xs2 : Vec Ideal S2816x1024 .bf16)
variable (hc0 : ¬cond0_0 i) (H : Loaded q x tg x0 x1 x2 x3 x4 xs0 xs1 xs2)
include H

theorem outB5 (p : Fin 256) (j : Fin 1024) : out0_B_5 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2 (ix2 p j) = ((q.h (x p) j : ℝ) : EReal) := by
  unfold out0_B_5
  rw [View.read_writes_eq_canon _ _ _ (cover0_B_5 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2)]
  unfold kernelRun0_B
  dsimp only
  sl_unfold_words
  rw [View.canon_unit_zero hz2]
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, harg16.read_unread, harg17.read_unread, harg18.read_unread]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have h6 := Cert.Ffn.k6_at q x tg _ H.x0 _ r4 _ r5 _ H.x3
  exact h6 p j

theorem outB7 (p : Fin 256) (j : Fin 1024) : out0_B_7 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2 (ix2 p j) = ((q.df (x p) (tg p) j : ℝ) : EReal) := by
  unfold out0_B_7
  rw [View.read_writes_eq_canon _ _ _ (cover0_B_7 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2)]
  unfold kernelRun0_B
  dsimp only
  sl_unfold_words
  rw [View.canon_unit_zero hz2]
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, harg16.read_unread, harg17.read_unread, harg18.read_unread]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h7 := Cert.Ffn.k7_at q x tg _ H.x0 _ r4 _ r5 _ H.x3 _ H.w0
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h32 := Cert.Ffn.k32_at q x tg _ r6 _ h24 _ h25 _ H.x4 _ H.x1
  exact h32 p j

theorem outB10 (p : Fin 256) (j : Fin 1024) : out0_B_10 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2 (ix2 p j) = ((q.dx (x p) (tg p) j : ℝ) : EReal) := by
  unfold out0_B_10
  rw [View.read_writes_eq_canon _ _ _ (cover0_B_10 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2)]
  unfold kernelRun0_B
  dsimp only
  sl_unfold_words
  rw [View.canon_unit_zero hz2]
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, harg16.read_unread, harg17.read_unread, harg18.read_unread]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h4 := Cert.Ffn.k4_at q x tg _ H.x0
  have h5 := Cert.Ffn.k5_at q x tg _ H.x0
  have h7 := Cert.Ffn.k7_at q x tg _ H.x0 _ r4 _ r5 _ H.x3 _ H.w0
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h31 := Cert.Ffn.k31_at q x tg _ h24 _ h25 _ H.x4 _ H.x1
  have h34 := Cert.Ffn.k34_at q x tg _ h7
  have h35 := Cert.Ffn.k35_at q x tg _ r6 _ h8 _ h24 _ h25 _ H.x4 _ H.x1 _ H.w2
  have h36 := Cert.Ffn.k36_at q x tg _ h7
  have h37 := Cert.Ffn.k37_at q x tg _ h34 _ h35 _ h36
  have h33 := Cert.Ffn.k33_at q x tg _ r6 _ h24 _ h25 _ H.x4 _ H.x1 _ H.w2
  have h38 := Cert.Ffn.k38_at q x tg _ h7 _ h33 _ h34
  have h65 := Cert.Ffn.k65_at q x tg _ r5 _ H.x3 _ h4 _ h5 _ h31 _ h37 _ h38 _ H.w0 _ H.w1
  exact h65 p j

theorem outB6 (z : Fin 11) (r p : Fin 256) : out0_B_6 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2 (ix3 z r p)
    = ((q.a (x p) ⟨256 * z.val + r.val, by omega⟩ : ℝ) : EReal) := by
  unfold out0_B_6
  rw [View.read_writes_eq_canon _ _ _ (cover0_B_6 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2)]
  unfold kernelRun0_B
  dsimp only
  sl_unfold_words
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, harg16.read_unread, harg17.read_unread, harg18.read_unread]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have h7 := Cert.Ffn.k7_at q x tg _ H.x0 _ r4 _ r5 _ H.x3 _ H.w0
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  refine (slabs ![_, _, _, _, _, _, _, _, _, _, _] z r p _ _ _ _ _ _ _ _ _ _ _).trans ?_
  obtain ⟨z, hz⟩ := z
  interval_cases z
  · exact (Cert.Ffn.k11_at _ _ _ 0 r p).trans (h10 p _)
  · exact (Cert.Ffn.k12_at _ _ _ 0 r p).trans (h10 p _)
  · exact (Cert.Ffn.k13_at _ _ _ 0 r p).trans (h10 p _)
  · exact (Cert.Ffn.k14_at _ _ _ 0 r p).trans (h10 p _)
  · exact (Cert.Ffn.k15_at _ _ _ 0 r p).trans (h10 p _)
  · exact (Cert.Ffn.k16_at _ _ _ 0 r p).trans (h10 p _)
  · exact (Cert.Ffn.k18_at _ _ _ 0 r p).trans (h10 p _)
  · exact (Cert.Ffn.k19_at _ 0 r p).trans (h10 p _)
  · exact (Cert.Ffn.k20_at _ 0 r p).trans (h10 p _)
  · exact (Cert.Ffn.k21_at _ 0 r p).trans (h10 p _)
  · exact (Cert.Ffn.k22_at _ 0 r p).trans (h10 p _)

theorem outB8 (z : Fin 11) (r p : Fin 256) : out0_B_8 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2 (ix3 z r p)
    = ((q.dg (x p) (tg p) ⟨256 * z.val + r.val, by omega⟩ : ℝ) : EReal) := by
  unfold out0_B_8
  rw [View.read_writes_eq_canon _ _ _ (cover0_B_8 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2)]
  unfold kernelRun0_B
  dsimp only
  sl_unfold_words
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, harg16.read_unread, harg17.read_unread, harg18.read_unread]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h7 := Cert.Ffn.k7_at q x tg _ H.x0 _ r4 _ r5 _ H.x3 _ H.w0
  have h34 := Cert.Ffn.k34_at q x tg _ h7
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h35 := Cert.Ffn.k35_at q x tg _ r6 _ h8 _ h24 _ h25 _ H.x4 _ H.x1 _ H.w2
  have h36 := Cert.Ffn.k36_at q x tg _ h7
  have h37 := Cert.Ffn.k37_at q x tg _ h34 _ h35 _ h36
  refine (slabs ![_, _, _, _, _, _, _, _, _, _, _] z r p _ _ _ _ _ _ _ _ _ _ _).trans ?_
  obtain ⟨z, hz⟩ := z
  interval_cases z
  · exact (Cert.Ffn.k39_at _ _ _ 0 r p).trans (h37 p _)
  · exact (Cert.Ffn.k40_at _ _ _ 0 r p).trans (h37 p _)
  · exact (Cert.Ffn.k41_at _ _ _ 0 r p).trans (h37 p _)
  · exact (Cert.Ffn.k42_at _ _ _ 0 r p).trans (h37 p _)
  · exact (Cert.Ffn.k43_at _ _ _ 0 r p).trans (h37 p _)
  · exact (Cert.Ffn.k45_at _ _ _ 0 r p).trans (h37 p _)
  · exact (Cert.Ffn.k46_at _ 0 r p).trans (h37 p _)
  · exact (Cert.Ffn.k47_at _ 0 r p).trans (h37 p _)
  · exact (Cert.Ffn.k48_at _ 0 r p).trans (h37 p _)
  · exact (Cert.Ffn.k49_at _ 0 r p).trans (h37 p _)
  · exact (Cert.Ffn.k50_at _ 0 r p).trans (h37 p _)

theorem outB9 (z : Fin 11) (r p : Fin 256) : out0_B_9 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2 (ix3 z r p)
    = ((q.du (x p) (tg p) ⟨256 * z.val + r.val, by omega⟩ : ℝ) : EReal) := by
  unfold out0_B_9
  rw [View.read_writes_eq_canon _ _ _ (cover0_B_9 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2)]
  unfold kernelRun0_B
  dsimp only
  sl_unfold_words
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, harg16.read_unread, harg17.read_unread, harg18.read_unread]
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h7 := Cert.Ffn.k7_at q x tg _ H.x0 _ r4 _ r5 _ H.x3 _ H.w0
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h33 := Cert.Ffn.k33_at q x tg _ r6 _ h24 _ h25 _ H.x4 _ H.x1 _ H.w2
  have h34 := Cert.Ffn.k34_at q x tg _ h7
  have h38 := Cert.Ffn.k38_at q x tg _ h7 _ h33 _ h34
  refine (slabs ![_, _, _, _, _, _, _, _, _, _, _] z r p _ _ _ _ _ _ _ _ _ _ _).trans ?_
  obtain ⟨z, hz⟩ := z
  interval_cases z
  · exact (Cert.Ffn.k51_at _ 0 r p).trans (h38 p _)
  · exact (Cert.Ffn.k53_at _ 0 r p).trans (h38 p _)
  · exact (Cert.Ffn.k54_at _ 0 r p).trans (h38 p _)
  · exact (Cert.Ffn.k55_at _ 0 r p).trans (h38 p _)
  · exact (Cert.Ffn.k56_at _ 0 r p).trans (h38 p _)
  · exact (Cert.Ffn.k57_at _ 0 r p).trans (h38 p _)
  · exact (Cert.Ffn.k58_at _ 0 r p).trans (h38 p _)
  · exact (Cert.Ffn.k59_at _ 0 r p).trans (h38 p _)
  · exact (Cert.Ffn.k60_at _ 0 r p).trans (h38 p _)
  · exact (Cert.Ffn.k61_at _ 0 r p).trans (h38 p _)
  · exact (Cert.Ffn.k62_at _ 0 r p).trans (h38 p _)

theorem outB11 (r : Fin 8 → Fin 1024 → ℝ) (hr : Is 8 1024 xo11 r) (i' : Fin 8) (j : Fin 1024) :
    out0_B_11 c i arg1 harg1 arg2 harg2 arg3 harg3 arg4 harg4 arg5 harg5 arg9 harg9 arg10 harg10 arg11 harg11 arg12 harg12 arg13 harg13 arg14 harg14 arg15 harg15 arg16 harg16 arg17 harg17 arg18 harg18 hc0 x0 x1 x2 x3 x4 xo11 xs0 xs1 xs2 fh0 fh1 fh2 (ix2 i' j) = ((r i' j + ∑ p, q.term (x p) (tg p) i' j : ℝ) : EReal) := by
  unfold out0_B_11
  unfold kernelRun0_B
  dsimp only
  sl_unfold_words
  simp only [View.readAt_eq_ld, harg1.read_unread, harg2.read_unread, harg3.read_unread, harg4.read_unread, harg5.read_unread, View.ld_unit_zero (S := S256x1024) hz2, View.ld_unit_zero (S := S1x1024) hz2, View.ld_unit_zero (S := S2816x1024) hz2, harg16.read_unread, harg17.read_unread, harg18.read_unread, harg15.read_unread]
  have l0 := ld_acc xo11 r hr 0 inb_S8x1024_S1x1024_0_0 (by decide)
  have l1 := ld_acc xo11 r hr 1 inb_S8x1024_S1x1024_1_0 (by decide)
  have l2 := ld_acc xo11 r hr 2 inb_S8x1024_S1x1024_2_0 (by decide)
  have l3 := ld_acc xo11 r hr 3 inb_S8x1024_S1x1024_3_0 (by decide)
  have l4 := ld_acc xo11 r hr 4 inb_S8x1024_S1x1024_4_0 (by decide)
  have l5 := ld_acc xo11 r hr 5 inb_S8x1024_S1x1024_5_0 (by decide)
  have r4 : IsRow 1024 (View.ld (Val := Elt Ideal) x2 (Rect.unit (s := S8x6144) ![0, 3072] ![1, 1024] inb_S8x6144_S1x1024_0_3072)) q.sh :=
    fun p j => (ld_row x2 0 3072 _ p j (by decide) (by omega)).trans (H.sh j)
  have r5 : IsRow 1024 (View.ld (Val := Elt Ideal) x2 (Rect.unit (s := S8x6144) ![0, 4096] ![1, 1024] inb_S8x6144_S1x1024_0_4096)) q.sc :=
    fun p j => (ld_row x2 0 4096 _ p j (by decide) (by omega)).trans (H.sc j)
  have r6 : IsRow 1024 (View.ld (Val := Elt Ideal) x2 (Rect.unit (s := S8x6144) ![0, 5120] ![1, 1024] inb_S8x6144_S1x1024_0_5120)) q.gt :=
    fun p j => (ld_row x2 0 5120 _ p j (by decide) (by omega)).trans (H.gt j)
  have h7 := Cert.Ffn.k7_at q x tg _ H.x0 _ r4 _ r5 _ H.x3 _ H.w0
  have h34 := Cert.Ffn.k34_at q x tg _ h7
  have h8 := Cert.Ffn.k8_at q x tg _ H.x0 _ r4 _ r5 _ H.x3 _ H.w1
  have h9 := Cert.Ffn.k9_at q x tg _ H.x0 _ r4 _ r5 _ H.x3 _ H.w0
  have h10 := Cert.Ffn.k10_at q x tg _ h7 _ h8 _ h9
  have h24 := Cert.Ffn.k24_at q x tg _ H.x0 _ r6 _ h10 _ H.w2
  have h25 := Cert.Ffn.k25_at q x tg _ H.x0 _ r6 _ h10 _ H.w2
  have h35 := Cert.Ffn.k35_at q x tg _ r6 _ h8 _ h24 _ h25 _ H.x4 _ H.x1 _ H.w2
  have h36 := Cert.Ffn.k36_at q x tg _ h7
  have h37 := Cert.Ffn.k37_at q x tg _ h34 _ h35 _ h36
  have h33 := Cert.Ffn.k33_at q x tg _ r6 _ h24 _ h25 _ H.x4 _ H.x1 _ H.w2
  have h38 := Cert.Ffn.k38_at q x tg _ h7 _ h33 _ h34
  have h63 := Cert.Ffn.k63_at q x tg _ h37 _ h38 _ H.w0 _ H.w1
  have h64 := Cert.Ffn.k64_at q x tg _ r5 _ h37 _ h38 _ H.w0 _ H.w1
  have h31 := Cert.Ffn.k31_at q x tg _ h24 _ h25 _ H.x4 _ H.x1
  have h23 := Cert.Ffn.k23_at q x tg _ h10 _ H.w2
  have h27 := Cert.Ffn.k27_at q x tg _ h24 _ h25
  have h30 := Cert.Ffn.k30_at q x tg _ h24 _ h25 _ H.x4 _ H.x1
  have h29 := Cert.Ffn.k29_at q x tg _ h24 _ h25 _ H.x4 _ H.x1
  have h5 := Cert.Ffn.k5_at q x tg _ H.x0
  have c0 := Cert.Ffn.k66_at (fun p => q.dh (x p) (tg p)) (r 0) _ h63 _ l0
  have c1 := Cert.Ffn.k67_at (fun p => q.dh (x p) (tg p)) (r 1) q.g2 (fun p j => x p j * rs (x p)) _ H.x3 _ h5 _ h63 _ l1
  have c2 := Cert.Ffn.k68_at (fun p => q.dy (x p) (tg p)) (r 2) (fun p => q.f (x p)) _ h23 _ h31 _ l2
  have c3 := Cert.Ffn.k69_at (fun p => q.dn (x p) (tg p)) (r 3) (fun p j => x p j * rs (x p)) _ h5 _ h64 _ l3
  have c4 := Cert.Ffn.k1_at (fun p => q.dout (x p) (tg p)) (r 4) (fun p => q.nf (x p)) _ h27 _ h30 _ l4
  have c5 := Cert.Ffn.k2_at (r 5) _ _ h29 _ l5
  refine (rows arg15.view _ [] _ _ _ _ _ _ i' j _ _ _ _ _ _ (((r i' j : ℝ)) : EReal) ?_).trans ?_
  · rw [View.writes_nil, harg15.read_unread]
    exact hr i' j
  · exact sums q x tg r _ _ _ _ _ _ c0 c1 c2 c3 c4 c5 i' j

end

end

end Cert.KernelIdeal.Pieces

end
-- ==== Proof.Arrays.lean ====
/- The kernel's seven result arrays after the run: the blocks of the eight grid points put together, entry by entry, when the
   launched arrays are finite; and the per-channel sums, which grow from point to point. -/
module

public import proofs.«01_k».proof.Proof.Ref
public import proofs.«01_k».proof.Proof.Pieces
public import proofs.«01_k».proof.Proof.Gen.KernelIdeal.Value

@[expose] public section

set_option maxRecDepth 16384

noncomputable section

namespace Cert.KernelIdeal.Arrays

open Idealize.ShloMosaic Cert.KernelIdeal Cert.KernelIdeal.Gen Idealize.ShloMosaic.TcCoe Idealize.SL.Sem
open Cert.Ffn (Prm Is IsRow Args)
open Cert.KernelIdeal.Pieces

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx7 : ∀ t : Fin cfg0.N, win0_7.index t (0 : Fin 2) = t.val ∧ win0_7.index t (1 : Fin 2) = 0 := (by decide +kernel : ∀ t : Fin grid0.N, _)
theorem idx10 : ∀ t : Fin cfg0.N, win0_10.index t (0 : Fin 2) = t.val ∧ win0_10.index t (1 : Fin 2) = 0 := (by decide +kernel : ∀ t : Fin grid0.N, _)
theorem idx6 : ∀ t : Fin cfg0.N, win0_6.index t (0 : Fin 3) = 0 ∧ win0_6.index t (1 : Fin 3) = 0 ∧ win0_6.index t (2 : Fin 3) = t.val := (by decide +kernel : ∀ t : Fin grid0.N, _)
theorem idx8 : ∀ t : Fin cfg0.N, win0_8.index t (0 : Fin 3) = 0 ∧ win0_8.index t (1 : Fin 3) = 0 ∧ win0_8.index t (2 : Fin 3) = t.val := (by decide +kernel : ∀ t : Fin grid0.N, _)
theorem idx9 : ∀ t : Fin cfg0.N, win0_9.index t (0 : Fin 3) = 0 ∧ win0_9.index t (1 : Fin 3) = 0 ∧ win0_9.index t (2 : Fin 3) = t.val := (by decide +kernel : ∀ t : Fin grid0.N, _)
theorem idx11 : ∀ t : Fin cfg0.N, win0_11.index t (0 : Fin 2) = 0 ∧ win0_11.index t (1 : Fin 2) = 0 := (by decide +kernel : ∀ t : Fin grid0.N, _)

theorem lt8 (t : Fin cfg0.N) : t.val < 8 := lt_of_lt_of_eq t.isLt N_0

/-- The token that row `p` of tile `t` is. -/
def tok (t : Fin cfg0.N) (p : Fin 256) : Fin 2048 := ⟨256 * t.val + p.val, by have := lt8 t; omega⟩

/-- The rows of tile `t`. -/
def tile (X : Fin 2048 → Fin 1024 → ℝ) (t : Fin cfg0.N) : Fin 256 → Fin 1024 → ℝ := fun p => X (tok t p)

theorem emb0 (t : Fin cfg0.N) (p : Fin 256) (j : Fin 1024) : ((cfg0.win 0).blk t).view.emb (ix2 p j) = ((ix2 (tok t p) j : S2048x1024.Idx)) := by
  obtain ⟨e0, e1⟩ := idx0 t
  funext a; apply Fin.ext
  match a with
  | ⟨0, _⟩ => show win0_0.index t (0 : Fin 2) * 256 + 1 * p.val = 256 * t.val + p.val; omega
  | ⟨1, _⟩ => show win0_0.index t (1 : Fin 2) * 1024 + 1 * j.val = j.val; omega

theorem emb1 (t : Fin cfg0.N) (p : Fin 256) (j : Fin 1024) : ((cfg0.win 1).blk t).view.emb (ix2 p j) = ((ix2 (tok t p) j : S2048x1024.Idx)) := by
  obtain ⟨e0, e1⟩ := idx1 t
  funext a; apply Fin.ext
  match a with
  | ⟨0, _⟩ => show win0_1.index t (0 : Fin 2) * 256 + 1 * p.val = 256 * t.val + p.val; omega
  | ⟨1, _⟩ => show win0_1.index t (1 : Fin 2) * 1024 + 1 * j.val = j.val; omega

theorem emb2 (t : Fin cfg0.N) (p : Fin 8) (j : Fin 6144) : ((cfg0.win 2).blk t).view.emb (ix2 p j) = ((ix2 p j : S8x6144.Idx)) := by
  obtain ⟨e0, e1⟩ := idx2 t
  funext a; apply Fin.ext
  match a with
  | ⟨0, _⟩ => show win0_2.index t (0 : Fin 2) * 8 + 1 * p.val = p.val; omega
  | ⟨1, _⟩ => show win0_2.index t (1 : Fin 2) * 6144 + 1 * j.val = j.val; omega

theorem emb3 (t : Fin cfg0.N) (p : Fin 1) (j : Fin 1024) : ((cfg0.win 3).blk t).view.emb (ix2 p j) = ((ix2 p j : S1x1024.Idx)) := by
  obtain ⟨e0, e1⟩ := idx3 t
  funext a; apply Fin.ext
  match a with
  | ⟨0, _⟩ => show win0_3.index t (0 : Fin 2) * 1 + 1 * p.val = p.val; omega
  | ⟨1, _⟩ => show win0_3.index t (1 : Fin 2) * 1024 + 1 * j.val = j.val; omega

theorem emb4 (t : Fin cfg0.N) (p : Fin 1) (j : Fin 1024) : ((cfg0.win 4).blk t).view.emb (ix2 p j) = ((ix2 p j : S1x1024.Idx)) := by
  obtain ⟨e0, e1⟩ := idx4 t
  funext a; apply Fin.ext
  match a with
  | ⟨0, _⟩ => show win0_4.index t (0 : Fin 2) * 1 + 1 * p.val = p.val; omega
  | ⟨1, _⟩ => show win0_4.index t (1 : Fin 2) * 1024 + 1 * j.val = j.val; omega

theorem emb5 (t : Fin cfg0.N) (p : Fin 256) (j : Fin 1024) : ((cfg0.win 5).blk t).view.emb (ix2 p j) = ((ix2 (tok t p) j : S2048x1024.Idx)) := by
  obtain ⟨e0, e1⟩ := idx5 t
  funext a; apply Fin.ext
  match a with
  | ⟨0, _⟩ => show win0_5.index t (0 : Fin 2) * 256 + 1 * p.val = 256 * t.val + p.val; omega
  | ⟨1, _⟩ => show win0_5.index t (1 : Fin 2) * 1024 + 1 * j.val = j.val; omega

theorem emb7 (t : Fin cfg0.N) (p : Fin 256) (j : Fin 1024) : ((cfg0.win 7).blk t).view.emb (ix2 p j) = ((ix2 (tok t p) j : S2048x1024.Idx)) := by
  obtain ⟨e0, e1⟩ := idx7 t
  funext a; apply Fin.ext
  match a with
  | ⟨0, _⟩ => show win0_7.index t (0 : Fin 2) * 256 + 1 * p.val = 256 * t.val + p.val; omega
  | ⟨1, _⟩ => show win0_7.index t (1 : Fin 2) * 1024 + 1 * j.val = j.val; omega

theorem emb10 (t : Fin cfg0.N) (p : Fin 256) (j : Fin 1024) : ((cfg0.win 10).blk t).view.emb (ix2 p j) = ((ix2 (tok t p) j : S2048x1024.Idx)) := by
  obtain ⟨e0, e1⟩ := idx10 t
  funext a; apply Fin.ext
  match a with
  | ⟨0, _⟩ => show win0_10.index t (0 : Fin 2) * 256 + 1 * p.val = 256 * t.val + p.val; omega
  | ⟨1, _⟩ => show win0_10.index t (1 : Fin 2) * 1024 + 1 * j.val = j.val; omega

theorem emb11 (t : Fin cfg0.N) (p : Fin 8) (j : Fin 1024) : ((cfg0.win 11).blk t).view.emb (ix2 p j) = ((ix2 p j : S8x1024.Idx)) := by
  obtain ⟨e0, e1⟩ := idx11 t
  funext a; apply Fin.ext
  match a with
  | ⟨0, _⟩ => show win0_11.index t (0 : Fin 2) * 8 + 1 * p.val = p.val; omega
  | ⟨1, _⟩ => show win0_11.index t (1 : Fin 2) * 1024 + 1 * j.val = j.val; omega

theorem emb6 (t : Fin cfg0.N) (z : Fin 11) (r p : Fin 256) : ((cfg0.win 6).blk t).view.emb (ix3 z r p) = ((ix3 z r (tok t p) : S11x256x2048.Idx)) := by
  obtain ⟨e0, e1, e2⟩ := idx6 t
  funext a; apply Fin.ext
  match a with
  | ⟨0, _⟩ => show win0_6.index t (0 : Fin 3) * 11 + 1 * z.val = z.val; omega
  | ⟨1, _⟩ => show win0_6.index t (1 : Fin 3) * 256 + 1 * r.val = r.val; omega
  | ⟨2, _⟩ => show win0_6.index t (2 : Fin 3) * 256 + 1 * p.val = 256 * t.val + p.val; omega

theorem emb8 (t : Fin cfg0.N) (z : Fin 11) (r p : Fin 256) : ((cfg0.win 8).blk t).view.emb (ix3 z r p) = ((ix3 z r (tok t p) : S11x256x2048.Idx)) := by
  obtain ⟨e0, e1, e2⟩ := idx8 t
  funext a; apply Fin.ext
  match a with
  | ⟨0, _⟩ => show win0_8.index t (0 : Fin 3) * 11 + 1 * z.val = z.val; omega
  | ⟨1, _⟩ => show win0_8.index t (1 : Fin 3) * 256 + 1 * r.val = r.val; omega
  | ⟨2, _⟩ => show win0_8.index t (2 : Fin 3) * 256 + 1 * p.val = 256 * t.val + p.val; omega

theorem emb9 (t : Fin cfg0.N) (z : Fin 11) (r p : Fin 256) : ((cfg0.win 9).blk t).view.emb (ix3 z r p) = ((ix3 z r (tok t p) : S11x256x2048.Idx)) := by
  obtain ⟨e0, e1, e2⟩ := idx9 t
  funext a; apply Fin.ext
  match a with
  | ⟨0, _⟩ => show win0_9.index t (0 : Fin 3) * 11 + 1 * z.val = z.val; omega
  | ⟨1, _⟩ => show win0_9.index t (1 : Fin 3) * 256 + 1 * r.val = r.val; omega
  | ⟨2, _⟩ => show win0_9.index t (2 : Fin 3) * 256 + 1 * p.val = 256 * t.val + p.val; omega

variable (m : (ℓ : Loc nD τ sig) → Buf (Elt Ideal) ℓ) (c : Dev nD) {q : Prm} {X T : Fin 2048 → Fin 1024 → ℝ}
variable (H : Args (V m c main_arg0) (V m c main_arg1) (V m c main_arg2) (V m c main_arg3) (V m c main_arg4) (V m c main_arg5) (V m c main_arg6) (V m c main_arg7) q X T)
include H

/-- What a grid point loads is finite: rows of the two token arrays, and the parameters. -/
theorem loaded (t : Fin cfg0.N) : Loaded q (tile X t) (tile T t) (iblk m c 0 t) (iblk m c 1 t) (iblk m c 2 t) (iblk m c 3 t) (iblk m c 4 t)
    ((Memref.whole main_arg5).view.read (Elt Ideal) (V m c main_arg5)) ((Memref.whole main_arg6).view.read (Elt Ideal) (V m c main_arg6))
    ((Memref.whole main_arg7).view.read (Elt Ideal) (V m c main_arg7)) where
  x0 p j := (congrArg (V m c main_arg0) (emb0 t p j)).trans (H.x0 _ _)
  x1 p j := (congrArg (V m c main_arg1) (emb1 t p j)).trans (H.x1 _ _)
  sh j := (congrArg (V m c main_arg2) (emb2 t _ _)).trans (H.sh j)
  sc j := (congrArg (V m c main_arg2) (emb2 t _ _)).trans (H.sc j)
  gt j := (congrArg (V m c main_arg2) (emb2 t _ _)).trans (H.gt j)
  x3 z j := (congrArg (V m c main_arg3) (emb3 t _ _)).trans (H.x3 z j)
  x4 z j := (congrArg (V m c main_arg4) (emb4 t _ _)).trans (H.x4 z j)
  w0 k j := H.x5 k j
  w1 k j := H.x6 k j
  w2 k j := H.x7 k j

/-- One token's share of the sums, as a function of the natural numbers. -/
def share (q : Prm) (X T : Fin 2048 → Fin 1024 → ℝ) (i : Fin 8) (j : Fin 1024) (k : ℕ) : ℝ :=
  if h : k < 2048 then q.term (X ⟨k, h⟩) (T ⟨k, h⟩) i j else 0

omit H in
theorem share_tile (t : Fin cfg0.N) (i : Fin 8) (j : Fin 1024) :
    ∑ p : Fin 256, q.term (tile X t p) (tile T t p) i j = ∑ k ∈ Finset.range 256, share q X T i j (256 * t.val + k) := by
  rw [Finset.sum_range]
  refine Finset.sum_congr rfl fun p _ => ?_
  rw [share, dif_pos (by have := lt8 t; omega)]
  rfl

/-- After a grid point the resident weights are the launched ones, and the sums are those over the tokens so far. -/
theorem held : ∀ (n : ℕ) (hn : n < cfg0.N),
    (outsAt0 m c n hn).2.2.2.2.2.2.2.1 = (Memref.whole main_arg5).view.read (Elt Ideal) (V m c main_arg5)
    ∧ (outsAt0 m c n hn).2.2.2.2.2.2.2.2.1 = (Memref.whole main_arg6).view.read (Elt Ideal) (V m c main_arg6)
    ∧ (outsAt0 m c n hn).2.2.2.2.2.2.2.2.2 = (Memref.whole main_arg7).view.read (Elt Ideal) (V m c main_arg7)
    ∧ Is 8 1024 (outsAt0 m c n hn).2.2.2.2.2.2.1 (fun i j => ∑ k ∈ Finset.range (256 * (n + 1)), share q X T i j k)
  | 0, hn => by
    have h0 : (⟨0, hn⟩ : Fin cfg0.N).val % 8 = 0 := rfl
    have e := outsAt0_A m c ⟨0, hn⟩ h0
    dsimp only at e
    rw [e]
    dsimp only
    refine ⟨soutA_0 (fh0 := V m c main_arg5) (fh1 := V m c main_arg6) (fh2 := V m c main_arg7) .., soutA_1 (fh0 := V m c main_arg5) (fh1 := V m c main_arg6) (fh2 := V m c main_arg7) .., soutA_2 (fh0 := V m c main_arg5) (fh1 := V m c main_arg6) (fh2 := V m c main_arg7) .., fun i j => ?_⟩
    refine (outA11 (H := loaded m c H ⟨0, hn⟩) (fh0 := V m c main_arg5) (fh1 := V m c main_arg6) (fh2 := V m c main_arg7) (e0 := rfl) (e1 := rfl) (e2 := rfl) (i' := i) (j := j) ..).trans ?_
    rw [share_tile]
    simp only [Nat.mul_zero, Nat.zero_add, Nat.mul_one]
  | n + 1, hn => by
    obtain ⟨a0, a1, a2, a3⟩ := held n (Nat.lt_of_succ_lt hn)
    have hn8 : n + 1 < 8 := lt8 ⟨n + 1, hn⟩
    have h0 : ¬(⟨n + 1, hn⟩ : Fin cfg0.N).val % 8 = 0 := by
      show ¬(n + 1) % 8 = 0
      omega
    have e := outsAt0_B m c ⟨n + 1, hn⟩ h0
    dsimp only at e
    rw [e]
    dsimp only
    have a3' : Is 8 1024 (outsAt0 m c (n + 1 - 1) (Nat.lt_of_succ_lt hn)).2.2.2.2.2.2.1 (fun i j => ∑ k ∈ Finset.range (256 * (n + 1)), share q X T i j k) := a3
    have hL := loaded m c H ⟨n + 1, hn⟩
    rw [← a0, ← a1, ← a2] at hL
    refine ⟨a0, a1, a2, fun i j => ?_⟩
    refine (outB11 (H := hL) (r := _) (hr := a3') (i' := i) (j := j) ..).trans ?_
    rw [share_tile]
    exact congrArg _ (Finset.sum_range_add _ _ _).symm

theorem at5 (t : Fin cfg0.N) (p : Fin 256) (j : Fin 1024) : (outsAt0 m c t.val t.isLt).1 (ix2 p j) = ((q.h (tile X t p) j : ℝ) : EReal) := by
  by_cases h0 : t.val % 8 = 0
  · rw [outsAt0_A m c t h0]
    dsimp only
    exact outA5 (H := loaded m c H t) (fh0 := V m c main_arg5) (fh1 := V m c main_arg6) (fh2 := V m c main_arg7) (e0 := rfl) (e1 := rfl) (e2 := rfl) (p := p) (j := j) ..
  · obtain ⟨a0, a1, a2, -⟩ := held m c H (t.val - 1) (Nat.lt_of_le_of_lt (Nat.sub_le _ _) t.isLt)
    rw [outsAt0_B m c t h0]
    dsimp only
    have hL := loaded m c H t
    rw [← a0, ← a1, ← a2] at hL
    exact outB5 (H := hL) (p := p) (j := j) ..

theorem at7 (t : Fin cfg0.N) (p : Fin 256) (j : Fin 1024) : (outsAt0 m c t.val t.isLt).2.2.1 (ix2 p j) = ((q.df (tile X t p) (tile T t p) j : ℝ) : EReal) := by
  by_cases h0 : t.val % 8 = 0
  · rw [outsAt0_A m c t h0]
    dsimp only
    exact outA7 (H := loaded m c H t) (fh0 := V m c main_arg5) (fh1 := V m c main_arg6) (fh2 := V m c main_arg7) (e0 := rfl) (e1 := rfl) (e2 := rfl) (p := p) (j := j) ..
  · obtain ⟨a0, a1, a2, -⟩ := held m c H (t.val - 1) (Nat.lt_of_le_of_lt (Nat.sub_le _ _) t.isLt)
    rw [outsAt0_B m c t h0]
    dsimp only
    have hL := loaded m c H t
    rw [← a0, ← a1, ← a2] at hL
    exact outB7 (H := hL) (p := p) (j := j) ..

theorem at10 (t : Fin cfg0.N) (p : Fin 256) (j : Fin 1024) : (outsAt0 m c t.val t.isLt).2.2.2.2.2.1 (ix2 p j) = ((q.dx (tile X t p) (tile T t p) j : ℝ) : EReal) := by
  by_cases h0 : t.val % 8 = 0
  · rw [outsAt0_A m c t h0]
    dsimp only
    exact outA10 (H := loaded m c H t) (fh0 := V m c main_arg5) (fh1 := V m c main_arg6) (fh2 := V m c main_arg7) (e0 := rfl) (e1 := rfl) (e2 := rfl) (p := p) (j := j) ..
  · obtain ⟨a0, a1, a2, -⟩ := held m c H (t.val - 1) (Nat.lt_of_le_of_lt (Nat.sub_le _ _) t.isLt)
    rw [outsAt0_B m c t h0]
    dsimp only
    have hL := loaded m c H t
    rw [← a0, ← a1, ← a2] at hL
    exact outB10 (H := hL) (p := p) (j := j) ..

theorem at6 (t : Fin cfg0.N) (z : Fin 11) (r p : Fin 256) : (outsAt0 m c t.val t.isLt).2.1 (ix3 z r p) = ((q.a (tile X t p) ⟨256 * z.val + r.val, by omega⟩ : ℝ) : EReal) := by
  by_cases h0 : t.val % 8 = 0
  · rw [outsAt0_A m c t h0]
    dsimp only
    exact outA6 (H := loaded m c H t) (fh0 := V m c main_arg5) (fh1 := V m c main_arg6) (fh2 := V m c main_arg7) (e0 := rfl) (e1 := rfl) (e2 := rfl) (z := z) (r := r) (p := p) ..
  · obtain ⟨a0, a1, a2, -⟩ := held m c H (t.val - 1) (Nat.lt_of_le_of_lt (Nat.sub_le _ _) t.isLt)
    rw [outsAt0_B m c t h0]
    dsimp only
    have hL := loaded m c H t
    rw [← a0, ← a1, ← a2] at hL
    exact outB6 (H := hL) (z := z) (r := r) (p := p) ..

theorem at8 (t : Fin cfg0.N) (z : Fin 11) (r p : Fin 256) : (outsAt0 m c t.val t.isLt).2.2.2.1 (ix3 z r p) = ((q.dg (tile X t p) (tile T t p) ⟨256 * z.val + r.val, by omega⟩ : ℝ) : EReal) := by
  by_cases h0 : t.val % 8 = 0
  · rw [outsAt0_A m c t h0]
    dsimp only
    exact outA8 (H := loaded m c H t) (fh0 := V m c main_arg5) (fh1 := V m c main_arg6) (fh2 := V m c main_arg7) (e0 := rfl) (e1 := rfl) (e2 := rfl) (z := z) (r := r) (p := p) ..
  · obtain ⟨a0, a1, a2, -⟩ := held m c H (t.val - 1) (Nat.lt_of_le_of_lt (Nat.sub_le _ _) t.isLt)
    rw [outsAt0_B m c t h0]
    dsimp only
    have hL := loaded m c H t
    rw [← a0, ← a1, ← a2] at hL
    exact outB8 (H := hL) (z := z) (r := r) (p := p) ..

theorem at9 (t : Fin cfg0.N) (z : Fin 11) (r p : Fin 256) : (outsAt0 m c t.val t.isLt).2.2.2.2.1 (ix3 z r p) = ((q.du (tile X t p) (tile T t p) ⟨256 * z.val + r.val, by omega⟩ : ℝ) : EReal) := by
  by_cases h0 : t.val % 8 = 0
  · rw [outsAt0_A m c t h0]
    dsimp only
    exact outA9 (H := loaded m c H t) (fh0 := V m c main_arg5) (fh1 := V m c main_arg6) (fh2 := V m c main_arg7) (e0 := rfl) (e1 := rfl) (e2 := rfl) (z := z) (r := r) (p := p) ..
  · obtain ⟨a0, a1, a2, -⟩ := held m c H (t.val - 1) (Nat.lt_of_le_of_lt (Nat.sub_le _ _) t.isLt)
    rw [outsAt0_B m c t h0]
    dsimp only
    have hL := loaded m c H t
    rw [← a0, ← a1, ← a2] at hL
    exact outB9 (H := hL) (z := z) (r := r) (p := p) ..

/-- Result 0 of the call is the reference's. -/
theorem arr5 : (dats m 0 c).arrAt 5 cfg0.N = Cert.ReferenceIdeal.Read.val_main_v137 (F := Ideal) (V m c main_arg0) (V m c main_arg2) (V m c main_arg3) := by
  refine (dats m 0 c).arrAt_eq_of_covers 5 _ (by decide +kernel) fun t hf y => ?_
  refine Eq.trans (b := (dats m 0 c).after 5 t y) rfl ?_
  have key : ∀ (p : Fin 256) (j : Fin 1024), (outsAt0 m c t.val t.isLt).1 (ix2 p j) = Cert.ReferenceIdeal.Read.val_main_v137 (F := Ideal) (V m c main_arg0) (V m c main_arg2) (V m c main_arg3) (((cfg0.win 5).blk t).view.emb (ix2 p j)) := fun p j =>
    (at5 m c H t p j).trans (((congrArg (Cert.ReferenceIdeal.Read.val_main_v137 (F := Ideal) (V m c main_arg0) (V m c main_arg2) (V m c main_arg3)) (emb5 t p j)).trans (Cert.Ffn.rv137_at H (tok t p) j)).symm)
  rw [after0_5]
  rw [eq_ix2 (n0 := 256) (n1 := 1024) y]
  exact key (y 0) (y 1)

/-- Result 2 of the call is the reference's. -/
theorem arr7 : (dats m 0 c).arrAt 7 cfg0.N = Cert.ReferenceIdeal.Read.val_main_v138 (F := Ideal) (V m c main_arg0) (V m c main_arg1) (V m c main_arg2) (V m c main_arg3) (V m c main_arg4) (V m c main_arg5) (V m c main_arg6) (V m c main_arg7) := by
  refine (dats m 0 c).arrAt_eq_of_covers 7 _ (by decide +kernel) fun t hf y => ?_
  refine Eq.trans (b := (dats m 0 c).after 7 t y) rfl ?_
  have key : ∀ (p : Fin 256) (j : Fin 1024), (outsAt0 m c t.val t.isLt).2.2.1 (ix2 p j) = Cert.ReferenceIdeal.Read.val_main_v138 (F := Ideal) (V m c main_arg0) (V m c main_arg1) (V m c main_arg2) (V m c main_arg3) (V m c main_arg4) (V m c main_arg5) (V m c main_arg6) (V m c main_arg7) (((cfg0.win 7).blk t).view.emb (ix2 p j)) := fun p j =>
    (at7 m c H t p j).trans (((congrArg (Cert.ReferenceIdeal.Read.val_main_v138 (F := Ideal) (V m c main_arg0) (V m c main_arg1) (V m c main_arg2) (V m c main_arg3) (V m c main_arg4) (V m c main_arg5) (V m c main_arg6) (V m c main_arg7)) (emb7 t p j)).trans (Cert.Ffn.rv138_at H (tok t p) j)).symm)
  rw [after0_7]
  rw [eq_ix2 (n0 := 256) (n1 := 1024) y]
  exact key (y 0) (y 1)

/-- Result 5 of the call is the reference's. -/
theorem arr10 : (dats m 0 c).arrAt 10 cfg0.N = Cert.ReferenceIdeal.Read.val_main_v133 (F := Ideal) (V m c main_arg0) (V m c main_arg1) (V m c main_arg2) (V m c main_arg3) (V m c main_arg4) (V m c main_arg5) (V m c main_arg6) (V m c main_arg7) := by
  refine (dats m 0 c).arrAt_eq_of_covers 10 _ (by decide +kernel) fun t hf y => ?_
  refine Eq.trans (b := (dats m 0 c).after 10 t y) rfl ?_
  have key : ∀ (p : Fin 256) (j : Fin 1024), (outsAt0 m c t.val t.isLt).2.2.2.2.2.1 (ix2 p j) = Cert.ReferenceIdeal.Read.val_main_v133 (F := Ideal) (V m c main_arg0) (V m c main_arg1) (V m c main_arg2) (V m c main_arg3) (V m c main_arg4) (V m c main_arg5) (V m c main_arg6) (V m c main_arg7) (((cfg0.win 10).blk t).view.emb (ix2 p j)) := fun p j =>
    (at10 m c H t p j).trans (((congrArg (Cert.ReferenceIdeal.Read.val_main_v133 (F := Ideal) (V m c main_arg0) (V m c main_arg1) (V m c main_arg2) (V m c main_arg3) (V m c main_arg4) (V m c main_arg5) (V m c main_arg6) (V m c main_arg7)) (emb10 t p j)).trans (Cert.Ffn.rv133_at H (tok t p) j)).symm)
  rw [after0_10]
  rw [eq_ix2 (n0 := 256) (n1 := 1024) y]
  exact key (y 0) (y 1)

/-- Result 1 of the call is the reference's. -/
theorem arr6 : (dats m 0 c).arrAt 6 cfg0.N = Cert.ReferenceIdeal.Read.val_main_v141 (F := Ideal) (V m c main_arg0) (V m c main_arg2) (V m c main_arg3) (V m c main_arg5) (V m c main_arg6) := by
  refine (dats m 0 c).arrAt_eq_of_covers 6 _ (by decide +kernel) fun t hf y => ?_
  refine Eq.trans (b := (dats m 0 c).after 6 t y) rfl ?_
  have key : ∀ (z : Fin 11) (r p : Fin 256), (outsAt0 m c t.val t.isLt).2.1 (ix3 z r p) = Cert.ReferenceIdeal.Read.val_main_v141 (F := Ideal) (V m c main_arg0) (V m c main_arg2) (V m c main_arg3) (V m c main_arg5) (V m c main_arg6) (((cfg0.win 6).blk t).view.emb (ix3 z r p)) := fun z r p =>
    (at6 m c H t z r p).trans (((congrArg (Cert.ReferenceIdeal.Read.val_main_v141 (F := Ideal) (V m c main_arg0) (V m c main_arg2) (V m c main_arg3) (V m c main_arg5) (V m c main_arg6)) (emb6 t z r p)).trans (Cert.Ffn.rv141_at H z r (tok t p))).symm)
  rw [after0_6]
  rw [eq_ix3 (n0 := 11) (n1 := 256) (n2 := 256) y]
  exact key (y 0) (y 1) (y 2)

/-- Result 3 of the call is the reference's. -/
theorem arr8 : (dats m 0 c).arrAt 8 cfg0.N = Cert.ReferenceIdeal.Read.val_main_v144 (F := Ideal) (V m c main_arg0) (V m c main_arg1) (V m c main_arg2) (V m c main_arg3) (V m c main_arg4) (V m c main_arg5) (V m c main_arg6) (V m c main_arg7) := by
  refine (dats m 0 c).arrAt_eq_of_covers 8 _ (by decide +kernel) fun t hf y => ?_
  refine Eq.trans (b := (dats m 0 c).after 8 t y) rfl ?_
  have key : ∀ (z : Fin 11) (r p : Fin 256), (outsAt0 m c t.val t.isLt).2.2.2.1 (ix3 z r p) = Cert.ReferenceIdeal.Read.val_main_v144 (F := Ideal) (V m c main_arg0) (V m c main_arg1) (V m c main_arg2) (V m c main_arg3) (V m c main_arg4) (V m c main_arg5) (V m c main_arg6) (V m c main_arg7) (((cfg0.win 8).blk t).view.emb (ix3 z r p)) := fun z r p =>
    (at8 m c H t z r p).trans (((congrArg (Cert.ReferenceIdeal.Read.val_main_v144 (F := Ideal) (V m c main_arg0) (V m c main_arg1) (V m c main_arg2) (V m c main_arg3) (V m c main_arg4) (V m c main_arg5) (V m c main_arg6) (V m c main_arg7)) (emb8 t z r p)).trans (Cert.Ffn.rv144_at H z r (tok t p))).symm)
  rw [after0_8]
  rw [eq_ix3 (n0 := 11) (n1 := 256) (n2 := 256) y]
  exact key (y 0) (y 1) (y 2)

/-- Result 4 of the call is the reference's. -/
theorem arr9 : (dats m 0 c).arrAt 9 cfg0.N = Cert.ReferenceIdeal.Read.val_main_v147 (F := Ideal) (V m c main_arg0) (V m c main_arg1) (V m c main_arg2) (V m c main_arg3) (V m c main_arg4) (V m c main_arg5) (V m c main_arg6) (V m c main_arg7) := by
  refine (dats m 0 c).arrAt_eq_of_covers 9 _ (by decide +kernel) fun t hf y => ?_
  refine Eq.trans (b := (dats m 0 c).after 9 t y) rfl ?_
  have key : ∀ (z : Fin 11) (r p : Fin 256), (outsAt0 m c t.val t.isLt).2.2.2.2.1 (ix3 z r p) = Cert.ReferenceIdeal.Read.val_main_v147 (F := Ideal) (V m c main_arg0) (V m c main_arg1) (V m c main_arg2) (V m c main_arg3) (V m c main_arg4) (V m c main_arg5) (V m c main_arg6) (V m c main_arg7) (((cfg0.win 9).blk t).view.emb (ix3 z r p)) := fun z r p =>
    (at9 m c H t z r p).trans (((congrArg (Cert.ReferenceIdeal.Read.val_main_v147 (F := Ideal) (V m c main_arg0) (V m c main_arg1) (V m c main_arg2) (V m c main_arg3) (V m c main_arg4) (V m c main_arg5) (V m c main_arg6) (V m c main_arg7)) (emb9 t z r p)).trans (Cert.Ffn.rv147_at H z r (tok t p))).symm)
  rw [after0_9]
  rw [eq_ix3 (n0 := 11) (n1 := 256) (n2 := 256) y]
  exact key (y 0) (y 1) (y 2)

/-- The sums are the reference's: only the last point writes them back. -/
theorem arr11 : (dats m 0 c).arrAt 11 cfg0.N = Cert.ReferenceIdeal.Read.val_main_v136 (F := Ideal) (V m c main_arg0) (V m c main_arg1) (V m c main_arg2) (V m c main_arg3) (V m c main_arg4) (V m c main_arg5) (V m c main_arg6) (V m c main_arg7) := by
  refine (dats m 0 c).arrAt_eq_of_covers 11 _ (by decide +kernel) fun t hf y => ?_
  refine Eq.trans (b := (dats m 0 c).after 11 t y) rfl ?_
  have ht : t.val % 8 = 7 := (flush0_11 t).mp hf
  have h7 : t.val = 7 := by have := lt8 t; omega
  have key : ∀ (p : Fin 8) (j : Fin 1024), (outsAt0 m c t.val t.isLt).2.2.2.2.2.2.1 (ix2 p j) = Cert.ReferenceIdeal.Read.val_main_v136 (F := Ideal) (V m c main_arg0) (V m c main_arg1) (V m c main_arg2) (V m c main_arg3) (V m c main_arg4) (V m c main_arg5) (V m c main_arg6) (V m c main_arg7) (((cfg0.win 11).blk t).view.emb (ix2 p j)) := fun p j => by
    refine ((held m c H t.val t.isLt).2.2.2 p j).trans (Eq.trans ?_ ((congrArg (Cert.ReferenceIdeal.Read.val_main_v136 (F := Ideal) (V m c main_arg0) (V m c main_arg1) (V m c main_arg2) (V m c main_arg3) (V m c main_arg4) (V m c main_arg5) (V m c main_arg6) (V m c main_arg7)) (emb11 t p j)).trans (Cert.Ffn.rv136_at H p j)).symm)
    rw [h7]
    refine congrArg _ ((Finset.sum_range _).trans (Finset.sum_congr rfl fun k _ => ?_))
    rw [share, dif_pos (show k.val < 2048 from k.isLt)]
  rw [after0_11]
  rw [eq_ix2 (n0 := 8) (n1 := 1024) y]
  exact key (y 0) (y 1)

end Cert.KernelIdeal.Arrays

end
-- ==== Proof.lean ====
/- The claims about the feed-forward call, the mixer's backward call, the mixer's forward call and the update of the modulation's
   weight: their frames, that idealization rewrote nothing, and that the results of each are the reference's: over the real numbers,
   on finite arguments, the seven of the first two, and over the extended reals, on any arguments, the nine of the third and the five
   of the fourth. The feed-forward call's claims are here, its run the generated one and its arrays equated in Arrays.lean; the
   others' are in MixClaims.lean, FwdClaims.lean and AdaClaims.lean. -/
module

public import proofs.«01_k».proof.Proof.AdaClaims
public import proofs.«01_k».proof.Proof.FwdClaims
public import proofs.«01_k».proof.Proof.MixClaims
public import proofs.«01_k».proof.Proof.Arrays
public import proofs.«01_k».proof.Proof.Finite
public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Cert.Kernel

/-- Over the real numbers the kernel's seven results are the reference's, on finite arguments. -/
theorem algebraic : algebraic_KernelIdeal_ReferenceIdeal_pre_finite (hKernelIdeal := Cert.KernelIdeal.Gen.facts)
    (hReferenceIdeal := Cert.ReferenceIdeal.Gen.facts) (hPre_finite := Cert.Pre_finite.Gen.facts) := by
  letI := Cert.KernelIdeal.Gen.facts
  letI := Cert.ReferenceIdeal.Gen.facts
  letI := Cert.Pre_finite.Gen.facts
  intro m g m' g' hpre hagree
  refine ⟨_, _, _, _, _, _, _, Cert.KernelIdeal.Value.run_blocks m g, ?_⟩
  refine (θ_run Cert.ReferenceIdeal.defs _ _).mono (fun r h c => ?_) (Cert.ReferenceIdeal.Value.run (F := Ideal) m' g')
  obtain ⟨e0, e1, e2, e3, e4, e5, e6, e7⟩ := hagree c
  obtain ⟨q, X, T, H⟩ := Cert.Finite.args _ _ _ _ _ _ _ _ (hpre c)
  obtain ⟨r0, r1, r2, r3, r4, r5, r6, rest⟩ := h c
  have l0 : StableHlo.launchContents m' c (Proc.devRef .tc Cert.ReferenceIdeal.main_arg0) = m ((c.tc : Thread Cert.KernelIdeal.nD Cert.KernelIdeal.τ).loc Cert.KernelIdeal.main_arg0) := e0
  have l1 : StableHlo.launchContents m' c (Proc.devRef .tc Cert.ReferenceIdeal.main_arg1) = m ((c.tc : Thread Cert.KernelIdeal.nD Cert.KernelIdeal.τ).loc Cert.KernelIdeal.main_arg1) := e1
  have l2 : StableHlo.launchContents m' c (Proc.devRef .tc Cert.ReferenceIdeal.main_arg2) = m ((c.tc : Thread Cert.KernelIdeal.nD Cert.KernelIdeal.τ).loc Cert.KernelIdeal.main_arg2) := e2
  have l3 : StableHlo.launchContents m' c (Proc.devRef .tc Cert.ReferenceIdeal.main_arg3) = m ((c.tc : Thread Cert.KernelIdeal.nD Cert.KernelIdeal.τ).loc Cert.KernelIdeal.main_arg3) := e3
  have l4 : StableHlo.launchContents m' c (Proc.devRef .tc Cert.ReferenceIdeal.main_arg4) = m ((c.tc : Thread Cert.KernelIdeal.nD Cert.KernelIdeal.τ).loc Cert.KernelIdeal.main_arg4) := e4
  have l5 : StableHlo.launchContents m' c (Proc.devRef .tc Cert.ReferenceIdeal.main_arg5) = m ((c.tc : Thread Cert.KernelIdeal.nD Cert.KernelIdeal.τ).loc Cert.KernelIdeal.main_arg5) := e5
  have l6 : StableHlo.launchContents m' c (Proc.devRef .tc Cert.ReferenceIdeal.main_arg6) = m ((c.tc : Thread Cert.KernelIdeal.nD Cert.KernelIdeal.τ).loc Cert.KernelIdeal.main_arg6) := e6
  have l7 : StableHlo.launchContents m' c (Proc.devRef .tc Cert.ReferenceIdeal.main_arg7) = m ((c.tc : Thread Cert.KernelIdeal.nD Cert.KernelIdeal.τ).loc Cert.KernelIdeal.main_arg7) := e7
  refine ⟨r0.trans ?_, r1.trans ?_, r2.trans ?_, r3.trans ?_, r4.trans ?_, r5.trans ?_, r6.trans ?_, rest⟩
  · rw [Cert.ReferenceIdeal.Read.val_main_v137_eq, l0, l2, l3]; exact (Cert.KernelIdeal.Arrays.arr5 m c H).symm
  · rw [Cert.ReferenceIdeal.Read.val_main_v141_eq, l0, l2, l3, l5, l6]; exact (Cert.KernelIdeal.Arrays.arr6 m c H).symm
  · rw [Cert.ReferenceIdeal.Read.val_main_v138_eq, l0, l1, l2, l3, l4, l5, l6, l7]; exact (Cert.KernelIdeal.Arrays.arr7 m c H).symm
  · rw [Cert.ReferenceIdeal.Read.val_main_v144_eq, l0, l1, l2, l3, l4, l5, l6, l7]; exact (Cert.KernelIdeal.Arrays.arr8 m c H).symm
  · rw [Cert.ReferenceIdeal.Read.val_main_v147_eq, l0, l1, l2, l3, l4, l5, l6, l7]; exact (Cert.KernelIdeal.Arrays.arr9 m c H).symm
  · rw [Cert.ReferenceIdeal.Read.val_main_v133_eq, l0, l1, l2, l3, l4, l5, l6, l7]; exact (Cert.KernelIdeal.Arrays.arr10 m c H).symm
  · rw [Cert.ReferenceIdeal.Read.val_main_v136_eq, l0, l1, l2, l3, l4, l5, l6, l7]; exact (Cert.KernelIdeal.Arrays.arr11 m c H).symm

/-- The reference's frame: its run keeps the arguments, and it declares no semaphore. -/
theorem reference_frame : quiescent_ReferenceIdeal (hReferenceIdeal := Cert.ReferenceIdeal.Gen.facts) := fun m ρ _ =>
  letI := Cert.ReferenceIdeal.Gen.facts
  (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.KernelMix.Gen.facts,
  Cert.KernelMixIdeal.Gen.facts, Cert.ReferenceMixIdeal.Gen.facts, Cert.KernelFwd.Gen.facts, Cert.KernelFwdIdeal.Gen.facts,
  Cert.ReferenceFwdIdeal.Gen.facts, Cert.KernelAda.Gen.facts, Cert.KernelAdaIdeal.Gen.facts, Cert.ReferenceAdaIdeal.Gen.facts,
  Cert.Pre_finite.Gen.facts, Cert.Pre_finite_mix.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  Cert.Mix.frame, fun m ρ _ => Cert.KernelMixIdeal.Body.frame_main m ρ, fun m ρ _ => Cert.KernelMixIdeal.Body.frame_main m ρ,
  Cert.Mix.reference_frame, fun m ρ _ => Cert.Mix.reference_frame m ρ trivial,
  Cert.Fwd.frame, Cert.Fwd.ideal_frame, Cert.Fwd.reference_frame,
  Cert.Ada.frame, Cert.Ada.ideal_frame, Cert.Ada.reference_frame,
  trivial, algebraic, trivial, Cert.Mix.algebraic, trivial, Cert.Fwd.algebraic, trivial, Cert.Ada.algebraic⟩

end Cert.Proof

end
